-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane [hPre_sane : Cert.Pre_sane.Facts] (m : (ℓ : Loc Cert.KernelIdeal.nD Cert.KernelIdeal.τ Cert.KernelIdeal.sig) → Buf (Elt Ideal) ℓ) : Prop :=
  ∀ c : Dev Cert.KernelIdeal.nD,
    (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane [hPre_sane : Cert.Pre_sane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sane [hKernelIdeal : Cert.KernelIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sane [hReferenceIdeal : Cert.ReferenceIdeal.Facts] [hPre_sane : Cert.Pre_sane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sane [hKernelIdeal : Cert.KernelIdeal.Facts] [hReferenceIdeal : Cert.ReferenceIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sane : Cert.Pre_sane.Facts),
    quiescent_Kernel (hKernel := hKernel)
    ∧ quiescent_KernelIdeal (hKernelIdeal := hKernelIdeal)
    ∧ quiescent_KernelIdeal_pre_sane (hKernelIdeal := hKernelIdeal) (hPre_sane := hPre_sane)
    ∧ quiescent_ReferenceIdeal (hReferenceIdeal := hReferenceIdeal)
    ∧ quiescent_ReferenceIdeal_pre_sane (hReferenceIdeal := hReferenceIdeal) (hPre_sane := hPre_sane)
    ∧ preserves_Kernel_KernelIdeal
    ∧ algebraic_KernelIdeal_ReferenceIdeal_pre_sane (hKernelIdeal := hKernelIdeal) (hReferenceIdeal := hReferenceIdeal) (hPre_sane := hPre_sane)
-- ==== Pre_sane.lean ====
abbrev S64x1536 : Shape := ⟨2, ![64, 1536]⟩
abbrev S16 : Shape := ⟨1, ![16]⟩
abbrev S16x768x6144 : Shape := ⟨3, ![16, 768, 6144]⟩
abbrev S16x12x6144 : Shape := ⟨3, ![16, 12, 6144]⟩
abbrev S_ : Shape := ⟨0, ![]⟩

class Facts : Prop where
  bitsLt_bf16_f32 : FTy.bits .bf16 < FTy.bits .f32
  bcast_S_S64x1536 : S_.BroadcastsInDim S64x1536 (![] : Fin 0 → Fin S64x1536.rank)
  bcast_S_S16 : S_.BroadcastsInDim S16 (![] : Fin 0 → Fin S16.rank)

variable [Facts]

def fn {F : FTy → Type} [FloatOps F] (main_arg0 : FVec F S64x1536 .bf16) (main_arg1 : IVec S16 32) (main_arg2 : IVec S16x768x6144 8) (main_arg3 : FVec F S16x12x6144 .f32) : IVec S64x1536 1 × IVec S16 1 :=
  let main_v0 : FVec F S64x1536 .f32 := (extf .f32 · bitsLt_bf16_f32) main_arg0
  let main_v1 : FVec F S64x1536 .f32 := Host.absf main_v0
  let main_cst : FVec F S_ .f32 := constant S_ .f32 0x7F7F0000#32
  let main_v2 : FVec F S64x1536 .f32 := broadcastInDim S64x1536 ![] bcast_S_S64x1536 main_cst
  let main_v3 : IVec S64x1536 1 := cmpf .ole main_v1 main_v2
  let main_cst_0 : FVec F S_ .f32 := constant S_ .f32 0x7F800000#32
  let main_v4 : FVec F S64x1536 .f32 := broadcastInDim S64x1536 ![] bcast_S_S64x1536 main_cst_0
  let main_v5 : IVec S64x1536 1 := cmpf .oeq main_v1 main_v4
  let main_v6 : IVec S64x1536 1 := ori main_v3 main_v5
  let main_c : IVec S_ 32 := constantI S_ 32 0#32
  let main_v7 : IVec S16 32 := broadcastInDim S16 ![] bcast_S_S16 main_c
  let main_v8 : IVec S16 1 := cmpi .sge main_arg1 main_v7
  let main_c_1 : IVec S_ 32 := constantI S_ 32 134217728#32
  let main_v9 : IVec S16 32 := broadcastInDim S16 ![] bcast_S_S16 main_c_1
  let main_v10 : IVec S16 1 := cmpi .slt main_arg1 main_v9
  let main_v11 : IVec S16 1 := andi main_v8 main_v10
  (main_v6, main_v11)
-- ==== Kernel.lean ====
abbrev S64x1536 : Shape := ⟨2, ![64, 1536]⟩
abbrev S16 : Shape := ⟨1, ![16]⟩
abbrev S16x768x6144 : Shape := ⟨3, ![16, 768, 6144]⟩
abbrev S16x12x6144 : Shape := ⟨3, ![16, 12, 6144]⟩
abbrev S64x6144 : Shape := ⟨2, ![64, 6144]⟩
abbrev S4x768x2048 : Shape := ⟨3, ![4, 768, 2048]⟩
abbrev S4x12x2048 : Shape := ⟨3, ![4, 12, 2048]⟩
abbrev S4 : Shape := ⟨1, ![4]⟩
abbrev S17 : Shape := ⟨1, ![17]⟩
abbrev S1 : Shape := ⟨1, ![1]⟩
abbrev S_ : Shape := ⟨0, ![]⟩
abbrev S1x768x2048 : Shape := ⟨3, ![1, 768, 2048]⟩
abbrev S768x2048 : Shape := ⟨2, ![768, 2048]⟩
abbrev S1x12x2048 : Shape := ⟨3, ![1, 12, 2048]⟩
abbrev S12x2048 : Shape := ⟨2, ![12, 2048]⟩
abbrev S64x128 : Shape := ⟨2, ![64, 128]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S1x128x256 : Shape := ⟨3, ![1, 128, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x1x256 : Shape := ⟨3, ![1, 1, 256]⟩

abbrev nBuf : Space → Nat
  | .hbm => 5
  | .vmem => 7
  | .smem => 3
  | _ => 0

abbrev bufTy : (tb : Table) → Fin (tcTables nBuf tb) → BufTy
  | .hbm, ⟨0, _⟩ => ⟨S64x1536, .bf16⟩
  | .hbm, ⟨1, _⟩ => ⟨S16, .i32⟩
  | .hbm, ⟨2, _⟩ => ⟨S16x768x6144, .i8⟩
  | .hbm, ⟨3, _⟩ => ⟨S16x12x6144, .f32⟩
  | .hbm, ⟨4, _⟩ => ⟨S64x6144, .bf16⟩
  | .local _ .vmem, ⟨0, _⟩ => ⟨S64x1536, .bf16⟩
  | .local _ .vmem, ⟨1, _⟩ => ⟨S64x6144, .bf16⟩
  | .local _ .vmem, ⟨2, _⟩ => ⟨S64x1536, .bf16⟩
  | .local _ .vmem, ⟨3, _⟩ => ⟨S64x1536, .bf16⟩
  | .local _ .vmem, ⟨4, _⟩ => ⟨S64x6144, .f32⟩
  | .local _ .vmem, ⟨5, _⟩ => ⟨S4x768x2048, .i8⟩
  | .local _ .vmem, ⟨6, _⟩ => ⟨S4x12x2048, .f32⟩
  | .local _ .smem, ⟨0, _⟩ => ⟨S16, .i32⟩
  | .local _ .smem, ⟨1, _⟩ => ⟨S17, .i32⟩
  | .local _ .smem, ⟨2, _⟩ => ⟨S17, .i32⟩
  | _, _ => ⟨S64x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_scratch7 : Ref sig .tc := ⟨.smem, 1, rfl⟩
abbrev cc0_scratch8 : Ref sig .tc := ⟨.smem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c16_i32 : BitVec 32 := 16#32
  let v0 : BitVec 32 := Scalar.addi c0_i32_1 c16_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg14 : BitVec 32 := Scf.iv c0_i32_1 c1_i32 k0_t1
  let v640 : Index := Scalar.indexCast arg14
  ![v640.toNat]
def k0_off2 (arg15 : BitVec 32) : Fin 1 → Nat :=
  let v642 : Index := Scalar.indexCast arg15
  ![v642.toNat]

def k0_chk1 (arg15 : BitVec 32) : Prop :=
  (∀ a, (k0_off2 arg15) a + S1.size a ≤ S17.size a)
theorem k0_off2_inb : ∀ (arg15 : BitVec 32) (k0_hw1 : k0_chk1 arg15), ∀ a, (k0_off2 arg15) a + S1.size a ≤ S17.size a := fun arg15 k0_hw1 => k0_hw1

def k0_off3 (v1_0 : BitVec 32) : Fin 1 → Nat :=
  let v2 : Index := Scalar.indexCast v1_0
  ![v2.toNat]

def k0_off4 : Fin 1 → Nat :=
  let c0_i32_4 : BitVec 32 := 0#32
  let c3_i32_247 : BitVec 32 := 3#32
  let v641 : BitVec 32 := Scalar.divsi c0_i32_4 c3_i32_247
  let v642 : Index := Scalar.indexCast v641
  ![v642.toNat]
def k0_mult1 : BitVec 32 :=
  let c0_i32_4 : BitVec 32 := 0#32
  let c3_i32_248 : BitVec 32 := 3#32
  let v644 : BitVec 32 := Scalar.remsi c0_i32_4 c3_i32_248
  let c2048_i32 : BitVec 32 := 2048#32
  let v645 : BitVec 32 := Scalar.muli v644 c2048_i32
  v645
def k0_off5 : Fin 1 → Nat :=
  let c0_i32_4 : BitVec 32 := 0#32
  let c4_i32 : BitVec 32 := 4#32
  let v640 : BitVec 32 := Scalar.remsi c0_i32_4 c4_i32
  ![v640.toNat]
def k0_off6 : Fin 3 → Nat :=
  let c0_i32_4 : BitVec 32 := 0#32
  let c4_i32 : BitVec 32 := 4#32
  let v640 : BitVec 32 := Scalar.remsi c0_i32_4 c4_i32
  let c0_i32_249 : BitVec 32 := 0#32
  let c0_i32_250 : BitVec 32 := 0#32
  ![v640.toNat, 0, 0]
def k0_off7 (v643 : BitVec 32) : Fin 3 → Nat :=
  let c0_i32_251 : BitVec 32 := 0#32
  let c0_i32_4 : BitVec 32 := 0#32
  let c3_i32_248 : BitVec 32 := 3#32
  let v644 : BitVec 32 := Scalar.remsi c0_i32_4 c3_i32_248
  let c2048_i32 : BitVec 32 := 2048#32
  let v645 : BitVec 32 := Scalar.muli v644 c2048_i32
  let v646 : BitVec 32 := v645
  ![v643.toNat, 0, v646.toNat]
def k0_cond1 (v1_0 : BitVec 32) : BitVec 1 :=
  let c0_i32_3 : BitVec 32 := 0#32
  let c3_i32 : BitVec 32 := 3#32
  let v4 : BitVec 32 := Scalar.muli v1_0 c3_i32
  let v5 : BitVec 1 := Scalar.cmpi .slt c0_i32_3 v4
  let v6 : BitVec 32 := Scalar.extui v5
  let c0_i32_5 : BitVec 32 := 0#32
  let v7 : BitVec 1 := Scalar.cmpi .ne v6 c0_i32_5
  v7

def k0_off8 : Fin 1 → Nat :=
  let c0_i32_4 : BitVec 32 := 0#32
  let c4_i32 : BitVec 32 := 4#32
  let v640 : BitVec 32 := Scalar.remsi c0_i32_4 c4_i32
  ![v640.toNat]
def k0_off9 : Fin 3 → Nat :=
  let c0_i32_4 : BitVec 32 := 0#32
  let c4_i32 : BitVec 32 := 4#32
  let v640 : BitVec 32 := Scalar.remsi c0_i32_4 c4_i32
  let c0_i32_252 : BitVec 32 := 0#32
  let c0_i32_253 : BitVec 32 := 0#32
  ![v640.toNat, 0, 0]
def k0_off10 (v643 : BitVec 32) : Fin 3 → Nat :=
  let c0_i32_254 : BitVec 32 := 0#32
  let c0_i32_4 : BitVec 32 := 0#32
  let c3_i32_248 : BitVec 32 := 3#32
  let v644 : BitVec 32 := Scalar.remsi c0_i32_4 c3_i32_248
  let c2048_i32 : BitVec 32 := 2048#32
  let v645 : BitVec 32 := Scalar.muli v644 c2048_i32
  let v646 : BitVec 32 := v645
  ![v643.toNat, 0, v646.toNat]

def k0_chk3 (v1_0 : BitVec 32) (v643 : BitVec 32) : Prop :=
  (∀ (k0_h1 : k0_cond1 v1_0 = 1#1), ∀ a, (k0_off7 v643) a + S1x768x2048.size a ≤ S16x768x6144.size a) ∧
  (∀ (k0_h1 : k0_cond1 v1_0 = 1#1), ∀ (hinb : ∀ a, (k0_off7 v643) a + S1x768x2048.size a ≤ S16x768x6144.size a), (Rect.unit (s := S16x768x6144) (k0_off7 v643) S1x768x2048.size hinb).WholeWords (EltTy.packing .i8)) ∧
  (∀ (k0_h1 : k0_cond1 v1_0 = 1#1), ∀ a, (k0_off10 v643) a + S1x12x2048.size a ≤ S16x12x6144.size a)
theorem k0_off7_inb : ∀ (v1_0 : BitVec 32) (v643 : BitVec 32) (k0_hw3 : k0_chk3 v1_0 v643), ∀ (k0_h1 : k0_cond1 v1_0 = 1#1), ∀ a, (k0_off7 v643) a + S1x768x2048.size a ≤ S16x768x6144.size a := fun v1_0 v643 k0_hw3 k0_h1 => k0_hw3.1 k0_h1
theorem k0_off7_wordsi8 : ∀ (v1_0 : BitVec 32) (v643 : BitVec 32) (k0_hw3 : k0_chk3 v1_0 v643), ∀ (k0_h1 : k0_cond1 v1_0 = 1#1), (Rect.unit (s := S16x768x6144) (k0_off7 v643) S1x768x2048.size (k0_off7_inb v1_0 v643 k0_hw3 k0_h1)).WholeWords (EltTy.packing .i8) := fun v1_0 v643 k0_hw3 k0_h1 => k0_hw3.2.1 k0_h1 (k0_off7_inb v1_0 v643 k0_hw3 k0_h1)
theorem k0_off10_inb : ∀ (v1_0 : BitVec 32) (v643 : BitVec 32) (k0_hw3 : k0_chk3 v1_0 v643), ∀ (k0_h1 : k0_cond1 v1_0 = 1#1), ∀ a, (k0_off10 v643) a + S1x12x2048.size a ≤ S16x12x6144.size a := fun v1_0 v643 k0_hw3 k0_h1 => k0_hw3.2.2 k0_h1

def k0_off11 : Fin 1 → Nat :=
  let c1_i32_7 : BitVec 32 := 1#32
  let c3_i32_247 : BitVec 32 := 3#32
  let v641 : BitVec 32 := Scalar.divsi c1_i32_7 c3_i32_247
  let v642 : Index := Scalar.indexCast v641
  ![v642.toNat]
def k0_mult2 : BitVec 32 :=
  let c1_i32_7 : BitVec 32 := 1#32
  let c3_i32_248 : BitVec 32 := 3#32
  let v644 : BitVec 32 := Scalar.remsi c1_i32_7 c3_i32_248
  let c2048_i32 : BitVec 32 := 2048#32
  let v645 : BitVec 32 := Scalar.muli v644 c2048_i32
  v645
def k0_off12 : Fin 1 → Nat :=
  let c1_i32_7 : BitVec 32 := 1#32
  let c4_i32 : BitVec 32 := 4#32
  let v640 : BitVec 32 := Scalar.remsi c1_i32_7 c4_i32
  ![v640.toNat]
def k0_off13 : Fin 3 → Nat :=
  let c1_i32_7 : BitVec 32 := 1#32
  let c4_i32 : BitVec 32 := 4#32
  let v640 : BitVec 32 := Scalar.remsi c1_i32_7 c4_i32
  let c0_i32_249 : BitVec 32 := 0#32
  let c0_i32_250 : BitVec 32 := 0#32
  ![v640.toNat, 0, 0]
def k0_off14 (v643 : BitVec 32) : Fin 3 → Nat :=
  let c0_i32_251 : BitVec 32 := 0#32
  let c1_i32_7 : BitVec 32 := 1#32
  let c3_i32_248 : BitVec 32 := 3#32
  let v644 : BitVec 32 := Scalar.remsi c1_i32_7 c3_i32_248
  let c2048_i32 : BitVec 32 := 2048#32
  let v645 : BitVec 32 := Scalar.muli v644 c2048_i32
  let v646 : BitVec 32 := v645
  ![v643.toNat, 0, v646.toNat]
def k0_cond2 (v1_0 : BitVec 32) : BitVec 1 :=
  let c1_i32_6 : BitVec 32 := 1#32
  let c3_i32 : BitVec 32 := 3#32
  let v4 : BitVec 32 := Scalar.muli v1_0 c3_i32
  let v8 : BitVec 1 := Scalar.cmpi .slt c1_i32_6 v4
  let v9 : BitVec 32 := Scalar.extui v8
  let c0_i32_8 : BitVec 32 := 0#32
  let v10 : BitVec 1 := Scalar.cmpi .ne v9 c0_i32_8
  v10

def k0_off15 : Fin 1 → Nat :=
  let c1_i32_7 : BitVec 32 := 1#32
  let c4_i32 : BitVec 32 := 4#32
  let v640 : BitVec 32 := Scalar.remsi c1_i32_7 c4_i32
  ![v640.toNat]
def k0_off16 : Fin 3 → Nat :=
  let c1_i32_7 : BitVec 32 := 1#32
  let c4_i32 : BitVec 32 := 4#32
  let v640 : BitVec 32 := Scalar.remsi c1_i32_7 c4_i32
  let c0_i32_252 : BitVec 32 := 0#32
  let c0_i32_253 : BitVec 32 := 0#32
  ![v640.toNat, 0, 0]
def k0_off17 (v643 : BitVec 32) : Fin 3 → Nat :=
  let c0_i32_254 : BitVec 32 := 0#32
  let c1_i32_7 : BitVec 32 := 1#32
  let c3_i32_248 : BitVec 32 := 3#32
  let v644 : BitVec 32 := Scalar.remsi c1_i32_7 c3_i32_248
  let c2048_i32 : BitVec 32 := 2048#32
  let v645 : BitVec 32 := Scalar.muli v644 c2048_i32
  let v646 : BitVec 32 := v645
  ![v643.toNat, 0, v646.toNat]

def k0_chk4 (v1_0 : BitVec 32) (v643 : BitVec 32) : Prop :=
  (∀ (k0_h2 : k0_cond2 v1_0 = 1#1), ∀ a, (k0_off14 v643) a + S1x768x2048.size a ≤ S16x768x6144.size a) ∧
  (∀ (k0_h2 : k0_cond2 v1_0 = 1#1), ∀ (hinb : ∀ a, (k0_off14 v643) a + S1x768x2048.size a ≤ S16x768x6144.size a), (Rect.unit (s := S16x768x6144) (k0_off14 v643) S1x768x2048.size hinb).WholeWords (EltTy.packing .i8)) ∧
  (∀ (k0_h2 : k0_cond2 v1_0 = 1#1), ∀ a, (k0_off17 v643) a + S1x12x2048.size a ≤ S16x12x6144.size a)
theorem k0_off14_inb : ∀ (v1_0 : BitVec 32) (v643 : BitVec 32) (k0_hw4 : k0_chk4 v1_0 v643), ∀ (k0_h2 : k0_cond2 v1_0 = 1#1), ∀ a, (k0_off14 v643) a + S1x768x2048.size a ≤ S16x768x6144.size a := fun v1_0 v643 k0_hw4 k0_h2 => k0_hw4.1 k0_h2
theorem k0_off14_wordsi8 : ∀ (v1_0 : BitVec 32) (v643 : BitVec 32) (k0_hw4 : k0_chk4 v1_0 v643), ∀ (k0_h2 : k0_cond2 v1_0 = 1#1), (Rect.unit (s := S16x768x6144) (k0_off14 v643) S1x768x2048.size (k0_off14_inb v1_0 v643 k0_hw4 k0_h2)).WholeWords (EltTy.packing .i8) := fun v1_0 v643 k0_hw4 k0_h2 => k0_hw4.2.1 k0_h2 (k0_off14_inb v1_0 v643 k0_hw4 k0_h2)
theorem k0_off17_inb : ∀ (v1_0 : BitVec 32) (v643 : BitVec 32) (k0_hw4 : k0_chk4 v1_0 v643), ∀ (k0_h2 : k0_cond2 v1_0 = 1#1), ∀ a, (k0_off17 v643) a + S1x12x2048.size a ≤ S16x12x6144.size a := fun v1_0 v643 k0_hw4 k0_h2 => k0_hw4.2.2 k0_h2

def k0_off18 : Fin 1 → Nat :=
  let c2_i32_9 : BitVec 32 := 2#32
  let c3_i32_247 : BitVec 32 := 3#32
  let v641 : BitVec 32 := Scalar.divsi c2_i32_9 c3_i32_247
  let v642 : Index := Scalar.indexCast v641
  ![v642.toNat]
def k0_mult3 : BitVec 32 :=
  let c2_i32_9 : BitVec 32 := 2#32
  let c3_i32_248 : BitVec 32 := 3#32
  let v644 : BitVec 32 := Scalar.remsi c2_i32_9 c3_i32_248
  let c2048_i32 : BitVec 32 := 2048#32
  let v645 : BitVec 32 := Scalar.muli v644 c2048_i32
  v645
def k0_off19 : Fin 1 → Nat :=
  let c2_i32_9 : BitVec 32 := 2#32
  let c4_i32 : BitVec 32 := 4#32
  let v640 : BitVec 32 := Scalar.remsi c2_i32_9 c4_i32
  ![v640.toNat]
def k0_off20 : Fin 3 → Nat :=
  let c2_i32_9 : BitVec 32 := 2#32
  let c4_i32 : BitVec 32 := 4#32
  let v640 : BitVec 32 := Scalar.remsi c2_i32_9 c4_i32
  let c0_i32_249 : BitVec 32 := 0#32
  let c0_i32_250 : BitVec 32 := 0#32
  ![v640.toNat, 0, 0]
def k0_off21 (v643 : BitVec 32) : Fin 3 → Nat :=
  let c0_i32_251 : BitVec 32 := 0#32
  let c2_i32_9 : BitVec 32 := 2#32
  let c3_i32_248 : BitVec 32 := 3#32
  let v644 : BitVec 32 := Scalar.remsi c2_i32_9 c3_i32_248
  let c2048_i32 : BitVec 32 := 2048#32
  let v645 : BitVec 32 := Scalar.muli v644 c2048_i32
  let v646 : BitVec 32 := v645
  ![v643.toNat, 0, v646.toNat]
def k0_cond3 (v1_0 : BitVec 32) : BitVec 1 :=
  let c2_i32 : BitVec 32 := 2#32
  let c3_i32 : BitVec 32 := 3#32
  let v4 : BitVec 32 := Scalar.muli v1_0 c3_i32
  let v11 : BitVec 1 := Scalar.cmpi .slt c2_i32 v4
  let v12 : BitVec 32 := Scalar.extui v11
  let c0_i32_10 : BitVec 32 := 0#32
  let v13 : BitVec 1 := Scalar.cmpi .ne v12 c0_i32_10
  v13

def k0_off22 : Fin 1 → Nat :=
  let c2_i32_9 : BitVec 32 := 2#32
  let c4_i32 : BitVec 32 := 4#32
  let v640 : BitVec 32 := Scalar.remsi c2_i32_9 c4_i32
  ![v640.toNat]
def k0_off23 : Fin 3 → Nat :=
  let c2_i32_9 : BitVec 32 := 2#32
  let c4_i32 : BitVec 32 := 4#32
  let v640 : BitVec 32 := Scalar.remsi c2_i32_9 c4_i32
  let c0_i32_252 : BitVec 32 := 0#32
  let c0_i32_253 : BitVec 32 := 0#32
  ![v640.toNat, 0, 0]
def k0_off24 (v643 : BitVec 32) : Fin 3 → Nat :=
  let c0_i32_254 : BitVec 32 := 0#32
  let c2_i32_9 : BitVec 32 := 2#32
  let c3_i32_248 : BitVec 32 := 3#32
  let v644 : BitVec 32 := Scalar.remsi c2_i32_9 c3_i32_248
  let c2048_i32 : BitVec 32 := 2048#32
  let v645 : BitVec 32 := Scalar.muli v644 c2048_i32
  let v646 : BitVec 32 := v645
  ![v643.toNat, 0, v646.toNat]

def k0_chk5 (v1_0 : BitVec 32) (v643 : BitVec 32) : Prop :=
  (∀ (k0_h3 : k0_cond3 v1_0 = 1#1), ∀ a, (k0_off21 v643) a + S1x768x2048.size a ≤ S16x768x6144.size a) ∧
  (∀ (k0_h3 : k0_cond3 v1_0 = 1#1), ∀ (hinb : ∀ a, (k0_off21 v643) a + S1x768x2048.size a ≤ S16x768x6144.size a), (Rect.unit (s := S16x768x6144) (k0_off21 v643) S1x768x2048.size hinb).WholeWords (EltTy.packing .i8)) ∧
  (∀ (k0_h3 : k0_cond3 v1_0 = 1#1), ∀ a, (k0_off24 v643) a + S1x12x2048.size a ≤ S16x12x6144.size a)
theorem k0_off21_inb : ∀ (v1_0 : BitVec 32) (v643 : BitVec 32) (k0_hw5 : k0_chk5 v1_0 v643), ∀ (k0_h3 : k0_cond3 v1_0 = 1#1), ∀ a, (k0_off21 v643) a + S1x768x2048.size a ≤ S16x768x6144.size a := fun v1_0 v643 k0_hw5 k0_h3 => k0_hw5.1 k0_h3
theorem k0_off21_wordsi8 : ∀ (v1_0 : BitVec 32) (v643 : BitVec 32) (k0_hw5 : k0_chk5 v1_0 v643), ∀ (k0_h3 : k0_cond3 v1_0 = 1#1), (Rect.unit (s := S16x768x6144) (k0_off21 v643) S1x768x2048.size (k0_off21_inb v1_0 v643 k0_hw5 k0_h3)).WholeWords (EltTy.packing .i8) := fun v1_0 v643 k0_hw5 k0_h3 => k0_hw5.2.1 k0_h3 (k0_off21_inb v1_0 v643 k0_hw5 k0_h3)
theorem k0_off24_inb : ∀ (v1_0 : BitVec 32) (v643 : BitVec 32) (k0_hw5 : k0_chk5 v1_0 v643), ∀ (k0_h3 : k0_cond3 v1_0 = 1#1), ∀ a, (k0_off24 v643) a + S1x12x2048.size a ≤ S16x12x6144.size a := fun v1_0 v643 k0_hw5 k0_h3 => k0_hw5.2.2 k0_h3

@[reducible] def k0_t2_loop (v1_0 : BitVec 32) : Scf.Loop 32 :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_241 : BitVec 32 := 1#32
  ⟨c0_i32_238, v634, c1_i32_241⟩
def k0_mult4 (v1_0 : BitVec 32) (k0_t2 : Fin (k0_t2_loop v1_0).trips) : BitVec 32 :=
  let c0_i32_238 : BitVec 32 := 0#32
  let c1_i32_241 : BitVec 32 := 1#32
  let arg14 : BitVec 32 := Scf.iv c0_i32_238 c1_i32_241 k0_t2
  let c3_i32_248 : BitVec 32 := 3#32
  let v642 : BitVec 32 := Scalar.remsi arg14 c3_i32_248
  let c2048_i32 : BitVec 32 := 2048#32
  let v643 : BitVec 32 := Scalar.muli v642 c2048_i32
  v643
def k0_off25 (v1_0 : BitVec 32) (k0_t2 : Fin (k0_t2_loop v1_0).trips) : Fin 1 → Nat :=
  let c0_i32_238 : BitVec 32 := 0#32
  let c1_i32_241 : BitVec 32 := 1#32
  let arg14 : BitVec 32 := Scf.iv c0_i32_238 c1_i32_241 k0_t2
  let c4_i32_249 : BitVec 32 := 4#32
  let v645 : BitVec 32 := Scalar.addi arg14 c4_i32_249
  let c1_i32_250 : BitVec 32 := 1#32
  let v646 : BitVec 32 := Scalar.subi v645 c1_i32_250
  let c3_i32_891 : BitVec 32 := 3#32
  let v2529 : BitVec 32 := Scalar.divsi v646 c3_i32_891
  let v2530 : Index := Scalar.indexCast v2529
  ![v2530.toNat]
def k0_cond4 (v1_0 : BitVec 32) (k0_t2 : Fin (k0_t2_loop v1_0).trips) : BitVec 1 :=
  let c0_i32_238 : BitVec 32 := 0#32
  let c1_i32_241 : BitVec 32 := 1#32
  let arg14 : BitVec 32 := Scf.iv c0_i32_238 c1_i32_241 k0_t2
  let c4_i32_249 : BitVec 32 := 4#32
  let v645 : BitVec 32 := Scalar.addi arg14 c4_i32_249
  let c1_i32_250 : BitVec 32 := 1#32
  let v646 : BitVec 32 := Scalar.subi v645 c1_i32_250
  let c3_i32 : BitVec 32 := 3#32
  let v4 : BitVec 32 := Scalar.muli v1_0 c3_i32
  let v647 : BitVec 1 := Scalar.cmpi .slt v646 v4
  let v648 : BitVec 32 := Scalar.extui v647
  let c0_i32_251 : BitVec 32 := 0#32
  let v649 : BitVec 1 := Scalar.cmpi .ne v648 c0_i32_251
  v649

def k0_mult5 (v1_0 : BitVec 32) (k0_t2 : Fin (k0_t2_loop v1_0).trips) : BitVec 32 :=
  let c0_i32_238 : BitVec 32 := 0#32
  let c1_i32_241 : BitVec 32 := 1#32
  let arg14 : BitVec 32 := Scf.iv c0_i32_238 c1_i32_241 k0_t2
  let c4_i32_249 : BitVec 32 := 4#32
  let v645 : BitVec 32 := Scalar.addi arg14 c4_i32_249
  let c1_i32_250 : BitVec 32 := 1#32
  let v646 : BitVec 32 := Scalar.subi v645 c1_i32_250
  let c3_i32_892 : BitVec 32 := 3#32
  let v2532 : BitVec 32 := Scalar.remsi v646 c3_i32_892
  let c2048_i32_893 : BitVec 32 := 2048#32
  let v2533 : BitVec 32 := Scalar.muli v2532 c2048_i32_893
  v2533
def k0_off26 (v1_0 : BitVec 32) (k0_t2 : Fin (k0_t2_loop v1_0).trips) : Fin 1 → Nat :=
  let c0_i32_238 : BitVec 32 := 0#32
  let c1_i32_241 : BitVec 32 := 1#32
  let arg14 : BitVec 32 := Scf.iv c0_i32_238 c1_i32_241 k0_t2
  let c4_i32_249 : BitVec 32 := 4#32
  let v645 : BitVec 32 := Scalar.addi arg14 c4_i32_249
  let c1_i32_250 : BitVec 32 := 1#32
  let v646 : BitVec 32 := Scalar.subi v645 c1_i32_250
  let c4_i32_890 : BitVec 32 := 4#32
  let v2528 : BitVec 32 := Scalar.remsi v646 c4_i32_890
  ![v2528.toNat]
def k0_off27 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32_249 : BitVec 32 := 4#32
  let v645 : BitVec 32 := Scalar.addi arg14 c4_i32_249
  let c1_i32_250 : BitVec 32 := 1#32
  let v646 : BitVec 32 := Scalar.subi v645 c1_i32_250
  let c4_i32_890 : BitVec 32 := 4#32
  let v2528 : BitVec 32 := Scalar.remsi v646 c4_i32_890
  let c0_i32_894 : BitVec 32 := 0#32
  let c0_i32_895 : BitVec 32 := 0#32
  ![v2528.toNat, 0, 0]
def k0_off28 (v1_0 : BitVec 32) (k0_t2 : Fin (k0_t2_loop v1_0).trips) (v2531 : BitVec 32) : Fin 3 → Nat :=
  let c0_i32_896 : BitVec 32 := 0#32
  let c0_i32_238 : BitVec 32 := 0#32
  let c1_i32_241 : BitVec 32 := 1#32
  let arg14 : BitVec 32 := Scf.iv c0_i32_238 c1_i32_241 k0_t2
  let c4_i32_249 : BitVec 32 := 4#32
  let v645 : BitVec 32 := Scalar.addi arg14 c4_i32_249
  let c1_i32_250 : BitVec 32 := 1#32
  let v646 : BitVec 32 := Scalar.subi v645 c1_i32_250
  let c3_i32_892 : BitVec 32 := 3#32
  let v2532 : BitVec 32 := Scalar.remsi v646 c3_i32_892
  let c2048_i32_893 : BitVec 32 := 2048#32
  let v2533 : BitVec 32 := Scalar.muli v2532 c2048_i32_893
  let v2534 : BitVec 32 := v2533
  ![v2531.toNat, 0, v2534.toNat]

def k0_off29 (v1_0 : BitVec 32) (k0_t2 : Fin (k0_t2_loop v1_0).trips) : Fin 1 → Nat :=
  let c0_i32_238 : BitVec 32 := 0#32
  let c1_i32_241 : BitVec 32 := 1#32
  let arg14 : BitVec 32 := Scf.iv c0_i32_238 c1_i32_241 k0_t2
  let c4_i32_249 : BitVec 32 := 4#32
  let v645 : BitVec 32 := Scalar.addi arg14 c4_i32_249
  let c1_i32_250 : BitVec 32 := 1#32
  let v646 : BitVec 32 := Scalar.subi v645 c1_i32_250
  let c4_i32_890 : BitVec 32 := 4#32
  let v2528 : BitVec 32 := Scalar.remsi v646 c4_i32_890
  ![v2528.toNat]
def k0_off30 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32_249 : BitVec 32 := 4#32
  let v645 : BitVec 32 := Scalar.addi arg14 c4_i32_249
  let c1_i32_250 : BitVec 32 := 1#32
  let v646 : BitVec 32 := Scalar.subi v645 c1_i32_250
  let c4_i32_890 : BitVec 32 := 4#32
  let v2528 : BitVec 32 := Scalar.remsi v646 c4_i32_890
  let c0_i32_897 : BitVec 32 := 0#32
  let c0_i32_898 : BitVec 32 := 0#32
  ![v2528.toNat, 0, 0]
def k0_off31 (v1_0 : BitVec 32) (k0_t2 : Fin (k0_t2_loop v1_0).trips) (v2531 : BitVec 32) : Fin 3 → Nat :=
  let c0_i32_899 : BitVec 32 := 0#32
  let c0_i32_238 : BitVec 32 := 0#32
  let c1_i32_241 : BitVec 32 := 1#32
  let arg14 : BitVec 32 := Scf.iv c0_i32_238 c1_i32_241 k0_t2
  let c4_i32_249 : BitVec 32 := 4#32
  let v645 : BitVec 32 := Scalar.addi arg14 c4_i32_249
  let c1_i32_250 : BitVec 32 := 1#32
  let v646 : BitVec 32 := Scalar.subi v645 c1_i32_250
  let c3_i32_892 : BitVec 32 := 3#32
  let v2532 : BitVec 32 := Scalar.remsi v646 c3_i32_892
  let c2048_i32_893 : BitVec 32 := 2048#32
  let v2533 : BitVec 32 := Scalar.muli v2532 c2048_i32_893
  let v2534 : BitVec 32 := v2533
  ![v2531.toNat, 0, v2534.toNat]

def k0_chk6 (v1_0 : BitVec 32) (k0_t2 : Fin (k0_t2_loop v1_0).trips) (v2531 : BitVec 32) : Prop :=
  (∀ (k0_h4 : k0_cond4 v1_0 k0_t2 = 1#1), ∀ a, (k0_off28 v1_0 k0_t2 v2531) a + S1x768x2048.size a ≤ S16x768x6144.size a) ∧
  (∀ (k0_h4 : k0_cond4 v1_0 k0_t2 = 1#1), ∀ (hinb : ∀ a, (k0_off28 v1_0 k0_t2 v2531) a + S1x768x2048.size a ≤ S16x768x6144.size a), (Rect.unit (s := S16x768x6144) (k0_off28 v1_0 k0_t2 v2531) S1x768x2048.size hinb).WholeWords (EltTy.packing .i8)) ∧
  (∀ (k0_h4 : k0_cond4 v1_0 k0_t2 = 1#1), ∀ a, (k0_off31 v1_0 k0_t2 v2531) a + S1x12x2048.size a ≤ S16x12x6144.size a)
theorem k0_off28_inb : ∀ (v1_0 : BitVec 32) (k0_t2 : Fin (k0_t2_loop v1_0).trips) (v2531 : BitVec 32) (k0_hw6 : k0_chk6 v1_0 k0_t2 v2531), ∀ (k0_h4 : k0_cond4 v1_0 k0_t2 = 1#1), ∀ a, (k0_off28 v1_0 k0_t2 v2531) a + S1x768x2048.size a ≤ S16x768x6144.size a := fun v1_0 k0_t2 v2531 k0_hw6 k0_h4 => k0_hw6.1 k0_h4
theorem k0_off28_wordsi8 : ∀ (v1_0 : BitVec 32) (k0_t2 : Fin (k0_t2_loop v1_0).trips) (v2531 : BitVec 32) (k0_hw6 : k0_chk6 v1_0 k0_t2 v2531), ∀ (k0_h4 : k0_cond4 v1_0 k0_t2 = 1#1), (Rect.unit (s := S16x768x6144) (k0_off28 v1_0 k0_t2 v2531) S1x768x2048.size (k0_off28_inb v1_0 k0_t2 v2531 k0_hw6 k0_h4)).WholeWords (EltTy.packing .i8) := fun v1_0 k0_t2 v2531 k0_hw6 k0_h4 => k0_hw6.2.1 k0_h4 (k0_off28_inb v1_0 k0_t2 v2531 k0_hw6 k0_h4)
theorem k0_off31_inb : ∀ (v1_0 : BitVec 32) (k0_t2 : Fin (k0_t2_loop v1_0).trips) (v2531 : BitVec 32) (k0_hw6 : k0_chk6 v1_0 k0_t2 v2531), ∀ (k0_h4 : k0_cond4 v1_0 k0_t2 = 1#1), ∀ a, (k0_off31 v1_0 k0_t2 v2531) a + S1x12x2048.size a ≤ S16x12x6144.size a := fun v1_0 k0_t2 v2531 k0_hw6 k0_h4 => k0_hw6.2.2 k0_h4

def k0_off32 (v1_0 : BitVec 32) (k0_t2 : Fin (k0_t2_loop v1_0).trips) : Fin 1 → Nat :=
  let c0_i32_238 : BitVec 32 := 0#32
  let c1_i32_241 : BitVec 32 := 1#32
  let arg14 : BitVec 32 := Scf.iv c0_i32_238 c1_i32_241 k0_t2
  let c3_i32_253 : BitVec 32 := 3#32
  let v651 : BitVec 32 := Scalar.divsi arg14 c3_i32_253
  let v652 : Index := Scalar.indexCast v651
  ![v652.toNat]
def k0_mult6 (v1_0 : BitVec 32) (k0_t2 : Fin (k0_t2_loop v1_0).trips) : BitVec 32 :=
  let c0_i32_238 : BitVec 32 := 0#32
  let c1_i32_241 : BitVec 32 := 1#32
  let arg14 : BitVec 32 := Scf.iv c0_i32_238 c1_i32_241 k0_t2
  let c3_i32_254 : BitVec 32 := 3#32
  let v654 : BitVec 32 := Scalar.remsi arg14 c3_i32_254
  let c2048_i32_255 : BitVec 32 := 2048#32
  let v655 : BitVec 32 := Scalar.muli v654 c2048_i32_255
  v655
def k0_off33 (v1_0 : BitVec 32) (k0_t2 : Fin (k0_t2_loop v1_0).trips) : Fin 1 → Nat :=
  let c0_i32_238 : BitVec 32 := 0#32
  let c1_i32_241 : BitVec 32 := 1#32
  let arg14 : BitVec 32 := Scf.iv c0_i32_238 c1_i32_241 k0_t2
  let c4_i32_252 : BitVec 32 := 4#32
  let v650 : BitVec 32 := Scalar.remsi arg14 c4_i32_252
  ![v650.toNat]
def k0_off34 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32_252 : BitVec 32 := 4#32
  let v650 : BitVec 32 := Scalar.remsi arg14 c4_i32_252
  let c0_i32_256 : BitVec 32 := 0#32
  let c0_i32_257 : BitVec 32 := 0#32
  ![v650.toNat, 0, 0]
def k0_off35 (v1_0 : BitVec 32) (k0_t2 : Fin (k0_t2_loop v1_0).trips) (v653 : BitVec 32) : Fin 3 → Nat :=
  let c0_i32_258 : BitVec 32 := 0#32
  let c0_i32_238 : BitVec 32 := 0#32
  let c1_i32_241 : BitVec 32 := 1#32
  let arg14 : BitVec 32 := Scf.iv c0_i32_238 c1_i32_241 k0_t2
  let c3_i32_254 : BitVec 32 := 3#32
  let v654 : BitVec 32 := Scalar.remsi arg14 c3_i32_254
  let c2048_i32_255 : BitVec 32 := 2048#32
  let v655 : BitVec 32 := Scalar.muli v654 c2048_i32_255
  let v656 : BitVec 32 := v655
  ![v653.toNat, 0, v656.toNat]

def k0_off36 (v1_0 : BitVec 32) (k0_t2 : Fin (k0_t2_loop v1_0).trips) : Fin 1 → Nat :=
  let c0_i32_238 : BitVec 32 := 0#32
  let c1_i32_241 : BitVec 32 := 1#32
  let arg14 : BitVec 32 := Scf.iv c0_i32_238 c1_i32_241 k0_t2
  let c4_i32_252 : BitVec 32 := 4#32
  let v650 : BitVec 32 := Scalar.remsi arg14 c4_i32_252
  ![v650.toNat]
def k0_off37 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32_252 : BitVec 32 := 4#32
  let v650 : BitVec 32 := Scalar.remsi arg14 c4_i32_252
  let c0_i32_259 : BitVec 32 := 0#32
  let c0_i32_260 : BitVec 32 := 0#32
  ![v650.toNat, 0, 0]
def k0_off38 (v1_0 : BitVec 32) (k0_t2 : Fin (k0_t2_loop v1_0).trips) (v653 : BitVec 32) : Fin 3 → Nat :=
  let c0_i32_261 : BitVec 32 := 0#32
  let c0_i32_238 : BitVec 32 := 0#32
  let c1_i32_241 : BitVec 32 := 1#32
  let arg14 : BitVec 32 := Scf.iv c0_i32_238 c1_i32_241 k0_t2
  let c3_i32_254 : BitVec 32 := 3#32
  let v654 : BitVec 32 := Scalar.remsi arg14 c3_i32_254
  let c2048_i32_255 : BitVec 32 := 2048#32
  let v655 : BitVec 32 := Scalar.muli v654 c2048_i32_255
  let v656 : BitVec 32 := v655
  ![v653.toNat, 0, v656.toNat]

def k0_chk7 (v1_0 : BitVec 32) (k0_t2 : Fin (k0_t2_loop v1_0).trips) (v653 : BitVec 32) : Prop :=
  (∀ a, (k0_off35 v1_0 k0_t2 v653) a + S1x768x2048.size a ≤ S16x768x6144.size a) ∧
  (∀ (hinb : ∀ a, (k0_off35 v1_0 k0_t2 v653) a + S1x768x2048.size a ≤ S16x768x6144.size a), (Rect.unit (s := S16x768x6144) (k0_off35 v1_0 k0_t2 v653) S1x768x2048.size hinb).WholeWords (EltTy.packing .i8)) ∧
  (∀ a, (k0_off38 v1_0 k0_t2 v653) a + S1x12x2048.size a ≤ S16x12x6144.size a)
theorem k0_off35_inb : ∀ (v1_0 : BitVec 32) (k0_t2 : Fin (k0_t2_loop v1_0).trips) (v653 : BitVec 32) (k0_hw7 : k0_chk7 v1_0 k0_t2 v653), ∀ a, (k0_off35 v1_0 k0_t2 v653) a + S1x768x2048.size a ≤ S16x768x6144.size a := fun v1_0 k0_t2 v653 k0_hw7 => k0_hw7.1
theorem k0_off35_wordsi8 : ∀ (v1_0 : BitVec 32) (k0_t2 : Fin (k0_t2_loop v1_0).trips) (v653 : BitVec 32) (k0_hw7 : k0_chk7 v1_0 k0_t2 v653), (Rect.unit (s := S16x768x6144) (k0_off35 v1_0 k0_t2 v653) S1x768x2048.size (k0_off35_inb v1_0 k0_t2 v653 k0_hw7)).WholeWords (EltTy.packing .i8) := fun v1_0 k0_t2 v653 k0_hw7 => k0_hw7.2.1 (k0_off35_inb v1_0 k0_t2 v653 k0_hw7)
theorem k0_off38_inb : ∀ (v1_0 : BitVec 32) (k0_t2 : Fin (k0_t2_loop v1_0).trips) (v653 : BitVec 32) (k0_hw7 : k0_chk7 v1_0 k0_t2 v653), ∀ a, (k0_off38 v1_0 k0_t2 v653) a + S1x12x2048.size a ≤ S16x12x6144.size a := fun v1_0 k0_t2 v653 k0_hw7 => k0_hw7.2.2

def k0_off39 (v1_0 : BitVec 32) (k0_t2 : Fin (k0_t2_loop v1_0).trips) : Fin 1 → Nat :=
  let c0_i32_238 : BitVec 32 := 0#32
  let c1_i32_241 : BitVec 32 := 1#32
  let arg14 : BitVec 32 := Scf.iv c0_i32_238 c1_i32_241 k0_t2
  let c3_i32_247 : BitVec 32 := 3#32
  let v641 : BitVec 32 := Scalar.divsi arg14 c3_i32_247
  let v670 : Index := Scalar.indexCast v641
  ![v670.toNat]
def k0_off40 (v1_0 : BitVec 32) (k0_t2 : Fin (k0_t2_loop v1_0).trips) : Fin 1 → Nat :=
  let c0_i32_238 : BitVec 32 := 0#32
  let c1_i32_241 : BitVec 32 := 1#32
  let arg14 : BitVec 32 := Scf.iv c0_i32_238 c1_i32_241 k0_t2
  let c3_i32_247 : BitVec 32 := 3#32
  let v641 : BitVec 32 := Scalar.divsi arg14 c3_i32_247
  let c1_i32_262 : BitVec 32 := 1#32
  let v674 : BitVec 32 := Scalar.addi v641 c1_i32_262
  let v675 : Index := Scalar.indexCast v674
  ![v675.toNat]
def k0_off41 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v680 : Index := Scalar.indexCast v640
  let c0_263 : Index := 0#32
  let c0_264 : Index := 0#32
  ![v680.toNat, 0, 0]
def k0_off42 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v697 : Index := Scalar.indexCast v640
  let c0_267 : Index := 0#32
  let c0_268 : Index := 0#32
  ![v697.toNat, 0, 0]
def k0_off43 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v705 : Index := Scalar.indexCast v640
  let c1 : Index := 1#32
  let c0_269 : Index := 0#32
  ![v705.toNat, 1, 0]
def k0_off44 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v716 : Index := Scalar.indexCast v640
  let c128_273 : Index := 128#32
  let c0_274 : Index := 0#32
  ![v716.toNat, 128, 0]
def k0_off45 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v733 : Index := Scalar.indexCast v640
  let c2 : Index := 2#32
  let c0_279 : Index := 0#32
  ![v733.toNat, 2, 0]
def k0_off46 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v741 : Index := Scalar.indexCast v640
  let c3 : Index := 3#32
  let c0_280 : Index := 0#32
  ![v741.toNat, 3, 0]
def k0_off47 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v753 : Index := Scalar.indexCast v640
  let c256_284 : Index := 256#32
  let c0_285 : Index := 0#32
  ![v753.toNat, 256, 0]
def k0_off48 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v770 : Index := Scalar.indexCast v640
  let c4 : Index := 4#32
  let c0_290 : Index := 0#32
  ![v770.toNat, 4, 0]
def k0_off49 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v778 : Index := Scalar.indexCast v640
  let c5 : Index := 5#32
  let c0_291 : Index := 0#32
  ![v778.toNat, 5, 0]
def k0_off50 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v790 : Index := Scalar.indexCast v640
  let c384_295 : Index := 384#32
  let c0_296 : Index := 0#32
  ![v790.toNat, 384, 0]
def k0_off51 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v807 : Index := Scalar.indexCast v640
  let c6 : Index := 6#32
  let c0_301 : Index := 0#32
  ![v807.toNat, 6, 0]
def k0_off52 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v815 : Index := Scalar.indexCast v640
  let c7 : Index := 7#32
  let c0_302 : Index := 0#32
  ![v815.toNat, 7, 0]
def k0_off53 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v827 : Index := Scalar.indexCast v640
  let c512_306 : Index := 512#32
  let c0_307 : Index := 0#32
  ![v827.toNat, 512, 0]
def k0_off54 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v844 : Index := Scalar.indexCast v640
  let c8 : Index := 8#32
  let c0_312 : Index := 0#32
  ![v844.toNat, 8, 0]
def k0_off55 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v852 : Index := Scalar.indexCast v640
  let c9 : Index := 9#32
  let c0_313 : Index := 0#32
  ![v852.toNat, 9, 0]
def k0_off56 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v864 : Index := Scalar.indexCast v640
  let c640_317 : Index := 640#32
  let c0_318 : Index := 0#32
  ![v864.toNat, 640, 0]
def k0_off57 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v881 : Index := Scalar.indexCast v640
  let c10 : Index := 10#32
  let c0_323 : Index := 0#32
  ![v881.toNat, 10, 0]
def k0_off58 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v889 : Index := Scalar.indexCast v640
  let c11 : Index := 11#32
  let c0_324 : Index := 0#32
  ![v889.toNat, 11, 0]
def k0_off59 (v1_0 : BitVec 32) (k0_t2 : Fin (k0_t2_loop v1_0).trips) (c0_i32_328 : BitVec 32) : Fin 2 → Nat :=
  let c0_329 : Index := 0#32
  let c0_i32_238 : BitVec 32 := 0#32
  let c1_i32_241 : BitVec 32 := 1#32
  let arg14 : BitVec 32 := Scf.iv c0_i32_238 c1_i32_241 k0_t2
  let c3_i32_248 : BitVec 32 := 3#32
  let v642 : BitVec 32 := Scalar.remsi arg14 c3_i32_248
  let c2048_i32 : BitVec 32 := 2048#32
  let v643 : BitVec 32 := Scalar.muli v642 c2048_i32
  let v644 : BitVec 32 := v643
  let v901 : BitVec 32 := Scalar.addi v644 c0_i32_328
  let v902 : Index := Scalar.indexCast v901
  ![0, v902.toNat]
def k0_off60 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v911 : Index := Scalar.indexCast v640
  let c0_331 : Index := 0#32
  let c256_332 : Index := 256#32
  ![v911.toNat, 0, 256]
def k0_off61 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v928 : Index := Scalar.indexCast v640
  let c0_337 : Index := 0#32
  let c256_338 : Index := 256#32
  ![v928.toNat, 0, 256]
def k0_off62 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v936 : Index := Scalar.indexCast v640
  let c1_339 : Index := 1#32
  let c256_340 : Index := 256#32
  ![v936.toNat, 1, 256]
def k0_off63 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v947 : Index := Scalar.indexCast v640
  let c128_344 : Index := 128#32
  let c256_345 : Index := 256#32
  ![v947.toNat, 128, 256]
def k0_off64 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v964 : Index := Scalar.indexCast v640
  let c2_350 : Index := 2#32
  let c256_351 : Index := 256#32
  ![v964.toNat, 2, 256]
def k0_off65 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v972 : Index := Scalar.indexCast v640
  let c3_352 : Index := 3#32
  let c256_353 : Index := 256#32
  ![v972.toNat, 3, 256]
def k0_off66 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v984 : Index := Scalar.indexCast v640
  let c256_357 : Index := 256#32
  let c256_358 : Index := 256#32
  ![v984.toNat, 256, 256]
def k0_off67 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1001 : Index := Scalar.indexCast v640
  let c4_363 : Index := 4#32
  let c256_364 : Index := 256#32
  ![v1001.toNat, 4, 256]
def k0_off68 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1009 : Index := Scalar.indexCast v640
  let c5_365 : Index := 5#32
  let c256_366 : Index := 256#32
  ![v1009.toNat, 5, 256]
def k0_off69 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1021 : Index := Scalar.indexCast v640
  let c384_370 : Index := 384#32
  let c256_371 : Index := 256#32
  ![v1021.toNat, 384, 256]
def k0_off70 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1038 : Index := Scalar.indexCast v640
  let c6_376 : Index := 6#32
  let c256_377 : Index := 256#32
  ![v1038.toNat, 6, 256]
def k0_off71 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1046 : Index := Scalar.indexCast v640
  let c7_378 : Index := 7#32
  let c256_379 : Index := 256#32
  ![v1046.toNat, 7, 256]
def k0_off72 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1058 : Index := Scalar.indexCast v640
  let c512_383 : Index := 512#32
  let c256_384 : Index := 256#32
  ![v1058.toNat, 512, 256]
def k0_off73 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1075 : Index := Scalar.indexCast v640
  let c8_389 : Index := 8#32
  let c256_390 : Index := 256#32
  ![v1075.toNat, 8, 256]
def k0_off74 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1083 : Index := Scalar.indexCast v640
  let c9_391 : Index := 9#32
  let c256_392 : Index := 256#32
  ![v1083.toNat, 9, 256]
def k0_off75 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1095 : Index := Scalar.indexCast v640
  let c640_396 : Index := 640#32
  let c256_397 : Index := 256#32
  ![v1095.toNat, 640, 256]
def k0_off76 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1112 : Index := Scalar.indexCast v640
  let c10_402 : Index := 10#32
  let c256_403 : Index := 256#32
  ![v1112.toNat, 10, 256]
def k0_off77 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1120 : Index := Scalar.indexCast v640
  let c11_404 : Index := 11#32
  let c256_405 : Index := 256#32
  ![v1120.toNat, 11, 256]
def k0_off78 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1142 : Index := Scalar.indexCast v640
  let c0_411 : Index := 0#32
  let c512_412 : Index := 512#32
  ![v1142.toNat, 0, 512]
def k0_off79 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1159 : Index := Scalar.indexCast v640
  let c0_417 : Index := 0#32
  let c512_418 : Index := 512#32
  ![v1159.toNat, 0, 512]
def k0_off80 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1167 : Index := Scalar.indexCast v640
  let c1_419 : Index := 1#32
  let c512_420 : Index := 512#32
  ![v1167.toNat, 1, 512]
def k0_off81 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1178 : Index := Scalar.indexCast v640
  let c128_424 : Index := 128#32
  let c512_425 : Index := 512#32
  ![v1178.toNat, 128, 512]
def k0_off82 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1195 : Index := Scalar.indexCast v640
  let c2_430 : Index := 2#32
  let c512_431 : Index := 512#32
  ![v1195.toNat, 2, 512]
def k0_off83 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1203 : Index := Scalar.indexCast v640
  let c3_432 : Index := 3#32
  let c512_433 : Index := 512#32
  ![v1203.toNat, 3, 512]
def k0_off84 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1215 : Index := Scalar.indexCast v640
  let c256_437 : Index := 256#32
  let c512_438 : Index := 512#32
  ![v1215.toNat, 256, 512]
def k0_off85 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1232 : Index := Scalar.indexCast v640
  let c4_443 : Index := 4#32
  let c512_444 : Index := 512#32
  ![v1232.toNat, 4, 512]
def k0_off86 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1240 : Index := Scalar.indexCast v640
  let c5_445 : Index := 5#32
  let c512_446 : Index := 512#32
  ![v1240.toNat, 5, 512]
def k0_off87 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1252 : Index := Scalar.indexCast v640
  let c384_450 : Index := 384#32
  let c512_451 : Index := 512#32
  ![v1252.toNat, 384, 512]
def k0_off88 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1269 : Index := Scalar.indexCast v640
  let c6_456 : Index := 6#32
  let c512_457 : Index := 512#32
  ![v1269.toNat, 6, 512]
def k0_off89 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1277 : Index := Scalar.indexCast v640
  let c7_458 : Index := 7#32
  let c512_459 : Index := 512#32
  ![v1277.toNat, 7, 512]
def k0_off90 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1289 : Index := Scalar.indexCast v640
  let c512_463 : Index := 512#32
  let c512_464 : Index := 512#32
  ![v1289.toNat, 512, 512]
def k0_off91 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1306 : Index := Scalar.indexCast v640
  let c8_469 : Index := 8#32
  let c512_470 : Index := 512#32
  ![v1306.toNat, 8, 512]
def k0_off92 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1314 : Index := Scalar.indexCast v640
  let c9_471 : Index := 9#32
  let c512_472 : Index := 512#32
  ![v1314.toNat, 9, 512]
def k0_off93 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1326 : Index := Scalar.indexCast v640
  let c640_476 : Index := 640#32
  let c512_477 : Index := 512#32
  ![v1326.toNat, 640, 512]
def k0_off94 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1343 : Index := Scalar.indexCast v640
  let c10_482 : Index := 10#32
  let c512_483 : Index := 512#32
  ![v1343.toNat, 10, 512]
def k0_off95 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1351 : Index := Scalar.indexCast v640
  let c11_484 : Index := 11#32
  let c512_485 : Index := 512#32
  ![v1351.toNat, 11, 512]
def k0_off96 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1373 : Index := Scalar.indexCast v640
  let c0_491 : Index := 0#32
  let c768_492 : Index := 768#32
  ![v1373.toNat, 0, 768]
def k0_off97 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1390 : Index := Scalar.indexCast v640
  let c0_497 : Index := 0#32
  let c768_498 : Index := 768#32
  ![v1390.toNat, 0, 768]
def k0_off98 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1398 : Index := Scalar.indexCast v640
  let c1_499 : Index := 1#32
  let c768_500 : Index := 768#32
  ![v1398.toNat, 1, 768]
def k0_off99 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1409 : Index := Scalar.indexCast v640
  let c128_504 : Index := 128#32
  let c768_505 : Index := 768#32
  ![v1409.toNat, 128, 768]
def k0_off100 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1426 : Index := Scalar.indexCast v640
  let c2_510 : Index := 2#32
  let c768_511 : Index := 768#32
  ![v1426.toNat, 2, 768]
def k0_off101 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1434 : Index := Scalar.indexCast v640
  let c3_512 : Index := 3#32
  let c768_513 : Index := 768#32
  ![v1434.toNat, 3, 768]
def k0_off102 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1446 : Index := Scalar.indexCast v640
  let c256_517 : Index := 256#32
  let c768_518 : Index := 768#32
  ![v1446.toNat, 256, 768]
def k0_off103 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1463 : Index := Scalar.indexCast v640
  let c4_523 : Index := 4#32
  let c768_524 : Index := 768#32
  ![v1463.toNat, 4, 768]
def k0_off104 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1471 : Index := Scalar.indexCast v640
  let c5_525 : Index := 5#32
  let c768_526 : Index := 768#32
  ![v1471.toNat, 5, 768]
def k0_off105 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1483 : Index := Scalar.indexCast v640
  let c384_530 : Index := 384#32
  let c768_531 : Index := 768#32
  ![v1483.toNat, 384, 768]
def k0_off106 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1500 : Index := Scalar.indexCast v640
  let c6_536 : Index := 6#32
  let c768_537 : Index := 768#32
  ![v1500.toNat, 6, 768]
def k0_off107 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1508 : Index := Scalar.indexCast v640
  let c7_538 : Index := 7#32
  let c768_539 : Index := 768#32
  ![v1508.toNat, 7, 768]
def k0_off108 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1520 : Index := Scalar.indexCast v640
  let c512_543 : Index := 512#32
  let c768_544 : Index := 768#32
  ![v1520.toNat, 512, 768]
def k0_off109 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1537 : Index := Scalar.indexCast v640
  let c8_549 : Index := 8#32
  let c768_550 : Index := 768#32
  ![v1537.toNat, 8, 768]
def k0_off110 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1545 : Index := Scalar.indexCast v640
  let c9_551 : Index := 9#32
  let c768_552 : Index := 768#32
  ![v1545.toNat, 9, 768]
def k0_off111 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1557 : Index := Scalar.indexCast v640
  let c640_556 : Index := 640#32
  let c768_557 : Index := 768#32
  ![v1557.toNat, 640, 768]
def k0_off112 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1574 : Index := Scalar.indexCast v640
  let c10_562 : Index := 10#32
  let c768_563 : Index := 768#32
  ![v1574.toNat, 10, 768]
def k0_off113 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1582 : Index := Scalar.indexCast v640
  let c11_564 : Index := 11#32
  let c768_565 : Index := 768#32
  ![v1582.toNat, 11, 768]
def k0_off114 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1604 : Index := Scalar.indexCast v640
  let c0_571 : Index := 0#32
  let c1024_572 : Index := 1024#32
  ![v1604.toNat, 0, 1024]
def k0_off115 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1621 : Index := Scalar.indexCast v640
  let c0_577 : Index := 0#32
  let c1024_578 : Index := 1024#32
  ![v1621.toNat, 0, 1024]
def k0_off116 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1629 : Index := Scalar.indexCast v640
  let c1_579 : Index := 1#32
  let c1024_580 : Index := 1024#32
  ![v1629.toNat, 1, 1024]
def k0_off117 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1640 : Index := Scalar.indexCast v640
  let c128_584 : Index := 128#32
  let c1024_585 : Index := 1024#32
  ![v1640.toNat, 128, 1024]
def k0_off118 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1657 : Index := Scalar.indexCast v640
  let c2_590 : Index := 2#32
  let c1024_591 : Index := 1024#32
  ![v1657.toNat, 2, 1024]
def k0_off119 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1665 : Index := Scalar.indexCast v640
  let c3_592 : Index := 3#32
  let c1024_593 : Index := 1024#32
  ![v1665.toNat, 3, 1024]
def k0_off120 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1677 : Index := Scalar.indexCast v640
  let c256_597 : Index := 256#32
  let c1024_598 : Index := 1024#32
  ![v1677.toNat, 256, 1024]
def k0_off121 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1694 : Index := Scalar.indexCast v640
  let c4_603 : Index := 4#32
  let c1024_604 : Index := 1024#32
  ![v1694.toNat, 4, 1024]
def k0_off122 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1702 : Index := Scalar.indexCast v640
  let c5_605 : Index := 5#32
  let c1024_606 : Index := 1024#32
  ![v1702.toNat, 5, 1024]
def k0_off123 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1714 : Index := Scalar.indexCast v640
  let c384_610 : Index := 384#32
  let c1024_611 : Index := 1024#32
  ![v1714.toNat, 384, 1024]
def k0_off124 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1731 : Index := Scalar.indexCast v640
  let c6_616 : Index := 6#32
  let c1024_617 : Index := 1024#32
  ![v1731.toNat, 6, 1024]
def k0_off125 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1739 : Index := Scalar.indexCast v640
  let c7_618 : Index := 7#32
  let c1024_619 : Index := 1024#32
  ![v1739.toNat, 7, 1024]
def k0_off126 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1751 : Index := Scalar.indexCast v640
  let c512_623 : Index := 512#32
  let c1024_624 : Index := 1024#32
  ![v1751.toNat, 512, 1024]
def k0_off127 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1768 : Index := Scalar.indexCast v640
  let c8_629 : Index := 8#32
  let c1024_630 : Index := 1024#32
  ![v1768.toNat, 8, 1024]
def k0_off128 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1776 : Index := Scalar.indexCast v640
  let c9_631 : Index := 9#32
  let c1024_632 : Index := 1024#32
  ![v1776.toNat, 9, 1024]
def k0_off129 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1788 : Index := Scalar.indexCast v640
  let c640_636 : Index := 640#32
  let c1024_637 : Index := 1024#32
  ![v1788.toNat, 640, 1024]
def k0_off130 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1805 : Index := Scalar.indexCast v640
  let c10_642 : Index := 10#32
  let c1024_643 : Index := 1024#32
  ![v1805.toNat, 10, 1024]
def k0_off131 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1813 : Index := Scalar.indexCast v640
  let c11_644 : Index := 11#32
  let c1024_645 : Index := 1024#32
  ![v1813.toNat, 11, 1024]
def k0_off132 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1835 : Index := Scalar.indexCast v640
  let c0_651 : Index := 0#32
  let c1280_652 : Index := 1280#32
  ![v1835.toNat, 0, 1280]
def k0_off133 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1852 : Index := Scalar.indexCast v640
  let c0_657 : Index := 0#32
  let c1280_658 : Index := 1280#32
  ![v1852.toNat, 0, 1280]
def k0_off134 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1860 : Index := Scalar.indexCast v640
  let c1_659 : Index := 1#32
  let c1280_660 : Index := 1280#32
  ![v1860.toNat, 1, 1280]
def k0_off135 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1871 : Index := Scalar.indexCast v640
  let c128_664 : Index := 128#32
  let c1280_665 : Index := 1280#32
  ![v1871.toNat, 128, 1280]
def k0_off136 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1888 : Index := Scalar.indexCast v640
  let c2_670 : Index := 2#32
  let c1280_671 : Index := 1280#32
  ![v1888.toNat, 2, 1280]
def k0_off137 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1896 : Index := Scalar.indexCast v640
  let c3_672 : Index := 3#32
  let c1280_673 : Index := 1280#32
  ![v1896.toNat, 3, 1280]
def k0_off138 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1908 : Index := Scalar.indexCast v640
  let c256_677 : Index := 256#32
  let c1280_678 : Index := 1280#32
  ![v1908.toNat, 256, 1280]
def k0_off139 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1925 : Index := Scalar.indexCast v640
  let c4_683 : Index := 4#32
  let c1280_684 : Index := 1280#32
  ![v1925.toNat, 4, 1280]
def k0_off140 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1933 : Index := Scalar.indexCast v640
  let c5_685 : Index := 5#32
  let c1280_686 : Index := 1280#32
  ![v1933.toNat, 5, 1280]
def k0_off141 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1945 : Index := Scalar.indexCast v640
  let c384_690 : Index := 384#32
  let c1280_691 : Index := 1280#32
  ![v1945.toNat, 384, 1280]
def k0_off142 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1962 : Index := Scalar.indexCast v640
  let c6_696 : Index := 6#32
  let c1280_697 : Index := 1280#32
  ![v1962.toNat, 6, 1280]
def k0_off143 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1970 : Index := Scalar.indexCast v640
  let c7_698 : Index := 7#32
  let c1280_699 : Index := 1280#32
  ![v1970.toNat, 7, 1280]
def k0_off144 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1982 : Index := Scalar.indexCast v640
  let c512_703 : Index := 512#32
  let c1280_704 : Index := 1280#32
  ![v1982.toNat, 512, 1280]
def k0_off145 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v1999 : Index := Scalar.indexCast v640
  let c8_709 : Index := 8#32
  let c1280_710 : Index := 1280#32
  ![v1999.toNat, 8, 1280]
def k0_off146 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2007 : Index := Scalar.indexCast v640
  let c9_711 : Index := 9#32
  let c1280_712 : Index := 1280#32
  ![v2007.toNat, 9, 1280]
def k0_off147 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2019 : Index := Scalar.indexCast v640
  let c640_716 : Index := 640#32
  let c1280_717 : Index := 1280#32
  ![v2019.toNat, 640, 1280]
def k0_off148 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2036 : Index := Scalar.indexCast v640
  let c10_722 : Index := 10#32
  let c1280_723 : Index := 1280#32
  ![v2036.toNat, 10, 1280]
def k0_off149 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2044 : Index := Scalar.indexCast v640
  let c11_724 : Index := 11#32
  let c1280_725 : Index := 1280#32
  ![v2044.toNat, 11, 1280]
def k0_off150 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2066 : Index := Scalar.indexCast v640
  let c0_731 : Index := 0#32
  let c1536 : Index := 1536#32
  ![v2066.toNat, 0, 1536]
def k0_off151 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2083 : Index := Scalar.indexCast v640
  let c0_736 : Index := 0#32
  let c1536_737 : Index := 1536#32
  ![v2083.toNat, 0, 1536]
def k0_off152 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2091 : Index := Scalar.indexCast v640
  let c1_738 : Index := 1#32
  let c1536_739 : Index := 1536#32
  ![v2091.toNat, 1, 1536]
def k0_off153 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2102 : Index := Scalar.indexCast v640
  let c128_743 : Index := 128#32
  let c1536_744 : Index := 1536#32
  ![v2102.toNat, 128, 1536]
def k0_off154 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2119 : Index := Scalar.indexCast v640
  let c2_749 : Index := 2#32
  let c1536_750 : Index := 1536#32
  ![v2119.toNat, 2, 1536]
def k0_off155 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2127 : Index := Scalar.indexCast v640
  let c3_751 : Index := 3#32
  let c1536_752 : Index := 1536#32
  ![v2127.toNat, 3, 1536]
def k0_off156 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2139 : Index := Scalar.indexCast v640
  let c256_756 : Index := 256#32
  let c1536_757 : Index := 1536#32
  ![v2139.toNat, 256, 1536]
def k0_off157 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2156 : Index := Scalar.indexCast v640
  let c4_762 : Index := 4#32
  let c1536_763 : Index := 1536#32
  ![v2156.toNat, 4, 1536]
def k0_off158 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2164 : Index := Scalar.indexCast v640
  let c5_764 : Index := 5#32
  let c1536_765 : Index := 1536#32
  ![v2164.toNat, 5, 1536]
def k0_off159 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2176 : Index := Scalar.indexCast v640
  let c384_769 : Index := 384#32
  let c1536_770 : Index := 1536#32
  ![v2176.toNat, 384, 1536]
def k0_off160 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2193 : Index := Scalar.indexCast v640
  let c6_775 : Index := 6#32
  let c1536_776 : Index := 1536#32
  ![v2193.toNat, 6, 1536]
def k0_off161 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2201 : Index := Scalar.indexCast v640
  let c7_777 : Index := 7#32
  let c1536_778 : Index := 1536#32
  ![v2201.toNat, 7, 1536]
def k0_off162 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2213 : Index := Scalar.indexCast v640
  let c512_782 : Index := 512#32
  let c1536_783 : Index := 1536#32
  ![v2213.toNat, 512, 1536]
def k0_off163 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2230 : Index := Scalar.indexCast v640
  let c8_788 : Index := 8#32
  let c1536_789 : Index := 1536#32
  ![v2230.toNat, 8, 1536]
def k0_off164 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2238 : Index := Scalar.indexCast v640
  let c9_790 : Index := 9#32
  let c1536_791 : Index := 1536#32
  ![v2238.toNat, 9, 1536]
def k0_off165 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2250 : Index := Scalar.indexCast v640
  let c640_795 : Index := 640#32
  let c1536_796 : Index := 1536#32
  ![v2250.toNat, 640, 1536]
def k0_off166 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2267 : Index := Scalar.indexCast v640
  let c10_801 : Index := 10#32
  let c1536_802 : Index := 1536#32
  ![v2267.toNat, 10, 1536]
def k0_off167 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2275 : Index := Scalar.indexCast v640
  let c11_803 : Index := 11#32
  let c1536_804 : Index := 1536#32
  ![v2275.toNat, 11, 1536]
def k0_off168 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2297 : Index := Scalar.indexCast v640
  let c0_810 : Index := 0#32
  let c1792 : Index := 1792#32
  ![v2297.toNat, 0, 1792]
def k0_off169 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2314 : Index := Scalar.indexCast v640
  let c0_815 : Index := 0#32
  let c1792_816 : Index := 1792#32
  ![v2314.toNat, 0, 1792]
def k0_off170 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2322 : Index := Scalar.indexCast v640
  let c1_817 : Index := 1#32
  let c1792_818 : Index := 1792#32
  ![v2322.toNat, 1, 1792]
def k0_off171 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2333 : Index := Scalar.indexCast v640
  let c128_822 : Index := 128#32
  let c1792_823 : Index := 1792#32
  ![v2333.toNat, 128, 1792]
def k0_off172 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2350 : Index := Scalar.indexCast v640
  let c2_828 : Index := 2#32
  let c1792_829 : Index := 1792#32
  ![v2350.toNat, 2, 1792]
def k0_off173 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2358 : Index := Scalar.indexCast v640
  let c3_830 : Index := 3#32
  let c1792_831 : Index := 1792#32
  ![v2358.toNat, 3, 1792]
def k0_off174 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2370 : Index := Scalar.indexCast v640
  let c256_835 : Index := 256#32
  let c1792_836 : Index := 1792#32
  ![v2370.toNat, 256, 1792]
def k0_off175 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2387 : Index := Scalar.indexCast v640
  let c4_841 : Index := 4#32
  let c1792_842 : Index := 1792#32
  ![v2387.toNat, 4, 1792]
def k0_off176 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2395 : Index := Scalar.indexCast v640
  let c5_843 : Index := 5#32
  let c1792_844 : Index := 1792#32
  ![v2395.toNat, 5, 1792]
def k0_off177 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2407 : Index := Scalar.indexCast v640
  let c384_848 : Index := 384#32
  let c1792_849 : Index := 1792#32
  ![v2407.toNat, 384, 1792]
def k0_off178 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2424 : Index := Scalar.indexCast v640
  let c6_854 : Index := 6#32
  let c1792_855 : Index := 1792#32
  ![v2424.toNat, 6, 1792]
def k0_off179 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2432 : Index := Scalar.indexCast v640
  let c7_856 : Index := 7#32
  let c1792_857 : Index := 1792#32
  ![v2432.toNat, 7, 1792]
def k0_off180 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2444 : Index := Scalar.indexCast v640
  let c512_861 : Index := 512#32
  let c1792_862 : Index := 1792#32
  ![v2444.toNat, 512, 1792]
def k0_off181 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2461 : Index := Scalar.indexCast v640
  let c8_867 : Index := 8#32
  let c1792_868 : Index := 1792#32
  ![v2461.toNat, 8, 1792]
def k0_off182 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2469 : Index := Scalar.indexCast v640
  let c9_869 : Index := 9#32
  let c1792_870 : Index := 1792#32
  ![v2469.toNat, 9, 1792]
def k0_off183 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2481 : Index := Scalar.indexCast v640
  let c640_874 : Index := 640#32
  let c1792_875 : Index := 1792#32
  ![v2481.toNat, 640, 1792]
def k0_off184 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2498 : Index := Scalar.indexCast v640
  let c10_880 : Index := 10#32
  let c1792_881 : Index := 1792#32
  ![v2498.toNat, 10, 1792]
def k0_off185 (v1_0 : BitVec 32) (k0_t2 : Fin (k0_t2_loop v1_0).trips) : Fin 3 → Nat :=
  let c0_i32_238 : BitVec 32 := 0#32
  let c1_i32_241 : BitVec 32 := 1#32
  let arg14 : BitVec 32 := Scf.iv c0_i32_238 c1_i32_241 k0_t2
  let c4_i32 : BitVec 32 := 4#32
  let v640 : BitVec 32 := Scalar.remsi arg14 c4_i32
  let v2506 : Index := Scalar.indexCast v640
  let c11_882 : Index := 11#32
  let c1792_883 : Index := 1792#32
  ![v2506.toNat, 11, 1792]
@[reducible] def k0_t3_loop (v1_0 : BitVec 32) : Scf.Loop 32 :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let v631 : BitVec 32 := Scalar.addi c0_i32_238 v630
  let c1_i32_242 : BitVec 32 := 1#32
  ⟨v634, v631, c1_i32_242⟩
def k0_mult7 (v1_0 : BitVec 32) (k0_t3 : Fin (k0_t3_loop v1_0).trips) : BitVec 32 :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c3_i32_248 : BitVec 32 := 3#32
  let v642 : BitVec 32 := Scalar.remsi arg14 c3_i32_248
  let c2048_i32 : BitVec 32 := 2048#32
  let v643 : BitVec 32 := Scalar.muli v642 c2048_i32
  v643
def k0_off186 (v1_0 : BitVec 32) (k0_t3 : Fin (k0_t3_loop v1_0).trips) : Fin 1 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_249 : BitVec 32 := 4#32
  let v645 : BitVec 32 := Scalar.addi arg14 c4_i32_249
  let c1_i32_250 : BitVec 32 := 1#32
  let v646 : BitVec 32 := Scalar.subi v645 c1_i32_250
  let c3_i32_891 : BitVec 32 := 3#32
  let v2529 : BitVec 32 := Scalar.divsi v646 c3_i32_891
  let v2530 : Index := Scalar.indexCast v2529
  ![v2530.toNat]
def k0_cond5 (v1_0 : BitVec 32) (k0_t3 : Fin (k0_t3_loop v1_0).trips) : BitVec 1 :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_249 : BitVec 32 := 4#32
  let v645 : BitVec 32 := Scalar.addi arg14 c4_i32_249
  let c1_i32_250 : BitVec 32 := 1#32
  let v646 : BitVec 32 := Scalar.subi v645 c1_i32_250
  let v647 : BitVec 1 := Scalar.cmpi .slt v646 v4
  let v648 : BitVec 32 := Scalar.extui v647
  let c0_i32_251 : BitVec 32 := 0#32
  let v649 : BitVec 1 := Scalar.cmpi .ne v648 c0_i32_251
  v649

def k0_mult8 (v1_0 : BitVec 32) (k0_t3 : Fin (k0_t3_loop v1_0).trips) : BitVec 32 :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_249 : BitVec 32 := 4#32
  let v645 : BitVec 32 := Scalar.addi arg14 c4_i32_249
  let c1_i32_250 : BitVec 32 := 1#32
  let v646 : BitVec 32 := Scalar.subi v645 c1_i32_250
  let c3_i32_892 : BitVec 32 := 3#32
  let v2532 : BitVec 32 := Scalar.remsi v646 c3_i32_892
  let c2048_i32_893 : BitVec 32 := 2048#32
  let v2533 : BitVec 32 := Scalar.muli v2532 c2048_i32_893
  v2533
def k0_off187 (v1_0 : BitVec 32) (k0_t3 : Fin (k0_t3_loop v1_0).trips) : Fin 1 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_249 : BitVec 32 := 4#32
  let v645 : BitVec 32 := Scalar.addi arg14 c4_i32_249
  let c1_i32_250 : BitVec 32 := 1#32
  let v646 : BitVec 32 := Scalar.subi v645 c1_i32_250
  let c4_i32_890 : BitVec 32 := 4#32
  let v2528 : BitVec 32 := Scalar.remsi v646 c4_i32_890
  ![v2528.toNat]
def k0_off188 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_249 : BitVec 32 := 4#32
  let v645 : BitVec 32 := Scalar.addi arg14 c4_i32_249
  let c1_i32_250 : BitVec 32 := 1#32
  let v646 : BitVec 32 := Scalar.subi v645 c1_i32_250
  let c4_i32_890 : BitVec 32 := 4#32
  let v2528 : BitVec 32 := Scalar.remsi v646 c4_i32_890
  let c0_i32_894 : BitVec 32 := 0#32
  let c0_i32_895 : BitVec 32 := 0#32
  ![v2528.toNat, 0, 0]
def k0_off189 (v1_0 : BitVec 32) (k0_t3 : Fin (k0_t3_loop v1_0).trips) (v2531 : BitVec 32) : Fin 3 → Nat :=
  let c0_i32_896 : BitVec 32 := 0#32
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_249 : BitVec 32 := 4#32
  let v645 : BitVec 32 := Scalar.addi arg14 c4_i32_249
  let c1_i32_250 : BitVec 32 := 1#32
  let v646 : BitVec 32 := Scalar.subi v645 c1_i32_250
  let c3_i32_892 : BitVec 32 := 3#32
  let v2532 : BitVec 32 := Scalar.remsi v646 c3_i32_892
  let c2048_i32_893 : BitVec 32 := 2048#32
  let v2533 : BitVec 32 := Scalar.muli v2532 c2048_i32_893
  let v2534 : BitVec 32 := v2533
  ![v2531.toNat, 0, v2534.toNat]

def k0_off190 (v1_0 : BitVec 32) (k0_t3 : Fin (k0_t3_loop v1_0).trips) : Fin 1 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_249 : BitVec 32 := 4#32
  let v645 : BitVec 32 := Scalar.addi arg14 c4_i32_249
  let c1_i32_250 : BitVec 32 := 1#32
  let v646 : BitVec 32 := Scalar.subi v645 c1_i32_250
  let c4_i32_890 : BitVec 32 := 4#32
  let v2528 : BitVec 32 := Scalar.remsi v646 c4_i32_890
  ![v2528.toNat]
def k0_off191 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_249 : BitVec 32 := 4#32
  let v645 : BitVec 32 := Scalar.addi arg14 c4_i32_249
  let c1_i32_250 : BitVec 32 := 1#32
  let v646 : BitVec 32 := Scalar.subi v645 c1_i32_250
  let c4_i32_890 : BitVec 32 := 4#32
  let v2528 : BitVec 32 := Scalar.remsi v646 c4_i32_890
  let c0_i32_897 : BitVec 32 := 0#32
  let c0_i32_898 : BitVec 32 := 0#32
  ![v2528.toNat, 0, 0]
def k0_off192 (v1_0 : BitVec 32) (k0_t3 : Fin (k0_t3_loop v1_0).trips) (v2531 : BitVec 32) : Fin 3 → Nat :=
  let c0_i32_899 : BitVec 32 := 0#32
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_249 : BitVec 32 := 4#32
  let v645 : BitVec 32 := Scalar.addi arg14 c4_i32_249
  let c1_i32_250 : BitVec 32 := 1#32
  let v646 : BitVec 32 := Scalar.subi v645 c1_i32_250
  let c3_i32_892 : BitVec 32 := 3#32
  let v2532 : BitVec 32 := Scalar.remsi v646 c3_i32_892
  let c2048_i32_893 : BitVec 32 := 2048#32
  let v2533 : BitVec 32 := Scalar.muli v2532 c2048_i32_893
  let v2534 : BitVec 32 := v2533
  ![v2531.toNat, 0, v2534.toNat]

def k0_chk8 (v1_0 : BitVec 32) (k0_t3 : Fin (k0_t3_loop v1_0).trips) (v2531 : BitVec 32) : Prop :=
  (∀ (k0_h5 : k0_cond5 v1_0 k0_t3 = 1#1), ∀ a, (k0_off189 v1_0 k0_t3 v2531) a + S1x768x2048.size a ≤ S16x768x6144.size a) ∧
  (∀ (k0_h5 : k0_cond5 v1_0 k0_t3 = 1#1), ∀ (hinb : ∀ a, (k0_off189 v1_0 k0_t3 v2531) a + S1x768x2048.size a ≤ S16x768x6144.size a), (Rect.unit (s := S16x768x6144) (k0_off189 v1_0 k0_t3 v2531) S1x768x2048.size hinb).WholeWords (EltTy.packing .i8)) ∧
  (∀ (k0_h5 : k0_cond5 v1_0 k0_t3 = 1#1), ∀ a, (k0_off192 v1_0 k0_t3 v2531) a + S1x12x2048.size a ≤ S16x12x6144.size a)
theorem k0_off189_inb : ∀ (v1_0 : BitVec 32) (k0_t3 : Fin (k0_t3_loop v1_0).trips) (v2531 : BitVec 32) (k0_hw8 : k0_chk8 v1_0 k0_t3 v2531), ∀ (k0_h5 : k0_cond5 v1_0 k0_t3 = 1#1), ∀ a, (k0_off189 v1_0 k0_t3 v2531) a + S1x768x2048.size a ≤ S16x768x6144.size a := fun v1_0 k0_t3 v2531 k0_hw8 k0_h5 => k0_hw8.1 k0_h5
theorem k0_off189_wordsi8 : ∀ (v1_0 : BitVec 32) (k0_t3 : Fin (k0_t3_loop v1_0).trips) (v2531 : BitVec 32) (k0_hw8 : k0_chk8 v1_0 k0_t3 v2531), ∀ (k0_h5 : k0_cond5 v1_0 k0_t3 = 1#1), (Rect.unit (s := S16x768x6144) (k0_off189 v1_0 k0_t3 v2531) S1x768x2048.size (k0_off189_inb v1_0 k0_t3 v2531 k0_hw8 k0_h5)).WholeWords (EltTy.packing .i8) := fun v1_0 k0_t3 v2531 k0_hw8 k0_h5 => k0_hw8.2.1 k0_h5 (k0_off189_inb v1_0 k0_t3 v2531 k0_hw8 k0_h5)
theorem k0_off192_inb : ∀ (v1_0 : BitVec 32) (k0_t3 : Fin (k0_t3_loop v1_0).trips) (v2531 : BitVec 32) (k0_hw8 : k0_chk8 v1_0 k0_t3 v2531), ∀ (k0_h5 : k0_cond5 v1_0 k0_t3 = 1#1), ∀ a, (k0_off192 v1_0 k0_t3 v2531) a + S1x12x2048.size a ≤ S16x12x6144.size a := fun v1_0 k0_t3 v2531 k0_hw8 k0_h5 => k0_hw8.2.2 k0_h5

def k0_off193 (v1_0 : BitVec 32) (k0_t3 : Fin (k0_t3_loop v1_0).trips) : Fin 1 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c3_i32_253 : BitVec 32 := 3#32
  let v651 : BitVec 32 := Scalar.divsi arg14 c3_i32_253
  let v652 : Index := Scalar.indexCast v651
  ![v652.toNat]
def k0_mult9 (v1_0 : BitVec 32) (k0_t3 : Fin (k0_t3_loop v1_0).trips) : BitVec 32 :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c3_i32_254 : BitVec 32 := 3#32
  let v654 : BitVec 32 := Scalar.remsi arg14 c3_i32_254
  let c2048_i32_255 : BitVec 32 := 2048#32
  let v655 : BitVec 32 := Scalar.muli v654 c2048_i32_255
  v655
def k0_off194 (v1_0 : BitVec 32) (k0_t3 : Fin (k0_t3_loop v1_0).trips) : Fin 1 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_252 : BitVec 32 := 4#32
  let v650 : BitVec 32 := Scalar.remsi arg14 c4_i32_252
  ![v650.toNat]
def k0_off195 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_252 : BitVec 32 := 4#32
  let v650 : BitVec 32 := Scalar.remsi arg14 c4_i32_252
  let c0_i32_256 : BitVec 32 := 0#32
  let c0_i32_257 : BitVec 32 := 0#32
  ![v650.toNat, 0, 0]
def k0_off196 (v1_0 : BitVec 32) (k0_t3 : Fin (k0_t3_loop v1_0).trips) (v653 : BitVec 32) : Fin 3 → Nat :=
  let c0_i32_258 : BitVec 32 := 0#32
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c3_i32_254 : BitVec 32 := 3#32
  let v654 : BitVec 32 := Scalar.remsi arg14 c3_i32_254
  let c2048_i32_255 : BitVec 32 := 2048#32
  let v655 : BitVec 32 := Scalar.muli v654 c2048_i32_255
  let v656 : BitVec 32 := v655
  ![v653.toNat, 0, v656.toNat]

def k0_off197 (v1_0 : BitVec 32) (k0_t3 : Fin (k0_t3_loop v1_0).trips) : Fin 1 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_252 : BitVec 32 := 4#32
  let v650 : BitVec 32 := Scalar.remsi arg14 c4_i32_252
  ![v650.toNat]
def k0_off198 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32_252 : BitVec 32 := 4#32
  let v650 : BitVec 32 := Scalar.remsi arg14 c4_i32_252
  let c0_i32_259 : BitVec 32 := 0#32
  let c0_i32_260 : BitVec 32 := 0#32
  ![v650.toNat, 0, 0]
def k0_off199 (v1_0 : BitVec 32) (k0_t3 : Fin (k0_t3_loop v1_0).trips) (v653 : BitVec 32) : Fin 3 → Nat :=
  let c0_i32_261 : BitVec 32 := 0#32
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c3_i32_254 : BitVec 32 := 3#32
  let v654 : BitVec 32 := Scalar.remsi arg14 c3_i32_254
  let c2048_i32_255 : BitVec 32 := 2048#32
  let v655 : BitVec 32 := Scalar.muli v654 c2048_i32_255
  let v656 : BitVec 32 := v655
  ![v653.toNat, 0, v656.toNat]

def k0_chk9 (v1_0 : BitVec 32) (k0_t3 : Fin (k0_t3_loop v1_0).trips) (v653 : BitVec 32) : Prop :=
  (∀ a, (k0_off196 v1_0 k0_t3 v653) a + S1x768x2048.size a ≤ S16x768x6144.size a) ∧
  (∀ (hinb : ∀ a, (k0_off196 v1_0 k0_t3 v653) a + S1x768x2048.size a ≤ S16x768x6144.size a), (Rect.unit (s := S16x768x6144) (k0_off196 v1_0 k0_t3 v653) S1x768x2048.size hinb).WholeWords (EltTy.packing .i8)) ∧
  (∀ a, (k0_off199 v1_0 k0_t3 v653) a + S1x12x2048.size a ≤ S16x12x6144.size a)
theorem k0_off196_inb : ∀ (v1_0 : BitVec 32) (k0_t3 : Fin (k0_t3_loop v1_0).trips) (v653 : BitVec 32) (k0_hw9 : k0_chk9 v1_0 k0_t3 v653), ∀ a, (k0_off196 v1_0 k0_t3 v653) a + S1x768x2048.size a ≤ S16x768x6144.size a := fun v1_0 k0_t3 v653 k0_hw9 => k0_hw9.1
theorem k0_off196_wordsi8 : ∀ (v1_0 : BitVec 32) (k0_t3 : Fin (k0_t3_loop v1_0).trips) (v653 : BitVec 32) (k0_hw9 : k0_chk9 v1_0 k0_t3 v653), (Rect.unit (s := S16x768x6144) (k0_off196 v1_0 k0_t3 v653) S1x768x2048.size (k0_off196_inb v1_0 k0_t3 v653 k0_hw9)).WholeWords (EltTy.packing .i8) := fun v1_0 k0_t3 v653 k0_hw9 => k0_hw9.2.1 (k0_off196_inb v1_0 k0_t3 v653 k0_hw9)
theorem k0_off199_inb : ∀ (v1_0 : BitVec 32) (k0_t3 : Fin (k0_t3_loop v1_0).trips) (v653 : BitVec 32) (k0_hw9 : k0_chk9 v1_0 k0_t3 v653), ∀ a, (k0_off199 v1_0 k0_t3 v653) a + S1x12x2048.size a ≤ S16x12x6144.size a := fun v1_0 k0_t3 v653 k0_hw9 => k0_hw9.2.2

def k0_off200 (v1_0 : BitVec 32) (k0_t3 : Fin (k0_t3_loop v1_0).trips) : Fin 1 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c3_i32_247 : BitVec 32 := 3#32
  let v641 : BitVec 32 := Scalar.divsi arg14 c3_i32_247
  let v670 : Index := Scalar.indexCast v641
  ![v670.toNat]
def k0_off201 (v1_0 : BitVec 32) (k0_t3 : Fin (k0_t3_loop v1_0).trips) : Fin 1 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c3_i32_247 : BitVec 32 := 3#32
  let v641 : BitVec 32 := Scalar.divsi arg14 c3_i32_247
  let c1_i32_262 : BitVec 32 := 1#32
  let v674 : BitVec 32 := Scalar.addi v641 c1_i32_262
  let v675 : Index := Scalar.indexCast v674
  ![v675.toNat]
def k0_off202 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v680 : Index := Scalar.indexCast v640
  let c0_263 : Index := 0#32
  let c0_264 : Index := 0#32
  ![v680.toNat, 0, 0]
def k0_off203 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v697 : Index := Scalar.indexCast v640
  let c0_267 : Index := 0#32
  let c0_268 : Index := 0#32
  ![v697.toNat, 0, 0]
def k0_off204 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v705 : Index := Scalar.indexCast v640
  let c1 : Index := 1#32
  let c0_269 : Index := 0#32
  ![v705.toNat, 1, 0]
def k0_off205 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v716 : Index := Scalar.indexCast v640
  let c128_273 : Index := 128#32
  let c0_274 : Index := 0#32
  ![v716.toNat, 128, 0]
def k0_off206 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v733 : Index := Scalar.indexCast v640
  let c2 : Index := 2#32
  let c0_279 : Index := 0#32
  ![v733.toNat, 2, 0]
def k0_off207 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v741 : Index := Scalar.indexCast v640
  let c3 : Index := 3#32
  let c0_280 : Index := 0#32
  ![v741.toNat, 3, 0]
def k0_off208 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v753 : Index := Scalar.indexCast v640
  let c256_284 : Index := 256#32
  let c0_285 : Index := 0#32
  ![v753.toNat, 256, 0]
def k0_off209 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v770 : Index := Scalar.indexCast v640
  let c4 : Index := 4#32
  let c0_290 : Index := 0#32
  ![v770.toNat, 4, 0]
def k0_off210 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v778 : Index := Scalar.indexCast v640
  let c5 : Index := 5#32
  let c0_291 : Index := 0#32
  ![v778.toNat, 5, 0]
def k0_off211 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v790 : Index := Scalar.indexCast v640
  let c384_295 : Index := 384#32
  let c0_296 : Index := 0#32
  ![v790.toNat, 384, 0]
def k0_off212 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v807 : Index := Scalar.indexCast v640
  let c6 : Index := 6#32
  let c0_301 : Index := 0#32
  ![v807.toNat, 6, 0]
def k0_off213 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v815 : Index := Scalar.indexCast v640
  let c7 : Index := 7#32
  let c0_302 : Index := 0#32
  ![v815.toNat, 7, 0]
def k0_off214 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v827 : Index := Scalar.indexCast v640
  let c512_306 : Index := 512#32
  let c0_307 : Index := 0#32
  ![v827.toNat, 512, 0]
def k0_off215 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v844 : Index := Scalar.indexCast v640
  let c8 : Index := 8#32
  let c0_312 : Index := 0#32
  ![v844.toNat, 8, 0]
def k0_off216 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v852 : Index := Scalar.indexCast v640
  let c9 : Index := 9#32
  let c0_313 : Index := 0#32
  ![v852.toNat, 9, 0]
def k0_off217 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v864 : Index := Scalar.indexCast v640
  let c640_317 : Index := 640#32
  let c0_318 : Index := 0#32
  ![v864.toNat, 640, 0]
def k0_off218 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v881 : Index := Scalar.indexCast v640
  let c10 : Index := 10#32
  let c0_323 : Index := 0#32
  ![v881.toNat, 10, 0]
def k0_off219 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v889 : Index := Scalar.indexCast v640
  let c11 : Index := 11#32
  let c0_324 : Index := 0#32
  ![v889.toNat, 11, 0]
def k0_off220 (v1_0 : BitVec 32) (k0_t3 : Fin (k0_t3_loop v1_0).trips) (c0_i32_328 : BitVec 32) : Fin 2 → Nat :=
  let c0_329 : Index := 0#32
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c3_i32_248 : BitVec 32 := 3#32
  let v642 : BitVec 32 := Scalar.remsi arg14 c3_i32_248
  let c2048_i32 : BitVec 32 := 2048#32
  let v643 : BitVec 32 := Scalar.muli v642 c2048_i32
  let v644 : BitVec 32 := v643
  let v901 : BitVec 32 := Scalar.addi v644 c0_i32_328
  let v902 : Index := Scalar.indexCast v901
  ![0, v902.toNat]
def k0_off221 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v911 : Index := Scalar.indexCast v640
  let c0_331 : Index := 0#32
  let c256_332 : Index := 256#32
  ![v911.toNat, 0, 256]
def k0_off222 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v928 : Index := Scalar.indexCast v640
  let c0_337 : Index := 0#32
  let c256_338 : Index := 256#32
  ![v928.toNat, 0, 256]
def k0_off223 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v936 : Index := Scalar.indexCast v640
  let c1_339 : Index := 1#32
  let c256_340 : Index := 256#32
  ![v936.toNat, 1, 256]
def k0_off224 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v947 : Index := Scalar.indexCast v640
  let c128_344 : Index := 128#32
  let c256_345 : Index := 256#32
  ![v947.toNat, 128, 256]
def k0_off225 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v964 : Index := Scalar.indexCast v640
  let c2_350 : Index := 2#32
  let c256_351 : Index := 256#32
  ![v964.toNat, 2, 256]
def k0_off226 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v972 : Index := Scalar.indexCast v640
  let c3_352 : Index := 3#32
  let c256_353 : Index := 256#32
  ![v972.toNat, 3, 256]
def k0_off227 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v984 : Index := Scalar.indexCast v640
  let c256_357 : Index := 256#32
  let c256_358 : Index := 256#32
  ![v984.toNat, 256, 256]
def k0_off228 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1001 : Index := Scalar.indexCast v640
  let c4_363 : Index := 4#32
  let c256_364 : Index := 256#32
  ![v1001.toNat, 4, 256]
def k0_off229 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1009 : Index := Scalar.indexCast v640
  let c5_365 : Index := 5#32
  let c256_366 : Index := 256#32
  ![v1009.toNat, 5, 256]
def k0_off230 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1021 : Index := Scalar.indexCast v640
  let c384_370 : Index := 384#32
  let c256_371 : Index := 256#32
  ![v1021.toNat, 384, 256]
def k0_off231 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1038 : Index := Scalar.indexCast v640
  let c6_376 : Index := 6#32
  let c256_377 : Index := 256#32
  ![v1038.toNat, 6, 256]
def k0_off232 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1046 : Index := Scalar.indexCast v640
  let c7_378 : Index := 7#32
  let c256_379 : Index := 256#32
  ![v1046.toNat, 7, 256]
def k0_off233 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1058 : Index := Scalar.indexCast v640
  let c512_383 : Index := 512#32
  let c256_384 : Index := 256#32
  ![v1058.toNat, 512, 256]
def k0_off234 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1075 : Index := Scalar.indexCast v640
  let c8_389 : Index := 8#32
  let c256_390 : Index := 256#32
  ![v1075.toNat, 8, 256]
def k0_off235 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1083 : Index := Scalar.indexCast v640
  let c9_391 : Index := 9#32
  let c256_392 : Index := 256#32
  ![v1083.toNat, 9, 256]
def k0_off236 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1095 : Index := Scalar.indexCast v640
  let c640_396 : Index := 640#32
  let c256_397 : Index := 256#32
  ![v1095.toNat, 640, 256]
def k0_off237 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1112 : Index := Scalar.indexCast v640
  let c10_402 : Index := 10#32
  let c256_403 : Index := 256#32
  ![v1112.toNat, 10, 256]
def k0_off238 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1120 : Index := Scalar.indexCast v640
  let c11_404 : Index := 11#32
  let c256_405 : Index := 256#32
  ![v1120.toNat, 11, 256]
def k0_off239 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1142 : Index := Scalar.indexCast v640
  let c0_411 : Index := 0#32
  let c512_412 : Index := 512#32
  ![v1142.toNat, 0, 512]
def k0_off240 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1159 : Index := Scalar.indexCast v640
  let c0_417 : Index := 0#32
  let c512_418 : Index := 512#32
  ![v1159.toNat, 0, 512]
def k0_off241 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1167 : Index := Scalar.indexCast v640
  let c1_419 : Index := 1#32
  let c512_420 : Index := 512#32
  ![v1167.toNat, 1, 512]
def k0_off242 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1178 : Index := Scalar.indexCast v640
  let c128_424 : Index := 128#32
  let c512_425 : Index := 512#32
  ![v1178.toNat, 128, 512]
def k0_off243 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1195 : Index := Scalar.indexCast v640
  let c2_430 : Index := 2#32
  let c512_431 : Index := 512#32
  ![v1195.toNat, 2, 512]
def k0_off244 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1203 : Index := Scalar.indexCast v640
  let c3_432 : Index := 3#32
  let c512_433 : Index := 512#32
  ![v1203.toNat, 3, 512]
def k0_off245 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1215 : Index := Scalar.indexCast v640
  let c256_437 : Index := 256#32
  let c512_438 : Index := 512#32
  ![v1215.toNat, 256, 512]
def k0_off246 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1232 : Index := Scalar.indexCast v640
  let c4_443 : Index := 4#32
  let c512_444 : Index := 512#32
  ![v1232.toNat, 4, 512]
def k0_off247 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1240 : Index := Scalar.indexCast v640
  let c5_445 : Index := 5#32
  let c512_446 : Index := 512#32
  ![v1240.toNat, 5, 512]
def k0_off248 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1252 : Index := Scalar.indexCast v640
  let c384_450 : Index := 384#32
  let c512_451 : Index := 512#32
  ![v1252.toNat, 384, 512]
def k0_off249 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1269 : Index := Scalar.indexCast v640
  let c6_456 : Index := 6#32
  let c512_457 : Index := 512#32
  ![v1269.toNat, 6, 512]
def k0_off250 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1277 : Index := Scalar.indexCast v640
  let c7_458 : Index := 7#32
  let c512_459 : Index := 512#32
  ![v1277.toNat, 7, 512]
def k0_off251 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1289 : Index := Scalar.indexCast v640
  let c512_463 : Index := 512#32
  let c512_464 : Index := 512#32
  ![v1289.toNat, 512, 512]
def k0_off252 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1306 : Index := Scalar.indexCast v640
  let c8_469 : Index := 8#32
  let c512_470 : Index := 512#32
  ![v1306.toNat, 8, 512]
def k0_off253 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1314 : Index := Scalar.indexCast v640
  let c9_471 : Index := 9#32
  let c512_472 : Index := 512#32
  ![v1314.toNat, 9, 512]
def k0_off254 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1326 : Index := Scalar.indexCast v640
  let c640_476 : Index := 640#32
  let c512_477 : Index := 512#32
  ![v1326.toNat, 640, 512]
def k0_off255 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1343 : Index := Scalar.indexCast v640
  let c10_482 : Index := 10#32
  let c512_483 : Index := 512#32
  ![v1343.toNat, 10, 512]
def k0_off256 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1351 : Index := Scalar.indexCast v640
  let c11_484 : Index := 11#32
  let c512_485 : Index := 512#32
  ![v1351.toNat, 11, 512]
def k0_off257 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1373 : Index := Scalar.indexCast v640
  let c0_491 : Index := 0#32
  let c768_492 : Index := 768#32
  ![v1373.toNat, 0, 768]
def k0_off258 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1390 : Index := Scalar.indexCast v640
  let c0_497 : Index := 0#32
  let c768_498 : Index := 768#32
  ![v1390.toNat, 0, 768]
def k0_off259 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1398 : Index := Scalar.indexCast v640
  let c1_499 : Index := 1#32
  let c768_500 : Index := 768#32
  ![v1398.toNat, 1, 768]
def k0_off260 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1409 : Index := Scalar.indexCast v640
  let c128_504 : Index := 128#32
  let c768_505 : Index := 768#32
  ![v1409.toNat, 128, 768]
def k0_off261 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1426 : Index := Scalar.indexCast v640
  let c2_510 : Index := 2#32
  let c768_511 : Index := 768#32
  ![v1426.toNat, 2, 768]
def k0_off262 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1434 : Index := Scalar.indexCast v640
  let c3_512 : Index := 3#32
  let c768_513 : Index := 768#32
  ![v1434.toNat, 3, 768]
def k0_off263 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1446 : Index := Scalar.indexCast v640
  let c256_517 : Index := 256#32
  let c768_518 : Index := 768#32
  ![v1446.toNat, 256, 768]
def k0_off264 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1463 : Index := Scalar.indexCast v640
  let c4_523 : Index := 4#32
  let c768_524 : Index := 768#32
  ![v1463.toNat, 4, 768]
def k0_off265 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1471 : Index := Scalar.indexCast v640
  let c5_525 : Index := 5#32
  let c768_526 : Index := 768#32
  ![v1471.toNat, 5, 768]
def k0_off266 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1483 : Index := Scalar.indexCast v640
  let c384_530 : Index := 384#32
  let c768_531 : Index := 768#32
  ![v1483.toNat, 384, 768]
def k0_off267 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1500 : Index := Scalar.indexCast v640
  let c6_536 : Index := 6#32
  let c768_537 : Index := 768#32
  ![v1500.toNat, 6, 768]
def k0_off268 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1508 : Index := Scalar.indexCast v640
  let c7_538 : Index := 7#32
  let c768_539 : Index := 768#32
  ![v1508.toNat, 7, 768]
def k0_off269 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1520 : Index := Scalar.indexCast v640
  let c512_543 : Index := 512#32
  let c768_544 : Index := 768#32
  ![v1520.toNat, 512, 768]
def k0_off270 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1537 : Index := Scalar.indexCast v640
  let c8_549 : Index := 8#32
  let c768_550 : Index := 768#32
  ![v1537.toNat, 8, 768]
def k0_off271 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1545 : Index := Scalar.indexCast v640
  let c9_551 : Index := 9#32
  let c768_552 : Index := 768#32
  ![v1545.toNat, 9, 768]
def k0_off272 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1557 : Index := Scalar.indexCast v640
  let c640_556 : Index := 640#32
  let c768_557 : Index := 768#32
  ![v1557.toNat, 640, 768]
def k0_off273 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1574 : Index := Scalar.indexCast v640
  let c10_562 : Index := 10#32
  let c768_563 : Index := 768#32
  ![v1574.toNat, 10, 768]
def k0_off274 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1582 : Index := Scalar.indexCast v640
  let c11_564 : Index := 11#32
  let c768_565 : Index := 768#32
  ![v1582.toNat, 11, 768]
def k0_off275 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1604 : Index := Scalar.indexCast v640
  let c0_571 : Index := 0#32
  let c1024_572 : Index := 1024#32
  ![v1604.toNat, 0, 1024]
def k0_off276 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1621 : Index := Scalar.indexCast v640
  let c0_577 : Index := 0#32
  let c1024_578 : Index := 1024#32
  ![v1621.toNat, 0, 1024]
def k0_off277 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1629 : Index := Scalar.indexCast v640
  let c1_579 : Index := 1#32
  let c1024_580 : Index := 1024#32
  ![v1629.toNat, 1, 1024]
def k0_off278 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1640 : Index := Scalar.indexCast v640
  let c128_584 : Index := 128#32
  let c1024_585 : Index := 1024#32
  ![v1640.toNat, 128, 1024]
def k0_off279 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1657 : Index := Scalar.indexCast v640
  let c2_590 : Index := 2#32
  let c1024_591 : Index := 1024#32
  ![v1657.toNat, 2, 1024]
def k0_off280 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1665 : Index := Scalar.indexCast v640
  let c3_592 : Index := 3#32
  let c1024_593 : Index := 1024#32
  ![v1665.toNat, 3, 1024]
def k0_off281 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1677 : Index := Scalar.indexCast v640
  let c256_597 : Index := 256#32
  let c1024_598 : Index := 1024#32
  ![v1677.toNat, 256, 1024]
def k0_off282 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1694 : Index := Scalar.indexCast v640
  let c4_603 : Index := 4#32
  let c1024_604 : Index := 1024#32
  ![v1694.toNat, 4, 1024]
def k0_off283 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1702 : Index := Scalar.indexCast v640
  let c5_605 : Index := 5#32
  let c1024_606 : Index := 1024#32
  ![v1702.toNat, 5, 1024]
def k0_off284 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1714 : Index := Scalar.indexCast v640
  let c384_610 : Index := 384#32
  let c1024_611 : Index := 1024#32
  ![v1714.toNat, 384, 1024]
def k0_off285 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1731 : Index := Scalar.indexCast v640
  let c6_616 : Index := 6#32
  let c1024_617 : Index := 1024#32
  ![v1731.toNat, 6, 1024]
def k0_off286 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1739 : Index := Scalar.indexCast v640
  let c7_618 : Index := 7#32
  let c1024_619 : Index := 1024#32
  ![v1739.toNat, 7, 1024]
def k0_off287 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1751 : Index := Scalar.indexCast v640
  let c512_623 : Index := 512#32
  let c1024_624 : Index := 1024#32
  ![v1751.toNat, 512, 1024]
def k0_off288 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1768 : Index := Scalar.indexCast v640
  let c8_629 : Index := 8#32
  let c1024_630 : Index := 1024#32
  ![v1768.toNat, 8, 1024]
def k0_off289 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1776 : Index := Scalar.indexCast v640
  let c9_631 : Index := 9#32
  let c1024_632 : Index := 1024#32
  ![v1776.toNat, 9, 1024]
def k0_off290 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1788 : Index := Scalar.indexCast v640
  let c640_636 : Index := 640#32
  let c1024_637 : Index := 1024#32
  ![v1788.toNat, 640, 1024]
def k0_off291 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1805 : Index := Scalar.indexCast v640
  let c10_642 : Index := 10#32
  let c1024_643 : Index := 1024#32
  ![v1805.toNat, 10, 1024]
def k0_off292 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1813 : Index := Scalar.indexCast v640
  let c11_644 : Index := 11#32
  let c1024_645 : Index := 1024#32
  ![v1813.toNat, 11, 1024]
def k0_off293 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1835 : Index := Scalar.indexCast v640
  let c0_651 : Index := 0#32
  let c1280_652 : Index := 1280#32
  ![v1835.toNat, 0, 1280]
def k0_off294 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1852 : Index := Scalar.indexCast v640
  let c0_657 : Index := 0#32
  let c1280_658 : Index := 1280#32
  ![v1852.toNat, 0, 1280]
def k0_off295 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1860 : Index := Scalar.indexCast v640
  let c1_659 : Index := 1#32
  let c1280_660 : Index := 1280#32
  ![v1860.toNat, 1, 1280]
def k0_off296 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1871 : Index := Scalar.indexCast v640
  let c128_664 : Index := 128#32
  let c1280_665 : Index := 1280#32
  ![v1871.toNat, 128, 1280]
def k0_off297 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1888 : Index := Scalar.indexCast v640
  let c2_670 : Index := 2#32
  let c1280_671 : Index := 1280#32
  ![v1888.toNat, 2, 1280]
def k0_off298 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1896 : Index := Scalar.indexCast v640
  let c3_672 : Index := 3#32
  let c1280_673 : Index := 1280#32
  ![v1896.toNat, 3, 1280]
def k0_off299 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1908 : Index := Scalar.indexCast v640
  let c256_677 : Index := 256#32
  let c1280_678 : Index := 1280#32
  ![v1908.toNat, 256, 1280]
def k0_off300 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1925 : Index := Scalar.indexCast v640
  let c4_683 : Index := 4#32
  let c1280_684 : Index := 1280#32
  ![v1925.toNat, 4, 1280]
def k0_off301 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1933 : Index := Scalar.indexCast v640
  let c5_685 : Index := 5#32
  let c1280_686 : Index := 1280#32
  ![v1933.toNat, 5, 1280]
def k0_off302 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1945 : Index := Scalar.indexCast v640
  let c384_690 : Index := 384#32
  let c1280_691 : Index := 1280#32
  ![v1945.toNat, 384, 1280]
def k0_off303 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1962 : Index := Scalar.indexCast v640
  let c6_696 : Index := 6#32
  let c1280_697 : Index := 1280#32
  ![v1962.toNat, 6, 1280]
def k0_off304 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1970 : Index := Scalar.indexCast v640
  let c7_698 : Index := 7#32
  let c1280_699 : Index := 1280#32
  ![v1970.toNat, 7, 1280]
def k0_off305 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1982 : Index := Scalar.indexCast v640
  let c512_703 : Index := 512#32
  let c1280_704 : Index := 1280#32
  ![v1982.toNat, 512, 1280]
def k0_off306 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v1999 : Index := Scalar.indexCast v640
  let c8_709 : Index := 8#32
  let c1280_710 : Index := 1280#32
  ![v1999.toNat, 8, 1280]
def k0_off307 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2007 : Index := Scalar.indexCast v640
  let c9_711 : Index := 9#32
  let c1280_712 : Index := 1280#32
  ![v2007.toNat, 9, 1280]
def k0_off308 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2019 : Index := Scalar.indexCast v640
  let c640_716 : Index := 640#32
  let c1280_717 : Index := 1280#32
  ![v2019.toNat, 640, 1280]
def k0_off309 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2036 : Index := Scalar.indexCast v640
  let c10_722 : Index := 10#32
  let c1280_723 : Index := 1280#32
  ![v2036.toNat, 10, 1280]
def k0_off310 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2044 : Index := Scalar.indexCast v640
  let c11_724 : Index := 11#32
  let c1280_725 : Index := 1280#32
  ![v2044.toNat, 11, 1280]
def k0_off311 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2066 : Index := Scalar.indexCast v640
  let c0_731 : Index := 0#32
  let c1536 : Index := 1536#32
  ![v2066.toNat, 0, 1536]
def k0_off312 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2083 : Index := Scalar.indexCast v640
  let c0_736 : Index := 0#32
  let c1536_737 : Index := 1536#32
  ![v2083.toNat, 0, 1536]
def k0_off313 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2091 : Index := Scalar.indexCast v640
  let c1_738 : Index := 1#32
  let c1536_739 : Index := 1536#32
  ![v2091.toNat, 1, 1536]
def k0_off314 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2102 : Index := Scalar.indexCast v640
  let c128_743 : Index := 128#32
  let c1536_744 : Index := 1536#32
  ![v2102.toNat, 128, 1536]
def k0_off315 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2119 : Index := Scalar.indexCast v640
  let c2_749 : Index := 2#32
  let c1536_750 : Index := 1536#32
  ![v2119.toNat, 2, 1536]
def k0_off316 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2127 : Index := Scalar.indexCast v640
  let c3_751 : Index := 3#32
  let c1536_752 : Index := 1536#32
  ![v2127.toNat, 3, 1536]
def k0_off317 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2139 : Index := Scalar.indexCast v640
  let c256_756 : Index := 256#32
  let c1536_757 : Index := 1536#32
  ![v2139.toNat, 256, 1536]
def k0_off318 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2156 : Index := Scalar.indexCast v640
  let c4_762 : Index := 4#32
  let c1536_763 : Index := 1536#32
  ![v2156.toNat, 4, 1536]
def k0_off319 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2164 : Index := Scalar.indexCast v640
  let c5_764 : Index := 5#32
  let c1536_765 : Index := 1536#32
  ![v2164.toNat, 5, 1536]
def k0_off320 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2176 : Index := Scalar.indexCast v640
  let c384_769 : Index := 384#32
  let c1536_770 : Index := 1536#32
  ![v2176.toNat, 384, 1536]
def k0_off321 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2193 : Index := Scalar.indexCast v640
  let c6_775 : Index := 6#32
  let c1536_776 : Index := 1536#32
  ![v2193.toNat, 6, 1536]
def k0_off322 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2201 : Index := Scalar.indexCast v640
  let c7_777 : Index := 7#32
  let c1536_778 : Index := 1536#32
  ![v2201.toNat, 7, 1536]
def k0_off323 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2213 : Index := Scalar.indexCast v640
  let c512_782 : Index := 512#32
  let c1536_783 : Index := 1536#32
  ![v2213.toNat, 512, 1536]
def k0_off324 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2230 : Index := Scalar.indexCast v640
  let c8_788 : Index := 8#32
  let c1536_789 : Index := 1536#32
  ![v2230.toNat, 8, 1536]
def k0_off325 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2238 : Index := Scalar.indexCast v640
  let c9_790 : Index := 9#32
  let c1536_791 : Index := 1536#32
  ![v2238.toNat, 9, 1536]
def k0_off326 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2250 : Index := Scalar.indexCast v640
  let c640_795 : Index := 640#32
  let c1536_796 : Index := 1536#32
  ![v2250.toNat, 640, 1536]
def k0_off327 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2267 : Index := Scalar.indexCast v640
  let c10_801 : Index := 10#32
  let c1536_802 : Index := 1536#32
  ![v2267.toNat, 10, 1536]
def k0_off328 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2275 : Index := Scalar.indexCast v640
  let c11_803 : Index := 11#32
  let c1536_804 : Index := 1536#32
  ![v2275.toNat, 11, 1536]
def k0_off329 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2297 : Index := Scalar.indexCast v640
  let c0_810 : Index := 0#32
  let c1792 : Index := 1792#32
  ![v2297.toNat, 0, 1792]
def k0_off330 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2314 : Index := Scalar.indexCast v640
  let c0_815 : Index := 0#32
  let c1792_816 : Index := 1792#32
  ![v2314.toNat, 0, 1792]
def k0_off331 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2322 : Index := Scalar.indexCast v640
  let c1_817 : Index := 1#32
  let c1792_818 : Index := 1792#32
  ![v2322.toNat, 1, 1792]
def k0_off332 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2333 : Index := Scalar.indexCast v640
  let c128_822 : Index := 128#32
  let c1792_823 : Index := 1792#32
  ![v2333.toNat, 128, 1792]
def k0_off333 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2350 : Index := Scalar.indexCast v640
  let c2_828 : Index := 2#32
  let c1792_829 : Index := 1792#32
  ![v2350.toNat, 2, 1792]
def k0_off334 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2358 : Index := Scalar.indexCast v640
  let c3_830 : Index := 3#32
  let c1792_831 : Index := 1792#32
  ![v2358.toNat, 3, 1792]
def k0_off335 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2370 : Index := Scalar.indexCast v640
  let c256_835 : Index := 256#32
  let c1792_836 : Index := 1792#32
  ![v2370.toNat, 256, 1792]
def k0_off336 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2387 : Index := Scalar.indexCast v640
  let c4_841 : Index := 4#32
  let c1792_842 : Index := 1792#32
  ![v2387.toNat, 4, 1792]
def k0_off337 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2395 : Index := Scalar.indexCast v640
  let c5_843 : Index := 5#32
  let c1792_844 : Index := 1792#32
  ![v2395.toNat, 5, 1792]
def k0_off338 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2407 : Index := Scalar.indexCast v640
  let c384_848 : Index := 384#32
  let c1792_849 : Index := 1792#32
  ![v2407.toNat, 384, 1792]
def k0_off339 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2424 : Index := Scalar.indexCast v640
  let c6_854 : Index := 6#32
  let c1792_855 : Index := 1792#32
  ![v2424.toNat, 6, 1792]
def k0_off340 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2432 : Index := Scalar.indexCast v640
  let c7_856 : Index := 7#32
  let c1792_857 : Index := 1792#32
  ![v2432.toNat, 7, 1792]
def k0_off341 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2444 : Index := Scalar.indexCast v640
  let c512_861 : Index := 512#32
  let c1792_862 : Index := 1792#32
  ![v2444.toNat, 512, 1792]
def k0_off342 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2461 : Index := Scalar.indexCast v640
  let c8_867 : Index := 8#32
  let c1792_868 : Index := 1792#32
  ![v2461.toNat, 8, 1792]
def k0_off343 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2469 : Index := Scalar.indexCast v640
  let c9_869 : Index := 9#32
  let c1792_870 : Index := 1792#32
  ![v2469.toNat, 9, 1792]
def k0_off344 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2481 : Index := Scalar.indexCast v640
  let c640_874 : Index := 640#32
  let c1792_875 : Index := 1792#32
  ![v2481.toNat, 640, 1792]
def k0_off345 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2498 : Index := Scalar.indexCast v640
  let c10_880 : Index := 10#32
  let c1792_881 : Index := 1792#32
  ![v2498.toNat, 10, 1792]
def k0_off346 (v1_0 : BitVec 32) (k0_t3 : Fin (k0_t3_loop v1_0).trips) : Fin 3 → Nat :=
  let c0_i32_238 : BitVec 32 := 0#32
  let c3_i32 : BitVec 32 := 3#32
  let v4 : BitVec 32 := Scalar.muli v1_0 c3_i32
  let v630 : BitVec 32 := Scalar.subi v4 c0_i32_238
  let c1_i32_240 : BitVec 32 := 1#32
  let v632 : BitVec 32 := Scalar.divsi v630 c1_i32_240
  let v633 : BitVec 32 := Scalar.muli v632 c1_i32_240
  let v634 : BitVec 32 := Scalar.addi c0_i32_238 v633
  let c1_i32_242 : BitVec 32 := 1#32
  let arg14 : BitVec 32 := Scf.iv v634 c1_i32_242 k0_t3
  let c4_i32 : BitVec 32 := 4#32
  let v640 : BitVec 32 := Scalar.remsi arg14 c4_i32
  let v2506 : Index := Scalar.indexCast v640
  let c11_882 : Index := 11#32
  let c1792_883 : Index := 1792#32
  ![v2506.toNat, 11, 1792]

def k0_chk2_0 (v1_0 : BitVec 32) : Prop :=
  (∀ a, (k0_off3 v1_0) a + S1.size a ≤ S17.size a) ∧
  ((k0_t2_loop v1_0).OK) ∧
  (∀ k0_t2 : Fin (k0_t2_loop v1_0).trips, 2048 ∣ (k0_mult4 v1_0 k0_t2).toNat) ∧
  (∀ k0_t2 : Fin (k0_t2_loop v1_0).trips, ∀ (k0_h4 : k0_cond4 v1_0 k0_t2 = 1#1), ∀ a, (k0_off25 v1_0 k0_t2) a + S1.size a ≤ S17.size a) ∧
  (∀ k0_t2 : Fin (k0_t2_loop v1_0).trips, ∀ (k0_h4 : k0_cond4 v1_0 k0_t2 = 1#1), 2048 ∣ (k0_mult5 v1_0 k0_t2).toNat) ∧
  (∀ k0_t2 : Fin (k0_t2_loop v1_0).trips, ∀ (k0_h4 : k0_cond4 v1_0 k0_t2 = 1#1), ∀ a, (k0_off26 v1_0 k0_t2) a + S1.size a ≤ S4.size a) ∧
  (∀ k0_t2 : Fin (k0_t2_loop v1_0).trips, ∀ (k0_h4 : k0_cond4 v1_0 k0_t2 = 1#1), ∀ a, (k0_off27 v1_0 k0_t2) a + S1x768x2048.size a ≤ S4x768x2048.size a) ∧
  (∀ k0_t2 : Fin (k0_t2_loop v1_0).trips, ∀ (k0_h4 : k0_cond4 v1_0 k0_t2 = 1#1), ∀ (hinb : ∀ a, (k0_off27 v1_0 k0_t2) a + S1x768x2048.size a ≤ S4x768x2048.size a), (Rect.unit (s := S4x768x2048) (k0_off27 v1_0 k0_t2) S1x768x2048.size hinb).WholeWords (EltTy.packing .i8)) ∧
  (∀ k0_t2 : Fin (k0_t2_loop v1_0).trips, ∀ (k0_h4 : k0_cond4 v1_0 k0_t2 = 1#1), ∀ a, (k0_off29 v1_0 k0_t2) a + S1.size a ≤ S4.size a) ∧
  (∀ k0_t2 : Fin (k0_t2_loop v1_0).trips, ∀ (k0_h4 : k0_cond4 v1_0 k0_t2 = 1#1), ∀ a, (k0_off30 v1_0 k0_t2) a + S1x12x2048.size a ≤ S4x12x2048.size a) ∧
  (∀ k0_t2 : Fin (k0_t2_loop v1_0).trips, ∀ a, (k0_off32 v1_0 k0_t2) a + S1.size a ≤ S17.size a) ∧
  (∀ k0_t2 : Fin (k0_t2_loop v1_0).trips, 2048 ∣ (k0_mult6 v1_0 k0_t2).toNat) ∧
  (∀ k0_t2 : Fin (k0_t2_loop v1_0).trips, ∀ a, (k0_off33 v1_0 k0_t2) a + S1.size a ≤ S4.size a) ∧
  (∀ k0_t2 : Fin (k0_t2_loop v1_0).trips, ∀ a, (k0_off34 v1_0 k0_t2) a + S1x768x2048.size a ≤ S4x768x2048.size a) ∧
  (∀ k0_t2 : Fin (k0_t2_loop v1_0).trips, ∀ (hinb : ∀ a, (k0_off34 v1_0 k0_t2) a + S1x768x2048.size a ≤ S4x768x2048.size a), (Rect.unit (s := S4x768x2048) (k0_off34 v1_0 k0_t2) S1x768x2048.size hinb).WholeWords (EltTy.packing .i8)) ∧
  (∀ k0_t2 : Fin (k0_t2_loop v1_0).trips, ∀ a, (k0_off36 v1_0 k0_t2) a + S1.size a ≤ S4.size a) ∧
  (∀ k0_t2 : Fin (k0_t2_loop v1_0).trips, ∀ a, (k0_off37 v1_0 k0_t2) a + S1x12x2048.size a ≤ S4x12x2048.size a) ∧
  (∀ k0_t2 : Fin (k0_t2_loop v1_0).trips, ∀ a, (k0_off39 v1_0 k0_t2) a + S1.size a ≤ S17.size a) ∧
  (∀ k0_t2 : Fin (k0_t2_loop v1_0).trips, ∀ a, (k0_off40 v1_0 k0_t2) a + S1.size a ≤ S17.size a) ∧
  (∀ k0_t2 : Fin (k0_t2_loop v1_0).trips, ∀ a, (k0_off41 v1_0 k0_t2) a + S1x128x256.size a ≤ S4x768x2048.size a) ∧
  (∀ k0_t2 : Fin (k0_t2_loop v1_0).trips, ∀ a, (k0_off42 v1_0 k0_t2) a + S1x1x256.size a ≤ S4x12x2048.size a) ∧
  (∀ k0_t2 : Fin (k0_t2_loop v1_0).trips, ∀ a, (k0_off43 v1_0 k0_t2) a + S1x1x256.size a ≤ S4x12x2048.size a) ∧
  (∀ k0_t2 : Fin (k0_t2_loop v1_0).trips, ∀ a, (k0_off44 v1_0 k0_t2) a + S1x128x256.size a ≤ S4x768x2048.size a) ∧
  (∀ k0_t2 : Fin (k0_t2_loop v1_0).trips, ∀ a, (k0_off45 v1_0 k0_t2) a + S1x1x256.size a ≤ S4x12x2048.size a) ∧
  (∀ k0_t2 : Fin (k0_t2_loop v1_0).trips, ∀ a, (k0_off46 v1_0 k0_t2) a + S1x1x256.size a ≤ S4x12x2048.size a) ∧
  (∀ k0_t2 : Fin (k0_t2_loop v1_0).trips, ∀ a, (k0_off47 v1_0 k0_t2) a + S1x128x256.size a ≤ S4x768x2048.size a) ∧
  (∀ k0_t2 : Fin (k0_t2_loop v1_0).trips, ∀ a, (k0_off48 v1_0 k0_t2) a + S1x1x256.size a ≤ S4x12x2048.size a) ∧
  (∀ k0_t2 : Fin (k0_t2_loop v1_0).trips, ∀ a, (k0_off49 v1_0 k0_t2) a + S1x1x256.size a ≤ S4x12x2048.size a) ∧
  (∀ k0_t2 : Fin (k0_t2_loop v1_0).trips, ∀ a, (k0_off50 v1_0 k0_t2) a + S1x128x256.size a ≤ S4x768x2048.size a) ∧
  (∀ k0_t2 : Fin (k0_t2_loop v1_0).trips, ∀ a, (k0_off51 v1_0 k0_t2) a + S1x1x256.size a ≤ S4x12x2048.size a) ∧
  (∀ k0_t2 : Fin (k0_t2_loop v1_0).trips, ∀ a, (k0_off52 v1_0 k0_t2) a + S1x1x256.size a ≤ S4x12x2048.size a) ∧
  (∀ k0_t2 : Fin (k0_t2_loop v1_0).trips, ∀ a, (k0_off53 v1_0 k0_t2) a + S1x128x256.size a ≤ S4x768x2048.size a)
def k0_chk2_1 (v1_0 : BitVec 32) : Prop :=
  (∀ k0_t2 : Fin (k0_t2_loop v1_0).trips, ∀ a, (k0_off54 v1_0 k0_t2) a + S1x1x256.size a ≤ S4x12x2048.size a) ∧
  (∀ k0_t2 : Fin (k0_t2_loop v1_0).trips, ∀ a, (k0_off55 v1_0 k0_t2) a + S1x1x256.size a ≤ S4x12x2048.size a) ∧
  (∀ k0_t2 : Fin (k0_t2_loop v1_0).trips, ∀ a, (k0_off56 v1_0 k0_t2) a + S1x128x256.size a ≤ S4x768x2048.size a) ∧
  (∀ k0_t2 : Fin (k0_t2_loop v1_0).trips, ∀ a, (k0_off57 v1_0 k0_t2) a + S1x1x256.size a ≤ S4x12x2048.size a) ∧
  (∀ k0_t2 : Fin (k0_t2_loop v1_0).trips, ∀ a, (k0_off58 v1_0 k0_t2) a + S1x1x256.size a ≤ S4x12x2048.size a) ∧
  (∀ k0_t2 : Fin (k0_t2_loop v1_0).trips, ∀ (r : Fin 8), ∀ a, (k0_off59 v1_0 k0_t2 (BitVec.ofNat 32 (256 * r.val))) a + S64x256.size a ≤ S64x6144.size a) ∧
  (∀ k0_t2 : Fin (k0_t2_loop v1_0).trips, ∀ a, (k0_off60 v1_0 k0_t2) a + S1x128x256.size a ≤ S4x768x2048.size a) ∧
  (∀ k0_t2 : Fin (k0_t2_loop v1_0).trips, ∀ a, (k0_off61 v1_0 k0_t2) a + S1x1x256.size a ≤ S4x12x2048.size a) ∧
  (∀ k0_t2 : Fin (k0_t2_loop v1_0).trips, ∀ a, (k0_off62 v1_0 k0_t2) a + S1x1x256.size a ≤ S4x12x2048.size a) ∧
  (∀ k0_t2 : Fin (k0_t2_loop v1_0).trips, ∀ a, (k0_off63 v1_0 k0_t2) a + S1x128x256.size a ≤ S4x768x2048.size a) ∧
  (∀ k0_t2 : Fin (k0_t2_loop v1_0).trips, ∀ a, (k0_off64 v1_0 k0_t2) a + S1x1x256.size a ≤ S4x12x2048.size a) ∧
  (∀ k0_t2 : Fin (k0_t2_loop v1_0).trips, ∀ a, (k0_off65 v1_0 k0_t2) a + S1x1x256.size a ≤ S4x12x2048.size a) ∧
  (∀ k0_t2 : Fin (k0_t2_loop v1_0).trips, ∀ a, (k0_off66 v1_0 k0_t2) a + S1x128x256.size a ≤ S4x768x2048.size a) ∧
  (∀ k0_t2 : Fin (k0_t2_loop v1_0).trips, ∀ a, (k0_off67 v1_0 k0_t2) a + S1x1x256.size a ≤ S4x12x2048.size a) ∧
  (∀ k0_t2 : Fin (k0_t2_loop v1_0).trips, ∀ a, (k0_off68 v1_0 k0_t2) a + S1x1x256.size a ≤ S4x12x2048.size a) ∧
  (∀ k0_t2 : Fin (k0_t2_loop v1_0).trips, ∀ a, (k0_off69 v1_0 k0_t2) a + S1x128x256.size a ≤ S4x768x2048.size a) ∧
  (∀ k0_t2 : Fin (k0_t2_loop v1_0).trips, ∀ a, (k0_off70 v1_0 k0_t2) a + S1x1x256.size a ≤ S4x12x2048.size a) ∧
  (∀ k0_t2 : Fin (k0_t2_loop v1_0).trips, ∀ a, (k0_off71 v1_0 k0_t2) a + S1x1x256.size a ≤ S4x12x2048.size a) ∧
  (∀ k0_t2 : Fin (k0_t2_loop v1_0).trips, ∀ a, (k0_off72 v1_0 k0_t2) a + S1x128x256.size a ≤ S4x768x2048.size a) ∧
  (∀ k0_t2 : Fin (k0_t2_loop v1_0).trips, ∀ a, (k0_off73 v1_0 k0_t2) a + S1x1x256.size a ≤ S4x12x2048.size a) ∧
  (∀ k0_t2 : Fin (k0_t2_loop v1_0).trips, ∀ a, (k0_off74 v1_0 k0_t2) a + S1x1x256.size a ≤ S4x12x2048.size a) ∧
  (∀ k0_t2 : Fin (k0_t2_loop v1_0).trips, ∀ a, (k0_off75 v1_0 k0_t2) a + S1x128x256.size a ≤ S4x768x2048.size a) ∧
  (∀ k0_t2 : Fin (k0_t2_loop v1_0).trips, ∀ a, (k0_off76 v1_0 k0_t2) a + S1x1x256.size a ≤ S4x12x2048.size a) ∧
  (∀ k0_t2 : Fin (k0_t2_loop v1_0).trips, ∀ a, (k0_off77 v1_0 k0_t2) a + S1x1x256.size a ≤ S4x12x2048.size a) ∧
  (∀ k0_t2 : Fin (k0_t2_loop v1_0).trips, ∀ a, (k0_off78 v1_0 k0_t2) a + S1x128x256.size a ≤ S4x768x2048.size a) ∧
  (∀ k0_t2 : Fin (k0_t2_loop v1_0).trips, ∀ a, (k0_off79 v1_0 k0_t2) a + S1x1x256.size a ≤ S4x12x2048.size a) ∧
  (∀ k0_t2 : Fin (k0_t2_loop v1_0).trips, ∀ a, (k0_off80 v1_0 k0_t2) a + S1x1x256.size a ≤ S4x12x2048.size a) ∧
  (∀ k0_t2 : Fin (k0_t2_loop v1_0).trips, ∀ a, (k0_off81 v1_0 k0_t2) a + S1x128x256.size a ≤ S4x768x2048.size a) ∧
  (∀ k0_t2 : Fin (k0_t2_loop v1_0).trips, ∀ a, (k0_off82 v1_0 k0_t2) a + S1x1x256.size a ≤ S4x12x2048.size a) ∧
  (∀ k0_t2 : Fin (k0_t2_loop v1_0).trips, ∀ a, (k0_off83 v1_0 k0_t2) a + S1x1x256.size a ≤ S4x12x2048.size a) ∧
  (∀ k0_t2 : Fin (k0_t2_loop v1_0).trips, ∀ a, (k0_off84 v1_0 k0_t2) a + S1x128x256.size a ≤ S4x768x2048.size a) ∧
  (∀ k0_t2 : Fin (k0_t2_loop v1_0).trips, ∀ a, (k0_off85 v1_0 k0_t2) a + S1x1x256.size a ≤ S4x12x2048.size a)
def k0_chk2_2 (v1_0 : BitVec 32) : Prop :=
  (∀ k0_t2 : Fin (k0_t2_loop v1_0).trips, ∀ a, (k0_off86 v1_0 k0_t2) a + S1x1x256.size a ≤ S4x12x2048.size a) ∧
  (∀ k0_t2 : Fin (k0_t2_loop v1_0).trips, ∀ a, (k0_off87 v1_0 k0_t2) a + S1x128x256.size a ≤ S4x768x2048.size a) ∧
  (∀ k0_t2 : Fin (k0_t2_loop v1_0).trips, ∀ a, (k0_off88 v1_0 k0_t2) a + S1x1x256.size a ≤ S4x12x2048.size a) ∧
  (∀ k0_t2 : Fin (k0_t2_loop v1_0).trips, ∀ a, (k0_off89 v1_0 k0_t2) a + S1x1x256.size a ≤ S4x12x2048.size a) ∧
  (∀ k0_t2 : Fin (k0_t2_loop v1_0).trips, ∀ a, (k0_off90 v1_0 k0_t2) a + S1x128x256.size a ≤ S4x768x2048.size a) ∧
  (∀ k0_t2 : Fin (k0_t2_loop v1_0).trips, ∀ a, (k0_off91 v1_0 k0_t2) a + S1x1x256.size a ≤ S4x12x2048.size a) ∧
  (∀ k0_t2 : Fin (k0_t2_loop v1_0).trips, ∀ a, (k0_off92 v1_0 k0_t2) a + S1x1x256.size a ≤ S4x12x2048.size a) ∧
  (∀ k0_t2 : Fin (k0_t2_loop v1_0).trips, ∀ a, (k0_off93 v1_0 k0_t2) a + S1x128x256.size a ≤ S4x768x2048.size a) ∧
  (∀ k0_t2 : Fin (k0_t2_loop v1_0).trips, ∀ a, (k0_off94 v1_0 k0_t2) a + S1x1x256.size a ≤ S4x12x2048.size a) ∧
  (∀ k0_t2 : Fin (k0_t2_loop v1_0).trips, ∀ a, (k0_off95 v1_0 k0_t2) a + S1x1x256.size a ≤ S4x12x2048.size a) ∧
  (∀ k0_t2 : Fin (k0_t2_loop v1_0).trips, ∀ a, (k0_off96 v1_0 k0_t2) a + S1x128x256.size a ≤ S4x768x2048.size a) ∧
  (∀ k0_t2 : Fin (k0_t2_loop v1_0).trips, ∀ a, (k0_off97 v1_0 k0_t2) a + S1x1x256.size a ≤ S4x12x2048.size a) ∧
  (∀ k0_t2 : Fin (k0_t2_loop v1_0).trips, ∀ a, (k0_off98 v1_0 k0_t2) a + S1x1x256.size a ≤ S4x12x2048.size a) ∧
  (∀ k0_t2 : Fin (k0_t2_loop v1_0).trips, ∀ a, (k0_off99 v1_0 k0_t2) a + S1x128x256.size a ≤ S4x768x2048.size a) ∧
  (∀ k0_t2 : Fin (k0_t2_loop v1_0).trips, ∀ a, (k0_off100 v1_0 k0_t2) a + S1x1x256.size a ≤ S4x12x2048.size a) ∧
  (∀ k0_t2 : Fin (k0_t2_loop v1_0).trips, ∀ a, (k0_off101 v1_0 k0_t2) a + S1x1x256.size a ≤ S4x12x2048.size a) ∧
  (∀ k0_t2 : Fin (k0_t2_loop v1_0).trips, ∀ a, (k0_off102 v1_0 k0_t2) a + S1x128x256.size a ≤ S4x768x2048.size a) ∧
  (∀ k0_t2 : Fin (k0_t2_loop v1_0).trips, ∀ a, (k0_off103 v1_0 k0_t2) a + S1x1x256.size a ≤ S4x12x2048.size a) ∧
  (∀ k0_t2 : Fin (k0_t2_loop v1_0).trips, ∀ a, (k0_off104 v1_0 k0_t2) a + S1x1x256.size a ≤ S4x12x2048.size a) ∧
  (∀ k0_t2 : Fin (k0_t2_loop v1_0).trips, ∀ a, (k0_off105 v1_0 k0_t2) a + S1x128x256.size a ≤ S4x768x2048.size a) ∧
  (∀ k0_t2 : Fin (k0_t2_loop v1_0).trips, ∀ a, (k0_off106 v1_0 k0_t2) a + S1x1x256.size a ≤ S4x12x2048.size a) ∧
  (∀ k0_t2 : Fin (k0_t2_loop v1_0).trips, ∀ a, (k0_off107 v1_0 k0_t2) a + S1x1x256.size a ≤ S4x12x2048.size a) ∧
  (∀ k0_t2 : Fin (k0_t2_loop v1_0).trips, ∀ a, (k0_off108 v1_0 k0_t2) a + S1x128x256.size a ≤ S4x768x2048.size a) ∧
  (∀ k0_t2 : Fin (k0_t2_loop v1_0).trips, ∀ a, (k0_off109 v1_0 k0_t2) a + S1x1x256.size a ≤ S4x12x2048.size a) ∧
  (∀ k0_t2 : Fin (k0_t2_loop v1_0).trips, ∀ a, (k0_off110 v1_0 k0_t2) a + S1x1x256.size a ≤ S4x12x2048.size a) ∧
  (∀ k0_t2 : Fin (k0_t2_loop v1_0).trips, ∀ a, (k0_off111 v1_0 k0_t2) a + S1x128x256.size a ≤ S4x768x2048.size a) ∧
  (∀ k0_t2 : Fin (k0_t2_loop v1_0).trips, ∀ a, (k0_off112 v1_0 k0_t2) a + S1x1x256.size a ≤ S4x12x2048.size a) ∧
  (∀ k0_t2 : Fin (k0_t2_loop v1_0).trips, ∀ a, (k0_off113 v1_0 k0_t2) a + S1x1x256.size a ≤ S4x12x2048.size a) ∧
  (∀ k0_t2 : Fin (k0_t2_loop v1_0).trips, ∀ a, (k0_off114 v1_0 k0_t2) a + S1x128x256.size a ≤ S4x768x2048.size a) ∧
  (∀ k0_t2 : Fin (k0_t2_loop v1_0).trips, ∀ a, (k0_off115 v1_0 k0_t2) a + S1x1x256.size a ≤ S4x12x2048.size a) ∧
  (∀ k0_t2 : Fin (k0_t2_loop v1_0).trips, ∀ a, (k0_off116 v1_0 k0_t2) a + S1x1x256.size a ≤ S4x12x2048.size a) ∧
  (∀ k0_t2 : Fin (k0_t2_loop v1_0).trips, ∀ a, (k0_off117 v1_0 k0_t2) a + S1x128x256.size a ≤ S4x768x2048.size a)
def k0_chk2_3 (v1_0 : BitVec 32) : Prop :=
  (∀ k0_t2 : Fin (k0_t2_loop v1_0).trips, ∀ a, (k0_off118 v1_0 k0_t2) a + S1x1x256.size a ≤ S4x12x2048.size a) ∧
  (∀ k0_t2 : Fin (k0_t2_loop v1_0).trips, ∀ a, (k0_off119 v1_0 k0_t2) a + S1x1x256.size a ≤ S4x12x2048.size a) ∧
  (∀ k0_t2 : Fin (k0_t2_loop v1_0).trips, ∀ a, (k0_off120 v1_0 k0_t2) a + S1x128x256.size a ≤ S4x768x2048.size a) ∧
  (∀ k0_t2 : Fin (k0_t2_loop v1_0).trips, ∀ a, (k0_off121 v1_0 k0_t2) a + S1x1x256.size a ≤ S4x12x2048.size a) ∧
  (∀ k0_t2 : Fin (k0_t2_loop v1_0).trips, ∀ a, (k0_off122 v1_0 k0_t2) a + S1x1x256.size a ≤ S4x12x2048.size a) ∧
  (∀ k0_t2 : Fin (k0_t2_loop v1_0).trips, ∀ a, (k0_off123 v1_0 k0_t2) a + S1x128x256.size a ≤ S4x768x2048.size a) ∧
  (∀ k0_t2 : Fin (k0_t2_loop v1_0).trips, ∀ a, (k0_off124 v1_0 k0_t2) a + S1x1x256.size a ≤ S4x12x2048.size a) ∧
  (∀ k0_t2 : Fin (k0_t2_loop v1_0).trips, ∀ a, (k0_off125 v1_0 k0_t2) a + S1x1x256.size a ≤ S4x12x2048.size a) ∧
  (∀ k0_t2 : Fin (k0_t2_loop v1_0).trips, ∀ a, (k0_off126 v1_0 k0_t2) a + S1x128x256.size a ≤ S4x768x2048.size a) ∧
  (∀ k0_t2 : Fin (k0_t2_loop v1_0).trips, ∀ a, (k0_off127 v1_0 k0_t2) a + S1x1x256.size a ≤ S4x12x2048.size a) ∧
  (∀ k0_t2 : Fin (k0_t2_loop v1_0).trips, ∀ a, (k0_off128 v1_0 k0_t2) a + S1x1x256.size a ≤ S4x12x2048.size a) ∧
  (∀ k0_t2 : Fin (k0_t2_loop v1_0).trips, ∀ a, (k0_off129 v1_0 k0_t2) a + S1x128x256.size a ≤ S4x768x2048.size a) ∧
  (∀ k0_t2 : Fin (k0_t2_loop v1_0).trips, ∀ a, (k0_off130 v1_0 k0_t2) a + S1x1x256.size a ≤ S4x12x2048.size a) ∧
  (∀ k0_t2 : Fin (k0_t2_loop v1_0).trips, ∀ a, (k0_off131 v1_0 k0_t2) a + S1x1x256.size a ≤ S4x12x2048.size a) ∧
  (∀ k0_t2 : Fin (k0_t2_loop v1_0).trips, ∀ a, (k0_off132 v1_0 k0_t2) a + S1x128x256.size a ≤ S4x768x2048.size a) ∧
  (∀ k0_t2 : Fin (k0_t2_loop v1_0).trips, ∀ a, (k0_off133 v1_0 k0_t2) a + S1x1x256.size a ≤ S4x12x2048.size a) ∧
  (∀ k0_t2 : Fin (k0_t2_loop v1_0).trips, ∀ a, (k0_off134 v1_0 k0_t2) a + S1x1x256.size a ≤ S4x12x2048.size a) ∧
  (∀ k0_t2 : Fin (k0_t2_loop v1_0).trips, ∀ a, (k0_off135 v1_0 k0_t2) a + S1x128x256.size a ≤ S4x768x2048.size a) ∧
  (∀ k0_t2 : Fin (k0_t2_loop v1_0).trips, ∀ a, (k0_off136 v1_0 k0_t2) a + S1x1x256.size a ≤ S4x12x2048.size a) ∧
  (∀ k0_t2 : Fin (k0_t2_loop v1_0).trips, ∀ a, (k0_off137 v1_0 k0_t2) a + S1x1x256.size a ≤ S4x12x2048.size a) ∧
  (∀ k0_t2 : Fin (k0_t2_loop v1_0).trips, ∀ a, (k0_off138 v1_0 k0_t2) a + S1x128x256.size a ≤ S4x768x2048.size a) ∧
  (∀ k0_t2 : Fin (k0_t2_loop v1_0).trips, ∀ a, (k0_off139 v1_0 k0_t2) a + S1x1x256.size a ≤ S4x12x2048.size a) ∧
  (∀ k0_t2 : Fin (k0_t2_loop v1_0).trips, ∀ a, (k0_off140 v1_0 k0_t2) a + S1x1x256.size a ≤ S4x12x2048.size a) ∧
  (∀ k0_t2 : Fin (k0_t2_loop v1_0).trips, ∀ a, (k0_off141 v1_0 k0_t2) a + S1x128x256.size a ≤ S4x768x2048.size a) ∧
  (∀ k0_t2 : Fin (k0_t2_loop v1_0).trips, ∀ a, (k0_off142 v1_0 k0_t2) a + S1x1x256.size a ≤ S4x12x2048.size a) ∧
  (∀ k0_t2 : Fin (k0_t2_loop v1_0).trips, ∀ a, (k0_off143 v1_0 k0_t2) a + S1x1x256.size a ≤ S4x12x2048.size a) ∧
  (∀ k0_t2 : Fin (k0_t2_loop v1_0).trips, ∀ a, (k0_off144 v1_0 k0_t2) a + S1x128x256.size a ≤ S4x768x2048.size a) ∧
  (∀ k0_t2 : Fin (k0_t2_loop v1_0).trips, ∀ a, (k0_off145 v1_0 k0_t2) a + S1x1x256.size a ≤ S4x12x2048.size a) ∧
  (∀ k0_t2 : Fin (k0_t2_loop v1_0).trips, ∀ a, (k0_off146 v1_0 k0_t2) a + S1x1x256.size a ≤ S4x12x2048.size a) ∧
  (∀ k0_t2 : Fin (k0_t2_loop v1_0).trips, ∀ a, (k0_off147 v1_0 k0_t2) a + S1x128x256.size a ≤ S4x768x2048.size a) ∧
  (∀ k0_t2 : Fin (k0_t2_loop v1_0).trips, ∀ a, (k0_off148 v1_0 k0_t2) a + S1x1x256.size a ≤ S4x12x2048.size a) ∧
  (∀ k0_t2 : Fin (k0_t2_loop v1_0).trips, ∀ a, (k0_off149 v1_0 k0_t2) a + S1x1x256.size a ≤ S4x12x2048.size a)
def k0_chk2_4 (v1_0 : BitVec 32) : Prop :=
  (∀ k0_t2 : Fin (k0_t2_loop v1_0).trips, ∀ a, (k0_off150 v1_0 k0_t2) a + S1x128x256.size a ≤ S4x768x2048.size a) ∧
  (∀ k0_t2 : Fin (k0_t2_loop v1_0).trips, ∀ a, (k0_off151 v1_0 k0_t2) a + S1x1x256.size a ≤ S4x12x2048.size a) ∧
  (∀ k0_t2 : Fin (k0_t2_loop v1_0).trips, ∀ a, (k0_off152 v1_0 k0_t2) a + S1x1x256.size a ≤ S4x12x2048.size a) ∧
  (∀ k0_t2 : Fin (k0_t2_loop v1_0).trips, ∀ a, (k0_off153 v1_0 k0_t2) a + S1x128x256.size a ≤ S4x768x2048.size a) ∧
  (∀ k0_t2 : Fin (k0_t2_loop v1_0).trips, ∀ a, (k0_off154 v1_0 k0_t2) a + S1x1x256.size a ≤ S4x12x2048.size a) ∧
  (∀ k0_t2 : Fin (k0_t2_loop v1_0).trips, ∀ a, (k0_off155 v1_0 k0_t2) a + S1x1x256.size a ≤ S4x12x2048.size a) ∧
  (∀ k0_t2 : Fin (k0_t2_loop v1_0).trips, ∀ a, (k0_off156 v1_0 k0_t2) a + S1x128x256.size a ≤ S4x768x2048.size a) ∧
  (∀ k0_t2 : Fin (k0_t2_loop v1_0).trips, ∀ a, (k0_off157 v1_0 k0_t2) a + S1x1x256.size a ≤ S4x12x2048.size a) ∧
  (∀ k0_t2 : Fin (k0_t2_loop v1_0).trips, ∀ a, (k0_off158 v1_0 k0_t2) a + S1x1x256.size a ≤ S4x12x2048.size a) ∧
  (∀ k0_t2 : Fin (k0_t2_loop v1_0).trips, ∀ a, (k0_off159 v1_0 k0_t2) a + S1x128x256.size a ≤ S4x768x2048.size a) ∧
  (∀ k0_t2 : Fin (k0_t2_loop v1_0).trips, ∀ a, (k0_off160 v1_0 k0_t2) a + S1x1x256.size a ≤ S4x12x2048.size a) ∧
  (∀ k0_t2 : Fin (k0_t2_loop v1_0).trips, ∀ a, (k0_off161 v1_0 k0_t2) a + S1x1x256.size a ≤ S4x12x2048.size a) ∧
  (∀ k0_t2 : Fin (k0_t2_loop v1_0).trips, ∀ a, (k0_off162 v1_0 k0_t2) a + S1x128x256.size a ≤ S4x768x2048.size a) ∧
  (∀ k0_t2 : Fin (k0_t2_loop v1_0).trips, ∀ a, (k0_off163 v1_0 k0_t2) a + S1x1x256.size a ≤ S4x12x2048.size a) ∧
  (∀ k0_t2 : Fin (k0_t2_loop v1_0).trips, ∀ a, (k0_off164 v1_0 k0_t2) a + S1x1x256.size a ≤ S4x12x2048.size a) ∧
  (∀ k0_t2 : Fin (k0_t2_loop v1_0).trips, ∀ a, (k0_off165 v1_0 k0_t2) a + S1x128x256.size a ≤ S4x768x2048.size a) ∧
  (∀ k0_t2 : Fin (k0_t2_loop v1_0).trips, ∀ a, (k0_off166 v1_0 k0_t2) a + S1x1x256.size a ≤ S4x12x2048.size a) ∧
  (∀ k0_t2 : Fin (k0_t2_loop v1_0).trips, ∀ a, (k0_off167 v1_0 k0_t2) a + S1x1x256.size a ≤ S4x12x2048.size a) ∧
  (∀ k0_t2 : Fin (k0_t2_loop v1_0).trips, ∀ a, (k0_off168 v1_0 k0_t2) a + S1x128x256.size a ≤ S4x768x2048.size a) ∧
  (∀ k0_t2 : Fin (k0_t2_loop v1_0).trips, ∀ a, (k0_off169 v1_0 k0_t2) a + S1x1x256.size a ≤ S4x12x2048.size a) ∧
  (∀ k0_t2 : Fin (k0_t2_loop v1_0).trips, ∀ a, (k0_off170 v1_0 k0_t2) a + S1x1x256.size a ≤ S4x12x2048.size a) ∧
  (∀ k0_t2 : Fin (k0_t2_loop v1_0).trips, ∀ a, (k0_off171 v1_0 k0_t2) a + S1x128x256.size a ≤ S4x768x2048.size a) ∧
  (∀ k0_t2 : Fin (k0_t2_loop v1_0).trips, ∀ a, (k0_off172 v1_0 k0_t2) a + S1x1x256.size a ≤ S4x12x2048.size a) ∧
  (∀ k0_t2 : Fin (k0_t2_loop v1_0).trips, ∀ a, (k0_off173 v1_0 k0_t2) a + S1x1x256.size a ≤ S4x12x2048.size a) ∧
  (∀ k0_t2 : Fin (k0_t2_loop v1_0).trips, ∀ a, (k0_off174 v1_0 k0_t2) a + S1x128x256.size a ≤ S4x768x2048.size a) ∧
  (∀ k0_t2 : Fin (k0_t2_loop v1_0).trips, ∀ a, (k0_off175 v1_0 k0_t2) a + S1x1x256.size a ≤ S4x12x2048.size a) ∧
  (∀ k0_t2 : Fin (k0_t2_loop v1_0).trips, ∀ a, (k0_off176 v1_0 k0_t2) a + S1x1x256.size a ≤ S4x12x2048.size a) ∧
  (∀ k0_t2 : Fin (k0_t2_loop v1_0).trips, ∀ a, (k0_off177 v1_0 k0_t2) a + S1x128x256.size a ≤ S4x768x2048.size a) ∧
  (∀ k0_t2 : Fin (k0_t2_loop v1_0).trips, ∀ a, (k0_off178 v1_0 k0_t2) a + S1x1x256.size a ≤ S4x12x2048.size a) ∧
  (∀ k0_t2 : Fin (k0_t2_loop v1_0).trips, ∀ a, (k0_off179 v1_0 k0_t2) a + S1x1x256.size a ≤ S4x12x2048.size a) ∧
  (∀ k0_t2 : Fin (k0_t2_loop v1_0).trips, ∀ a, (k0_off180 v1_0 k0_t2) a + S1x128x256.size a ≤ S4x768x2048.size a) ∧
  (∀ k0_t2 : Fin (k0_t2_loop v1_0).trips, ∀ a, (k0_off181 v1_0 k0_t2) a + S1x1x256.size a ≤ S4x12x2048.size a)
def k0_chk2_5 (v1_0 : BitVec 32) : Prop :=
  (∀ k0_t2 : Fin (k0_t2_loop v1_0).trips, ∀ a, (k0_off182 v1_0 k0_t2) a + S1x1x256.size a ≤ S4x12x2048.size a) ∧
  (∀ k0_t2 : Fin (k0_t2_loop v1_0).trips, ∀ a, (k0_off183 v1_0 k0_t2) a + S1x128x256.size a ≤ S4x768x2048.size a) ∧
  (∀ k0_t2 : Fin (k0_t2_loop v1_0).trips, ∀ a, (k0_off184 v1_0 k0_t2) a + S1x1x256.size a ≤ S4x12x2048.size a) ∧
  (∀ k0_t2 : Fin (k0_t2_loop v1_0).trips, ∀ a, (k0_off185 v1_0 k0_t2) a + S1x1x256.size a ≤ S4x12x2048.size a) ∧
  ((k0_t3_loop v1_0).OK) ∧
  (∀ k0_t3 : Fin (k0_t3_loop v1_0).trips, 2048 ∣ (k0_mult7 v1_0 k0_t3).toNat) ∧
  (∀ k0_t3 : Fin (k0_t3_loop v1_0).trips, ∀ (k0_h5 : k0_cond5 v1_0 k0_t3 = 1#1), ∀ a, (k0_off186 v1_0 k0_t3) a + S1.size a ≤ S17.size a) ∧
  (∀ k0_t3 : Fin (k0_t3_loop v1_0).trips, ∀ (k0_h5 : k0_cond5 v1_0 k0_t3 = 1#1), 2048 ∣ (k0_mult8 v1_0 k0_t3).toNat) ∧
  (∀ k0_t3 : Fin (k0_t3_loop v1_0).trips, ∀ (k0_h5 : k0_cond5 v1_0 k0_t3 = 1#1), ∀ a, (k0_off187 v1_0 k0_t3) a + S1.size a ≤ S4.size a) ∧
  (∀ k0_t3 : Fin (k0_t3_loop v1_0).trips, ∀ (k0_h5 : k0_cond5 v1_0 k0_t3 = 1#1), ∀ a, (k0_off188 v1_0 k0_t3) a + S1x768x2048.size a ≤ S4x768x2048.size a) ∧
  (∀ k0_t3 : Fin (k0_t3_loop v1_0).trips, ∀ (k0_h5 : k0_cond5 v1_0 k0_t3 = 1#1), ∀ (hinb : ∀ a, (k0_off188 v1_0 k0_t3) a + S1x768x2048.size a ≤ S4x768x2048.size a), (Rect.unit (s := S4x768x2048) (k0_off188 v1_0 k0_t3) S1x768x2048.size hinb).WholeWords (EltTy.packing .i8)) ∧
  (∀ k0_t3 : Fin (k0_t3_loop v1_0).trips, ∀ (k0_h5 : k0_cond5 v1_0 k0_t3 = 1#1), ∀ a, (k0_off190 v1_0 k0_t3) a + S1.size a ≤ S4.size a) ∧
  (∀ k0_t3 : Fin (k0_t3_loop v1_0).trips, ∀ (k0_h5 : k0_cond5 v1_0 k0_t3 = 1#1), ∀ a, (k0_off191 v1_0 k0_t3) a + S1x12x2048.size a ≤ S4x12x2048.size a) ∧
  (∀ k0_t3 : Fin (k0_t3_loop v1_0).trips, ∀ a, (k0_off193 v1_0 k0_t3) a + S1.size a ≤ S17.size a) ∧
  (∀ k0_t3 : Fin (k0_t3_loop v1_0).trips, 2048 ∣ (k0_mult9 v1_0 k0_t3).toNat) ∧
  (∀ k0_t3 : Fin (k0_t3_loop v1_0).trips, ∀ a, (k0_off194 v1_0 k0_t3) a + S1.size a ≤ S4.size a) ∧
  (∀ k0_t3 : Fin (k0_t3_loop v1_0).trips, ∀ a, (k0_off195 v1_0 k0_t3) a + S1x768x2048.size a ≤ S4x768x2048.size a) ∧
  (∀ k0_t3 : Fin (k0_t3_loop v1_0).trips, ∀ (hinb : ∀ a, (k0_off195 v1_0 k0_t3) a + S1x768x2048.size a ≤ S4x768x2048.size a), (Rect.unit (s := S4x768x2048) (k0_off195 v1_0 k0_t3) S1x768x2048.size hinb).WholeWords (EltTy.packing .i8)) ∧
  (∀ k0_t3 : Fin (k0_t3_loop v1_0).trips, ∀ a, (k0_off197 v1_0 k0_t3) a + S1.size a ≤ S4.size a) ∧
  (∀ k0_t3 : Fin (k0_t3_loop v1_0).trips, ∀ a, (k0_off198 v1_0 k0_t3) a + S1x12x2048.size a ≤ S4x12x2048.size a) ∧
  (∀ k0_t3 : Fin (k0_t3_loop v1_0).trips, ∀ a, (k0_off200 v1_0 k0_t3) a + S1.size a ≤ S17.size a) ∧
  (∀ k0_t3 : Fin (k0_t3_loop v1_0).trips, ∀ a, (k0_off201 v1_0 k0_t3) a + S1.size a ≤ S17.size a) ∧
  (∀ k0_t3 : Fin (k0_t3_loop v1_0).trips, ∀ a, (k0_off202 v1_0 k0_t3) a + S1x128x256.size a ≤ S4x768x2048.size a) ∧
  (∀ k0_t3 : Fin (k0_t3_loop v1_0).trips, ∀ a, (k0_off203 v1_0 k0_t3) a + S1x1x256.size a ≤ S4x12x2048.size a) ∧
  (∀ k0_t3 : Fin (k0_t3_loop v1_0).trips, ∀ a, (k0_off204 v1_0 k0_t3) a + S1x1x256.size a ≤ S4x12x2048.size a) ∧
  (∀ k0_t3 : Fin (k0_t3_loop v1_0).trips, ∀ a, (k0_off205 v1_0 k0_t3) a + S1x128x256.size a ≤ S4x768x2048.size a) ∧
  (∀ k0_t3 : Fin (k0_t3_loop v1_0).trips, ∀ a, (k0_off206 v1_0 k0_t3) a + S1x1x256.size a ≤ S4x12x2048.size a) ∧
  (∀ k0_t3 : Fin (k0_t3_loop v1_0).trips, ∀ a, (k0_off207 v1_0 k0_t3) a + S1x1x256.size a ≤ S4x12x2048.size a) ∧
  (∀ k0_t3 : Fin (k0_t3_loop v1_0).trips, ∀ a, (k0_off208 v1_0 k0_t3) a + S1x128x256.size a ≤ S4x768x2048.size a) ∧
  (∀ k0_t3 : Fin (k0_t3_loop v1_0).trips, ∀ a, (k0_off209 v1_0 k0_t3) a + S1x1x256.size a ≤ S4x12x2048.size a) ∧
  (∀ k0_t3 : Fin (k0_t3_loop v1_0).trips, ∀ a, (k0_off210 v1_0 k0_t3) a + S1x1x256.size a ≤ S4x12x2048.size a) ∧
  (∀ k0_t3 : Fin (k0_t3_loop v1_0).trips, ∀ a, (k0_off211 v1_0 k0_t3) a + S1x128x256.size a ≤ S4x768x2048.size a)
def k0_chk2_6 (v1_0 : BitVec 32) : Prop :=
  (∀ k0_t3 : Fin (k0_t3_loop v1_0).trips, ∀ a, (k0_off212 v1_0 k0_t3) a + S1x1x256.size a ≤ S4x12x2048.size a) ∧
  (∀ k0_t3 : Fin (k0_t3_loop v1_0).trips, ∀ a, (k0_off213 v1_0 k0_t3) a + S1x1x256.size a ≤ S4x12x2048.size a) ∧
  (∀ k0_t3 : Fin (k0_t3_loop v1_0).trips, ∀ a, (k0_off214 v1_0 k0_t3) a + S1x128x256.size a ≤ S4x768x2048.size a) ∧
  (∀ k0_t3 : Fin (k0_t3_loop v1_0).trips, ∀ a, (k0_off215 v1_0 k0_t3) a + S1x1x256.size a ≤ S4x12x2048.size a) ∧
  (∀ k0_t3 : Fin (k0_t3_loop v1_0).trips, ∀ a, (k0_off216 v1_0 k0_t3) a + S1x1x256.size a ≤ S4x12x2048.size a) ∧
  (∀ k0_t3 : Fin (k0_t3_loop v1_0).trips, ∀ a, (k0_off217 v1_0 k0_t3) a + S1x128x256.size a ≤ S4x768x2048.size a) ∧
  (∀ k0_t3 : Fin (k0_t3_loop v1_0).trips, ∀ a, (k0_off218 v1_0 k0_t3) a + S1x1x256.size a ≤ S4x12x2048.size a) ∧
  (∀ k0_t3 : Fin (k0_t3_loop v1_0).trips, ∀ a, (k0_off219 v1_0 k0_t3) a + S1x1x256.size a ≤ S4x12x2048.size a) ∧
  (∀ k0_t3 : Fin (k0_t3_loop v1_0).trips, ∀ (r : Fin 8), ∀ a, (k0_off220 v1_0 k0_t3 (BitVec.ofNat 32 (256 * r.val))) a + S64x256.size a ≤ S64x6144.size a) ∧
  (∀ k0_t3 : Fin (k0_t3_loop v1_0).trips, ∀ a, (k0_off221 v1_0 k0_t3) a + S1x128x256.size a ≤ S4x768x2048.size a) ∧
  (∀ k0_t3 : Fin (k0_t3_loop v1_0).trips, ∀ a, (k0_off222 v1_0 k0_t3) a + S1x1x256.size a ≤ S4x12x2048.size a) ∧
  (∀ k0_t3 : Fin (k0_t3_loop v1_0).trips, ∀ a, (k0_off223 v1_0 k0_t3) a + S1x1x256.size a ≤ S4x12x2048.size a) ∧
  (∀ k0_t3 : Fin (k0_t3_loop v1_0).trips, ∀ a, (k0_off224 v1_0 k0_t3) a + S1x128x256.size a ≤ S4x768x2048.size a) ∧
  (∀ k0_t3 : Fin (k0_t3_loop v1_0).trips, ∀ a, (k0_off225 v1_0 k0_t3) a + S1x1x256.size a ≤ S4x12x2048.size a) ∧
  (∀ k0_t3 : Fin (k0_t3_loop v1_0).trips, ∀ a, (k0_off226 v1_0 k0_t3) a + S1x1x256.size a ≤ S4x12x2048.size a) ∧
  (∀ k0_t3 : Fin (k0_t3_loop v1_0).trips, ∀ a, (k0_off227 v1_0 k0_t3) a + S1x128x256.size a ≤ S4x768x2048.size a) ∧
  (∀ k0_t3 : Fin (k0_t3_loop v1_0).trips, ∀ a, (k0_off228 v1_0 k0_t3) a + S1x1x256.size a ≤ S4x12x2048.size a) ∧
  (∀ k0_t3 : Fin (k0_t3_loop v1_0).trips, ∀ a, (k0_off229 v1_0 k0_t3) a + S1x1x256.size a ≤ S4x12x2048.size a) ∧
  (∀ k0_t3 : Fin (k0_t3_loop v1_0).trips, ∀ a, (k0_off230 v1_0 k0_t3) a + S1x128x256.size a ≤ S4x768x2048.size a) ∧
  (∀ k0_t3 : Fin (k0_t3_loop v1_0).trips, ∀ a, (k0_off231 v1_0 k0_t3) a + S1x1x256.size a ≤ S4x12x2048.size a) ∧
  (∀ k0_t3 : Fin (k0_t3_loop v1_0).trips, ∀ a, (k0_off232 v1_0 k0_t3) a + S1x1x256.size a ≤ S4x12x2048.size a) ∧
  (∀ k0_t3 : Fin (k0_t3_loop v1_0).trips, ∀ a, (k0_off233 v1_0 k0_t3) a + S1x128x256.size a ≤ S4x768x2048.size a) ∧
  (∀ k0_t3 : Fin (k0_t3_loop v1_0).trips, ∀ a, (k0_off234 v1_0 k0_t3) a + S1x1x256.size a ≤ S4x12x2048.size a) ∧
  (∀ k0_t3 : Fin (k0_t3_loop v1_0).trips, ∀ a, (k0_off235 v1_0 k0_t3) a + S1x1x256.size a ≤ S4x12x2048.size a) ∧
  (∀ k0_t3 : Fin (k0_t3_loop v1_0).trips, ∀ a, (k0_off236 v1_0 k0_t3) a + S1x128x256.size a ≤ S4x768x2048.size a) ∧
  (∀ k0_t3 : Fin (k0_t3_loop v1_0).trips, ∀ a, (k0_off237 v1_0 k0_t3) a + S1x1x256.size a ≤ S4x12x2048.size a) ∧
  (∀ k0_t3 : Fin (k0_t3_loop v1_0).trips, ∀ a, (k0_off238 v1_0 k0_t3) a + S1x1x256.size a ≤ S4x12x2048.size a) ∧
  (∀ k0_t3 : Fin (k0_t3_loop v1_0).trips, ∀ a, (k0_off239 v1_0 k0_t3) a + S1x128x256.size a ≤ S4x768x2048.size a) ∧
  (∀ k0_t3 : Fin (k0_t3_loop v1_0).trips, ∀ a, (k0_off240 v1_0 k0_t3) a + S1x1x256.size a ≤ S4x12x2048.size a) ∧
  (∀ k0_t3 : Fin (k0_t3_loop v1_0).trips, ∀ a, (k0_off241 v1_0 k0_t3) a + S1x1x256.size a ≤ S4x12x2048.size a) ∧
  (∀ k0_t3 : Fin (k0_t3_loop v1_0).trips, ∀ a, (k0_off242 v1_0 k0_t3) a + S1x128x256.size a ≤ S4x768x2048.size a) ∧
  (∀ k0_t3 : Fin (k0_t3_loop v1_0).trips, ∀ a, (k0_off243 v1_0 k0_t3) a + S1x1x256.size a ≤ S4x12x2048.size a)
def k0_chk2_7 (v1_0 : BitVec 32) : Prop :=
  (∀ k0_t3 : Fin (k0_t3_loop v1_0).trips, ∀ a, (k0_off244 v1_0 k0_t3) a + S1x1x256.size a ≤ S4x12x2048.size a) ∧
  (∀ k0_t3 : Fin (k0_t3_loop v1_0).trips, ∀ a, (k0_off245 v1_0 k0_t3) a + S1x128x256.size a ≤ S4x768x2048.size a) ∧
  (∀ k0_t3 : Fin (k0_t3_loop v1_0).trips, ∀ a, (k0_off246 v1_0 k0_t3) a + S1x1x256.size a ≤ S4x12x2048.size a) ∧
  (∀ k0_t3 : Fin (k0_t3_loop v1_0).trips, ∀ a, (k0_off247 v1_0 k0_t3) a + S1x1x256.size a ≤ S4x12x2048.size a) ∧
  (∀ k0_t3 : Fin (k0_t3_loop v1_0).trips, ∀ a, (k0_off248 v1_0 k0_t3) a + S1x128x256.size a ≤ S4x768x2048.size a) ∧
  (∀ k0_t3 : Fin (k0_t3_loop v1_0).trips, ∀ a, (k0_off249 v1_0 k0_t3) a + S1x1x256.size a ≤ S4x12x2048.size a) ∧
  (∀ k0_t3 : Fin (k0_t3_loop v1_0).trips, ∀ a, (k0_off250 v1_0 k0_t3) a + S1x1x256.size a ≤ S4x12x2048.size a) ∧
  (∀ k0_t3 : Fin (k0_t3_loop v1_0).trips, ∀ a, (k0_off251 v1_0 k0_t3) a + S1x128x256.size a ≤ S4x768x2048.size a) ∧
  (∀ k0_t3 : Fin (k0_t3_loop v1_0).trips, ∀ a, (k0_off252 v1_0 k0_t3) a + S1x1x256.size a ≤ S4x12x2048.size a) ∧
  (∀ k0_t3 : Fin (k0_t3_loop v1_0).trips, ∀ a, (k0_off253 v1_0 k0_t3) a + S1x1x256.size a ≤ S4x12x2048.size a) ∧
  (∀ k0_t3 : Fin (k0_t3_loop v1_0).trips, ∀ a, (k0_off254 v1_0 k0_t3) a + S1x128x256.size a ≤ S4x768x2048.size a) ∧
  (∀ k0_t3 : Fin (k0_t3_loop v1_0).trips, ∀ a, (k0_off255 v1_0 k0_t3) a + S1x1x256.size a ≤ S4x12x2048.size a) ∧
  (∀ k0_t3 : Fin (k0_t3_loop v1_0).trips, ∀ a, (k0_off256 v1_0 k0_t3) a + S1x1x256.size a ≤ S4x12x2048.size a) ∧
  (∀ k0_t3 : Fin (k0_t3_loop v1_0).trips, ∀ a, (k0_off257 v1_0 k0_t3) a + S1x128x256.size a ≤ S4x768x2048.size a) ∧
  (∀ k0_t3 : Fin (k0_t3_loop v1_0).trips, ∀ a, (k0_off258 v1_0 k0_t3) a + S1x1x256.size a ≤ S4x12x2048.size a) ∧
  (∀ k0_t3 : Fin (k0_t3_loop v1_0).trips, ∀ a, (k0_off259 v1_0 k0_t3) a + S1x1x256.size a ≤ S4x12x2048.size a) ∧
  (∀ k0_t3 : Fin (k0_t3_loop v1_0).trips, ∀ a, (k0_off260 v1_0 k0_t3) a + S1x128x256.size a ≤ S4x768x2048.size a) ∧
  (∀ k0_t3 : Fin (k0_t3_loop v1_0).trips, ∀ a, (k0_off261 v1_0 k0_t3) a + S1x1x256.size a ≤ S4x12x2048.size a) ∧
  (∀ k0_t3 : Fin (k0_t3_loop v1_0).trips, ∀ a, (k0_off262 v1_0 k0_t3) a + S1x1x256.size a ≤ S4x12x2048.size a) ∧
  (∀ k0_t3 : Fin (k0_t3_loop v1_0).trips, ∀ a, (k0_off263 v1_0 k0_t3) a + S1x128x256.size a ≤ S4x768x2048.size a) ∧
  (∀ k0_t3 : Fin (k0_t3_loop v1_0).trips, ∀ a, (k0_off264 v1_0 k0_t3) a + S1x1x256.size a ≤ S4x12x2048.size a) ∧
  (∀ k0_t3 : Fin (k0_t3_loop v1_0).trips, ∀ a, (k0_off265 v1_0 k0_t3) a + S1x1x256.size a ≤ S4x12x2048.size a) ∧
  (∀ k0_t3 : Fin (k0_t3_loop v1_0).trips, ∀ a, (k0_off266 v1_0 k0_t3) a + S1x128x256.size a ≤ S4x768x2048.size a) ∧
  (∀ k0_t3 : Fin (k0_t3_loop v1_0).trips, ∀ a, (k0_off267 v1_0 k0_t3) a + S1x1x256.size a ≤ S4x12x2048.size a) ∧
  (∀ k0_t3 : Fin (k0_t3_loop v1_0).trips, ∀ a, (k0_off268 v1_0 k0_t3) a + S1x1x256.size a ≤ S4x12x2048.size a) ∧
  (∀ k0_t3 : Fin (k0_t3_loop v1_0).trips, ∀ a, (k0_off269 v1_0 k0_t3) a + S1x128x256.size a ≤ S4x768x2048.size a) ∧
  (∀ k0_t3 : Fin (k0_t3_loop v1_0).trips, ∀ a, (k0_off270 v1_0 k0_t3) a + S1x1x256.size a ≤ S4x12x2048.size a) ∧
  (∀ k0_t3 : Fin (k0_t3_loop v1_0).trips, ∀ a, (k0_off271 v1_0 k0_t3) a + S1x1x256.size a ≤ S4x12x2048.size a) ∧
  (∀ k0_t3 : Fin (k0_t3_loop v1_0).trips, ∀ a, (k0_off272 v1_0 k0_t3) a + S1x128x256.size a ≤ S4x768x2048.size a) ∧
  (∀ k0_t3 : Fin (k0_t3_loop v1_0).trips, ∀ a, (k0_off273 v1_0 k0_t3) a + S1x1x256.size a ≤ S4x12x2048.size a) ∧
  (∀ k0_t3 : Fin (k0_t3_loop v1_0).trips, ∀ a, (k0_off274 v1_0 k0_t3) a + S1x1x256.size a ≤ S4x12x2048.size a) ∧
  (∀ k0_t3 : Fin (k0_t3_loop v1_0).trips, ∀ a, (k0_off275 v1_0 k0_t3) a + S1x128x256.size a ≤ S4x768x2048.size a)
def k0_chk2_8 (v1_0 : BitVec 32) : Prop :=
  (∀ k0_t3 : Fin (k0_t3_loop v1_0).trips, ∀ a, (k0_off276 v1_0 k0_t3) a + S1x1x256.size a ≤ S4x12x2048.size a) ∧
  (∀ k0_t3 : Fin (k0_t3_loop v1_0).trips, ∀ a, (k0_off277 v1_0 k0_t3) a + S1x1x256.size a ≤ S4x12x2048.size a) ∧
  (∀ k0_t3 : Fin (k0_t3_loop v1_0).trips, ∀ a, (k0_off278 v1_0 k0_t3) a + S1x128x256.size a ≤ S4x768x2048.size a) ∧
  (∀ k0_t3 : Fin (k0_t3_loop v1_0).trips, ∀ a, (k0_off279 v1_0 k0_t3) a + S1x1x256.size a ≤ S4x12x2048.size a) ∧
  (∀ k0_t3 : Fin (k0_t3_loop v1_0).trips, ∀ a, (k0_off280 v1_0 k0_t3) a + S1x1x256.size a ≤ S4x12x2048.size a) ∧
  (∀ k0_t3 : Fin (k0_t3_loop v1_0).trips, ∀ a, (k0_off281 v1_0 k0_t3) a + S1x128x256.size a ≤ S4x768x2048.size a) ∧
  (∀ k0_t3 : Fin (k0_t3_loop v1_0).trips, ∀ a, (k0_off282 v1_0 k0_t3) a + S1x1x256.size a ≤ S4x12x2048.size a) ∧
  (∀ k0_t3 : Fin (k0_t3_loop v1_0).trips, ∀ a, (k0_off283 v1_0 k0_t3) a + S1x1x256.size a ≤ S4x12x2048.size a) ∧
  (∀ k0_t3 : Fin (k0_t3_loop v1_0).trips, ∀ a, (k0_off284 v1_0 k0_t3) a + S1x128x256.size a ≤ S4x768x2048.size a) ∧
  (∀ k0_t3 : Fin (k0_t3_loop v1_0).trips, ∀ a, (k0_off285 v1_0 k0_t3) a + S1x1x256.size a ≤ S4x12x2048.size a) ∧
  (∀ k0_t3 : Fin (k0_t3_loop v1_0).trips, ∀ a, (k0_off286 v1_0 k0_t3) a + S1x1x256.size a ≤ S4x12x2048.size a) ∧
  (∀ k0_t3 : Fin (k0_t3_loop v1_0).trips, ∀ a, (k0_off287 v1_0 k0_t3) a + S1x128x256.size a ≤ S4x768x2048.size a) ∧
  (∀ k0_t3 : Fin (k0_t3_loop v1_0).trips, ∀ a, (k0_off288 v1_0 k0_t3) a + S1x1x256.size a ≤ S4x12x2048.size a) ∧
  (∀ k0_t3 : Fin (k0_t3_loop v1_0).trips, ∀ a, (k0_off289 v1_0 k0_t3) a + S1x1x256.size a ≤ S4x12x2048.size a) ∧
  (∀ k0_t3 : Fin (k0_t3_loop v1_0).trips, ∀ a, (k0_off290 v1_0 k0_t3) a + S1x128x256.size a ≤ S4x768x2048.size a) ∧
  (∀ k0_t3 : Fin (k0_t3_loop v1_0).trips, ∀ a, (k0_off291 v1_0 k0_t3) a + S1x1x256.size a ≤ S4x12x2048.size a) ∧
  (∀ k0_t3 : Fin (k0_t3_loop v1_0).trips, ∀ a, (k0_off292 v1_0 k0_t3) a + S1x1x256.size a ≤ S4x12x2048.size a) ∧
  (∀ k0_t3 : Fin (k0_t3_loop v1_0).trips, ∀ a, (k0_off293 v1_0 k0_t3) a + S1x128x256.size a ≤ S4x768x2048.size a) ∧
  (∀ k0_t3 : Fin (k0_t3_loop v1_0).trips, ∀ a, (k0_off294 v1_0 k0_t3) a + S1x1x256.size a ≤ S4x12x2048.size a) ∧
  (∀ k0_t3 : Fin (k0_t3_loop v1_0).trips, ∀ a, (k0_off295 v1_0 k0_t3) a + S1x1x256.size a ≤ S4x12x2048.size a) ∧
  (∀ k0_t3 : Fin (k0_t3_loop v1_0).trips, ∀ a, (k0_off296 v1_0 k0_t3) a + S1x128x256.size a ≤ S4x768x2048.size a) ∧
  (∀ k0_t3 : Fin (k0_t3_loop v1_0).trips, ∀ a, (k0_off297 v1_0 k0_t3) a + S1x1x256.size a ≤ S4x12x2048.size a) ∧
  (∀ k0_t3 : Fin (k0_t3_loop v1_0).trips, ∀ a, (k0_off298 v1_0 k0_t3) a + S1x1x256.size a ≤ S4x12x2048.size a) ∧
  (∀ k0_t3 : Fin (k0_t3_loop v1_0).trips, ∀ a, (k0_off299 v1_0 k0_t3) a + S1x128x256.size a ≤ S4x768x2048.size a) ∧
  (∀ k0_t3 : Fin (k0_t3_loop v1_0).trips, ∀ a, (k0_off300 v1_0 k0_t3) a + S1x1x256.size a ≤ S4x12x2048.size a) ∧
  (∀ k0_t3 : Fin (k0_t3_loop v1_0).trips, ∀ a, (k0_off301 v1_0 k0_t3) a + S1x1x256.size a ≤ S4x12x2048.size a) ∧
  (∀ k0_t3 : Fin (k0_t3_loop v1_0).trips, ∀ a, (k0_off302 v1_0 k0_t3) a + S1x128x256.size a ≤ S4x768x2048.size a) ∧
  (∀ k0_t3 : Fin (k0_t3_loop v1_0).trips, ∀ a, (k0_off303 v1_0 k0_t3) a + S1x1x256.size a ≤ S4x12x2048.size a) ∧
  (∀ k0_t3 : Fin (k0_t3_loop v1_0).trips, ∀ a, (k0_off304 v1_0 k0_t3) a + S1x1x256.size a ≤ S4x12x2048.size a) ∧
  (∀ k0_t3 : Fin (k0_t3_loop v1_0).trips, ∀ a, (k0_off305 v1_0 k0_t3) a + S1x128x256.size a ≤ S4x768x2048.size a) ∧
  (∀ k0_t3 : Fin (k0_t3_loop v1_0).trips, ∀ a, (k0_off306 v1_0 k0_t3) a + S1x1x256.size a ≤ S4x12x2048.size a) ∧
  (∀ k0_t3 : Fin (k0_t3_loop v1_0).trips, ∀ a, (k0_off307 v1_0 k0_t3) a + S1x1x256.size a ≤ S4x12x2048.size a)
def k0_chk2_9 (v1_0 : BitVec 32) : Prop :=
  (∀ k0_t3 : Fin (k0_t3_loop v1_0).trips, ∀ a, (k0_off308 v1_0 k0_t3) a + S1x128x256.size a ≤ S4x768x2048.size a) ∧
  (∀ k0_t3 : Fin (k0_t3_loop v1_0).trips, ∀ a, (k0_off309 v1_0 k0_t3) a + S1x1x256.size a ≤ S4x12x2048.size a) ∧
  (∀ k0_t3 : Fin (k0_t3_loop v1_0).trips, ∀ a, (k0_off310 v1_0 k0_t3) a + S1x1x256.size a ≤ S4x12x2048.size a) ∧
  (∀ k0_t3 : Fin (k0_t3_loop v1_0).trips, ∀ a, (k0_off311 v1_0 k0_t3) a + S1x128x256.size a ≤ S4x768x2048.size a) ∧
  (∀ k0_t3 : Fin (k0_t3_loop v1_0).trips, ∀ a, (k0_off312 v1_0 k0_t3) a + S1x1x256.size a ≤ S4x12x2048.size a) ∧
  (∀ k0_t3 : Fin (k0_t3_loop v1_0).trips, ∀ a, (k0_off313 v1_0 k0_t3) a + S1x1x256.size a ≤ S4x12x2048.size a) ∧
  (∀ k0_t3 : Fin (k0_t3_loop v1_0).trips, ∀ a, (k0_off314 v1_0 k0_t3) a + S1x128x256.size a ≤ S4x768x2048.size a) ∧
  (∀ k0_t3 : Fin (k0_t3_loop v1_0).trips, ∀ a, (k0_off315 v1_0 k0_t3) a + S1x1x256.size a ≤ S4x12x2048.size a) ∧
  (∀ k0_t3 : Fin (k0_t3_loop v1_0).trips, ∀ a, (k0_off316 v1_0 k0_t3) a + S1x1x256.size a ≤ S4x12x2048.size a) ∧
  (∀ k0_t3 : Fin (k0_t3_loop v1_0).trips, ∀ a, (k0_off317 v1_0 k0_t3) a + S1x128x256.size a ≤ S4x768x2048.size a) ∧
  (∀ k0_t3 : Fin (k0_t3_loop v1_0).trips, ∀ a, (k0_off318 v1_0 k0_t3) a + S1x1x256.size a ≤ S4x12x2048.size a) ∧
  (∀ k0_t3 : Fin (k0_t3_loop v1_0).trips, ∀ a, (k0_off319 v1_0 k0_t3) a + S1x1x256.size a ≤ S4x12x2048.size a) ∧
  (∀ k0_t3 : Fin (k0_t3_loop v1_0).trips, ∀ a, (k0_off320 v1_0 k0_t3) a + S1x128x256.size a ≤ S4x768x2048.size a) ∧
  (∀ k0_t3 : Fin (k0_t3_loop v1_0).trips, ∀ a, (k0_off321 v1_0 k0_t3) a + S1x1x256.size a ≤ S4x12x2048.size a) ∧
  (∀ k0_t3 : Fin (k0_t3_loop v1_0).trips, ∀ a, (k0_off322 v1_0 k0_t3) a + S1x1x256.size a ≤ S4x12x2048.size a) ∧
  (∀ k0_t3 : Fin (k0_t3_loop v1_0).trips, ∀ a, (k0_off323 v1_0 k0_t3) a + S1x128x256.size a ≤ S4x768x2048.size a) ∧
  (∀ k0_t3 : Fin (k0_t3_loop v1_0).trips, ∀ a, (k0_off324 v1_0 k0_t3) a + S1x1x256.size a ≤ S4x12x2048.size a) ∧
  (∀ k0_t3 : Fin (k0_t3_loop v1_0).trips, ∀ a, (k0_off325 v1_0 k0_t3) a + S1x1x256.size a ≤ S4x12x2048.size a) ∧
  (∀ k0_t3 : Fin (k0_t3_loop v1_0).trips, ∀ a, (k0_off326 v1_0 k0_t3) a + S1x128x256.size a ≤ S4x768x2048.size a) ∧
  (∀ k0_t3 : Fin (k0_t3_loop v1_0).trips, ∀ a, (k0_off327 v1_0 k0_t3) a + S1x1x256.size a ≤ S4x12x2048.size a) ∧
  (∀ k0_t3 : Fin (k0_t3_loop v1_0).trips, ∀ a, (k0_off328 v1_0 k0_t3) a + S1x1x256.size a ≤ S4x12x2048.size a) ∧
  (∀ k0_t3 : Fin (k0_t3_loop v1_0).trips, ∀ a, (k0_off329 v1_0 k0_t3) a + S1x128x256.size a ≤ S4x768x2048.size a) ∧
  (∀ k0_t3 : Fin (k0_t3_loop v1_0).trips, ∀ a, (k0_off330 v1_0 k0_t3) a + S1x1x256.size a ≤ S4x12x2048.size a) ∧
  (∀ k0_t3 : Fin (k0_t3_loop v1_0).trips, ∀ a, (k0_off331 v1_0 k0_t3) a + S1x1x256.size a ≤ S4x12x2048.size a) ∧
  (∀ k0_t3 : Fin (k0_t3_loop v1_0).trips, ∀ a, (k0_off332 v1_0 k0_t3) a + S1x128x256.size a ≤ S4x768x2048.size a) ∧
  (∀ k0_t3 : Fin (k0_t3_loop v1_0).trips, ∀ a, (k0_off333 v1_0 k0_t3) a + S1x1x256.size a ≤ S4x12x2048.size a) ∧
  (∀ k0_t3 : Fin (k0_t3_loop v1_0).trips, ∀ a, (k0_off334 v1_0 k0_t3) a + S1x1x256.size a ≤ S4x12x2048.size a) ∧
  (∀ k0_t3 : Fin (k0_t3_loop v1_0).trips, ∀ a, (k0_off335 v1_0 k0_t3) a + S1x128x256.size a ≤ S4x768x2048.size a) ∧
  (∀ k0_t3 : Fin (k0_t3_loop v1_0).trips, ∀ a, (k0_off336 v1_0 k0_t3) a + S1x1x256.size a ≤ S4x12x2048.size a) ∧
  (∀ k0_t3 : Fin (k0_t3_loop v1_0).trips, ∀ a, (k0_off337 v1_0 k0_t3) a + S1x1x256.size a ≤ S4x12x2048.size a) ∧
  (∀ k0_t3 : Fin (k0_t3_loop v1_0).trips, ∀ a, (k0_off338 v1_0 k0_t3) a + S1x128x256.size a ≤ S4x768x2048.size a) ∧
  (∀ k0_t3 : Fin (k0_t3_loop v1_0).trips, ∀ a, (k0_off339 v1_0 k0_t3) a + S1x1x256.size a ≤ S4x12x2048.size a)
def k0_chk2_10 (v1_0 : BitVec 32) : Prop :=
  (∀ k0_t3 : Fin (k0_t3_loop v1_0).trips, ∀ a, (k0_off340 v1_0 k0_t3) a + S1x1x256.size a ≤ S4x12x2048.size a) ∧
  (∀ k0_t3 : Fin (k0_t3_loop v1_0).trips, ∀ a, (k0_off341 v1_0 k0_t3) a + S1x128x256.size a ≤ S4x768x2048.size a) ∧
  (∀ k0_t3 : Fin (k0_t3_loop v1_0).trips, ∀ a, (k0_off342 v1_0 k0_t3) a + S1x1x256.size a ≤ S4x12x2048.size a) ∧
  (∀ k0_t3 : Fin (k0_t3_loop v1_0).trips, ∀ a, (k0_off343 v1_0 k0_t3) a + S1x1x256.size a ≤ S4x12x2048.size a) ∧
  (∀ k0_t3 : Fin (k0_t3_loop v1_0).trips, ∀ a, (k0_off344 v1_0 k0_t3) a + S1x128x256.size a ≤ S4x768x2048.size a) ∧
  (∀ k0_t3 : Fin (k0_t3_loop v1_0).trips, ∀ a, (k0_off345 v1_0 k0_t3) a + S1x1x256.size a ≤ S4x12x2048.size a) ∧
  (∀ k0_t3 : Fin (k0_t3_loop v1_0).trips, ∀ a, (k0_off346 v1_0 k0_t3) a + S1x1x256.size a ≤ S4x12x2048.size a)
def k0_chk2 (v1_0 : BitVec 32) : Prop :=
  k0_chk2_0 v1_0 ∧
  k0_chk2_1 v1_0 ∧
  k0_chk2_2 v1_0 ∧
  k0_chk2_3 v1_0 ∧
  k0_chk2_4 v1_0 ∧
  k0_chk2_5 v1_0 ∧
  k0_chk2_6 v1_0 ∧
  k0_chk2_7 v1_0 ∧
  k0_chk2_8 v1_0 ∧
  k0_chk2_9 v1_0 ∧
  k0_chk2_10 v1_0
theorem k0_off3_inb : ∀ (v1_0 : BitVec 32) (k0_hw2 : k0_chk2 v1_0), ∀ a, (k0_off3 v1_0) a + S1.size a ≤ S17.size a := fun v1_0 k0_hw2 => k0_hw2.1.1
theorem k0_t2_ok : ∀ (v1_0 : BitVec 32) (k0_hw2 : k0_chk2 v1_0), (k0_t2_loop v1_0).OK := fun v1_0 k0_hw2 => k0_hw2.1.2.1
theorem k0_mult4_dvd : ∀ (v1_0 : BitVec 32) (k0_hw2 : k0_chk2 v1_0) (k0_t2 : Fin (k0_t2_loop v1_0).trips), 2048 ∣ (k0_mult4 v1_0 k0_t2).toNat := fun v1_0 k0_hw2 k0_t2 => k0_hw2.1.2.2.1 k0_t2
theorem k0_off25_inb : ∀ (v1_0 : BitVec 32) (k0_hw2 : k0_chk2 v1_0) (k0_t2 : Fin (k0_t2_loop v1_0).trips), ∀ (k0_h4 : k0_cond4 v1_0 k0_t2 = 1#1), ∀ a, (k0_off25 v1_0 k0_t2) a + S1.size a ≤ S17.size a := fun v1_0 k0_hw2 k0_t2 k0_h4 => k0_hw2.1.2.2.2.1 k0_t2 k0_h4
theorem k0_mult5_dvd : ∀ (v1_0 : BitVec 32) (k0_hw2 : k0_chk2 v1_0) (k0_t2 : Fin (k0_t2_loop v1_0).trips), ∀ (k0_h4 : k0_cond4 v1_0 k0_t2 = 1#1), 2048 ∣ (k0_mult5 v1_0 k0_t2).toNat := fun v1_0 k0_hw2 k0_t2 k0_h4 => k0_hw2.1.2.2.2.2.1 k0_t2 k0_h4
theorem k0_off26_inb : ∀ (v1_0 : BitVec 32) (k0_hw2 : k0_chk2 v1_0) (k0_t2 : Fin (k0_t2_loop v1_0).trips), ∀ (k0_h4 : k0_cond4 v1_0 k0_t2 = 1#1), ∀ a, (k0_off26 v1_0 k0_t2) a + S1.size a ≤ S4.size a := fun v1_0 k0_hw2 k0_t2 k0_h4 => k0_hw2.1.2.2.2.2.2.1 k0_t2 k0_h4
theorem k0_off27_inb : ∀ (v1_0 : BitVec 32) (k0_hw2 : k0_chk2 v1_0) (k0_t2 : Fin (k0_t2_loop v1_0).trips), ∀ (k0_h4 : k0_cond4 v1_0 k0_t2 = 1#1), ∀ a, (k0_off27 v1_0 k0_t2) a + S1x768x2048.size a ≤ S4x768x2048.size a := fun v1_0 k0_hw2 k0_t2 k0_h4 => k0_hw2.1.2.2.2.2.2.2.1 k0_t2 k0_h4
theorem k0_off27_wordsi8 : ∀ (v1_0 : BitVec 32) (k0_hw2 : k0_chk2 v1_0) (k0_t2 : Fin (k0_t2_loop v1_0).trips), ∀ (k0_h4 : k0_cond4 v1_0 k0_t2 = 1#1), (Rect.unit (s := S4x768x2048) (k0_off27 v1_0 k0_t2) S1x768x2048.size (k0_off27_inb v1_0 k0_hw2 k0_t2 k0_h4)).WholeWords (EltTy.packing .i8) := fun v1_0 k0_hw2 k0_t2 k0_h4 => k0_hw2.1.2.2.2.2.2.2.2.1 k0_t2 k0_h4 (k0_off27_inb v1_0 k0_hw2 k0_t2 k0_h4)
theorem k0_off29_inb : ∀ (v1_0 : BitVec 32) (k0_hw2 : k0_chk2 v1_0) (k0_t2 : Fin (k0_t2_loop v1_0).trips), ∀ (k0_h4 : k0_cond4 v1_0 k0_t2 = 1#1), ∀ a, (k0_off29 v1_0 k0_t2) a + S1.size a ≤ S4.size a := fun v1_0 k0_hw2 k0_t2 k0_h4 => k0_hw2.1.2.2.2.2.2.2.2.2.1 k0_t2 k0_h4
theorem k0_off30_inb : ∀ (v1_0 : BitVec 32) (k0_hw2 : k0_chk2 v1_0) (k0_t2 : Fin (k0_t2_loop v1_0).trips), ∀ (k0_h4 : k0_cond4 v1_0 k0_t2 = 1#1), ∀ a, (k0_off30 v1_0 k0_t2) a + S1x12x2048.size a ≤ S4x12x2048.size a := fun v1_0 k0_hw2 k0_t2 k0_h4 => k0_hw2.1.2.2.2.2.2.2.2.2.2.1 k0_t2 k0_h4
theorem k0_off32_inb : ∀ (v1_0 : BitVec 32) (k0_hw2 : k0_chk2 v1_0) (k0_t2 : Fin (k0_t2_loop v1_0).trips), ∀ a, (k0_off32 v1_0 k0_t2) a + S1.size a ≤ S17.size a := fun v1_0 k0_hw2 k0_t2 => k0_hw2.1.2.2.2.2.2.2.2.2.2.2.1 k0_t2
theorem k0_mult6_dvd : ∀ (v1_0 : BitVec 32) (k0_hw2 : k0_chk2 v1_0) (k0_t2 : Fin (k0_t2_loop v1_0).trips), 2048 ∣ (k0_mult6 v1_0 k0_t2).toNat := fun v1_0 k0_hw2 k0_t2 => k0_hw2.1.2.2.2.2.2.2.2.2.2.2.2.1 k0_t2
theorem k0_off33_inb : ∀ (v1_0 : BitVec 32) (k0_hw2 : k0_chk2 v1_0) (k0_t2 : Fin (k0_t2_loop v1_0).trips), ∀ a, (k0_off33 v1_0 k0_t2) a + S1.size a ≤ S4.size a := fun v1_0 k0_hw2 k0_t2 => k0_hw2.1.2.2.2.2.2.2.2.2.2.2.2.2.1 k0_t2
theorem k0_off34_inb : ∀ (v1_0 : BitVec 32) (k0_hw2 : k0_chk2 v1_0) (k0_t2 : Fin (k0_t2_loop v1_0).trips), ∀ a, (k0_off34 v1_0 k0_t2) a + S1x768x2048.size a ≤ S4x768x2048.size a := fun v1_0 k0_hw2 k0_t2 => k0_hw2.1.2.2.2.2.2.2.2.2.2.2.2.2.2.1 k0_t2
theorem k0_off34_wordsi8 : ∀ (v1_0 : BitVec 32) (k0_hw2 : k0_chk2 v1_0) (k0_t2 : Fin (k0_t2_loop v1_0).trips), (Rect.unit (s := S4x768x2048) (k0_off34 v1_0 k0_t2) S1x768x2048.size (k0_off34_inb v1_0 k0_hw2 k0_t2)).WholeWords (EltTy.packing .i8) := fun v1_0 k0_hw2 k0_t2 => k0_hw2.1.2.2.2.2.2.2.2.2.2.2.2.2.2.2.1 k0_t2 (k0_off34_inb v1_0 k0_hw2 k0_t2)
theorem k0_off36_inb : ∀ (v1_0 : BitVec 32) (k0_hw2 : k0_chk2 v1_0) (k0_t2 : Fin (k0_t2_loop v1_0).trips), ∀ a, (k0_off36 v1_0 k0_t2) a + S1.size a ≤ S4.size a := fun v1_0 k0_hw2 k0_t2 => k0_hw2.1.2.2.2.2.2.2.2.2.2.2.2.2.2.2.2.1 k0_t2
theorem k0_off37_inb : ∀ (v1_0 : BitVec 32) (k0_hw2 : k0_chk2 v1_0) (k0_t2 : Fin (k0_t2_loop v1_0).trips), ∀ a, (k0_off37 v1_0 k0_t2) a + S1x12x2048.size a ≤ S4x12x2048.size a := fun v1_0 k0_hw2 k0_t2 => k0_hw2.1.2.2.2.2.2.2.2.2.2.2.2.2.2.2.2.2.1 k0_t2
theorem k0_off39_inb : ∀ (v1_0 : BitVec 32) (k0_hw2 : k0_chk2 v1_0) (k0_t2 : Fin (k0_t2_loop v1_0).trips), ∀ a, (k0_off39 v1_0 k0_t2) a + S1.size a ≤ S17.size a := fun v1_0 k0_hw2 k0_t2 => k0_hw2.1.2.2.2.2.2.2.2.2.2.2.2.2.2.2.2.2.2.1 k0_t2
theorem k0_off40_inb : ∀ (v1_0 : BitVec 32) (k0_hw2 : k0_chk2 v1_0) (k0_t2 : Fin (k0_t2_loop v1_0).trips), ∀ a, (k0_off40 v1_0 k0_t2) a + S1.size a ≤ S17.size a := fun v1_0 k0_hw2 k0_t2 => k0_hw2.1.2.2.2.2.2.2.2.2.2.2.2.2.2.2.2.2.2.2.1 k0_t2
theorem k0_off41_inb : ∀ (v1_0 : BitVec 32) (k0_hw2 : k0_chk2 v1_0) (k0_t2 : Fin (k0_t2_loop v1_0).trips), ∀ a, (k0_off41 v1_0 k0_t2) a + S1x128x256.size a ≤ S4x768x2048.size a := fun v1_0 k0_hw2 k0_t2 => k0_hw2.1.2.2.2.2.2.2.2.2.2.2.2.2.2.2.2.2.2.2.2.1 k0_t2
theorem k0_off42_inb : ∀ (v1_0 : BitVec 32) (k0_hw2 : k0_chk2 v1_0) (k0_t2 : Fin (k0_t2_loop v1_0).trips), ∀ a, (k0_off42 v1_0 k0_t2) a + S1x1x256.size a ≤ S4x12x2048.size a := fun v1_0 k0_hw2 k0_t2 => k0_hw2.1.2.2.2.2.2.2.2.2.2.2.2.2.2.2.2.2.2.2.2.2.1 k0_t2
theorem k0_off43_inb : ∀ (v1_0 : BitVec 32) (k0_hw2 : k0_chk2 v1_0) (k0_t2 : Fin (k0_t2_loop v1_0).trips), ∀ a, (k0_off43 v1_0 k0_t2) a + S1x1x256.size a ≤ S4x12x2048.size a := fun v1_0 k0_hw2 k0_t2 => k0_hw2.1.2.2.2.2.2.2.2.2.2.2.2.2.2.2.2.2.2.2.2.2.2.1 k0_t2
theorem k0_off44_inb : ∀ (v1_0 : BitVec 32) (k0_hw2 : k0_chk2 v1_0) (k0_t2 : Fin (k0_t2_loop v1_0).trips), ∀ a, (k0_off44 v1_0 k0_t2) a + S1x128x256.size a ≤ S4x768x2048.size a := fun v1_0 k0_hw2 k0_t2 => k0_hw2.1.2.2.2.2.2.2.2.2.2.2.2.2.2.2.2.2.2.2.2.2.2.2.1 k0_t2
theorem k0_off45_inb : ∀ (v1_0 : BitVec 32) (k0_hw2 : k0_chk2 v1_0) (k0_t2 : Fin (k0_t2_loop v1_0).trips), ∀ a, (k0_off45 v1_0 k0_t2) a + S1x1x256.size a ≤ S4x12x2048.size a := fun v1_0 k0_hw2 k0_t2 => k0_hw2.1.2.2.2.2.2.2.2.2.2.2.2.2.2.2.2.2.2.2.2.2.2.2.2.1 k0_t2
theorem k0_off46_inb : ∀ (v1_0 : BitVec 32) (k0_hw2 : k0_chk2 v1_0) (k0_t2 : Fin (k0_t2_loop v1_0).trips), ∀ a, (k0_off46 v1_0 k0_t2) a + S1x1x256.size a ≤ S4x12x2048.size a := fun v1_0 k0_hw2 k0_t2 => k0_hw2.1.2.2.2.2.2.2.2.2.2.2.2.2.2.2.2.2.2.2.2.2.2.2.2.2.1 k0_t2
theorem k0_off47_inb : ∀ (v1_0 : BitVec 32) (k0_hw2 : k0_chk2 v1_0) (k0_t2 : Fin (k0_t2_loop v1_0).trips), ∀ a, (k0_off47 v1_0 k0_t2) a + S1x128x256.size a ≤ S4x768x2048.size a := fun v1_0 k0_hw2 k0_t2 => k0_hw2.1.2.2.2.2.2.2.2.2.2.2.2.2.2.2.2.2.2.2.2.2.2.2.2.2.2.1 k0_t2
theorem k0_off48_inb : ∀ (v1_0 : BitVec 32) (k0_hw2 : k0_chk2 v1_0) (k0_t2 : Fin (k0_t2_loop v1_0).trips), ∀ a, (k0_off48 v1_0 k0_t2) a + S1x1x256.size a ≤ S4x12x2048.size a := fun v1_0 k0_hw2 k0_t2 => k0_hw2.1.2.2.2.2.2.2.2.2.2.2.2.2.2.2.2.2.2.2.2.2.2.2.2.2.2.2.1 k0_t2
theorem k0_off49_inb : ∀ (v1_0 : BitVec 32) (k0_hw2 : k0_chk2 v1_0) (k0_t2 : Fin (k0_t2_loop v1_0).trips), ∀ a, (k0_off49 v1_0 k0_t2) a + S1x1x256.size a ≤ S4x12x2048.size a := fun v1_0 k0_hw2 k0_t2 => k0_hw2.1.2.2.2.2.2.2.2.2.2.2.2.2.2.2.2.2.2.2.2.2.2.2.2.2.2.2.2.1 k0_t2
theorem k0_off50_inb : ∀ (v1_0 : BitVec 32) (k0_hw2 : k0_chk2 v1_0) (k0_t2 : Fin (k0_t2_loop v1_0).trips), ∀ a, (k0_off50 v1_0 k0_t2) a + S1x128x256.size a ≤ S4x768x2048.size a := fun v1_0 k0_hw2 k0_t2 => k0_hw2.1.2.2.2.2.2.2.2.2.2.2.2.2.2.2.2.2.2.2.2.2.2.2.2.2.2.2.2.2.1 k0_t2
theorem k0_off51_inb : ∀ (v1_0 : BitVec 32) (k0_hw2 : k0_chk2 v1_0) (k0_t2 : Fin (k0_t2_loop v1_0).trips), ∀ a, (k0_off51 v1_0 k0_t2) a + S1x1x256.size a ≤ S4x12x2048.size a := fun v1_0 k0_hw2 k0_t2 => k0_hw2.1.2.2.2.2.2.2.2.2.2.2.2.2.2.2.2.2.2.2.2.2.2.2.2.2.2.2.2.2.2.1 k0_t2
theorem k0_off52_inb : ∀ (v1_0 : BitVec 32) (k0_hw2 : k0_chk2 v1_0) (k0_t2 : Fin (k0_t2_loop v1_0).trips), ∀ a, (k0_off52 v1_0 k0_t2) a + S1x1x256.size a ≤ S4x12x2048.size a := fun v1_0 k0_hw2 k0_t2 => k0_hw2.1.2.2.2.2.2.2.2.2.2.2.2.2.2.2.2.2.2.2.2.2.2.2.2.2.2.2.2.2.2.2.1 k0_t2
theorem k0_off53_inb : ∀ (v1_0 : BitVec 32) (k0_hw2 : k0_chk2 v1_0) (k0_t2 : Fin (k0_t2_loop v1_0).trips), ∀ a, (k0_off53 v1_0 k0_t2) a + S1x128x256.size a ≤ S4x768x2048.size a := fun v1_0 k0_hw2 k0_t2 => k0_hw2.1.2.2.2.2.2.2.2.2.2.2.2.2.2.2.2.2.2.2.2.2.2.2.2.2.2.2.2.2.2.2.2 k0_t2
theorem k0_off54_inb : ∀ (v1_0 : BitVec 32) (k0_hw2 : k0_chk2 v1_0) (k0_t2 : Fin (k0_t2_loop v1_0).trips), ∀ a, (k0_off54 v1_0 k0_t2) a + S1x1x256.size a ≤ S4x12x2048.size a := fun v1_0 k0_hw2 k0_t2 => k0_hw2.2.1.1 k0_t2
theorem k0_off55_inb : ∀ (v1_0 : BitVec 32) (k0_hw2 : k0_chk2 v1_0) (k0_t2 : Fin (k0_t2_loop v1_0).trips), ∀ a, (k0_off55 v1_0 k0_t2) a + S1x1x256.size a ≤ S4x12x2048.size a := fun v1_0 k0_hw2 k0_t2 => k0_hw2.2.1.2.1 k0_t2
theorem k0_off56_inb : ∀ (v1_0 : BitVec 32) (k0_hw2 : k0_chk2 v1_0) (k0_t2 : Fin (k0_t2_loop v1_0).trips), ∀ a, (k0_off56 v1_0 k0_t2) a + S1x128x256.size a ≤ S4x768x2048.size a := fun v1_0 k0_hw2 k0_t2 => k0_hw2.2.1.2.2.1 k0_t2
theorem k0_off57_inb : ∀ (v1_0 : BitVec 32) (k0_hw2 : k0_chk2 v1_0) (k0_t2 : Fin (k0_t2_loop v1_0).trips), ∀ a, (k0_off57 v1_0 k0_t2) a + S1x1x256.size a ≤ S4x12x2048.size a := fun v1_0 k0_hw2 k0_t2 => k0_hw2.2.1.2.2.2.1 k0_t2
theorem k0_off58_inb : ∀ (v1_0 : BitVec 32) (k0_hw2 : k0_chk2 v1_0) (k0_t2 : Fin (k0_t2_loop v1_0).trips), ∀ a, (k0_off58 v1_0 k0_t2) a + S1x1x256.size a ≤ S4x12x2048.size a := fun v1_0 k0_hw2 k0_t2 => k0_hw2.2.1.2.2.2.2.1 k0_t2
theorem k0_off59_inb : ∀ (v1_0 : BitVec 32) (k0_hw2 : k0_chk2 v1_0) (k0_t2 : Fin (k0_t2_loop v1_0).trips), ∀ (r : Fin 8), ∀ a, (k0_off59 v1_0 k0_t2 (BitVec.ofNat 32 (256 * r.val))) a + S64x256.size a ≤ S64x6144.size a := fun v1_0 k0_hw2 k0_t2 r => k0_hw2.2.1.2.2.2.2.2.1 k0_t2 r
theorem k0_off60_inb : ∀ (v1_0 : BitVec 32) (k0_hw2 : k0_chk2 v1_0) (k0_t2 : Fin (k0_t2_loop v1_0).trips), ∀ a, (k0_off60 v1_0 k0_t2) a + S1x128x256.size a ≤ S4x768x2048.size a := fun v1_0 k0_hw2 k0_t2 => k0_hw2.2.1.2.2.2.2.2.2.1 k0_t2
theorem k0_off61_inb : ∀ (v1_0 : BitVec 32) (k0_hw2 : k0_chk2 v1_0) (k0_t2 : Fin (k0_t2_loop v1_0).trips), ∀ a, (k0_off61 v1_0 k0_t2) a + S1x1x256.size a ≤ S4x12x2048.size a := fun v1_0 k0_hw2 k0_t2 => k0_hw2.2.1.2.2.2.2.2.2.2.1 k0_t2
theorem k0_off62_inb : ∀ (v1_0 : BitVec 32) (k0_hw2 : k0_chk2 v1_0) (k0_t2 : Fin (k0_t2_loop v1_0).trips), ∀ a, (k0_off62 v1_0 k0_t2) a + S1x1x256.size a ≤ S4x12x2048.size a := fun v1_0 k0_hw2 k0_t2 => k0_hw2.2.1.2.2.2.2.2.2.2.2.1 k0_t2
theorem k0_off63_inb : ∀ (v1_0 : BitVec 32) (k0_hw2 : k0_chk2 v1_0) (k0_t2 : Fin (k0_t2_loop v1_0).trips), ∀ a, (k0_off63 v1_0 k0_t2) a + S1x128x256.size a ≤ S4x768x2048.size a := fun v1_0 k0_hw2 k0_t2 => k0_hw2.2.1.2.2.2.2.2.2.2.2.2.1 k0_t2
theorem k0_off64_inb : ∀ (v1_0 : BitVec 32) (k0_hw2 : k0_chk2 v1_0) (k0_t2 : Fin (k0_t2_loop v1_0).trips), ∀ a, (k0_off64 v1_0 k0_t2) a + S1x1x256.size a ≤ S4x12x2048.size a := fun v1_0 k0_hw2 k0_t2 => k0_hw2.2.1.2.2.2.2.2.2.2.2.2.2.1 k0_t2
theorem k0_off65_inb : ∀ (v1_0 : BitVec 32) (k0_hw2 : k0_chk2 v1_0) (k0_t2 : Fin (k0_t2_loop v1_0).trips), ∀ a, (k0_off65 v1_0 k0_t2) a + S1x1x256.size a ≤ S4x12x2048.size a := fun v1_0 k0_hw2 k0_t2 => k0_hw2.2.1.2.2.2.2.2.2.2.2.2.2.2.1 k0_t2
theorem k0_off66_inb : ∀ (v1_0 : BitVec 32) (k0_hw2 : k0_chk2 v1_0) (k0_t2 : Fin (k0_t2_loop v1_0).trips), ∀ a, (k0_off66 v1_0 k0_t2) a + S1x128x256.size a ≤ S4x768x2048.size a := fun v1_0 k0_hw2 k0_t2 => k0_hw2.2.1.2.2.2.2.2.2.2.2.2.2.2.2.1 k0_t2
theorem k0_off67_inb : ∀ (v1_0 : BitVec 32) (k0_hw2 : k0_chk2 v1_0) (k0_t2 : Fin (k0_t2_loop v1_0).trips), ∀ a, (k0_off67 v1_0 k0_t2) a + S1x1x256.size a ≤ S4x12x2048.size a := fun v1_0 k0_hw2 k0_t2 => k0_hw2.2.1.2.2.2.2.2.2.2.2.2.2.2.2.2.1 k0_t2
theorem k0_off68_inb : ∀ (v1_0 : BitVec 32) (k0_hw2 : k0_chk2 v1_0) (k0_t2 : Fin (k0_t2_loop v1_0).trips), ∀ a, (k0_off68 v1_0 k0_t2) a + S1x1x256.size a ≤ S4x12x2048.size a := fun v1_0 k0_hw2 k0_t2 => k0_hw2.2.1.2.2.2.2.2.2.2.2.2.2.2.2.2.2.1 k0_t2
theorem k0_off69_inb : ∀ (v1_0 : BitVec 32) (k0_hw2 : k0_chk2 v1_0) (k0_t2 : Fin (k0_t2_loop v1_0).trips), ∀ a, (k0_off69 v1_0 k0_t2) a + S1x128x256.size a ≤ S4x768x2048.size a := fun v1_0 k0_hw2 k0_t2 => k0_hw2.2.1.2.2.2.2.2.2.2.2.2.2.2.2.2.2.2.1 k0_t2
theorem k0_off70_inb : ∀ (v1_0 : BitVec 32) (k0_hw2 : k0_chk2 v1_0) (k0_t2 : Fin (k0_t2_loop v1_0).trips), ∀ a, (k0_off70 v1_0 k0_t2) a + S1x1x256.size a ≤ S4x12x2048.size a := fun v1_0 k0_hw2 k0_t2 => k0_hw2.2.1.2.2.2.2.2.2.2.2.2.2.2.2.2.2.2.2.1 k0_t2
theorem k0_off71_inb : ∀ (v1_0 : BitVec 32) (k0_hw2 : k0_chk2 v1_0) (k0_t2 : Fin (k0_t2_loop v1_0).trips), ∀ a, (k0_off71 v1_0 k0_t2) a + S1x1x256.size a ≤ S4x12x2048.size a := fun v1_0 k0_hw2 k0_t2 => k0_hw2.2.1.2.2.2.2.2.2.2.2.2.2.2.2.2.2.2.2.2.1 k0_t2
theorem k0_off72_inb : ∀ (v1_0 : BitVec 32) (k0_hw2 : k0_chk2 v1_0) (k0_t2 : Fin (k0_t2_loop v1_0).trips), ∀ a, (k0_off72 v1_0 k0_t2) a + S1x128x256.size a ≤ S4x768x2048.size a := fun v1_0 k0_hw2 k0_t2 => k0_hw2.2.1.2.2.2.2.2.2.2.2.2.2.2.2.2.2.2.2.2.2.1 k0_t2
theorem k0_off73_inb : ∀ (v1_0 : BitVec 32) (k0_hw2 : k0_chk2 v1_0) (k0_t2 : Fin (k0_t2_loop v1_0).trips), ∀ a, (k0_off73 v1_0 k0_t2) a + S1x1x256.size a ≤ S4x12x2048.size a := fun v1_0 k0_hw2 k0_t2 => k0_hw2.2.1.2.2.2.2.2.2.2.2.2.2.2.2.2.2.2.2.2.2.2.1 k0_t2
theorem k0_off74_inb : ∀ (v1_0 : BitVec 32) (k0_hw2 : k0_chk2 v1_0) (k0_t2 : Fin (k0_t2_loop v1_0).trips), ∀ a, (k0_off74 v1_0 k0_t2) a + S1x1x256.size a ≤ S4x12x2048.size a := fun v1_0 k0_hw2 k0_t2 => k0_hw2.2.1.2.2.2.2.2.2.2.2.2.2.2.2.2.2.2.2.2.2.2.2.1 k0_t2
theorem k0_off75_inb : ∀ (v1_0 : BitVec 32) (k0_hw2 : k0_chk2 v1_0) (k0_t2 : Fin (k0_t2_loop v1_0).trips), ∀ a, (k0_off75 v1_0 k0_t2) a + S1x128x256.size a ≤ S4x768x2048.size a := fun v1_0 k0_hw2 k0_t2 => k0_hw2.2.1.2.2.2.2.2.2.2.2.2.2.2.2.2.2.2.2.2.2.2.2.2.1 k0_t2
theorem k0_off76_inb : ∀ (v1_0 : BitVec 32) (k0_hw2 : k0_chk2 v1_0) (k0_t2 : Fin (k0_t2_loop v1_0).trips), ∀ a, (k0_off76 v1_0 k0_t2) a + S1x1x256.size a ≤ S4x12x2048.size a := fun v1_0 k0_hw2 k0_t2 => k0_hw2.2.1.2.2.2.2.2.2.2.2.2.2.2.2.2.2.2.2.2.2.2.2.2.2.1 k0_t2
theorem k0_off77_inb : ∀ (v1_0 : BitVec 32) (k0_hw2 : k0_chk2 v1_0) (k0_t2 : Fin (k0_t2_loop v1_0).trips), ∀ a, (k0_off77 v1_0 k0_t2) a + S1x1x256.size a ≤ S4x12x2048.size a := fun v1_0 k0_hw2 k0_t2 => k0_hw2.2.1.2.2.2.2.2.2.2.2.2.2.2.2.2.2.2.2.2.2.2.2.2.2.2.1 k0_t2
theorem k0_off78_inb : ∀ (v1_0 : BitVec 32) (k0_hw2 : k0_chk2 v1_0) (k0_t2 : Fin (k0_t2_loop v1_0).trips), ∀ a, (k0_off78 v1_0 k0_t2) a + S1x128x256.size a ≤ S4x768x2048.size a := fun v1_0 k0_hw2 k0_t2 => k0_hw2.2.1.2.2.2.2.2.2.2.2.2.2.2.2.2.2.2.2.2.2.2.2.2.2.2.2.1 k0_t2
theorem k0_off79_inb : ∀ (v1_0 : BitVec 32) (k0_hw2 : k0_chk2 v1_0) (k0_t2 : Fin (k0_t2_loop v1_0).trips), ∀ a, (k0_off79 v1_0 k0_t2) a + S1x1x256.size a ≤ S4x12x2048.size a := fun v1_0 k0_hw2 k0_t2 => k0_hw2.2.1.2.2.2.2.2.2.2.2.2.2.2.2.2.2.2.2.2.2.2.2.2.2.2.2.2.1 k0_t2
theorem k0_off80_inb : ∀ (v1_0 : BitVec 32) (k0_hw2 : k0_chk2 v1_0) (k0_t2 : Fin (k0_t2_loop v1_0).trips), ∀ a, (k0_off80 v1_0 k0_t2) a + S1x1x256.size a ≤ S4x12x2048.size a := fun v1_0 k0_hw2 k0_t2 => k0_hw2.2.1.2.2.2.2.2.2.2.2.2.2.2.2.2.2.2.2.2.2.2.2.2.2.2.2.2.2.1 k0_t2
theorem k0_off81_inb : ∀ (v1_0 : BitVec 32) (k0_hw2 : k0_chk2 v1_0) (k0_t2 : Fin (k0_t2_loop v1_0).trips), ∀ a, (k0_off81 v1_0 k0_t2) a + S1x128x256.size a ≤ S4x768x2048.size a := fun v1_0 k0_hw2 k0_t2 => k0_hw2.2.1.2.2.2.2.2.2.2.2.2.2.2.2.2.2.2.2.2.2.2.2.2.2.2.2.2.2.2.1 k0_t2
theorem k0_off82_inb : ∀ (v1_0 : BitVec 32) (k0_hw2 : k0_chk2 v1_0) (k0_t2 : Fin (k0_t2_loop v1_0).trips), ∀ a, (k0_off82 v1_0 k0_t2) a + S1x1x256.size a ≤ S4x12x2048.size a := fun v1_0 k0_hw2 k0_t2 => k0_hw2.2.1.2.2.2.2.2.2.2.2.2.2.2.2.2.2.2.2.2.2.2.2.2.2.2.2.2.2.2.2.1 k0_t2
theorem k0_off83_inb : ∀ (v1_0 : BitVec 32) (k0_hw2 : k0_chk2 v1_0) (k0_t2 : Fin (k0_t2_loop v1_0).trips), ∀ a, (k0_off83 v1_0 k0_t2) a + S1x1x256.size a ≤ S4x12x2048.size a := fun v1_0 k0_hw2 k0_t2 => k0_hw2.2.1.2.2.2.2.2.2.2.2.2.2.2.2.2.2.2.2.2.2.2.2.2.2.2.2.2.2.2.2.2.1 k0_t2
theorem k0_off84_inb : ∀ (v1_0 : BitVec 32) (k0_hw2 : k0_chk2 v1_0) (k0_t2 : Fin (k0_t2_loop v1_0).trips), ∀ a, (k0_off84 v1_0 k0_t2) a + S1x128x256.size a ≤ S4x768x2048.size a := fun v1_0 k0_hw2 k0_t2 => k0_hw2.2.1.2.2.2.2.2.2.2.2.2.2.2.2.2.2.2.2.2.2.2.2.2.2.2.2.2.2.2.2.2.2.1 k0_t2
theorem k0_off85_inb : ∀ (v1_0 : BitVec 32) (k0_hw2 : k0_chk2 v1_0) (k0_t2 : Fin (k0_t2_loop v1_0).trips), ∀ a, (k0_off85 v1_0 k0_t2) a + S1x1x256.size a ≤ S4x12x2048.size a := fun v1_0 k0_hw2 k0_t2 => k0_hw2.2.1.2.2.2.2.2.2.2.2.2.2.2.2.2.2.2.2.2.2.2.2.2.2.2.2.2.2.2.2.2.2.2 k0_t2
theorem k0_off86_inb : ∀ (v1_0 : BitVec 32) (k0_hw2 : k0_chk2 v1_0) (k0_t2 : Fin (k0_t2_loop v1_0).trips), ∀ a, (k0_off86 v1_0 k0_t2) a + S1x1x256.size a ≤ S4x12x2048.size a := fun v1_0 k0_hw2 k0_t2 => k0_hw2.2.2.1.1 k0_t2
theorem k0_off87_inb : ∀ (v1_0 : BitVec 32) (k0_hw2 : k0_chk2 v1_0) (k0_t2 : Fin (k0_t2_loop v1_0).trips), ∀ a, (k0_off87 v1_0 k0_t2) a + S1x128x256.size a ≤ S4x768x2048.size a := fun v1_0 k0_hw2 k0_t2 => k0_hw2.2.2.1.2.1 k0_t2
theorem k0_off88_inb : ∀ (v1_0 : BitVec 32) (k0_hw2 : k0_chk2 v1_0) (k0_t2 : Fin (k0_t2_loop v1_0).trips), ∀ a, (k0_off88 v1_0 k0_t2) a + S1x1x256.size a ≤ S4x12x2048.size a := fun v1_0 k0_hw2 k0_t2 => k0_hw2.2.2.1.2.2.1 k0_t2
theorem k0_off89_inb : ∀ (v1_0 : BitVec 32) (k0_hw2 : k0_chk2 v1_0) (k0_t2 : Fin (k0_t2_loop v1_0).trips), ∀ a, (k0_off89 v1_0 k0_t2) a + S1x1x256.size a ≤ S4x12x2048.size a := fun v1_0 k0_hw2 k0_t2 => k0_hw2.2.2.1.2.2.2.1 k0_t2
theorem k0_off90_inb : ∀ (v1_0 : BitVec 32) (k0_hw2 : k0_chk2 v1_0) (k0_t2 : Fin (k0_t2_loop v1_0).trips), ∀ a, (k0_off90 v1_0 k0_t2) a + S1x128x256.size a ≤ S4x768x2048.size a := fun v1_0 k0_hw2 k0_t2 => k0_hw2.2.2.1.2.2.2.2.1 k0_t2
theorem k0_off91_inb : ∀ (v1_0 : BitVec 32) (k0_hw2 : k0_chk2 v1_0) (k0_t2 : Fin (k0_t2_loop v1_0).trips), ∀ a, (k0_off91 v1_0 k0_t2) a + S1x1x256.size a ≤ S4x12x2048.size a := fun v1_0 k0_hw2 k0_t2 => k0_hw2.2.2.1.2.2.2.2.2.1 k0_t2
theorem k0_off92_inb : ∀ (v1_0 : BitVec 32) (k0_hw2 : k0_chk2 v1_0) (k0_t2 : Fin (k0_t2_loop v1_0).trips), ∀ a, (k0_off92 v1_0 k0_t2) a + S1x1x256.size a ≤ S4x12x2048.size a := fun v1_0 k0_hw2 k0_t2 => k0_hw2.2.2.1.2.2.2.2.2.2.1 k0_t2
theorem k0_off93_inb : ∀ (v1_0 : BitVec 32) (k0_hw2 : k0_chk2 v1_0) (k0_t2 : Fin (k0_t2_loop v1_0).trips), ∀ a, (k0_off93 v1_0 k0_t2) a + S1x128x256.size a ≤ S4x768x2048.size a := fun v1_0 k0_hw2 k0_t2 => k0_hw2.2.2.1.2.2.2.2.2.2.2.1 k0_t2
theorem k0_off94_inb : ∀ (v1_0 : BitVec 32) (k0_hw2 : k0_chk2 v1_0) (k0_t2 : Fin (k0_t2_loop v1_0).trips), ∀ a, (k0_off94 v1_0 k0_t2) a + S1x1x256.size a ≤ S4x12x2048.size a := fun v1_0 k0_hw2 k0_t2 => k0_hw2.2.2.1.2.2.2.2.2.2.2.2.1 k0_t2
theorem k0_off95_inb : ∀ (v1_0 : BitVec 32) (k0_hw2 : k0_chk2 v1_0) (k0_t2 : Fin (k0_t2_loop v1_0).trips), ∀ a, (k0_off95 v1_0 k0_t2) a + S1x1x256.size a ≤ S4x12x2048.size a := fun v1_0 k0_hw2 k0_t2 => k0_hw2.2.2.1.2.2.2.2.2.2.2.2.2.1 k0_t2
theorem k0_off96_inb : ∀ (v1_0 : BitVec 32) (k0_hw2 : k0_chk2 v1_0) (k0_t2 : Fin (k0_t2_loop v1_0).trips), ∀ a, (k0_off96 v1_0 k0_t2) a + S1x128x256.size a ≤ S4x768x2048.size a := fun v1_0 k0_hw2 k0_t2 => k0_hw2.2.2.1.2.2.2.2.2.2.2.2.2.2.1 k0_t2
theorem k0_off97_inb : ∀ (v1_0 : BitVec 32) (k0_hw2 : k0_chk2 v1_0) (k0_t2 : Fin (k0_t2_loop v1_0).trips), ∀ a, (k0_off97 v1_0 k0_t2) a + S1x1x256.size a ≤ S4x12x2048.size a := fun v1_0 k0_hw2 k0_t2 => k0_hw2.2.2.1.2.2.2.2.2.2.2.2.2.2.2.1 k0_t2
theorem k0_off98_inb : ∀ (v1_0 : BitVec 32) (k0_hw2 : k0_chk2 v1_0) (k0_t2 : Fin (k0_t2_loop v1_0).trips), ∀ a, (k0_off98 v1_0 k0_t2) a + S1x1x256.size a ≤ S4x12x2048.size a := fun v1_0 k0_hw2 k0_t2 => k0_hw2.2.2.1.2.2.2.2.2.2.2.2.2.2.2.2.1 k0_t2
theorem k0_off99_inb : ∀ (v1_0 : BitVec 32) (k0_hw2 : k0_chk2 v1_0) (k0_t2 : Fin (k0_t2_loop v1_0).trips), ∀ a, (k0_off99 v1_0 k0_t2) a + S1x128x256.size a ≤ S4x768x2048.size a := fun v1_0 k0_hw2 k0_t2 => k0_hw2.2.2.1.2.2.2.2.2.2.2.2.2.2.2.2.2.1 k0_t2
theorem k0_off100_inb : ∀ (v1_0 : BitVec 32) (k0_hw2 : k0_chk2 v1_0) (k0_t2 : Fin (k0_t2_loop v1_0).trips), ∀ a, (k0_off100 v1_0 k0_t2) a + S1x1x256.size a ≤ S4x12x2048.size a := fun v1_0 k0_hw2 k0_t2 => k0_hw2.2.2.1.2.2.2.2.2.2.2.2.2.2.2.2.2.2.1 k0_t2
theorem k0_off101_inb : ∀ (v1_0 : BitVec 32) (k0_hw2 : k0_chk2 v1_0) (k0_t2 : Fin (k0_t2_loop v1_0).trips), ∀ a, (k0_off101 v1_0 k0_t2) a + S1x1x256.size a ≤ S4x12x2048.size a := fun v1_0 k0_hw2 k0_t2 => k0_hw2.2.2.1.2.2.2.2.2.2.2.2.2.2.2.2.2.2.2.1 k0_t2
theorem k0_off102_inb : ∀ (v1_0 : BitVec 32) (k0_hw2 : k0_chk2 v1_0) (k0_t2 : Fin (k0_t2_loop v1_0).trips), ∀ a, (k0_off102 v1_0 k0_t2) a + S1x128x256.size a ≤ S4x768x2048.size a := fun v1_0 k0_hw2 k0_t2 => k0_hw2.2.2.1.2.2.2.2.2.2.2.2.2.2.2.2.2.2.2.2.1 k0_t2
theorem k0_off103_inb : ∀ (v1_0 : BitVec 32) (k0_hw2 : k0_chk2 v1_0) (k0_t2 : Fin (k0_t2_loop v1_0).trips), ∀ a, (k0_off103 v1_0 k0_t2) a + S1x1x256.size a ≤ S4x12x2048.size a := fun v1_0 k0_hw2 k0_t2 => k0_hw2.2.2.1.2.2.2.2.2.2.2.2.2.2.2.2.2.2.2.2.2.1 k0_t2
theorem k0_off104_inb : ∀ (v1_0 : BitVec 32) (k0_hw2 : k0_chk2 v1_0) (k0_t2 : Fin (k0_t2_loop v1_0).trips), ∀ a, (k0_off104 v1_0 k0_t2) a + S1x1x256.size a ≤ S4x12x2048.size a := fun v1_0 k0_hw2 k0_t2 => k0_hw2.2.2.1.2.2.2.2.2.2.2.2.2.2.2.2.2.2.2.2.2.2.1 k0_t2
theorem k0_off105_inb : ∀ (v1_0 : BitVec 32) (k0_hw2 : k0_chk2 v1_0) (k0_t2 : Fin (k0_t2_loop v1_0).trips), ∀ a, (k0_off105 v1_0 k0_t2) a + S1x128x256.size a ≤ S4x768x2048.size a := fun v1_0 k0_hw2 k0_t2 => k0_hw2.2.2.1.2.2.2.2.2.2.2.2.2.2.2.2.2.2.2.2.2.2.2.1 k0_t2
theorem k0_off106_inb : ∀ (v1_0 : BitVec 32) (k0_hw2 : k0_chk2 v1_0) (k0_t2 : Fin (k0_t2_loop v1_0).trips), ∀ a, (k0_off106 v1_0 k0_t2) a + S1x1x256.size a ≤ S4x12x2048.size a := fun v1_0 k0_hw2 k0_t2 => k0_hw2.2.2.1.2.2.2.2.2.2.2.2.2.2.2.2.2.2.2.2.2.2.2.2.1 k0_t2
theorem k0_off107_inb : ∀ (v1_0 : BitVec 32) (k0_hw2 : k0_chk2 v1_0) (k0_t2 : Fin (k0_t2_loop v1_0).trips), ∀ a, (k0_off107 v1_0 k0_t2) a + S1x1x256.size a ≤ S4x12x2048.size a := fun v1_0 k0_hw2 k0_t2 => k0_hw2.2.2.1.2.2.2.2.2.2.2.2.2.2.2.2.2.2.2.2.2.2.2.2.2.1 k0_t2
theorem k0_off108_inb : ∀ (v1_0 : BitVec 32) (k0_hw2 : k0_chk2 v1_0) (k0_t2 : Fin (k0_t2_loop v1_0).trips), ∀ a, (k0_off108 v1_0 k0_t2) a + S1x128x256.size a ≤ S4x768x2048.size a := fun v1_0 k0_hw2 k0_t2 => k0_hw2.2.2.1.2.2.2.2.2.2.2.2.2.2.2.2.2.2.2.2.2.2.2.2.2.2.1 k0_t2
theorem k0_off109_inb : ∀ (v1_0 : BitVec 32) (k0_hw2 : k0_chk2 v1_0) (k0_t2 : Fin (k0_t2_loop v1_0).trips), ∀ a, (k0_off109 v1_0 k0_t2) a + S1x1x256.size a ≤ S4x12x2048.size a := fun v1_0 k0_hw2 k0_t2 => k0_hw2.2.2.1.2.2.2.2.2.2.2.2.2.2.2.2.2.2.2.2.2.2.2.2.2.2.2.1 k0_t2
theorem k0_off110_inb : ∀ (v1_0 : BitVec 32) (k0_hw2 : k0_chk2 v1_0) (k0_t2 : Fin (k0_t2_loop v1_0).trips), ∀ a, (k0_off110 v1_0 k0_t2) a + S1x1x256.size a ≤ S4x12x2048.size a := fun v1_0 k0_hw2 k0_t2 => k0_hw2.2.2.1.2.2.2.2.2.2.2.2.2.2.2.2.2.2.2.2.2.2.2.2.2.2.2.2.1 k0_t2
theorem k0_off111_inb : ∀ (v1_0 : BitVec 32) (k0_hw2 : k0_chk2 v1_0) (k0_t2 : Fin (k0_t2_loop v1_0).trips), ∀ a, (k0_off111 v1_0 k0_t2) a + S1x128x256.size a ≤ S4x768x2048.size a := fun v1_0 k0_hw2 k0_t2 => k0_hw2.2.2.1.2.2.2.2.2.2.2.2.2.2.2.2.2.2.2.2.2.2.2.2.2.2.2.2.2.1 k0_t2
theorem k0_off112_inb : ∀ (v1_0 : BitVec 32) (k0_hw2 : k0_chk2 v1_0) (k0_t2 : Fin (k0_t2_loop v1_0).trips), ∀ a, (k0_off112 v1_0 k0_t2) a + S1x1x256.size a ≤ S4x12x2048.size a := fun v1_0 k0_hw2 k0_t2 => k0_hw2.2.2.1.2.2.2.2.2.2.2.2.2.2.2.2.2.2.2.2.2.2.2.2.2.2.2.2.2.2.1 k0_t2
theorem k0_off113_inb : ∀ (v1_0 : BitVec 32) (k0_hw2 : k0_chk2 v1_0) (k0_t2 : Fin (k0_t2_loop v1_0).trips), ∀ a, (k0_off113 v1_0 k0_t2) a + S1x1x256.size a ≤ S4x12x2048.size a := fun v1_0 k0_hw2 k0_t2 => k0_hw2.2.2.1.2.2.2.2.2.2.2.2.2.2.2.2.2.2.2.2.2.2.2.2.2.2.2.2.2.2.2.1 k0_t2
theorem k0_off114_inb : ∀ (v1_0 : BitVec 32) (k0_hw2 : k0_chk2 v1_0) (k0_t2 : Fin (k0_t2_loop v1_0).trips), ∀ a, (k0_off114 v1_0 k0_t2) a + S1x128x256.size a ≤ S4x768x2048.size a := fun v1_0 k0_hw2 k0_t2 => k0_hw2.2.2.1.2.2.2.2.2.2.2.2.2.2.2.2.2.2.2.2.2.2.2.2.2.2.2.2.2.2.2.2.1 k0_t2
theorem k0_off115_inb : ∀ (v1_0 : BitVec 32) (k0_hw2 : k0_chk2 v1_0) (k0_t2 : Fin (k0_t2_loop v1_0).trips), ∀ a, (k0_off115 v1_0 k0_t2) a + S1x1x256.size a ≤ S4x12x2048.size a := fun v1_0 k0_hw2 k0_t2 => k0_hw2.2.2.1.2.2.2.2.2.2.2.2.2.2.2.2.2.2.2.2.2.2.2.2.2.2.2.2.2.2.2.2.2.1 k0_t2
theorem k0_off116_inb : ∀ (v1_0 : BitVec 32) (k0_hw2 : k0_chk2 v1_0) (k0_t2 : Fin (k0_t2_loop v1_0).trips), ∀ a, (k0_off116 v1_0 k0_t2) a + S1x1x256.size a ≤ S4x12x2048.size a := fun v1_0 k0_hw2 k0_t2 => k0_hw2.2.2.1.2.2.2.2.2.2.2.2.2.2.2.2.2.2.2.2.2.2.2.2.2.2.2.2.2.2.2.2.2.2.1 k0_t2
theorem k0_off117_inb : ∀ (v1_0 : BitVec 32) (k0_hw2 : k0_chk2 v1_0) (k0_t2 : Fin (k0_t2_loop v1_0).trips), ∀ a, (k0_off117 v1_0 k0_t2) a + S1x128x256.size a ≤ S4x768x2048.size a := fun v1_0 k0_hw2 k0_t2 => k0_hw2.2.2.1.2.2.2.2.2.2.2.2.2.2.2.2.2.2.2.2.2.2.2.2.2.2.2.2.2.2.2.2.2.2.2 k0_t2
theorem k0_off118_inb : ∀ (v1_0 : BitVec 32) (k0_hw2 : k0_chk2 v1_0) (k0_t2 : Fin (k0_t2_loop v1_0).trips), ∀ a, (k0_off118 v1_0 k0_t2) a + S1x1x256.size a ≤ S4x12x2048.size a := fun v1_0 k0_hw2 k0_t2 => k0_hw2.2.2.2.1.1 k0_t2
theorem k0_off119_inb : ∀ (v1_0 : BitVec 32) (k0_hw2 : k0_chk2 v1_0) (k0_t2 : Fin (k0_t2_loop v1_0).trips), ∀ a, (k0_off119 v1_0 k0_t2) a + S1x1x256.size a ≤ S4x12x2048.size a := fun v1_0 k0_hw2 k0_t2 => k0_hw2.2.2.2.1.2.1 k0_t2
theorem k0_off120_inb : ∀ (v1_0 : BitVec 32) (k0_hw2 : k0_chk2 v1_0) (k0_t2 : Fin (k0_t2_loop v1_0).trips), ∀ a, (k0_off120 v1_0 k0_t2) a + S1x128x256.size a ≤ S4x768x2048.size a := fun v1_0 k0_hw2 k0_t2 => k0_hw2.2.2.2.1.2.2.1 k0_t2
theorem k0_off121_inb : ∀ (v1_0 : BitVec 32) (k0_hw2 : k0_chk2 v1_0) (k0_t2 : Fin (k0_t2_loop v1_0).trips), ∀ a, (k0_off121 v1_0 k0_t2) a + S1x1x256.size a ≤ S4x12x2048.size a := fun v1_0 k0_hw2 k0_t2 => k0_hw2.2.2.2.1.2.2.2.1 k0_t2
theorem k0_off122_inb : ∀ (v1_0 : BitVec 32) (k0_hw2 : k0_chk2 v1_0) (k0_t2 : Fin (k0_t2_loop v1_0).trips), ∀ a, (k0_off122 v1_0 k0_t2) a + S1x1x256.size a ≤ S4x12x2048.size a := fun v1_0 k0_hw2 k0_t2 => k0_hw2.2.2.2.1.2.2.2.2.1 k0_t2
theorem k0_off123_inb : ∀ (v1_0 : BitVec 32) (k0_hw2 : k0_chk2 v1_0) (k0_t2 : Fin (k0_t2_loop v1_0).trips), ∀ a, (k0_off123 v1_0 k0_t2) a + S1x128x256.size a ≤ S4x768x2048.size a := fun v1_0 k0_hw2 k0_t2 => k0_hw2.2.2.2.1.2.2.2.2.2.1 k0_t2
theorem k0_off124_inb : ∀ (v1_0 : BitVec 32) (k0_hw2 : k0_chk2 v1_0) (k0_t2 : Fin (k0_t2_loop v1_0).trips), ∀ a, (k0_off124 v1_0 k0_t2) a + S1x1x256.size a ≤ S4x12x2048.size a := fun v1_0 k0_hw2 k0_t2 => k0_hw2.2.2.2.1.2.2.2.2.2.2.1 k0_t2
theorem k0_off125_inb : ∀ (v1_0 : BitVec 32) (k0_hw2 : k0_chk2 v1_0) (k0_t2 : Fin (k0_t2_loop v1_0).trips), ∀ a, (k0_off125 v1_0 k0_t2) a + S1x1x256.size a ≤ S4x12x2048.size a := fun v1_0 k0_hw2 k0_t2 => k0_hw2.2.2.2.1.2.2.2.2.2.2.2.1 k0_t2
theorem k0_off126_inb : ∀ (v1_0 : BitVec 32) (k0_hw2 : k0_chk2 v1_0) (k0_t2 : Fin (k0_t2_loop v1_0).trips), ∀ a, (k0_off126 v1_0 k0_t2) a + S1x128x256.size a ≤ S4x768x2048.size a := fun v1_0 k0_hw2 k0_t2 => k0_hw2.2.2.2.1.2.2.2.2.2.2.2.2.1 k0_t2
theorem k0_off127_inb : ∀ (v1_0 : BitVec 32) (k0_hw2 : k0_chk2 v1_0) (k0_t2 : Fin (k0_t2_loop v1_0).trips), ∀ a, (k0_off127 v1_0 k0_t2) a + S1x1x256.size a ≤ S4x12x2048.size a := fun v1_0 k0_hw2 k0_t2 => k0_hw2.2.2.2.1.2.2.2.2.2.2.2.2.2.1 k0_t2
theorem k0_off128_inb : ∀ (v1_0 : BitVec 32) (k0_hw2 : k0_chk2 v1_0) (k0_t2 : Fin (k0_t2_loop v1_0).trips), ∀ a, (k0_off128 v1_0 k0_t2) a + S1x1x256.size a ≤ S4x12x2048.size a := fun v1_0 k0_hw2 k0_t2 => k0_hw2.2.2.2.1.2.2.2.2.2.2.2.2.2.2.1 k0_t2
theorem k0_off129_inb : ∀ (v1_0 : BitVec 32) (k0_hw2 : k0_chk2 v1_0) (k0_t2 : Fin (k0_t2_loop v1_0).trips), ∀ a, (k0_off129 v1_0 k0_t2) a + S1x128x256.size a ≤ S4x768x2048.size a := fun v1_0 k0_hw2 k0_t2 => k0_hw2.2.2.2.1.2.2.2.2.2.2.2.2.2.2.2.1 k0_t2
theorem k0_off130_inb : ∀ (v1_0 : BitVec 32) (k0_hw2 : k0_chk2 v1_0) (k0_t2 : Fin (k0_t2_loop v1_0).trips), ∀ a, (k0_off130 v1_0 k0_t2) a + S1x1x256.size a ≤ S4x12x2048.size a := fun v1_0 k0_hw2 k0_t2 => k0_hw2.2.2.2.1.2.2.2.2.2.2.2.2.2.2.2.2.1 k0_t2
theorem k0_off131_inb : ∀ (v1_0 : BitVec 32) (k0_hw2 : k0_chk2 v1_0) (k0_t2 : Fin (k0_t2_loop v1_0).trips), ∀ a, (k0_off131 v1_0 k0_t2) a + S1x1x256.size a ≤ S4x12x2048.size a := fun v1_0 k0_hw2 k0_t2 => k0_hw2.2.2.2.1.2.2.2.2.2.2.2.2.2.2.2.2.2.1 k0_t2
theorem k0_off132_inb : ∀ (v1_0 : BitVec 32) (k0_hw2 : k0_chk2 v1_0) (k0_t2 : Fin (k0_t2_loop v1_0).trips), ∀ a, (k0_off132 v1_0 k0_t2) a + S1x128x256.size a ≤ S4x768x2048.size a := fun v1_0 k0_hw2 k0_t2 => k0_hw2.2.2.2.1.2.2.2.2.2.2.2.2.2.2.2.2.2.2.1 k0_t2
theorem k0_off133_inb : ∀ (v1_0 : BitVec 32) (k0_hw2 : k0_chk2 v1_0) (k0_t2 : Fin (k0_t2_loop v1_0).trips), ∀ a, (k0_off133 v1_0 k0_t2) a + S1x1x256.size a ≤ S4x12x2048.size a := fun v1_0 k0_hw2 k0_t2 => k0_hw2.2.2.2.1.2.2.2.2.2.2.2.2.2.2.2.2.2.2.2.1 k0_t2
theorem k0_off134_inb : ∀ (v1_0 : BitVec 32) (k0_hw2 : k0_chk2 v1_0) (k0_t2 : Fin (k0_t2_loop v1_0).trips), ∀ a, (k0_off134 v1_0 k0_t2) a + S1x1x256.size a ≤ S4x12x2048.size a := fun v1_0 k0_hw2 k0_t2 => k0_hw2.2.2.2.1.2.2.2.2.2.2.2.2.2.2.2.2.2.2.2.2.1 k0_t2
theorem k0_off135_inb : ∀ (v1_0 : BitVec 32) (k0_hw2 : k0_chk2 v1_0) (k0_t2 : Fin (k0_t2_loop v1_0).trips), ∀ a, (k0_off135 v1_0 k0_t2) a + S1x128x256.size a ≤ S4x768x2048.size a := fun v1_0 k0_hw2 k0_t2 => k0_hw2.2.2.2.1.2.2.2.2.2.2.2.2.2.2.2.2.2.2.2.2.2.1 k0_t2
theorem k0_off136_inb : ∀ (v1_0 : BitVec 32) (k0_hw2 : k0_chk2 v1_0) (k0_t2 : Fin (k0_t2_loop v1_0).trips), ∀ a, (k0_off136 v1_0 k0_t2) a + S1x1x256.size a ≤ S4x12x2048.size a := fun v1_0 k0_hw2 k0_t2 => k0_hw2.2.2.2.1.2.2.2.2.2.2.2.2.2.2.2.2.2.2.2.2.2.2.1 k0_t2
theorem k0_off137_inb : ∀ (v1_0 : BitVec 32) (k0_hw2 : k0_chk2 v1_0) (k0_t2 : Fin (k0_t2_loop v1_0).trips), ∀ a, (k0_off137 v1_0 k0_t2) a + S1x1x256.size a ≤ S4x12x2048.size a := fun v1_0 k0_hw2 k0_t2 => k0_hw2.2.2.2.1.2.2.2.2.2.2.2.2.2.2.2.2.2.2.2.2.2.2.2.1 k0_t2
theorem k0_off138_inb : ∀ (v1_0 : BitVec 32) (k0_hw2 : k0_chk2 v1_0) (k0_t2 : Fin (k0_t2_loop v1_0).trips), ∀ a, (k0_off138 v1_0 k0_t2) a + S1x128x256.size a ≤ S4x768x2048.size a := fun v1_0 k0_hw2 k0_t2 => k0_hw2.2.2.2.1.2.2.2.2.2.2.2.2.2.2.2.2.2.2.2.2.2.2.2.2.1 k0_t2
theorem k0_off139_inb : ∀ (v1_0 : BitVec 32) (k0_hw2 : k0_chk2 v1_0) (k0_t2 : Fin (k0_t2_loop v1_0).trips), ∀ a, (k0_off139 v1_0 k0_t2) a + S1x1x256.size a ≤ S4x12x2048.size a := fun v1_0 k0_hw2 k0_t2 => k0_hw2.2.2.2.1.2.2.2.2.2.2.2.2.2.2.2.2.2.2.2.2.2.2.2.2.2.1 k0_t2
theorem k0_off140_inb : ∀ (v1_0 : BitVec 32) (k0_hw2 : k0_chk2 v1_0) (k0_t2 : Fin (k0_t2_loop v1_0).trips), ∀ a, (k0_off140 v1_0 k0_t2) a + S1x1x256.size a ≤ S4x12x2048.size a := fun v1_0 k0_hw2 k0_t2 => k0_hw2.2.2.2.1.2.2.2.2.2.2.2.2.2.2.2.2.2.2.2.2.2.2.2.2.2.2.1 k0_t2
theorem k0_off141_inb : ∀ (v1_0 : BitVec 32) (k0_hw2 : k0_chk2 v1_0) (k0_t2 : Fin (k0_t2_loop v1_0).trips), ∀ a, (k0_off141 v1_0 k0_t2) a + S1x128x256.size a ≤ S4x768x2048.size a := fun v1_0 k0_hw2 k0_t2 => k0_hw2.2.2.2.1.2.2.2.2.2.2.2.2.2.2.2.2.2.2.2.2.2.2.2.2.2.2.2.1 k0_t2
theorem k0_off142_inb : ∀ (v1_0 : BitVec 32) (k0_hw2 : k0_chk2 v1_0) (k0_t2 : Fin (k0_t2_loop v1_0).trips), ∀ a, (k0_off142 v1_0 k0_t2) a + S1x1x256.size a ≤ S4x12x2048.size a := fun v1_0 k0_hw2 k0_t2 => k0_hw2.2.2.2.1.2.2.2.2.2.2.2.2.2.2.2.2.2.2.2.2.2.2.2.2.2.2.2.2.1 k0_t2
theorem k0_off143_inb : ∀ (v1_0 : BitVec 32) (k0_hw2 : k0_chk2 v1_0) (k0_t2 : Fin (k0_t2_loop v1_0).trips), ∀ a, (k0_off143 v1_0 k0_t2) a + S1x1x256.size a ≤ S4x12x2048.size a := fun v1_0 k0_hw2 k0_t2 => k0_hw2.2.2.2.1.2.2.2.2.2.2.2.2.2.2.2.2.2.2.2.2.2.2.2.2.2.2.2.2.2.1 k0_t2
theorem k0_off144_inb : ∀ (v1_0 : BitVec 32) (k0_hw2 : k0_chk2 v1_0) (k0_t2 : Fin (k0_t2_loop v1_0).trips), ∀ a, (k0_off144 v1_0 k0_t2) a + S1x128x256.size a ≤ S4x768x2048.size a := fun v1_0 k0_hw2 k0_t2 => k0_hw2.2.2.2.1.2.2.2.2.2.2.2.2.2.2.2.2.2.2.2.2.2.2.2.2.2.2.2.2.2.2.1 k0_t2
theorem k0_off145_inb : ∀ (v1_0 : BitVec 32) (k0_hw2 : k0_chk2 v1_0) (k0_t2 : Fin (k0_t2_loop v1_0).trips), ∀ a, (k0_off145 v1_0 k0_t2) a + S1x1x256.size a ≤ S4x12x2048.size a := fun v1_0 k0_hw2 k0_t2 => k0_hw2.2.2.2.1.2.2.2.2.2.2.2.2.2.2.2.2.2.2.2.2.2.2.2.2.2.2.2.2.2.2.2.1 k0_t2
theorem k0_off146_inb : ∀ (v1_0 : BitVec 32) (k0_hw2 : k0_chk2 v1_0) (k0_t2 : Fin (k0_t2_loop v1_0).trips), ∀ a, (k0_off146 v1_0 k0_t2) a + S1x1x256.size a ≤ S4x12x2048.size a := fun v1_0 k0_hw2 k0_t2 => k0_hw2.2.2.2.1.2.2.2.2.2.2.2.2.2.2.2.2.2.2.2.2.2.2.2.2.2.2.2.2.2.2.2.2.1 k0_t2
theorem k0_off147_inb : ∀ (v1_0 : BitVec 32) (k0_hw2 : k0_chk2 v1_0) (k0_t2 : Fin (k0_t2_loop v1_0).trips), ∀ a, (k0_off147 v1_0 k0_t2) a + S1x128x256.size a ≤ S4x768x2048.size a := fun v1_0 k0_hw2 k0_t2 => k0_hw2.2.2.2.1.2.2.2.2.2.2.2.2.2.2.2.2.2.2.2.2.2.2.2.2.2.2.2.2.2.2.2.2.2.1 k0_t2
theorem k0_off148_inb : ∀ (v1_0 : BitVec 32) (k0_hw2 : k0_chk2 v1_0) (k0_t2 : Fin (k0_t2_loop v1_0).trips), ∀ a, (k0_off148 v1_0 k0_t2) a + S1x1x256.size a ≤ S4x12x2048.size a := fun v1_0 k0_hw2 k0_t2 => k0_hw2.2.2.2.1.2.2.2.2.2.2.2.2.2.2.2.2.2.2.2.2.2.2.2.2.2.2.2.2.2.2.2.2.2.2.1 k0_t2
theorem k0_off149_inb : ∀ (v1_0 : BitVec 32) (k0_hw2 : k0_chk2 v1_0) (k0_t2 : Fin (k0_t2_loop v1_0).trips), ∀ a, (k0_off149 v1_0 k0_t2) a + S1x1x256.size a ≤ S4x12x2048.size a := fun v1_0 k0_hw2 k0_t2 => k0_hw2.2.2.2.1.2.2.2.2.2.2.2.2.2.2.2.2.2.2.2.2.2.2.2.2.2.2.2.2.2.2.2.2.2.2.2 k0_t2
theorem k0_off150_inb : ∀ (v1_0 : BitVec 32) (k0_hw2 : k0_chk2 v1_0) (k0_t2 : Fin (k0_t2_loop v1_0).trips), ∀ a, (k0_off150 v1_0 k0_t2) a + S1x128x256.size a ≤ S4x768x2048.size a := fun v1_0 k0_hw2 k0_t2 => k0_hw2.2.2.2.2.1.1 k0_t2
theorem k0_off151_inb : ∀ (v1_0 : BitVec 32) (k0_hw2 : k0_chk2 v1_0) (k0_t2 : Fin (k0_t2_loop v1_0).trips), ∀ a, (k0_off151 v1_0 k0_t2) a + S1x1x256.size a ≤ S4x12x2048.size a := fun v1_0 k0_hw2 k0_t2 => k0_hw2.2.2.2.2.1.2.1 k0_t2
theorem k0_off152_inb : ∀ (v1_0 : BitVec 32) (k0_hw2 : k0_chk2 v1_0) (k0_t2 : Fin (k0_t2_loop v1_0).trips), ∀ a, (k0_off152 v1_0 k0_t2) a + S1x1x256.size a ≤ S4x12x2048.size a := fun v1_0 k0_hw2 k0_t2 => k0_hw2.2.2.2.2.1.2.2.1 k0_t2
theorem k0_off153_inb : ∀ (v1_0 : BitVec 32) (k0_hw2 : k0_chk2 v1_0) (k0_t2 : Fin (k0_t2_loop v1_0).trips), ∀ a, (k0_off153 v1_0 k0_t2) a + S1x128x256.size a ≤ S4x768x2048.size a := fun v1_0 k0_hw2 k0_t2 => k0_hw2.2.2.2.2.1.2.2.2.1 k0_t2
theorem k0_off154_inb : ∀ (v1_0 : BitVec 32) (k0_hw2 : k0_chk2 v1_0) (k0_t2 : Fin (k0_t2_loop v1_0).trips), ∀ a, (k0_off154 v1_0 k0_t2) a + S1x1x256.size a ≤ S4x12x2048.size a := fun v1_0 k0_hw2 k0_t2 => k0_hw2.2.2.2.2.1.2.2.2.2.1 k0_t2
theorem k0_off155_inb : ∀ (v1_0 : BitVec 32) (k0_hw2 : k0_chk2 v1_0) (k0_t2 : Fin (k0_t2_loop v1_0).trips), ∀ a, (k0_off155 v1_0 k0_t2) a + S1x1x256.size a ≤ S4x12x2048.size a := fun v1_0 k0_hw2 k0_t2 => k0_hw2.2.2.2.2.1.2.2.2.2.2.1 k0_t2
theorem k0_off156_inb : ∀ (v1_0 : BitVec 32) (k0_hw2 : k0_chk2 v1_0) (k0_t2 : Fin (k0_t2_loop v1_0).trips), ∀ a, (k0_off156 v1_0 k0_t2) a + S1x128x256.size a ≤ S4x768x2048.size a := fun v1_0 k0_hw2 k0_t2 => k0_hw2.2.2.2.2.1.2.2.2.2.2.2.1 k0_t2
theorem k0_off157_inb : ∀ (v1_0 : BitVec 32) (k0_hw2 : k0_chk2 v1_0) (k0_t2 : Fin (k0_t2_loop v1_0).trips), ∀ a, (k0_off157 v1_0 k0_t2) a + S1x1x256.size a ≤ S4x12x2048.size a := fun v1_0 k0_hw2 k0_t2 => k0_hw2.2.2.2.2.1.2.2.2.2.2.2.2.1 k0_t2
theorem k0_off158_inb : ∀ (v1_0 : BitVec 32) (k0_hw2 : k0_chk2 v1_0) (k0_t2 : Fin (k0_t2_loop v1_0).trips), ∀ a, (k0_off158 v1_0 k0_t2) a + S1x1x256.size a ≤ S4x12x2048.size a := fun v1_0 k0_hw2 k0_t2 => k0_hw2.2.2.2.2.1.2.2.2.2.2.2.2.2.1 k0_t2
theorem k0_off159_inb : ∀ (v1_0 : BitVec 32) (k0_hw2 : k0_chk2 v1_0) (k0_t2 : Fin (k0_t2_loop v1_0).trips), ∀ a, (k0_off159 v1_0 k0_t2) a + S1x128x256.size a ≤ S4x768x2048.size a := fun v1_0 k0_hw2 k0_t2 => k0_hw2.2.2.2.2.1.2.2.2.2.2.2.2.2.2.1 k0_t2
theorem k0_off160_inb : ∀ (v1_0 : BitVec 32) (k0_hw2 : k0_chk2 v1_0) (k0_t2 : Fin (k0_t2_loop v1_0).trips), ∀ a, (k0_off160 v1_0 k0_t2) a + S1x1x256.size a ≤ S4x12x2048.size a := fun v1_0 k0_hw2 k0_t2 => k0_hw2.2.2.2.2.1.2.2.2.2.2.2.2.2.2.2.1 k0_t2
theorem k0_off161_inb : ∀ (v1_0 : BitVec 32) (k0_hw2 : k0_chk2 v1_0) (k0_t2 : Fin (k0_t2_loop v1_0).trips), ∀ a, (k0_off161 v1_0 k0_t2) a + S1x1x256.size a ≤ S4x12x2048.size a := fun v1_0 k0_hw2 k0_t2 => k0_hw2.2.2.2.2.1.2.2.2.2.2.2.2.2.2.2.2.1 k0_t2
theorem k0_off162_inb : ∀ (v1_0 : BitVec 32) (k0_hw2 : k0_chk2 v1_0) (k0_t2 : Fin (k0_t2_loop v1_0).trips), ∀ a, (k0_off162 v1_0 k0_t2) a + S1x128x256.size a ≤ S4x768x2048.size a := fun v1_0 k0_hw2 k0_t2 => k0_hw2.2.2.2.2.1.2.2.2.2.2.2.2.2.2.2.2.2.1 k0_t2
theorem k0_off163_inb : ∀ (v1_0 : BitVec 32) (k0_hw2 : k0_chk2 v1_0) (k0_t2 : Fin (k0_t2_loop v1_0).trips), ∀ a, (k0_off163 v1_0 k0_t2) a + S1x1x256.size a ≤ S4x12x2048.size a := fun v1_0 k0_hw2 k0_t2 => k0_hw2.2.2.2.2.1.2.2.2.2.2.2.2.2.2.2.2.2.2.1 k0_t2
theorem k0_off164_inb : ∀ (v1_0 : BitVec 32) (k0_hw2 : k0_chk2 v1_0) (k0_t2 : Fin (k0_t2_loop v1_0).trips), ∀ a, (k0_off164 v1_0 k0_t2) a + S1x1x256.size a ≤ S4x12x2048.size a := fun v1_0 k0_hw2 k0_t2 => k0_hw2.2.2.2.2.1.2.2.2.2.2.2.2.2.2.2.2.2.2.2.1 k0_t2
theorem k0_off165_inb : ∀ (v1_0 : BitVec 32) (k0_hw2 : k0_chk2 v1_0) (k0_t2 : Fin (k0_t2_loop v1_0).trips), ∀ a, (k0_off165 v1_0 k0_t2) a + S1x128x256.size a ≤ S4x768x2048.size a := fun v1_0 k0_hw2 k0_t2 => k0_hw2.2.2.2.2.1.2.2.2.2.2.2.2.2.2.2.2.2.2.2.2.1 k0_t2
theorem k0_off166_inb : ∀ (v1_0 : BitVec 32) (k0_hw2 : k0_chk2 v1_0) (k0_t2 : Fin (k0_t2_loop v1_0).trips), ∀ a, (k0_off166 v1_0 k0_t2) a + S1x1x256.size a ≤ S4x12x2048.size a := fun v1_0 k0_hw2 k0_t2 => k0_hw2.2.2.2.2.1.2.2.2.2.2.2.2.2.2.2.2.2.2.2.2.2.1 k0_t2
theorem k0_off167_inb : ∀ (v1_0 : BitVec 32) (k0_hw2 : k0_chk2 v1_0) (k0_t2 : Fin (k0_t2_loop v1_0).trips), ∀ a, (k0_off167 v1_0 k0_t2) a + S1x1x256.size a ≤ S4x12x2048.size a := fun v1_0 k0_hw2 k0_t2 => k0_hw2.2.2.2.2.1.2.2.2.2.2.2.2.2.2.2.2.2.2.2.2.2.2.1 k0_t2
theorem k0_off168_inb : ∀ (v1_0 : BitVec 32) (k0_hw2 : k0_chk2 v1_0) (k0_t2 : Fin (k0_t2_loop v1_0).trips), ∀ a, (k0_off168 v1_0 k0_t2) a + S1x128x256.size a ≤ S4x768x2048.size a := fun v1_0 k0_hw2 k0_t2 => k0_hw2.2.2.2.2.1.2.2.2.2.2.2.2.2.2.2.2.2.2.2.2.2.2.2.1 k0_t2
theorem k0_off169_inb : ∀ (v1_0 : BitVec 32) (k0_hw2 : k0_chk2 v1_0) (k0_t2 : Fin (k0_t2_loop v1_0).trips), ∀ a, (k0_off169 v1_0 k0_t2) a + S1x1x256.size a ≤ S4x12x2048.size a := fun v1_0 k0_hw2 k0_t2 => k0_hw2.2.2.2.2.1.2.2.2.2.2.2.2.2.2.2.2.2.2.2.2.2.2.2.2.1 k0_t2
theorem k0_off170_inb : ∀ (v1_0 : BitVec 32) (k0_hw2 : k0_chk2 v1_0) (k0_t2 : Fin (k0_t2_loop v1_0).trips), ∀ a, (k0_off170 v1_0 k0_t2) a + S1x1x256.size a ≤ S4x12x2048.size a := fun v1_0 k0_hw2 k0_t2 => k0_hw2.2.2.2.2.1.2.2.2.2.2.2.2.2.2.2.2.2.2.2.2.2.2.2.2.2.1 k0_t2
theorem k0_off171_inb : ∀ (v1_0 : BitVec 32) (k0_hw2 : k0_chk2 v1_0) (k0_t2 : Fin (k0_t2_loop v1_0).trips), ∀ a, (k0_off171 v1_0 k0_t2) a + S1x128x256.size a ≤ S4x768x2048.size a := fun v1_0 k0_hw2 k0_t2 => k0_hw2.2.2.2.2.1.2.2.2.2.2.2.2.2.2.2.2.2.2.2.2.2.2.2.2.2.2.1 k0_t2
theorem k0_off172_inb : ∀ (v1_0 : BitVec 32) (k0_hw2 : k0_chk2 v1_0) (k0_t2 : Fin (k0_t2_loop v1_0).trips), ∀ a, (k0_off172 v1_0 k0_t2) a + S1x1x256.size a ≤ S4x12x2048.size a := fun v1_0 k0_hw2 k0_t2 => k0_hw2.2.2.2.2.1.2.2.2.2.2.2.2.2.2.2.2.2.2.2.2.2.2.2.2.2.2.2.1 k0_t2
theorem k0_off173_inb : ∀ (v1_0 : BitVec 32) (k0_hw2 : k0_chk2 v1_0) (k0_t2 : Fin (k0_t2_loop v1_0).trips), ∀ a, (k0_off173 v1_0 k0_t2) a + S1x1x256.size a ≤ S4x12x2048.size a := fun v1_0 k0_hw2 k0_t2 => k0_hw2.2.2.2.2.1.2.2.2.2.2.2.2.2.2.2.2.2.2.2.2.2.2.2.2.2.2.2.2.1 k0_t2
theorem k0_off174_inb : ∀ (v1_0 : BitVec 32) (k0_hw2 : k0_chk2 v1_0) (k0_t2 : Fin (k0_t2_loop v1_0).trips), ∀ a, (k0_off174 v1_0 k0_t2) a + S1x128x256.size a ≤ S4x768x2048.size a := fun v1_0 k0_hw2 k0_t2 => k0_hw2.2.2.2.2.1.2.2.2.2.2.2.2.2.2.2.2.2.2.2.2.2.2.2.2.2.2.2.2.2.1 k0_t2
theorem k0_off175_inb : ∀ (v1_0 : BitVec 32) (k0_hw2 : k0_chk2 v1_0) (k0_t2 : Fin (k0_t2_loop v1_0).trips), ∀ a, (k0_off175 v1_0 k0_t2) a + S1x1x256.size a ≤ S4x12x2048.size a := fun v1_0 k0_hw2 k0_t2 => k0_hw2.2.2.2.2.1.2.2.2.2.2.2.2.2.2.2.2.2.2.2.2.2.2.2.2.2.2.2.2.2.2.1 k0_t2
theorem k0_off176_inb : ∀ (v1_0 : BitVec 32) (k0_hw2 : k0_chk2 v1_0) (k0_t2 : Fin (k0_t2_loop v1_0).trips), ∀ a, (k0_off176 v1_0 k0_t2) a + S1x1x256.size a ≤ S4x12x2048.size a := fun v1_0 k0_hw2 k0_t2 => k0_hw2.2.2.2.2.1.2.2.2.2.2.2.2.2.2.2.2.2.2.2.2.2.2.2.2.2.2.2.2.2.2.2.1 k0_t2
theorem k0_off177_inb : ∀ (v1_0 : BitVec 32) (k0_hw2 : k0_chk2 v1_0) (k0_t2 : Fin (k0_t2_loop v1_0).trips), ∀ a, (k0_off177 v1_0 k0_t2) a + S1x128x256.size a ≤ S4x768x2048.size a := fun v1_0 k0_hw2 k0_t2 => k0_hw2.2.2.2.2.1.2.2.2.2.2.2.2.2.2.2.2.2.2.2.2.2.2.2.2.2.2.2.2.2.2.2.2.1 k0_t2
theorem k0_off178_inb : ∀ (v1_0 : BitVec 32) (k0_hw2 : k0_chk2 v1_0) (k0_t2 : Fin (k0_t2_loop v1_0).trips), ∀ a, (k0_off178 v1_0 k0_t2) a + S1x1x256.size a ≤ S4x12x2048.size a := fun v1_0 k0_hw2 k0_t2 => k0_hw2.2.2.2.2.1.2.2.2.2.2.2.2.2.2.2.2.2.2.2.2.2.2.2.2.2.2.2.2.2.2.2.2.2.1 k0_t2
theorem k0_off179_inb : ∀ (v1_0 : BitVec 32) (k0_hw2 : k0_chk2 v1_0) (k0_t2 : Fin (k0_t2_loop v1_0).trips), ∀ a, (k0_off179 v1_0 k0_t2) a + S1x1x256.size a ≤ S4x12x2048.size a := fun v1_0 k0_hw2 k0_t2 => k0_hw2.2.2.2.2.1.2.2.2.2.2.2.2.2.2.2.2.2.2.2.2.2.2.2.2.2.2.2.2.2.2.2.2.2.2.1 k0_t2
theorem k0_off180_inb : ∀ (v1_0 : BitVec 32) (k0_hw2 : k0_chk2 v1_0) (k0_t2 : Fin (k0_t2_loop v1_0).trips), ∀ a, (k0_off180 v1_0 k0_t2) a + S1x128x256.size a ≤ S4x768x2048.size a := fun v1_0 k0_hw2 k0_t2 => k0_hw2.2.2.2.2.1.2.2.2.2.2.2.2.2.2.2.2.2.2.2.2.2.2.2.2.2.2.2.2.2.2.2.2.2.2.2.1 k0_t2
theorem k0_off181_inb : ∀ (v1_0 : BitVec 32) (k0_hw2 : k0_chk2 v1_0) (k0_t2 : Fin (k0_t2_loop v1_0).trips), ∀ a, (k0_off181 v1_0 k0_t2) a + S1x1x256.size a ≤ S4x12x2048.size a := fun v1_0 k0_hw2 k0_t2 => k0_hw2.2.2.2.2.1.2.2.2.2.2.2.2.2.2.2.2.2.2.2.2.2.2.2.2.2.2.2.2.2.2.2.2.2.2.2.2 k0_t2
theorem k0_off182_inb : ∀ (v1_0 : BitVec 32) (k0_hw2 : k0_chk2 v1_0) (k0_t2 : Fin (k0_t2_loop v1_0).trips), ∀ a, (k0_off182 v1_0 k0_t2) a + S1x1x256.size a ≤ S4x12x2048.size a := fun v1_0 k0_hw2 k0_t2 => k0_hw2.2.2.2.2.2.1.1 k0_t2
theorem k0_off183_inb : ∀ (v1_0 : BitVec 32) (k0_hw2 : k0_chk2 v1_0) (k0_t2 : Fin (k0_t2_loop v1_0).trips), ∀ a, (k0_off183 v1_0 k0_t2) a + S1x128x256.size a ≤ S4x768x2048.size a := fun v1_0 k0_hw2 k0_t2 => k0_hw2.2.2.2.2.2.1.2.1 k0_t2
theorem k0_off184_inb : ∀ (v1_0 : BitVec 32) (k0_hw2 : k0_chk2 v1_0) (k0_t2 : Fin (k0_t2_loop v1_0).trips), ∀ a, (k0_off184 v1_0 k0_t2) a + S1x1x256.size a ≤ S4x12x2048.size a := fun v1_0 k0_hw2 k0_t2 => k0_hw2.2.2.2.2.2.1.2.2.1 k0_t2
theorem k0_off185_inb : ∀ (v1_0 : BitVec 32) (k0_hw2 : k0_chk2 v1_0) (k0_t2 : Fin (k0_t2_loop v1_0).trips), ∀ a, (k0_off185 v1_0 k0_t2) a + S1x1x256.size a ≤ S4x12x2048.size a := fun v1_0 k0_hw2 k0_t2 => k0_hw2.2.2.2.2.2.1.2.2.2.1 k0_t2
theorem k0_t3_ok : ∀ (v1_0 : BitVec 32) (k0_hw2 : k0_chk2 v1_0), (k0_t3_loop v1_0).OK := fun v1_0 k0_hw2 => k0_hw2.2.2.2.2.2.1.2.2.2.2.1
theorem k0_mult7_dvd : ∀ (v1_0 : BitVec 32) (k0_hw2 : k0_chk2 v1_0) (k0_t3 : Fin (k0_t3_loop v1_0).trips), 2048 ∣ (k0_mult7 v1_0 k0_t3).toNat := fun v1_0 k0_hw2 k0_t3 => k0_hw2.2.2.2.2.2.1.2.2.2.2.2.1 k0_t3
theorem k0_off186_inb : ∀ (v1_0 : BitVec 32) (k0_hw2 : k0_chk2 v1_0) (k0_t3 : Fin (k0_t3_loop v1_0).trips), ∀ (k0_h5 : k0_cond5 v1_0 k0_t3 = 1#1), ∀ a, (k0_off186 v1_0 k0_t3) a + S1.size a ≤ S17.size a := fun v1_0 k0_hw2 k0_t3 k0_h5 => k0_hw2.2.2.2.2.2.1.2.2.2.2.2.2.1 k0_t3 k0_h5
theorem k0_mult8_dvd : ∀ (v1_0 : BitVec 32) (k0_hw2 : k0_chk2 v1_0) (k0_t3 : Fin (k0_t3_loop v1_0).trips), ∀ (k0_h5 : k0_cond5 v1_0 k0_t3 = 1#1), 2048 ∣ (k0_mult8 v1_0 k0_t3).toNat := fun v1_0 k0_hw2 k0_t3 k0_h5 => k0_hw2.2.2.2.2.2.1.2.2.2.2.2.2.2.1 k0_t3 k0_h5
theorem k0_off187_inb : ∀ (v1_0 : BitVec 32) (k0_hw2 : k0_chk2 v1_0) (k0_t3 : Fin (k0_t3_loop v1_0).trips), ∀ (k0_h5 : k0_cond5 v1_0 k0_t3 = 1#1), ∀ a, (k0_off187 v1_0 k0_t3) a + S1.size a ≤ S4.size a := fun v1_0 k0_hw2 k0_t3 k0_h5 => k0_hw2.2.2.2.2.2.1.2.2.2.2.2.2.2.2.1 k0_t3 k0_h5
theorem k0_off188_inb : ∀ (v1_0 : BitVec 32) (k0_hw2 : k0_chk2 v1_0) (k0_t3 : Fin (k0_t3_loop v1_0).trips), ∀ (k0_h5 : k0_cond5 v1_0 k0_t3 = 1#1), ∀ a, (k0_off188 v1_0 k0_t3) a + S1x768x2048.size a ≤ S4x768x2048.size a := fun v1_0 k0_hw2 k0_t3 k0_h5 => k0_hw2.2.2.2.2.2.1.2.2.2.2.2.2.2.2.2.1 k0_t3 k0_h5
theorem k0_off188_wordsi8 : ∀ (v1_0 : BitVec 32) (k0_hw2 : k0_chk2 v1_0) (k0_t3 : Fin (k0_t3_loop v1_0).trips), ∀ (k0_h5 : k0_cond5 v1_0 k0_t3 = 1#1), (Rect.unit (s := S4x768x2048) (k0_off188 v1_0 k0_t3) S1x768x2048.size (k0_off188_inb v1_0 k0_hw2 k0_t3 k0_h5)).WholeWords (EltTy.packing .i8) := fun v1_0 k0_hw2 k0_t3 k0_h5 => k0_hw2.2.2.2.2.2.1.2.2.2.2.2.2.2.2.2.2.1 k0_t3 k0_h5 (k0_off188_inb v1_0 k0_hw2 k0_t3 k0_h5)
theorem k0_off190_inb : ∀ (v1_0 : BitVec 32) (k0_hw2 : k0_chk2 v1_0) (k0_t3 : Fin (k0_t3_loop v1_0).trips), ∀ (k0_h5 : k0_cond5 v1_0 k0_t3 = 1#1), ∀ a, (k0_off190 v1_0 k0_t3) a + S1.size a ≤ S4.size a := fun v1_0 k0_hw2 k0_t3 k0_h5 => k0_hw2.2.2.2.2.2.1.2.2.2.2.2.2.2.2.2.2.2.1 k0_t3 k0_h5
theorem k0_off191_inb : ∀ (v1_0 : BitVec 32) (k0_hw2 : k0_chk2 v1_0) (k0_t3 : Fin (k0_t3_loop v1_0).trips), ∀ (k0_h5 : k0_cond5 v1_0 k0_t3 = 1#1), ∀ a, (k0_off191 v1_0 k0_t3) a + S1x12x2048.size a ≤ S4x12x2048.size a := fun v1_0 k0_hw2 k0_t3 k0_h5 => k0_hw2.2.2.2.2.2.1.2.2.2.2.2.2.2.2.2.2.2.2.1 k0_t3 k0_h5
theorem k0_off193_inb : ∀ (v1_0 : BitVec 32) (k0_hw2 : k0_chk2 v1_0) (k0_t3 : Fin (k0_t3_loop v1_0).trips), ∀ a, (k0_off193 v1_0 k0_t3) a + S1.size a ≤ S17.size a := fun v1_0 k0_hw2 k0_t3 => k0_hw2.2.2.2.2.2.1.2.2.2.2.2.2.2.2.2.2.2.2.2.1 k0_t3
theorem k0_mult9_dvd : ∀ (v1_0 : BitVec 32) (k0_hw2 : k0_chk2 v1_0) (k0_t3 : Fin (k0_t3_loop v1_0).trips), 2048 ∣ (k0_mult9 v1_0 k0_t3).toNat := fun v1_0 k0_hw2 k0_t3 => k0_hw2.2.2.2.2.2.1.2.2.2.2.2.2.2.2.2.2.2.2.2.2.1 k0_t3
theorem k0_off194_inb : ∀ (v1_0 : BitVec 32) (k0_hw2 : k0_chk2 v1_0) (k0_t3 : Fin (k0_t3_loop v1_0).trips), ∀ a, (k0_off194 v1_0 k0_t3) a + S1.size a ≤ S4.size a := fun v1_0 k0_hw2 k0_t3 => k0_hw2.2.2.2.2.2.1.2.2.2.2.2.2.2.2.2.2.2.2.2.2.2.1 k0_t3
theorem k0_off195_inb : ∀ (v1_0 : BitVec 32) (k0_hw2 : k0_chk2 v1_0) (k0_t3 : Fin (k0_t3_loop v1_0).trips), ∀ a, (k0_off195 v1_0 k0_t3) a + S1x768x2048.size a ≤ S4x768x2048.size a := fun v1_0 k0_hw2 k0_t3 => k0_hw2.2.2.2.2.2.1.2.2.2.2.2.2.2.2.2.2.2.2.2.2.2.2.1 k0_t3
theorem k0_off195_wordsi8 : ∀ (v1_0 : BitVec 32) (k0_hw2 : k0_chk2 v1_0) (k0_t3 : Fin (k0_t3_loop v1_0).trips), (Rect.unit (s := S4x768x2048) (k0_off195 v1_0 k0_t3) S1x768x2048.size (k0_off195_inb v1_0 k0_hw2 k0_t3)).WholeWords (EltTy.packing .i8) := fun v1_0 k0_hw2 k0_t3 => k0_hw2.2.2.2.2.2.1.2.2.2.2.2.2.2.2.2.2.2.2.2.2.2.2.2.1 k0_t3 (k0_off195_inb v1_0 k0_hw2 k0_t3)
theorem k0_off197_inb : ∀ (v1_0 : BitVec 32) (k0_hw2 : k0_chk2 v1_0) (k0_t3 : Fin (k0_t3_loop v1_0).trips), ∀ a, (k0_off197 v1_0 k0_t3) a + S1.size a ≤ S4.size a := fun v1_0 k0_hw2 k0_t3 => k0_hw2.2.2.2.2.2.1.2.2.2.2.2.2.2.2.2.2.2.2.2.2.2.2.2.2.1 k0_t3
theorem k0_off198_inb : ∀ (v1_0 : BitVec 32) (k0_hw2 : k0_chk2 v1_0) (k0_t3 : Fin (k0_t3_loop v1_0).trips), ∀ a, (k0_off198 v1_0 k0_t3) a + S1x12x2048.size a ≤ S4x12x2048.size a := fun v1_0 k0_hw2 k0_t3 => k0_hw2.2.2.2.2.2.1.2.2.2.2.2.2.2.2.2.2.2.2.2.2.2.2.2.2.2.1 k0_t3
theorem k0_off200_inb : ∀ (v1_0 : BitVec 32) (k0_hw2 : k0_chk2 v1_0) (k0_t3 : Fin (k0_t3_loop v1_0).trips), ∀ a, (k0_off200 v1_0 k0_t3) a + S1.size a ≤ S17.size a := fun v1_0 k0_hw2 k0_t3 => k0_hw2.2.2.2.2.2.1.2.2.2.2.2.2.2.2.2.2.2.2.2.2.2.2.2.2.2.2.1 k0_t3
theorem k0_off201_inb : ∀ (v1_0 : BitVec 32) (k0_hw2 : k0_chk2 v1_0) (k0_t3 : Fin (k0_t3_loop v1_0).trips), ∀ a, (k0_off201 v1_0 k0_t3) a + S1.size a ≤ S17.size a := fun v1_0 k0_hw2 k0_t3 => k0_hw2.2.2.2.2.2.1.2.2.2.2.2.2.2.2.2.2.2.2.2.2.2.2.2.2.2.2.2.1 k0_t3
theorem k0_off202_inb : ∀ (v1_0 : BitVec 32) (k0_hw2 : k0_chk2 v1_0) (k0_t3 : Fin (k0_t3_loop v1_0).trips), ∀ a, (k0_off202 v1_0 k0_t3) a + S1x128x256.size a ≤ S4x768x2048.size a := fun v1_0 k0_hw2 k0_t3 => k0_hw2.2.2.2.2.2.1.2.2.2.2.2.2.2.2.2.2.2.2.2.2.2.2.2.2.2.2.2.2.1 k0_t3
theorem k0_off203_inb : ∀ (v1_0 : BitVec 32) (k0_hw2 : k0_chk2 v1_0) (k0_t3 : Fin (k0_t3_loop v1_0).trips), ∀ a, (k0_off203 v1_0 k0_t3) a + S1x1x256.size a ≤ S4x12x2048.size a := fun v1_0 k0_hw2 k0_t3 => k0_hw2.2.2.2.2.2.1.2.2.2.2.2.2.2.2.2.2.2.2.2.2.2.2.2.2.2.2.2.2.2.1 k0_t3
theorem k0_off204_inb : ∀ (v1_0 : BitVec 32) (k0_hw2 : k0_chk2 v1_0) (k0_t3 : Fin (k0_t3_loop v1_0).trips), ∀ a, (k0_off204 v1_0 k0_t3) a + S1x1x256.size a ≤ S4x12x2048.size a := fun v1_0 k0_hw2 k0_t3 => k0_hw2.2.2.2.2.2.1.2.2.2.2.2.2.2.2.2.2.2.2.2.2.2.2.2.2.2.2.2.2.2.2.1 k0_t3
theorem k0_off205_inb : ∀ (v1_0 : BitVec 32) (k0_hw2 : k0_chk2 v1_0) (k0_t3 : Fin (k0_t3_loop v1_0).trips), ∀ a, (k0_off205 v1_0 k0_t3) a + S1x128x256.size a ≤ S4x768x2048.size a := fun v1_0 k0_hw2 k0_t3 => k0_hw2.2.2.2.2.2.1.2.2.2.2.2.2.2.2.2.2.2.2.2.2.2.2.2.2.2.2.2.2.2.2.2.1 k0_t3
theorem k0_off206_inb : ∀ (v1_0 : BitVec 32) (k0_hw2 : k0_chk2 v1_0) (k0_t3 : Fin (k0_t3_loop v1_0).trips), ∀ a, (k0_off206 v1_0 k0_t3) a + S1x1x256.size a ≤ S4x12x2048.size a := fun v1_0 k0_hw2 k0_t3 => k0_hw2.2.2.2.2.2.1.2.2.2.2.2.2.2.2.2.2.2.2.2.2.2.2.2.2.2.2.2.2.2.2.2.2.1 k0_t3
theorem k0_off207_inb : ∀ (v1_0 : BitVec 32) (k0_hw2 : k0_chk2 v1_0) (k0_t3 : Fin (k0_t3_loop v1_0).trips), ∀ a, (k0_off207 v1_0 k0_t3) a + S1x1x256.size a ≤ S4x12x2048.size a := fun v1_0 k0_hw2 k0_t3 => k0_hw2.2.2.2.2.2.1.2.2.2.2.2.2.2.2.2.2.2.2.2.2.2.2.2.2.2.2.2.2.2.2.2.2.2.1 k0_t3
theorem k0_off208_inb : ∀ (v1_0 : BitVec 32) (k0_hw2 : k0_chk2 v1_0) (k0_t3 : Fin (k0_t3_loop v1_0).trips), ∀ a, (k0_off208 v1_0 k0_t3) a + S1x128x256.size a ≤ S4x768x2048.size a := fun v1_0 k0_hw2 k0_t3 => k0_hw2.2.2.2.2.2.1.2.2.2.2.2.2.2.2.2.2.2.2.2.2.2.2.2.2.2.2.2.2.2.2.2.2.2.2.1 k0_t3
theorem k0_off209_inb : ∀ (v1_0 : BitVec 32) (k0_hw2 : k0_chk2 v1_0) (k0_t3 : Fin (k0_t3_loop v1_0).trips), ∀ a, (k0_off209 v1_0 k0_t3) a + S1x1x256.size a ≤ S4x12x2048.size a := fun v1_0 k0_hw2 k0_t3 => k0_hw2.2.2.2.2.2.1.2.2.2.2.2.2.2.2.2.2.2.2.2.2.2.2.2.2.2.2.2.2.2.2.2.2.2.2.2.1 k0_t3
theorem k0_off210_inb : ∀ (v1_0 : BitVec 32) (k0_hw2 : k0_chk2 v1_0) (k0_t3 : Fin (k0_t3_loop v1_0).trips), ∀ a, (k0_off210 v1_0 k0_t3) a + S1x1x256.size a ≤ S4x12x2048.size a := fun v1_0 k0_hw2 k0_t3 => k0_hw2.2.2.2.2.2.1.2.2.2.2.2.2.2.2.2.2.2.2.2.2.2.2.2.2.2.2.2.2.2.2.2.2.2.2.2.2.1 k0_t3
theorem k0_off211_inb : ∀ (v1_0 : BitVec 32) (k0_hw2 : k0_chk2 v1_0) (k0_t3 : Fin (k0_t3_loop v1_0).trips), ∀ a, (k0_off211 v1_0 k0_t3) a + S1x128x256.size a ≤ S4x768x2048.size a := fun v1_0 k0_hw2 k0_t3 => k0_hw2.2.2.2.2.2.1.2.2.2.2.2.2.2.2.2.2.2.2.2.2.2.2.2.2.2.2.2.2.2.2.2.2.2.2.2.2.2 k0_t3
theorem k0_off212_inb : ∀ (v1_0 : BitVec 32) (k0_hw2 : k0_chk2 v1_0) (k0_t3 : Fin (k0_t3_loop v1_0).trips), ∀ a, (k0_off212 v1_0 k0_t3) a + S1x1x256.size a ≤ S4x12x2048.size a := fun v1_0 k0_hw2 k0_t3 => k0_hw2.2.2.2.2.2.2.1.1 k0_t3
theorem k0_off213_inb : ∀ (v1_0 : BitVec 32) (k0_hw2 : k0_chk2 v1_0) (k0_t3 : Fin (k0_t3_loop v1_0).trips), ∀ a, (k0_off213 v1_0 k0_t3) a + S1x1x256.size a ≤ S4x12x2048.size a := fun v1_0 k0_hw2 k0_t3 => k0_hw2.2.2.2.2.2.2.1.2.1 k0_t3
theorem k0_off214_inb : ∀ (v1_0 : BitVec 32) (k0_hw2 : k0_chk2 v1_0) (k0_t3 : Fin (k0_t3_loop v1_0).trips), ∀ a, (k0_off214 v1_0 k0_t3) a + S1x128x256.size a ≤ S4x768x2048.size a := fun v1_0 k0_hw2 k0_t3 => k0_hw2.2.2.2.2.2.2.1.2.2.1 k0_t3
theorem k0_off215_inb : ∀ (v1_0 : BitVec 32) (k0_hw2 : k0_chk2 v1_0) (k0_t3 : Fin (k0_t3_loop v1_0).trips), ∀ a, (k0_off215 v1_0 k0_t3) a + S1x1x256.size a ≤ S4x12x2048.size a := fun v1_0 k0_hw2 k0_t3 => k0_hw2.2.2.2.2.2.2.1.2.2.2.1 k0_t3
theorem k0_off216_inb : ∀ (v1_0 : BitVec 32) (k0_hw2 : k0_chk2 v1_0) (k0_t3 : Fin (k0_t3_loop v1_0).trips), ∀ a, (k0_off216 v1_0 k0_t3) a + S1x1x256.size a ≤ S4x12x2048.size a := fun v1_0 k0_hw2 k0_t3 => k0_hw2.2.2.2.2.2.2.1.2.2.2.2.1 k0_t3
theorem k0_off217_inb : ∀ (v1_0 : BitVec 32) (k0_hw2 : k0_chk2 v1_0) (k0_t3 : Fin (k0_t3_loop v1_0).trips), ∀ a, (k0_off217 v1_0 k0_t3) a + S1x128x256.size a ≤ S4x768x2048.size a := fun v1_0 k0_hw2 k0_t3 => k0_hw2.2.2.2.2.2.2.1.2.2.2.2.2.1 k0_t3
theorem k0_off218_inb : ∀ (v1_0 : BitVec 32) (k0_hw2 : k0_chk2 v1_0) (k0_t3 : Fin (k0_t3_loop v1_0).trips), ∀ a, (k0_off218 v1_0 k0_t3) a + S1x1x256.size a ≤ S4x12x2048.size a := fun v1_0 k0_hw2 k0_t3 => k0_hw2.2.2.2.2.2.2.1.2.2.2.2.2.2.1 k0_t3
theorem k0_off219_inb : ∀ (v1_0 : BitVec 32) (k0_hw2 : k0_chk2 v1_0) (k0_t3 : Fin (k0_t3_loop v1_0).trips), ∀ a, (k0_off219 v1_0 k0_t3) a + S1x1x256.size a ≤ S4x12x2048.size a := fun v1_0 k0_hw2 k0_t3 => k0_hw2.2.2.2.2.2.2.1.2.2.2.2.2.2.2.1 k0_t3
theorem k0_off220_inb : ∀ (v1_0 : BitVec 32) (k0_hw2 : k0_chk2 v1_0) (k0_t3 : Fin (k0_t3_loop v1_0).trips), ∀ (r : Fin 8), ∀ a, (k0_off220 v1_0 k0_t3 (BitVec.ofNat 32 (256 * r.val))) a + S64x256.size a ≤ S64x6144.size a := fun v1_0 k0_hw2 k0_t3 r => k0_hw2.2.2.2.2.2.2.1.2.2.2.2.2.2.2.2.1 k0_t3 r
theorem k0_off221_inb : ∀ (v1_0 : BitVec 32) (k0_hw2 : k0_chk2 v1_0) (k0_t3 : Fin (k0_t3_loop v1_0).trips), ∀ a, (k0_off221 v1_0 k0_t3) a + S1x128x256.size a ≤ S4x768x2048.size a := fun v1_0 k0_hw2 k0_t3 => k0_hw2.2.2.2.2.2.2.1.2.2.2.2.2.2.2.2.2.1 k0_t3
theorem k0_off222_inb : ∀ (v1_0 : BitVec 32) (k0_hw2 : k0_chk2 v1_0) (k0_t3 : Fin (k0_t3_loop v1_0).trips), ∀ a, (k0_off222 v1_0 k0_t3) a + S1x1x256.size a ≤ S4x12x2048.size a := fun v1_0 k0_hw2 k0_t3 => k0_hw2.2.2.2.2.2.2.1.2.2.2.2.2.2.2.2.2.2.1 k0_t3
theorem k0_off223_inb : ∀ (v1_0 : BitVec 32) (k0_hw2 : k0_chk2 v1_0) (k0_t3 : Fin (k0_t3_loop v1_0).trips), ∀ a, (k0_off223 v1_0 k0_t3) a + S1x1x256.size a ≤ S4x12x2048.size a := fun v1_0 k0_hw2 k0_t3 => k0_hw2.2.2.2.2.2.2.1.2.2.2.2.2.2.2.2.2.2.2.1 k0_t3
theorem k0_off224_inb : ∀ (v1_0 : BitVec 32) (k0_hw2 : k0_chk2 v1_0) (k0_t3 : Fin (k0_t3_loop v1_0).trips), ∀ a, (k0_off224 v1_0 k0_t3) a + S1x128x256.size a ≤ S4x768x2048.size a := fun v1_0 k0_hw2 k0_t3 => k0_hw2.2.2.2.2.2.2.1.2.2.2.2.2.2.2.2.2.2.2.2.1 k0_t3
theorem k0_off225_inb : ∀ (v1_0 : BitVec 32) (k0_hw2 : k0_chk2 v1_0) (k0_t3 : Fin (k0_t3_loop v1_0).trips), ∀ a, (k0_off225 v1_0 k0_t3) a + S1x1x256.size a ≤ S4x12x2048.size a := fun v1_0 k0_hw2 k0_t3 => k0_hw2.2.2.2.2.2.2.1.2.2.2.2.2.2.2.2.2.2.2.2.2.1 k0_t3
theorem k0_off226_inb : ∀ (v1_0 : BitVec 32) (k0_hw2 : k0_chk2 v1_0) (k0_t3 : Fin (k0_t3_loop v1_0).trips), ∀ a, (k0_off226 v1_0 k0_t3) a + S1x1x256.size a ≤ S4x12x2048.size a := fun v1_0 k0_hw2 k0_t3 => k0_hw2.2.2.2.2.2.2.1.2.2.2.2.2.2.2.2.2.2.2.2.2.2.1 k0_t3
theorem k0_off227_inb : ∀ (v1_0 : BitVec 32) (k0_hw2 : k0_chk2 v1_0) (k0_t3 : Fin (k0_t3_loop v1_0).trips), ∀ a, (k0_off227 v1_0 k0_t3) a + S1x128x256.size a ≤ S4x768x2048.size a := fun v1_0 k0_hw2 k0_t3 => k0_hw2.2.2.2.2.2.2.1.2.2.2.2.2.2.2.2.2.2.2.2.2.2.2.1 k0_t3
theorem k0_off228_inb : ∀ (v1_0 : BitVec 32) (k0_hw2 : k0_chk2 v1_0) (k0_t3 : Fin (k0_t3_loop v1_0).trips), ∀ a, (k0_off228 v1_0 k0_t3) a + S1x1x256.size a ≤ S4x12x2048.size a := fun v1_0 k0_hw2 k0_t3 => k0_hw2.2.2.2.2.2.2.1.2.2.2.2.2.2.2.2.2.2.2.2.2.2.2.2.1 k0_t3
theorem k0_off229_inb : ∀ (v1_0 : BitVec 32) (k0_hw2 : k0_chk2 v1_0) (k0_t3 : Fin (k0_t3_loop v1_0).trips), ∀ a, (k0_off229 v1_0 k0_t3) a + S1x1x256.size a ≤ S4x12x2048.size a := fun v1_0 k0_hw2 k0_t3 => k0_hw2.2.2.2.2.2.2.1.2.2.2.2.2.2.2.2.2.2.2.2.2.2.2.2.2.1 k0_t3
theorem k0_off230_inb : ∀ (v1_0 : BitVec 32) (k0_hw2 : k0_chk2 v1_0) (k0_t3 : Fin (k0_t3_loop v1_0).trips), ∀ a, (k0_off230 v1_0 k0_t3) a + S1x128x256.size a ≤ S4x768x2048.size a := fun v1_0 k0_hw2 k0_t3 => k0_hw2.2.2.2.2.2.2.1.2.2.2.2.2.2.2.2.2.2.2.2.2.2.2.2.2.2.1 k0_t3
theorem k0_off231_inb : ∀ (v1_0 : BitVec 32) (k0_hw2 : k0_chk2 v1_0) (k0_t3 : Fin (k0_t3_loop v1_0).trips), ∀ a, (k0_off231 v1_0 k0_t3) a + S1x1x256.size a ≤ S4x12x2048.size a := fun v1_0 k0_hw2 k0_t3 => k0_hw2.2.2.2.2.2.2.1.2.2.2.2.2.2.2.2.2.2.2.2.2.2.2.2.2.2.2.1 k0_t3
theorem k0_off232_inb : ∀ (v1_0 : BitVec 32) (k0_hw2 : k0_chk2 v1_0) (k0_t3 : Fin (k0_t3_loop v1_0).trips), ∀ a, (k0_off232 v1_0 k0_t3) a + S1x1x256.size a ≤ S4x12x2048.size a := fun v1_0 k0_hw2 k0_t3 => k0_hw2.2.2.2.2.2.2.1.2.2.2.2.2.2.2.2.2.2.2.2.2.2.2.2.2.2.2.2.1 k0_t3
theorem k0_off233_inb : ∀ (v1_0 : BitVec 32) (k0_hw2 : k0_chk2 v1_0) (k0_t3 : Fin (k0_t3_loop v1_0).trips), ∀ a, (k0_off233 v1_0 k0_t3) a + S1x128x256.size a ≤ S4x768x2048.size a := fun v1_0 k0_hw2 k0_t3 => k0_hw2.2.2.2.2.2.2.1.2.2.2.2.2.2.2.2.2.2.2.2.2.2.2.2.2.2.2.2.2.1 k0_t3
theorem k0_off234_inb : ∀ (v1_0 : BitVec 32) (k0_hw2 : k0_chk2 v1_0) (k0_t3 : Fin (k0_t3_loop v1_0).trips), ∀ a, (k0_off234 v1_0 k0_t3) a + S1x1x256.size a ≤ S4x12x2048.size a := fun v1_0 k0_hw2 k0_t3 => k0_hw2.2.2.2.2.2.2.1.2.2.2.2.2.2.2.2.2.2.2.2.2.2.2.2.2.2.2.2.2.2.1 k0_t3
theorem k0_off235_inb : ∀ (v1_0 : BitVec 32) (k0_hw2 : k0_chk2 v1_0) (k0_t3 : Fin (k0_t3_loop v1_0).trips), ∀ a, (k0_off235 v1_0 k0_t3) a + S1x1x256.size a ≤ S4x12x2048.size a := fun v1_0 k0_hw2 k0_t3 => k0_hw2.2.2.2.2.2.2.1.2.2.2.2.2.2.2.2.2.2.2.2.2.2.2.2.2.2.2.2.2.2.2.1 k0_t3
theorem k0_off236_inb : ∀ (v1_0 : BitVec 32) (k0_hw2 : k0_chk2 v1_0) (k0_t3 : Fin (k0_t3_loop v1_0).trips), ∀ a, (k0_off236 v1_0 k0_t3) a + S1x128x256.size a ≤ S4x768x2048.size a := fun v1_0 k0_hw2 k0_t3 => k0_hw2.2.2.2.2.2.2.1.2.2.2.2.2.2.2.2.2.2.2.2.2.2.2.2.2.2.2.2.2.2.2.2.1 k0_t3
theorem k0_off237_inb : ∀ (v1_0 : BitVec 32) (k0_hw2 : k0_chk2 v1_0) (k0_t3 : Fin (k0_t3_loop v1_0).trips), ∀ a, (k0_off237 v1_0 k0_t3) a + S1x1x256.size a ≤ S4x12x2048.size a := fun v1_0 k0_hw2 k0_t3 => k0_hw2.2.2.2.2.2.2.1.2.2.2.2.2.2.2.2.2.2.2.2.2.2.2.2.2.2.2.2.2.2.2.2.2.1 k0_t3
theorem k0_off238_inb : ∀ (v1_0 : BitVec 32) (k0_hw2 : k0_chk2 v1_0) (k0_t3 : Fin (k0_t3_loop v1_0).trips), ∀ a, (k0_off238 v1_0 k0_t3) a + S1x1x256.size a ≤ S4x12x2048.size a := fun v1_0 k0_hw2 k0_t3 => k0_hw2.2.2.2.2.2.2.1.2.2.2.2.2.2.2.2.2.2.2.2.2.2.2.2.2.2.2.2.2.2.2.2.2.2.1 k0_t3
theorem k0_off239_inb : ∀ (v1_0 : BitVec 32) (k0_hw2 : k0_chk2 v1_0) (k0_t3 : Fin (k0_t3_loop v1_0).trips), ∀ a, (k0_off239 v1_0 k0_t3) a + S1x128x256.size a ≤ S4x768x2048.size a := fun v1_0 k0_hw2 k0_t3 => k0_hw2.2.2.2.2.2.2.1.2.2.2.2.2.2.2.2.2.2.2.2.2.2.2.2.2.2.2.2.2.2.2.2.2.2.2.1 k0_t3
theorem k0_off240_inb : ∀ (v1_0 : BitVec 32) (k0_hw2 : k0_chk2 v1_0) (k0_t3 : Fin (k0_t3_loop v1_0).trips), ∀ a, (k0_off240 v1_0 k0_t3) a + S1x1x256.size a ≤ S4x12x2048.size a := fun v1_0 k0_hw2 k0_t3 => k0_hw2.2.2.2.2.2.2.1.2.2.2.2.2.2.2.2.2.2.2.2.2.2.2.2.2.2.2.2.2.2.2.2.2.2.2.2.1 k0_t3
theorem k0_off241_inb : ∀ (v1_0 : BitVec 32) (k0_hw2 : k0_chk2 v1_0) (k0_t3 : Fin (k0_t3_loop v1_0).trips), ∀ a, (k0_off241 v1_0 k0_t3) a + S1x1x256.size a ≤ S4x12x2048.size a := fun v1_0 k0_hw2 k0_t3 => k0_hw2.2.2.2.2.2.2.1.2.2.2.2.2.2.2.2.2.2.2.2.2.2.2.2.2.2.2.2.2.2.2.2.2.2.2.2.2.1 k0_t3
theorem k0_off242_inb : ∀ (v1_0 : BitVec 32) (k0_hw2 : k0_chk2 v1_0) (k0_t3 : Fin (k0_t3_loop v1_0).trips), ∀ a, (k0_off242 v1_0 k0_t3) a + S1x128x256.size a ≤ S4x768x2048.size a := fun v1_0 k0_hw2 k0_t3 => k0_hw2.2.2.2.2.2.2.1.2.2.2.2.2.2.2.2.2.2.2.2.2.2.2.2.2.2.2.2.2.2.2.2.2.2.2.2.2.2.1 k0_t3
theorem k0_off243_inb : ∀ (v1_0 : BitVec 32) (k0_hw2 : k0_chk2 v1_0) (k0_t3 : Fin (k0_t3_loop v1_0).trips), ∀ a, (k0_off243 v1_0 k0_t3) a + S1x1x256.size a ≤ S4x12x2048.size a := fun v1_0 k0_hw2 k0_t3 => k0_hw2.2.2.2.2.2.2.1.2.2.2.2.2.2.2.2.2.2.2.2.2.2.2.2.2.2.2.2.2.2.2.2.2.2.2.2.2.2.2 k0_t3
theorem k0_off244_inb : ∀ (v1_0 : BitVec 32) (k0_hw2 : k0_chk2 v1_0) (k0_t3 : Fin (k0_t3_loop v1_0).trips), ∀ a, (k0_off244 v1_0 k0_t3) a + S1x1x256.size a ≤ S4x12x2048.size a := fun v1_0 k0_hw2 k0_t3 => k0_hw2.2.2.2.2.2.2.2.1.1 k0_t3
theorem k0_off245_inb : ∀ (v1_0 : BitVec 32) (k0_hw2 : k0_chk2 v1_0) (k0_t3 : Fin (k0_t3_loop v1_0).trips), ∀ a, (k0_off245 v1_0 k0_t3) a + S1x128x256.size a ≤ S4x768x2048.size a := fun v1_0 k0_hw2 k0_t3 => k0_hw2.2.2.2.2.2.2.2.1.2.1 k0_t3
theorem k0_off246_inb : ∀ (v1_0 : BitVec 32) (k0_hw2 : k0_chk2 v1_0) (k0_t3 : Fin (k0_t3_loop v1_0).trips), ∀ a, (k0_off246 v1_0 k0_t3) a + S1x1x256.size a ≤ S4x12x2048.size a := fun v1_0 k0_hw2 k0_t3 => k0_hw2.2.2.2.2.2.2.2.1.2.2.1 k0_t3
theorem k0_off247_inb : ∀ (v1_0 : BitVec 32) (k0_hw2 : k0_chk2 v1_0) (k0_t3 : Fin (k0_t3_loop v1_0).trips), ∀ a, (k0_off247 v1_0 k0_t3) a + S1x1x256.size a ≤ S4x12x2048.size a := fun v1_0 k0_hw2 k0_t3 => k0_hw2.2.2.2.2.2.2.2.1.2.2.2.1 k0_t3
theorem k0_off248_inb : ∀ (v1_0 : BitVec 32) (k0_hw2 : k0_chk2 v1_0) (k0_t3 : Fin (k0_t3_loop v1_0).trips), ∀ a, (k0_off248 v1_0 k0_t3) a + S1x128x256.size a ≤ S4x768x2048.size a := fun v1_0 k0_hw2 k0_t3 => k0_hw2.2.2.2.2.2.2.2.1.2.2.2.2.1 k0_t3
theorem k0_off249_inb : ∀ (v1_0 : BitVec 32) (k0_hw2 : k0_chk2 v1_0) (k0_t3 : Fin (k0_t3_loop v1_0).trips), ∀ a, (k0_off249 v1_0 k0_t3) a + S1x1x256.size a ≤ S4x12x2048.size a := fun v1_0 k0_hw2 k0_t3 => k0_hw2.2.2.2.2.2.2.2.1.2.2.2.2.2.1 k0_t3
theorem k0_off250_inb : ∀ (v1_0 : BitVec 32) (k0_hw2 : k0_chk2 v1_0) (k0_t3 : Fin (k0_t3_loop v1_0).trips), ∀ a, (k0_off250 v1_0 k0_t3) a + S1x1x256.size a ≤ S4x12x2048.size a := fun v1_0 k0_hw2 k0_t3 => k0_hw2.2.2.2.2.2.2.2.1.2.2.2.2.2.2.1 k0_t3
theorem k0_off251_inb : ∀ (v1_0 : BitVec 32) (k0_hw2 : k0_chk2 v1_0) (k0_t3 : Fin (k0_t3_loop v1_0).trips), ∀ a, (k0_off251 v1_0 k0_t3) a + S1x128x256.size a ≤ S4x768x2048.size a := fun v1_0 k0_hw2 k0_t3 => k0_hw2.2.2.2.2.2.2.2.1.2.2.2.2.2.2.2.1 k0_t3
theorem k0_off252_inb : ∀ (v1_0 : BitVec 32) (k0_hw2 : k0_chk2 v1_0) (k0_t3 : Fin (k0_t3_loop v1_0).trips), ∀ a, (k0_off252 v1_0 k0_t3) a + S1x1x256.size a ≤ S4x12x2048.size a := fun v1_0 k0_hw2 k0_t3 => k0_hw2.2.2.2.2.2.2.2.1.2.2.2.2.2.2.2.2.1 k0_t3
theorem k0_off253_inb : ∀ (v1_0 : BitVec 32) (k0_hw2 : k0_chk2 v1_0) (k0_t3 : Fin (k0_t3_loop v1_0).trips), ∀ a, (k0_off253 v1_0 k0_t3) a + S1x1x256.size a ≤ S4x12x2048.size a := fun v1_0 k0_hw2 k0_t3 => k0_hw2.2.2.2.2.2.2.2.1.2.2.2.2.2.2.2.2.2.1 k0_t3
theorem k0_off254_inb : ∀ (v1_0 : BitVec 32) (k0_hw2 : k0_chk2 v1_0) (k0_t3 : Fin (k0_t3_loop v1_0).trips), ∀ a, (k0_off254 v1_0 k0_t3) a + S1x128x256.size a ≤ S4x768x2048.size a := fun v1_0 k0_hw2 k0_t3 => k0_hw2.2.2.2.2.2.2.2.1.2.2.2.2.2.2.2.2.2.2.1 k0_t3
theorem k0_off255_inb : ∀ (v1_0 : BitVec 32) (k0_hw2 : k0_chk2 v1_0) (k0_t3 : Fin (k0_t3_loop v1_0).trips), ∀ a, (k0_off255 v1_0 k0_t3) a + S1x1x256.size a ≤ S4x12x2048.size a := fun v1_0 k0_hw2 k0_t3 => k0_hw2.2.2.2.2.2.2.2.1.2.2.2.2.2.2.2.2.2.2.2.1 k0_t3
theorem k0_off256_inb : ∀ (v1_0 : BitVec 32) (k0_hw2 : k0_chk2 v1_0) (k0_t3 : Fin (k0_t3_loop v1_0).trips), ∀ a, (k0_off256 v1_0 k0_t3) a + S1x1x256.size a ≤ S4x12x2048.size a := fun v1_0 k0_hw2 k0_t3 => k0_hw2.2.2.2.2.2.2.2.1.2.2.2.2.2.2.2.2.2.2.2.2.1 k0_t3
theorem k0_off257_inb : ∀ (v1_0 : BitVec 32) (k0_hw2 : k0_chk2 v1_0) (k0_t3 : Fin (k0_t3_loop v1_0).trips), ∀ a, (k0_off257 v1_0 k0_t3) a + S1x128x256.size a ≤ S4x768x2048.size a := fun v1_0 k0_hw2 k0_t3 => k0_hw2.2.2.2.2.2.2.2.1.2.2.2.2.2.2.2.2.2.2.2.2.2.1 k0_t3
theorem k0_off258_inb : ∀ (v1_0 : BitVec 32) (k0_hw2 : k0_chk2 v1_0) (k0_t3 : Fin (k0_t3_loop v1_0).trips), ∀ a, (k0_off258 v1_0 k0_t3) a + S1x1x256.size a ≤ S4x12x2048.size a := fun v1_0 k0_hw2 k0_t3 => k0_hw2.2.2.2.2.2.2.2.1.2.2.2.2.2.2.2.2.2.2.2.2.2.2.1 k0_t3
theorem k0_off259_inb : ∀ (v1_0 : BitVec 32) (k0_hw2 : k0_chk2 v1_0) (k0_t3 : Fin (k0_t3_loop v1_0).trips), ∀ a, (k0_off259 v1_0 k0_t3) a + S1x1x256.size a ≤ S4x12x2048.size a := fun v1_0 k0_hw2 k0_t3 => k0_hw2.2.2.2.2.2.2.2.1.2.2.2.2.2.2.2.2.2.2.2.2.2.2.2.1 k0_t3
theorem k0_off260_inb : ∀ (v1_0 : BitVec 32) (k0_hw2 : k0_chk2 v1_0) (k0_t3 : Fin (k0_t3_loop v1_0).trips), ∀ a, (k0_off260 v1_0 k0_t3) a + S1x128x256.size a ≤ S4x768x2048.size a := fun v1_0 k0_hw2 k0_t3 => k0_hw2.2.2.2.2.2.2.2.1.2.2.2.2.2.2.2.2.2.2.2.2.2.2.2.2.1 k0_t3
theorem k0_off261_inb : ∀ (v1_0 : BitVec 32) (k0_hw2 : k0_chk2 v1_0) (k0_t3 : Fin (k0_t3_loop v1_0).trips), ∀ a, (k0_off261 v1_0 k0_t3) a + S1x1x256.size a ≤ S4x12x2048.size a := fun v1_0 k0_hw2 k0_t3 => k0_hw2.2.2.2.2.2.2.2.1.2.2.2.2.2.2.2.2.2.2.2.2.2.2.2.2.2.1 k0_t3
theorem k0_off262_inb : ∀ (v1_0 : BitVec 32) (k0_hw2 : k0_chk2 v1_0) (k0_t3 : Fin (k0_t3_loop v1_0).trips), ∀ a, (k0_off262 v1_0 k0_t3) a + S1x1x256.size a ≤ S4x12x2048.size a := fun v1_0 k0_hw2 k0_t3 => k0_hw2.2.2.2.2.2.2.2.1.2.2.2.2.2.2.2.2.2.2.2.2.2.2.2.2.2.2.1 k0_t3
theorem k0_off263_inb : ∀ (v1_0 : BitVec 32) (k0_hw2 : k0_chk2 v1_0) (k0_t3 : Fin (k0_t3_loop v1_0).trips), ∀ a, (k0_off263 v1_0 k0_t3) a + S1x128x256.size a ≤ S4x768x2048.size a := fun v1_0 k0_hw2 k0_t3 => k0_hw2.2.2.2.2.2.2.2.1.2.2.2.2.2.2.2.2.2.2.2.2.2.2.2.2.2.2.2.1 k0_t3
theorem k0_off264_inb : ∀ (v1_0 : BitVec 32) (k0_hw2 : k0_chk2 v1_0) (k0_t3 : Fin (k0_t3_loop v1_0).trips), ∀ a, (k0_off264 v1_0 k0_t3) a + S1x1x256.size a ≤ S4x12x2048.size a := fun v1_0 k0_hw2 k0_t3 => k0_hw2.2.2.2.2.2.2.2.1.2.2.2.2.2.2.2.2.2.2.2.2.2.2.2.2.2.2.2.2.1 k0_t3
theorem k0_off265_inb : ∀ (v1_0 : BitVec 32) (k0_hw2 : k0_chk2 v1_0) (k0_t3 : Fin (k0_t3_loop v1_0).trips), ∀ a, (k0_off265 v1_0 k0_t3) a + S1x1x256.size a ≤ S4x12x2048.size a := fun v1_0 k0_hw2 k0_t3 => k0_hw2.2.2.2.2.2.2.2.1.2.2.2.2.2.2.2.2.2.2.2.2.2.2.2.2.2.2.2.2.2.1 k0_t3
theorem k0_off266_inb : ∀ (v1_0 : BitVec 32) (k0_hw2 : k0_chk2 v1_0) (k0_t3 : Fin (k0_t3_loop v1_0).trips), ∀ a, (k0_off266 v1_0 k0_t3) a + S1x128x256.size a ≤ S4x768x2048.size a := fun v1_0 k0_hw2 k0_t3 => k0_hw2.2.2.2.2.2.2.2.1.2.2.2.2.2.2.2.2.2.2.2.2.2.2.2.2.2.2.2.2.2.2.1 k0_t3
theorem k0_off267_inb : ∀ (v1_0 : BitVec 32) (k0_hw2 : k0_chk2 v1_0) (k0_t3 : Fin (k0_t3_loop v1_0).trips), ∀ a, (k0_off267 v1_0 k0_t3) a + S1x1x256.size a ≤ S4x12x2048.size a := fun v1_0 k0_hw2 k0_t3 => k0_hw2.2.2.2.2.2.2.2.1.2.2.2.2.2.2.2.2.2.2.2.2.2.2.2.2.2.2.2.2.2.2.2.1 k0_t3
theorem k0_off268_inb : ∀ (v1_0 : BitVec 32) (k0_hw2 : k0_chk2 v1_0) (k0_t3 : Fin (k0_t3_loop v1_0).trips), ∀ a, (k0_off268 v1_0 k0_t3) a + S1x1x256.size a ≤ S4x12x2048.size a := fun v1_0 k0_hw2 k0_t3 => k0_hw2.2.2.2.2.2.2.2.1.2.2.2.2.2.2.2.2.2.2.2.2.2.2.2.2.2.2.2.2.2.2.2.2.1 k0_t3
theorem k0_off269_inb : ∀ (v1_0 : BitVec 32) (k0_hw2 : k0_chk2 v1_0) (k0_t3 : Fin (k0_t3_loop v1_0).trips), ∀ a, (k0_off269 v1_0 k0_t3) a + S1x128x256.size a ≤ S4x768x2048.size a := fun v1_0 k0_hw2 k0_t3 => k0_hw2.2.2.2.2.2.2.2.1.2.2.2.2.2.2.2.2.2.2.2.2.2.2.2.2.2.2.2.2.2.2.2.2.2.1 k0_t3
theorem k0_off270_inb : ∀ (v1_0 : BitVec 32) (k0_hw2 : k0_chk2 v1_0) (k0_t3 : Fin (k0_t3_loop v1_0).trips), ∀ a, (k0_off270 v1_0 k0_t3) a + S1x1x256.size a ≤ S4x12x2048.size a := fun v1_0 k0_hw2 k0_t3 => k0_hw2.2.2.2.2.2.2.2.1.2.2.2.2.2.2.2.2.2.2.2.2.2.2.2.2.2.2.2.2.2.2.2.2.2.2.1 k0_t3
theorem k0_off271_inb : ∀ (v1_0 : BitVec 32) (k0_hw2 : k0_chk2 v1_0) (k0_t3 : Fin (k0_t3_loop v1_0).trips), ∀ a, (k0_off271 v1_0 k0_t3) a + S1x1x256.size a ≤ S4x12x2048.size a := fun v1_0 k0_hw2 k0_t3 => k0_hw2.2.2.2.2.2.2.2.1.2.2.2.2.2.2.2.2.2.2.2.2.2.2.2.2.2.2.2.2.2.2.2.2.2.2.2.1 k0_t3
theorem k0_off272_inb : ∀ (v1_0 : BitVec 32) (k0_hw2 : k0_chk2 v1_0) (k0_t3 : Fin (k0_t3_loop v1_0).trips), ∀ a, (k0_off272 v1_0 k0_t3) a + S1x128x256.size a ≤ S4x768x2048.size a := fun v1_0 k0_hw2 k0_t3 => k0_hw2.2.2.2.2.2.2.2.1.2.2.2.2.2.2.2.2.2.2.2.2.2.2.2.2.2.2.2.2.2.2.2.2.2.2.2.2.1 k0_t3
theorem k0_off273_inb : ∀ (v1_0 : BitVec 32) (k0_hw2 : k0_chk2 v1_0) (k0_t3 : Fin (k0_t3_loop v1_0).trips), ∀ a, (k0_off273 v1_0 k0_t3) a + S1x1x256.size a ≤ S4x12x2048.size a := fun v1_0 k0_hw2 k0_t3 => k0_hw2.2.2.2.2.2.2.2.1.2.2.2.2.2.2.2.2.2.2.2.2.2.2.2.2.2.2.2.2.2.2.2.2.2.2.2.2.2.1 k0_t3
theorem k0_off274_inb : ∀ (v1_0 : BitVec 32) (k0_hw2 : k0_chk2 v1_0) (k0_t3 : Fin (k0_t3_loop v1_0).trips), ∀ a, (k0_off274 v1_0 k0_t3) a + S1x1x256.size a ≤ S4x12x2048.size a := fun v1_0 k0_hw2 k0_t3 => k0_hw2.2.2.2.2.2.2.2.1.2.2.2.2.2.2.2.2.2.2.2.2.2.2.2.2.2.2.2.2.2.2.2.2.2.2.2.2.2.2.1 k0_t3
theorem k0_off275_inb : ∀ (v1_0 : BitVec 32) (k0_hw2 : k0_chk2 v1_0) (k0_t3 : Fin (k0_t3_loop v1_0).trips), ∀ a, (k0_off275 v1_0 k0_t3) a + S1x128x256.size a ≤ S4x768x2048.size a := fun v1_0 k0_hw2 k0_t3 => k0_hw2.2.2.2.2.2.2.2.1.2.2.2.2.2.2.2.2.2.2.2.2.2.2.2.2.2.2.2.2.2.2.2.2.2.2.2.2.2.2.2 k0_t3
theorem k0_off276_inb : ∀ (v1_0 : BitVec 32) (k0_hw2 : k0_chk2 v1_0) (k0_t3 : Fin (k0_t3_loop v1_0).trips), ∀ a, (k0_off276 v1_0 k0_t3) a + S1x1x256.size a ≤ S4x12x2048.size a := fun v1_0 k0_hw2 k0_t3 => k0_hw2.2.2.2.2.2.2.2.2.1.1 k0_t3
theorem k0_off277_inb : ∀ (v1_0 : BitVec 32) (k0_hw2 : k0_chk2 v1_0) (k0_t3 : Fin (k0_t3_loop v1_0).trips), ∀ a, (k0_off277 v1_0 k0_t3) a + S1x1x256.size a ≤ S4x12x2048.size a := fun v1_0 k0_hw2 k0_t3 => k0_hw2.2.2.2.2.2.2.2.2.1.2.1 k0_t3
theorem k0_off278_inb : ∀ (v1_0 : BitVec 32) (k0_hw2 : k0_chk2 v1_0) (k0_t3 : Fin (k0_t3_loop v1_0).trips), ∀ a, (k0_off278 v1_0 k0_t3) a + S1x128x256.size a ≤ S4x768x2048.size a := fun v1_0 k0_hw2 k0_t3 => k0_hw2.2.2.2.2.2.2.2.2.1.2.2.1 k0_t3
theorem k0_off279_inb : ∀ (v1_0 : BitVec 32) (k0_hw2 : k0_chk2 v1_0) (k0_t3 : Fin (k0_t3_loop v1_0).trips), ∀ a, (k0_off279 v1_0 k0_t3) a + S1x1x256.size a ≤ S4x12x2048.size a := fun v1_0 k0_hw2 k0_t3 => k0_hw2.2.2.2.2.2.2.2.2.1.2.2.2.1 k0_t3
theorem k0_off280_inb : ∀ (v1_0 : BitVec 32) (k0_hw2 : k0_chk2 v1_0) (k0_t3 : Fin (k0_t3_loop v1_0).trips), ∀ a, (k0_off280 v1_0 k0_t3) a + S1x1x256.size a ≤ S4x12x2048.size a := fun v1_0 k0_hw2 k0_t3 => k0_hw2.2.2.2.2.2.2.2.2.1.2.2.2.2.1 k0_t3
theorem k0_off281_inb : ∀ (v1_0 : BitVec 32) (k0_hw2 : k0_chk2 v1_0) (k0_t3 : Fin (k0_t3_loop v1_0).trips), ∀ a, (k0_off281 v1_0 k0_t3) a + S1x128x256.size a ≤ S4x768x2048.size a := fun v1_0 k0_hw2 k0_t3 => k0_hw2.2.2.2.2.2.2.2.2.1.2.2.2.2.2.1 k0_t3
theorem k0_off282_inb : ∀ (v1_0 : BitVec 32) (k0_hw2 : k0_chk2 v1_0) (k0_t3 : Fin (k0_t3_loop v1_0).trips), ∀ a, (k0_off282 v1_0 k0_t3) a + S1x1x256.size a ≤ S4x12x2048.size a := fun v1_0 k0_hw2 k0_t3 => k0_hw2.2.2.2.2.2.2.2.2.1.2.2.2.2.2.2.1 k0_t3
theorem k0_off283_inb : ∀ (v1_0 : BitVec 32) (k0_hw2 : k0_chk2 v1_0) (k0_t3 : Fin (k0_t3_loop v1_0).trips), ∀ a, (k0_off283 v1_0 k0_t3) a + S1x1x256.size a ≤ S4x12x2048.size a := fun v1_0 k0_hw2 k0_t3 => k0_hw2.2.2.2.2.2.2.2.2.1.2.2.2.2.2.2.2.1 k0_t3
theorem k0_off284_inb : ∀ (v1_0 : BitVec 32) (k0_hw2 : k0_chk2 v1_0) (k0_t3 : Fin (k0_t3_loop v1_0).trips), ∀ a, (k0_off284 v1_0 k0_t3) a + S1x128x256.size a ≤ S4x768x2048.size a := fun v1_0 k0_hw2 k0_t3 => k0_hw2.2.2.2.2.2.2.2.2.1.2.2.2.2.2.2.2.2.1 k0_t3
theorem k0_off285_inb : ∀ (v1_0 : BitVec 32) (k0_hw2 : k0_chk2 v1_0) (k0_t3 : Fin (k0_t3_loop v1_0).trips), ∀ a, (k0_off285 v1_0 k0_t3) a + S1x1x256.size a ≤ S4x12x2048.size a := fun v1_0 k0_hw2 k0_t3 => k0_hw2.2.2.2.2.2.2.2.2.1.2.2.2.2.2.2.2.2.2.1 k0_t3
theorem k0_off286_inb : ∀ (v1_0 : BitVec 32) (k0_hw2 : k0_chk2 v1_0) (k0_t3 : Fin (k0_t3_loop v1_0).trips), ∀ a, (k0_off286 v1_0 k0_t3) a + S1x1x256.size a ≤ S4x12x2048.size a := fun v1_0 k0_hw2 k0_t3 => k0_hw2.2.2.2.2.2.2.2.2.1.2.2.2.2.2.2.2.2.2.2.1 k0_t3
theorem k0_off287_inb : ∀ (v1_0 : BitVec 32) (k0_hw2 : k0_chk2 v1_0) (k0_t3 : Fin (k0_t3_loop v1_0).trips), ∀ a, (k0_off287 v1_0 k0_t3) a + S1x128x256.size a ≤ S4x768x2048.size a := fun v1_0 k0_hw2 k0_t3 => k0_hw2.2.2.2.2.2.2.2.2.1.2.2.2.2.2.2.2.2.2.2.2.1 k0_t3
theorem k0_off288_inb : ∀ (v1_0 : BitVec 32) (k0_hw2 : k0_chk2 v1_0) (k0_t3 : Fin (k0_t3_loop v1_0).trips), ∀ a, (k0_off288 v1_0 k0_t3) a + S1x1x256.size a ≤ S4x12x2048.size a := fun v1_0 k0_hw2 k0_t3 => k0_hw2.2.2.2.2.2.2.2.2.1.2.2.2.2.2.2.2.2.2.2.2.2.1 k0_t3
theorem k0_off289_inb : ∀ (v1_0 : BitVec 32) (k0_hw2 : k0_chk2 v1_0) (k0_t3 : Fin (k0_t3_loop v1_0).trips), ∀ a, (k0_off289 v1_0 k0_t3) a + S1x1x256.size a ≤ S4x12x2048.size a := fun v1_0 k0_hw2 k0_t3 => k0_hw2.2.2.2.2.2.2.2.2.1.2.2.2.2.2.2.2.2.2.2.2.2.2.1 k0_t3
theorem k0_off290_inb : ∀ (v1_0 : BitVec 32) (k0_hw2 : k0_chk2 v1_0) (k0_t3 : Fin (k0_t3_loop v1_0).trips), ∀ a, (k0_off290 v1_0 k0_t3) a + S1x128x256.size a ≤ S4x768x2048.size a := fun v1_0 k0_hw2 k0_t3 => k0_hw2.2.2.2.2.2.2.2.2.1.2.2.2.2.2.2.2.2.2.2.2.2.2.2.1 k0_t3
theorem k0_off291_inb : ∀ (v1_0 : BitVec 32) (k0_hw2 : k0_chk2 v1_0) (k0_t3 : Fin (k0_t3_loop v1_0).trips), ∀ a, (k0_off291 v1_0 k0_t3) a + S1x1x256.size a ≤ S4x12x2048.size a := fun v1_0 k0_hw2 k0_t3 => k0_hw2.2.2.2.2.2.2.2.2.1.2.2.2.2.2.2.2.2.2.2.2.2.2.2.2.1 k0_t3
theorem k0_off292_inb : ∀ (v1_0 : BitVec 32) (k0_hw2 : k0_chk2 v1_0) (k0_t3 : Fin (k0_t3_loop v1_0).trips), ∀ a, (k0_off292 v1_0 k0_t3) a + S1x1x256.size a ≤ S4x12x2048.size a := fun v1_0 k0_hw2 k0_t3 => k0_hw2.2.2.2.2.2.2.2.2.1.2.2.2.2.2.2.2.2.2.2.2.2.2.2.2.2.1 k0_t3
theorem k0_off293_inb : ∀ (v1_0 : BitVec 32) (k0_hw2 : k0_chk2 v1_0) (k0_t3 : Fin (k0_t3_loop v1_0).trips), ∀ a, (k0_off293 v1_0 k0_t3) a + S1x128x256.size a ≤ S4x768x2048.size a := fun v1_0 k0_hw2 k0_t3 => k0_hw2.2.2.2.2.2.2.2.2.1.2.2.2.2.2.2.2.2.2.2.2.2.2.2.2.2.2.1 k0_t3
theorem k0_off294_inb : ∀ (v1_0 : BitVec 32) (k0_hw2 : k0_chk2 v1_0) (k0_t3 : Fin (k0_t3_loop v1_0).trips), ∀ a, (k0_off294 v1_0 k0_t3) a + S1x1x256.size a ≤ S4x12x2048.size a := fun v1_0 k0_hw2 k0_t3 => k0_hw2.2.2.2.2.2.2.2.2.1.2.2.2.2.2.2.2.2.2.2.2.2.2.2.2.2.2.2.1 k0_t3
theorem k0_off295_inb : ∀ (v1_0 : BitVec 32) (k0_hw2 : k0_chk2 v1_0) (k0_t3 : Fin (k0_t3_loop v1_0).trips), ∀ a, (k0_off295 v1_0 k0_t3) a + S1x1x256.size a ≤ S4x12x2048.size a := fun v1_0 k0_hw2 k0_t3 => k0_hw2.2.2.2.2.2.2.2.2.1.2.2.2.2.2.2.2.2.2.2.2.2.2.2.2.2.2.2.2.1 k0_t3
theorem k0_off296_inb : ∀ (v1_0 : BitVec 32) (k0_hw2 : k0_chk2 v1_0) (k0_t3 : Fin (k0_t3_loop v1_0).trips), ∀ a, (k0_off296 v1_0 k0_t3) a + S1x128x256.size a ≤ S4x768x2048.size a := fun v1_0 k0_hw2 k0_t3 => k0_hw2.2.2.2.2.2.2.2.2.1.2.2.2.2.2.2.2.2.2.2.2.2.2.2.2.2.2.2.2.2.1 k0_t3
theorem k0_off297_inb : ∀ (v1_0 : BitVec 32) (k0_hw2 : k0_chk2 v1_0) (k0_t3 : Fin (k0_t3_loop v1_0).trips), ∀ a, (k0_off297 v1_0 k0_t3) a + S1x1x256.size a ≤ S4x12x2048.size a := fun v1_0 k0_hw2 k0_t3 => k0_hw2.2.2.2.2.2.2.2.2.1.2.2.2.2.2.2.2.2.2.2.2.2.2.2.2.2.2.2.2.2.2.1 k0_t3
theorem k0_off298_inb : ∀ (v1_0 : BitVec 32) (k0_hw2 : k0_chk2 v1_0) (k0_t3 : Fin (k0_t3_loop v1_0).trips), ∀ a, (k0_off298 v1_0 k0_t3) a + S1x1x256.size a ≤ S4x12x2048.size a := fun v1_0 k0_hw2 k0_t3 => k0_hw2.2.2.2.2.2.2.2.2.1.2.2.2.2.2.2.2.2.2.2.2.2.2.2.2.2.2.2.2.2.2.2.1 k0_t3
theorem k0_off299_inb : ∀ (v1_0 : BitVec 32) (k0_hw2 : k0_chk2 v1_0) (k0_t3 : Fin (k0_t3_loop v1_0).trips), ∀ a, (k0_off299 v1_0 k0_t3) a + S1x128x256.size a ≤ S4x768x2048.size a := fun v1_0 k0_hw2 k0_t3 => k0_hw2.2.2.2.2.2.2.2.2.1.2.2.2.2.2.2.2.2.2.2.2.2.2.2.2.2.2.2.2.2.2.2.2.1 k0_t3
theorem k0_off300_inb : ∀ (v1_0 : BitVec 32) (k0_hw2 : k0_chk2 v1_0) (k0_t3 : Fin (k0_t3_loop v1_0).trips), ∀ a, (k0_off300 v1_0 k0_t3) a + S1x1x256.size a ≤ S4x12x2048.size a := fun v1_0 k0_hw2 k0_t3 => k0_hw2.2.2.2.2.2.2.2.2.1.2.2.2.2.2.2.2.2.2.2.2.2.2.2.2.2.2.2.2.2.2.2.2.2.1 k0_t3
theorem k0_off301_inb : ∀ (v1_0 : BitVec 32) (k0_hw2 : k0_chk2 v1_0) (k0_t3 : Fin (k0_t3_loop v1_0).trips), ∀ a, (k0_off301 v1_0 k0_t3) a + S1x1x256.size a ≤ S4x12x2048.size a := fun v1_0 k0_hw2 k0_t3 => k0_hw2.2.2.2.2.2.2.2.2.1.2.2.2.2.2.2.2.2.2.2.2.2.2.2.2.2.2.2.2.2.2.2.2.2.2.1 k0_t3
theorem k0_off302_inb : ∀ (v1_0 : BitVec 32) (k0_hw2 : k0_chk2 v1_0) (k0_t3 : Fin (k0_t3_loop v1_0).trips), ∀ a, (k0_off302 v1_0 k0_t3) a + S1x128x256.size a ≤ S4x768x2048.size a := fun v1_0 k0_hw2 k0_t3 => k0_hw2.2.2.2.2.2.2.2.2.1.2.2.2.2.2.2.2.2.2.2.2.2.2.2.2.2.2.2.2.2.2.2.2.2.2.2.1 k0_t3
theorem k0_off303_inb : ∀ (v1_0 : BitVec 32) (k0_hw2 : k0_chk2 v1_0) (k0_t3 : Fin (k0_t3_loop v1_0).trips), ∀ a, (k0_off303 v1_0 k0_t3) a + S1x1x256.size a ≤ S4x12x2048.size a := fun v1_0 k0_hw2 k0_t3 => k0_hw2.2.2.2.2.2.2.2.2.1.2.2.2.2.2.2.2.2.2.2.2.2.2.2.2.2.2.2.2.2.2.2.2.2.2.2.2.1 k0_t3
theorem k0_off304_inb : ∀ (v1_0 : BitVec 32) (k0_hw2 : k0_chk2 v1_0) (k0_t3 : Fin (k0_t3_loop v1_0).trips), ∀ a, (k0_off304 v1_0 k0_t3) a + S1x1x256.size a ≤ S4x12x2048.size a := fun v1_0 k0_hw2 k0_t3 => k0_hw2.2.2.2.2.2.2.2.2.1.2.2.2.2.2.2.2.2.2.2.2.2.2.2.2.2.2.2.2.2.2.2.2.2.2.2.2.2.1 k0_t3
theorem k0_off305_inb : ∀ (v1_0 : BitVec 32) (k0_hw2 : k0_chk2 v1_0) (k0_t3 : Fin (k0_t3_loop v1_0).trips), ∀ a, (k0_off305 v1_0 k0_t3) a + S1x128x256.size a ≤ S4x768x2048.size a := fun v1_0 k0_hw2 k0_t3 => k0_hw2.2.2.2.2.2.2.2.2.1.2.2.2.2.2.2.2.2.2.2.2.2.2.2.2.2.2.2.2.2.2.2.2.2.2.2.2.2.2.1 k0_t3
theorem k0_off306_inb : ∀ (v1_0 : BitVec 32) (k0_hw2 : k0_chk2 v1_0) (k0_t3 : Fin (k0_t3_loop v1_0).trips), ∀ a, (k0_off306 v1_0 k0_t3) a + S1x1x256.size a ≤ S4x12x2048.size a := fun v1_0 k0_hw2 k0_t3 => k0_hw2.2.2.2.2.2.2.2.2.1.2.2.2.2.2.2.2.2.2.2.2.2.2.2.2.2.2.2.2.2.2.2.2.2.2.2.2.2.2.2.1 k0_t3
theorem k0_off307_inb : ∀ (v1_0 : BitVec 32) (k0_hw2 : k0_chk2 v1_0) (k0_t3 : Fin (k0_t3_loop v1_0).trips), ∀ a, (k0_off307 v1_0 k0_t3) a + S1x1x256.size a ≤ S4x12x2048.size a := fun v1_0 k0_hw2 k0_t3 => k0_hw2.2.2.2.2.2.2.2.2.1.2.2.2.2.2.2.2.2.2.2.2.2.2.2.2.2.2.2.2.2.2.2.2.2.2.2.2.2.2.2.2 k0_t3
theorem k0_off308_inb : ∀ (v1_0 : BitVec 32) (k0_hw2 : k0_chk2 v1_0) (k0_t3 : Fin (k0_t3_loop v1_0).trips), ∀ a, (k0_off308 v1_0 k0_t3) a + S1x128x256.size a ≤ S4x768x2048.size a := fun v1_0 k0_hw2 k0_t3 => k0_hw2.2.2.2.2.2.2.2.2.2.1.1 k0_t3
theorem k0_off309_inb : ∀ (v1_0 : BitVec 32) (k0_hw2 : k0_chk2 v1_0) (k0_t3 : Fin (k0_t3_loop v1_0).trips), ∀ a, (k0_off309 v1_0 k0_t3) a + S1x1x256.size a ≤ S4x12x2048.size a := fun v1_0 k0_hw2 k0_t3 => k0_hw2.2.2.2.2.2.2.2.2.2.1.2.1 k0_t3
theorem k0_off310_inb : ∀ (v1_0 : BitVec 32) (k0_hw2 : k0_chk2 v1_0) (k0_t3 : Fin (k0_t3_loop v1_0).trips), ∀ a, (k0_off310 v1_0 k0_t3) a + S1x1x256.size a ≤ S4x12x2048.size a := fun v1_0 k0_hw2 k0_t3 => k0_hw2.2.2.2.2.2.2.2.2.2.1.2.2.1 k0_t3
theorem k0_off311_inb : ∀ (v1_0 : BitVec 32) (k0_hw2 : k0_chk2 v1_0) (k0_t3 : Fin (k0_t3_loop v1_0).trips), ∀ a, (k0_off311 v1_0 k0_t3) a + S1x128x256.size a ≤ S4x768x2048.size a := fun v1_0 k0_hw2 k0_t3 => k0_hw2.2.2.2.2.2.2.2.2.2.1.2.2.2.1 k0_t3
theorem k0_off312_inb : ∀ (v1_0 : BitVec 32) (k0_hw2 : k0_chk2 v1_0) (k0_t3 : Fin (k0_t3_loop v1_0).trips), ∀ a, (k0_off312 v1_0 k0_t3) a + S1x1x256.size a ≤ S4x12x2048.size a := fun v1_0 k0_hw2 k0_t3 => k0_hw2.2.2.2.2.2.2.2.2.2.1.2.2.2.2.1 k0_t3
theorem k0_off313_inb : ∀ (v1_0 : BitVec 32) (k0_hw2 : k0_chk2 v1_0) (k0_t3 : Fin (k0_t3_loop v1_0).trips), ∀ a, (k0_off313 v1_0 k0_t3) a + S1x1x256.size a ≤ S4x12x2048.size a := fun v1_0 k0_hw2 k0_t3 => k0_hw2.2.2.2.2.2.2.2.2.2.1.2.2.2.2.2.1 k0_t3
theorem k0_off314_inb : ∀ (v1_0 : BitVec 32) (k0_hw2 : k0_chk2 v1_0) (k0_t3 : Fin (k0_t3_loop v1_0).trips), ∀ a, (k0_off314 v1_0 k0_t3) a + S1x128x256.size a ≤ S4x768x2048.size a := fun v1_0 k0_hw2 k0_t3 => k0_hw2.2.2.2.2.2.2.2.2.2.1.2.2.2.2.2.2.1 k0_t3
theorem k0_off315_inb : ∀ (v1_0 : BitVec 32) (k0_hw2 : k0_chk2 v1_0) (k0_t3 : Fin (k0_t3_loop v1_0).trips), ∀ a, (k0_off315 v1_0 k0_t3) a + S1x1x256.size a ≤ S4x12x2048.size a := fun v1_0 k0_hw2 k0_t3 => k0_hw2.2.2.2.2.2.2.2.2.2.1.2.2.2.2.2.2.2.1 k0_t3
theorem k0_off316_inb : ∀ (v1_0 : BitVec 32) (k0_hw2 : k0_chk2 v1_0) (k0_t3 : Fin (k0_t3_loop v1_0).trips), ∀ a, (k0_off316 v1_0 k0_t3) a + S1x1x256.size a ≤ S4x12x2048.size a := fun v1_0 k0_hw2 k0_t3 => k0_hw2.2.2.2.2.2.2.2.2.2.1.2.2.2.2.2.2.2.2.1 k0_t3
theorem k0_off317_inb : ∀ (v1_0 : BitVec 32) (k0_hw2 : k0_chk2 v1_0) (k0_t3 : Fin (k0_t3_loop v1_0).trips), ∀ a, (k0_off317 v1_0 k0_t3) a + S1x128x256.size a ≤ S4x768x2048.size a := fun v1_0 k0_hw2 k0_t3 => k0_hw2.2.2.2.2.2.2.2.2.2.1.2.2.2.2.2.2.2.2.2.1 k0_t3
theorem k0_off318_inb : ∀ (v1_0 : BitVec 32) (k0_hw2 : k0_chk2 v1_0) (k0_t3 : Fin (k0_t3_loop v1_0).trips), ∀ a, (k0_off318 v1_0 k0_t3) a + S1x1x256.size a ≤ S4x12x2048.size a := fun v1_0 k0_hw2 k0_t3 => k0_hw2.2.2.2.2.2.2.2.2.2.1.2.2.2.2.2.2.2.2.2.2.1 k0_t3
theorem k0_off319_inb : ∀ (v1_0 : BitVec 32) (k0_hw2 : k0_chk2 v1_0) (k0_t3 : Fin (k0_t3_loop v1_0).trips), ∀ a, (k0_off319 v1_0 k0_t3) a + S1x1x256.size a ≤ S4x12x2048.size a := fun v1_0 k0_hw2 k0_t3 => k0_hw2.2.2.2.2.2.2.2.2.2.1.2.2.2.2.2.2.2.2.2.2.2.1 k0_t3
theorem k0_off320_inb : ∀ (v1_0 : BitVec 32) (k0_hw2 : k0_chk2 v1_0) (k0_t3 : Fin (k0_t3_loop v1_0).trips), ∀ a, (k0_off320 v1_0 k0_t3) a + S1x128x256.size a ≤ S4x768x2048.size a := fun v1_0 k0_hw2 k0_t3 => k0_hw2.2.2.2.2.2.2.2.2.2.1.2.2.2.2.2.2.2.2.2.2.2.2.1 k0_t3
theorem k0_off321_inb : ∀ (v1_0 : BitVec 32) (k0_hw2 : k0_chk2 v1_0) (k0_t3 : Fin (k0_t3_loop v1_0).trips), ∀ a, (k0_off321 v1_0 k0_t3) a + S1x1x256.size a ≤ S4x12x2048.size a := fun v1_0 k0_hw2 k0_t3 => k0_hw2.2.2.2.2.2.2.2.2.2.1.2.2.2.2.2.2.2.2.2.2.2.2.2.1 k0_t3
theorem k0_off322_inb : ∀ (v1_0 : BitVec 32) (k0_hw2 : k0_chk2 v1_0) (k0_t3 : Fin (k0_t3_loop v1_0).trips), ∀ a, (k0_off322 v1_0 k0_t3) a + S1x1x256.size a ≤ S4x12x2048.size a := fun v1_0 k0_hw2 k0_t3 => k0_hw2.2.2.2.2.2.2.2.2.2.1.2.2.2.2.2.2.2.2.2.2.2.2.2.2.1 k0_t3
theorem k0_off323_inb : ∀ (v1_0 : BitVec 32) (k0_hw2 : k0_chk2 v1_0) (k0_t3 : Fin (k0_t3_loop v1_0).trips), ∀ a, (k0_off323 v1_0 k0_t3) a + S1x128x256.size a ≤ S4x768x2048.size a := fun v1_0 k0_hw2 k0_t3 => k0_hw2.2.2.2.2.2.2.2.2.2.1.2.2.2.2.2.2.2.2.2.2.2.2.2.2.2.1 k0_t3
theorem k0_off324_inb : ∀ (v1_0 : BitVec 32) (k0_hw2 : k0_chk2 v1_0) (k0_t3 : Fin (k0_t3_loop v1_0).trips), ∀ a, (k0_off324 v1_0 k0_t3) a + S1x1x256.size a ≤ S4x12x2048.size a := fun v1_0 k0_hw2 k0_t3 => k0_hw2.2.2.2.2.2.2.2.2.2.1.2.2.2.2.2.2.2.2.2.2.2.2.2.2.2.2.1 k0_t3
theorem k0_off325_inb : ∀ (v1_0 : BitVec 32) (k0_hw2 : k0_chk2 v1_0) (k0_t3 : Fin (k0_t3_loop v1_0).trips), ∀ a, (k0_off325 v1_0 k0_t3) a + S1x1x256.size a ≤ S4x12x2048.size a := fun v1_0 k0_hw2 k0_t3 => k0_hw2.2.2.2.2.2.2.2.2.2.1.2.2.2.2.2.2.2.2.2.2.2.2.2.2.2.2.2.1 k0_t3
theorem k0_off326_inb : ∀ (v1_0 : BitVec 32) (k0_hw2 : k0_chk2 v1_0) (k0_t3 : Fin (k0_t3_loop v1_0).trips), ∀ a, (k0_off326 v1_0 k0_t3) a + S1x128x256.size a ≤ S4x768x2048.size a := fun v1_0 k0_hw2 k0_t3 => k0_hw2.2.2.2.2.2.2.2.2.2.1.2.2.2.2.2.2.2.2.2.2.2.2.2.2.2.2.2.2.1 k0_t3
theorem k0_off327_inb : ∀ (v1_0 : BitVec 32) (k0_hw2 : k0_chk2 v1_0) (k0_t3 : Fin (k0_t3_loop v1_0).trips), ∀ a, (k0_off327 v1_0 k0_t3) a + S1x1x256.size a ≤ S4x12x2048.size a := fun v1_0 k0_hw2 k0_t3 => k0_hw2.2.2.2.2.2.2.2.2.2.1.2.2.2.2.2.2.2.2.2.2.2.2.2.2.2.2.2.2.2.1 k0_t3
theorem k0_off328_inb : ∀ (v1_0 : BitVec 32) (k0_hw2 : k0_chk2 v1_0) (k0_t3 : Fin (k0_t3_loop v1_0).trips), ∀ a, (k0_off328 v1_0 k0_t3) a + S1x1x256.size a ≤ S4x12x2048.size a := fun v1_0 k0_hw2 k0_t3 => k0_hw2.2.2.2.2.2.2.2.2.2.1.2.2.2.2.2.2.2.2.2.2.2.2.2.2.2.2.2.2.2.2.1 k0_t3
theorem k0_off329_inb : ∀ (v1_0 : BitVec 32) (k0_hw2 : k0_chk2 v1_0) (k0_t3 : Fin (k0_t3_loop v1_0).trips), ∀ a, (k0_off329 v1_0 k0_t3) a + S1x128x256.size a ≤ S4x768x2048.size a := fun v1_0 k0_hw2 k0_t3 => k0_hw2.2.2.2.2.2.2.2.2.2.1.2.2.2.2.2.2.2.2.2.2.2.2.2.2.2.2.2.2.2.2.2.1 k0_t3
theorem k0_off330_inb : ∀ (v1_0 : BitVec 32) (k0_hw2 : k0_chk2 v1_0) (k0_t3 : Fin (k0_t3_loop v1_0).trips), ∀ a, (k0_off330 v1_0 k0_t3) a + S1x1x256.size a ≤ S4x12x2048.size a := fun v1_0 k0_hw2 k0_t3 => k0_hw2.2.2.2.2.2.2.2.2.2.1.2.2.2.2.2.2.2.2.2.2.2.2.2.2.2.2.2.2.2.2.2.2.1 k0_t3
theorem k0_off331_inb : ∀ (v1_0 : BitVec 32) (k0_hw2 : k0_chk2 v1_0) (k0_t3 : Fin (k0_t3_loop v1_0).trips), ∀ a, (k0_off331 v1_0 k0_t3) a + S1x1x256.size a ≤ S4x12x2048.size a := fun v1_0 k0_hw2 k0_t3 => k0_hw2.2.2.2.2.2.2.2.2.2.1.2.2.2.2.2.2.2.2.2.2.2.2.2.2.2.2.2.2.2.2.2.2.2.1 k0_t3
theorem k0_off332_inb : ∀ (v1_0 : BitVec 32) (k0_hw2 : k0_chk2 v1_0) (k0_t3 : Fin (k0_t3_loop v1_0).trips), ∀ a, (k0_off332 v1_0 k0_t3) a + S1x128x256.size a ≤ S4x768x2048.size a := fun v1_0 k0_hw2 k0_t3 => k0_hw2.2.2.2.2.2.2.2.2.2.1.2.2.2.2.2.2.2.2.2.2.2.2.2.2.2.2.2.2.2.2.2.2.2.2.1 k0_t3
theorem k0_off333_inb : ∀ (v1_0 : BitVec 32) (k0_hw2 : k0_chk2 v1_0) (k0_t3 : Fin (k0_t3_loop v1_0).trips), ∀ a, (k0_off333 v1_0 k0_t3) a + S1x1x256.size a ≤ S4x12x2048.size a := fun v1_0 k0_hw2 k0_t3 => k0_hw2.2.2.2.2.2.2.2.2.2.1.2.2.2.2.2.2.2.2.2.2.2.2.2.2.2.2.2.2.2.2.2.2.2.2.2.1 k0_t3
theorem k0_off334_inb : ∀ (v1_0 : BitVec 32) (k0_hw2 : k0_chk2 v1_0) (k0_t3 : Fin (k0_t3_loop v1_0).trips), ∀ a, (k0_off334 v1_0 k0_t3) a + S1x1x256.size a ≤ S4x12x2048.size a := fun v1_0 k0_hw2 k0_t3 => k0_hw2.2.2.2.2.2.2.2.2.2.1.2.2.2.2.2.2.2.2.2.2.2.2.2.2.2.2.2.2.2.2.2.2.2.2.2.2.1 k0_t3
theorem k0_off335_inb : ∀ (v1_0 : BitVec 32) (k0_hw2 : k0_chk2 v1_0) (k0_t3 : Fin (k0_t3_loop v1_0).trips), ∀ a, (k0_off335 v1_0 k0_t3) a + S1x128x256.size a ≤ S4x768x2048.size a := fun v1_0 k0_hw2 k0_t3 => k0_hw2.2.2.2.2.2.2.2.2.2.1.2.2.2.2.2.2.2.2.2.2.2.2.2.2.2.2.2.2.2.2.2.2.2.2.2.2.2.1 k0_t3
theorem k0_off336_inb : ∀ (v1_0 : BitVec 32) (k0_hw2 : k0_chk2 v1_0) (k0_t3 : Fin (k0_t3_loop v1_0).trips), ∀ a, (k0_off336 v1_0 k0_t3) a + S1x1x256.size a ≤ S4x12x2048.size a := fun v1_0 k0_hw2 k0_t3 => k0_hw2.2.2.2.2.2.2.2.2.2.1.2.2.2.2.2.2.2.2.2.2.2.2.2.2.2.2.2.2.2.2.2.2.2.2.2.2.2.2.1 k0_t3
theorem k0_off337_inb : ∀ (v1_0 : BitVec 32) (k0_hw2 : k0_chk2 v1_0) (k0_t3 : Fin (k0_t3_loop v1_0).trips), ∀ a, (k0_off337 v1_0 k0_t3) a + S1x1x256.size a ≤ S4x12x2048.size a := fun v1_0 k0_hw2 k0_t3 => k0_hw2.2.2.2.2.2.2.2.2.2.1.2.2.2.2.2.2.2.2.2.2.2.2.2.2.2.2.2.2.2.2.2.2.2.2.2.2.2.2.2.1 k0_t3
theorem k0_off338_inb : ∀ (v1_0 : BitVec 32) (k0_hw2 : k0_chk2 v1_0) (k0_t3 : Fin (k0_t3_loop v1_0).trips), ∀ a, (k0_off338 v1_0 k0_t3) a + S1x128x256.size a ≤ S4x768x2048.size a := fun v1_0 k0_hw2 k0_t3 => k0_hw2.2.2.2.2.2.2.2.2.2.1.2.2.2.2.2.2.2.2.2.2.2.2.2.2.2.2.2.2.2.2.2.2.2.2.2.2.2.2.2.2.1 k0_t3
theorem k0_off339_inb : ∀ (v1_0 : BitVec 32) (k0_hw2 : k0_chk2 v1_0) (k0_t3 : Fin (k0_t3_loop v1_0).trips), ∀ a, (k0_off339 v1_0 k0_t3) a + S1x1x256.size a ≤ S4x12x2048.size a := fun v1_0 k0_hw2 k0_t3 => k0_hw2.2.2.2.2.2.2.2.2.2.1.2.2.2.2.2.2.2.2.2.2.2.2.2.2.2.2.2.2.2.2.2.2.2.2.2.2.2.2.2.2.2 k0_t3
theorem k0_off340_inb : ∀ (v1_0 : BitVec 32) (k0_hw2 : k0_chk2 v1_0) (k0_t3 : Fin (k0_t3_loop v1_0).trips), ∀ a, (k0_off340 v1_0 k0_t3) a + S1x1x256.size a ≤ S4x12x2048.size a := fun v1_0 k0_hw2 k0_t3 => k0_hw2.2.2.2.2.2.2.2.2.2.2.1 k0_t3
theorem k0_off341_inb : ∀ (v1_0 : BitVec 32) (k0_hw2 : k0_chk2 v1_0) (k0_t3 : Fin (k0_t3_loop v1_0).trips), ∀ a, (k0_off341 v1_0 k0_t3) a + S1x128x256.size a ≤ S4x768x2048.size a := fun v1_0 k0_hw2 k0_t3 => k0_hw2.2.2.2.2.2.2.2.2.2.2.2.1 k0_t3
theorem k0_off342_inb : ∀ (v1_0 : BitVec 32) (k0_hw2 : k0_chk2 v1_0) (k0_t3 : Fin (k0_t3_loop v1_0).trips), ∀ a, (k0_off342 v1_0 k0_t3) a + S1x1x256.size a ≤ S4x12x2048.size a := fun v1_0 k0_hw2 k0_t3 => k0_hw2.2.2.2.2.2.2.2.2.2.2.2.2.1 k0_t3
theorem k0_off343_inb : ∀ (v1_0 : BitVec 32) (k0_hw2 : k0_chk2 v1_0) (k0_t3 : Fin (k0_t3_loop v1_0).trips), ∀ a, (k0_off343 v1_0 k0_t3) a + S1x1x256.size a ≤ S4x12x2048.size a := fun v1_0 k0_hw2 k0_t3 => k0_hw2.2.2.2.2.2.2.2.2.2.2.2.2.2.1 k0_t3
theorem k0_off344_inb : ∀ (v1_0 : BitVec 32) (k0_hw2 : k0_chk2 v1_0) (k0_t3 : Fin (k0_t3_loop v1_0).trips), ∀ a, (k0_off344 v1_0 k0_t3) a + S1x128x256.size a ≤ S4x768x2048.size a := fun v1_0 k0_hw2 k0_t3 => k0_hw2.2.2.2.2.2.2.2.2.2.2.2.2.2.2.1 k0_t3
theorem k0_off345_inb : ∀ (v1_0 : BitVec 32) (k0_hw2 : k0_chk2 v1_0) (k0_t3 : Fin (k0_t3_loop v1_0).trips), ∀ a, (k0_off345 v1_0 k0_t3) a + S1x1x256.size a ≤ S4x12x2048.size a := fun v1_0 k0_hw2 k0_t3 => k0_hw2.2.2.2.2.2.2.2.2.2.2.2.2.2.2.2.1 k0_t3
theorem k0_off346_inb : ∀ (v1_0 : BitVec 32) (k0_hw2 : k0_chk2 v1_0) (k0_t3 : Fin (k0_t3_loop v1_0).trips), ∀ a, (k0_off346 v1_0 k0_t3) a + S1x1x256.size a ≤ S4x12x2048.size a := fun v1_0 k0_hw2 k0_t3 => k0_hw2.2.2.2.2.2.2.2.2.2.2.2.2.2.2.2.2 k0_t3

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S64x1536 : Shape := ⟨2, ![64, 1536]⟩
abbrev S16 : Shape := ⟨1, ![16]⟩
abbrev S16x768x6144 : Shape := ⟨3, ![16, 768, 6144]⟩
abbrev S16x12x6144 : Shape := ⟨3, ![16, 12, 6144]⟩
abbrev S64x6144 : Shape := ⟨2, ![64, 6144]⟩
abbrev S64x12x128 : Shape := ⟨3, ![64, 12, 128]⟩
abbrev S64x12 : Shape := ⟨2, ![64, 12]⟩
abbrev S64x12x1 : Shape := ⟨3, ![64, 12, 1]⟩
abbrev S64x1 : Shape := ⟨2, ![64, 1]⟩
abbrev S1 : Shape := ⟨1, ![1]⟩
abbrev S1x768x6144 : Shape := ⟨3, ![1, 768, 6144]⟩
abbrev S768x6144 : Shape := ⟨2, ![768, 6144]⟩
abbrev S768x1x6144 : Shape := ⟨3, ![768, 1, 6144]⟩
abbrev S768x2x6144 : Shape := ⟨3, ![768, 2, 6144]⟩
abbrev S1536x6144 : Shape := ⟨2, ![1536, 6144]⟩
abbrev S1x12x6144 : Shape := ⟨3, ![1, 12, 6144]⟩
abbrev S12x6144 : Shape := ⟨2, ![12, 6144]⟩
abbrev S12x1x6144 : Shape := ⟨3, ![12, 1, 6144]⟩
abbrev S12x128x6144 : Shape := ⟨3, ![12, 128, 6144]⟩

abbrev nBuf : Space → Nat
  | .hbm => 5
  | .vmem => 4
  | .smem => 1
  | _ => 0

abbrev bufTy : (tb : Table) → Fin (tcTables nBuf tb) → BufTy
  | .hbm, ⟨0, _⟩ => ⟨S64x1536, .bf16⟩
  | .hbm, ⟨1, _⟩ => ⟨S16, .i32⟩
  | .hbm, ⟨2, _⟩ => ⟨S16x768x6144, .i8⟩
  | .hbm, ⟨3, _⟩ => ⟨S16x12x6144, .f32⟩
  | .hbm, ⟨4, _⟩ => ⟨S64x6144, .bf16⟩
  | .local _ .vmem, ⟨0, _⟩ => ⟨S64x1536, .bf16⟩
  | .local _ .vmem, ⟨1, _⟩ => ⟨S16x768x6144, .i8⟩
  | .local _ .vmem, ⟨2, _⟩ => ⟨S16x12x6144, .f32⟩
  | .local _ .vmem, ⟨3, _⟩ => ⟨S64x6144, .bf16⟩
  | .local _ .smem, ⟨0, _⟩ => ⟨S16, .i32⟩
  | _, _ => ⟨S64x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768x6144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x12x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.K.Base.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
import Idealize.ShloMosaic.Lib.Transfers

@[expose] public section

/-! The buffers of the call and the four slots of its weight ring, under names of their own. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The packed weights and their scales, in HBM. -/
abbrev B2 : Memref sig .tc .hbm S16x768x6144 .i8 := Memref.whole main_arg2
abbrev B3 : Memref sig .tc .hbm S16x12x6144 .f32 := Memref.whole main_arg3
/-- The quantised rows, a scratch nothing reads, the accumulator, the two rings, and the two lists of the routing. -/
abbrev B5 : Memref sig .tc .vmem S64x1536 .bf16 := Memref.whole cc0_scratch0
abbrev B6 : Memref sig .tc .vmem S64x1536 .bf16 := Memref.whole cc0_scratch1
abbrev B7 : Memref sig .tc .vmem S64x6144 .f32 := Memref.whole cc0_scratch2
abbrev B8 : Memref sig .tc .vmem S4x768x2048 .i8 := Memref.whole cc0_scratch3
abbrev B9 : Memref sig .tc .vmem S4x12x2048 .f32 := Memref.whole cc0_scratch4
abbrev B12 : Memref sig .tc .smem S17 .i32 := Memref.whole cc0_scratch7
abbrev B13 : Memref sig .tc .smem S17 .i32 := Memref.whole cc0_scratch8

/-- What a buffer holds, by its memref. -/
abbrev Cts (F : FTy → Type) [FloatOps F] {sp : Space} {s : Shape} {e : EltTy} (M : Memref sig .tc sp s e) (c : Dev nD) : Type :=
  Buf (Elt F) (M.view.loc (c : Thread nD τ))

/-- A slot of the weight ring and one of the scale ring, at the offsets `o`. -/
abbrev slot8 (o : Fin 3 → Nat) (h : ∀ a, o a + S1x768x2048.size a ≤ S4x768x2048.size a) : Memref sig .tc .vmem S768x2048 .i8 :=
  (B8.slice (Rect.unit (s := S4x768x2048) o S1x768x2048.size h) (fun _ => rfl)).squeeze S768x2048 squeezes_S1x768x2048_S768x2048
abbrev slot9 (o : Fin 3 → Nat) (h : ∀ a, o a + S1x12x2048.size a ≤ S4x12x2048.size a) : Memref sig .tc .vmem S12x2048 .f32 :=
  (B9.slice (Rect.unit (s := S4x12x2048) o S1x12x2048.size h) (fun _ => rfl)).squeeze S12x2048 squeezes_S1x12x2048_S12x2048

/-- A block of 128 packed rows inside a slot is among the slot's elements. -/
theorem incl8 (o p : Fin 3 → Nat) (ho : ∀ a, o a + S1x128x256.size a ≤ S4x768x2048.size a)
    (hp : ∀ a, p a + S1x768x2048.size a ≤ S4x768x2048.size a) (h0 : o 0 = p 0) (h1 : p 1 = 0) (h2 : p 2 = 0) :
    LE.le (α := Finset B8.view.ty.Idx) (B8.view.setOn (Rect.unit (s := S4x768x2048) o S1x128x256.size ho).toLoadRect.set)
      (slot8 p hp).view.set := by
  rw [View.set_reshape, View.set_slice_whole]
  intro i hi
  obtain ⟨j, hj, rfl⟩ := Finset.mem_map.mp hi
  have hj' := (Rect.mem_set_unit.mp hj)
  refine Rect.mem_set_unit.mpr fun a => ?_
  have h := hj' a
  have hlt := (j a).isLt
  fin_cases a
  · change o 0 ≤ (j 0 : Nat) ∧ (j 0 : Nat) < o 0 + 1 at h
    change p 0 ≤ (j 0 : Nat) ∧ (j 0 : Nat) < p 0 + 1
    omega
  · change (j 1 : Nat) < 768 at hlt
    change p 1 ≤ (j 1 : Nat) ∧ (j 1 : Nat) < p 1 + 768
    omega
  · change (j 2 : Nat) < 2048 at hlt
    change p 2 ≤ (j 2 : Nat) ∧ (j 2 : Nat) < p 2 + 2048
    omega

theorem incl9 (o p : Fin 3 → Nat) (ho : ∀ a, o a + S1x1x256.size a ≤ S4x12x2048.size a)
    (hp : ∀ a, p a + S1x12x2048.size a ≤ S4x12x2048.size a) (h0 : o 0 = p 0) (h1 : p 1 = 0) (h2 : p 2 = 0) :
    LE.le (α := Finset B9.view.ty.Idx) (B9.view.setOn (Rect.unit (s := S4x12x2048) o S1x1x256.size ho).toLoadRect.set)
      (slot9 p hp).view.set := by
  rw [View.set_reshape, View.set_slice_whole]
  intro i hi
  obtain ⟨j, hj, rfl⟩ := Finset.mem_map.mp hi
  have hj' := (Rect.mem_set_unit.mp hj)
  refine Rect.mem_set_unit.mpr fun a => ?_
  have h := hj' a
  have hlt := (j a).isLt
  fin_cases a
  · change o 0 ≤ (j 0 : Nat) ∧ (j 0 : Nat) < o 0 + 1 at h
    change p 0 ≤ (j 0 : Nat) ∧ (j 0 : Nat) < p 0 + 1
    omega
  · change (j 1 : Nat) < 12 at hlt
    change p 1 ≤ (j 1 : Nat) ∧ (j 1 : Nat) < p 1 + 12
    omega
  · change (j 2 : Nat) < 2048 at hlt
    change p 2 ≤ (j 2 : Nat) ∧ (j 2 : Nat) < p 2 + 2048
    omega

/-- A block of the weights and one of the scales in HBM, at the offsets `o`; and the two cells of a slot. -/
abbrev src8 (o : Fin 3 → Nat) (h : ∀ a, o a + S1x768x2048.size a ≤ S16x768x6144.size a) : Memref sig .tc .hbm S768x2048 .i8 :=
  (B2.slice (Rect.unit (s := S16x768x6144) o S1x768x2048.size h) (fun _ => rfl)).squeeze S768x2048 squeezes_S1x768x2048_S768x2048
abbrev src9 (o : Fin 3 → Nat) (h : ∀ a, o a + S1x12x2048.size a ≤ S16x12x6144.size a) : Memref sig .tc .hbm S12x2048 .f32 :=
  (B3.slice (Rect.unit (s := S16x12x6144) o S1x12x2048.size h) (fun _ => rfl)).squeeze S12x2048 squeezes_S1x12x2048_S12x2048
abbrev cell8 (o : Fin 1 → Nat) (h : ∀ a, o a + S1.size a ≤ S4.size a) : SemLoc sig :=
  SemLoc.dma ((cc0_scratch5.slice (Rect.unit (s := S4) o S1.size h)).squeeze S_ squeezes_S1_S_).sem
abbrev cell9 (o : Fin 1 → Nat) (h : ∀ a, o a + S1.size a ≤ S4.size a) : SemLoc sig :=
  SemLoc.dma ((cc0_scratch6.slice (Rect.unit (s := S4) o S1.size h)).squeeze S_ squeezes_S1_S_).sem

/-- A slot whose copies are not under way: both cells at zero, both blocks at anything, its two read tokens whole. -/
def FreeO (c : Dev nD) (q : PosShare TreeShare) (W : Cts F B2 c) (S : Cts F B3 c) (s : Fin 1 → Nat) (hs : ∀ a, s a + S1.size a ≤ S4.size a)
    (d : Fin 3 → Nat) (h8 : ∀ a, d a + S1x768x2048.size a ≤ S4x768x2048.size a)
    (h9 : ∀ a, d a + S1x12x2048.size a ≤ S4x12x2048.size a) : sProp 𝕄 :=
  iprop(semVal ((c : Thread nD τ), cell8 s hs) 0 ∗ semVal ((c : Thread nD τ), cell9 s hs) 0
    ∗ (∃ f, (slot8 d h8).view.loc (c : Thread nD τ) ↦[(slot8 d h8).view.set]{fullShare} f)
    ∗ (∃ f, (slot9 d h9).view.loc (c : Thread nD τ) ↦[(slot9 d h9).view.set]{fullShare} f)
    ∗ (B2.view.loc (c : Thread nD τ) ↦[Finset.univ]{q} W) ∗ (B3.view.loc (c : Thread nD τ) ↦[Finset.univ]{q} S))

/-- A slot with both copies under way, from the blocks at `o`. -/
def PendO (c : Dev nD) (q : PosShare TreeShare) (W : Cts F B2 c) (S : Cts F B3 c) (s : Fin 1 → Nat) (hs : ∀ a, s a + S1.size a ≤ S4.size a)
    (d : Fin 3 → Nat) (h8 : ∀ a, d a + S1x768x2048.size a ≤ S4x768x2048.size a)
    (h9 : ∀ a, d a + S1x12x2048.size a ≤ S4x12x2048.size a)
    (o : Fin 3 → Nat) (o8 : ∀ a, o a + S1x768x2048.size a ≤ S16x768x6144.size a)
    (o9 : ∀ a, o a + S1x12x2048.size a ≤ S16x12x6144.size a) : sProp 𝕄 :=
  iprop(((∃ f, Transfers.Flight (countersEmb (U := Pipeline.UD sig nD τ)) (c : Thread nD τ) (cell8 s hs) () 49152
        iprop(((slot8 d h8).view.loc (c : Thread nD τ) ↦[(slot8 d h8).view.set]{fullShare}
            (slot8 d h8).view.writes (Elt F) f [⟨Rect.whole S768x2048, ReadAs.same.apply ((src8 o o8).view.read (Elt F) W)⟩])
          ∗ ((src8 o o8).view.loc (c : Thread nD τ) ↦[(src8 o o8).view.set]{q} W)))
      ∗ ((src8 o o8).view.loc (c : Thread nD τ) ↦[Finset.univ \ (src8 o o8).view.set]{q} W))
    ∗ ((∃ f, Transfers.Flight (countersEmb (U := Pipeline.UD sig nD τ)) (c : Thread nD τ) (cell9 s hs) () 3072
        iprop(((slot9 d h9).view.loc (c : Thread nD τ) ↦[(slot9 d h9).view.set]{fullShare}
            (slot9 d h9).view.writes (Elt F) f [⟨Rect.whole S12x2048, ReadAs.same.apply ((src9 o o9).view.read (Elt F) S)⟩])
          ∗ ((src9 o o9).view.loc (c : Thread nD τ) ↦[(src9 o o9).view.set]{q} S)))
      ∗ ((src9 o o9).view.loc (c : Thread nD τ) ↦[Finset.univ \ (src9 o o9).view.set]{q} S)))

/-- One word of a list of the routing. -/
abbrev ldw12 (c : Dev nD) (X : Cts F B12 c) (o : Fin 1 → Nat) (h : ∀ a, o a + S1.size a ≤ S17.size a) : BitVec 32 :=
  View.readAt (Elt F) B12.view (Rect.unit (s := S17) o S1.size h).toLoadRect X (Shape.Idx.first (show 0 < S1.numel from by decide))
abbrev ldw13 (c : Dev nD) (X : Cts F B13 c) (o : Fin 1 → Nat) (h : ∀ a, o a + S1.size a ≤ S17.size a) : BitVec 32 :=
  View.readAt (Elt F) B13.view (Rect.unit (s := S17) o S1.size h).toLoadRect X (Shape.Idx.first (show 0 < S1.numel from by decide))

/-- A slot whose two copies have landed: what `PendO` becomes at its waits. -/
def DoneO (c : Dev nD) (q : PosShare TreeShare) (W : Cts F B2 c) (S : Cts F B3 c) (s : Fin 1 → Nat) (hs : ∀ a, s a + S1.size a ≤ S4.size a)
    (d : Fin 3 → Nat) (h8 : ∀ a, d a + S1x768x2048.size a ≤ S4x768x2048.size a)
    (h9 : ∀ a, d a + S1x12x2048.size a ≤ S4x12x2048.size a)
    (o : Fin 3 → Nat) (o8 : ∀ a, o a + S1x768x2048.size a ≤ S16x768x6144.size a)
    (o9 : ∀ a, o a + S1x12x2048.size a ≤ S16x12x6144.size a) : sProp 𝕄 :=
  iprop(semVal ((c : Thread nD τ), cell8 s hs) 0 ∗ semVal ((c : Thread nD τ), cell9 s hs) 0
    ∗ (∃ f, (slot8 d h8).view.loc (c : Thread nD τ) ↦[(slot8 d h8).view.set]{fullShare}
            (slot8 d h8).view.writes (Elt F) f [⟨Rect.whole S768x2048, ReadAs.same.apply ((src8 o o8).view.read (Elt F) W)⟩])
    ∗ (∃ f, (slot9 d h9).view.loc (c : Thread nD τ) ↦[(slot9 d h9).view.set]{fullShare}
            (slot9 d h9).view.writes (Elt F) f [⟨Rect.whole S12x2048, ReadAs.same.apply ((src9 o o9).view.read (Elt F) S)⟩])
    ∗ (B2.view.loc (c : Thread nD τ) ↦[Finset.univ]{q} W) ∗ (B3.view.loc (c : Thread nD τ) ↦[Finset.univ]{q} S))

end Cert.Proof.Kernel

end
-- ==== Proof.K.Ring.lean ====
module

public import proofs.«01_k».proof.Proof.K.Base
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
public import Idealize.ShloMosaic.Lib.Transfers
public import Idealize.ShloMosaic.Lib.ValueLayout

@[expose] public section

/-! The four slots of the ring, by number: free, with a block under way, with a block landed. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx

/-- The slot of block `k`, the third of the columns it takes, the expert a word names. -/
def ix4' (k : ℕ) : Fin 4 := ⟨k % 4, Nat.mod_lt _ (by decide)⟩
def ix3' (k : ℕ) : Fin 3 := ⟨k % 3, Nat.mod_lt _ (by decide)⟩
def exF (b : BitVec 32) : Fin 16 := ⟨b.toNat % 16, Nat.mod_lt _ (by decide)⟩

theorem ix4'_add (k : ℕ) : ix4' (k + 4) = ix4' k := Fin.ext (Nat.add_mod_right k 4)

theorem semO_inb (m : Fin 4) : ∀ a, (![m.1] : Fin 1 → ℕ) a + S1.size a ≤ S4.size a := by revert m; decide
theorem slotO8_inb (m : Fin 4) : ∀ a, (![m.1, 0, 0] : Fin 3 → ℕ) a + S1x768x2048.size a ≤ S4x768x2048.size a := by revert m; decide
theorem slotO9_inb (m : Fin 4) : ∀ a, (![m.1, 0, 0] : Fin 3 → ℕ) a + S1x12x2048.size a ≤ S4x12x2048.size a := by revert m; decide
theorem srcO8_inb (e : Fin 16) (p : Fin 3) : ∀ a, (![e.1, 0, p.1 * 2048] : Fin 3 → ℕ) a + S1x768x2048.size a ≤ S16x768x6144.size a := by
  revert e p; decide
theorem srcO9_inb (e : Fin 16) (p : Fin 3) : ∀ a, (![e.1, 0, p.1 * 2048] : Fin 3 → ℕ) a + S1x12x2048.size a ≤ S16x12x6144.size a := by
  revert e p; decide

/-- The share of the weights a slot's copies read. -/
abbrev tok (m : Fin 4) : PosShare TreeShare := Transfers.shareTok fullShare 4 m

def FreeM (c : Dev nD) (W2 : Cts F B2 c) (W3 : Cts F B3 c) (m : Fin 4) : sProp 𝕄 :=
  FreeO c (tok m) W2 W3 ![m.1] (semO_inb m) ![m.1, 0, 0] (slotO8_inb m) (slotO9_inb m)
def PendM (c : Dev nD) (W2 : Cts F B2 c) (W3 : Cts F B3 c) (m : Fin 4) (e : Fin 16) (p : Fin 3) : sProp 𝕄 :=
  PendO c (tok m) W2 W3 ![m.1] (semO_inb m) ![m.1, 0, 0] (slotO8_inb m) (slotO9_inb m) ![e.1, 0, p.1 * 2048] (srcO8_inb e p) (srcO9_inb e p)
def DoneM (c : Dev nD) (W2 : Cts F B2 c) (W3 : Cts F B3 c) (m : Fin 4) (e : Fin 16) (p : Fin 3) : sProp 𝕄 :=
  DoneO c (tok m) W2 W3 ![m.1] (semO_inb m) ![m.1, 0, 0] (slotO8_inb m) (slotO9_inb m) ![e.1, 0, p.1 * 2048] (srcO8_inb e p) (srcO9_inb e p)

theorem freeO_congr {c : Dev nD} {q : PosShare TreeShare} {W : Cts F B2 c} {S : Cts F B3 c} {s s' : Fin 1 → Nat} {hs hs'}
    {d d' : Fin 3 → Nat} {h8 h8' h9 h9'} (es : s = s') (ed : d = d') :
    FreeO c q W S s hs d h8 h9 = FreeO c q W S s' hs' d' h8' h9' := by subst es ed; rfl
theorem pendO_congr {c : Dev nD} {q : PosShare TreeShare} {W : Cts F B2 c} {S : Cts F B3 c} {s s' : Fin 1 → Nat} {hs hs'}
    {d d' : Fin 3 → Nat} {h8 h8' h9 h9'} {o o' : Fin 3 → Nat} {o8 o8' o9 o9'} (es : s = s') (ed : d = d') (eo : o = o') :
    PendO c q W S s hs d h8 h9 o o8 o9 = PendO c q W S s' hs' d' h8' h9' o' o8' o9' := by subst es ed eo; rfl
theorem doneO_congr {c : Dev nD} {q : PosShare TreeShare} {W : Cts F B2 c} {S : Cts F B3 c} {s s' : Fin 1 → Nat} {hs hs'}
    {d d' : Fin 3 → Nat} {h8 h8' h9 h9'} {o o' : Fin 3 → Nat} {o8 o8' o9 o9'} (es : s = s') (ed : d = d') (eo : o = o') :
    DoneO c q W S s hs d h8 h9 o o8 o9 = DoneO c q W S s' hs' d' h8' h9' o' o8' o9' := by subst es ed eo; rfl

/-- A ring that holds, in every slot, the third `p` of expert `e`: what a landed slot is read as. -/
def wBlk (c : Dev nD) (W : Cts F B2 c) (e : Fin 16) (p : Fin 3) : Cts F B8 c := fun i =>
  (W : S16x768x6144.Idx → Elt F .i8) (ix3 (n2 := 6144) e (i 1) ⟨p.1 * 2048 + (i 2).1, by
    have h : (i 2).1 < 2048 := (i 2).isLt
    have := p.isLt; omega⟩)
def sBlk (c : Dev nD) (W : Cts F B3 c) (e : Fin 16) (p : Fin 3) : Cts F B9 c := fun i =>
  (W : S16x12x6144.Idx → Elt F .f32) (ix3 (n2 := 6144) e (i 1) ⟨p.1 * 2048 + (i 2).1, by
    have h : (i 2).1 < 2048 := (i 2).isLt
    have := p.isLt; omega⟩)

/-- One whole write, read at an element it covers. -/
theorem writes_whole_emb {sig : RefSig} {κ : Kind} {sp : Space} {s : Shape} {e : EltTy} {Val : EltTy → Type} (v : View sig κ sp s e)
    (f : v.ty.Contents Val) (x : s.Idx → Val e) (y : s.Idx) :
    v.writes Val f [⟨Rect.whole s, x⟩] (v.emb y) = _root_.cast (congrArg Val v.elt_eq.symm) (x y) := by
  have h := congrFun (View.read_writes_whole v f x) y
  rw [View.read_apply] at h
  rw [← h, cast_cast, cast_eq]

/-- Weights that have landed in a slot are the block they were copied from. -/
theorem land8 (c : Dev nD) (W : Cts F B2 c) (m : Fin 4) (e : Fin 16) (p : Fin 3) (f : Cts F B8 c) :
    ∀ i ∈ (slot8 ![m.1, 0, 0] (slotO8_inb m)).view.set,
      (slot8 ![m.1, 0, 0] (slotO8_inb m)).view.writes (Elt F) f
        [⟨Rect.whole S768x2048, ReadAs.same.apply ((src8 ![e.1, 0, p.1 * 2048] (srcO8_inb e p)).view.read (Elt F) W)⟩] i
      = wBlk c W e p i := by
  intro i hi
  obtain ⟨y, -, rfl⟩ := Finset.mem_map.mp hi
  rw [writes_whole_emb]
  obtain ⟨y0, y1, rfl⟩ : ∃ (y0 : Fin 768) (y1 : Fin 2048), y = ix2 y0 y1 := ⟨y 0, y 1, by funext a; fin_cases a <;> rfl⟩
  change W ((src8 ![e.1, 0, p.1 * 2048] (srcO8_inb e p)).view.emb (ix2 y0 y1)) = wBlk c W e p ((slot8 ![m.1, 0, 0] (slotO8_inb m)).view.emb (ix2 y0 y1))
  have h1 : (src8 ![e.1, 0, p.1 * 2048] (srcO8_inb e p)).view.emb (ix2 y0 y1)
      = (Rect.unit (s := S16x768x6144) ![e.1, 0, p.1 * 2048] S1x768x2048.size (srcO8_inb e p)).emb (ix3 (⟨0, Nat.one_pos⟩ : Fin 1) y0 y1) :=
    congrArg (Rect.unit (s := S16x768x6144) ![e.1, 0, p.1 * 2048] S1x768x2048.size (srcO8_inb e p)).emb (reshapeEquiv_ix2_1ab (a := 768) (b := 2048) _ y0 y1)
  have h2 : (slot8 ![m.1, 0, 0] (slotO8_inb m)).view.emb (ix2 y0 y1)
      = (Rect.unit (s := S4x768x2048) ![m.1, 0, 0] S1x768x2048.size (slotO8_inb m)).emb (ix3 (⟨0, Nat.one_pos⟩ : Fin 1) y0 y1) :=
    congrArg (Rect.unit (s := S4x768x2048) ![m.1, 0, 0] S1x768x2048.size (slotO8_inb m)).emb (reshapeEquiv_ix2_1ab (a := 768) (b := 2048) _ y0 y1)
  rw [h1, h2]
  unfold wBlk
  refine congrArg W (funext fun a => Fin.ext ?_)
  fin_cases a
  · change e.1 + 1 * 0 = e.1; omega
  · change 0 + 1 * y0.1 = 0 + 1 * y0.1; rfl
  · change p.1 * 2048 + 1 * y1.1 = p.1 * 2048 + (0 + 1 * y1.1); omega

/-- The same of scales. -/
theorem land9 (c : Dev nD) (W : Cts F B3 c) (m : Fin 4) (e : Fin 16) (p : Fin 3) (f : Cts F B9 c) :
    ∀ i ∈ (slot9 ![m.1, 0, 0] (slotO9_inb m)).view.set,
      (slot9 ![m.1, 0, 0] (slotO9_inb m)).view.writes (Elt F) f
        [⟨Rect.whole S12x2048, ReadAs.same.apply ((src9 ![e.1, 0, p.1 * 2048] (srcO9_inb e p)).view.read (Elt F) W)⟩] i
      = sBlk c W e p i := by
  intro i hi
  obtain ⟨y, -, rfl⟩ := Finset.mem_map.mp hi
  rw [writes_whole_emb]
  obtain ⟨y0, y1, rfl⟩ : ∃ (y0 : Fin 12) (y1 : Fin 2048), y = ix2 y0 y1 := ⟨y 0, y 1, by funext a; fin_cases a <;> rfl⟩
  change W ((src9 ![e.1, 0, p.1 * 2048] (srcO9_inb e p)).view.emb (ix2 y0 y1)) = sBlk c W e p ((slot9 ![m.1, 0, 0] (slotO9_inb m)).view.emb (ix2 y0 y1))
  have h1 : (src9 ![e.1, 0, p.1 * 2048] (srcO9_inb e p)).view.emb (ix2 y0 y1)
      = (Rect.unit (s := S16x12x6144) ![e.1, 0, p.1 * 2048] S1x12x2048.size (srcO9_inb e p)).emb (ix3 (⟨0, Nat.one_pos⟩ : Fin 1) y0 y1) :=
    congrArg (Rect.unit (s := S16x12x6144) ![e.1, 0, p.1 * 2048] S1x12x2048.size (srcO9_inb e p)).emb (reshapeEquiv_ix2_1ab (a := 12) (b := 2048) _ y0 y1)
  have h2 : (slot9 ![m.1, 0, 0] (slotO9_inb m)).view.emb (ix2 y0 y1)
      = (Rect.unit (s := S4x12x2048) ![m.1, 0, 0] S1x12x2048.size (slotO9_inb m)).emb (ix3 (⟨0, Nat.one_pos⟩ : Fin 1) y0 y1) :=
    congrArg (Rect.unit (s := S4x12x2048) ![m.1, 0, 0] S1x12x2048.size (slotO9_inb m)).emb (reshapeEquiv_ix2_1ab (a := 12) (b := 2048) _ y0 y1)
  rw [h1, h2]
  unfold sBlk
  refine congrArg W (funext fun a => Fin.ext ?_)
  fin_cases a
  · change e.1 + 1 * 0 = e.1; omega
  · change 0 + 1 * y0.1 = 0 + 1 * y0.1; rfl
  · change p.1 * 2048 + 1 * y1.1 = p.1 * 2048 + (0 + 1 * y1.1); omega

/-- A landed slot held at the block it was sent; and given back. -/
def HeldO (c : Dev nD) (q : PosShare TreeShare) (W2 : Cts F B2 c) (W3 : Cts F B3 c) (s : Fin 1 → Nat) (hs : ∀ a, s a + S1.size a ≤ S4.size a)
    (d : Fin 3 → Nat) (h8 : ∀ a, d a + S1x768x2048.size a ≤ S4x768x2048.size a)
    (h9 : ∀ a, d a + S1x12x2048.size a ≤ S4x12x2048.size a) (w : Cts F B8 c) (sc : Cts F B9 c) : sProp 𝕄 :=
  iprop(semVal ((c : Thread nD τ), cell8 s hs) 0 ∗ semVal ((c : Thread nD τ), cell9 s hs) 0
    ∗ (B2.view.loc (c : Thread nD τ) ↦[Finset.univ]{q} W2) ∗ (B3.view.loc (c : Thread nD τ) ↦[Finset.univ]{q} W3)
    ∗ ((slot8 d h8).view.loc (c : Thread nD τ) ↦[(slot8 d h8).view.set]{fullShare} w)
    ∗ ((slot9 d h9).view.loc (c : Thread nD τ) ↦[(slot9 d h9).view.set]{fullShare} sc))
def HeldM (c : Dev nD) (W2 : Cts F B2 c) (W3 : Cts F B3 c) (m : Fin 4) (w : Cts F B8 c) (s : Cts F B9 c) : sProp 𝕄 :=
  HeldO c (tok m) W2 W3 ![m.1] (semO_inb m) ![m.1, 0, 0] (slotO8_inb m) (slotO9_inb m) w s
theorem heldO_congr {c : Dev nD} {q : PosShare TreeShare} {W : Cts F B2 c} {S : Cts F B3 c} {s s' : Fin 1 → Nat} {hs hs'}
    {d d' : Fin 3 → Nat} {h8 h8' h9 h9'} {w : Cts F B8 c} {sc : Cts F B9 c} (es : s = s') (ed : d = d') :
    HeldO c q W S s hs d h8 h9 w sc = HeldO c q W S s' hs' d' h8' h9' w sc := by subst es ed; rfl

/-- A slot whose copies have landed holds its blocks. -/
theorem doneM_held (c : Dev nD) (W2 : Cts F B2 c) (W3 : Cts F B3 c) (m : Fin 4) (e : Fin 16) (p : Fin 3) :
    DoneM c W2 W3 m e p ⊢ HeldM c W2 W3 m (wBlk c W2 e p) (sBlk c W3 e p) := by
  unfold DoneM DoneO HeldM HeldO
  iintro ⟨Hc8, Hc9, ⟨%f8, H8⟩, ⟨%f9, H9⟩, T8, T9⟩
  have e8 := pointsTo_congr (Val := Elt F) (Ix := Unit) (Name := ℕ) (U := Pipeline.UD sig nD τ) (Lvl := ℕ) (ℓ := (slot8 ![m.1, 0, 0] (slotO8_inb m)).view.loc (c : Thread nD τ)) (q := fullShare) (land8 c W2 m e p f8)
  have e9 := pointsTo_congr (Val := Elt F) (Ix := Unit) (Name := ℕ) (U := Pipeline.UD sig nD τ) (Lvl := ℕ) (ℓ := (slot9 ![m.1, 0, 0] (slotO9_inb m)).view.loc (c : Thread nD τ)) (q := fullShare) (land9 c W3 m e p f9)
  isplitl [Hc8]
  · iexact Hc8
  isplitl [Hc9]
  · iexact Hc9
  isplitl [T8]
  · iexact T8
  isplitl [T9]
  · iexact T9
  isplitl [H8]
  · iapply (BIBase.Entails.of_eq e8) $$ H8
  iapply (BIBase.Entails.of_eq e9) $$ H9

/-- A slot that was read is free again. -/
theorem held_freeM (c : Dev nD) (W2 : Cts F B2 c) (W3 : Cts F B3 c) (m : Fin 4) (w : Cts F B8 c) (s : Cts F B9 c) :
    HeldM c W2 W3 m w s ⊢ FreeM c W2 W3 m := by
  unfold FreeM FreeO HeldM HeldO
  iintro ⟨Hc8, Hc9, T8, T9, H8, H9⟩
  isplitl [Hc8]
  · iexact Hc8
  isplitl [Hc9]
  · iexact Hc9
  isplitl [H8]
  · iexists w
    iexact H8
  isplitl [H9]
  · iexists s
    iexact H9
  isplitl [T8]
  · iexact T8
  iexact T9

end Cert.Proof.Kernel

end
-- ==== Proof.K.Slots.lean ====
module

public import proofs.«01_k».proof.Proof.K.Ring
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
public import Idealize.ShloMosaic.Lib.Transfers
public import Idealize.ShloMosaic.Lib.Ring.AtN

@[expose] public section

/-! The two rings as their slots and the two arrays as read tokens, and back. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ### A buffer of four slots -/

section Four
variable {ℓ : Loc nD τ sig} (J : Fin 4 → Finset (Idx ℓ))
  (hd : ∀ s s', s ≠ s' → Disjoint (J s) (J s')) (hc : Finset.univ.biUnion J = Finset.univ) {q : PosShare TreeShare}

include hd hc in
/-- A buffer split into its four slots. -/
theorem four_split : iprop(∃ f, ℓ ↦{q} f)
    ⊢ (iprop((∃ f, ℓ ↦[J 0]{q} f) ∗ (∃ f, ℓ ↦[J 1]{q} f) ∗ (∃ f, ℓ ↦[J 2]{q} f) ∗ ∃ f, ℓ ↦[J 3]{q} f) : sProp 𝕄) := by
  iintro ⟨%f, H⟩
  ihave H3 := (BIBase.Entails.of_eq ((Ring.pointsTo_blocks (Ix := Unit) (Name := ℕ) (U := Pipeline.UD sig nD τ) (Lvl := ℕ) (q := q) J hd hc f).trans (Ring.bigSep_fin4 _))) $$ H
  icases H3 with ⟨H0, H1, H2, H3⟩
  isplitl [H0]; · iexists f; iexact H0
  isplitl [H1]; · iexists f; iexact H1
  isplitl [H2]; · iexists f; iexact H2
  iexists f; iexact H3

include hd hc in
/-- Four slots joined into the buffer. -/
theorem four_join : (iprop((∃ f, ℓ ↦[J 0]{q} f) ∗ (∃ f, ℓ ↦[J 1]{q} f) ∗ (∃ f, ℓ ↦[J 2]{q} f) ∗ ∃ f, ℓ ↦[J 3]{q} f) : sProp 𝕄)
    ⊢ iprop(∃ f, ℓ ↦{q} f) := by
  iintro ⟨⟨%f0, H0⟩, ⟨%f1, H1⟩, ⟨%f2, H2⟩, ⟨%f3, H3⟩⟩
  iapply (Ring.pointsTo_blocks_join_exists J hd hc f0)
  irw [Ring.bigSep_fin4]
  isplitl [H0]; · iexists f0; iexact H0
  isplitl [H1]; · iexists f1; iexact H1
  isplitl [H2]; · iexists f2; iexact H2
  iexists f3; iexact H3
end Four

/-! ### The slots of the two rings -/

theorem mem_slot8 (m : Fin 4) (i : B8.view.ty.Idx) : i ∈ (slot8 ![m.1, 0, 0] (slotO8_inb m)).view.set ↔ (i 0 : ℕ) = m.1 := by
  rw [View.set_reshape, View.set_slice_whole]
  refine Rect.mem_set_unit.trans ⟨fun h => ?_, fun h a => ?_⟩
  · have := h 0
    change m.1 ≤ (i 0 : ℕ) ∧ (i 0 : ℕ) < m.1 + 1 at this
    omega
  · have hlt := (i a).isLt
    fin_cases a
    · change m.1 ≤ (i 0 : ℕ) ∧ (i 0 : ℕ) < m.1 + 1; omega
    · change (i 1 : ℕ) < 768 at hlt; change 0 ≤ (i 1 : ℕ) ∧ (i 1 : ℕ) < 0 + 768; omega
    · change (i 2 : ℕ) < 2048 at hlt; change 0 ≤ (i 2 : ℕ) ∧ (i 2 : ℕ) < 0 + 2048; omega

theorem mem_slot9 (m : Fin 4) (i : B9.view.ty.Idx) : i ∈ (slot9 ![m.1, 0, 0] (slotO9_inb m)).view.set ↔ (i 0 : ℕ) = m.1 := by
  rw [View.set_reshape, View.set_slice_whole]
  refine Rect.mem_set_unit.trans ⟨fun h => ?_, fun h a => ?_⟩
  · have := h 0
    change m.1 ≤ (i 0 : ℕ) ∧ (i 0 : ℕ) < m.1 + 1 at this
    omega
  · have hlt := (i a).isLt
    fin_cases a
    · change m.1 ≤ (i 0 : ℕ) ∧ (i 0 : ℕ) < m.1 + 1; omega
    · change (i 1 : ℕ) < 12 at hlt; change 0 ≤ (i 1 : ℕ) ∧ (i 1 : ℕ) < 0 + 12; omega
    · change (i 2 : ℕ) < 2048 at hlt; change 0 ≤ (i 2 : ℕ) ∧ (i 2 : ℕ) < 0 + 2048; omega

def J8 (m : Fin 4) : Finset B8.view.ty.Idx := (slot8 ![m.1, 0, 0] (slotO8_inb m)).view.set
def J9 (m : Fin 4) : Finset B9.view.ty.Idx := (slot9 ![m.1, 0, 0] (slotO9_inb m)).view.set

theorem J8_disj (s s' : Fin 4) (h : s ≠ s') : Disjoint (J8 s) (J8 s') :=
  Finset.disjoint_left.mpr fun i h1 h2 => h (Fin.ext (((mem_slot8 s i).mp h1).symm.trans ((mem_slot8 s' i).mp h2)))
theorem J9_disj (s s' : Fin 4) (h : s ≠ s') : Disjoint (J9 s) (J9 s') :=
  Finset.disjoint_left.mpr fun i h1 h2 => h (Fin.ext (((mem_slot9 s i).mp h1).symm.trans ((mem_slot9 s' i).mp h2)))
theorem J8_cover : Finset.univ.biUnion J8 = Finset.univ :=
  Finset.eq_univ_of_forall fun i => Finset.mem_biUnion.mpr ⟨⟨(i 0 : ℕ), (i 0).isLt⟩, Finset.mem_univ _, (mem_slot8 _ i).mpr rfl⟩
theorem J9_cover : Finset.univ.biUnion J9 = Finset.univ :=
  Finset.eq_univ_of_forall fun i => Finset.mem_biUnion.mpr ⟨⟨(i 0 : ℕ), (i 0).isLt⟩, Finset.mem_univ _, (mem_slot9 _ i).mpr rfl⟩

theorem cell8_eq (m : Fin 4) : cell8 ![m.1] (semO_inb m) = SemLoc.dma (![3, 4, 5, 6] m) := by revert m; decide
theorem cell9_eq (m : Fin 4) : cell9 ![m.1] (semO_inb m) = SemLoc.dma (![7, 8, 9, 10] m) := by revert m; decide

/-- A read token's worth of an array, from the whole of it, four times over. -/
theorem toks4 {ℓ : Loc nD τ sig} (f : Buf (Elt F) ℓ) :
    (ℓ ↦[Finset.univ]{fullShare} f : sProp 𝕄) ⊣⊢ iprop((ℓ ↦[Finset.univ]{Transfers.shareDrop fullShare 4} f)
      ∗ (ℓ ↦[Finset.univ]{tok 0} f) ∗ (ℓ ↦[Finset.univ]{tok 1} f) ∗ (ℓ ↦[Finset.univ]{tok 2} f) ∗ (ℓ ↦[Finset.univ]{tok 3} f)) := by
  have h := Transfers.pointsTo_toks (Ix := Unit) (Name := ℕ) (U := Pipeline.UD sig nD τ) (Lvl := ℕ) (ℓ := ℓ) (S := Finset.univ) (f := f) fullShare 4
  rw [Ring.bigSep_fin4] at h
  exact h

/-- The eight cells of the two rings at zero. -/
def Cells (c : Dev nD) : sProp 𝕄 :=
  iprop(semVal ((c : Thread nD τ), cell8 ![0] (semO_inb 0)) 0 ∗ semVal ((c : Thread nD τ), cell8 ![1] (semO_inb 1)) 0
    ∗ semVal ((c : Thread nD τ), cell8 ![2] (semO_inb 2)) 0 ∗ semVal ((c : Thread nD τ), cell8 ![3] (semO_inb 3)) 0
    ∗ semVal ((c : Thread nD τ), cell9 ![0] (semO_inb 0)) 0 ∗ semVal ((c : Thread nD τ), cell9 ![1] (semO_inb 1)) 0
    ∗ semVal ((c : Thread nD τ), cell9 ![2] (semO_inb 2)) 0 ∗ semVal ((c : Thread nD τ), cell9 ![3] (semO_inb 3)) 0)

/-- The rings split into four free slots. -/
theorem ring_split (c : Dev nD) (W2 : Cts F B2 c) (W3 : Cts F B3 c) :
    iprop((∃ f, B8.view.loc (c : Thread nD τ) ↦{fullShare} f) ∗ (∃ f, B9.view.loc (c : Thread nD τ) ↦{fullShare} f)
        ∗ Cells (F := F) c ∗ (B2.view.loc (c : Thread nD τ) ↦{fullShare} W2) ∗ (B3.view.loc (c : Thread nD τ) ↦{fullShare} W3))
      ⊢ (iprop((FreeM c W2 W3 0 ∗ FreeM c W2 W3 1 ∗ FreeM c W2 W3 2 ∗ FreeM c W2 W3 3)
        ∗ (B2.view.loc (c : Thread nD τ) ↦[Finset.univ]{Transfers.shareDrop fullShare 4} W2)
        ∗ (B3.view.loc (c : Thread nD τ) ↦[Finset.univ]{Transfers.shareDrop fullShare 4} W3)) : sProp 𝕄) := by
  unfold Cells FreeM FreeO
  iintro ⟨H8, H9, ⟨S0, S1, S2, S3, R0, R1, R2, R3⟩, HW, HS⟩
  ihave H8 := (four_split (F := F) (ℓ := B8.view.loc (c : Thread nD τ)) J8 J8_disj J8_cover) $$ H8
  ihave H9 := (four_split (F := F) (ℓ := B9.view.loc (c : Thread nD τ)) J9 J9_disj J9_cover) $$ H9
  ihave HW := (toks4 W2).1 $$ HW
  ihave HS := (toks4 W3).1 $$ HS
  icases H8 with ⟨A0, A1, A2, A3⟩
  icases H9 with ⟨C0, C1, C2, C3⟩
  icases HW with ⟨HW, W0, W1, W2', W3'⟩
  icases HS with ⟨HS, T0, T1, T2, T3⟩
  isplitr [HW HS]
  · isplitl [S0 R0 A0 C0 W0 T0]
    · isplitl [S0]; · iexact S0
      isplitl [R0]; · iexact R0
      isplitl [A0]; · iexact A0
      isplitl [C0]; · iexact C0
      isplitl [W0]; · iexact W0
      iexact T0
    isplitl [S1 R1 A1 C1 W1 T1]
    · isplitl [S1]; · iexact S1
      isplitl [R1]; · iexact R1
      isplitl [A1]; · iexact A1
      isplitl [C1]; · iexact C1
      isplitl [W1]; · iexact W1
      iexact T1
    isplitl [S2 R2 A2 C2 W2' T2]
    · isplitl [S2]; · iexact S2
      isplitl [R2]; · iexact R2
      isplitl [A2]; · iexact A2
      isplitl [C2]; · iexact C2
      isplitl [W2']; · iexact W2'
      iexact T2
    isplitl [S3]; · iexact S3
    isplitl [R3]; · iexact R3
    isplitl [A3]; · iexact A3
    isplitl [C3]; · iexact C3
    isplitl [W3']; · iexact W3'
    iexact T3
  isplitl [HW]; · iexact HW
  iexact HS

/-- Four free slots joined into the rings. -/
theorem ring_join (c : Dev nD) (W2 : Cts F B2 c) (W3 : Cts F B3 c) :
    (iprop((FreeM c W2 W3 0 ∗ FreeM c W2 W3 1 ∗ FreeM c W2 W3 2 ∗ FreeM c W2 W3 3)
        ∗ (B2.view.loc (c : Thread nD τ) ↦[Finset.univ]{Transfers.shareDrop fullShare 4} W2)
        ∗ (B3.view.loc (c : Thread nD τ) ↦[Finset.univ]{Transfers.shareDrop fullShare 4} W3)) : sProp 𝕄)
    ⊢ iprop((∃ f, B8.view.loc (c : Thread nD τ) ↦{fullShare} f) ∗ (∃ f, B9.view.loc (c : Thread nD τ) ↦{fullShare} f)
        ∗ Cells (F := F) c ∗ (B2.view.loc (c : Thread nD τ) ↦{fullShare} W2) ∗ (B3.view.loc (c : Thread nD τ) ↦{fullShare} W3)) := by
  unfold Cells FreeM FreeO
  iintro ⟨⟨⟨S0, R0, A0, C0, W0, T0⟩, ⟨S1, R1, A1, C1, W1, T1⟩, ⟨S2, R2, A2, C2, W2', T2⟩, ⟨S3, R3, A3, C3, W3', T3⟩⟩, HW, HS⟩
  isplitl [A0 A1 A2 A3]
  · iapply (four_join (F := F) (ℓ := B8.view.loc (c : Thread nD τ)) J8 J8_disj J8_cover)
    isplitl [A0]; · iexact A0
    isplitl [A1]; · iexact A1
    isplitl [A2]; · iexact A2
    iexact A3
  isplitl [C0 C1 C2 C3]
  · iapply (four_join (F := F) (ℓ := B9.view.loc (c : Thread nD τ)) J9 J9_disj J9_cover)
    isplitl [C0]; · iexact C0
    isplitl [C1]; · iexact C1
    isplitl [C2]; · iexact C2
    iexact C3
  isplitl [S0 S1 S2 S3 R0 R1 R2 R3]
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  isplitl [HW W0 W1 W2' W3']
  · iapply (toks4 W2).2
    isplitl [HW]; · iexact HW
    isplitl [W0]; · iexact W0
    isplitl [W1]; · iexact W1
    isplitl [W2']; · iexact W2'
    iexact W3'
  iapply (toks4 W3).2
  isplitl [HS]; · iexact HS
  isplitl [T0]; · iexact T0
  isplitl [T1]; · iexact T1
  isplitl [T2]; · iexact T2
  iexact T3

end Cert.Proof.Kernel

end
-- ==== Proof.K.Offs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The numbers of a trip of the main loop, as functions of the trip: which slot, which expert, which columns. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxRecDepth 100000

/-- The counter of the loop over the experts, as a word. -/
abbrev wd (n : Fin 17) : BitVec 32 := BitVec.ofNat 32 n.1

/-- The main loop makes three trips for every non-empty group. -/
theorem trips2 : ∀ n : Fin 17, (k0_t2_loop (wd n)).trips = 3 * n.1 := by decide +kernel
/-- A trip starts a copy when a task three further exists. -/
theorem cond4_iff : ∀ n : Fin 17, ∀ t : Fin (k0_t2_loop (wd n)).trips, (k0_cond4 (wd n) t = 1#1 ↔ t.1 + 3 < 3 * n.1) := by decide +kernel
/-- The addresses of a trip, by numbers, one theorem for each. -/
theorem off25_eq : ∀ n : Fin 17, ∀ t : Fin (k0_t2_loop (wd n)).trips, k0_off25 (wd n) t = ![(t.1 + 3) / 3] := by decide +kernel
theorem off26_eq : ∀ n : Fin 17, ∀ t : Fin (k0_t2_loop (wd n)).trips, k0_off26 (wd n) t = ![(t.1 + 3) % 4] := by decide +kernel
theorem off27_eq : ∀ n : Fin 17, ∀ t : Fin (k0_t2_loop (wd n)).trips, k0_off27 (wd n) t = ![(t.1 + 3) % 4, 0, 0] := by decide +kernel
theorem off28_col : ∀ n : Fin 17, ∀ t : Fin (k0_t2_loop (wd n)).trips, k0_off28 (wd n) t 0#32 2 = (t.1 + 3) % 3 * 2048 := by decide +kernel
theorem off32_eq : ∀ n : Fin 17, ∀ t : Fin (k0_t2_loop (wd n)).trips, k0_off32 (wd n) t = ![t.1 / 3] := by decide +kernel
theorem off33_eq : ∀ n : Fin 17, ∀ t : Fin (k0_t2_loop (wd n)).trips, k0_off33 (wd n) t = ![t.1 % 4] := by decide +kernel
theorem off34_eq : ∀ n : Fin 17, ∀ t : Fin (k0_t2_loop (wd n)).trips, k0_off34 (wd n) t = ![t.1 % 4, 0, 0] := by decide +kernel
theorem off37_eq : ∀ n : Fin 17, ∀ t : Fin (k0_t2_loop (wd n)).trips, k0_off37 (wd n) t = ![t.1 % 4, 0, 0] := by decide +kernel
theorem off39_eq : ∀ n : Fin 17, ∀ t : Fin (k0_t2_loop (wd n)).trips, k0_off39 (wd n) t = ![t.1 / 3] := by decide +kernel
theorem off40_eq : ∀ n : Fin 17, ∀ t : Fin (k0_t2_loop (wd n)).trips, k0_off40 (wd n) t = ![t.1 / 3 + 1] := by decide +kernel
theorem v640_eq : ∀ n : Fin 17, ∀ t : Fin (k0_t2_loop (wd n)).trips, Scalar.remsi (Scf.iv 0#32 1#32 t) 4#32 = BitVec.ofNat 32 (t.1 % 4) := by decide +kernel
theorem v644_eq : ∀ n : Fin 17, ∀ t : Fin (k0_t2_loop (wd n)).trips,
    Scalar.muli (Scalar.remsi (Scf.iv 0#32 1#32 t) 3#32) 2048#32 = BitVec.ofNat 32 (t.1 % 3 * 2048) := by decide +kernel

theorem off28_eq (n : Fin 17) (t : Fin (k0_t2_loop (wd n)).trips) (w : BitVec 32) :
    k0_off28 (wd n) t w = ![w.toNat, 0, (t.1 + 3) % 3 * 2048] := by
  rw [← off28_col n t]; rfl

end Cert.Proof.Kernel

end
-- ==== Proof.K.Checks.lean ====
module
public import proofs.«01_k».proof.Proof.Gen.Kernel
public import Idealize.ShloMosaic.Lib.Tactic
public import Idealize.ShloMosaic.Lib.WordCmp
public import Idealize.ShloMosaic.Lib.Tactic.Disch
meta import Idealize.ShloMosaic.Lib.Tactic.Disch
@[expose] public section

set_option maxRecDepth 100000

/-! The kernel's side conditions: every access of the body is in bounds as soon as the number of active experts is at
most sixteen, and the experts read are experts. -/

namespace Cert.Proof.Kernel

open Cert.Kernel Cert.Kernel.Gen
open Idealize.ShloMosaic Idealize.ShloMosaic.TcCoe Idealize.ShloMosaic.Tactic

/-- The side conditions the program states of its addresses hold for any count of groups up to 16; the theorems below take them one by one. -/
theorem chk1_all : ∀ n : Fin 17, k0_chk1 (BitVec.ofNat 32 n.1) := by decide +kernel

theorem chk2_0_all : ∀ n : Fin 17, k0_chk2_0 (BitVec.ofNat 32 n.1) := by decide +kernel

theorem chk2_1_of (v : BitVec 32) (h : 0 ≤ v.toInt ∧ v.toInt ≤ 16) : k0_chk2_1 v := by sl_disch

theorem chk2_2_of (v : BitVec 32) (h : 0 ≤ v.toInt ∧ v.toInt ≤ 16) : k0_chk2_2 v := by sl_disch

theorem chk2_3_of (v : BitVec 32) (h : 0 ≤ v.toInt ∧ v.toInt ≤ 16) : k0_chk2_3 v := by sl_disch

theorem chk2_4_all : ∀ n : Fin 17, k0_chk2_4 (BitVec.ofNat 32 n.1) := by decide +kernel

theorem chk2_5_all : ∀ n : Fin 17, k0_chk2_5 (BitVec.ofNat 32 n.1) := by decide +kernel

theorem chk2_6_all : ∀ n : Fin 17, k0_chk2_6 (BitVec.ofNat 32 n.1) := by decide +kernel

theorem chk2_7_all : ∀ n : Fin 17, k0_chk2_7 (BitVec.ofNat 32 n.1) := by decide +kernel

theorem chk2_8_all : ∀ n : Fin 17, k0_chk2_8 (BitVec.ofNat 32 n.1) := by decide +kernel

theorem chk2_9_all : ∀ n : Fin 17, k0_chk2_9 (BitVec.ofNat 32 n.1) := by decide +kernel

theorem chk2_10_all : ∀ n : Fin 17, k0_chk2_10 (BitVec.ofNat 32 n.1) := by decide +kernel

/-- A count of at most 16 reads the same as a signed number. -/
theorem toInt_small (n : Fin 17) : 0 ≤ (BitVec.ofNat 32 n.1).toInt ∧ (BitVec.ofNat 32 n.1).toInt ≤ 16 := by
  revert n; decide +kernel

/-- The conditions on the count of active experts. -/
theorem chk2_of (n : Fin 17) : k0_chk2 (BitVec.ofNat 32 n.1) :=
  ⟨chk2_0_all n, chk2_1_of _ (toInt_small n), chk2_2_of _ (toInt_small n), chk2_3_of _ (toInt_small n), chk2_4_all n, chk2_5_all n, chk2_6_all n, chk2_7_all n, chk2_8_all n, chk2_9_all n, chk2_10_all n⟩

theorem chk3_of (v w : BitVec 32) (h : 0 ≤ v.toInt ∧ v.toInt ≤ 16) (h' : 0 ≤ w.toInt ∧ w.toInt ≤ 15) :
    k0_chk3 v w := by sl_disch

theorem chk4_of (v w : BitVec 32) (h : 0 ≤ v.toInt ∧ v.toInt ≤ 16) (h' : 0 ≤ w.toInt ∧ w.toInt ≤ 15) :
    k0_chk4 v w := by sl_disch

theorem chk5_of (v w : BitVec 32) (h : 0 ≤ v.toInt ∧ v.toInt ≤ 16) (h' : 0 ≤ w.toInt ∧ w.toInt ≤ 15) :
    k0_chk5 v w := by sl_disch

theorem chk6_of (v w : BitVec 32) (t : Fin (k0_t2_loop v).trips) (h : 0 ≤ v.toInt ∧ v.toInt ≤ 16)
    (h' : 0 ≤ w.toInt ∧ w.toInt ≤ 15) : k0_chk6 v t w := by sl_disch

theorem chk7_of (v w : BitVec 32) (t : Fin (k0_t2_loop v).trips) (h : 0 ≤ v.toInt ∧ v.toInt ≤ 16)
    (h' : 0 ≤ w.toInt ∧ w.toInt ≤ 15) : k0_chk7 v t w := by sl_disch

end Cert.Proof.Kernel
-- ==== Proof.K.Part1.lean ====
module

public import proofs.«01_k».proof.Proof.K.Base
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The first part of a trip: the copies of the block three trips on are issued, and the trip's own block awaited. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

/-- With a block still to fetch: its copies are issued into the slot three on, the trip's own block awaited. -/
theorem part1_issue (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (v v4 : BitVec 32) (hw : k0_chk2 v)
    (t : Fin (k0_t2_loop v).trips) (c : Dev nD) (q q' : PosShare TreeShare) (W2 : Cts F B2 c) (W3 : Cts F B3 c)
    (X12 : Cts F B12 c) (X13 : Cts F B13 c) (W : Waits sig Unit) (hc : k0_cond4 v t = 1#1)
    (o : Fin 3 → Nat) (o8 : ∀ a, o a + S1x768x2048.size a ≤ S16x768x6144.size a)
    (o9 : ∀ a, o a + S1x12x2048.size a ≤ S16x12x6144.size a)
    (h6 : k0_chk6 v t (ldw12 c X12 (k0_off25 v t) (k0_off25_inb v hw t hc)))
    (h7 : k0_chk7 v t (ldw12 c X12 (k0_off32 v t) (k0_off32_inb v hw t)))
    (Q : (Σ' (v640 : BitVec 32) (v644 : BitVec 32) (v669 : IVec S64x1 32) (v673 : IVec S64x1 1), Elt F .i32) → sProp 𝕄) :
        iprop(FreeO c q W2 W3 (k0_off26 v t) (k0_off26_inb v hw t hc) (k0_off27 v t) (k0_off27_inb v hw t hc) (k0_off30_inb v hw t hc)
            ∗ PendO c q' W2 W3 (k0_off33 v t) (k0_off33_inb v hw t) (k0_off34 v t) (k0_off34_inb v hw t) (k0_off37_inb v hw t) o o8 o9
            ∗ (B12.view.loc (c : Thread nD τ) ↦[B12.view.set]{fullShare} X12)
            ∗ (B13.view.loc (c : Thread nD τ) ↦[B13.view.set]{fullShare} X13)
            ∗ owes (c : Thread nD τ) 0 W
            ∗ (iprop(PendO c q W2 W3 (k0_off26 v t) (k0_off26_inb v hw t hc) (k0_off27 v t) (k0_off27_inb v hw t hc) (k0_off30_inb v hw t hc)
                (k0_off28 v t (ldw12 c X12 (k0_off25 v t) (k0_off25_inb v hw t hc)))
                (k0_off28_inb v t _ h6 hc) (k0_off31_inb v t _ h6 hc)
            ∗ DoneO c q' W2 W3 (k0_off33 v t) (k0_off33_inb v hw t) (k0_off34 v t) (k0_off34_inb v hw t) (k0_off37_inb v hw t) o o8 o9
            ∗ (B12.view.loc (c : Thread nD τ) ↦[B12.view.set]{fullShare} X12)
            ∗ (B13.view.loc (c : Thread nD τ) ↦[B13.view.set]{fullShare} X13)
            ∗ (∃ W', owes (c : Thread nD τ) 0 W')) -∗
              Q ⟨Scalar.remsi (Scf.iv 0#32 1#32 t) 4#32, Scalar.muli (Scalar.remsi (Scf.iv 0#32 1#32 t) 3#32) 2048#32,
                iota .tc S64x1 32 [0] iota_S64x1_d0_w32, k0_pay5 (F := F) (ldw13 c X13 (k0_off39 v t) (k0_off39_inb v hw t)),
                ldw13 c X13 (k0_off40 v t) (k0_off40_inb v hw t)⟩))
          ⊢ wp frame (wpE (defs₀ (F := F)) Variants.none c none) Set.univ
              (k0_part1 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v hw v4 0#32 1#32 t) Q := by
    rw [k0_part1_eq_skeleton]
    unfold k0_part1_skel FreeO PendO
    iintro ⟨⟨Hc8, Hc9, ⟨%f8, Hs8⟩, ⟨%f9, Hs9⟩, Ht8, Ht9⟩, ⟨⟨⟨%g8, Hf8⟩, Hr8⟩, ⟨⟨%g9, Hf9⟩, Hr9⟩⟩, H12, H13, HO, Hk⟩
    sl_exec (disch := first | exact h6 | exact h7)
    sl_step
    delta part1_issue.sl.v640 part1_issue.sl.v643 part1_issue.sl.v669 part1_issue.sl.r_2 part1_issue.sl.r_3
    delta part1_issue.sl.v642
    delta part1_issue.sl.arg14
    iapply Hk
    unfold DoneO
    isplitl [Hc8 Ht8 Hc9 Ht9]
    · isplitl [Hc8 Ht8]
      · isplitl [Hc8]
        · iexists f8; iexact Hc8
        · iexact Ht8
      · isplitl [Hc9]
        · iexists f9; iexact Hc9
        · iexact Ht9
    isplitl [Hf8 Hf9 Hf8_dst Hf9_dst Hr8 Hr9]
    · isplitl [Hf8]; · iexact Hf8
      isplitl [Hf9]; · iexact Hf9
      isplitl [Hf8_dst]; · iexists g8; iexact Hf8_dst
      isplitl [Hf9_dst]; · iexists g9; iexact Hf9_dst
      isplitl [Hr8]; · iexact Hr8
      iexact Hr9
    isplitl [H12]; · iexact H12
    isplitl [H13]; · iexact H13
    iexists _; iexact HO

/-- With nothing left to fetch: the trip's own block awaited. -/
theorem part1_last (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (v v4 : BitVec 32) (hw : k0_chk2 v)
    (t : Fin (k0_t2_loop v).trips) (c : Dev nD) (q q' : PosShare TreeShare) (W2 : Cts F B2 c) (W3 : Cts F B3 c)
    (X12 : Cts F B12 c) (X13 : Cts F B13 c) (W : Waits sig Unit) (hc : ¬ k0_cond4 v t = 1#1)
    (o : Fin 3 → Nat) (o8 : ∀ a, o a + S1x768x2048.size a ≤ S16x768x6144.size a)
    (o9 : ∀ a, o a + S1x12x2048.size a ≤ S16x12x6144.size a)
    (h7 : k0_chk7 v t (ldw12 c X12 (k0_off32 v t) (k0_off32_inb v hw t)))
    (Q : (Σ' (v640 : BitVec 32) (v644 : BitVec 32) (v669 : IVec S64x1 32) (v673 : IVec S64x1 1), Elt F .i32) → sProp 𝕄) :
        iprop(PendO c q' W2 W3 (k0_off33 v t) (k0_off33_inb v hw t) (k0_off34 v t) (k0_off34_inb v hw t) (k0_off37_inb v hw t) o o8 o9
            ∗ (B12.view.loc (c : Thread nD τ) ↦[B12.view.set]{fullShare} X12)
            ∗ (B13.view.loc (c : Thread nD τ) ↦[B13.view.set]{fullShare} X13)
            ∗ owes (c : Thread nD τ) 0 W
            ∗ (iprop(DoneO c q' W2 W3 (k0_off33 v t) (k0_off33_inb v hw t) (k0_off34 v t) (k0_off34_inb v hw t) (k0_off37_inb v hw t) o o8 o9
            ∗ (B12.view.loc (c : Thread nD τ) ↦[B12.view.set]{fullShare} X12)
            ∗ (B13.view.loc (c : Thread nD τ) ↦[B13.view.set]{fullShare} X13)
            ∗ (∃ W', owes (c : Thread nD τ) 0 W')) -∗
              Q ⟨Scalar.remsi (Scf.iv 0#32 1#32 t) 4#32, Scalar.muli (Scalar.remsi (Scf.iv 0#32 1#32 t) 3#32) 2048#32,
                iota .tc S64x1 32 [0] iota_S64x1_d0_w32, k0_pay5 (F := F) (ldw13 c X13 (k0_off39 v t) (k0_off39_inb v hw t)),
                ldw13 c X13 (k0_off40 v t) (k0_off40_inb v hw t)⟩))
          ⊢ wp frame (wpE (defs₀ (F := F)) Variants.none c none) Set.univ
              (k0_part1 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v hw v4 0#32 1#32 t) Q := by
    rw [k0_part1_eq_skeleton]
    unfold k0_part1_skel PendO
    iintro ⟨⟨⟨⟨%g8, Hf8⟩, Hr8⟩, ⟨⟨%g9, Hf9⟩, Hr9⟩⟩, H12, H13, HO, Hk⟩
    sl_exec (disch := exact h7)
    sl_step
    delta part1_last.sl.v640 part1_last.sl.v643 part1_last.sl.v669 part1_last.sl.r_1 part1_last.sl.r_2
    delta part1_last.sl.v642
    delta part1_last.sl.arg14
    iapply Hk
    unfold DoneO
    isplitl [Hf8 Hf9 Hf8_dst Hf9_dst Hr8 Hr9]
    · isplitl [Hf8]; · iexact Hf8
      isplitl [Hf9]; · iexact Hf9
      isplitl [Hf8_dst]; · iexists g8; iexact Hf8_dst
      isplitl [Hf9_dst]; · iexists g9; iexact Hf9_dst
      isplitl [Hr8]; · iexact Hr8
      iexact Hr9
    isplitl [H12]; · iexact H12
    isplitl [H13]; · iexact H13
    iexists _; iexact HO

end Cert.Proof.Kernel

end
-- ==== Proof.K.Trip.lean ====
module

public import proofs.«01_k».proof.Proof.K.Base
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! One trip of the main loop, after its copies have been awaited: 48 blocks of products, and the eight stores into the accumulator. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

/-- The trip's part after its copies have been awaited, from the three values the first part leaves. -/
def restA (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (v1_0 : BitVec 32) (k0_hw2 : k0_chk2 v1_0)
    (k0_t2 : Fin (k0_t2_loop v1_0).trips) (v640 v644 : BitVec 32) (v669 : IVec S64x1 32) (v673 : IVec S64x1 1) (v676 : Elt F .i32) :
    Prog (TpuEff nD τ sig (Elt F) Λ₀ .tc) (Σ' (v644 : BitVec 32) (v679 : IVec S64x1 1) (v2480 : FVec F S64x256 .f32) (v2497 : FVec F S256x256 .bf16), FVec F S128x256 .bf16) := do
  let ⟨v679, v715, v719, v720⟩ : Σ' (v679 : IVec S64x1 1) (v715 : FVec F S64x256 .f32) (v719 : IVec S128x256 32), IVec S128x256 32 ← k0_part2 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v669 v673 v676
  let ⟨v752, v760, v764⟩ : Σ' (v752 : FVec F S64x256 .f32) (v760 : IVec S128x256 32), IVec S128x256 32 ← k0_part3 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v715 v719 v720
  let ⟨v789, v806, v809⟩ : Σ' (v789 : FVec F S64x256 .f32) (v806 : FVec F S256x256 .bf16), FVec F S1x256 .f32 ← k0_part4 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v752 v760 v764
  let ⟨v826, v843, v851, v854⟩ : Σ' (v826 : FVec F S64x256 .f32) (v843 : FVec F S256x256 .bf16) (v851 : FVec F S128x256 .bf16), FVec F S1x256 .f32 ← k0_part5 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v789 v806 v809
  let ⟨v863, v897, v898, cst_327⟩ : Σ' (v863 : FVec F S64x256 .f32) (v897 : FVec F S256x256 .bf16) (v898 : Vec F S64x256 .bf16), FVec F S64x256 .f32 ← k0_part6 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v826 v843 v851 v854
  let v944 : FVec F S256x256 .bf16 ← k0_part7 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v863 v897 v898 cst_327
  let ⟨v983, v986⟩ : Σ' (v983 : FVec F S64x256 .f32), IVec S128x256 8 ← k0_part8 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v944
  let ⟨v1020, v1028, v1030⟩ : Σ' (v1020 : FVec F S64x256 .f32) (v1028 : IVec S128x256 32), IVec S128x256 32 ← k0_part9 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v983 v986
  let ⟨v1057, v1074⟩ : Σ' (v1057 : FVec F S64x256 .f32), FVec F S256x256 .bf16 ← k0_part10 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1020 v1028 v1030
  let ⟨v1094, v1111, v1119⟩ : Σ' (v1094 : FVec F S64x256 .f32) (v1111 : FVec F S256x256 .bf16), FVec F S128x256 .bf16 ← k0_part11 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1057 v1074
  let ⟨v1158, v1163, v1164⟩ : Σ' (v1158 : FVec F S256x256 .bf16) (v1163 : FVec F S128x256 .f32), FVec F S128x256 .bf16 ← k0_part12 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v1094 v1111 v1119
  let ⟨v1177, v1202, v1208, v1209⟩ : Σ' (v1177 : FVec F S64x256 .f32) (v1202 : FVec F S128x256 .bf16) (v1208 : FVec F S128x256 .bf16), FVec F S128x256 .bf16 ← k0_part13 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1158 v1163 v1164
  let v1251 : FVec F S64x256 .f32 ← k0_part14 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1177 v1202 v1208 v1209
  let ⟨v1288, v1292, v1296⟩ : Σ' (v1288 : FVec F S64x256 .f32) (v1292 : IVec S128x256 32), IVec S128x256 32 ← k0_part15 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1251
  let ⟨v1325, v1341⟩ : Σ' (v1325 : FVec F S64x256 .f32), IVec S256x256 32 ← k0_part16 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1288 v1292 v1296
  let ⟨v1380, v1384⟩ : Σ' (v1380 : IVec S128x256 32), IVec S128x256 32 ← k0_part17 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v1325 v1341
  let ⟨v1408, v1425, v1429⟩ : Σ' (v1408 : FVec F S64x256 .f32) (v1425 : FVec F S256x256 .bf16), FVec F S1x256 .f32 ← k0_part18 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1380 v1384
  let ⟨v1445, v1462, v1470, v1474⟩ : Σ' (v1445 : FVec F S64x256 .f32) (v1462 : FVec F S256x256 .bf16) (v1470 : FVec F S128x256 .bf16), FVec F S1x256 .f32 ← k0_part19 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1408 v1425 v1429
  let ⟨v1482, v1518⟩ : Σ' (v1482 : FVec F S64x256 .f32), FVec F S64x256 .f32 ← k0_part20 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1445 v1462 v1470 v1474
  let ⟨v1556, v1560, v1562⟩ : Σ' (v1556 : FVec F S64x256 .f32) (v1560 : IVec S128x256 32), IVec S128x256 32 ← k0_part21 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1482 v1518
  let v1606 : IVec S128x256 8 ← k0_part22 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v1556 v1560 v1562
  let ⟨v1639, v1647, v1649, c28_i32_589⟩ : Σ' (v1639 : FVec F S64x256 .f32) (v1647 : IVec S128x256 32) (v1649 : IVec S128x256 32), BitVec 32 ← k0_part23 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1606
  let ⟨v1676, v1693⟩ : Σ' (v1676 : FVec F S64x256 .f32), FVec F S256x256 .bf16 ← k0_part24 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1639 v1647 v1649 c28_i32_589
  let ⟨v1713, v1730, v1738⟩ : Σ' (v1713 : FVec F S64x256 .f32) (v1730 : FVec F S256x256 .bf16), FVec F S128x256 .bf16 ← k0_part25 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1676 v1693
  let ⟨v1750, v1784⟩ : Σ' (v1750 : FVec F S64x256 .f32), FVec F S256x256 .bf16 ← k0_part26 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1713 v1730 v1738
  let ⟨v1824, v1825, v1827, v1828⟩ : Σ' (v1824 : FVec F S64x256 .f32) (v1825 : BitVec 32) (v1827 : Vec F S64x256 .f32), IVec S64x1 1 ← k0_part27 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v1750 v1784
  let v1870 : FVec F S64x256 .f32 ← k0_part28 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1824 v1825 v1827 v1828
  let ⟨v1907, v1911, v1915, c24_i32_681⟩ : Σ' (v1907 : FVec F S64x256 .f32) (v1911 : IVec S128x256 32) (v1915 : IVec S128x256 32), BitVec 32 ← k0_part29 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1870
  let ⟨v1944, v1961⟩ : Σ' (v1944 : FVec F S64x256 .f32), FVec F S256x256 .bf16 ← k0_part30 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1907 v1911 v1915 c24_i32_681
  let ⟨v1981, v1998, v2006⟩ : Σ' (v1981 : FVec F S64x256 .f32) (v1998 : FVec F S256x256 .bf16), FVec F S128x256 .bf16 ← k0_part31 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1944 v1961
  let ⟨v2018, v2043, v2051⟩ : Σ' (v2018 : FVec F S64x256 .f32) (v2043 : FVec F S128x256 .bf16), FVec F S128x256 .bf16 ← k0_part32 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1981 v1998 v2006
  let ⟨v2082, v2090, v2094⟩ : Σ' (v2082 : FVec F S256x256 .bf16) (v2090 : FVec F S128x256 .bf16), FVec F S1x256 .f32 ← k0_part33 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v2018 v2043 v2051
  let v2138 : FVec F S64x256 .f32 ← k0_part34 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2082 v2090 v2094
  let ⟨v2175, v2179, v2181, c28_i32_772⟩ : Σ' (v2175 : FVec F S64x256 .f32) (v2179 : IVec S128x256 32) (v2181 : IVec S128x256 32), BitVec 32 ← k0_part35 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2138
  let ⟨v2212, v2225, v2226⟩ : Σ' (v2212 : FVec F S64x256 .f32) (v2225 : IVec S128x1x256 32), IVec S128x1x256 32 ← k0_part36 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2175 v2179 v2181 c28_i32_772
  let ⟨v2249, v2266, v2271⟩ : Σ' (v2249 : FVec F S64x256 .f32) (v2266 : FVec F S256x256 .bf16), FVec F S128x256 .f32 ← k0_part37 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2212 v2225 v2226
  let v2313 : FVec F S256x256 .bf16 ← k0_part38 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v2249 v2266 v2271
  let ⟨v2332, v2349, v2357, v2359⟩ : Σ' (v2332 : FVec F S64x256 .f32) (v2349 : FVec F S256x256 .bf16) (v2357 : FVec F S128x256 .bf16), Vec F S1x1x256 .f32 ← k0_part39 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2313
  let ⟨v2369, v2403, v2404⟩ : Σ' (v2369 : FVec F S64x256 .f32) (v2403 : FVec F S256x256 .bf16), Vec F S64x256 .bf16 ← k0_part40 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2332 v2349 v2357 v2359
  let ⟨v2443, v2447, c28_i32_863⟩ : Σ' (v2443 : FVec F S64x256 .f32) (v2447 : IVec S128x256 32), BitVec 32 ← k0_part41 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2369 v2403 v2404
  let ⟨v2480, v2488, v2490, v2491⟩ : Σ' (v2480 : FVec F S64x256 .f32) (v2488 : IVec S128x256 32) (v2490 : IVec S128x256 32), IVec S128x256 32 ← k0_part42 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2443 v2447 c28_i32_863
  let v2499 : Vec F S1x1x256 .f32 ← Prog.lift (.load B9 (Rect.unit (s := S4x12x2048) (k0_off184 v1_0 k0_t2) S1x1x256.size (k0_off184_inb v1_0 k0_hw2 k0_t2)).toLoadRect (View.loadsAt_vmem h_S1x1x256))
  pure ⟨v644, v679, v2480, k0_pay125 (F := F) v2488 v2490 v2491, k0_pay126 v2488 v2490 v2491 v2499⟩

def restB (v1_0 : BitVec 32) (k0_hw2 : k0_chk2 v1_0) (k0_t2 : Fin (k0_t2_loop v1_0).trips) :
    (Σ' (v644 : BitVec 32) (v679 : IVec S64x1 1) (v2480 : FVec F S64x256 .f32) (v2497 : FVec F S256x256 .bf16), FVec F S128x256 .bf16) → Prog (TpuEff nD τ sig (Elt F) Λ₀ .tc) (BitVec 32) := fun ⟨v644, v679, v2480, v2497, v2505⟩ => do
  let v2507 : Vec F S1x1x256 .f32 ← Prog.lift (.load B9 (Rect.unit (s := S4x12x2048) (k0_off185 v1_0 k0_t2) S1x1x256.size (k0_off185_inb v1_0 k0_hw2 k0_t2)).toLoadRect (View.loadsAt_vmem h_S1x1x256))
  let v2515 : Vec F S64x256 .bf16 ← Prog.lift (.load B5 (Rect.unit (s := S64x1536) ![0, 1280] S64x256.size inb_S64x1536_S64x256_0_1280).toLoadRect (View.loadsAt_vmem h_S64x256))
  let v2520 : Vec F S64x256 .f32 ← Prog.lift (.load B7 (Rect.unit (s := S64x6144) (k0_off59 v1_0 k0_t2 1792#32) S64x256.size (k0_off59_inb v1_0 k0_hw2 k0_t2 7)).toLoadRect (View.loadsAt_vmem h_S64x256))
  let v2525 : Vec F S64x256 .f32 ← Prog.lift (.load B7 (Rect.unit (s := S64x6144) (k0_off59 v1_0 k0_t2 1792#32) S64x256.size (k0_off59_inb v1_0 k0_hw2 k0_t2 7)).toLoadRect (View.loadsAt_vmem h_S64x256))
  Prog.lift (.store B7 (Rect.unit (s := S64x6144) (k0_off59 v1_0 k0_t2 1792#32) S64x256.size (k0_off59_inb v1_0 k0_hw2 k0_t2 7)) (k0_pay2 v679 v2480 v2497 v2505 v2507 v2515 v2520) Finset.univ (View.stores_vmem_bits_univ h_S64x256 rfl) (.inl rfl))
  pure 0#32

theorem body_split (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (v : BitVec 32) (hw : k0_chk2 v) (v4 : BitVec 32)
    (t : Fin (k0_t2_loop v).trips) (a : BitVec 32) :
    k0_t2_body (F := F) arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v hw v4 t a =
      ((k0_part1 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v hw v4 0#32 1#32 t >>= fun r => restA arg0 harg0 arg1 harg1 arg4 harg4 v hw t r.1 r.2.1 r.2.2.1 r.2.2.2.1 r.2.2.2.2)
        >>= restB v hw t) := by
  unfold k0_t2_body
  rw [k0_part43_eq_skeleton]
  rfl

/-- What the trip leaves in the accumulator, as pieces over what it held; and the run that finds them. -/
def rest_run (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (v : BitVec 32) (hw : k0_chk2 v)
    (t : Fin (k0_t2_loop v).trips) (c : Dev nD) (v640 v644 : BitVec 32) (v669 : IVec S64x1 32) (v673 : IVec S64x1 1) (v676 : Elt F .i32)
    (w : Cts F B8 c) (s : Cts F B9 c) (xs : Cts F B5 c) (a : Cts F B7 c) :
    { L : List (View.Piece (Elt F) S64x6144 .f32) //
      ∀ (Q : BitVec 32 → sProp 𝕄),
        iprop(((slot8 (k0_off34 v t) (k0_off34_inb v hw t)).view.loc (c : Thread nD τ) ↦[(slot8 (k0_off34 v t) (k0_off34_inb v hw t)).view.set]{fullShare} w)
            ∗ ((slot9 (k0_off37 v t) (k0_off37_inb v hw t)).view.loc (c : Thread nD τ) ↦[(slot9 (k0_off37 v t) (k0_off37_inb v hw t)).view.set]{fullShare} s)
            ∗ (B5.view.loc (c : Thread nD τ) ↦[B5.view.set]{fullShare} xs)
            ∗ (B7.view.loc (c : Thread nD τ) ↦[B7.view.set]{fullShare} a)
            ∗ (iprop(((slot8 (k0_off34 v t) (k0_off34_inb v hw t)).view.loc (c : Thread nD τ) ↦[(slot8 (k0_off34 v t) (k0_off34_inb v hw t)).view.set]{fullShare} w)
              ∗ ((slot9 (k0_off37 v t) (k0_off37_inb v hw t)).view.loc (c : Thread nD τ) ↦[(slot9 (k0_off37 v t) (k0_off37_inb v hw t)).view.set]{fullShare} s)
              ∗ (B5.view.loc (c : Thread nD τ) ↦[B5.view.set]{fullShare} xs)
              ∗ (B7.view.loc (c : Thread nD τ) ↦[B7.view.set]{fullShare} B7.view.writes (Elt F) a L)) -∗ Q 0#32))
          ⊢ wp frame (wpE (defs₀ (F := F)) Variants.none c none) Set.univ
              (restA arg0 harg0 arg1 harg1 arg4 harg4 v hw t v640 v644 v669 v673 v676 >>= restB v hw t) Q } := by
  refine ⟨?_, fun Q => ?run⟩
  case run =>
    have h8_41 := incl8 _ _ (k0_off41_inb v hw t) (k0_off34_inb v hw t) rfl rfl rfl
    have h8_44 := incl8 _ _ (k0_off44_inb v hw t) (k0_off34_inb v hw t) rfl rfl rfl
    have h8_47 := incl8 _ _ (k0_off47_inb v hw t) (k0_off34_inb v hw t) rfl rfl rfl
    have h8_50 := incl8 _ _ (k0_off50_inb v hw t) (k0_off34_inb v hw t) rfl rfl rfl
    have h8_53 := incl8 _ _ (k0_off53_inb v hw t) (k0_off34_inb v hw t) rfl rfl rfl
    have h8_56 := incl8 _ _ (k0_off56_inb v hw t) (k0_off34_inb v hw t) rfl rfl rfl
    have h8_60 := incl8 _ _ (k0_off60_inb v hw t) (k0_off34_inb v hw t) rfl rfl rfl
    have h8_63 := incl8 _ _ (k0_off63_inb v hw t) (k0_off34_inb v hw t) rfl rfl rfl
    have h8_66 := incl8 _ _ (k0_off66_inb v hw t) (k0_off34_inb v hw t) rfl rfl rfl
    have h8_69 := incl8 _ _ (k0_off69_inb v hw t) (k0_off34_inb v hw t) rfl rfl rfl
    have h8_72 := incl8 _ _ (k0_off72_inb v hw t) (k0_off34_inb v hw t) rfl rfl rfl
    have h8_75 := incl8 _ _ (k0_off75_inb v hw t) (k0_off34_inb v hw t) rfl rfl rfl
    have h8_78 := incl8 _ _ (k0_off78_inb v hw t) (k0_off34_inb v hw t) rfl rfl rfl
    have h8_81 := incl8 _ _ (k0_off81_inb v hw t) (k0_off34_inb v hw t) rfl rfl rfl
    have h8_84 := incl8 _ _ (k0_off84_inb v hw t) (k0_off34_inb v hw t) rfl rfl rfl
    have h8_87 := incl8 _ _ (k0_off87_inb v hw t) (k0_off34_inb v hw t) rfl rfl rfl
    have h8_90 := incl8 _ _ (k0_off90_inb v hw t) (k0_off34_inb v hw t) rfl rfl rfl
    have h8_93 := incl8 _ _ (k0_off93_inb v hw t) (k0_off34_inb v hw t) rfl rfl rfl
    have h8_96 := incl8 _ _ (k0_off96_inb v hw t) (k0_off34_inb v hw t) rfl rfl rfl
    have h8_99 := incl8 _ _ (k0_off99_inb v hw t) (k0_off34_inb v hw t) rfl rfl rfl
    have h8_102 := incl8 _ _ (k0_off102_inb v hw t) (k0_off34_inb v hw t) rfl rfl rfl
    have h8_105 := incl8 _ _ (k0_off105_inb v hw t) (k0_off34_inb v hw t) rfl rfl rfl
    have h8_108 := incl8 _ _ (k0_off108_inb v hw t) (k0_off34_inb v hw t) rfl rfl rfl
    have h8_111 := incl8 _ _ (k0_off111_inb v hw t) (k0_off34_inb v hw t) rfl rfl rfl
    have h8_114 := incl8 _ _ (k0_off114_inb v hw t) (k0_off34_inb v hw t) rfl rfl rfl
    have h8_117 := incl8 _ _ (k0_off117_inb v hw t) (k0_off34_inb v hw t) rfl rfl rfl
    have h8_120 := incl8 _ _ (k0_off120_inb v hw t) (k0_off34_inb v hw t) rfl rfl rfl
    have h8_123 := incl8 _ _ (k0_off123_inb v hw t) (k0_off34_inb v hw t) rfl rfl rfl
    have h8_126 := incl8 _ _ (k0_off126_inb v hw t) (k0_off34_inb v hw t) rfl rfl rfl
    have h8_129 := incl8 _ _ (k0_off129_inb v hw t) (k0_off34_inb v hw t) rfl rfl rfl
    have h8_132 := incl8 _ _ (k0_off132_inb v hw t) (k0_off34_inb v hw t) rfl rfl rfl
    have h8_135 := incl8 _ _ (k0_off135_inb v hw t) (k0_off34_inb v hw t) rfl rfl rfl
    have h8_138 := incl8 _ _ (k0_off138_inb v hw t) (k0_off34_inb v hw t) rfl rfl rfl
    have h8_141 := incl8 _ _ (k0_off141_inb v hw t) (k0_off34_inb v hw t) rfl rfl rfl
    have h8_144 := incl8 _ _ (k0_off144_inb v hw t) (k0_off34_inb v hw t) rfl rfl rfl
    have h8_147 := incl8 _ _ (k0_off147_inb v hw t) (k0_off34_inb v hw t) rfl rfl rfl
    have h8_150 := incl8 _ _ (k0_off150_inb v hw t) (k0_off34_inb v hw t) rfl rfl rfl
    have h8_153 := incl8 _ _ (k0_off153_inb v hw t) (k0_off34_inb v hw t) rfl rfl rfl
    have h8_156 := incl8 _ _ (k0_off156_inb v hw t) (k0_off34_inb v hw t) rfl rfl rfl
    have h8_159 := incl8 _ _ (k0_off159_inb v hw t) (k0_off34_inb v hw t) rfl rfl rfl
    have h8_162 := incl8 _ _ (k0_off162_inb v hw t) (k0_off34_inb v hw t) rfl rfl rfl
    have h8_165 := incl8 _ _ (k0_off165_inb v hw t) (k0_off34_inb v hw t) rfl rfl rfl
    have h8_168 := incl8 _ _ (k0_off168_inb v hw t) (k0_off34_inb v hw t) rfl rfl rfl
    have h8_171 := incl8 _ _ (k0_off171_inb v hw t) (k0_off34_inb v hw t) rfl rfl rfl
    have h8_174 := incl8 _ _ (k0_off174_inb v hw t) (k0_off34_inb v hw t) rfl rfl rfl
    have h8_177 := incl8 _ _ (k0_off177_inb v hw t) (k0_off34_inb v hw t) rfl rfl rfl
    have h8_180 := incl8 _ _ (k0_off180_inb v hw t) (k0_off34_inb v hw t) rfl rfl rfl
    have h8_183 := incl8 _ _ (k0_off183_inb v hw t) (k0_off34_inb v hw t) rfl rfl rfl
    have h9_42 := incl9 _ _ (k0_off42_inb v hw t) (k0_off37_inb v hw t) rfl rfl rfl
    have h9_43 := incl9 _ _ (k0_off43_inb v hw t) (k0_off37_inb v hw t) rfl rfl rfl
    have h9_45 := incl9 _ _ (k0_off45_inb v hw t) (k0_off37_inb v hw t) rfl rfl rfl
    have h9_46 := incl9 _ _ (k0_off46_inb v hw t) (k0_off37_inb v hw t) rfl rfl rfl
    have h9_48 := incl9 _ _ (k0_off48_inb v hw t) (k0_off37_inb v hw t) rfl rfl rfl
    have h9_49 := incl9 _ _ (k0_off49_inb v hw t) (k0_off37_inb v hw t) rfl rfl rfl
    have h9_51 := incl9 _ _ (k0_off51_inb v hw t) (k0_off37_inb v hw t) rfl rfl rfl
    have h9_52 := incl9 _ _ (k0_off52_inb v hw t) (k0_off37_inb v hw t) rfl rfl rfl
    have h9_54 := incl9 _ _ (k0_off54_inb v hw t) (k0_off37_inb v hw t) rfl rfl rfl
    have h9_55 := incl9 _ _ (k0_off55_inb v hw t) (k0_off37_inb v hw t) rfl rfl rfl
    have h9_57 := incl9 _ _ (k0_off57_inb v hw t) (k0_off37_inb v hw t) rfl rfl rfl
    have h9_58 := incl9 _ _ (k0_off58_inb v hw t) (k0_off37_inb v hw t) rfl rfl rfl
    have h9_61 := incl9 _ _ (k0_off61_inb v hw t) (k0_off37_inb v hw t) rfl rfl rfl
    have h9_62 := incl9 _ _ (k0_off62_inb v hw t) (k0_off37_inb v hw t) rfl rfl rfl
    have h9_64 := incl9 _ _ (k0_off64_inb v hw t) (k0_off37_inb v hw t) rfl rfl rfl
    have h9_65 := incl9 _ _ (k0_off65_inb v hw t) (k0_off37_inb v hw t) rfl rfl rfl
    have h9_67 := incl9 _ _ (k0_off67_inb v hw t) (k0_off37_inb v hw t) rfl rfl rfl
    have h9_68 := incl9 _ _ (k0_off68_inb v hw t) (k0_off37_inb v hw t) rfl rfl rfl
    have h9_70 := incl9 _ _ (k0_off70_inb v hw t) (k0_off37_inb v hw t) rfl rfl rfl
    have h9_71 := incl9 _ _ (k0_off71_inb v hw t) (k0_off37_inb v hw t) rfl rfl rfl
    have h9_73 := incl9 _ _ (k0_off73_inb v hw t) (k0_off37_inb v hw t) rfl rfl rfl
    have h9_74 := incl9 _ _ (k0_off74_inb v hw t) (k0_off37_inb v hw t) rfl rfl rfl
    have h9_76 := incl9 _ _ (k0_off76_inb v hw t) (k0_off37_inb v hw t) rfl rfl rfl
    have h9_77 := incl9 _ _ (k0_off77_inb v hw t) (k0_off37_inb v hw t) rfl rfl rfl
    have h9_79 := incl9 _ _ (k0_off79_inb v hw t) (k0_off37_inb v hw t) rfl rfl rfl
    have h9_80 := incl9 _ _ (k0_off80_inb v hw t) (k0_off37_inb v hw t) rfl rfl rfl
    have h9_82 := incl9 _ _ (k0_off82_inb v hw t) (k0_off37_inb v hw t) rfl rfl rfl
    have h9_83 := incl9 _ _ (k0_off83_inb v hw t) (k0_off37_inb v hw t) rfl rfl rfl
    have h9_85 := incl9 _ _ (k0_off85_inb v hw t) (k0_off37_inb v hw t) rfl rfl rfl
    have h9_86 := incl9 _ _ (k0_off86_inb v hw t) (k0_off37_inb v hw t) rfl rfl rfl
    have h9_88 := incl9 _ _ (k0_off88_inb v hw t) (k0_off37_inb v hw t) rfl rfl rfl
    have h9_89 := incl9 _ _ (k0_off89_inb v hw t) (k0_off37_inb v hw t) rfl rfl rfl
    have h9_91 := incl9 _ _ (k0_off91_inb v hw t) (k0_off37_inb v hw t) rfl rfl rfl
    have h9_92 := incl9 _ _ (k0_off92_inb v hw t) (k0_off37_inb v hw t) rfl rfl rfl
    have h9_94 := incl9 _ _ (k0_off94_inb v hw t) (k0_off37_inb v hw t) rfl rfl rfl
    have h9_95 := incl9 _ _ (k0_off95_inb v hw t) (k0_off37_inb v hw t) rfl rfl rfl
    have h9_97 := incl9 _ _ (k0_off97_inb v hw t) (k0_off37_inb v hw t) rfl rfl rfl
    have h9_98 := incl9 _ _ (k0_off98_inb v hw t) (k0_off37_inb v hw t) rfl rfl rfl
    have h9_100 := incl9 _ _ (k0_off100_inb v hw t) (k0_off37_inb v hw t) rfl rfl rfl
    have h9_101 := incl9 _ _ (k0_off101_inb v hw t) (k0_off37_inb v hw t) rfl rfl rfl
    have h9_103 := incl9 _ _ (k0_off103_inb v hw t) (k0_off37_inb v hw t) rfl rfl rfl
    have h9_104 := incl9 _ _ (k0_off104_inb v hw t) (k0_off37_inb v hw t) rfl rfl rfl
    have h9_106 := incl9 _ _ (k0_off106_inb v hw t) (k0_off37_inb v hw t) rfl rfl rfl
    have h9_107 := incl9 _ _ (k0_off107_inb v hw t) (k0_off37_inb v hw t) rfl rfl rfl
    have h9_109 := incl9 _ _ (k0_off109_inb v hw t) (k0_off37_inb v hw t) rfl rfl rfl
    have h9_110 := incl9 _ _ (k0_off110_inb v hw t) (k0_off37_inb v hw t) rfl rfl rfl
    have h9_112 := incl9 _ _ (k0_off112_inb v hw t) (k0_off37_inb v hw t) rfl rfl rfl
    have h9_113 := incl9 _ _ (k0_off113_inb v hw t) (k0_off37_inb v hw t) rfl rfl rfl
    have h9_115 := incl9 _ _ (k0_off115_inb v hw t) (k0_off37_inb v hw t) rfl rfl rfl
    have h9_116 := incl9 _ _ (k0_off116_inb v hw t) (k0_off37_inb v hw t) rfl rfl rfl
    have h9_118 := incl9 _ _ (k0_off118_inb v hw t) (k0_off37_inb v hw t) rfl rfl rfl
    have h9_119 := incl9 _ _ (k0_off119_inb v hw t) (k0_off37_inb v hw t) rfl rfl rfl
    have h9_121 := incl9 _ _ (k0_off121_inb v hw t) (k0_off37_inb v hw t) rfl rfl rfl
    have h9_122 := incl9 _ _ (k0_off122_inb v hw t) (k0_off37_inb v hw t) rfl rfl rfl
    have h9_124 := incl9 _ _ (k0_off124_inb v hw t) (k0_off37_inb v hw t) rfl rfl rfl
    have h9_125 := incl9 _ _ (k0_off125_inb v hw t) (k0_off37_inb v hw t) rfl rfl rfl
    have h9_127 := incl9 _ _ (k0_off127_inb v hw t) (k0_off37_inb v hw t) rfl rfl rfl
    have h9_128 := incl9 _ _ (k0_off128_inb v hw t) (k0_off37_inb v hw t) rfl rfl rfl
    have h9_130 := incl9 _ _ (k0_off130_inb v hw t) (k0_off37_inb v hw t) rfl rfl rfl
    have h9_131 := incl9 _ _ (k0_off131_inb v hw t) (k0_off37_inb v hw t) rfl rfl rfl
    have h9_133 := incl9 _ _ (k0_off133_inb v hw t) (k0_off37_inb v hw t) rfl rfl rfl
    have h9_134 := incl9 _ _ (k0_off134_inb v hw t) (k0_off37_inb v hw t) rfl rfl rfl
    have h9_136 := incl9 _ _ (k0_off136_inb v hw t) (k0_off37_inb v hw t) rfl rfl rfl
    have h9_137 := incl9 _ _ (k0_off137_inb v hw t) (k0_off37_inb v hw t) rfl rfl rfl
    have h9_139 := incl9 _ _ (k0_off139_inb v hw t) (k0_off37_inb v hw t) rfl rfl rfl
    have h9_140 := incl9 _ _ (k0_off140_inb v hw t) (k0_off37_inb v hw t) rfl rfl rfl
    have h9_142 := incl9 _ _ (k0_off142_inb v hw t) (k0_off37_inb v hw t) rfl rfl rfl
    have h9_143 := incl9 _ _ (k0_off143_inb v hw t) (k0_off37_inb v hw t) rfl rfl rfl
    have h9_145 := incl9 _ _ (k0_off145_inb v hw t) (k0_off37_inb v hw t) rfl rfl rfl
    have h9_146 := incl9 _ _ (k0_off146_inb v hw t) (k0_off37_inb v hw t) rfl rfl rfl
    have h9_148 := incl9 _ _ (k0_off148_inb v hw t) (k0_off37_inb v hw t) rfl rfl rfl
    have h9_149 := incl9 _ _ (k0_off149_inb v hw t) (k0_off37_inb v hw t) rfl rfl rfl
    have h9_151 := incl9 _ _ (k0_off151_inb v hw t) (k0_off37_inb v hw t) rfl rfl rfl
    have h9_152 := incl9 _ _ (k0_off152_inb v hw t) (k0_off37_inb v hw t) rfl rfl rfl
    have h9_154 := incl9 _ _ (k0_off154_inb v hw t) (k0_off37_inb v hw t) rfl rfl rfl
    have h9_155 := incl9 _ _ (k0_off155_inb v hw t) (k0_off37_inb v hw t) rfl rfl rfl
    have h9_157 := incl9 _ _ (k0_off157_inb v hw t) (k0_off37_inb v hw t) rfl rfl rfl
    have h9_158 := incl9 _ _ (k0_off158_inb v hw t) (k0_off37_inb v hw t) rfl rfl rfl
    have h9_160 := incl9 _ _ (k0_off160_inb v hw t) (k0_off37_inb v hw t) rfl rfl rfl
    have h9_161 := incl9 _ _ (k0_off161_inb v hw t) (k0_off37_inb v hw t) rfl rfl rfl
    have h9_163 := incl9 _ _ (k0_off163_inb v hw t) (k0_off37_inb v hw t) rfl rfl rfl
    have h9_164 := incl9 _ _ (k0_off164_inb v hw t) (k0_off37_inb v hw t) rfl rfl rfl
    have h9_166 := incl9 _ _ (k0_off166_inb v hw t) (k0_off37_inb v hw t) rfl rfl rfl
    have h9_167 := incl9 _ _ (k0_off167_inb v hw t) (k0_off37_inb v hw t) rfl rfl rfl
    have h9_169 := incl9 _ _ (k0_off169_inb v hw t) (k0_off37_inb v hw t) rfl rfl rfl
    have h9_170 := incl9 _ _ (k0_off170_inb v hw t) (k0_off37_inb v hw t) rfl rfl rfl
    have h9_172 := incl9 _ _ (k0_off172_inb v hw t) (k0_off37_inb v hw t) rfl rfl rfl
    have h9_173 := incl9 _ _ (k0_off173_inb v hw t) (k0_off37_inb v hw t) rfl rfl rfl
    have h9_175 := incl9 _ _ (k0_off175_inb v hw t) (k0_off37_inb v hw t) rfl rfl rfl
    have h9_176 := incl9 _ _ (k0_off176_inb v hw t) (k0_off37_inb v hw t) rfl rfl rfl
    have h9_178 := incl9 _ _ (k0_off178_inb v hw t) (k0_off37_inb v hw t) rfl rfl rfl
    have h9_179 := incl9 _ _ (k0_off179_inb v hw t) (k0_off37_inb v hw t) rfl rfl rfl
    have h9_181 := incl9 _ _ (k0_off181_inb v hw t) (k0_off37_inb v hw t) rfl rfl rfl
    have h9_182 := incl9 _ _ (k0_off182_inb v hw t) (k0_off37_inb v hw t) rfl rfl rfl
    have h9_184 := incl9 _ _ (k0_off184_inb v hw t) (k0_off37_inb v hw t) rfl rfl rfl
    have h9_185 := incl9 _ _ (k0_off185_inb v hw t) (k0_off37_inb v hw t) rfl rfl rfl
    iintro ⟨H8, H9, H5, H7, Hk⟩
    rw [wp_bind]
    unfold restA
    sl_exec_parts
    sl_step
    iapply Hk
    iframe H8
    iframe H9
    iframe H5
    iexact H7

end Cert.Proof.Kernel

end
-- ==== Proof.K.Step.lean ====
module

public import proofs.«01_k».proof.Proof.K.Base
public import proofs.«01_k».proof.Proof.K.Ring
public import proofs.«01_k».proof.Proof.K.Offs
public import proofs.«01_k».proof.Proof.K.Checks
public import proofs.«01_k».proof.Proof.K.Part1
public import proofs.«01_k».proof.Proof.K.Trip
public import proofs.«01_k».proof.Proof.Gen.Kernel.Loops
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The main loop: what stands before each trip, and that a trip leads from one to the next. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)

/-- Before trip `k`, the slot of block `j`: under way if the block exists and free if not. -/
def Slot (c : Dev nD) (W2 : Cts F B2 c) (W3 : Cts F B3 c) (n : Fin 17) (ex : ℕ → BitVec 32) (j : ℕ) : sProp 𝕄 :=
  if j < 3 * n.1 then PendM c W2 W3 (ix4' j) (exF (ex (j / 3))) (ix3' j) else FreeM c W2 W3 (ix4' j)

theorem word_inb (j : Fin 17) : ∀ a, (![j.1] : Fin 1 → ℕ) a + S1.size a ≤ S17.size a := by revert j; decide

theorem ldw12_congr {c : Dev nD} {X : Cts F B12 c} {o o' : Fin 1 → Nat} {h h'} (e : o = o') : ldw12 c X o h = ldw12 c X o' h' := by
  subst e; rfl
theorem ldw13_congr {c : Dev nD} {X : Cts F B13 c} {o o' : Fin 1 → Nat} {h h'} (e : o = o') : ldw13 c X o h = ldw13 c X o' h' := by
  subst e; rfl

/-- The two lists of the routing hold, at the places in use, the experts `ex` and the first rows `st`. -/
def Lists (c : Dev nD) (X12 : Cts F B12 c) (X13 : Cts F B13 c) (n : Fin 17) (ex st : ℕ → BitVec 32) : Prop :=
  (∀ j : Fin 17, j.1 < n.1 → ldw12 c X12 ![j.1] (word_inb j) = ex j.1 ∧ (ex j.1).toNat < 16)
    ∧ (∀ j : Fin 17, j.1 ≤ n.1 → ldw13 c X13 ![j.1] (word_inb j) = st j.1)

theorem small_toInt (b : BitVec 32) (h : b.toNat < 16) : 0 ≤ b.toInt ∧ b.toInt ≤ 15 := by
  rw [BitVec.toInt_eq_toNat_of_lt (by omega)]; omega

/-- The copies of a trip, in terms of slots. -/
theorem part1_canon (c : Dev nD) (W2 : Cts F B2 c) (W3 : Cts F B3 c) (n : Fin 17) (t : Fin (k0_t2_loop (wd n)).trips)
    (hw : k0_chk2 (wd n)) (v4 : BitVec 32) (X12 : Cts F B12 c) (X13 : Cts F B13 c) (ex st : ℕ → BitVec 32)
    (hL : Lists c X12 X13 n ex st) (W : Waits sig Unit)
    (Q : (Σ' (v640 : BitVec 32) (v644 : BitVec 32) (v669 : IVec S64x1 32) (v673 : IVec S64x1 1), Elt F .i32) → sProp 𝕄) :
    iprop(FreeM c W2 W3 (ix4' (t.1 + 3)) ∗ Slot c W2 W3 n ex t.1
        ∗ (B12.view.loc (c : Thread nD τ) ↦[B12.view.set]{fullShare} X12)
        ∗ (B13.view.loc (c : Thread nD τ) ↦[B13.view.set]{fullShare} X13)
        ∗ owes (c : Thread nD τ) 0 W
        ∗ (iprop(Slot c W2 W3 n ex (t.1 + 3) ∗ DoneM c W2 W3 (ix4' t.1) (exF (ex (t.1 / 3))) (ix3' t.1)
            ∗ (B12.view.loc (c : Thread nD τ) ↦[B12.view.set]{fullShare} X12)
            ∗ (B13.view.loc (c : Thread nD τ) ↦[B13.view.set]{fullShare} X13)
            ∗ (∃ W', owes (c : Thread nD τ) 0 W')) -∗
          Q ⟨Scalar.remsi (Scf.iv 0#32 1#32 t) 4#32, Scalar.muli (Scalar.remsi (Scf.iv 0#32 1#32 t) 3#32) 2048#32,
            iota .tc S64x1 32 [0] iota_S64x1_d0_w32, k0_pay5 (F := F) (st (t.1 / 3)), st (t.1 / 3 + 1)⟩))
      ⊢ wp frame (wpE (defs₀ (F := F)) Variants.none c none) Set.univ
          (k0_part1 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) (wd n) hw v4 0#32 1#32 t) Q := by
  have ht : t.1 < 3 * n.1 := trips2 n ▸ t.2
  have hn := n.2
  have e39 : ldw13 c X13 (k0_off39 (wd n) t) (k0_off39_inb (wd n) hw t) = st (t.1 / 3) :=
    (ldw13_congr (h' := word_inb ⟨t.1 / 3, by omega⟩) (off39_eq n t)).trans (hL.2 ⟨t.1 / 3, by omega⟩ (by show t.1 / 3 ≤ n.1; omega))
  have e40 : ldw13 c X13 (k0_off40 (wd n) t) (k0_off40_inb (wd n) hw t) = st (t.1 / 3 + 1) :=
    (ldw13_congr (h' := word_inb ⟨t.1 / 3 + 1, by omega⟩) (off40_eq n t)).trans (hL.2 ⟨t.1 / 3 + 1, by omega⟩ (by show t.1 / 3 + 1 ≤ n.1; omega))
  have e32 : ldw12 c X12 (k0_off32 (wd n) t) (k0_off32_inb (wd n) hw t) = ex (t.1 / 3) :=
    (ldw12_congr (h' := word_inb ⟨t.1 / 3, by omega⟩) (off32_eq n t)).trans (hL.1 ⟨t.1 / 3, by omega⟩ (by show t.1 / 3 < n.1; omega)).1
  have r32 : (ex (t.1 / 3)).toNat < 16 := (hL.1 ⟨t.1 / 3, by omega⟩ (by show t.1 / 3 < n.1; omega)).2
  have h7 : k0_chk7 (wd n) t (ldw12 c X12 (k0_off32 (wd n) t) (k0_off32_inb (wd n) hw t)) := by
    rw [e32]; exact chk7_of _ _ _ (toInt_small n) (small_toInt _ r32)
  have sT : Slot c W2 W3 n ex t.1 = PendO c (tok (ix4' t.1)) W2 W3 (k0_off33 (wd n) t) (k0_off33_inb (wd n) hw t) (k0_off34 (wd n) t) (k0_off34_inb (wd n) hw t)
      (k0_off37_inb (wd n) hw t) ![(exF (ex (t.1 / 3))).1, 0, (ix3' t.1).1 * 2048] (srcO8_inb _ _) (srcO9_inb _ _) :=
    (if_pos ht).trans (pendO_congr (off33_eq n t).symm (off34_eq n t).symm rfl)
  have dT : DoneO c (tok (ix4' t.1)) W2 W3 (k0_off33 (wd n) t) (k0_off33_inb (wd n) hw t) (k0_off34 (wd n) t) (k0_off34_inb (wd n) hw t)
      (k0_off37_inb (wd n) hw t) ![(exF (ex (t.1 / 3))).1, 0, (ix3' t.1).1 * 2048] (srcO8_inb _ _) (srcO9_inb _ _)
      = DoneM c W2 W3 (ix4' t.1) (exF (ex (t.1 / 3))) (ix3' t.1) := doneO_congr (off33_eq n t) (off34_eq n t) rfl
  by_cases hc : k0_cond4 (wd n) t = 1#1
  · have h3 := (cond4_iff n t).mp hc
    have e25 : ldw12 c X12 (k0_off25 (wd n) t) (k0_off25_inb (wd n) hw t hc) = ex ((t.1 + 3) / 3) :=
      (ldw12_congr (h' := word_inb ⟨(t.1 + 3) / 3, by omega⟩) (off25_eq n t)).trans (hL.1 ⟨(t.1 + 3) / 3, by omega⟩ (by show (t.1 + 3) / 3 < n.1; omega)).1
    have r25 : (ex ((t.1 + 3) / 3)).toNat < 16 := (hL.1 ⟨(t.1 + 3) / 3, by omega⟩ (by show (t.1 + 3) / 3 < n.1; omega)).2
    have h6 : k0_chk6 (wd n) t (ldw12 c X12 (k0_off25 (wd n) t) (k0_off25_inb (wd n) hw t hc)) := by
      rw [e25]; exact chk6_of _ _ _ (toInt_small n) (small_toInt _ r25)
    have fT : FreeM c W2 W3 (ix4' (t.1 + 3)) = FreeO c (tok (ix4' (t.1 + 3))) W2 W3 (k0_off26 (wd n) t) (k0_off26_inb (wd n) hw t hc) (k0_off27 (wd n) t)
        (k0_off27_inb (wd n) hw t hc) (k0_off30_inb (wd n) hw t hc) := freeO_congr (off26_eq n t).symm (off27_eq n t).symm
    have pT : PendO c (tok (ix4' (t.1 + 3))) W2 W3 (k0_off26 (wd n) t) (k0_off26_inb (wd n) hw t hc) (k0_off27 (wd n) t)
        (k0_off27_inb (wd n) hw t hc) (k0_off30_inb (wd n) hw t hc)
        (k0_off28 (wd n) t (ldw12 c X12 (k0_off25 (wd n) t) (k0_off25_inb (wd n) hw t hc)))
        (k0_off28_inb (wd n) t _ h6 hc) (k0_off31_inb (wd n) t _ h6 hc) = Slot c W2 W3 n ex (t.1 + 3) :=
      (pendO_congr (off26_eq n t) (off27_eq n t) (by
        rw [off28_eq, e25]
        show ![(ex ((t.1 + 3) / 3)).toNat, 0, (t.1 + 3) % 3 * 2048] = ![(ex ((t.1 + 3) / 3)).toNat % 16, 0, (t.1 + 3) % 3 * 2048]
        rw [Nat.mod_eq_of_lt r25])).trans (if_pos h3).symm
    have key := part1_issue (F := F) arg0 harg0 arg1 harg1 arg4 harg4 (wd n) v4 hw t c (tok (ix4' (t.1 + 3))) (tok (ix4' t.1)) W2 W3 X12 X13 W hc
      ![(exF (ex (t.1 / 3))).1, 0, (ix3' t.1).1 * 2048] (srcO8_inb _ _) (srcO9_inb _ _) h6 h7 Q
    rw [← fT, ← sT, dT, pT, e39, e40] at key
    exact key
  · have h3 : ¬ (t.1 + 3 < 3 * n.1) := fun h => hc ((cond4_iff n t).mpr h)
    have fT : Slot c W2 W3 n ex (t.1 + 3) = FreeM c W2 W3 (ix4' (t.1 + 3)) := if_neg h3
    have key := part1_last (F := F) arg0 harg0 arg1 harg1 arg4 harg4 (wd n) v4 hw t c (tok (ix4' (t.1 + 3))) (tok (ix4' t.1)) W2 W3 X12 X13 W hc
      ![(exF (ex (t.1 / 3))).1, 0, (ix3' t.1).1 * 2048] (srcO8_inb _ _) (srcO9_inb _ _) h7 Q
    rw [← sT, dT, e39, e40] at key
    rw [fT]
    iintro ⟨HF, HS, H12, H13, HO, HK⟩
    iapply key
    isplitl [HS]
    · iexact HS
    isplitl [H12]
    · iexact H12
    isplitl [H13]
    · iexact H13
    isplitl [HO]
    · iexact HO
    iintro ⟨HD, H12, H13, HO⟩
    iapply HK
    isplitl [HF]
    · iexact HF
    isplitl [HD]
    · iexact HD
    isplitl [H12]
    · iexact H12
    isplitl [H13]
    · iexact H13
    iexact HO

/-- What the accumulator holds before trip `k`. -/
def accAt (n : Fin 17) (hw : k0_chk2 (wd n)) (c : Dev nD) (W2 : Cts F B2 c) (W3 : Cts F B3 c) (ex st : ℕ → BitVec 32)
    (xs : Cts F B5 c) (a0 : Cts F B7 c) : ℕ → Cts F B7 c
  | 0 => a0
  | k + 1 =>
    if h : k < (k0_t2_loop (wd n)).trips then
      B7.view.writes (Elt F) (accAt n hw c W2 W3 ex st xs a0 k)
        (rest_run arg0 harg0 arg1 harg1 arg4 harg4 (wd n) hw ⟨k, h⟩ c
          (Scalar.remsi (Scf.iv 0#32 1#32 (⟨k, h⟩ : Fin (k0_t2_loop (wd n)).trips)) 4#32)
          (Scalar.muli (Scalar.remsi (Scf.iv 0#32 1#32 (⟨k, h⟩ : Fin (k0_t2_loop (wd n)).trips)) 3#32) 2048#32)
          (iota .tc S64x1 32 [0] iota_S64x1_d0_w32) (k0_pay5 (F := F) (st (k / 3))) (st (k / 3 + 1))
          (wBlk c W2 (exF (ex (k / 3))) (ix3' k)) (sBlk c W3 (exF (ex (k / 3))) (ix3' k)) xs (accAt n hw c W2 W3 ex st xs a0 k)).1
    else accAt n hw c W2 W3 ex st xs a0 k

/-- What stands before trip `k`. -/
def inv2 (n : Fin 17) (hw : k0_chk2 (wd n)) (c : Dev nD) (W2 : Cts F B2 c) (W3 : Cts F B3 c) (ex st : ℕ → BitVec 32)
    (X12 : Cts F B12 c) (X13 : Cts F B13 c) (xs : Cts F B5 c) (a0 : Cts F B7 c) (k : ℕ) (_ : BitVec 32) : sProp 𝕄 :=
  iprop(Slot c W2 W3 n ex k ∗ Slot c W2 W3 n ex (k + 1) ∗ Slot c W2 W3 n ex (k + 2) ∗ FreeM c W2 W3 (ix4' (k + 3))
    ∗ (B5.view.loc (c : Thread nD τ) ↦[B5.view.set]{fullShare} xs)
    ∗ (B7.view.loc (c : Thread nD τ) ↦[B7.view.set]{fullShare} accAt arg0 harg0 arg1 harg1 arg4 harg4 n hw c W2 W3 ex st xs a0 k)
    ∗ (B12.view.loc (c : Thread nD τ) ↦[B12.view.set]{fullShare} X12)
    ∗ (B13.view.loc (c : Thread nD τ) ↦[B13.view.set]{fullShare} X13)
    ∗ (∃ W', owes (c : Thread nD τ) 0 W'))

/-- One trip of the main loop keeps the invariant. -/
theorem step2 (n : Fin 17) (hw : k0_chk2 (wd n)) (v4 : BitVec 32) (c : Dev nD) (W2 : Cts F B2 c) (W3 : Cts F B3 c) (ex st : ℕ → BitVec 32)
    (X12 : Cts F B12 c) (X13 : Cts F B13 c) (hL : Lists c X12 X13 n ex st) (xs : Cts F B5 c) (a0 : Cts F B7 c)
    (k : Fin (k0_t2_loop (wd n)).trips) (a : BitVec 32) :
    inv2 arg0 harg0 arg1 harg1 arg4 harg4 n hw c W2 W3 ex st X12 X13 xs a0 k.1 a
      ⊢ wp frame (wpE (defs₀ (F := F)) Variants.none c none) Set.univ
          (k0_t2_body arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) (wd n) hw v4 k a)
          (inv2 arg0 harg0 arg1 harg1 arg4 harg4 n hw c W2 W3 ex st X12 X13 xs a0 (k.1 + 1)) := by
  have hO : ∀ w s, HeldM c W2 W3 (ix4' k.1) w s = HeldO c (tok (ix4' k.1)) W2 W3 (k0_off33 (wd n) k) (k0_off33_inb (wd n) hw k) (k0_off34 (wd n) k)
      (k0_off34_inb (wd n) hw k) (k0_off37_inb (wd n) hw k) w s := fun w s => heldO_congr (off33_eq n k).symm (off34_eq n k).symm
  have eA : accAt arg0 harg0 arg1 harg1 arg4 harg4 n hw c W2 W3 ex st xs a0 (k.1 + 1) = _ := dif_pos k.2
  rw [body_split, wp_bind, wp_bind]
  unfold inv2
  iintro ⟨S0, S1, S2, F3, H5, H7, H12, H13, ⟨%W, HO⟩⟩
  iapply (part1_canon arg0 harg0 arg1 harg1 arg4 harg4 c W2 W3 n k hw v4 X12 X13 ex st hL W)
  isplitl [F3]
  · iexact F3
  isplitl [S0]
  · iexact S0
  isplitl [H12]
  · iexact H12
  isplitl [H13]
  · iexact H13
  isplitl [HO]
  · iexact HO
  iintro ⟨S3, HD, H12, H13, HO⟩
  ihave HH := doneM_held c W2 W3 (ix4' k.1) (exF (ex (k.1 / 3))) (ix3' k.1) $$ HD
  ihave HH := (BIBase.Entails.of_eq (hO _ _)) $$ HH
  unfold HeldO
  icases HH with ⟨Hc8, Hc9, T8, T9, H8, H9⟩
  have key := (rest_run (F := F) arg0 harg0 arg1 harg1 arg4 harg4 (wd n) hw k c
          (Scalar.remsi (Scf.iv 0#32 1#32 k) 4#32)
          (Scalar.muli (Scalar.remsi (Scf.iv 0#32 1#32 k) 3#32) 2048#32)
          (iota .tc S64x1 32 [0] iota_S64x1_d0_w32) (k0_pay5 (F := F) (st (k.1 / 3))) (st (k.1 / 3 + 1))
          (wBlk c W2 (exF (ex (k.1 / 3))) (ix3' k.1)) (sBlk c W3 (exF (ex (k.1 / 3))) (ix3' k.1)) xs (accAt arg0 harg0 arg1 harg1 arg4 harg4 n hw c W2 W3 ex st xs a0 k.1)).2
    (inv2 arg0 harg0 arg1 harg1 arg4 harg4 n hw c W2 W3 ex st X12 X13 xs a0 (k.1 + 1))
  rw [wp_bind] at key
  unfold inv2 at key
  iapply key
  isplitl [H8]
  · iexact H8
  isplitl [H9]
  · iexact H9
  isplitl [H5]
  · iexact H5
  isplitl [H7]
  · iexact H7
  iintro ⟨H8, H9, H5, H7⟩
  isplitl [S1]
  · iexact S1
  isplitl [S2]
  · iexact S2
  isplitl [S3]
  · iexact S3
  isplitl [Hc8 Hc9 T8 T9 H8 H9]
  · have e4 : ix4' (k.1 + 1 + 3) = ix4' k.1 := ix4'_add k.1
    rw [e4]
    iapply (held_freeM c W2 W3 (ix4' k.1) (wBlk c W2 (exF (ex (k.1 / 3))) (ix3' k.1)) (sBlk c W3 (exF (ex (k.1 / 3))) (ix3' k.1)))
    iapply (BIBase.Entails.of_eq (hO _ _).symm)
    unfold HeldO
    isplitl [Hc8]
    · iexact Hc8
    isplitl [Hc9]
    · iexact Hc9
    isplitl [T8]
    · iexact T8
    isplitl [T9]
    · iexact T9
    isplitl [H8]
    · iexact H8
    iexact H9
  isplitl [H5]
  · iexact H5
  isplitl [H7]
  · iapply (BIBase.Entails.of_eq (congrArg (fun A => (B7.view.loc (c : Thread nD τ) ↦[B7.view.set]{fullShare} A : sProp 𝕄)) eA.symm)) $$ H7
  isplitl [H12]
  · iexact H12
  isplitl [H13]
  · iexact H13
  iexact HO

/-- The main loop's invariant. -/
@[sl_loop, instance_reducible] def loopInv_k0_t2 (n : Fin 17) (hw : k0_chk2 (wd n)) (v4 : BitVec 32) (c : Dev nD) (W2 : Cts F B2 c) (W3 : Cts F B3 c) (ex st : ℕ → BitVec 32)
    (X12 : Cts F B12 c) (X13 : Cts F B13 c) (hL : Lists c X12 X13 n ex st) (xs : Cts F B5 c) (a0 : Cts F B7 c) (init : BitVec 32) :
    LoopInvTy_k0_t2 (F := F) Unit ℕ (Pipeline.UD sig nD τ) ℕ Variants.none c none Set.univ arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) (wd n) hw v4 init :=
  ⟨inv2 arg0 harg0 arg1 harg1 arg4 harg4 n hw c W2 W3 ex st X12 X13 xs a0, step2 arg0 harg0 arg1 harg1 arg4 harg4 n hw v4 c W2 W3 ex st X12 X13 hL xs a0⟩

end Cert.Proof.Kernel

end
-- ==== Proof.K.Model.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The routing as plain recursion over the sizes of the groups: how many experts have rows, which they are, where each starts. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- How many of the first `k` experts have rows; -/
def cntG (g : ℕ → BitVec 32) : ℕ → ℕ
  | 0 => 0
  | k + 1 => if (0#32).slt (g k) then cntG g k + 1 else cntG g k
/-- the rows of the first `k` experts, as the machine's running sum; -/
def rowG (g : ℕ → BitVec 32) : ℕ → BitVec 32
  | 0 => 0#32
  | k + 1 => rowG g k + g k
/-- the list of experts after `k` of them, each at the place of the count before it (an expert without rows is overwritten); -/
def exG (g : ℕ → BitVec 32) : ℕ → ℕ → BitVec 32
  | 0 => fun _ => 0#32
  | k + 1 => Function.update (exG g k) (cntG g k) (BitVec.ofNat 32 k)
/-- and the list of their first rows. -/
def stG (g : ℕ → BitVec 32) : ℕ → ℕ → BitVec 32
  | 0 => fun _ => 0#32
  | k + 1 => Function.update (stG g k) (cntG g k) (rowG g k)

/-- At most `k` of the first `k` groups are non-empty. -/
theorem cntG_le (g : ℕ → BitVec 32) (k : ℕ) : cntG g k ≤ k := by
  induction k with
  | zero => exact le_rfl
  | succ k ih => unfold cntG; split <;> omega

/-- An entry of the list of experts is an expert. -/
theorem exG_lt (g : ℕ → BitVec 32) (k : ℕ) (hk : k ≤ 16) (j : ℕ) : (exG g k j).toNat < 16 := by
  induction k with
  | zero => exact (by decide : (0#32).toNat < 16)
  | succ k ih =>
    unfold exG
    by_cases h : j = cntG g k
    · subst h; rw [Function.update_self, BitVec.toNat_ofNat]; omega
    · rw [Function.update_of_ne h]; exact ih (by omega)

/-- The count, the list of experts and the list of first rows the kernel leaves. -/
def nG (g : ℕ → BitVec 32) : Fin 17 := ⟨cntG g 16, Nat.lt_succ_of_le (cntG_le g 16)⟩
def exL (g : ℕ → BitVec 32) : ℕ → BitVec 32 := exG g 16
def stL (g : ℕ → BitVec 32) : ℕ → BitVec 32 := Function.update (stG g 16) (cntG g 16) (rowG g 16)

end Cert.Proof.Kernel

end
-- ==== Proof.K.Route.lean ====
module

public import proofs.«01_k».proof.Proof.K.Base
public import proofs.«01_k».proof.Proof.K.Model
public import proofs.«01_k».proof.Proof.K.Step
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
public import Idealize.ShloMosaic.Lib.CellWrites

@[expose] public section

/-! The loop that lists the experts with rows. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)

/-- The size of group `e`, as the kernel reads it. -/
def gw (c : Dev nD) (f0 : Buf (Elt F) (arg0.view.loc (c : Thread nD τ))) (e : ℕ) : BitVec 32 :=
  if h : e < 16 then
    View.readAt (Elt F) arg0.view (Rect.unit (s := S16) ![e] S1.size (by intro a; fin_cases a; show e + 1 ≤ 16; omega)).toLoadRect f0
      (Shape.Idx.first (show 0 < S1.numel from by decide))
  else 0#32

/-- The addresses of the routing loop, by numbers. -/
theorem off2_eq : ∀ n : Fin 17, k0_off2 (wd n) = ![n.1] := by decide +kernel
theorem off3_eq : ∀ n : Fin 17, k0_off3 (wd n) = ![n.1] := by decide +kernel
theorem off1_eq : ∀ t : Fin k0_t1_loop.trips, k0_off1 t = ![t.1] := by decide +kernel
theorem iv1_eq : ∀ t : Fin k0_t1_loop.trips, Scf.iv 0#32 1#32 t = BitVec.ofNat 32 t.1 := by decide +kernel
theorem trips1 : k0_t1_loop.trips = 16 := by decide +kernel

/-- Reading the list of experts after a store to it. -/
theorem ldw12_put (c : Dev nD) (X : Cts F B12 c) (i j : Fin 17) (w : BitVec 32) {o : Fin 1 → ℕ} (eo : o = ![i.1]) (h) :
    ldw12 c (B12.view.writes (Elt F) X [⟨Rect.unit (s := S17) o S1.size h, fun _ => w⟩]) ![j.1] (word_inb j)
      = if j.1 = i.1 then w else ldw12 c X ![j.1] (word_inb j) := by
  subst eo
  exact View.read_writes_cons_cell B12.view X (d := ![17]) h w [] _
/-- Reading the list of first rows after a store to it. -/
theorem ldw13_put (c : Dev nD) (X : Cts F B13 c) (i j : Fin 17) (w : BitVec 32) {o : Fin 1 → ℕ} (eo : o = ![i.1]) (h) :
    ldw13 c (B13.view.writes (Elt F) X [⟨Rect.unit (s := S17) o S1.size h, fun _ => w⟩]) ![j.1] (word_inb j)
      = if j.1 = i.1 then w else ldw13 c X ![j.1] (word_inb j) := by
  subst eo
  exact View.read_writes_cons_cell B13.view X (d := ![17]) h w [] _

theorem gw_eq (c : Dev nD) (f0 : Buf (Elt F) (arg0.view.loc (c : Thread nD τ))) (t : Fin k0_t1_loop.trips) :
    View.readAt (Elt F) arg0.view (Rect.unit (s := S16) (k0_off1 t) S1.size (k0_off1_inb t)).toLoadRect f0
      (Shape.Idx.first (show 0 < S1.numel from by decide)) = gw arg0 c f0 t.1 := by
  have ht : t.1 < 16 := trips1 ▸ t.2
  unfold gw
  rw [dif_pos ht]
  have key : ∀ (o o' : Fin 1 → ℕ) (e : o = o') (h h'),
    View.readAt (Elt F) arg0.view (Rect.unit (s := S16) o S1.size h).toLoadRect f0 (Shape.Idx.first (show 0 < S1.numel from by decide))
     = View.readAt (Elt F) arg0.view (Rect.unit (s := S16) o' S1.size h').toLoadRect f0 (Shape.Idx.first (show 0 < S1.numel from by decide)) := by
    intro o o' e h h'; subst e; rfl
  exact key _ _ (off1_eq t) _ _

/-- The count after one more group. -/
theorem count_step (g : ℕ → BitVec 32) (k : ℕ) :
    Scalar.addi (BitVec.ofNat 32 (cntG g k)) (Scalar.extui (Scalar.cmpi .sgt (g k) 0#32)) = BitVec.ofNat 32 (cntG g (k + 1)) := by
  have e : Scalar.cmpi .sgt (g k) 0#32 = BitVec.ofBool ((0#32).slt (g k)) := rfl
  have e' : cntG g (k + 1) = if (0#32).slt (g k) then cntG g k + 1 else cntG g k := rfl
  rw [e, e']
  cases h : (0#32).slt (g k)
  · exact (BitVec.add_zero _)
  · exact (BitVec.ofNat_add (n := 32) (cntG g k) 1).symm

/-- What stands before expert `k` is looked at. -/
def inv1 (c : Dev nD) (f0 : Buf (Elt F) (arg0.view.loc (c : Thread nD τ))) (k : ℕ) (acc : BitVec 32 × BitVec 32) : sProp 𝕄 :=
  iprop(⌜acc = (BitVec.ofNat 32 (cntG (gw arg0 c f0) k), rowG (gw arg0 c f0) k)⌝
    ∗ (arg0.view.loc (c : Thread nD τ) ↦[arg0.view.set]{fullShare} f0)
    ∗ (∃ X12 X13, ⌜∀ j : Fin 17, j.1 < cntG (gw arg0 c f0) k → ldw12 c X12 ![j.1] (word_inb j) = exG (gw arg0 c f0) k j.1
          ∧ ldw13 c X13 ![j.1] (word_inb j) = stG (gw arg0 c f0) k j.1⌝
      ∗ (B12.view.loc (c : Thread nD τ) ↦[B12.view.set]{fullShare} X12)
      ∗ (B13.view.loc (c : Thread nD τ) ↦[B13.view.set]{fullShare} X13)))

/-- One trip of the routing loop. -/
theorem step1 (c : Dev nD) (f0 : Buf (Elt F) (arg0.view.loc (c : Thread nD τ))) (k : Fin k0_t1_loop.trips) (acc : BitVec 32 × BitVec 32) :
    inv1 arg0 c f0 k.1 acc
      ⊢ wp frame (wpE (defs₀ (F := F)) Variants.none c none) Set.univ
          (k0_t1_body arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) k acc) (inv1 arg0 c f0 (k.1 + 1)) := by
  have hk : k.1 < 16 := trips1 ▸ k.2
  have hc := cntG_le (gw arg0 c f0) k.1
  have h1 : k0_chk1 (BitVec.ofNat 32 (cntG (gw arg0 c f0) k.1)) := chk1_all ⟨cntG (gw arg0 c f0) k.1, by omega⟩
  unfold inv1
  iintro ⟨%ha, H0, ⟨%X12, %X13, %hX, H12, H13⟩⟩
  subst ha
  unfold k0_t1_body
  sl_exec (disch := exact h1)
  sl_step
  have hE : ∀ (X12' : Cts F B12 c) (X13' : Cts F B13 c), (∀ j : Fin 17, ldw12 c X12' ![j.1] (word_inb j) = if j.1 = cntG (gw arg0 c f0) k.1 then BitVec.ofNat 32 k.1 else ldw12 c X12 ![j.1] (word_inb j)) →
      (∀ j : Fin 17, ldw13 c X13' ![j.1] (word_inb j) = if j.1 = cntG (gw arg0 c f0) k.1 then rowG (gw arg0 c f0) k.1 else ldw13 c X13 ![j.1] (word_inb j)) →
      ∀ j : Fin 17, j.1 < cntG (gw arg0 c f0) (k.1 + 1) → ldw12 c X12' ![j.1] (word_inb j) = exG (gw arg0 c f0) (k.1 + 1) j.1
          ∧ ldw13 c X13' ![j.1] (word_inb j) = stG (gw arg0 c f0) (k.1 + 1) j.1 := by
    intro X12' X13' e12 e13 j hj
    rw [e12, e13]
    unfold exG stG
    by_cases h : j.1 = cntG (gw arg0 c f0) k.1
    · rw [if_pos h, if_pos h, h, Function.update_self, Function.update_self]; exact ⟨rfl, rfl⟩
    · rw [if_neg h, if_neg h, Function.update_of_ne h, Function.update_of_ne h]
      refine hX j ?_
      unfold cntG at hj
      split at hj <;> omega
  isplitr
  · ipureintro
    delta step1.sl.v648 step1.sl.v649
    delta step1.sl.v647
    delta step1.sl.v646
    delta step1.sl.r
    rw [gw_eq arg0 c f0 k, count_step]
    rfl
  isplitl [H0]
  · iexact H0
  iexists _, _
  isplitr
  swap
  · isplitl [H12]
    · iexact H12
    iexact H13
  ipureintro
  delta step1.sl.arg14
  rw [iv1_eq]
  exact hE _ _ (fun j => ldw12_put c X12 ⟨cntG (gw arg0 c f0) k.1, by omega⟩ j _ (off2_eq ⟨cntG (gw arg0 c f0) k.1, by omega⟩) _)
    (fun j => ldw13_put c X13 ⟨cntG (gw arg0 c f0) k.1, by omega⟩ j _ (off2_eq ⟨cntG (gw arg0 c f0) k.1, by omega⟩) _)

/-- The loop's invariant. -/
@[sl_loop, instance_reducible] def loopInv_k0_t1 (c : Dev nD) (f0 : Buf (Elt F) (arg0.view.loc (c : Thread nD τ))) (init : BitVec 32 × BitVec 32) :
    LoopInvTy_k0_t1 (F := F) Unit ℕ (Pipeline.UD sig nD τ) ℕ Variants.none c none Set.univ arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) init :=
  ⟨inv1 arg0 c f0, step1 arg0 harg0 arg1 harg1 arg4 harg4 c f0⟩

/-- After the loop and the last store, the two lists are as the model says. -/
theorem lists_done (c : Dev nD) (f0 : Buf (Elt F) (arg0.view.loc (c : Thread nD τ))) (X12 : Cts F B12 c) (X13 : Cts F B13 c)
    (hX : ∀ j : Fin 17, j.1 < cntG (gw arg0 c f0) 16 → ldw12 c X12 ![j.1] (word_inb j) = exG (gw arg0 c f0) 16 j.1
          ∧ ldw13 c X13 ![j.1] (word_inb j) = stG (gw arg0 c f0) 16 j.1) (h) :
    Lists c X12 (B13.view.writes (Elt F) X13 [⟨Rect.unit (s := S17) (k0_off3 (wd (nG (gw arg0 c f0)))) S1.size h, fun _ => rowG (gw arg0 c f0) 16⟩])
      (nG (gw arg0 c f0)) (exL (gw arg0 c f0)) (stL (gw arg0 c f0)) := by
  refine ⟨fun j hj => ⟨(hX j hj).1, exG_lt _ 16 le_rfl _⟩, fun j hj => ?_⟩
  refine (ldw13_put c X13 (nG (gw arg0 c f0)) j _ (off3_eq _) h).trans ?_
  unfold stL
  show (if j.1 = cntG (gw arg0 c f0) 16 then rowG (gw arg0 c f0) 16 else ldw13 c X13 ![j.1] (word_inb j)) = _
  by_cases e : j.1 = cntG (gw arg0 c f0) 16
  · rw [if_pos e, e, Function.update_self]
  · rw [if_neg e, Function.update_of_ne e]
    exact (hX j (lt_of_le_of_ne hj e)).2

end Cert.Proof.Kernel

end
-- ==== Proof.K.Pro.lean ====
module

public import proofs.«01_k».proof.Proof.K.Base
public import proofs.«01_k».proof.Proof.K.Model
public import proofs.«01_k».proof.Proof.K.Step
public import proofs.«01_k».proof.Proof.K.Route
public import proofs.«01_k».proof.Proof.K.Checks
public import proofs.«01_k».proof.Proof.K.Offs
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The start of the kernel, to the first loads of the rows. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

/-- The three first copies start when there is a non-empty group. -/
theorem cond1_iff : ∀ n : Fin 17, (k0_cond1 (wd n) = 1#1 ↔ 0 < n.1) := by decide +kernel
theorem cond2_iff : ∀ n : Fin 17, (k0_cond2 (wd n) = 1#1 ↔ 0 < n.1) := by decide +kernel
theorem cond3_iff : ∀ n : Fin 17, (k0_cond3 (wd n) = 1#1 ↔ 0 < n.1) := by decide +kernel
/-- The addresses of the first copies, by numbers. -/
theorem off4_eq : k0_off4 = ![0] := by decide +kernel
theorem off5_eq : k0_off5 = ![0] := by decide +kernel
theorem off6_eq : k0_off6 = ![0, 0, 0] := by decide +kernel
theorem off7_col : k0_off7 0#32 2 = 0 := by decide +kernel
theorem off7_eq (w : BitVec 32) : k0_off7 w = ![w.toNat, 0, 0] :=
  (show k0_off7 w = ![w.toNat, 0, k0_off7 0#32 2] from rfl).trans (by rw [off7_col])
theorem off11_eq : k0_off11 = ![0] := by decide +kernel
theorem off12_eq : k0_off12 = ![1] := by decide +kernel
theorem off13_eq : k0_off13 = ![1, 0, 0] := by decide +kernel
theorem off14_col : k0_off14 0#32 2 = 2048 := by decide +kernel
theorem off14_eq (w : BitVec 32) : k0_off14 w = ![w.toNat, 0, 2048] :=
  (show k0_off14 w = ![w.toNat, 0, k0_off14 0#32 2] from rfl).trans (by rw [off14_col])
theorem off18_eq : k0_off18 = ![0] := by decide +kernel
theorem off19_eq : k0_off19 = ![2] := by decide +kernel
theorem off20_eq : k0_off20 = ![2, 0, 0] := by decide +kernel
theorem off21_col : k0_off21 0#32 2 = 4096 := by decide +kernel
theorem off21_eq (w : BitVec 32) : k0_off21 w = ![w.toNat, 0, 4096] :=
  (show k0_off21 w = ![w.toNat, 0, k0_off21 0#32 2] from rfl).trans (by rw [off21_col])

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)

/-- The first 128 columns of the rows. -/
abbrev xld (c : Dev nD) (f1 : Buf (Elt F) (arg1.view.loc (c : Thread nD τ))) : Vec F S64x128 .bf16 :=
  View.readAt (Elt F) arg1.view (Rect.unit (s := S64x1536) ![0, 0] S64x128.size inb_S64x1536_S64x128_0_0).toLoadRect f1

/-- Up to the quantisation: the lists are built and the first expert's three blocks, if there is one, sent for. -/
theorem pro_run (c : Dev nD) (W2 : Cts F B2 c) (W3 : Cts F B3 c) (f0 : Buf (Elt F) (arg0.view.loc (c : Thread nD τ)))
    (f1 : Buf (Elt F) (arg1.view.loc (c : Thread nD τ))) (X12 : Cts F B12 c) (X13 : Cts F B13 c) (W : Waits sig Unit)
    (Q : (Σ' (v1_0 : BitVec 32) (k0_hw2 : k0_chk2 v1_0) (v4 : BitVec 32) (v15 : FVec F S64x128 .f32) (v20 : FVec F S64x1 .f32), IVec S64x256 32) → sProp 𝕄) :
    iprop(FreeM c W2 W3 0 ∗ FreeM c W2 W3 1 ∗ FreeM c W2 W3 2
        ∗ (arg0.view.loc (c : Thread nD τ) ↦[arg0.view.set]{fullShare} f0)
        ∗ (arg1.view.loc (c : Thread nD τ) ↦[arg1.view.set]{fullShare} f1)
        ∗ (B12.view.loc (c : Thread nD τ) ↦[B12.view.set]{fullShare} X12)
        ∗ (B13.view.loc (c : Thread nD τ) ↦[B13.view.set]{fullShare} X13)
        ∗ owes (c : Thread nD τ) 0 W
        ∗ (iprop(Slot c W2 W3 (nG (gw arg0 c f0)) (exL (gw arg0 c f0)) 0 ∗ Slot c W2 W3 (nG (gw arg0 c f0)) (exL (gw arg0 c f0)) 1
              ∗ Slot c W2 W3 (nG (gw arg0 c f0)) (exL (gw arg0 c f0)) 2
              ∗ (arg0.view.loc (c : Thread nD τ) ↦[arg0.view.set]{fullShare} f0)
              ∗ (arg1.view.loc (c : Thread nD τ) ↦[arg1.view.set]{fullShare} f1)
              ∗ (∃ X12 X13, ⌜Lists c X12 X13 (nG (gw arg0 c f0)) (exL (gw arg0 c f0)) (stL (gw arg0 c f0))⌝
                ∗ (B12.view.loc (c : Thread nD τ) ↦[B12.view.set]{fullShare} X12)
                ∗ (B13.view.loc (c : Thread nD τ) ↦[B13.view.set]{fullShare} X13))
              ∗ (∃ W', owes (c : Thread nD τ) 0 W')) -∗
            Q ⟨wd (nG (gw arg0 c f0)), chk2_of (nG (gw arg0 c f0)), Scalar.muli (wd (nG (gw arg0 c f0))) 3#32,
              k0_pay249 (xld arg1 c f1), k0_pay250 (xld arg1 c f1), k0_pay251 (xld arg1 c f1)⟩))
      ⊢ wp frame (wpE (defs₀ (F := F)) Variants.none c none) Set.univ
          (k0_part87 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _)) Q := by
  rw [k0_part87_eq_skeleton]
  unfold k0_part87_skel
  iintro ⟨F0, F1, F2, H0, H1, H12, H13, HO, Hk⟩
  iapply (exec_loop _ _ _ _ _ _ _ _ _ (loopInv_k0_t1 (F := F) arg0 harg0 arg1 harg1 arg4 harg4 c f0 (0#32, 0#32))) $$ [H0 H12 H13]
  · have h0 : inv1 arg0 c f0 0 (0#32, 0#32) ⊢ (loopInv_k0_t1 (F := F) arg0 harg0 arg1 harg1 arg4 harg4 c f0 (0#32, 0#32)).inv 0 (0#32, 0#32) := .rfl
    iapply h0
    unfold inv1
    isplitr
    · ipureintro; rfl
    isplitl [H0]
    · iexact H0
    iexists X12, X13
    isplitr
    · ipureintro
      intro j hj
      exact absurd hj (Nat.not_lt_zero _)
    isplitl [H12]
    · iexact H12
    iexact H13
  iintro %acc Hinv
  have hinv : (loopInv_k0_t1 (F := F) arg0 harg0 arg1 harg1 arg4 harg4 c f0 (0#32, 0#32)).inv (Scf.trips k0_t1_loop.lb k0_t1_loop.ub k0_t1_loop.st) acc
      ⊢ inv1 arg0 c f0 16 acc := by
    have e : Scf.trips k0_t1_loop.lb k0_t1_loop.ub k0_t1_loop.st = 16 := trips1
    rw [e]; exact .rfl
  ihave Hinv := hinv $$ Hinv
  unfold inv1
  icases Hinv with ⟨%ha, H0, ⟨%Y12, %Y13, %hX, H12, H13⟩⟩
  have hl : ∀ h, Lists c Y12 (B13.view.writes (Elt F) Y13 [⟨Rect.unit (s := S17) (k0_off3 (wd (nG (gw arg0 c f0)))) S1.size h, fun _ => rowG (gw arg0 c f0) 16⟩])
      (nG (gw arg0 c f0)) (exL (gw arg0 c f0)) (stL (gw arg0 c f0)) := lists_done arg0 c f0 Y12 Y13 hX
  have ha' : acc = (wd (nG (gw arg0 c f0)), rowG (gw arg0 c f0) 16) := ha
  clear ha hX hinv
  generalize nG (gw arg0 c f0) = n at *
  generalize exL (gw arg0 c f0) = ex at *
  generalize stL (gw arg0 c f0) = st at *
  generalize rowG (gw arg0 c f0) 16 = R at *
  subst ha'
  have h2 := chk2_of n
  by_cases hn : 0 < n.1
  · have c1 : k0_cond1 (wd n) = 1#1 := (cond1_iff n).mpr hn
    have c2 : k0_cond2 (wd n) = 1#1 := (cond2_iff n).mpr hn
    have c3 : k0_cond3 (wd n) = 1#1 := (cond3_iff n).mpr hn
    have e0 : ldw12 c Y12 ![0] (word_inb 0) = ex 0 := ((hl (k0_off3_inb (wd n) h2)).1 0 hn).1
    have r0 : (ex 0).toNat < 16 := ((hl (k0_off3_inb (wd n) h2)).1 0 hn).2
    have w0 : ldw12 c Y12 k0_off4 k0_off4_inb = ex 0 := (ldw12_congr off4_eq).trans e0
    have k0 : k0_chk3 (wd n) (ldw12 c Y12 k0_off4 k0_off4_inb) := by
      rw [w0]; exact chk3_of _ _ (toInt_small n) (small_toInt _ r0)
    have q0 : FreeM c W2 W3 0 = FreeO c (tok 0) W2 W3 k0_off5 k0_off5_inb k0_off6 k0_off6_inb k0_off9_inb :=
      freeO_congr off5_eq.symm off6_eq.symm
    have p0 : PendO c (tok 0) W2 W3 k0_off5 k0_off5_inb k0_off6 k0_off6_inb k0_off9_inb
        (k0_off7 (ldw12 c Y12 k0_off4 k0_off4_inb)) (k0_off7_inb (wd n) _ k0 c1) (k0_off10_inb (wd n) _ k0 c1)
        = Slot c W2 W3 n ex 0 :=
      (pendO_congr off5_eq off6_eq (by
        rw [w0, off7_eq]
        show ![(ex 0).toNat, 0, 0] = ![(ex 0).toNat % 16, 0, 0]
        rw [Nat.mod_eq_of_lt r0])).trans (if_pos (show 0 < 3 * n.1 by omega)).symm
    have w1 : ldw12 c Y12 k0_off11 k0_off11_inb = ex 0 := (ldw12_congr off11_eq).trans e0
    have k1 : k0_chk4 (wd n) (ldw12 c Y12 k0_off11 k0_off11_inb) := by
      rw [w1]; exact chk4_of _ _ (toInt_small n) (small_toInt _ r0)
    have q1 : FreeM c W2 W3 1 = FreeO c (tok 1) W2 W3 k0_off12 k0_off12_inb k0_off13 k0_off13_inb k0_off16_inb :=
      freeO_congr off12_eq.symm off13_eq.symm
    have p1 : PendO c (tok 1) W2 W3 k0_off12 k0_off12_inb k0_off13 k0_off13_inb k0_off16_inb
        (k0_off14 (ldw12 c Y12 k0_off11 k0_off11_inb)) (k0_off14_inb (wd n) _ k1 c2) (k0_off17_inb (wd n) _ k1 c2)
        = Slot c W2 W3 n ex 1 :=
      (pendO_congr off12_eq off13_eq (by
        rw [w1, off14_eq]
        show ![(ex 0).toNat, 0, 2048] = ![(ex 0).toNat % 16, 0, 2048]
        rw [Nat.mod_eq_of_lt r0])).trans (if_pos (show 1 < 3 * n.1 by omega)).symm
    have w2 : ldw12 c Y12 k0_off18 k0_off18_inb = ex 0 := (ldw12_congr off18_eq).trans e0
    have k2 : k0_chk5 (wd n) (ldw12 c Y12 k0_off18 k0_off18_inb) := by
      rw [w2]; exact chk5_of _ _ (toInt_small n) (small_toInt _ r0)
    have q2 : FreeM c W2 W3 2 = FreeO c (tok 2) W2 W3 k0_off19 k0_off19_inb k0_off20 k0_off20_inb k0_off23_inb :=
      freeO_congr off19_eq.symm off20_eq.symm
    have p2 : PendO c (tok 2) W2 W3 k0_off19 k0_off19_inb k0_off20 k0_off20_inb k0_off23_inb
        (k0_off21 (ldw12 c Y12 k0_off18 k0_off18_inb)) (k0_off21_inb (wd n) _ k2 c3) (k0_off24_inb (wd n) _ k2 c3)
        = Slot c W2 W3 n ex 2 :=
      (pendO_congr off19_eq off20_eq (by
        rw [w2, off21_eq]
        show ![(ex 0).toNat, 0, 4096] = ![(ex 0).toNat % 16, 0, 4096]
        rw [Nat.mod_eq_of_lt r0])).trans (if_pos (show 2 < 3 * n.1 by omega)).symm
    ihave F0 := (BIBase.Entails.of_eq q0) $$ F0
    ihave F1 := (BIBase.Entails.of_eq q1) $$ F1
    ihave F2 := (BIBase.Entails.of_eq q2) $$ F2
    unfold FreeO
    icases F0 with ⟨C80, C90, ⟨%g80, S80⟩, ⟨%g90, S90⟩, T80, T90⟩
    icases F1 with ⟨C81, C91, ⟨%g81, S81⟩, ⟨%g91, S91⟩, T81, T91⟩
    icases F2 with ⟨C82, C92, ⟨%g82, S82⟩, ⟨%g92, S92⟩, T82, T92⟩
    sl_exec (disch := first | exact h2 | exact k0 | exact k1 | exact k2)
    sl_step
    delta pro_run.sl.v4 pro_run.sl.r_1 pro_run.sl.r_2 pro_run.sl.r_3
    iapply Hk
    isplitl [C80 T80 C90 T90]
    · iapply (BIBase.Entails.of_eq p0)
      unfold PendO
      isplitl [C80 T80]
      · isplitl [C80]
        · iexists g80; iexact C80
        · iexact T80
      · isplitl [C90]
        · iexists g90; iexact C90
        · iexact T90
    isplitl [C81 T81 C91 T91]
    · iapply (BIBase.Entails.of_eq p1)
      unfold PendO
      isplitl [C81 T81]
      · isplitl [C81]
        · iexists g81; iexact C81
        · iexact T81
      · isplitl [C91]
        · iexists g91; iexact C91
        · iexact T91
    isplitl [C82 T82 C92 T92]
    · iapply (BIBase.Entails.of_eq p2)
      unfold PendO
      isplitl [C82 T82]
      · isplitl [C82]
        · iexists g82; iexact C82
        · iexact T82
      · isplitl [C92]
        · iexists g92; iexact C92
        · iexact T92
    isplitl [H0]
    · iexact H0
    isplitl [H1]
    · iexact H1
    isplitl [H12 H13]
    · iexists Y12, _
      isplitr
      · ipureintro
        exact hl (k0_off3_inb (wd n) h2)
      isplitl [H12]
      · iexact H12
      iexact H13
    iexists _; iexact HO
  · have c1 : ¬ k0_cond1 (wd n) = 1#1 := fun h => hn ((cond1_iff n).mp h)
    have c2 : ¬ k0_cond2 (wd n) = 1#1 := fun h => hn ((cond2_iff n).mp h)
    have c3 : ¬ k0_cond3 (wd n) = 1#1 := fun h => hn ((cond3_iff n).mp h)
    sl_exec (disch := exact h2)
    sl_step
    delta pro_run.sl.v4_1
    iapply Hk
    isplitl [F0]
    · iapply (BIBase.Entails.of_eq (show FreeM c W2 W3 0 = Slot c W2 W3 n ex 0 from (if_neg (show ¬ 0 < 3 * n.1 by omega)).symm)) $$ F0
    isplitl [F1]
    · iapply (BIBase.Entails.of_eq (show FreeM c W2 W3 1 = Slot c W2 W3 n ex 1 from (if_neg (show ¬ 1 < 3 * n.1 by omega)).symm)) $$ F1
    isplitl [F2]
    · iapply (BIBase.Entails.of_eq (show FreeM c W2 W3 2 = Slot c W2 W3 n ex 2 from (if_neg (show ¬ 2 < 3 * n.1 by omega)).symm)) $$ F2
    isplitl [H0]
    · iexact H0
    isplitl [H1]
    · iexact H1
    isplitl [H12 H13]
    · iexists Y12, _
      isplitr
      · ipureintro
        exact hl (k0_off3_inb (wd n) h2)
      isplitl [H12]
      · iexact H12
      iexact H13
    iexists _; iexact HO

end Cert.Proof.Kernel

end
-- ==== Proof.K.Quant.lean ====
module

public import proofs.«01_k».proof.Proof.K.Base
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
public import Idealize.ShloMosaic.Lib.WritesUnit

@[expose] public section

/-! The quantisation of the rows. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

/-- The quantisation of the rows, and what follows it. -/
def quantK (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)
    (k : F .f32 → Prog (TpuEff nD τ sig (Elt F) Λ₀ .tc) PUnit) (v15 : FVec F S64x128 .f32) (v20 : FVec F S64x1 .f32) (v30 : IVec S64x256 32) :
    Prog (TpuEff nD τ sig (Elt F) Λ₀ .tc) PUnit := do
  let ⟨v66, v71, v72, c23_i32_29⟩ : Σ' (v66 : FVec F S64x128 .f32) (v71 : FVec F S64x1 .f32) (v72 : IVec S1x256 32), BitVec 32 ← k0_part88 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v15 v20 v30
  k0_part89 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v66 v71 v72 c23_i32_29
  let ⟨v147, v158⟩ : Σ' (v147 : FVec F S64x1 .f32), FVec F S64x128 .f32 ← k0_part90 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _)
  let ⟨v168, v198, v200⟩ : Σ' (v168 : FVec F S64x128 .f32) (v198 : FVec F S64x1 .f32), IVec S64x1 32 ← k0_part91 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v147 v158
  let ⟨v219, v240, v242, c0_i32_93⟩ : Σ' (v219 : FVec F S64x128 .f32) (v240 : IVec S64x1 32) (v242 : IVec S64x1 1), BitVec 32 ← k0_part92 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v168 v198 v200
  let ⟨v270, v275, v285⟩ : Σ' (v270 : FVec F S64x128 .f32) (v275 : FVec F S64x1 .f32), IVec S64x256 32 ← k0_part93 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v219 v240 v242 c0_i32_93
  let ⟨v321, v326, v327, c23_i32_124⟩ : Σ' (v321 : FVec F S64x128 .f32) (v326 : FVec F S64x1 .f32) (v327 : IVec S1x256 32), BitVec 32 ← k0_part94 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v270 v275 v285
  k0_part95 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v321 v326 v327 c23_i32_124
  let ⟨v402, v413⟩ : Σ' (v402 : FVec F S64x1 .f32), FVec F S64x128 .f32 ← k0_part96 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _)
  let ⟨v423, v453, v455⟩ : Σ' (v423 : FVec F S64x128 .f32) (v453 : FVec F S64x1 .f32), IVec S64x1 32 ← k0_part97 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v402 v413
  let ⟨v474, v495, v497, c0_i32_188⟩ : Σ' (v474 : FVec F S64x128 .f32) (v495 : IVec S64x1 32) (v497 : IVec S64x1 1), BitVec 32 ← k0_part98 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v423 v453 v455
  let ⟨v525, v530, v540⟩ : Σ' (v525 : FVec F S64x128 .f32) (v530 : FVec F S64x1 .f32), IVec S64x256 32 ← k0_part99 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v474 v495 v497 c0_i32_188
  let ⟨v576, v581, v582, c23_i32_219⟩ : Σ' (v576 : FVec F S64x128 .f32) (v581 : FVec F S64x1 .f32) (v582 : IVec S1x256 32), BitVec 32 ← k0_part100 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v525 v530 v540
  let cst_235 : F .f32 ← k0_part101 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v576 v581 v582 c23_i32_219
  k cst_235

/-- The main loop and the last store. -/
def tailQ (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)
    (v1_0 : BitVec 32) (k0_hw2 : k0_chk2 v1_0) (v4 : BitVec 32) :
    Prog (TpuEff nD τ sig (Elt F) Λ₀ .tc) PUnit := do
  let v630 : BitVec 32 := Scalar.subi v4 0#32
  let v632 : BitVec 32 := Scalar.divsi v630 1#32
  let v633 : BitVec 32 := Scalar.muli v632 1#32
  let v634 : BitVec 32 := Scalar.addi 0#32 v633
  let v635 : BitVec 32 ← Scf.Loop.for (k0_t2_loop v1_0) (k0_t2_ok v1_0 k0_hw2) 0#32 (k0_t2_body arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 v4)
  let v636 : BitVec 32 ← Scf.Loop.for (k0_t3_loop v1_0) (k0_t3_ok v1_0 k0_hw2) v635 (k0_t3_body arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 v4 v634)
  let v637 : Vec F S64x6144 .f32 ← Prog.lift (.load B7 (Rect.unit (s := S64x6144) ![0, 0] S64x6144.size inb_S64x6144_S64x6144_0_0).toLoadRect (View.loadsAt_vmem h_S64x6144))
  let v639 : Vec F S64x6144 .bf16 ← Prog.lift (.load arg4 (Rect.unit (s := S64x6144) ![0, 0] S64x6144.size inb_S64x6144_S64x6144_0_0).toLoadRect (View.loadsAt_vmem h_S64x6144))
  Prog.lift (.store arg4 (Rect.unit (s := S64x6144) ![0, 0] S64x6144.size inb_S64x6144_S64x6144_0_0) (k0_pay4 v637) Finset.univ (View.stores_vmem h_S64x6144 (harg4.storeExact_slice rfl _ packedbf16_S64x6144_S64x6144_0_0) (fun _ => rfl)) (.inl rfl))
  pure ⟨⟩

/-- The accumulator's zeros, and what follows them. -/
def tailH (k : Prog (TpuEff nD τ sig (Elt F) Λ₀ .tc) PUnit) (cst_235 : F .f32) :
    Prog (TpuEff nD τ sig (Elt F) Λ₀ .tc) PUnit := do
  let v627 : Vec F S64x6144 .f32 ← Prog.lift (.load B7 (Rect.unit (s := S64x6144) ![0, 0] S64x6144.size inb_S64x6144_S64x6144_0_0).toLoadRect (View.loadsAt_vmem h_S64x6144))
  Prog.lift (.store B7 (Rect.unit (s := S64x6144) ![0, 0] S64x6144.size inb_S64x6144_S64x6144_0_0) (k0_pay1 cst_235) Finset.univ (View.stores_vmem_bits_univ h_S64x6144 rfl) (.inl rfl))
  k

/-- What follows the quantisation. -/
def tailP (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)
    (v1_0 : BitVec 32) (k0_hw2 : k0_chk2 v1_0) (v4 : BitVec 32) (cst_235 : F .f32) :
    Prog (TpuEff nD τ sig (Elt F) Λ₀ .tc) PUnit :=
  tailH (tailQ arg0 harg0 arg1 harg1 arg4 harg4 v1_0 k0_hw2 v4) cst_235

theorem main_split (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) :
    cc0__body (F := F) arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _)
      = (k0_part87 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) >>= fun r =>
          quantK arg0 harg0 arg1 harg1 arg4 harg4 (tailP arg0 harg0 arg1 harg1 arg4 harg4 r.1 r.2.1 r.2.2.1) r.2.2.2.1 r.2.2.2.2.1 r.2.2.2.2.2) := by
  rw [cc0__body_eq_skeleton]
  rfl

/-- What the quantisation leaves in the buffer of rounded rows, as pieces; and the run that finds them. -/
def quant_run (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (c : Dev nD)
    (f1 : Buf (Elt F) (arg1.view.loc (c : Thread nD τ))) (v15 : FVec F S64x128 .f32) (v20 : FVec F S64x1 .f32) (v30 : IVec S64x256 32) :
    { L : List (View.Piece (Elt F) S64x1536 .bf16) //
      ∀ (f5 : Cts F B5 c) (k : F .f32 → Prog (TpuEff nD τ sig (Elt F) Λ₀ .tc) PUnit) (Q : PUnit → sProp 𝕄),
        iprop((arg1.view.loc (c : Thread nD τ) ↦[arg1.view.set]{fullShare} f1)
            ∗ (B5.view.loc (c : Thread nD τ) ↦[B5.view.set]{fullShare} f5)
            ∗ (iprop((arg1.view.loc (c : Thread nD τ) ↦[arg1.view.set]{fullShare} f1)
              ∗ (B5.view.loc (c : Thread nD τ) ↦[B5.view.set]{fullShare} B5.view.writes (Elt F) f5 L)) -∗
                wp frame (wpE (defs₀ (F := F)) Variants.none c none) Set.univ (k (Scalar.ofBits .f32 0x00000000#32)) Q))
          ⊢ wp frame (wpE (defs₀ (F := F)) Variants.none c none) Set.univ
              (quantK arg0 harg0 arg1 harg1 arg4 harg4 k v15 v20 v30) Q } := by
  refine ⟨?_, fun f5 k Q => ?run⟩
  case run =>
    iintro ⟨H1, H5, Hk⟩
    unfold quantK
    sl_exec_parts
    delta quant_run.sl.cst_235
    iapply Hk
    iframe H1
    iexact H5

/-- A store over a whole buffer leaves what it stores. -/
theorem unit_whole {κ : Kind} {sp : Space} {s : Shape} {e : EltTy} {m : Memref sig κ sp s e} (h : m.IsWhole)
    (f : m.view.ty.Contents (Elt F)) (off : Fin s.rank → ℕ) (hoff : ∀ a, off a = 0) (inb : ∀ a, off a + s.size a ≤ s.size a) (w : s.Idx → Elt F e) :
    m.view.writes (Elt F) f [⟨Rect.unit off s.size inb, w⟩] = h.unread w :=
  h.eq_unread (funext fun y =>
    View.read_writes_cons_unit_of_mem _ _ inb w [] y y rfl (fun a => by rw [hoff a, Nat.zero_add]))

/-- The accumulator is zeros when the main loop begins. -/
theorem tailH_run (c : Dev nD) (f7 : Cts F B7 c) (z : F .f32) (k : Prog (TpuEff nD τ sig (Elt F) Λ₀ .tc) PUnit) (Q : PUnit → sProp 𝕄) :
    iprop((B7.view.loc (c : Thread nD τ) ↦[B7.view.set]{fullShare} f7)
        ∗ ((B7.view.loc (c : Thread nD τ) ↦[B7.view.set]{fullShare} (Memref.isWhole_whole cc0_scratch2).unread (k0_pay1 z)) -∗
          wp frame (wpE (defs₀ (F := F)) Variants.none c none) Set.univ k Q))
      ⊢ wp frame (wpE (defs₀ (F := F)) Variants.none c none) Set.univ (tailH k z) Q := by
  have e7 := unit_whole (F := F) (Memref.isWhole_whole cc0_scratch2) f7 ![0, 0] (by decide) inb_S64x6144_S64x6144_0_0 (k0_pay1 z)
  iintro ⟨H7, Hk⟩
  unfold tailH
  sl_exec
  iapply Hk
  iapply (BIBase.Entails.of_eq (congrArg (fun A : Cts F B7 c => (B7.view.loc (c : Thread nD τ) ↦[B7.view.set]{fullShare} A : sProp 𝕄)) e7)) $$ H7

end Cert.Proof.Kernel

end
-- ==== Proof.K.Tail.lean ====
module

public import proofs.«01_k».proof.Proof.K.Base
public import proofs.«01_k».proof.Proof.K.Ring
public import proofs.«01_k».proof.Proof.K.Offs
public import proofs.«01_k».proof.Proof.K.Checks
public import proofs.«01_k».proof.Proof.K.Step
public import proofs.«01_k».proof.Proof.K.Model
public import proofs.«01_k».proof.Proof.K.Quant
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The main loop and the last store, run. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

theorem trips3 : ∀ n : Fin 17, (k0_t3_loop (wd n)).trips = 0 := by decide +kernel

/-- Four slots running from any block number are the four slots. -/
theorem four_rot (c : Dev nD) (W2 : Cts F B2 c) (W3 : Cts F B3 c) (k : ℕ) :
    iprop(FreeM c W2 W3 (ix4' k) ∗ FreeM c W2 W3 (ix4' (k + 1)) ∗ FreeM c W2 W3 (ix4' (k + 2)) ∗ FreeM c W2 W3 (ix4' (k + 3)))
      ⊢ iprop(FreeM c W2 W3 0 ∗ FreeM c W2 W3 1 ∗ FreeM c W2 W3 2 ∗ FreeM c W2 W3 3) := by
  have h : k % 4 = 0 ∨ k % 4 = 1 ∨ k % 4 = 2 ∨ k % 4 = 3 := by omega
  rcases h with h | h | h | h
  · rw [show ix4' k = 0 from Fin.ext (by show k % 4 = 0; omega)]
    rw [show ix4' (k + 1) = 1 from Fin.ext (by show (k + 1) % 4 = 1; omega)]
    rw [show ix4' (k + 2) = 2 from Fin.ext (by show (k + 2) % 4 = 2; omega)]
    rw [show ix4' (k + 3) = 3 from Fin.ext (by show (k + 3) % 4 = 3; omega)]
  · rw [show ix4' k = 1 from Fin.ext (by show k % 4 = 1; omega)]
    rw [show ix4' (k + 1) = 2 from Fin.ext (by show (k + 1) % 4 = 2; omega)]
    rw [show ix4' (k + 2) = 3 from Fin.ext (by show (k + 2) % 4 = 3; omega)]
    rw [show ix4' (k + 3) = 0 from Fin.ext (by show (k + 3) % 4 = 0; omega)]
    iintro ⟨G1, G2, G3, G0⟩
    isplitl [G0]
    · iexact G0
    isplitl [G1]
    · iexact G1
    isplitl [G2]
    · iexact G2
    iexact G3
  · rw [show ix4' k = 2 from Fin.ext (by show k % 4 = 2; omega)]
    rw [show ix4' (k + 1) = 3 from Fin.ext (by show (k + 1) % 4 = 3; omega)]
    rw [show ix4' (k + 2) = 0 from Fin.ext (by show (k + 2) % 4 = 0; omega)]
    rw [show ix4' (k + 3) = 1 from Fin.ext (by show (k + 3) % 4 = 1; omega)]
    iintro ⟨G2, G3, G0, G1⟩
    isplitl [G0]
    · iexact G0
    isplitl [G1]
    · iexact G1
    isplitl [G2]
    · iexact G2
    iexact G3
  · rw [show ix4' k = 3 from Fin.ext (by show k % 4 = 3; omega)]
    rw [show ix4' (k + 1) = 0 from Fin.ext (by show (k + 1) % 4 = 0; omega)]
    rw [show ix4' (k + 2) = 1 from Fin.ext (by show (k + 2) % 4 = 1; omega)]
    rw [show ix4' (k + 3) = 2 from Fin.ext (by show (k + 3) % 4 = 2; omega)]
    iintro ⟨G3, G0, G1, G2⟩
    isplitl [G0]
    · iexact G0
    isplitl [G1]
    · iexact G1
    isplitl [G2]
    · iexact G2
    iexact G3

/-- The last store, of an accumulator. -/
abbrev lastL (c : Dev nD) (a : Cts F B7 c) : List (View.Piece (Elt F) S64x6144 .bf16) :=
  [⟨Rect.unit (s := S64x6144) ![0, 0] S64x6144.size inb_S64x6144_S64x6144_0_0,
    k0_pay4 (View.readAt (Elt F) B7.view (Rect.unit (s := S64x6144) ![0, 0] S64x6144.size inb_S64x6144_S64x6144_0_0).toLoadRect a)⟩]

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)

/-- The main loop and the last store, from rounded rows `xs` and an accumulator `a0`. -/
theorem tailQ_run (n : Fin 17) (hw : k0_chk2 (wd n)) (v4 : BitVec 32) (c : Dev nD) (W2 : Cts F B2 c) (W3 : Cts F B3 c) (ex st : ℕ → BitVec 32)
    (X12 : Cts F B12 c) (X13 : Cts F B13 c) (hL : Lists c X12 X13 n ex st) (xs : Cts F B5 c) (a0 : Cts F B7 c)
    (f4 : Buf (Elt F) (arg4.view.loc (c : Thread nD τ))) (W : Waits sig Unit) (Q : PUnit → sProp 𝕄) :
    iprop(Slot c W2 W3 n ex 0 ∗ Slot c W2 W3 n ex 1 ∗ Slot c W2 W3 n ex 2 ∗ FreeM c W2 W3 3
        ∗ (B5.view.loc (c : Thread nD τ) ↦[B5.view.set]{fullShare} xs) ∗ (B7.view.loc (c : Thread nD τ) ↦[B7.view.set]{fullShare} a0) ∗ (arg4.view.loc (c : Thread nD τ) ↦[arg4.view.set]{fullShare} f4) ∗ (B12.view.loc (c : Thread nD τ) ↦[B12.view.set]{fullShare} X12) ∗ (B13.view.loc (c : Thread nD τ) ↦[B13.view.set]{fullShare} X13)
        ∗ owes (c : Thread nD τ) 0 W
        ∗ (iprop((FreeM c W2 W3 0 ∗ FreeM c W2 W3 1 ∗ FreeM c W2 W3 2 ∗ FreeM c W2 W3 3)
            ∗ (B5.view.loc (c : Thread nD τ) ↦[B5.view.set]{fullShare} xs) ∗ (B7.view.loc (c : Thread nD τ) ↦[B7.view.set]{fullShare} accAt arg0 harg0 arg1 harg1 arg4 harg4 n hw c W2 W3 ex st xs a0 (3 * n.1))
            ∗ (arg4.view.loc (c : Thread nD τ) ↦[arg4.view.set]{fullShare} arg4.view.writes (Elt F) f4 (lastL c (accAt arg0 harg0 arg1 harg1 arg4 harg4 n hw c W2 W3 ex st xs a0 (3 * n.1))))
            ∗ (B12.view.loc (c : Thread nD τ) ↦[B12.view.set]{fullShare} X12) ∗ (B13.view.loc (c : Thread nD τ) ↦[B13.view.set]{fullShare} X13) ∗ (∃ W', owes (c : Thread nD τ) 0 W')) -∗ Q ⟨⟩))
      ⊢ wp frame (wpE (defs₀ (F := F)) Variants.none c none) Set.univ (tailQ arg0 harg0 arg1 harg1 arg4 harg4 (wd n) hw v4) Q := by
  have htr : (k0_t3_loop (wd n)).trips = 0 := trips3 n
  unfold tailQ
  iintro ⟨S0, S1, S2, F3, H5, H7, H4, H12, H13, HO, Hk⟩
  iapply (exec_loop _ _ _ _ _ _ _ _ _ (loopInv_k0_t2 (F := F) arg0 harg0 arg1 harg1 arg4 harg4 n hw v4 c W2 W3 ex st X12 X13 hL xs a0 0#32)) $$ [S0 S1 S2 F3 H5 H7 H12 H13 HO]
  · have h0 : inv2 arg0 harg0 arg1 harg1 arg4 harg4 n hw c W2 W3 ex st X12 X13 xs a0 0 0#32
        ⊢ (loopInv_k0_t2 (F := F) arg0 harg0 arg1 harg1 arg4 harg4 n hw v4 c W2 W3 ex st X12 X13 hL xs a0 0#32).inv 0 0#32 := .rfl
    iapply h0
    unfold inv2
    isplitl [S0]
    · iexact S0
    isplitl [S1]
    · iexact S1
    isplitl [S2]
    · iexact S2
    isplitl [F3]
    · iexact F3
    isplitl [H5]
    · iexact H5
    isplitl [H7]
    · iexact H7
    isplitl [H12]
    · iexact H12
    isplitl [H13]
    · iexact H13
    iexists W; iexact HO
  iintro %acc Hinv
  have hinv : (loopInv_k0_t2 (F := F) arg0 harg0 arg1 harg1 arg4 harg4 n hw v4 c W2 W3 ex st X12 X13 hL xs a0 0#32).inv
        (Scf.trips (k0_t2_loop (wd n)).lb (k0_t2_loop (wd n)).ub (k0_t2_loop (wd n)).st) acc
      ⊢ inv2 arg0 harg0 arg1 harg1 arg4 harg4 n hw c W2 W3 ex st X12 X13 xs a0 (3 * n.1) acc := by
    have e : Scf.trips (k0_t2_loop (wd n)).lb (k0_t2_loop (wd n)).ub (k0_t2_loop (wd n)).st = 3 * n.1 := trips2 n
    rw [e]; exact .rfl
  ihave Hinv := hinv $$ Hinv
  unfold inv2
  icases Hinv with ⟨S0, S1, S2, F3, H5, H7, H12, H13, ⟨%W1, HO⟩⟩
  generalize accAt arg0 harg0 arg1 harg1 arg4 harg4 n hw c W2 W3 ex st xs a0 (3 * n.1) = a
  have e0 : Slot c W2 W3 n ex (3 * n.1) = FreeM c W2 W3 (ix4' (3 * n.1)) := if_neg (by omega)
  have e1 : Slot c W2 W3 n ex (3 * n.1 + 1) = FreeM c W2 W3 (ix4' (3 * n.1 + 1)) := if_neg (by omega)
  have e2 : Slot c W2 W3 n ex (3 * n.1 + 2) = FreeM c W2 W3 (ix4' (3 * n.1 + 2)) := if_neg (by omega)
  ihave S0 := (BIBase.Entails.of_eq e0) $$ S0
  ihave S1 := (BIBase.Entails.of_eq e1) $$ S1
  ihave S2 := (BIBase.Entails.of_eq e2) $$ S2
  sl_exec
  sl_step
  iapply Hk
  isplitl [S0 S1 S2 F3]
  · iapply (four_rot c W2 W3 (3 * n.1))
    isplitl [S0]
    · iexact S0
    isplitl [S1]
    · iexact S1
    isplitl [S2]
    · iexact S2
    iexact F3
  isplitl [H5]
  · iexact H5
  isplitl [H7]
  · iexact H7
  isplitl [H4]
  · iexact H4
  isplitl [H12]
  · iexact H12
  isplitl [H13]
  · iexact H13
  iexists _; iexact HO

end Cert.Proof.Kernel

end
-- ==== Proof.K.Body.lean ====
module

public import proofs.«01_k».proof.Proof.K.Base
public import proofs.«01_k».proof.Proof.K.Ring
public import proofs.«01_k».proof.Proof.K.Offs
public import proofs.«01_k».proof.Proof.K.Checks
public import proofs.«01_k».proof.Proof.K.Step
public import proofs.«01_k».proof.Proof.K.Model
public import proofs.«01_k».proof.Proof.K.Route
public import proofs.«01_k».proof.Proof.K.Pro
public import proofs.«01_k».proof.Proof.K.Quant
public import proofs.«01_k».proof.Proof.K.Tail
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The whole body: the lists and the first copies, the quantisation, the main loop, the last store. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)

/-- The rows the quantisation leaves. -/
def xsV (c : Dev nD) (f1 : Buf (Elt F) (arg1.view.loc (c : Thread nD τ))) : Vec F S64x1536 .bf16 :=
  B5.view.read (Elt F) (B5.view.writes (Elt F) B5.view.junk
    (quant_run arg0 harg0 arg1 harg1 arg4 harg4 c f1 (k0_pay249 (xld arg1 c f1)) (k0_pay250 (xld arg1 c f1)) (k0_pay251 (xld arg1 c f1))).1)

/-- The twelve stores of rounded rows cover the buffer. -/
theorem xs_cover (c : Dev nD) (f1 : Buf (Elt F) (arg1.view.loc (c : Thread nD τ))) (y : S64x1536.Idx) :
    ∃ pc ∈ (quant_run arg0 harg0 arg1 harg1 arg4 harg4 c f1 (k0_pay249 (xld arg1 c f1)) (k0_pay250 (xld arg1 c f1)) (k0_pay251 (xld arg1 c f1))).1, y ∈ pc.1.set :=
  View.cover_of_tiledL (quant_run arg0 harg0 arg1 harg1 arg4 harg4 c f1 (k0_pay249 (xld arg1 c f1)) (k0_pay250 (xld arg1 c f1)) (k0_pay251 (xld arg1 c f1))).1 S64x128.size (by sl_kernel_rfl) y

/-- What is written where an all-covering list has been written does not depend on what was there. -/
theorem writes_unread {κ : Kind} {sp : Space} {s : Shape} {e : EltTy} {m : Memref sig κ sp s e} (h : m.IsWhole)
    (f : m.view.ty.Contents (Elt F)) (L : List (View.Piece (Elt F) s e)) (hL : ∀ y, ∃ pc ∈ L, y ∈ pc.1.set) :
    m.view.writes (Elt F) f L = h.unread (m.view.read (Elt F) (m.view.writes (Elt F) m.view.junk L)) :=
  h.eq_unread (View.read_writes_of_cover _ _ _ _ L hL)

/-- What the run leaves in the accumulator. -/
def accEnd (c : Dev nD) (W2 : Cts F B2 c) (W3 : Cts F B3 c) (f0 : Buf (Elt F) (arg0.view.loc (c : Thread nD τ)))
    (f1 : Buf (Elt F) (arg1.view.loc (c : Thread nD τ))) : Cts F B7 c :=
  accAt arg0 harg0 arg1 harg1 arg4 harg4 (nG (gw arg0 c f0)) (chk2_of _) c W2 W3 (exL (gw arg0 c f0)) (stL (gw arg0 c f0))
    ((Memref.isWhole_whole cc0_scratch0).unread (xsV arg0 harg0 arg1 harg1 arg4 harg4 c f1))
    ((Memref.isWhole_whole cc0_scratch2).unread (k0_pay1 (Scalar.ofBits .f32 0x00000000#32))) (3 * (nG (gw arg0 c f0)).1)

/-- The whole body. -/
theorem body_run (c : Dev nD) (W2 : Cts F B2 c) (W3 : Cts F B3 c) (f0 : Buf (Elt F) (arg0.view.loc (c : Thread nD τ)))
    (f1 : Buf (Elt F) (arg1.view.loc (c : Thread nD τ))) (f4 : Buf (Elt F) (arg4.view.loc (c : Thread nD τ)))
    (f5 : Cts F B5 c) (f7 : Cts F B7 c) (X12 : Cts F B12 c) (X13 : Cts F B13 c) (W : Waits sig Unit) (Q : PUnit → sProp 𝕄) :
    iprop((FreeM c W2 W3 0 ∗ FreeM c W2 W3 1 ∗ FreeM c W2 W3 2 ∗ FreeM c W2 W3 3)
        ∗ (arg0.view.loc (c : Thread nD τ) ↦[arg0.view.set]{fullShare} f0) ∗ (arg1.view.loc (c : Thread nD τ) ↦[arg1.view.set]{fullShare} f1) ∗ (arg4.view.loc (c : Thread nD τ) ↦[arg4.view.set]{fullShare} f4)
        ∗ (B5.view.loc (c : Thread nD τ) ↦[B5.view.set]{fullShare} f5) ∗ (B7.view.loc (c : Thread nD τ) ↦[B7.view.set]{fullShare} f7) ∗ (B12.view.loc (c : Thread nD τ) ↦[B12.view.set]{fullShare} X12) ∗ (B13.view.loc (c : Thread nD τ) ↦[B13.view.set]{fullShare} X13)
        ∗ owes (c : Thread nD τ) 0 W
        ∗ (iprop((FreeM c W2 W3 0 ∗ FreeM c W2 W3 1 ∗ FreeM c W2 W3 2 ∗ FreeM c W2 W3 3)
            ∗ (arg0.view.loc (c : Thread nD τ) ↦[arg0.view.set]{fullShare} f0) ∗ (arg1.view.loc (c : Thread nD τ) ↦[arg1.view.set]{fullShare} f1)
            ∗ (arg4.view.loc (c : Thread nD τ) ↦[arg4.view.set]{fullShare} arg4.view.writes (Elt F) f4 (lastL c (accEnd arg0 harg0 arg1 harg1 arg4 harg4 c W2 W3 f0 f1)))
            ∗ (∃ f, (B5.view.loc (c : Thread nD τ) ↦[B5.view.set]{fullShare} f)) ∗ (∃ f, (B7.view.loc (c : Thread nD τ) ↦[B7.view.set]{fullShare} f)) ∗ (∃ f, (B12.view.loc (c : Thread nD τ) ↦[B12.view.set]{fullShare} f)) ∗ (∃ f, (B13.view.loc (c : Thread nD τ) ↦[B13.view.set]{fullShare} f))
            ∗ (∃ W', owes (c : Thread nD τ) 0 W')) -∗ Q ⟨⟩))
      ⊢ wp frame (wpE (defs₀ (F := F)) Variants.none c none) Set.univ (cc0__body arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _)) Q := by
  rw [main_split, wp_bind]
  iintro ⟨⟨F0, F1, F2, F3⟩, H0, H1, H4, H5, H7, H12, H13, HO, Hk⟩
  iapply (pro_run arg0 harg0 arg1 harg1 arg4 harg4 c W2 W3 f0 f1 X12 X13 W)
  isplitl [F0]
  · iexact F0
  isplitl [F1]
  · iexact F1
  isplitl [F2]
  · iexact F2
  isplitl [H0]
  · iexact H0
  isplitl [H1]
  · iexact H1
  isplitl [H12]
  · iexact H12
  isplitl [H13]
  · iexact H13
  isplitl [HO]
  · iexact HO
  iintro ⟨S0, S1, S2, H0, H1, ⟨%Y12, %Y13, %hL, H12, H13⟩, ⟨%W1, HO⟩⟩
  iapply ((quant_run arg0 harg0 arg1 harg1 arg4 harg4 c f1 (k0_pay249 (xld arg1 c f1)) (k0_pay250 (xld arg1 c f1)) (k0_pay251 (xld arg1 c f1))).2 f5)
  isplitl [H1]
  · iexact H1
  isplitl [H5]
  · iexact H5
  iintro ⟨H1, H5⟩
  have e5 := writes_unread (F := F) (Memref.isWhole_whole cc0_scratch0) f5 _ (xs_cover arg0 harg0 arg1 harg1 arg4 harg4 c f1)
  ihave H5 := (BIBase.Entails.of_eq (congrArg (fun A => (B5.view.loc (c : Thread nD τ) ↦[B5.view.set]{fullShare} A : sProp 𝕄)) e5)) $$ H5
  unfold tailP
  iapply (tailH_run c f7)
  isplitl [H7]
  · iexact H7
  iintro H7
  iapply (tailQ_run arg0 harg0 arg1 harg1 arg4 harg4 (nG (gw arg0 c f0)) (chk2_of _) _ c W2 W3 (exL (gw arg0 c f0)) (stL (gw arg0 c f0)) Y12 Y13 hL _ _ f4 W1)
  isplitl [S0]
  · iexact S0
  isplitl [S1]
  · iexact S1
  isplitl [S2]
  · iexact S2
  isplitl [F3]
  · iexact F3
  isplitl [H5]
  · iexact H5
  isplitl [H7]
  · iexact H7
  isplitl [H4]
  · iexact H4
  isplitl [H12]
  · iexact H12
  isplitl [H13]
  · iexact H13
  isplitl [HO]
  · iexact HO
  iintro ⟨HF, H5, H7, H4, H12, H13, HO⟩
  iapply Hk
  isplitl [HF]
  · iexact HF
  isplitl [H0]
  · iexact H0
  isplitl [H1]
  · iexact H1
  isplitl [H4]
  · iexact H4
  isplitl [H5]
  · iexists _; iexact H5
  isplitl [H7]
  · iexists _; iexact H7
  isplitl [H12]
  · iexists _; iexact H12
  isplitl [H13]
  · iexists _; iexact H13
  iexact HO

end Cert.Proof.Kernel

end
-- ==== Proof.K.Frame.lean ====
module

public import proofs.«01_k».proof.Proof.K.Slots
public import proofs.«01_k».proof.Proof.K.Body
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
public import Idealize.ShloMosaic.Lib.Transfers

@[expose] public section

/-! The run of the whole program: the arguments end unchanged and every counter at zero. -/

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)
open Idealize.ShloMosaic.Rounds

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
/-- The program is its one call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- A window's block at a point. -/
def blkV (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = blkV m c 0 t) (t : Fin cfg0.N) (d) : dat.before 0 t d = blkV m c 0 t :=
  (dat.before_in_eq_fetched 0 rfl (fun _ => rfl) (fun _ _ _ => rfl) (fun t => by rw [hafter]; unfold Dat.blockOf blkV; rw [hA]; try rfl) t d).trans
    (by unfold Dat.fetched Dat.blockOf blkV; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = blkV m c 1 t) (t : Fin cfg0.N) (d) : dat.before 1 t d = blkV m c 1 t :=
  (dat.before_in_eq_fetched 1 rfl (fun _ => rfl) (fun _ _ _ => rfl) (fun t => by rw [hafter]; unfold Dat.blockOf blkV; rw [hA]; try rfl) t d).trans
    (by unfold Dat.fetched Dat.blockOf blkV; rw [hA]; try rfl)

/-- The argument arrays end unchanged and the counters at zero, from a run of the pipeline. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 1).trans (((dats 0 c).arrAt_in 1 rfl _).trans (hA c 1)),
      ((h.1 c).1 0).trans (((dats 0 c).arrAt_in 0 rfl _).trans (hA c 0)),
      (h.1 c).2 main_arg2 (Pipeline.mem_restRefs_of main_arg2 (by decide) (by decide)),
      (h.1 c).2 main_arg3 (Pipeline.mem_restRefs_of main_arg3 (by decide) (by decide))⟩, h.2⟩) h

/-- The staging buffers, at a point. -/
abbrev ms0_0 (t : Fin cfg0.N) : Memref sig .tc .smem S16 .i32 := win0_0.stage (cfg0.slots t 0)
abbrev hs0_0 (t : Fin cfg0.N) : (ms0_0 t).IsWhole := hstage0_0 0
abbrev ms0_1 (t : Fin cfg0.N) : Memref sig .tc .vmem S64x1536 .bf16 := win0_1.stage (cfg0.slots t 1)
abbrev hs0_1 (t : Fin cfg0.N) : (ms0_1 t).IsWhole := hstage0_1 0
abbrev ms0_2 (t : Fin cfg0.N) : Memref sig .tc .vmem S64x6144 .bf16 := win0_2.stage (cfg0.slots t 2)
abbrev hs0_2 (t : Fin cfg0.N) : (ms0_2 t).IsWhole := hstage0_2 0

/-- The eight cells of the two rings. -/
abbrev osem0 : Fin 8 → SemLoc sig := fun j => (![SemLoc.dma 3, SemLoc.dma 4, SemLoc.dma 5, SemLoc.dma 6, SemLoc.dma 7, SemLoc.dma 8, SemLoc.dma 9, SemLoc.dma 10] : Fin 8 → SemLoc sig) j
theorem ownSemFacts0 : Pipeline.OwnSemFacts spec0 osem0 := by decide
/-- The eight cells, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = Cells (F := F) c := by
  rw [Pipeline.ownSems0_eq_of_list c osem0 [0, 1, 2, 3, 4, 5, 6, 7] (by decide) (by decide)]
  unfold Cells
  rw [show cell8 ![0] (semO_inb 0) = _ from cell8_eq 0, show cell8 ![1] (semO_inb 1) = _ from cell8_eq 1, show cell8 ![2] (semO_inb 2) = _ from cell8_eq 2, show cell8 ![3] (semO_inb 3) = _ from cell8_eq 3,
    show cell9 ![0] (semO_inb 0) = _ from cell9_eq 0, show cell9 ![1] (semO_inb 1) = _ from cell9_eq 1, show cell9 ![2] (semO_inb 2) = _ from cell9_eq 2, show cell9 ![3] (semO_inb 3) = _ from cell9_eq 3]
  rfl
/-- The two arrays the copies read. -/
def H0 : Finset (Ref sig .tc) := {main_arg2, main_arg3}
theorem H0_sub : H0 ⊆ Pipeline.restRefs sig spec0 := by decide
/-- The two arrays, one by one. -/
theorem hbmPts0_eq (c : Dev nD) :
    (bigSep H0 (fun b => ((c : Thread nD τ).loc b) ↦{fullShare} V m c b) : sProp 𝕄)
      = iprop((B2.view.loc (c : Thread nD τ) ↦{fullShare} V m c main_arg2) ∗ (B3.view.loc (c : Thread nD τ) ↦{fullShare} V m c main_arg3)) := by
  rw [BI.bigSep_eq_bigSepL_of_eq [main_arg2, main_arg3] (by decide) (by decide)]; rfl

/-- What the body may use, one by one. -/
theorem PhiD0_eq (c : Dev nD) :
    (Pipeline.ΦD osem0 spec0 H0 (V m) c : sProp 𝕄)
      = iprop(((∃ f, B5.view.loc (c : Thread nD τ) ↦{fullShare} f) ∗ (∃ f, B6.view.loc (c : Thread nD τ) ↦{fullShare} f)
          ∗ (∃ f, B7.view.loc (c : Thread nD τ) ↦{fullShare} f) ∗ (∃ f, B8.view.loc (c : Thread nD τ) ↦{fullShare} f)
          ∗ (∃ f, B9.view.loc (c : Thread nD τ) ↦{fullShare} f) ∗ (∃ f, B12.view.loc (c : Thread nD τ) ↦{fullShare} f)
          ∗ (∃ f, B13.view.loc (c : Thread nD τ) ↦{fullShare} f))
        ∗ (∃ r, prngReg c r) ∗ Cells (F := F) c
        ∗ (B2.view.loc (c : Thread nD τ) ↦{fullShare} V m c main_arg2) ∗ (B3.view.loc (c : Thread nD τ) ↦{fullShare} V m c main_arg3)) := by
  rw [Pipeline.ΦD_eq, scopedRest0_eq, ownSems00_eq, hbmPts0_eq]

/-- The buffers' contents the two staged inputs stand for. -/
abbrev gs0 (c : Dev nD) (t : Fin cfg0.N) : Buf (Elt F) ((ms0_0 t).view.loc (c : Thread nD τ)) := (hs0_0 t).unread (blkV m c 0 t)
abbrev x0 (c : Dev nD) (t : Fin cfg0.N) : Buf (Elt F) ((ms0_1 t).view.loc (c : Thread nD τ)) := (hs0_1 t).unread (blkV m c 1 t)

/-- What the body leaves in the result's staging buffer: the accumulator, rounded. -/
def outsAt0 (c : Dev nD) (t : Fin cfg0.N) : Vec F S64x6144 .bf16 :=
  k0_pay4 (View.readAt (Elt F) B7.view (Rect.unit (s := S64x6144) ![0, 0] S64x6144.size inb_S64x6144_S64x6144_0_0).toLoadRect
    (accEnd (ms0_0 t) (hs0_0 t) (ms0_1 t) (hs0_1 t) (ms0_2 t) (hs0_2 t) c (V m c main_arg2) (V m c main_arg3) (gs0 m c t) (x0 m c t)))

/-- The proof data of the one call. -/
def dats (_ : Fin 1) (c : Dev nD) : Dat τ (Elt F) Unit ℕ (Pipeline.UD sig nD τ) ℕ cfg0 c where
  A w := V m c (Pipeline.arrRef spec0 w)
  after w t := match w with
    | ⟨0, _⟩ => blkV m c 0 t
    | ⟨1, _⟩ => blkV m c 1 t
    | ⟨2, _⟩ => outsAt0 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = blkV m c 0 t := by dsimp only [dats]
theorem after0_1 (c : Dev nD) (t : Fin cfg0.N) : (dats m 0 c).after 1 t = blkV m c 1 t := by dsimp only [dats]
theorem after0_2 (c : Dev nD) (t : Fin cfg0.N) : (dats m 0 c).after 2 t = outsAt0 m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- A buffer held whole, as the points-to of its view. -/
theorem whole_pt {sp : Space} {s : Shape} {e : EltTy} {M : Memref sig .tc sp s e} (h : M.IsWhole) (c : Dev nD) (f : Buf (Elt F) (M.view.loc (c : Thread nD τ))) :
    ((M.view.loc (c : Thread nD τ) ↦{fullShare} f) : sProp 𝕄) = (M.view.loc (c : Thread nD τ) ↦[M.view.set]{fullShare} f) := by
  rw [h.set_eq_univ]

/-- A buffer that holds `X`, as a points-to. -/
theorem owns_unread {sp : Space} {s : Shape} {e : EltTy} {M : Memref sig .tc sp s e} (h : M.IsWhole) (c : Dev nD) (X : Vec F s e) :
    (owns (c : Thread nD τ) M fullShare X : sProp 𝕄) ⊣⊢ (M.view.loc (c : Thread nD τ) ↦[M.view.set]{fullShare} h.unread X) := by
  constructor
  · unfold owns
    iintro ⟨%f, %hf, H⟩
    rw [← h.eq_unread hf]
    iexact H
  · unfold owns
    iintro H
    iexists h.unread X
    isplitr
    · ipureintro; exact h.read_unread X
    iexact H

set_option maxHeartbeats 4000000 in
/-- The body runs and leaves what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2]
  simp only [before0_0_of m (dats m 0 c) (A_eq m c 0) (after0_0 m c) t, before0_1_of m (dats m 0 c) (A_eq m c 1) (after0_1 m c) t]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨⟨%f5, H5⟩, H6, ⟨%f7, H7⟩, H8, H9, ⟨%X12, H12⟩, ⟨%X13, H13⟩⟩, Hg, HC, HA2, HA3⟩, ⟨%W, -, HW⟩, ⟨%d0, H0⟩, ⟨%d1, H1⟩, ⟨%d2, H2⟩⟩
  ihave HR := (ring_split c (V m c main_arg2) (V m c main_arg3)) $$ [H8 H9 HC HA2 HA3]
  · isplitl [H8]; · iexact H8
    isplitl [H9]; · iexact H9
    isplitl [HC]; · iexact HC
    isplitl [HA2]; · iexact HA2
    iexact HA3
  icases HR with ⟨HF, R2, R3⟩
  ihave H0 := (owns_unread (F := F) (hs0_0 t) c _).1 $$ H0
  ihave H1 := (owns_unread (F := F) (hs0_1 t) c _).1 $$ H1
  ihave H2 := (owns_unread (F := F) (hs0_2 t) c _).1 $$ H2
  ihave H5 := (BIBase.Entails.of_eq (whole_pt (F := F) (Memref.isWhole_whole cc0_scratch0) c _)) $$ H5
  ihave H7 := (BIBase.Entails.of_eq (whole_pt (F := F) (Memref.isWhole_whole cc0_scratch2) c _)) $$ H7
  ihave H12 := (BIBase.Entails.of_eq (whole_pt (F := F) (Memref.isWhole_whole cc0_scratch7) c _)) $$ H12
  ihave H13 := (BIBase.Entails.of_eq (whole_pt (F := F) (Memref.isWhole_whole cc0_scratch8) c _)) $$ H13
  iapply (body_run (ms0_0 t) (hs0_0 t) (ms0_1 t) (hs0_1 t) (ms0_2 t) (hs0_2 t) c (V m c main_arg2) (V m c main_arg3) (gs0 m c t) (x0 m c t) _ f5 f7 X12 X13 W)
  isplitl [HF]; · iexact HF
  isplitl [H0]; · iexact H0
  isplitl [H1]; · iexact H1
  isplitl [H2]; · iexact H2
  isplitl [H5]; · iexact H5
  isplitl [H7]; · iexact H7
  isplitl [H12]; · iexact H12
  isplitl [H13]; · iexact H13
  isplitl [HW]; · iexact HW
  iintro ⟨HF, H0, H1, H2, ⟨%g5, H5⟩, ⟨%g7, H7⟩, ⟨%g12, H12⟩, ⟨%g13, H13⟩, ⟨%W', HW⟩⟩
  ihave H5 := (BIBase.Entails.of_eq (whole_pt (F := F) (Memref.isWhole_whole cc0_scratch0) c _).symm) $$ H5
  ihave H7 := (BIBase.Entails.of_eq (whole_pt (F := F) (Memref.isWhole_whole cc0_scratch2) c _).symm) $$ H7
  ihave H12 := (BIBase.Entails.of_eq (whole_pt (F := F) (Memref.isWhole_whole cc0_scratch7) c _).symm) $$ H12
  ihave H13 := (BIBase.Entails.of_eq (whole_pt (F := F) (Memref.isWhole_whole cc0_scratch8) c _).symm) $$ H13
  ihave HR := (ring_join c (V m c main_arg2) (V m c main_arg3)) $$ [HF R2 R3]
  · isplitl [HF]; · iexact HF
    isplitl [R2]; · iexact R2
    iexact R3
  icases HR with ⟨H8, H9, HC, HA2, HA3⟩
  isplitl [H5 H6 H7 H8 H9 H12 H13 Hg HC HA2 HA3]
  · isplitl [H5 H6 H7 H8 H9 H12 H13]
    · isplitl [H5]; · iexists _; iexact H5
      isplitl [H6]; · iexact H6
      isplitl [H7]; · iexists _; iexact H7
      isplitl [H8]; · iexact H8
      isplitl [H9]; · iexact H9
      isplitl [H12]; · iexists _; iexact H12
      iexists _; iexact H13
    isplitl [Hg]; · iexact Hg
    isplitl [HC]; · iexact HC
    isplitl [HA2]; · iexact HA2
    iexact HA3
  isplitl [HW]
  · iexists W'; isplitr; · ipureintro; exact fun _ _ => Or.inl trivial
    iexact HW
  isplitl [H0]; · iapply (owns_unread (F := F) (hs0_0 t) c _).2; iexact H0
  isplitl [H1]; · iapply (owns_unread (F := F) (hs0_1 t) c _).2; iexact H1
  iapply (owns_unread (F := F) (hs0_2 t) c _).2
  have e : (ms0_2 t).view.writes (Elt F) ((hs0_2 t).unread ((dats m 0 c).before 2 t d2)) (lastL c (accEnd (ms0_0 t) (hs0_0 t) (ms0_1 t) (hs0_1 t) (ms0_2 t) (hs0_2 t) c (V m c main_arg2) (V m c main_arg3) (gs0 m c t) (x0 m c t)))
      = (hs0_2 t).unread (outsAt0 m c t) := unit_whole (hs0_2 t) _ _ (by decide) _ _
  ihave H2 := (BIBase.Entails.of_eq (congrArg (fun A => ((ms0_2 t).view.loc (c : Thread nD τ) ↦[(ms0_2 t).view.set]{fullShare} A : sProp 𝕄)) e)) $$ H2
  iexact H2

theorem defs₀_row (t : Fin cfg0.N) :
    defs₀ (F := F) .tc cfg0.body (cfg0.bodyArgs t (cfg0.slots t)) = bodyAt0 t := by
  unfold defs₀; rw [Defs.onTc_tc]

/-- The same, in the form the run of the pipeline asks for. -/
theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs, and ends with every array as the proof data say and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  frame_of m ρ (dats m) (A_eq m) (run_main m ρ)

end Cert.Proof.Kernel

end
-- ==== Proof.KI.Base.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
import Idealize.ShloMosaic.Lib.Transfers

@[expose] public section

/-! The buffers of the call and the four slots of its weight ring, under names of their own. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The packed weights and their scales, in HBM. -/
abbrev B2 : Memref sig .tc .hbm S16x768x6144 .i8 := Memref.whole main_arg2
abbrev B3 : Memref sig .tc .hbm S16x12x6144 .f32 := Memref.whole main_arg3
/-- The quantised rows, a scratch nothing reads, the accumulator, the two rings, and the two lists of the routing. -/
abbrev B5 : Memref sig .tc .vmem S64x1536 .bf16 := Memref.whole cc0_scratch0
abbrev B6 : Memref sig .tc .vmem S64x1536 .bf16 := Memref.whole cc0_scratch1
abbrev B7 : Memref sig .tc .vmem S64x6144 .f32 := Memref.whole cc0_scratch2
abbrev B8 : Memref sig .tc .vmem S4x768x2048 .i8 := Memref.whole cc0_scratch3
abbrev B9 : Memref sig .tc .vmem S4x12x2048 .f32 := Memref.whole cc0_scratch4
abbrev B12 : Memref sig .tc .smem S17 .i32 := Memref.whole cc0_scratch7
abbrev B13 : Memref sig .tc .smem S17 .i32 := Memref.whole cc0_scratch8

/-- What a buffer holds, by its memref. -/
abbrev Cts (F : FTy → Type) [FloatOps F] {sp : Space} {s : Shape} {e : EltTy} (M : Memref sig .tc sp s e) (c : Dev nD) : Type :=
  Buf (Elt F) (M.view.loc (c : Thread nD τ))

/-- A slot of the weight ring and one of the scale ring, at the offsets `o`. -/
abbrev slot8 (o : Fin 3 → Nat) (h : ∀ a, o a + S1x768x2048.size a ≤ S4x768x2048.size a) : Memref sig .tc .vmem S768x2048 .i8 :=
  (B8.slice (Rect.unit (s := S4x768x2048) o S1x768x2048.size h) (fun _ => rfl)).squeeze S768x2048 squeezes_S1x768x2048_S768x2048
abbrev slot9 (o : Fin 3 → Nat) (h : ∀ a, o a + S1x12x2048.size a ≤ S4x12x2048.size a) : Memref sig .tc .vmem S12x2048 .f32 :=
  (B9.slice (Rect.unit (s := S4x12x2048) o S1x12x2048.size h) (fun _ => rfl)).squeeze S12x2048 squeezes_S1x12x2048_S12x2048

/-- A block of 128 packed rows inside a slot is among the slot's elements. -/
theorem incl8 (o p : Fin 3 → Nat) (ho : ∀ a, o a + S1x128x256.size a ≤ S4x768x2048.size a)
    (hp : ∀ a, p a + S1x768x2048.size a ≤ S4x768x2048.size a) (h0 : o 0 = p 0) (h1 : p 1 = 0) (h2 : p 2 = 0) :
    LE.le (α := Finset B8.view.ty.Idx) (B8.view.setOn (Rect.unit (s := S4x768x2048) o S1x128x256.size ho).toLoadRect.set)
      (slot8 p hp).view.set := by
  rw [View.set_reshape, View.set_slice_whole]
  intro i hi
  obtain ⟨j, hj, rfl⟩ := Finset.mem_map.mp hi
  have hj' := (Rect.mem_set_unit.mp hj)
  refine Rect.mem_set_unit.mpr fun a => ?_
  have h := hj' a
  have hlt := (j a).isLt
  fin_cases a
  · change o 0 ≤ (j 0 : Nat) ∧ (j 0 : Nat) < o 0 + 1 at h
    change p 0 ≤ (j 0 : Nat) ∧ (j 0 : Nat) < p 0 + 1
    omega
  · change (j 1 : Nat) < 768 at hlt
    change p 1 ≤ (j 1 : Nat) ∧ (j 1 : Nat) < p 1 + 768
    omega
  · change (j 2 : Nat) < 2048 at hlt
    change p 2 ≤ (j 2 : Nat) ∧ (j 2 : Nat) < p 2 + 2048
    omega

theorem incl9 (o p : Fin 3 → Nat) (ho : ∀ a, o a + S1x1x256.size a ≤ S4x12x2048.size a)
    (hp : ∀ a, p a + S1x12x2048.size a ≤ S4x12x2048.size a) (h0 : o 0 = p 0) (h1 : p 1 = 0) (h2 : p 2 = 0) :
    LE.le (α := Finset B9.view.ty.Idx) (B9.view.setOn (Rect.unit (s := S4x12x2048) o S1x1x256.size ho).toLoadRect.set)
      (slot9 p hp).view.set := by
  rw [View.set_reshape, View.set_slice_whole]
  intro i hi
  obtain ⟨j, hj, rfl⟩ := Finset.mem_map.mp hi
  have hj' := (Rect.mem_set_unit.mp hj)
  refine Rect.mem_set_unit.mpr fun a => ?_
  have h := hj' a
  have hlt := (j a).isLt
  fin_cases a
  · change o 0 ≤ (j 0 : Nat) ∧ (j 0 : Nat) < o 0 + 1 at h
    change p 0 ≤ (j 0 : Nat) ∧ (j 0 : Nat) < p 0 + 1
    omega
  · change (j 1 : Nat) < 12 at hlt
    change p 1 ≤ (j 1 : Nat) ∧ (j 1 : Nat) < p 1 + 12
    omega
  · change (j 2 : Nat) < 2048 at hlt
    change p 2 ≤ (j 2 : Nat) ∧ (j 2 : Nat) < p 2 + 2048
    omega

/-- A block of the weights and one of the scales in HBM, at the offsets `o`; and the two cells of a slot. -/
abbrev src8 (o : Fin 3 → Nat) (h : ∀ a, o a + S1x768x2048.size a ≤ S16x768x6144.size a) : Memref sig .tc .hbm S768x2048 .i8 :=
  (B2.slice (Rect.unit (s := S16x768x6144) o S1x768x2048.size h) (fun _ => rfl)).squeeze S768x2048 squeezes_S1x768x2048_S768x2048
abbrev src9 (o : Fin 3 → Nat) (h : ∀ a, o a + S1x12x2048.size a ≤ S16x12x6144.size a) : Memref sig .tc .hbm S12x2048 .f32 :=
  (B3.slice (Rect.unit (s := S16x12x6144) o S1x12x2048.size h) (fun _ => rfl)).squeeze S12x2048 squeezes_S1x12x2048_S12x2048
abbrev cell8 (o : Fin 1 → Nat) (h : ∀ a, o a + S1.size a ≤ S4.size a) : SemLoc sig :=
  SemLoc.dma ((cc0_scratch5.slice (Rect.unit (s := S4) o S1.size h)).squeeze S_ squeezes_S1_S_).sem
abbrev cell9 (o : Fin 1 → Nat) (h : ∀ a, o a + S1.size a ≤ S4.size a) : SemLoc sig :=
  SemLoc.dma ((cc0_scratch6.slice (Rect.unit (s := S4) o S1.size h)).squeeze S_ squeezes_S1_S_).sem

/-- A slot whose copies are not under way: both cells at zero, both blocks at anything, its two read tokens whole. -/
def FreeO (c : Dev nD) (q : PosShare TreeShare) (W : Cts F B2 c) (S : Cts F B3 c) (s : Fin 1 → Nat) (hs : ∀ a, s a + S1.size a ≤ S4.size a)
    (d : Fin 3 → Nat) (h8 : ∀ a, d a + S1x768x2048.size a ≤ S4x768x2048.size a)
    (h9 : ∀ a, d a + S1x12x2048.size a ≤ S4x12x2048.size a) : sProp 𝕄 :=
  iprop(semVal ((c : Thread nD τ), cell8 s hs) 0 ∗ semVal ((c : Thread nD τ), cell9 s hs) 0
    ∗ (∃ f, (slot8 d h8).view.loc (c : Thread nD τ) ↦[(slot8 d h8).view.set]{fullShare} f)
    ∗ (∃ f, (slot9 d h9).view.loc (c : Thread nD τ) ↦[(slot9 d h9).view.set]{fullShare} f)
    ∗ (B2.view.loc (c : Thread nD τ) ↦[Finset.univ]{q} W) ∗ (B3.view.loc (c : Thread nD τ) ↦[Finset.univ]{q} S))

/-- A slot with both copies under way, from the blocks at `o`. -/
def PendO (c : Dev nD) (q : PosShare TreeShare) (W : Cts F B2 c) (S : Cts F B3 c) (s : Fin 1 → Nat) (hs : ∀ a, s a + S1.size a ≤ S4.size a)
    (d : Fin 3 → Nat) (h8 : ∀ a, d a + S1x768x2048.size a ≤ S4x768x2048.size a)
    (h9 : ∀ a, d a + S1x12x2048.size a ≤ S4x12x2048.size a)
    (o : Fin 3 → Nat) (o8 : ∀ a, o a + S1x768x2048.size a ≤ S16x768x6144.size a)
    (o9 : ∀ a, o a + S1x12x2048.size a ≤ S16x12x6144.size a) : sProp 𝕄 :=
  iprop(((∃ f, Transfers.Flight (countersEmb (U := Pipeline.UD sig nD τ)) (c : Thread nD τ) (cell8 s hs) () 49152
        iprop(((slot8 d h8).view.loc (c : Thread nD τ) ↦[(slot8 d h8).view.set]{fullShare}
            (slot8 d h8).view.writes (Elt F) f [⟨Rect.whole S768x2048, ReadAs.same.apply ((src8 o o8).view.read (Elt F) W)⟩])
          ∗ ((src8 o o8).view.loc (c : Thread nD τ) ↦[(src8 o o8).view.set]{q} W)))
      ∗ ((src8 o o8).view.loc (c : Thread nD τ) ↦[Finset.univ \ (src8 o o8).view.set]{q} W))
    ∗ ((∃ f, Transfers.Flight (countersEmb (U := Pipeline.UD sig nD τ)) (c : Thread nD τ) (cell9 s hs) () 3072
        iprop(((slot9 d h9).view.loc (c : Thread nD τ) ↦[(slot9 d h9).view.set]{fullShare}
            (slot9 d h9).view.writes (Elt F) f [⟨Rect.whole S12x2048, ReadAs.same.apply ((src9 o o9).view.read (Elt F) S)⟩])
          ∗ ((src9 o o9).view.loc (c : Thread nD τ) ↦[(src9 o o9).view.set]{q} S)))
      ∗ ((src9 o o9).view.loc (c : Thread nD τ) ↦[Finset.univ \ (src9 o o9).view.set]{q} S)))

/-- One word of a list of the routing. -/
abbrev ldw12 (c : Dev nD) (X : Cts F B12 c) (o : Fin 1 → Nat) (h : ∀ a, o a + S1.size a ≤ S17.size a) : BitVec 32 :=
  View.readAt (Elt F) B12.view (Rect.unit (s := S17) o S1.size h).toLoadRect X (Shape.Idx.first (show 0 < S1.numel from by decide))
abbrev ldw13 (c : Dev nD) (X : Cts F B13 c) (o : Fin 1 → Nat) (h : ∀ a, o a + S1.size a ≤ S17.size a) : BitVec 32 :=
  View.readAt (Elt F) B13.view (Rect.unit (s := S17) o S1.size h).toLoadRect X (Shape.Idx.first (show 0 < S1.numel from by decide))

/-- A slot whose two copies have landed: what `PendO` becomes at its waits. -/
def DoneO (c : Dev nD) (q : PosShare TreeShare) (W : Cts F B2 c) (S : Cts F B3 c) (s : Fin 1 → Nat) (hs : ∀ a, s a + S1.size a ≤ S4.size a)
    (d : Fin 3 → Nat) (h8 : ∀ a, d a + S1x768x2048.size a ≤ S4x768x2048.size a)
    (h9 : ∀ a, d a + S1x12x2048.size a ≤ S4x12x2048.size a)
    (o : Fin 3 → Nat) (o8 : ∀ a, o a + S1x768x2048.size a ≤ S16x768x6144.size a)
    (o9 : ∀ a, o a + S1x12x2048.size a ≤ S16x12x6144.size a) : sProp 𝕄 :=
  iprop(semVal ((c : Thread nD τ), cell8 s hs) 0 ∗ semVal ((c : Thread nD τ), cell9 s hs) 0
    ∗ (∃ f, (slot8 d h8).view.loc (c : Thread nD τ) ↦[(slot8 d h8).view.set]{fullShare}
            (slot8 d h8).view.writes (Elt F) f [⟨Rect.whole S768x2048, ReadAs.same.apply ((src8 o o8).view.read (Elt F) W)⟩])
    ∗ (∃ f, (slot9 d h9).view.loc (c : Thread nD τ) ↦[(slot9 d h9).view.set]{fullShare}
            (slot9 d h9).view.writes (Elt F) f [⟨Rect.whole S12x2048, ReadAs.same.apply ((src9 o o9).view.read (Elt F) S)⟩])
    ∗ (B2.view.loc (c : Thread nD τ) ↦[Finset.univ]{q} W) ∗ (B3.view.loc (c : Thread nD τ) ↦[Finset.univ]{q} S))

end Cert.Proof.KernelIdeal

end
-- ==== Proof.KI.Ring.lean ====
module

public import proofs.«01_k».proof.Proof.KI.Base
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
public import Idealize.ShloMosaic.Lib.Transfers
public import Idealize.ShloMosaic.Lib.ValueLayout

@[expose] public section

/-! The four slots of the ring, by number: free, with a block under way, with a block landed. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx

/-- The slot of block `k`, the third of the columns it takes, the expert a word names. -/
def ix4' (k : ℕ) : Fin 4 := ⟨k % 4, Nat.mod_lt _ (by decide)⟩
def ix3' (k : ℕ) : Fin 3 := ⟨k % 3, Nat.mod_lt _ (by decide)⟩
def exF (b : BitVec 32) : Fin 16 := ⟨b.toNat % 16, Nat.mod_lt _ (by decide)⟩

theorem ix4'_add (k : ℕ) : ix4' (k + 4) = ix4' k := Fin.ext (Nat.add_mod_right k 4)

theorem semO_inb (m : Fin 4) : ∀ a, (![m.1] : Fin 1 → ℕ) a + S1.size a ≤ S4.size a := by revert m; decide
theorem slotO8_inb (m : Fin 4) : ∀ a, (![m.1, 0, 0] : Fin 3 → ℕ) a + S1x768x2048.size a ≤ S4x768x2048.size a := by revert m; decide
theorem slotO9_inb (m : Fin 4) : ∀ a, (![m.1, 0, 0] : Fin 3 → ℕ) a + S1x12x2048.size a ≤ S4x12x2048.size a := by revert m; decide
theorem srcO8_inb (e : Fin 16) (p : Fin 3) : ∀ a, (![e.1, 0, p.1 * 2048] : Fin 3 → ℕ) a + S1x768x2048.size a ≤ S16x768x6144.size a := by
  revert e p; decide
theorem srcO9_inb (e : Fin 16) (p : Fin 3) : ∀ a, (![e.1, 0, p.1 * 2048] : Fin 3 → ℕ) a + S1x12x2048.size a ≤ S16x12x6144.size a := by
  revert e p; decide

/-- The share of the weights a slot's copies read. -/
abbrev tok (m : Fin 4) : PosShare TreeShare := Transfers.shareTok fullShare 4 m

def FreeM (c : Dev nD) (W2 : Cts F B2 c) (W3 : Cts F B3 c) (m : Fin 4) : sProp 𝕄 :=
  FreeO c (tok m) W2 W3 ![m.1] (semO_inb m) ![m.1, 0, 0] (slotO8_inb m) (slotO9_inb m)
def PendM (c : Dev nD) (W2 : Cts F B2 c) (W3 : Cts F B3 c) (m : Fin 4) (e : Fin 16) (p : Fin 3) : sProp 𝕄 :=
  PendO c (tok m) W2 W3 ![m.1] (semO_inb m) ![m.1, 0, 0] (slotO8_inb m) (slotO9_inb m) ![e.1, 0, p.1 * 2048] (srcO8_inb e p) (srcO9_inb e p)
def DoneM (c : Dev nD) (W2 : Cts F B2 c) (W3 : Cts F B3 c) (m : Fin 4) (e : Fin 16) (p : Fin 3) : sProp 𝕄 :=
  DoneO c (tok m) W2 W3 ![m.1] (semO_inb m) ![m.1, 0, 0] (slotO8_inb m) (slotO9_inb m) ![e.1, 0, p.1 * 2048] (srcO8_inb e p) (srcO9_inb e p)

theorem freeO_congr {c : Dev nD} {q : PosShare TreeShare} {W : Cts F B2 c} {S : Cts F B3 c} {s s' : Fin 1 → Nat} {hs hs'}
    {d d' : Fin 3 → Nat} {h8 h8' h9 h9'} (es : s = s') (ed : d = d') :
    FreeO c q W S s hs d h8 h9 = FreeO c q W S s' hs' d' h8' h9' := by subst es ed; rfl
theorem pendO_congr {c : Dev nD} {q : PosShare TreeShare} {W : Cts F B2 c} {S : Cts F B3 c} {s s' : Fin 1 → Nat} {hs hs'}
    {d d' : Fin 3 → Nat} {h8 h8' h9 h9'} {o o' : Fin 3 → Nat} {o8 o8' o9 o9'} (es : s = s') (ed : d = d') (eo : o = o') :
    PendO c q W S s hs d h8 h9 o o8 o9 = PendO c q W S s' hs' d' h8' h9' o' o8' o9' := by subst es ed eo; rfl
theorem doneO_congr {c : Dev nD} {q : PosShare TreeShare} {W : Cts F B2 c} {S : Cts F B3 c} {s s' : Fin 1 → Nat} {hs hs'}
    {d d' : Fin 3 → Nat} {h8 h8' h9 h9'} {o o' : Fin 3 → Nat} {o8 o8' o9 o9'} (es : s = s') (ed : d = d') (eo : o = o') :
    DoneO c q W S s hs d h8 h9 o o8 o9 = DoneO c q W S s' hs' d' h8' h9' o' o8' o9' := by subst es ed eo; rfl

/-- A ring that holds, in every slot, the third `p` of expert `e`: what a landed slot is read as. -/
def wBlk (c : Dev nD) (W : Cts F B2 c) (e : Fin 16) (p : Fin 3) : Cts F B8 c := fun i =>
  (W : S16x768x6144.Idx → Elt F .i8) (ix3 (n2 := 6144) e (i 1) ⟨p.1 * 2048 + (i 2).1, by
    have h : (i 2).1 < 2048 := (i 2).isLt
    have := p.isLt; omega⟩)
def sBlk (c : Dev nD) (W : Cts F B3 c) (e : Fin 16) (p : Fin 3) : Cts F B9 c := fun i =>
  (W : S16x12x6144.Idx → Elt F .f32) (ix3 (n2 := 6144) e (i 1) ⟨p.1 * 2048 + (i 2).1, by
    have h : (i 2).1 < 2048 := (i 2).isLt
    have := p.isLt; omega⟩)

/-- One whole write, read at an element it covers. -/
theorem writes_whole_emb {sig : RefSig} {κ : Kind} {sp : Space} {s : Shape} {e : EltTy} {Val : EltTy → Type} (v : View sig κ sp s e)
    (f : v.ty.Contents Val) (x : s.Idx → Val e) (y : s.Idx) :
    v.writes Val f [⟨Rect.whole s, x⟩] (v.emb y) = _root_.cast (congrArg Val v.elt_eq.symm) (x y) := by
  have h := congrFun (View.read_writes_whole v f x) y
  rw [View.read_apply] at h
  rw [← h, cast_cast, cast_eq]

/-- Weights that have landed in a slot are the block they were copied from. -/
theorem land8 (c : Dev nD) (W : Cts F B2 c) (m : Fin 4) (e : Fin 16) (p : Fin 3) (f : Cts F B8 c) :
    ∀ i ∈ (slot8 ![m.1, 0, 0] (slotO8_inb m)).view.set,
      (slot8 ![m.1, 0, 0] (slotO8_inb m)).view.writes (Elt F) f
        [⟨Rect.whole S768x2048, ReadAs.same.apply ((src8 ![e.1, 0, p.1 * 2048] (srcO8_inb e p)).view.read (Elt F) W)⟩] i
      = wBlk c W e p i := by
  intro i hi
  obtain ⟨y, -, rfl⟩ := Finset.mem_map.mp hi
  rw [writes_whole_emb]
  obtain ⟨y0, y1, rfl⟩ : ∃ (y0 : Fin 768) (y1 : Fin 2048), y = ix2 y0 y1 := ⟨y 0, y 1, by funext a; fin_cases a <;> rfl⟩
  change W ((src8 ![e.1, 0, p.1 * 2048] (srcO8_inb e p)).view.emb (ix2 y0 y1)) = wBlk c W e p ((slot8 ![m.1, 0, 0] (slotO8_inb m)).view.emb (ix2 y0 y1))
  have h1 : (src8 ![e.1, 0, p.1 * 2048] (srcO8_inb e p)).view.emb (ix2 y0 y1)
      = (Rect.unit (s := S16x768x6144) ![e.1, 0, p.1 * 2048] S1x768x2048.size (srcO8_inb e p)).emb (ix3 (⟨0, Nat.one_pos⟩ : Fin 1) y0 y1) :=
    congrArg (Rect.unit (s := S16x768x6144) ![e.1, 0, p.1 * 2048] S1x768x2048.size (srcO8_inb e p)).emb (reshapeEquiv_ix2_1ab (a := 768) (b := 2048) _ y0 y1)
  have h2 : (slot8 ![m.1, 0, 0] (slotO8_inb m)).view.emb (ix2 y0 y1)
      = (Rect.unit (s := S4x768x2048) ![m.1, 0, 0] S1x768x2048.size (slotO8_inb m)).emb (ix3 (⟨0, Nat.one_pos⟩ : Fin 1) y0 y1) :=
    congrArg (Rect.unit (s := S4x768x2048) ![m.1, 0, 0] S1x768x2048.size (slotO8_inb m)).emb (reshapeEquiv_ix2_1ab (a := 768) (b := 2048) _ y0 y1)
  rw [h1, h2]
  unfold wBlk
  refine congrArg W (funext fun a => Fin.ext ?_)
  fin_cases a
  · change e.1 + 1 * 0 = e.1; omega
  · change 0 + 1 * y0.1 = 0 + 1 * y0.1; rfl
  · change p.1 * 2048 + 1 * y1.1 = p.1 * 2048 + (0 + 1 * y1.1); omega

/-- The same of scales. -/
theorem land9 (c : Dev nD) (W : Cts F B3 c) (m : Fin 4) (e : Fin 16) (p : Fin 3) (f : Cts F B9 c) :
    ∀ i ∈ (slot9 ![m.1, 0, 0] (slotO9_inb m)).view.set,
      (slot9 ![m.1, 0, 0] (slotO9_inb m)).view.writes (Elt F) f
        [⟨Rect.whole S12x2048, ReadAs.same.apply ((src9 ![e.1, 0, p.1 * 2048] (srcO9_inb e p)).view.read (Elt F) W)⟩] i
      = sBlk c W e p i := by
  intro i hi
  obtain ⟨y, -, rfl⟩ := Finset.mem_map.mp hi
  rw [writes_whole_emb]
  obtain ⟨y0, y1, rfl⟩ : ∃ (y0 : Fin 12) (y1 : Fin 2048), y = ix2 y0 y1 := ⟨y 0, y 1, by funext a; fin_cases a <;> rfl⟩
  change W ((src9 ![e.1, 0, p.1 * 2048] (srcO9_inb e p)).view.emb (ix2 y0 y1)) = sBlk c W e p ((slot9 ![m.1, 0, 0] (slotO9_inb m)).view.emb (ix2 y0 y1))
  have h1 : (src9 ![e.1, 0, p.1 * 2048] (srcO9_inb e p)).view.emb (ix2 y0 y1)
      = (Rect.unit (s := S16x12x6144) ![e.1, 0, p.1 * 2048] S1x12x2048.size (srcO9_inb e p)).emb (ix3 (⟨0, Nat.one_pos⟩ : Fin 1) y0 y1) :=
    congrArg (Rect.unit (s := S16x12x6144) ![e.1, 0, p.1 * 2048] S1x12x2048.size (srcO9_inb e p)).emb (reshapeEquiv_ix2_1ab (a := 12) (b := 2048) _ y0 y1)
  have h2 : (slot9 ![m.1, 0, 0] (slotO9_inb m)).view.emb (ix2 y0 y1)
      = (Rect.unit (s := S4x12x2048) ![m.1, 0, 0] S1x12x2048.size (slotO9_inb m)).emb (ix3 (⟨0, Nat.one_pos⟩ : Fin 1) y0 y1) :=
    congrArg (Rect.unit (s := S4x12x2048) ![m.1, 0, 0] S1x12x2048.size (slotO9_inb m)).emb (reshapeEquiv_ix2_1ab (a := 12) (b := 2048) _ y0 y1)
  rw [h1, h2]
  unfold sBlk
  refine congrArg W (funext fun a => Fin.ext ?_)
  fin_cases a
  · change e.1 + 1 * 0 = e.1; omega
  · change 0 + 1 * y0.1 = 0 + 1 * y0.1; rfl
  · change p.1 * 2048 + 1 * y1.1 = p.1 * 2048 + (0 + 1 * y1.1); omega

/-- A landed slot held at the block it was sent; and given back. -/
def HeldO (c : Dev nD) (q : PosShare TreeShare) (W2 : Cts F B2 c) (W3 : Cts F B3 c) (s : Fin 1 → Nat) (hs : ∀ a, s a + S1.size a ≤ S4.size a)
    (d : Fin 3 → Nat) (h8 : ∀ a, d a + S1x768x2048.size a ≤ S4x768x2048.size a)
    (h9 : ∀ a, d a + S1x12x2048.size a ≤ S4x12x2048.size a) (w : Cts F B8 c) (sc : Cts F B9 c) : sProp 𝕄 :=
  iprop(semVal ((c : Thread nD τ), cell8 s hs) 0 ∗ semVal ((c : Thread nD τ), cell9 s hs) 0
    ∗ (B2.view.loc (c : Thread nD τ) ↦[Finset.univ]{q} W2) ∗ (B3.view.loc (c : Thread nD τ) ↦[Finset.univ]{q} W3)
    ∗ ((slot8 d h8).view.loc (c : Thread nD τ) ↦[(slot8 d h8).view.set]{fullShare} w)
    ∗ ((slot9 d h9).view.loc (c : Thread nD τ) ↦[(slot9 d h9).view.set]{fullShare} sc))
def HeldM (c : Dev nD) (W2 : Cts F B2 c) (W3 : Cts F B3 c) (m : Fin 4) (w : Cts F B8 c) (s : Cts F B9 c) : sProp 𝕄 :=
  HeldO c (tok m) W2 W3 ![m.1] (semO_inb m) ![m.1, 0, 0] (slotO8_inb m) (slotO9_inb m) w s
theorem heldO_congr {c : Dev nD} {q : PosShare TreeShare} {W : Cts F B2 c} {S : Cts F B3 c} {s s' : Fin 1 → Nat} {hs hs'}
    {d d' : Fin 3 → Nat} {h8 h8' h9 h9'} {w : Cts F B8 c} {sc : Cts F B9 c} (es : s = s') (ed : d = d') :
    HeldO c q W S s hs d h8 h9 w sc = HeldO c q W S s' hs' d' h8' h9' w sc := by subst es ed; rfl

/-- A slot whose copies have landed holds its blocks. -/
theorem doneM_held (c : Dev nD) (W2 : Cts F B2 c) (W3 : Cts F B3 c) (m : Fin 4) (e : Fin 16) (p : Fin 3) :
    DoneM c W2 W3 m e p ⊢ HeldM c W2 W3 m (wBlk c W2 e p) (sBlk c W3 e p) := by
  unfold DoneM DoneO HeldM HeldO
  iintro ⟨Hc8, Hc9, ⟨%f8, H8⟩, ⟨%f9, H9⟩, T8, T9⟩
  have e8 := pointsTo_congr (Val := Elt F) (Ix := Unit) (Name := ℕ) (U := Pipeline.UD sig nD τ) (Lvl := ℕ) (ℓ := (slot8 ![m.1, 0, 0] (slotO8_inb m)).view.loc (c : Thread nD τ)) (q := fullShare) (land8 c W2 m e p f8)
  have e9 := pointsTo_congr (Val := Elt F) (Ix := Unit) (Name := ℕ) (U := Pipeline.UD sig nD τ) (Lvl := ℕ) (ℓ := (slot9 ![m.1, 0, 0] (slotO9_inb m)).view.loc (c : Thread nD τ)) (q := fullShare) (land9 c W3 m e p f9)
  isplitl [Hc8]
  · iexact Hc8
  isplitl [Hc9]
  · iexact Hc9
  isplitl [T8]
  · iexact T8
  isplitl [T9]
  · iexact T9
  isplitl [H8]
  · iapply (BIBase.Entails.of_eq e8) $$ H8
  iapply (BIBase.Entails.of_eq e9) $$ H9

/-- A slot that was read is free again. -/
theorem held_freeM (c : Dev nD) (W2 : Cts F B2 c) (W3 : Cts F B3 c) (m : Fin 4) (w : Cts F B8 c) (s : Cts F B9 c) :
    HeldM c W2 W3 m w s ⊢ FreeM c W2 W3 m := by
  unfold FreeM FreeO HeldM HeldO
  iintro ⟨Hc8, Hc9, T8, T9, H8, H9⟩
  isplitl [Hc8]
  · iexact Hc8
  isplitl [Hc9]
  · iexact Hc9
  isplitl [H8]
  · iexists w
    iexact H8
  isplitl [H9]
  · iexists s
    iexact H9
  isplitl [T8]
  · iexact T8
  iexact T9

end Cert.Proof.KernelIdeal

end
-- ==== Proof.KI.Slots.lean ====
module

public import proofs.«01_k».proof.Proof.KI.Ring
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
public import Idealize.ShloMosaic.Lib.Transfers
public import Idealize.ShloMosaic.Lib.Ring.AtN

@[expose] public section

/-! The two rings as their slots and the two arrays as read tokens, and back. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ### A buffer of four slots -/

section Four
variable {ℓ : Loc nD τ sig} (J : Fin 4 → Finset (Idx ℓ))
  (hd : ∀ s s', s ≠ s' → Disjoint (J s) (J s')) (hc : Finset.univ.biUnion J = Finset.univ) {q : PosShare TreeShare}

include hd hc in
/-- A buffer split into its four slots. -/
theorem four_split : iprop(∃ f, ℓ ↦{q} f)
    ⊢ (iprop((∃ f, ℓ ↦[J 0]{q} f) ∗ (∃ f, ℓ ↦[J 1]{q} f) ∗ (∃ f, ℓ ↦[J 2]{q} f) ∗ ∃ f, ℓ ↦[J 3]{q} f) : sProp 𝕄) := by
  iintro ⟨%f, H⟩
  ihave H3 := (BIBase.Entails.of_eq ((Ring.pointsTo_blocks (Ix := Unit) (Name := ℕ) (U := Pipeline.UD sig nD τ) (Lvl := ℕ) (q := q) J hd hc f).trans (Ring.bigSep_fin4 _))) $$ H
  icases H3 with ⟨H0, H1, H2, H3⟩
  isplitl [H0]; · iexists f; iexact H0
  isplitl [H1]; · iexists f; iexact H1
  isplitl [H2]; · iexists f; iexact H2
  iexists f; iexact H3

include hd hc in
/-- Four slots joined into the buffer. -/
theorem four_join : (iprop((∃ f, ℓ ↦[J 0]{q} f) ∗ (∃ f, ℓ ↦[J 1]{q} f) ∗ (∃ f, ℓ ↦[J 2]{q} f) ∗ ∃ f, ℓ ↦[J 3]{q} f) : sProp 𝕄)
    ⊢ iprop(∃ f, ℓ ↦{q} f) := by
  iintro ⟨⟨%f0, H0⟩, ⟨%f1, H1⟩, ⟨%f2, H2⟩, ⟨%f3, H3⟩⟩
  iapply (Ring.pointsTo_blocks_join_exists J hd hc f0)
  irw [Ring.bigSep_fin4]
  isplitl [H0]; · iexists f0; iexact H0
  isplitl [H1]; · iexists f1; iexact H1
  isplitl [H2]; · iexists f2; iexact H2
  iexists f3; iexact H3
end Four

/-! ### The slots of the two rings -/

theorem mem_slot8 (m : Fin 4) (i : B8.view.ty.Idx) : i ∈ (slot8 ![m.1, 0, 0] (slotO8_inb m)).view.set ↔ (i 0 : ℕ) = m.1 := by
  rw [View.set_reshape, View.set_slice_whole]
  refine Rect.mem_set_unit.trans ⟨fun h => ?_, fun h a => ?_⟩
  · have := h 0
    change m.1 ≤ (i 0 : ℕ) ∧ (i 0 : ℕ) < m.1 + 1 at this
    omega
  · have hlt := (i a).isLt
    fin_cases a
    · change m.1 ≤ (i 0 : ℕ) ∧ (i 0 : ℕ) < m.1 + 1; omega
    · change (i 1 : ℕ) < 768 at hlt; change 0 ≤ (i 1 : ℕ) ∧ (i 1 : ℕ) < 0 + 768; omega
    · change (i 2 : ℕ) < 2048 at hlt; change 0 ≤ (i 2 : ℕ) ∧ (i 2 : ℕ) < 0 + 2048; omega

theorem mem_slot9 (m : Fin 4) (i : B9.view.ty.Idx) : i ∈ (slot9 ![m.1, 0, 0] (slotO9_inb m)).view.set ↔ (i 0 : ℕ) = m.1 := by
  rw [View.set_reshape, View.set_slice_whole]
  refine Rect.mem_set_unit.trans ⟨fun h => ?_, fun h a => ?_⟩
  · have := h 0
    change m.1 ≤ (i 0 : ℕ) ∧ (i 0 : ℕ) < m.1 + 1 at this
    omega
  · have hlt := (i a).isLt
    fin_cases a
    · change m.1 ≤ (i 0 : ℕ) ∧ (i 0 : ℕ) < m.1 + 1; omega
    · change (i 1 : ℕ) < 12 at hlt; change 0 ≤ (i 1 : ℕ) ∧ (i 1 : ℕ) < 0 + 12; omega
    · change (i 2 : ℕ) < 2048 at hlt; change 0 ≤ (i 2 : ℕ) ∧ (i 2 : ℕ) < 0 + 2048; omega

def J8 (m : Fin 4) : Finset B8.view.ty.Idx := (slot8 ![m.1, 0, 0] (slotO8_inb m)).view.set
def J9 (m : Fin 4) : Finset B9.view.ty.Idx := (slot9 ![m.1, 0, 0] (slotO9_inb m)).view.set

theorem J8_disj (s s' : Fin 4) (h : s ≠ s') : Disjoint (J8 s) (J8 s') :=
  Finset.disjoint_left.mpr fun i h1 h2 => h (Fin.ext (((mem_slot8 s i).mp h1).symm.trans ((mem_slot8 s' i).mp h2)))
theorem J9_disj (s s' : Fin 4) (h : s ≠ s') : Disjoint (J9 s) (J9 s') :=
  Finset.disjoint_left.mpr fun i h1 h2 => h (Fin.ext (((mem_slot9 s i).mp h1).symm.trans ((mem_slot9 s' i).mp h2)))
theorem J8_cover : Finset.univ.biUnion J8 = Finset.univ :=
  Finset.eq_univ_of_forall fun i => Finset.mem_biUnion.mpr ⟨⟨(i 0 : ℕ), (i 0).isLt⟩, Finset.mem_univ _, (mem_slot8 _ i).mpr rfl⟩
theorem J9_cover : Finset.univ.biUnion J9 = Finset.univ :=
  Finset.eq_univ_of_forall fun i => Finset.mem_biUnion.mpr ⟨⟨(i 0 : ℕ), (i 0).isLt⟩, Finset.mem_univ _, (mem_slot9 _ i).mpr rfl⟩

theorem cell8_eq (m : Fin 4) : cell8 ![m.1] (semO_inb m) = SemLoc.dma (![3, 4, 5, 6] m) := by revert m; decide
theorem cell9_eq (m : Fin 4) : cell9 ![m.1] (semO_inb m) = SemLoc.dma (![7, 8, 9, 10] m) := by revert m; decide

/-- A read token's worth of an array, from the whole of it, four times over. -/
theorem toks4 {ℓ : Loc nD τ sig} (f : Buf (Elt F) ℓ) :
    (ℓ ↦[Finset.univ]{fullShare} f : sProp 𝕄) ⊣⊢ iprop((ℓ ↦[Finset.univ]{Transfers.shareDrop fullShare 4} f)
      ∗ (ℓ ↦[Finset.univ]{tok 0} f) ∗ (ℓ ↦[Finset.univ]{tok 1} f) ∗ (ℓ ↦[Finset.univ]{tok 2} f) ∗ (ℓ ↦[Finset.univ]{tok 3} f)) := by
  have h := Transfers.pointsTo_toks (Ix := Unit) (Name := ℕ) (U := Pipeline.UD sig nD τ) (Lvl := ℕ) (ℓ := ℓ) (S := Finset.univ) (f := f) fullShare 4
  rw [Ring.bigSep_fin4] at h
  exact h

/-- The eight cells of the two rings at zero. -/
def Cells (c : Dev nD) : sProp 𝕄 :=
  iprop(semVal ((c : Thread nD τ), cell8 ![0] (semO_inb 0)) 0 ∗ semVal ((c : Thread nD τ), cell8 ![1] (semO_inb 1)) 0
    ∗ semVal ((c : Thread nD τ), cell8 ![2] (semO_inb 2)) 0 ∗ semVal ((c : Thread nD τ), cell8 ![3] (semO_inb 3)) 0
    ∗ semVal ((c : Thread nD τ), cell9 ![0] (semO_inb 0)) 0 ∗ semVal ((c : Thread nD τ), cell9 ![1] (semO_inb 1)) 0
    ∗ semVal ((c : Thread nD τ), cell9 ![2] (semO_inb 2)) 0 ∗ semVal ((c : Thread nD τ), cell9 ![3] (semO_inb 3)) 0)

/-- The rings split into four free slots. -/
theorem ring_split (c : Dev nD) (W2 : Cts F B2 c) (W3 : Cts F B3 c) :
    iprop((∃ f, B8.view.loc (c : Thread nD τ) ↦{fullShare} f) ∗ (∃ f, B9.view.loc (c : Thread nD τ) ↦{fullShare} f)
        ∗ Cells (F := F) c ∗ (B2.view.loc (c : Thread nD τ) ↦{fullShare} W2) ∗ (B3.view.loc (c : Thread nD τ) ↦{fullShare} W3))
      ⊢ (iprop((FreeM c W2 W3 0 ∗ FreeM c W2 W3 1 ∗ FreeM c W2 W3 2 ∗ FreeM c W2 W3 3)
        ∗ (B2.view.loc (c : Thread nD τ) ↦[Finset.univ]{Transfers.shareDrop fullShare 4} W2)
        ∗ (B3.view.loc (c : Thread nD τ) ↦[Finset.univ]{Transfers.shareDrop fullShare 4} W3)) : sProp 𝕄) := by
  unfold Cells FreeM FreeO
  iintro ⟨H8, H9, ⟨S0, S1, S2, S3, R0, R1, R2, R3⟩, HW, HS⟩
  ihave H8 := (four_split (F := F) (ℓ := B8.view.loc (c : Thread nD τ)) J8 J8_disj J8_cover) $$ H8
  ihave H9 := (four_split (F := F) (ℓ := B9.view.loc (c : Thread nD τ)) J9 J9_disj J9_cover) $$ H9
  ihave HW := (toks4 W2).1 $$ HW
  ihave HS := (toks4 W3).1 $$ HS
  icases H8 with ⟨A0, A1, A2, A3⟩
  icases H9 with ⟨C0, C1, C2, C3⟩
  icases HW with ⟨HW, W0, W1, W2', W3'⟩
  icases HS with ⟨HS, T0, T1, T2, T3⟩
  isplitr [HW HS]
  · isplitl [S0 R0 A0 C0 W0 T0]
    · isplitl [S0]; · iexact S0
      isplitl [R0]; · iexact R0
      isplitl [A0]; · iexact A0
      isplitl [C0]; · iexact C0
      isplitl [W0]; · iexact W0
      iexact T0
    isplitl [S1 R1 A1 C1 W1 T1]
    · isplitl [S1]; · iexact S1
      isplitl [R1]; · iexact R1
      isplitl [A1]; · iexact A1
      isplitl [C1]; · iexact C1
      isplitl [W1]; · iexact W1
      iexact T1
    isplitl [S2 R2 A2 C2 W2' T2]
    · isplitl [S2]; · iexact S2
      isplitl [R2]; · iexact R2
      isplitl [A2]; · iexact A2
      isplitl [C2]; · iexact C2
      isplitl [W2']; · iexact W2'
      iexact T2
    isplitl [S3]; · iexact S3
    isplitl [R3]; · iexact R3
    isplitl [A3]; · iexact A3
    isplitl [C3]; · iexact C3
    isplitl [W3']; · iexact W3'
    iexact T3
  isplitl [HW]; · iexact HW
  iexact HS

/-- Four free slots joined into the rings. -/
theorem ring_join (c : Dev nD) (W2 : Cts F B2 c) (W3 : Cts F B3 c) :
    (iprop((FreeM c W2 W3 0 ∗ FreeM c W2 W3 1 ∗ FreeM c W2 W3 2 ∗ FreeM c W2 W3 3)
        ∗ (B2.view.loc (c : Thread nD τ) ↦[Finset.univ]{Transfers.shareDrop fullShare 4} W2)
        ∗ (B3.view.loc (c : Thread nD τ) ↦[Finset.univ]{Transfers.shareDrop fullShare 4} W3)) : sProp 𝕄)
    ⊢ iprop((∃ f, B8.view.loc (c : Thread nD τ) ↦{fullShare} f) ∗ (∃ f, B9.view.loc (c : Thread nD τ) ↦{fullShare} f)
        ∗ Cells (F := F) c ∗ (B2.view.loc (c : Thread nD τ) ↦{fullShare} W2) ∗ (B3.view.loc (c : Thread nD τ) ↦{fullShare} W3)) := by
  unfold Cells FreeM FreeO
  iintro ⟨⟨⟨S0, R0, A0, C0, W0, T0⟩, ⟨S1, R1, A1, C1, W1, T1⟩, ⟨S2, R2, A2, C2, W2', T2⟩, ⟨S3, R3, A3, C3, W3', T3⟩⟩, HW, HS⟩
  isplitl [A0 A1 A2 A3]
  · iapply (four_join (F := F) (ℓ := B8.view.loc (c : Thread nD τ)) J8 J8_disj J8_cover)
    isplitl [A0]; · iexact A0
    isplitl [A1]; · iexact A1
    isplitl [A2]; · iexact A2
    iexact A3
  isplitl [C0 C1 C2 C3]
  · iapply (four_join (F := F) (ℓ := B9.view.loc (c : Thread nD τ)) J9 J9_disj J9_cover)
    isplitl [C0]; · iexact C0
    isplitl [C1]; · iexact C1
    isplitl [C2]; · iexact C2
    iexact C3
  isplitl [S0 S1 S2 S3 R0 R1 R2 R3]
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  isplitl [HW W0 W1 W2' W3']
  · iapply (toks4 W2).2
    isplitl [HW]; · iexact HW
    isplitl [W0]; · iexact W0
    isplitl [W1]; · iexact W1
    isplitl [W2']; · iexact W2'
    iexact W3'
  iapply (toks4 W3).2
  isplitl [HS]; · iexact HS
  isplitl [T0]; · iexact T0
  isplitl [T1]; · iexact T1
  isplitl [T2]; · iexact T2
  iexact T3

end Cert.Proof.KernelIdeal

end
-- ==== Proof.KI.Offs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The numbers of a trip of the main loop, as functions of the trip: which slot, which expert, which columns. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxRecDepth 100000

/-- The counter of the loop over the experts, as a word. -/
abbrev wd (n : Fin 17) : BitVec 32 := BitVec.ofNat 32 n.1

/-- The main loop makes three trips for every non-empty group. -/
theorem trips2 : ∀ n : Fin 17, (k0_t2_loop (wd n)).trips = 3 * n.1 := by decide +kernel
/-- A trip starts a copy when a task three further exists. -/
theorem cond4_iff : ∀ n : Fin 17, ∀ t : Fin (k0_t2_loop (wd n)).trips, (k0_cond4 (wd n) t = 1#1 ↔ t.1 + 3 < 3 * n.1) := by decide +kernel
/-- The addresses of a trip, by numbers, one theorem for each. -/
theorem off25_eq : ∀ n : Fin 17, ∀ t : Fin (k0_t2_loop (wd n)).trips, k0_off25 (wd n) t = ![(t.1 + 3) / 3] := by decide +kernel
theorem off26_eq : ∀ n : Fin 17, ∀ t : Fin (k0_t2_loop (wd n)).trips, k0_off26 (wd n) t = ![(t.1 + 3) % 4] := by decide +kernel
theorem off27_eq : ∀ n : Fin 17, ∀ t : Fin (k0_t2_loop (wd n)).trips, k0_off27 (wd n) t = ![(t.1 + 3) % 4, 0, 0] := by decide +kernel
theorem off28_col : ∀ n : Fin 17, ∀ t : Fin (k0_t2_loop (wd n)).trips, k0_off28 (wd n) t 0#32 2 = (t.1 + 3) % 3 * 2048 := by decide +kernel
theorem off32_eq : ∀ n : Fin 17, ∀ t : Fin (k0_t2_loop (wd n)).trips, k0_off32 (wd n) t = ![t.1 / 3] := by decide +kernel
theorem off33_eq : ∀ n : Fin 17, ∀ t : Fin (k0_t2_loop (wd n)).trips, k0_off33 (wd n) t = ![t.1 % 4] := by decide +kernel
theorem off34_eq : ∀ n : Fin 17, ∀ t : Fin (k0_t2_loop (wd n)).trips, k0_off34 (wd n) t = ![t.1 % 4, 0, 0] := by decide +kernel
theorem off37_eq : ∀ n : Fin 17, ∀ t : Fin (k0_t2_loop (wd n)).trips, k0_off37 (wd n) t = ![t.1 % 4, 0, 0] := by decide +kernel
theorem off39_eq : ∀ n : Fin 17, ∀ t : Fin (k0_t2_loop (wd n)).trips, k0_off39 (wd n) t = ![t.1 / 3] := by decide +kernel
theorem off40_eq : ∀ n : Fin 17, ∀ t : Fin (k0_t2_loop (wd n)).trips, k0_off40 (wd n) t = ![t.1 / 3 + 1] := by decide +kernel
theorem v640_eq : ∀ n : Fin 17, ∀ t : Fin (k0_t2_loop (wd n)).trips, Scalar.remsi (Scf.iv 0#32 1#32 t) 4#32 = BitVec.ofNat 32 (t.1 % 4) := by decide +kernel
theorem v644_eq : ∀ n : Fin 17, ∀ t : Fin (k0_t2_loop (wd n)).trips,
    Scalar.muli (Scalar.remsi (Scf.iv 0#32 1#32 t) 3#32) 2048#32 = BitVec.ofNat 32 (t.1 % 3 * 2048) := by decide +kernel

theorem off28_eq (n : Fin 17) (t : Fin (k0_t2_loop (wd n)).trips) (w : BitVec 32) :
    k0_off28 (wd n) t w = ![w.toNat, 0, (t.1 + 3) % 3 * 2048] := by
  rw [← off28_col n t]; rfl

end Cert.Proof.KernelIdeal

end
-- ==== Proof.KI.Checks.lean ====
module
public import proofs.«01_k».proof.Proof.Gen.KernelIdeal
public import Idealize.ShloMosaic.Lib.Tactic
public import Idealize.ShloMosaic.Lib.WordCmp
public import Idealize.ShloMosaic.Lib.Tactic.Disch
meta import Idealize.ShloMosaic.Lib.Tactic.Disch
@[expose] public section

set_option maxRecDepth 100000

/-! The kernel's side conditions: every access of the body is in bounds as soon as the number of active experts is at
most sixteen, and the experts read are experts. -/

namespace Cert.Proof.KernelIdeal

open Cert.KernelIdeal Cert.KernelIdeal.Gen
open Idealize.ShloMosaic Idealize.ShloMosaic.TcCoe Idealize.ShloMosaic.Tactic

/-- The side conditions the program states of its addresses hold for any count of groups up to 16; the theorems below take them one by one. -/
theorem chk1_all : ∀ n : Fin 17, k0_chk1 (BitVec.ofNat 32 n.1) := by decide +kernel

theorem chk2_0_all : ∀ n : Fin 17, k0_chk2_0 (BitVec.ofNat 32 n.1) := by decide +kernel

theorem chk2_1_of (v : BitVec 32) (h : 0 ≤ v.toInt ∧ v.toInt ≤ 16) : k0_chk2_1 v := by sl_disch

theorem chk2_2_of (v : BitVec 32) (h : 0 ≤ v.toInt ∧ v.toInt ≤ 16) : k0_chk2_2 v := by sl_disch

theorem chk2_3_of (v : BitVec 32) (h : 0 ≤ v.toInt ∧ v.toInt ≤ 16) : k0_chk2_3 v := by sl_disch

theorem chk2_4_all : ∀ n : Fin 17, k0_chk2_4 (BitVec.ofNat 32 n.1) := by decide +kernel

theorem chk2_5_all : ∀ n : Fin 17, k0_chk2_5 (BitVec.ofNat 32 n.1) := by decide +kernel

theorem chk2_6_all : ∀ n : Fin 17, k0_chk2_6 (BitVec.ofNat 32 n.1) := by decide +kernel

theorem chk2_7_all : ∀ n : Fin 17, k0_chk2_7 (BitVec.ofNat 32 n.1) := by decide +kernel

theorem chk2_8_all : ∀ n : Fin 17, k0_chk2_8 (BitVec.ofNat 32 n.1) := by decide +kernel

theorem chk2_9_all : ∀ n : Fin 17, k0_chk2_9 (BitVec.ofNat 32 n.1) := by decide +kernel

theorem chk2_10_all : ∀ n : Fin 17, k0_chk2_10 (BitVec.ofNat 32 n.1) := by decide +kernel

/-- A count of at most 16 reads the same as a signed number. -/
theorem toInt_small (n : Fin 17) : 0 ≤ (BitVec.ofNat 32 n.1).toInt ∧ (BitVec.ofNat 32 n.1).toInt ≤ 16 := by
  revert n; decide +kernel

/-- The conditions on the count of active experts. -/
theorem chk2_of (n : Fin 17) : k0_chk2 (BitVec.ofNat 32 n.1) :=
  ⟨chk2_0_all n, chk2_1_of _ (toInt_small n), chk2_2_of _ (toInt_small n), chk2_3_of _ (toInt_small n), chk2_4_all n, chk2_5_all n, chk2_6_all n, chk2_7_all n, chk2_8_all n, chk2_9_all n, chk2_10_all n⟩

theorem chk3_of (v w : BitVec 32) (h : 0 ≤ v.toInt ∧ v.toInt ≤ 16) (h' : 0 ≤ w.toInt ∧ w.toInt ≤ 15) :
    k0_chk3 v w := by sl_disch

theorem chk4_of (v w : BitVec 32) (h : 0 ≤ v.toInt ∧ v.toInt ≤ 16) (h' : 0 ≤ w.toInt ∧ w.toInt ≤ 15) :
    k0_chk4 v w := by sl_disch

theorem chk5_of (v w : BitVec 32) (h : 0 ≤ v.toInt ∧ v.toInt ≤ 16) (h' : 0 ≤ w.toInt ∧ w.toInt ≤ 15) :
    k0_chk5 v w := by sl_disch

theorem chk6_of (v w : BitVec 32) (t : Fin (k0_t2_loop v).trips) (h : 0 ≤ v.toInt ∧ v.toInt ≤ 16)
    (h' : 0 ≤ w.toInt ∧ w.toInt ≤ 15) : k0_chk6 v t w := by sl_disch

theorem chk7_of (v w : BitVec 32) (t : Fin (k0_t2_loop v).trips) (h : 0 ≤ v.toInt ∧ v.toInt ≤ 16)
    (h' : 0 ≤ w.toInt ∧ w.toInt ≤ 15) : k0_chk7 v t w := by sl_disch

end Cert.Proof.KernelIdeal
-- ==== Proof.KI.Part1.lean ====
module

public import proofs.«01_k».proof.Proof.KI.Base
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The first part of a trip: the copies of the block three trips on are issued, and the trip's own block awaited. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

/-- With a block still to fetch: its copies are issued into the slot three on, the trip's own block awaited. -/
theorem part1_issue (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (v v4 : BitVec 32) (hw : k0_chk2 v)
    (t : Fin (k0_t2_loop v).trips) (c : Dev nD) (q q' : PosShare TreeShare) (W2 : Cts F B2 c) (W3 : Cts F B3 c)
    (X12 : Cts F B12 c) (X13 : Cts F B13 c) (W : Waits sig Unit) (hc : k0_cond4 v t = 1#1)
    (o : Fin 3 → Nat) (o8 : ∀ a, o a + S1x768x2048.size a ≤ S16x768x6144.size a)
    (o9 : ∀ a, o a + S1x12x2048.size a ≤ S16x12x6144.size a)
    (h6 : k0_chk6 v t (ldw12 c X12 (k0_off25 v t) (k0_off25_inb v hw t hc)))
    (h7 : k0_chk7 v t (ldw12 c X12 (k0_off32 v t) (k0_off32_inb v hw t)))
    (Q : (Σ' (v640 : BitVec 32) (v644 : BitVec 32) (v669 : IVec S64x1 32) (v673 : IVec S64x1 1), Elt F .i32) → sProp 𝕄) :
        iprop(FreeO c q W2 W3 (k0_off26 v t) (k0_off26_inb v hw t hc) (k0_off27 v t) (k0_off27_inb v hw t hc) (k0_off30_inb v hw t hc)
            ∗ PendO c q' W2 W3 (k0_off33 v t) (k0_off33_inb v hw t) (k0_off34 v t) (k0_off34_inb v hw t) (k0_off37_inb v hw t) o o8 o9
            ∗ (B12.view.loc (c : Thread nD τ) ↦[B12.view.set]{fullShare} X12)
            ∗ (B13.view.loc (c : Thread nD τ) ↦[B13.view.set]{fullShare} X13)
            ∗ owes (c : Thread nD τ) 0 W
            ∗ (iprop(PendO c q W2 W3 (k0_off26 v t) (k0_off26_inb v hw t hc) (k0_off27 v t) (k0_off27_inb v hw t hc) (k0_off30_inb v hw t hc)
                (k0_off28 v t (ldw12 c X12 (k0_off25 v t) (k0_off25_inb v hw t hc)))
                (k0_off28_inb v t _ h6 hc) (k0_off31_inb v t _ h6 hc)
            ∗ DoneO c q' W2 W3 (k0_off33 v t) (k0_off33_inb v hw t) (k0_off34 v t) (k0_off34_inb v hw t) (k0_off37_inb v hw t) o o8 o9
            ∗ (B12.view.loc (c : Thread nD τ) ↦[B12.view.set]{fullShare} X12)
            ∗ (B13.view.loc (c : Thread nD τ) ↦[B13.view.set]{fullShare} X13)
            ∗ (∃ W', owes (c : Thread nD τ) 0 W')) -∗
              Q ⟨Scalar.remsi (Scf.iv 0#32 1#32 t) 4#32, Scalar.muli (Scalar.remsi (Scf.iv 0#32 1#32 t) 3#32) 2048#32,
                iota .tc S64x1 32 [0] iota_S64x1_d0_w32, k0_pay5 (F := F) (ldw13 c X13 (k0_off39 v t) (k0_off39_inb v hw t)),
                ldw13 c X13 (k0_off40 v t) (k0_off40_inb v hw t)⟩))
          ⊢ wp frame (wpE (defs₀ (F := F)) Variants.none c none) Set.univ
              (k0_part1 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v hw v4 0#32 1#32 t) Q := by
    rw [k0_part1_eq_skeleton]
    unfold k0_part1_skel FreeO PendO
    iintro ⟨⟨Hc8, Hc9, ⟨%f8, Hs8⟩, ⟨%f9, Hs9⟩, Ht8, Ht9⟩, ⟨⟨⟨%g8, Hf8⟩, Hr8⟩, ⟨⟨%g9, Hf9⟩, Hr9⟩⟩, H12, H13, HO, Hk⟩
    sl_exec (disch := first | exact h6 | exact h7)
    sl_step
    delta part1_issue.sl.v640 part1_issue.sl.v643 part1_issue.sl.v669 part1_issue.sl.r_2 part1_issue.sl.r_3
    delta part1_issue.sl.v642
    delta part1_issue.sl.arg14
    iapply Hk
    unfold DoneO
    isplitl [Hc8 Ht8 Hc9 Ht9]
    · isplitl [Hc8 Ht8]
      · isplitl [Hc8]
        · iexists f8; iexact Hc8
        · iexact Ht8
      · isplitl [Hc9]
        · iexists f9; iexact Hc9
        · iexact Ht9
    isplitl [Hf8 Hf9 Hf8_dst Hf9_dst Hr8 Hr9]
    · isplitl [Hf8]; · iexact Hf8
      isplitl [Hf9]; · iexact Hf9
      isplitl [Hf8_dst]; · iexists g8; iexact Hf8_dst
      isplitl [Hf9_dst]; · iexists g9; iexact Hf9_dst
      isplitl [Hr8]; · iexact Hr8
      iexact Hr9
    isplitl [H12]; · iexact H12
    isplitl [H13]; · iexact H13
    iexists _; iexact HO

/-- With nothing left to fetch: the trip's own block awaited. -/
theorem part1_last (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (v v4 : BitVec 32) (hw : k0_chk2 v)
    (t : Fin (k0_t2_loop v).trips) (c : Dev nD) (q q' : PosShare TreeShare) (W2 : Cts F B2 c) (W3 : Cts F B3 c)
    (X12 : Cts F B12 c) (X13 : Cts F B13 c) (W : Waits sig Unit) (hc : ¬ k0_cond4 v t = 1#1)
    (o : Fin 3 → Nat) (o8 : ∀ a, o a + S1x768x2048.size a ≤ S16x768x6144.size a)
    (o9 : ∀ a, o a + S1x12x2048.size a ≤ S16x12x6144.size a)
    (h7 : k0_chk7 v t (ldw12 c X12 (k0_off32 v t) (k0_off32_inb v hw t)))
    (Q : (Σ' (v640 : BitVec 32) (v644 : BitVec 32) (v669 : IVec S64x1 32) (v673 : IVec S64x1 1), Elt F .i32) → sProp 𝕄) :
        iprop(PendO c q' W2 W3 (k0_off33 v t) (k0_off33_inb v hw t) (k0_off34 v t) (k0_off34_inb v hw t) (k0_off37_inb v hw t) o o8 o9
            ∗ (B12.view.loc (c : Thread nD τ) ↦[B12.view.set]{fullShare} X12)
            ∗ (B13.view.loc (c : Thread nD τ) ↦[B13.view.set]{fullShare} X13)
            ∗ owes (c : Thread nD τ) 0 W
            ∗ (iprop(DoneO c q' W2 W3 (k0_off33 v t) (k0_off33_inb v hw t) (k0_off34 v t) (k0_off34_inb v hw t) (k0_off37_inb v hw t) o o8 o9
            ∗ (B12.view.loc (c : Thread nD τ) ↦[B12.view.set]{fullShare} X12)
            ∗ (B13.view.loc (c : Thread nD τ) ↦[B13.view.set]{fullShare} X13)
            ∗ (∃ W', owes (c : Thread nD τ) 0 W')) -∗
              Q ⟨Scalar.remsi (Scf.iv 0#32 1#32 t) 4#32, Scalar.muli (Scalar.remsi (Scf.iv 0#32 1#32 t) 3#32) 2048#32,
                iota .tc S64x1 32 [0] iota_S64x1_d0_w32, k0_pay5 (F := F) (ldw13 c X13 (k0_off39 v t) (k0_off39_inb v hw t)),
                ldw13 c X13 (k0_off40 v t) (k0_off40_inb v hw t)⟩))
          ⊢ wp frame (wpE (defs₀ (F := F)) Variants.none c none) Set.univ
              (k0_part1 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v hw v4 0#32 1#32 t) Q := by
    rw [k0_part1_eq_skeleton]
    unfold k0_part1_skel PendO
    iintro ⟨⟨⟨⟨%g8, Hf8⟩, Hr8⟩, ⟨⟨%g9, Hf9⟩, Hr9⟩⟩, H12, H13, HO, Hk⟩
    sl_exec (disch := exact h7)
    sl_step
    delta part1_last.sl.v640 part1_last.sl.v643 part1_last.sl.v669 part1_last.sl.r_1 part1_last.sl.r_2
    delta part1_last.sl.v642
    delta part1_last.sl.arg14
    iapply Hk
    unfold DoneO
    isplitl [Hf8 Hf9 Hf8_dst Hf9_dst Hr8 Hr9]
    · isplitl [Hf8]; · iexact Hf8
      isplitl [Hf9]; · iexact Hf9
      isplitl [Hf8_dst]; · iexists g8; iexact Hf8_dst
      isplitl [Hf9_dst]; · iexists g9; iexact Hf9_dst
      isplitl [Hr8]; · iexact Hr8
      iexact Hr9
    isplitl [H12]; · iexact H12
    isplitl [H13]; · iexact H13
    iexists _; iexact HO

end Cert.Proof.KernelIdeal

end
-- ==== Proof.KI.Trip.lean ====
module

public import proofs.«01_k».proof.Proof.KI.Base
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! One trip of the main loop, after its copies have been awaited: 48 blocks of products, and the eight stores into the accumulator. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

/-- The trip's part after its copies have been awaited, from the three values the first part leaves. -/
def restA (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (v1_0 : BitVec 32) (k0_hw2 : k0_chk2 v1_0)
    (k0_t2 : Fin (k0_t2_loop v1_0).trips) (v640 v644 : BitVec 32) (v669 : IVec S64x1 32) (v673 : IVec S64x1 1) (v676 : Elt F .i32) :
    Prog (TpuEff nD τ sig (Elt F) Λ₀ .tc) (Σ' (v644 : BitVec 32) (v679 : IVec S64x1 1) (v2480 : FVec F S64x256 .f32) (v2497 : FVec F S256x256 .bf16), FVec F S128x256 .bf16) := do
  let ⟨v679, v715, v719, v720⟩ : Σ' (v679 : IVec S64x1 1) (v715 : FVec F S64x256 .f32) (v719 : IVec S128x256 32), IVec S128x256 32 ← k0_part2 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v669 v673 v676
  let ⟨v752, v760, v764⟩ : Σ' (v752 : FVec F S64x256 .f32) (v760 : IVec S128x256 32), IVec S128x256 32 ← k0_part3 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v715 v719 v720
  let ⟨v789, v806, v809⟩ : Σ' (v789 : FVec F S64x256 .f32) (v806 : FVec F S256x256 .bf16), FVec F S1x256 .f32 ← k0_part4 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v752 v760 v764
  let ⟨v826, v843, v851, v854⟩ : Σ' (v826 : FVec F S64x256 .f32) (v843 : FVec F S256x256 .bf16) (v851 : FVec F S128x256 .bf16), FVec F S1x256 .f32 ← k0_part5 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v789 v806 v809
  let ⟨v863, v897, v898, cst_327⟩ : Σ' (v863 : FVec F S64x256 .f32) (v897 : FVec F S256x256 .bf16) (v898 : Vec F S64x256 .bf16), FVec F S64x256 .f32 ← k0_part6 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v826 v843 v851 v854
  let v944 : FVec F S256x256 .bf16 ← k0_part7 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v863 v897 v898 cst_327
  let ⟨v983, v986⟩ : Σ' (v983 : FVec F S64x256 .f32), IVec S128x256 8 ← k0_part8 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v944
  let ⟨v1020, v1028, v1030⟩ : Σ' (v1020 : FVec F S64x256 .f32) (v1028 : IVec S128x256 32), IVec S128x256 32 ← k0_part9 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v983 v986
  let ⟨v1057, v1074⟩ : Σ' (v1057 : FVec F S64x256 .f32), FVec F S256x256 .bf16 ← k0_part10 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1020 v1028 v1030
  let ⟨v1094, v1111, v1119⟩ : Σ' (v1094 : FVec F S64x256 .f32) (v1111 : FVec F S256x256 .bf16), FVec F S128x256 .bf16 ← k0_part11 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1057 v1074
  let ⟨v1158, v1163, v1164⟩ : Σ' (v1158 : FVec F S256x256 .bf16) (v1163 : FVec F S128x256 .f32), FVec F S128x256 .bf16 ← k0_part12 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v1094 v1111 v1119
  let ⟨v1177, v1202, v1208, v1209⟩ : Σ' (v1177 : FVec F S64x256 .f32) (v1202 : FVec F S128x256 .bf16) (v1208 : FVec F S128x256 .bf16), FVec F S128x256 .bf16 ← k0_part13 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1158 v1163 v1164
  let v1251 : FVec F S64x256 .f32 ← k0_part14 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1177 v1202 v1208 v1209
  let ⟨v1288, v1292, v1296⟩ : Σ' (v1288 : FVec F S64x256 .f32) (v1292 : IVec S128x256 32), IVec S128x256 32 ← k0_part15 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1251
  let ⟨v1325, v1341⟩ : Σ' (v1325 : FVec F S64x256 .f32), IVec S256x256 32 ← k0_part16 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1288 v1292 v1296
  let ⟨v1380, v1384⟩ : Σ' (v1380 : IVec S128x256 32), IVec S128x256 32 ← k0_part17 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v1325 v1341
  let ⟨v1408, v1425, v1429⟩ : Σ' (v1408 : FVec F S64x256 .f32) (v1425 : FVec F S256x256 .bf16), FVec F S1x256 .f32 ← k0_part18 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1380 v1384
  let ⟨v1445, v1462, v1470, v1474⟩ : Σ' (v1445 : FVec F S64x256 .f32) (v1462 : FVec F S256x256 .bf16) (v1470 : FVec F S128x256 .bf16), FVec F S1x256 .f32 ← k0_part19 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1408 v1425 v1429
  let ⟨v1482, v1518⟩ : Σ' (v1482 : FVec F S64x256 .f32), FVec F S64x256 .f32 ← k0_part20 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1445 v1462 v1470 v1474
  let ⟨v1556, v1560, v1562⟩ : Σ' (v1556 : FVec F S64x256 .f32) (v1560 : IVec S128x256 32), IVec S128x256 32 ← k0_part21 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1482 v1518
  let v1606 : IVec S128x256 8 ← k0_part22 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v1556 v1560 v1562
  let ⟨v1639, v1647, v1649, c28_i32_589⟩ : Σ' (v1639 : FVec F S64x256 .f32) (v1647 : IVec S128x256 32) (v1649 : IVec S128x256 32), BitVec 32 ← k0_part23 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1606
  let ⟨v1676, v1693⟩ : Σ' (v1676 : FVec F S64x256 .f32), FVec F S256x256 .bf16 ← k0_part24 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1639 v1647 v1649 c28_i32_589
  let ⟨v1713, v1730, v1738⟩ : Σ' (v1713 : FVec F S64x256 .f32) (v1730 : FVec F S256x256 .bf16), FVec F S128x256 .bf16 ← k0_part25 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1676 v1693
  let ⟨v1750, v1784⟩ : Σ' (v1750 : FVec F S64x256 .f32), FVec F S256x256 .bf16 ← k0_part26 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1713 v1730 v1738
  let ⟨v1824, v1825, v1827, v1828⟩ : Σ' (v1824 : FVec F S64x256 .f32) (v1825 : BitVec 32) (v1827 : Vec F S64x256 .f32), IVec S64x1 1 ← k0_part27 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v1750 v1784
  let v1870 : FVec F S64x256 .f32 ← k0_part28 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1824 v1825 v1827 v1828
  let ⟨v1907, v1911, v1915, c24_i32_681⟩ : Σ' (v1907 : FVec F S64x256 .f32) (v1911 : IVec S128x256 32) (v1915 : IVec S128x256 32), BitVec 32 ← k0_part29 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1870
  let ⟨v1944, v1961⟩ : Σ' (v1944 : FVec F S64x256 .f32), FVec F S256x256 .bf16 ← k0_part30 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1907 v1911 v1915 c24_i32_681
  let ⟨v1981, v1998, v2006⟩ : Σ' (v1981 : FVec F S64x256 .f32) (v1998 : FVec F S256x256 .bf16), FVec F S128x256 .bf16 ← k0_part31 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1944 v1961
  let ⟨v2018, v2043, v2051⟩ : Σ' (v2018 : FVec F S64x256 .f32) (v2043 : FVec F S128x256 .bf16), FVec F S128x256 .bf16 ← k0_part32 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v1981 v1998 v2006
  let ⟨v2082, v2090, v2094⟩ : Σ' (v2082 : FVec F S256x256 .bf16) (v2090 : FVec F S128x256 .bf16), FVec F S1x256 .f32 ← k0_part33 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v2018 v2043 v2051
  let v2138 : FVec F S64x256 .f32 ← k0_part34 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2082 v2090 v2094
  let ⟨v2175, v2179, v2181, c28_i32_772⟩ : Σ' (v2175 : FVec F S64x256 .f32) (v2179 : IVec S128x256 32) (v2181 : IVec S128x256 32), BitVec 32 ← k0_part35 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2138
  let ⟨v2212, v2225, v2226⟩ : Σ' (v2212 : FVec F S64x256 .f32) (v2225 : IVec S128x1x256 32), IVec S128x1x256 32 ← k0_part36 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2175 v2179 v2181 c28_i32_772
  let ⟨v2249, v2266, v2271⟩ : Σ' (v2249 : FVec F S64x256 .f32) (v2266 : FVec F S256x256 .bf16), FVec F S128x256 .f32 ← k0_part37 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2212 v2225 v2226
  let v2313 : FVec F S256x256 .bf16 ← k0_part38 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v644 v679 v2249 v2266 v2271
  let ⟨v2332, v2349, v2357, v2359⟩ : Σ' (v2332 : FVec F S64x256 .f32) (v2349 : FVec F S256x256 .bf16) (v2357 : FVec F S128x256 .bf16), Vec F S1x1x256 .f32 ← k0_part39 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2313
  let ⟨v2369, v2403, v2404⟩ : Σ' (v2369 : FVec F S64x256 .f32) (v2403 : FVec F S256x256 .bf16), Vec F S64x256 .bf16 ← k0_part40 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2332 v2349 v2357 v2359
  let ⟨v2443, v2447, c28_i32_863⟩ : Σ' (v2443 : FVec F S64x256 .f32) (v2447 : IVec S128x256 32), BitVec 32 ← k0_part41 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2369 v2403 v2404
  let ⟨v2480, v2488, v2490, v2491⟩ : Σ' (v2480 : FVec F S64x256 .f32) (v2488 : IVec S128x256 32) (v2490 : IVec S128x256 32), IVec S128x256 32 ← k0_part42 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 k0_t2 v640 v2443 v2447 c28_i32_863
  let v2499 : Vec F S1x1x256 .f32 ← Prog.lift (.load B9 (Rect.unit (s := S4x12x2048) (k0_off184 v1_0 k0_t2) S1x1x256.size (k0_off184_inb v1_0 k0_hw2 k0_t2)).toLoadRect (View.loadsAt_vmem h_S1x1x256))
  pure ⟨v644, v679, v2480, k0_pay125 (F := F) v2488 v2490 v2491, k0_pay126 v2488 v2490 v2491 v2499⟩

def restB (v1_0 : BitVec 32) (k0_hw2 : k0_chk2 v1_0) (k0_t2 : Fin (k0_t2_loop v1_0).trips) :
    (Σ' (v644 : BitVec 32) (v679 : IVec S64x1 1) (v2480 : FVec F S64x256 .f32) (v2497 : FVec F S256x256 .bf16), FVec F S128x256 .bf16) → Prog (TpuEff nD τ sig (Elt F) Λ₀ .tc) (BitVec 32) := fun ⟨v644, v679, v2480, v2497, v2505⟩ => do
  let v2507 : Vec F S1x1x256 .f32 ← Prog.lift (.load B9 (Rect.unit (s := S4x12x2048) (k0_off185 v1_0 k0_t2) S1x1x256.size (k0_off185_inb v1_0 k0_hw2 k0_t2)).toLoadRect (View.loadsAt_vmem h_S1x1x256))
  let v2515 : Vec F S64x256 .bf16 ← Prog.lift (.load B5 (Rect.unit (s := S64x1536) ![0, 1280] S64x256.size inb_S64x1536_S64x256_0_1280).toLoadRect (View.loadsAt_vmem h_S64x256))
  let v2520 : Vec F S64x256 .f32 ← Prog.lift (.load B7 (Rect.unit (s := S64x6144) (k0_off59 v1_0 k0_t2 1792#32) S64x256.size (k0_off59_inb v1_0 k0_hw2 k0_t2 7)).toLoadRect (View.loadsAt_vmem h_S64x256))
  let v2525 : Vec F S64x256 .f32 ← Prog.lift (.load B7 (Rect.unit (s := S64x6144) (k0_off59 v1_0 k0_t2 1792#32) S64x256.size (k0_off59_inb v1_0 k0_hw2 k0_t2 7)).toLoadRect (View.loadsAt_vmem h_S64x256))
  Prog.lift (.store B7 (Rect.unit (s := S64x6144) (k0_off59 v1_0 k0_t2 1792#32) S64x256.size (k0_off59_inb v1_0 k0_hw2 k0_t2 7)) (k0_pay2 v679 v2480 v2497 v2505 v2507 v2515 v2520) Finset.univ (View.stores_vmem_bits_univ h_S64x256 rfl) (.inl rfl))
  pure 0#32

theorem body_split (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (v : BitVec 32) (hw : k0_chk2 v) (v4 : BitVec 32)
    (t : Fin (k0_t2_loop v).trips) (a : BitVec 32) :
    k0_t2_body (F := F) arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v hw v4 t a =
      ((k0_part1 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v hw v4 0#32 1#32 t >>= fun r => restA arg0 harg0 arg1 harg1 arg4 harg4 v hw t r.1 r.2.1 r.2.2.1 r.2.2.2.1 r.2.2.2.2)
        >>= restB v hw t) := by
  unfold k0_t2_body
  rw [k0_part43_eq_skeleton]
  rfl

/-- What the trip leaves in the accumulator, as pieces over what it held; and the run that finds them. -/
def rest_run (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (v : BitVec 32) (hw : k0_chk2 v)
    (t : Fin (k0_t2_loop v).trips) (c : Dev nD) (v640 v644 : BitVec 32) (v669 : IVec S64x1 32) (v673 : IVec S64x1 1) (v676 : Elt F .i32)
    (w : Cts F B8 c) (s : Cts F B9 c) (xs : Cts F B5 c) (a : Cts F B7 c) :
    { L : List (View.Piece (Elt F) S64x6144 .f32) //
      ∀ (Q : BitVec 32 → sProp 𝕄),
        iprop(((slot8 (k0_off34 v t) (k0_off34_inb v hw t)).view.loc (c : Thread nD τ) ↦[(slot8 (k0_off34 v t) (k0_off34_inb v hw t)).view.set]{fullShare} w)
            ∗ ((slot9 (k0_off37 v t) (k0_off37_inb v hw t)).view.loc (c : Thread nD τ) ↦[(slot9 (k0_off37 v t) (k0_off37_inb v hw t)).view.set]{fullShare} s)
            ∗ (B5.view.loc (c : Thread nD τ) ↦[B5.view.set]{fullShare} xs)
            ∗ (B7.view.loc (c : Thread nD τ) ↦[B7.view.set]{fullShare} a)
            ∗ (iprop(((slot8 (k0_off34 v t) (k0_off34_inb v hw t)).view.loc (c : Thread nD τ) ↦[(slot8 (k0_off34 v t) (k0_off34_inb v hw t)).view.set]{fullShare} w)
              ∗ ((slot9 (k0_off37 v t) (k0_off37_inb v hw t)).view.loc (c : Thread nD τ) ↦[(slot9 (k0_off37 v t) (k0_off37_inb v hw t)).view.set]{fullShare} s)
              ∗ (B5.view.loc (c : Thread nD τ) ↦[B5.view.set]{fullShare} xs)
              ∗ (B7.view.loc (c : Thread nD τ) ↦[B7.view.set]{fullShare} B7.view.writes (Elt F) a L)) -∗ Q 0#32))
          ⊢ wp frame (wpE (defs₀ (F := F)) Variants.none c none) Set.univ
              (restA arg0 harg0 arg1 harg1 arg4 harg4 v hw t v640 v644 v669 v673 v676 >>= restB v hw t) Q } := by
  refine ⟨?_, fun Q => ?run⟩
  case run =>
    have h8_41 := incl8 _ _ (k0_off41_inb v hw t) (k0_off34_inb v hw t) rfl rfl rfl
    have h8_44 := incl8 _ _ (k0_off44_inb v hw t) (k0_off34_inb v hw t) rfl rfl rfl
    have h8_47 := incl8 _ _ (k0_off47_inb v hw t) (k0_off34_inb v hw t) rfl rfl rfl
    have h8_50 := incl8 _ _ (k0_off50_inb v hw t) (k0_off34_inb v hw t) rfl rfl rfl
    have h8_53 := incl8 _ _ (k0_off53_inb v hw t) (k0_off34_inb v hw t) rfl rfl rfl
    have h8_56 := incl8 _ _ (k0_off56_inb v hw t) (k0_off34_inb v hw t) rfl rfl rfl
    have h8_60 := incl8 _ _ (k0_off60_inb v hw t) (k0_off34_inb v hw t) rfl rfl rfl
    have h8_63 := incl8 _ _ (k0_off63_inb v hw t) (k0_off34_inb v hw t) rfl rfl rfl
    have h8_66 := incl8 _ _ (k0_off66_inb v hw t) (k0_off34_inb v hw t) rfl rfl rfl
    have h8_69 := incl8 _ _ (k0_off69_inb v hw t) (k0_off34_inb v hw t) rfl rfl rfl
    have h8_72 := incl8 _ _ (k0_off72_inb v hw t) (k0_off34_inb v hw t) rfl rfl rfl
    have h8_75 := incl8 _ _ (k0_off75_inb v hw t) (k0_off34_inb v hw t) rfl rfl rfl
    have h8_78 := incl8 _ _ (k0_off78_inb v hw t) (k0_off34_inb v hw t) rfl rfl rfl
    have h8_81 := incl8 _ _ (k0_off81_inb v hw t) (k0_off34_inb v hw t) rfl rfl rfl
    have h8_84 := incl8 _ _ (k0_off84_inb v hw t) (k0_off34_inb v hw t) rfl rfl rfl
    have h8_87 := incl8 _ _ (k0_off87_inb v hw t) (k0_off34_inb v hw t) rfl rfl rfl
    have h8_90 := incl8 _ _ (k0_off90_inb v hw t) (k0_off34_inb v hw t) rfl rfl rfl
    have h8_93 := incl8 _ _ (k0_off93_inb v hw t) (k0_off34_inb v hw t) rfl rfl rfl
    have h8_96 := incl8 _ _ (k0_off96_inb v hw t) (k0_off34_inb v hw t) rfl rfl rfl
    have h8_99 := incl8 _ _ (k0_off99_inb v hw t) (k0_off34_inb v hw t) rfl rfl rfl
    have h8_102 := incl8 _ _ (k0_off102_inb v hw t) (k0_off34_inb v hw t) rfl rfl rfl
    have h8_105 := incl8 _ _ (k0_off105_inb v hw t) (k0_off34_inb v hw t) rfl rfl rfl
    have h8_108 := incl8 _ _ (k0_off108_inb v hw t) (k0_off34_inb v hw t) rfl rfl rfl
    have h8_111 := incl8 _ _ (k0_off111_inb v hw t) (k0_off34_inb v hw t) rfl rfl rfl
    have h8_114 := incl8 _ _ (k0_off114_inb v hw t) (k0_off34_inb v hw t) rfl rfl rfl
    have h8_117 := incl8 _ _ (k0_off117_inb v hw t) (k0_off34_inb v hw t) rfl rfl rfl
    have h8_120 := incl8 _ _ (k0_off120_inb v hw t) (k0_off34_inb v hw t) rfl rfl rfl
    have h8_123 := incl8 _ _ (k0_off123_inb v hw t) (k0_off34_inb v hw t) rfl rfl rfl
    have h8_126 := incl8 _ _ (k0_off126_inb v hw t) (k0_off34_inb v hw t) rfl rfl rfl
    have h8_129 := incl8 _ _ (k0_off129_inb v hw t) (k0_off34_inb v hw t) rfl rfl rfl
    have h8_132 := incl8 _ _ (k0_off132_inb v hw t) (k0_off34_inb v hw t) rfl rfl rfl
    have h8_135 := incl8 _ _ (k0_off135_inb v hw t) (k0_off34_inb v hw t) rfl rfl rfl
    have h8_138 := incl8 _ _ (k0_off138_inb v hw t) (k0_off34_inb v hw t) rfl rfl rfl
    have h8_141 := incl8 _ _ (k0_off141_inb v hw t) (k0_off34_inb v hw t) rfl rfl rfl
    have h8_144 := incl8 _ _ (k0_off144_inb v hw t) (k0_off34_inb v hw t) rfl rfl rfl
    have h8_147 := incl8 _ _ (k0_off147_inb v hw t) (k0_off34_inb v hw t) rfl rfl rfl
    have h8_150 := incl8 _ _ (k0_off150_inb v hw t) (k0_off34_inb v hw t) rfl rfl rfl
    have h8_153 := incl8 _ _ (k0_off153_inb v hw t) (k0_off34_inb v hw t) rfl rfl rfl
    have h8_156 := incl8 _ _ (k0_off156_inb v hw t) (k0_off34_inb v hw t) rfl rfl rfl
    have h8_159 := incl8 _ _ (k0_off159_inb v hw t) (k0_off34_inb v hw t) rfl rfl rfl
    have h8_162 := incl8 _ _ (k0_off162_inb v hw t) (k0_off34_inb v hw t) rfl rfl rfl
    have h8_165 := incl8 _ _ (k0_off165_inb v hw t) (k0_off34_inb v hw t) rfl rfl rfl
    have h8_168 := incl8 _ _ (k0_off168_inb v hw t) (k0_off34_inb v hw t) rfl rfl rfl
    have h8_171 := incl8 _ _ (k0_off171_inb v hw t) (k0_off34_inb v hw t) rfl rfl rfl
    have h8_174 := incl8 _ _ (k0_off174_inb v hw t) (k0_off34_inb v hw t) rfl rfl rfl
    have h8_177 := incl8 _ _ (k0_off177_inb v hw t) (k0_off34_inb v hw t) rfl rfl rfl
    have h8_180 := incl8 _ _ (k0_off180_inb v hw t) (k0_off34_inb v hw t) rfl rfl rfl
    have h8_183 := incl8 _ _ (k0_off183_inb v hw t) (k0_off34_inb v hw t) rfl rfl rfl
    have h9_42 := incl9 _ _ (k0_off42_inb v hw t) (k0_off37_inb v hw t) rfl rfl rfl
    have h9_43 := incl9 _ _ (k0_off43_inb v hw t) (k0_off37_inb v hw t) rfl rfl rfl
    have h9_45 := incl9 _ _ (k0_off45_inb v hw t) (k0_off37_inb v hw t) rfl rfl rfl
    have h9_46 := incl9 _ _ (k0_off46_inb v hw t) (k0_off37_inb v hw t) rfl rfl rfl
    have h9_48 := incl9 _ _ (k0_off48_inb v hw t) (k0_off37_inb v hw t) rfl rfl rfl
    have h9_49 := incl9 _ _ (k0_off49_inb v hw t) (k0_off37_inb v hw t) rfl rfl rfl
    have h9_51 := incl9 _ _ (k0_off51_inb v hw t) (k0_off37_inb v hw t) rfl rfl rfl
    have h9_52 := incl9 _ _ (k0_off52_inb v hw t) (k0_off37_inb v hw t) rfl rfl rfl
    have h9_54 := incl9 _ _ (k0_off54_inb v hw t) (k0_off37_inb v hw t) rfl rfl rfl
    have h9_55 := incl9 _ _ (k0_off55_inb v hw t) (k0_off37_inb v hw t) rfl rfl rfl
    have h9_57 := incl9 _ _ (k0_off57_inb v hw t) (k0_off37_inb v hw t) rfl rfl rfl
    have h9_58 := incl9 _ _ (k0_off58_inb v hw t) (k0_off37_inb v hw t) rfl rfl rfl
    have h9_61 := incl9 _ _ (k0_off61_inb v hw t) (k0_off37_inb v hw t) rfl rfl rfl
    have h9_62 := incl9 _ _ (k0_off62_inb v hw t) (k0_off37_inb v hw t) rfl rfl rfl
    have h9_64 := incl9 _ _ (k0_off64_inb v hw t) (k0_off37_inb v hw t) rfl rfl rfl
    have h9_65 := incl9 _ _ (k0_off65_inb v hw t) (k0_off37_inb v hw t) rfl rfl rfl
    have h9_67 := incl9 _ _ (k0_off67_inb v hw t) (k0_off37_inb v hw t) rfl rfl rfl
    have h9_68 := incl9 _ _ (k0_off68_inb v hw t) (k0_off37_inb v hw t) rfl rfl rfl
    have h9_70 := incl9 _ _ (k0_off70_inb v hw t) (k0_off37_inb v hw t) rfl rfl rfl
    have h9_71 := incl9 _ _ (k0_off71_inb v hw t) (k0_off37_inb v hw t) rfl rfl rfl
    have h9_73 := incl9 _ _ (k0_off73_inb v hw t) (k0_off37_inb v hw t) rfl rfl rfl
    have h9_74 := incl9 _ _ (k0_off74_inb v hw t) (k0_off37_inb v hw t) rfl rfl rfl
    have h9_76 := incl9 _ _ (k0_off76_inb v hw t) (k0_off37_inb v hw t) rfl rfl rfl
    have h9_77 := incl9 _ _ (k0_off77_inb v hw t) (k0_off37_inb v hw t) rfl rfl rfl
    have h9_79 := incl9 _ _ (k0_off79_inb v hw t) (k0_off37_inb v hw t) rfl rfl rfl
    have h9_80 := incl9 _ _ (k0_off80_inb v hw t) (k0_off37_inb v hw t) rfl rfl rfl
    have h9_82 := incl9 _ _ (k0_off82_inb v hw t) (k0_off37_inb v hw t) rfl rfl rfl
    have h9_83 := incl9 _ _ (k0_off83_inb v hw t) (k0_off37_inb v hw t) rfl rfl rfl
    have h9_85 := incl9 _ _ (k0_off85_inb v hw t) (k0_off37_inb v hw t) rfl rfl rfl
    have h9_86 := incl9 _ _ (k0_off86_inb v hw t) (k0_off37_inb v hw t) rfl rfl rfl
    have h9_88 := incl9 _ _ (k0_off88_inb v hw t) (k0_off37_inb v hw t) rfl rfl rfl
    have h9_89 := incl9 _ _ (k0_off89_inb v hw t) (k0_off37_inb v hw t) rfl rfl rfl
    have h9_91 := incl9 _ _ (k0_off91_inb v hw t) (k0_off37_inb v hw t) rfl rfl rfl
    have h9_92 := incl9 _ _ (k0_off92_inb v hw t) (k0_off37_inb v hw t) rfl rfl rfl
    have h9_94 := incl9 _ _ (k0_off94_inb v hw t) (k0_off37_inb v hw t) rfl rfl rfl
    have h9_95 := incl9 _ _ (k0_off95_inb v hw t) (k0_off37_inb v hw t) rfl rfl rfl
    have h9_97 := incl9 _ _ (k0_off97_inb v hw t) (k0_off37_inb v hw t) rfl rfl rfl
    have h9_98 := incl9 _ _ (k0_off98_inb v hw t) (k0_off37_inb v hw t) rfl rfl rfl
    have h9_100 := incl9 _ _ (k0_off100_inb v hw t) (k0_off37_inb v hw t) rfl rfl rfl
    have h9_101 := incl9 _ _ (k0_off101_inb v hw t) (k0_off37_inb v hw t) rfl rfl rfl
    have h9_103 := incl9 _ _ (k0_off103_inb v hw t) (k0_off37_inb v hw t) rfl rfl rfl
    have h9_104 := incl9 _ _ (k0_off104_inb v hw t) (k0_off37_inb v hw t) rfl rfl rfl
    have h9_106 := incl9 _ _ (k0_off106_inb v hw t) (k0_off37_inb v hw t) rfl rfl rfl
    have h9_107 := incl9 _ _ (k0_off107_inb v hw t) (k0_off37_inb v hw t) rfl rfl rfl
    have h9_109 := incl9 _ _ (k0_off109_inb v hw t) (k0_off37_inb v hw t) rfl rfl rfl
    have h9_110 := incl9 _ _ (k0_off110_inb v hw t) (k0_off37_inb v hw t) rfl rfl rfl
    have h9_112 := incl9 _ _ (k0_off112_inb v hw t) (k0_off37_inb v hw t) rfl rfl rfl
    have h9_113 := incl9 _ _ (k0_off113_inb v hw t) (k0_off37_inb v hw t) rfl rfl rfl
    have h9_115 := incl9 _ _ (k0_off115_inb v hw t) (k0_off37_inb v hw t) rfl rfl rfl
    have h9_116 := incl9 _ _ (k0_off116_inb v hw t) (k0_off37_inb v hw t) rfl rfl rfl
    have h9_118 := incl9 _ _ (k0_off118_inb v hw t) (k0_off37_inb v hw t) rfl rfl rfl
    have h9_119 := incl9 _ _ (k0_off119_inb v hw t) (k0_off37_inb v hw t) rfl rfl rfl
    have h9_121 := incl9 _ _ (k0_off121_inb v hw t) (k0_off37_inb v hw t) rfl rfl rfl
    have h9_122 := incl9 _ _ (k0_off122_inb v hw t) (k0_off37_inb v hw t) rfl rfl rfl
    have h9_124 := incl9 _ _ (k0_off124_inb v hw t) (k0_off37_inb v hw t) rfl rfl rfl
    have h9_125 := incl9 _ _ (k0_off125_inb v hw t) (k0_off37_inb v hw t) rfl rfl rfl
    have h9_127 := incl9 _ _ (k0_off127_inb v hw t) (k0_off37_inb v hw t) rfl rfl rfl
    have h9_128 := incl9 _ _ (k0_off128_inb v hw t) (k0_off37_inb v hw t) rfl rfl rfl
    have h9_130 := incl9 _ _ (k0_off130_inb v hw t) (k0_off37_inb v hw t) rfl rfl rfl
    have h9_131 := incl9 _ _ (k0_off131_inb v hw t) (k0_off37_inb v hw t) rfl rfl rfl
    have h9_133 := incl9 _ _ (k0_off133_inb v hw t) (k0_off37_inb v hw t) rfl rfl rfl
    have h9_134 := incl9 _ _ (k0_off134_inb v hw t) (k0_off37_inb v hw t) rfl rfl rfl
    have h9_136 := incl9 _ _ (k0_off136_inb v hw t) (k0_off37_inb v hw t) rfl rfl rfl
    have h9_137 := incl9 _ _ (k0_off137_inb v hw t) (k0_off37_inb v hw t) rfl rfl rfl
    have h9_139 := incl9 _ _ (k0_off139_inb v hw t) (k0_off37_inb v hw t) rfl rfl rfl
    have h9_140 := incl9 _ _ (k0_off140_inb v hw t) (k0_off37_inb v hw t) rfl rfl rfl
    have h9_142 := incl9 _ _ (k0_off142_inb v hw t) (k0_off37_inb v hw t) rfl rfl rfl
    have h9_143 := incl9 _ _ (k0_off143_inb v hw t) (k0_off37_inb v hw t) rfl rfl rfl
    have h9_145 := incl9 _ _ (k0_off145_inb v hw t) (k0_off37_inb v hw t) rfl rfl rfl
    have h9_146 := incl9 _ _ (k0_off146_inb v hw t) (k0_off37_inb v hw t) rfl rfl rfl
    have h9_148 := incl9 _ _ (k0_off148_inb v hw t) (k0_off37_inb v hw t) rfl rfl rfl
    have h9_149 := incl9 _ _ (k0_off149_inb v hw t) (k0_off37_inb v hw t) rfl rfl rfl
    have h9_151 := incl9 _ _ (k0_off151_inb v hw t) (k0_off37_inb v hw t) rfl rfl rfl
    have h9_152 := incl9 _ _ (k0_off152_inb v hw t) (k0_off37_inb v hw t) rfl rfl rfl
    have h9_154 := incl9 _ _ (k0_off154_inb v hw t) (k0_off37_inb v hw t) rfl rfl rfl
    have h9_155 := incl9 _ _ (k0_off155_inb v hw t) (k0_off37_inb v hw t) rfl rfl rfl
    have h9_157 := incl9 _ _ (k0_off157_inb v hw t) (k0_off37_inb v hw t) rfl rfl rfl
    have h9_158 := incl9 _ _ (k0_off158_inb v hw t) (k0_off37_inb v hw t) rfl rfl rfl
    have h9_160 := incl9 _ _ (k0_off160_inb v hw t) (k0_off37_inb v hw t) rfl rfl rfl
    have h9_161 := incl9 _ _ (k0_off161_inb v hw t) (k0_off37_inb v hw t) rfl rfl rfl
    have h9_163 := incl9 _ _ (k0_off163_inb v hw t) (k0_off37_inb v hw t) rfl rfl rfl
    have h9_164 := incl9 _ _ (k0_off164_inb v hw t) (k0_off37_inb v hw t) rfl rfl rfl
    have h9_166 := incl9 _ _ (k0_off166_inb v hw t) (k0_off37_inb v hw t) rfl rfl rfl
    have h9_167 := incl9 _ _ (k0_off167_inb v hw t) (k0_off37_inb v hw t) rfl rfl rfl
    have h9_169 := incl9 _ _ (k0_off169_inb v hw t) (k0_off37_inb v hw t) rfl rfl rfl
    have h9_170 := incl9 _ _ (k0_off170_inb v hw t) (k0_off37_inb v hw t) rfl rfl rfl
    have h9_172 := incl9 _ _ (k0_off172_inb v hw t) (k0_off37_inb v hw t) rfl rfl rfl
    have h9_173 := incl9 _ _ (k0_off173_inb v hw t) (k0_off37_inb v hw t) rfl rfl rfl
    have h9_175 := incl9 _ _ (k0_off175_inb v hw t) (k0_off37_inb v hw t) rfl rfl rfl
    have h9_176 := incl9 _ _ (k0_off176_inb v hw t) (k0_off37_inb v hw t) rfl rfl rfl
    have h9_178 := incl9 _ _ (k0_off178_inb v hw t) (k0_off37_inb v hw t) rfl rfl rfl
    have h9_179 := incl9 _ _ (k0_off179_inb v hw t) (k0_off37_inb v hw t) rfl rfl rfl
    have h9_181 := incl9 _ _ (k0_off181_inb v hw t) (k0_off37_inb v hw t) rfl rfl rfl
    have h9_182 := incl9 _ _ (k0_off182_inb v hw t) (k0_off37_inb v hw t) rfl rfl rfl
    have h9_184 := incl9 _ _ (k0_off184_inb v hw t) (k0_off37_inb v hw t) rfl rfl rfl
    have h9_185 := incl9 _ _ (k0_off185_inb v hw t) (k0_off37_inb v hw t) rfl rfl rfl
    iintro ⟨H8, H9, H5, H7, Hk⟩
    rw [wp_bind]
    unfold restA
    sl_exec_parts
    sl_step
    iapply Hk
    iframe H8
    iframe H9
    iframe H5
    iexact H7

end Cert.Proof.KernelIdeal

end
-- ==== Proof.KI.Step.lean ====
module

public import proofs.«01_k».proof.Proof.KI.Base
public import proofs.«01_k».proof.Proof.KI.Ring
public import proofs.«01_k».proof.Proof.KI.Offs
public import proofs.«01_k».proof.Proof.KI.Checks
public import proofs.«01_k».proof.Proof.KI.Part1
public import proofs.«01_k».proof.Proof.KI.Trip
public import proofs.«01_k».proof.Proof.Gen.KernelIdeal.Loops
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The main loop: what stands before each trip, and that a trip leads from one to the next. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)

/-- Before trip `k`, the slot of block `j`: under way if the block exists and free if not. -/
def Slot (c : Dev nD) (W2 : Cts F B2 c) (W3 : Cts F B3 c) (n : Fin 17) (ex : ℕ → BitVec 32) (j : ℕ) : sProp 𝕄 :=
  if j < 3 * n.1 then PendM c W2 W3 (ix4' j) (exF (ex (j / 3))) (ix3' j) else FreeM c W2 W3 (ix4' j)

theorem word_inb (j : Fin 17) : ∀ a, (![j.1] : Fin 1 → ℕ) a + S1.size a ≤ S17.size a := by revert j; decide

theorem ldw12_congr {c : Dev nD} {X : Cts F B12 c} {o o' : Fin 1 → Nat} {h h'} (e : o = o') : ldw12 c X o h = ldw12 c X o' h' := by
  subst e; rfl
theorem ldw13_congr {c : Dev nD} {X : Cts F B13 c} {o o' : Fin 1 → Nat} {h h'} (e : o = o') : ldw13 c X o h = ldw13 c X o' h' := by
  subst e; rfl

/-- The two lists of the routing hold, at the places in use, the experts `ex` and the first rows `st`. -/
def Lists (c : Dev nD) (X12 : Cts F B12 c) (X13 : Cts F B13 c) (n : Fin 17) (ex st : ℕ → BitVec 32) : Prop :=
  (∀ j : Fin 17, j.1 < n.1 → ldw12 c X12 ![j.1] (word_inb j) = ex j.1 ∧ (ex j.1).toNat < 16)
    ∧ (∀ j : Fin 17, j.1 ≤ n.1 → ldw13 c X13 ![j.1] (word_inb j) = st j.1)

theorem small_toInt (b : BitVec 32) (h : b.toNat < 16) : 0 ≤ b.toInt ∧ b.toInt ≤ 15 := by
  rw [BitVec.toInt_eq_toNat_of_lt (by omega)]; omega

/-- The copies of a trip, in terms of slots. -/
theorem part1_canon (c : Dev nD) (W2 : Cts F B2 c) (W3 : Cts F B3 c) (n : Fin 17) (t : Fin (k0_t2_loop (wd n)).trips)
    (hw : k0_chk2 (wd n)) (v4 : BitVec 32) (X12 : Cts F B12 c) (X13 : Cts F B13 c) (ex st : ℕ → BitVec 32)
    (hL : Lists c X12 X13 n ex st) (W : Waits sig Unit)
    (Q : (Σ' (v640 : BitVec 32) (v644 : BitVec 32) (v669 : IVec S64x1 32) (v673 : IVec S64x1 1), Elt F .i32) → sProp 𝕄) :
    iprop(FreeM c W2 W3 (ix4' (t.1 + 3)) ∗ Slot c W2 W3 n ex t.1
        ∗ (B12.view.loc (c : Thread nD τ) ↦[B12.view.set]{fullShare} X12)
        ∗ (B13.view.loc (c : Thread nD τ) ↦[B13.view.set]{fullShare} X13)
        ∗ owes (c : Thread nD τ) 0 W
        ∗ (iprop(Slot c W2 W3 n ex (t.1 + 3) ∗ DoneM c W2 W3 (ix4' t.1) (exF (ex (t.1 / 3))) (ix3' t.1)
            ∗ (B12.view.loc (c : Thread nD τ) ↦[B12.view.set]{fullShare} X12)
            ∗ (B13.view.loc (c : Thread nD τ) ↦[B13.view.set]{fullShare} X13)
            ∗ (∃ W', owes (c : Thread nD τ) 0 W')) -∗
          Q ⟨Scalar.remsi (Scf.iv 0#32 1#32 t) 4#32, Scalar.muli (Scalar.remsi (Scf.iv 0#32 1#32 t) 3#32) 2048#32,
            iota .tc S64x1 32 [0] iota_S64x1_d0_w32, k0_pay5 (F := F) (st (t.1 / 3)), st (t.1 / 3 + 1)⟩))
      ⊢ wp frame (wpE (defs₀ (F := F)) Variants.none c none) Set.univ
          (k0_part1 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) (wd n) hw v4 0#32 1#32 t) Q := by
  have ht : t.1 < 3 * n.1 := trips2 n ▸ t.2
  have hn := n.2
  have e39 : ldw13 c X13 (k0_off39 (wd n) t) (k0_off39_inb (wd n) hw t) = st (t.1 / 3) :=
    (ldw13_congr (h' := word_inb ⟨t.1 / 3, by omega⟩) (off39_eq n t)).trans (hL.2 ⟨t.1 / 3, by omega⟩ (by show t.1 / 3 ≤ n.1; omega))
  have e40 : ldw13 c X13 (k0_off40 (wd n) t) (k0_off40_inb (wd n) hw t) = st (t.1 / 3 + 1) :=
    (ldw13_congr (h' := word_inb ⟨t.1 / 3 + 1, by omega⟩) (off40_eq n t)).trans (hL.2 ⟨t.1 / 3 + 1, by omega⟩ (by show t.1 / 3 + 1 ≤ n.1; omega))
  have e32 : ldw12 c X12 (k0_off32 (wd n) t) (k0_off32_inb (wd n) hw t) = ex (t.1 / 3) :=
    (ldw12_congr (h' := word_inb ⟨t.1 / 3, by omega⟩) (off32_eq n t)).trans (hL.1 ⟨t.1 / 3, by omega⟩ (by show t.1 / 3 < n.1; omega)).1
  have r32 : (ex (t.1 / 3)).toNat < 16 := (hL.1 ⟨t.1 / 3, by omega⟩ (by show t.1 / 3 < n.1; omega)).2
  have h7 : k0_chk7 (wd n) t (ldw12 c X12 (k0_off32 (wd n) t) (k0_off32_inb (wd n) hw t)) := by
    rw [e32]; exact chk7_of _ _ _ (toInt_small n) (small_toInt _ r32)
  have sT : Slot c W2 W3 n ex t.1 = PendO c (tok (ix4' t.1)) W2 W3 (k0_off33 (wd n) t) (k0_off33_inb (wd n) hw t) (k0_off34 (wd n) t) (k0_off34_inb (wd n) hw t)
      (k0_off37_inb (wd n) hw t) ![(exF (ex (t.1 / 3))).1, 0, (ix3' t.1).1 * 2048] (srcO8_inb _ _) (srcO9_inb _ _) :=
    (if_pos ht).trans (pendO_congr (off33_eq n t).symm (off34_eq n t).symm rfl)
  have dT : DoneO c (tok (ix4' t.1)) W2 W3 (k0_off33 (wd n) t) (k0_off33_inb (wd n) hw t) (k0_off34 (wd n) t) (k0_off34_inb (wd n) hw t)
      (k0_off37_inb (wd n) hw t) ![(exF (ex (t.1 / 3))).1, 0, (ix3' t.1).1 * 2048] (srcO8_inb _ _) (srcO9_inb _ _)
      = DoneM c W2 W3 (ix4' t.1) (exF (ex (t.1 / 3))) (ix3' t.1) := doneO_congr (off33_eq n t) (off34_eq n t) rfl
  by_cases hc : k0_cond4 (wd n) t = 1#1
  · have h3 := (cond4_iff n t).mp hc
    have e25 : ldw12 c X12 (k0_off25 (wd n) t) (k0_off25_inb (wd n) hw t hc) = ex ((t.1 + 3) / 3) :=
      (ldw12_congr (h' := word_inb ⟨(t.1 + 3) / 3, by omega⟩) (off25_eq n t)).trans (hL.1 ⟨(t.1 + 3) / 3, by omega⟩ (by show (t.1 + 3) / 3 < n.1; omega)).1
    have r25 : (ex ((t.1 + 3) / 3)).toNat < 16 := (hL.1 ⟨(t.1 + 3) / 3, by omega⟩ (by show (t.1 + 3) / 3 < n.1; omega)).2
    have h6 : k0_chk6 (wd n) t (ldw12 c X12 (k0_off25 (wd n) t) (k0_off25_inb (wd n) hw t hc)) := by
      rw [e25]; exact chk6_of _ _ _ (toInt_small n) (small_toInt _ r25)
    have fT : FreeM c W2 W3 (ix4' (t.1 + 3)) = FreeO c (tok (ix4' (t.1 + 3))) W2 W3 (k0_off26 (wd n) t) (k0_off26_inb (wd n) hw t hc) (k0_off27 (wd n) t)
        (k0_off27_inb (wd n) hw t hc) (k0_off30_inb (wd n) hw t hc) := freeO_congr (off26_eq n t).symm (off27_eq n t).symm
    have pT : PendO c (tok (ix4' (t.1 + 3))) W2 W3 (k0_off26 (wd n) t) (k0_off26_inb (wd n) hw t hc) (k0_off27 (wd n) t)
        (k0_off27_inb (wd n) hw t hc) (k0_off30_inb (wd n) hw t hc)
        (k0_off28 (wd n) t (ldw12 c X12 (k0_off25 (wd n) t) (k0_off25_inb (wd n) hw t hc)))
        (k0_off28_inb (wd n) t _ h6 hc) (k0_off31_inb (wd n) t _ h6 hc) = Slot c W2 W3 n ex (t.1 + 3) :=
      (pendO_congr (off26_eq n t) (off27_eq n t) (by
        rw [off28_eq, e25]
        show ![(ex ((t.1 + 3) / 3)).toNat, 0, (t.1 + 3) % 3 * 2048] = ![(ex ((t.1 + 3) / 3)).toNat % 16, 0, (t.1 + 3) % 3 * 2048]
        rw [Nat.mod_eq_of_lt r25])).trans (if_pos h3).symm
    have key := part1_issue (F := F) arg0 harg0 arg1 harg1 arg4 harg4 (wd n) v4 hw t c (tok (ix4' (t.1 + 3))) (tok (ix4' t.1)) W2 W3 X12 X13 W hc
      ![(exF (ex (t.1 / 3))).1, 0, (ix3' t.1).1 * 2048] (srcO8_inb _ _) (srcO9_inb _ _) h6 h7 Q
    rw [← fT, ← sT, dT, pT, e39, e40] at key
    exact key
  · have h3 : ¬ (t.1 + 3 < 3 * n.1) := fun h => hc ((cond4_iff n t).mpr h)
    have fT : Slot c W2 W3 n ex (t.1 + 3) = FreeM c W2 W3 (ix4' (t.1 + 3)) := if_neg h3
    have key := part1_last (F := F) arg0 harg0 arg1 harg1 arg4 harg4 (wd n) v4 hw t c (tok (ix4' (t.1 + 3))) (tok (ix4' t.1)) W2 W3 X12 X13 W hc
      ![(exF (ex (t.1 / 3))).1, 0, (ix3' t.1).1 * 2048] (srcO8_inb _ _) (srcO9_inb _ _) h7 Q
    rw [← sT, dT, e39, e40] at key
    rw [fT]
    iintro ⟨HF, HS, H12, H13, HO, HK⟩
    iapply key
    isplitl [HS]
    · iexact HS
    isplitl [H12]
    · iexact H12
    isplitl [H13]
    · iexact H13
    isplitl [HO]
    · iexact HO
    iintro ⟨HD, H12, H13, HO⟩
    iapply HK
    isplitl [HF]
    · iexact HF
    isplitl [HD]
    · iexact HD
    isplitl [H12]
    · iexact H12
    isplitl [H13]
    · iexact H13
    iexact HO

/-- What the accumulator holds before trip `k`. -/
def accAt (n : Fin 17) (hw : k0_chk2 (wd n)) (c : Dev nD) (W2 : Cts F B2 c) (W3 : Cts F B3 c) (ex st : ℕ → BitVec 32)
    (xs : Cts F B5 c) (a0 : Cts F B7 c) : ℕ → Cts F B7 c
  | 0 => a0
  | k + 1 =>
    if h : k < (k0_t2_loop (wd n)).trips then
      B7.view.writes (Elt F) (accAt n hw c W2 W3 ex st xs a0 k)
        (rest_run arg0 harg0 arg1 harg1 arg4 harg4 (wd n) hw ⟨k, h⟩ c
          (Scalar.remsi (Scf.iv 0#32 1#32 (⟨k, h⟩ : Fin (k0_t2_loop (wd n)).trips)) 4#32)
          (Scalar.muli (Scalar.remsi (Scf.iv 0#32 1#32 (⟨k, h⟩ : Fin (k0_t2_loop (wd n)).trips)) 3#32) 2048#32)
          (iota .tc S64x1 32 [0] iota_S64x1_d0_w32) (k0_pay5 (F := F) (st (k / 3))) (st (k / 3 + 1))
          (wBlk c W2 (exF (ex (k / 3))) (ix3' k)) (sBlk c W3 (exF (ex (k / 3))) (ix3' k)) xs (accAt n hw c W2 W3 ex st xs a0 k)).1
    else accAt n hw c W2 W3 ex st xs a0 k

/-- What stands before trip `k`. -/
def inv2 (n : Fin 17) (hw : k0_chk2 (wd n)) (c : Dev nD) (W2 : Cts F B2 c) (W3 : Cts F B3 c) (ex st : ℕ → BitVec 32)
    (X12 : Cts F B12 c) (X13 : Cts F B13 c) (xs : Cts F B5 c) (a0 : Cts F B7 c) (k : ℕ) (_ : BitVec 32) : sProp 𝕄 :=
  iprop(Slot c W2 W3 n ex k ∗ Slot c W2 W3 n ex (k + 1) ∗ Slot c W2 W3 n ex (k + 2) ∗ FreeM c W2 W3 (ix4' (k + 3))
    ∗ (B5.view.loc (c : Thread nD τ) ↦[B5.view.set]{fullShare} xs)
    ∗ (B7.view.loc (c : Thread nD τ) ↦[B7.view.set]{fullShare} accAt arg0 harg0 arg1 harg1 arg4 harg4 n hw c W2 W3 ex st xs a0 k)
    ∗ (B12.view.loc (c : Thread nD τ) ↦[B12.view.set]{fullShare} X12)
    ∗ (B13.view.loc (c : Thread nD τ) ↦[B13.view.set]{fullShare} X13)
    ∗ (∃ W', owes (c : Thread nD τ) 0 W'))

/-- One trip of the main loop keeps the invariant. -/
theorem step2 (n : Fin 17) (hw : k0_chk2 (wd n)) (v4 : BitVec 32) (c : Dev nD) (W2 : Cts F B2 c) (W3 : Cts F B3 c) (ex st : ℕ → BitVec 32)
    (X12 : Cts F B12 c) (X13 : Cts F B13 c) (hL : Lists c X12 X13 n ex st) (xs : Cts F B5 c) (a0 : Cts F B7 c)
    (k : Fin (k0_t2_loop (wd n)).trips) (a : BitVec 32) :
    inv2 arg0 harg0 arg1 harg1 arg4 harg4 n hw c W2 W3 ex st X12 X13 xs a0 k.1 a
      ⊢ wp frame (wpE (defs₀ (F := F)) Variants.none c none) Set.univ
          (k0_t2_body arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) (wd n) hw v4 k a)
          (inv2 arg0 harg0 arg1 harg1 arg4 harg4 n hw c W2 W3 ex st X12 X13 xs a0 (k.1 + 1)) := by
  have hO : ∀ w s, HeldM c W2 W3 (ix4' k.1) w s = HeldO c (tok (ix4' k.1)) W2 W3 (k0_off33 (wd n) k) (k0_off33_inb (wd n) hw k) (k0_off34 (wd n) k)
      (k0_off34_inb (wd n) hw k) (k0_off37_inb (wd n) hw k) w s := fun w s => heldO_congr (off33_eq n k).symm (off34_eq n k).symm
  have eA : accAt arg0 harg0 arg1 harg1 arg4 harg4 n hw c W2 W3 ex st xs a0 (k.1 + 1) = _ := dif_pos k.2
  rw [body_split, wp_bind, wp_bind]
  unfold inv2
  iintro ⟨S0, S1, S2, F3, H5, H7, H12, H13, ⟨%W, HO⟩⟩
  iapply (part1_canon arg0 harg0 arg1 harg1 arg4 harg4 c W2 W3 n k hw v4 X12 X13 ex st hL W)
  isplitl [F3]
  · iexact F3
  isplitl [S0]
  · iexact S0
  isplitl [H12]
  · iexact H12
  isplitl [H13]
  · iexact H13
  isplitl [HO]
  · iexact HO
  iintro ⟨S3, HD, H12, H13, HO⟩
  ihave HH := doneM_held c W2 W3 (ix4' k.1) (exF (ex (k.1 / 3))) (ix3' k.1) $$ HD
  ihave HH := (BIBase.Entails.of_eq (hO _ _)) $$ HH
  unfold HeldO
  icases HH with ⟨Hc8, Hc9, T8, T9, H8, H9⟩
  have key := (rest_run (F := F) arg0 harg0 arg1 harg1 arg4 harg4 (wd n) hw k c
          (Scalar.remsi (Scf.iv 0#32 1#32 k) 4#32)
          (Scalar.muli (Scalar.remsi (Scf.iv 0#32 1#32 k) 3#32) 2048#32)
          (iota .tc S64x1 32 [0] iota_S64x1_d0_w32) (k0_pay5 (F := F) (st (k.1 / 3))) (st (k.1 / 3 + 1))
          (wBlk c W2 (exF (ex (k.1 / 3))) (ix3' k.1)) (sBlk c W3 (exF (ex (k.1 / 3))) (ix3' k.1)) xs (accAt arg0 harg0 arg1 harg1 arg4 harg4 n hw c W2 W3 ex st xs a0 k.1)).2
    (inv2 arg0 harg0 arg1 harg1 arg4 harg4 n hw c W2 W3 ex st X12 X13 xs a0 (k.1 + 1))
  rw [wp_bind] at key
  unfold inv2 at key
  iapply key
  isplitl [H8]
  · iexact H8
  isplitl [H9]
  · iexact H9
  isplitl [H5]
  · iexact H5
  isplitl [H7]
  · iexact H7
  iintro ⟨H8, H9, H5, H7⟩
  isplitl [S1]
  · iexact S1
  isplitl [S2]
  · iexact S2
  isplitl [S3]
  · iexact S3
  isplitl [Hc8 Hc9 T8 T9 H8 H9]
  · have e4 : ix4' (k.1 + 1 + 3) = ix4' k.1 := ix4'_add k.1
    rw [e4]
    iapply (held_freeM c W2 W3 (ix4' k.1) (wBlk c W2 (exF (ex (k.1 / 3))) (ix3' k.1)) (sBlk c W3 (exF (ex (k.1 / 3))) (ix3' k.1)))
    iapply (BIBase.Entails.of_eq (hO _ _).symm)
    unfold HeldO
    isplitl [Hc8]
    · iexact Hc8
    isplitl [Hc9]
    · iexact Hc9
    isplitl [T8]
    · iexact T8
    isplitl [T9]
    · iexact T9
    isplitl [H8]
    · iexact H8
    iexact H9
  isplitl [H5]
  · iexact H5
  isplitl [H7]
  · iapply (BIBase.Entails.of_eq (congrArg (fun A => (B7.view.loc (c : Thread nD τ) ↦[B7.view.set]{fullShare} A : sProp 𝕄)) eA.symm)) $$ H7
  isplitl [H12]
  · iexact H12
  isplitl [H13]
  · iexact H13
  iexact HO

/-- The main loop's invariant. -/
@[sl_loop, instance_reducible] def loopInv_k0_t2 (n : Fin 17) (hw : k0_chk2 (wd n)) (v4 : BitVec 32) (c : Dev nD) (W2 : Cts F B2 c) (W3 : Cts F B3 c) (ex st : ℕ → BitVec 32)
    (X12 : Cts F B12 c) (X13 : Cts F B13 c) (hL : Lists c X12 X13 n ex st) (xs : Cts F B5 c) (a0 : Cts F B7 c) (init : BitVec 32) :
    LoopInvTy_k0_t2 (F := F) Unit ℕ (Pipeline.UD sig nD τ) ℕ Variants.none c none Set.univ arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) (wd n) hw v4 init :=
  ⟨inv2 arg0 harg0 arg1 harg1 arg4 harg4 n hw c W2 W3 ex st X12 X13 xs a0, step2 arg0 harg0 arg1 harg1 arg4 harg4 n hw v4 c W2 W3 ex st X12 X13 hL xs a0⟩

end Cert.Proof.KernelIdeal

end
-- ==== Proof.KI.Model.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The routing as plain recursion over the sizes of the groups: how many experts have rows, which they are, where each starts. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- How many of the first `k` experts have rows; -/
def cntG (g : ℕ → BitVec 32) : ℕ → ℕ
  | 0 => 0
  | k + 1 => if (0#32).slt (g k) then cntG g k + 1 else cntG g k
/-- the rows of the first `k` experts, as the machine's running sum; -/
def rowG (g : ℕ → BitVec 32) : ℕ → BitVec 32
  | 0 => 0#32
  | k + 1 => rowG g k + g k
/-- the list of experts after `k` of them, each at the place of the count before it (an expert without rows is overwritten); -/
def exG (g : ℕ → BitVec 32) : ℕ → ℕ → BitVec 32
  | 0 => fun _ => 0#32
  | k + 1 => Function.update (exG g k) (cntG g k) (BitVec.ofNat 32 k)
/-- and the list of their first rows. -/
def stG (g : ℕ → BitVec 32) : ℕ → ℕ → BitVec 32
  | 0 => fun _ => 0#32
  | k + 1 => Function.update (stG g k) (cntG g k) (rowG g k)

/-- At most `k` of the first `k` groups are non-empty. -/
theorem cntG_le (g : ℕ → BitVec 32) (k : ℕ) : cntG g k ≤ k := by
  induction k with
  | zero => exact le_rfl
  | succ k ih => unfold cntG; split <;> omega

/-- An entry of the list of experts is an expert. -/
theorem exG_lt (g : ℕ → BitVec 32) (k : ℕ) (hk : k ≤ 16) (j : ℕ) : (exG g k j).toNat < 16 := by
  induction k with
  | zero => exact (by decide : (0#32).toNat < 16)
  | succ k ih =>
    unfold exG
    by_cases h : j = cntG g k
    · subst h; rw [Function.update_self, BitVec.toNat_ofNat]; omega
    · rw [Function.update_of_ne h]; exact ih (by omega)

/-- The count, the list of experts and the list of first rows the kernel leaves. -/
def nG (g : ℕ → BitVec 32) : Fin 17 := ⟨cntG g 16, Nat.lt_succ_of_le (cntG_le g 16)⟩
def exL (g : ℕ → BitVec 32) : ℕ → BitVec 32 := exG g 16
def stL (g : ℕ → BitVec 32) : ℕ → BitVec 32 := Function.update (stG g 16) (cntG g 16) (rowG g 16)

end Cert.Proof.KernelIdeal

end
-- ==== Proof.KI.Route.lean ====
module

public import proofs.«01_k».proof.Proof.KI.Base
public import proofs.«01_k».proof.Proof.KI.Model
public import proofs.«01_k».proof.Proof.KI.Step
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
public import Idealize.ShloMosaic.Lib.CellWrites

@[expose] public section

/-! The loop that lists the experts with rows. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)

/-- The size of group `e`, as the kernel reads it. -/
def gw (c : Dev nD) (f0 : Buf (Elt F) (arg0.view.loc (c : Thread nD τ))) (e : ℕ) : BitVec 32 :=
  if h : e < 16 then
    View.readAt (Elt F) arg0.view (Rect.unit (s := S16) ![e] S1.size (by intro a; fin_cases a; show e + 1 ≤ 16; omega)).toLoadRect f0
      (Shape.Idx.first (show 0 < S1.numel from by decide))
  else 0#32

/-- The addresses of the routing loop, by numbers. -/
theorem off2_eq : ∀ n : Fin 17, k0_off2 (wd n) = ![n.1] := by decide +kernel
theorem off3_eq : ∀ n : Fin 17, k0_off3 (wd n) = ![n.1] := by decide +kernel
theorem off1_eq : ∀ t : Fin k0_t1_loop.trips, k0_off1 t = ![t.1] := by decide +kernel
theorem iv1_eq : ∀ t : Fin k0_t1_loop.trips, Scf.iv 0#32 1#32 t = BitVec.ofNat 32 t.1 := by decide +kernel
theorem trips1 : k0_t1_loop.trips = 16 := by decide +kernel

/-- Reading the list of experts after a store to it. -/
theorem ldw12_put (c : Dev nD) (X : Cts F B12 c) (i j : Fin 17) (w : BitVec 32) {o : Fin 1 → ℕ} (eo : o = ![i.1]) (h) :
    ldw12 c (B12.view.writes (Elt F) X [⟨Rect.unit (s := S17) o S1.size h, fun _ => w⟩]) ![j.1] (word_inb j)
      = if j.1 = i.1 then w else ldw12 c X ![j.1] (word_inb j) := by
  subst eo
  exact View.read_writes_cons_cell B12.view X (d := ![17]) h w [] _
/-- Reading the list of first rows after a store to it. -/
theorem ldw13_put (c : Dev nD) (X : Cts F B13 c) (i j : Fin 17) (w : BitVec 32) {o : Fin 1 → ℕ} (eo : o = ![i.1]) (h) :
    ldw13 c (B13.view.writes (Elt F) X [⟨Rect.unit (s := S17) o S1.size h, fun _ => w⟩]) ![j.1] (word_inb j)
      = if j.1 = i.1 then w else ldw13 c X ![j.1] (word_inb j) := by
  subst eo
  exact View.read_writes_cons_cell B13.view X (d := ![17]) h w [] _

theorem gw_eq (c : Dev nD) (f0 : Buf (Elt F) (arg0.view.loc (c : Thread nD τ))) (t : Fin k0_t1_loop.trips) :
    View.readAt (Elt F) arg0.view (Rect.unit (s := S16) (k0_off1 t) S1.size (k0_off1_inb t)).toLoadRect f0
      (Shape.Idx.first (show 0 < S1.numel from by decide)) = gw arg0 c f0 t.1 := by
  have ht : t.1 < 16 := trips1 ▸ t.2
  unfold gw
  rw [dif_pos ht]
  have key : ∀ (o o' : Fin 1 → ℕ) (e : o = o') (h h'),
    View.readAt (Elt F) arg0.view (Rect.unit (s := S16) o S1.size h).toLoadRect f0 (Shape.Idx.first (show 0 < S1.numel from by decide))
     = View.readAt (Elt F) arg0.view (Rect.unit (s := S16) o' S1.size h').toLoadRect f0 (Shape.Idx.first (show 0 < S1.numel from by decide)) := by
    intro o o' e h h'; subst e; rfl
  exact key _ _ (off1_eq t) _ _

/-- The count after one more group. -/
theorem count_step (g : ℕ → BitVec 32) (k : ℕ) :
    Scalar.addi (BitVec.ofNat 32 (cntG g k)) (Scalar.extui (Scalar.cmpi .sgt (g k) 0#32)) = BitVec.ofNat 32 (cntG g (k + 1)) := by
  have e : Scalar.cmpi .sgt (g k) 0#32 = BitVec.ofBool ((0#32).slt (g k)) := rfl
  have e' : cntG g (k + 1) = if (0#32).slt (g k) then cntG g k + 1 else cntG g k := rfl
  rw [e, e']
  cases h : (0#32).slt (g k)
  · exact (BitVec.add_zero _)
  · exact (BitVec.ofNat_add (n := 32) (cntG g k) 1).symm

/-- What stands before expert `k` is looked at. -/
def inv1 (c : Dev nD) (f0 : Buf (Elt F) (arg0.view.loc (c : Thread nD τ))) (k : ℕ) (acc : BitVec 32 × BitVec 32) : sProp 𝕄 :=
  iprop(⌜acc = (BitVec.ofNat 32 (cntG (gw arg0 c f0) k), rowG (gw arg0 c f0) k)⌝
    ∗ (arg0.view.loc (c : Thread nD τ) ↦[arg0.view.set]{fullShare} f0)
    ∗ (∃ X12 X13, ⌜∀ j : Fin 17, j.1 < cntG (gw arg0 c f0) k → ldw12 c X12 ![j.1] (word_inb j) = exG (gw arg0 c f0) k j.1
          ∧ ldw13 c X13 ![j.1] (word_inb j) = stG (gw arg0 c f0) k j.1⌝
      ∗ (B12.view.loc (c : Thread nD τ) ↦[B12.view.set]{fullShare} X12)
      ∗ (B13.view.loc (c : Thread nD τ) ↦[B13.view.set]{fullShare} X13)))

/-- One trip of the routing loop. -/
theorem step1 (c : Dev nD) (f0 : Buf (Elt F) (arg0.view.loc (c : Thread nD τ))) (k : Fin k0_t1_loop.trips) (acc : BitVec 32 × BitVec 32) :
    inv1 arg0 c f0 k.1 acc
      ⊢ wp frame (wpE (defs₀ (F := F)) Variants.none c none) Set.univ
          (k0_t1_body arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) k acc) (inv1 arg0 c f0 (k.1 + 1)) := by
  have hk : k.1 < 16 := trips1 ▸ k.2
  have hc := cntG_le (gw arg0 c f0) k.1
  have h1 : k0_chk1 (BitVec.ofNat 32 (cntG (gw arg0 c f0) k.1)) := chk1_all ⟨cntG (gw arg0 c f0) k.1, by omega⟩
  unfold inv1
  iintro ⟨%ha, H0, ⟨%X12, %X13, %hX, H12, H13⟩⟩
  subst ha
  unfold k0_t1_body
  sl_exec (disch := exact h1)
  sl_step
  have hE : ∀ (X12' : Cts F B12 c) (X13' : Cts F B13 c), (∀ j : Fin 17, ldw12 c X12' ![j.1] (word_inb j) = if j.1 = cntG (gw arg0 c f0) k.1 then BitVec.ofNat 32 k.1 else ldw12 c X12 ![j.1] (word_inb j)) →
      (∀ j : Fin 17, ldw13 c X13' ![j.1] (word_inb j) = if j.1 = cntG (gw arg0 c f0) k.1 then rowG (gw arg0 c f0) k.1 else ldw13 c X13 ![j.1] (word_inb j)) →
      ∀ j : Fin 17, j.1 < cntG (gw arg0 c f0) (k.1 + 1) → ldw12 c X12' ![j.1] (word_inb j) = exG (gw arg0 c f0) (k.1 + 1) j.1
          ∧ ldw13 c X13' ![j.1] (word_inb j) = stG (gw arg0 c f0) (k.1 + 1) j.1 := by
    intro X12' X13' e12 e13 j hj
    rw [e12, e13]
    unfold exG stG
    by_cases h : j.1 = cntG (gw arg0 c f0) k.1
    · rw [if_pos h, if_pos h, h, Function.update_self, Function.update_self]; exact ⟨rfl, rfl⟩
    · rw [if_neg h, if_neg h, Function.update_of_ne h, Function.update_of_ne h]
      refine hX j ?_
      unfold cntG at hj
      split at hj <;> omega
  isplitr
  · ipureintro
    delta step1.sl.v648 step1.sl.v649
    delta step1.sl.v647
    delta step1.sl.v646
    delta step1.sl.r
    rw [gw_eq arg0 c f0 k, count_step]
    rfl
  isplitl [H0]
  · iexact H0
  iexists _, _
  isplitr
  swap
  · isplitl [H12]
    · iexact H12
    iexact H13
  ipureintro
  delta step1.sl.arg14
  rw [iv1_eq]
  exact hE _ _ (fun j => ldw12_put c X12 ⟨cntG (gw arg0 c f0) k.1, by omega⟩ j _ (off2_eq ⟨cntG (gw arg0 c f0) k.1, by omega⟩) _)
    (fun j => ldw13_put c X13 ⟨cntG (gw arg0 c f0) k.1, by omega⟩ j _ (off2_eq ⟨cntG (gw arg0 c f0) k.1, by omega⟩) _)

/-- The loop's invariant. -/
@[sl_loop, instance_reducible] def loopInv_k0_t1 (c : Dev nD) (f0 : Buf (Elt F) (arg0.view.loc (c : Thread nD τ))) (init : BitVec 32 × BitVec 32) :
    LoopInvTy_k0_t1 (F := F) Unit ℕ (Pipeline.UD sig nD τ) ℕ Variants.none c none Set.univ arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) init :=
  ⟨inv1 arg0 c f0, step1 arg0 harg0 arg1 harg1 arg4 harg4 c f0⟩

/-- After the loop and the last store, the two lists are as the model says. -/
theorem lists_done (c : Dev nD) (f0 : Buf (Elt F) (arg0.view.loc (c : Thread nD τ))) (X12 : Cts F B12 c) (X13 : Cts F B13 c)
    (hX : ∀ j : Fin 17, j.1 < cntG (gw arg0 c f0) 16 → ldw12 c X12 ![j.1] (word_inb j) = exG (gw arg0 c f0) 16 j.1
          ∧ ldw13 c X13 ![j.1] (word_inb j) = stG (gw arg0 c f0) 16 j.1) (h) :
    Lists c X12 (B13.view.writes (Elt F) X13 [⟨Rect.unit (s := S17) (k0_off3 (wd (nG (gw arg0 c f0)))) S1.size h, fun _ => rowG (gw arg0 c f0) 16⟩])
      (nG (gw arg0 c f0)) (exL (gw arg0 c f0)) (stL (gw arg0 c f0)) := by
  refine ⟨fun j hj => ⟨(hX j hj).1, exG_lt _ 16 le_rfl _⟩, fun j hj => ?_⟩
  refine (ldw13_put c X13 (nG (gw arg0 c f0)) j _ (off3_eq _) h).trans ?_
  unfold stL
  show (if j.1 = cntG (gw arg0 c f0) 16 then rowG (gw arg0 c f0) 16 else ldw13 c X13 ![j.1] (word_inb j)) = _
  by_cases e : j.1 = cntG (gw arg0 c f0) 16
  · rw [if_pos e, e, Function.update_self]
  · rw [if_neg e, Function.update_of_ne e]
    exact (hX j (lt_of_le_of_ne hj e)).2

end Cert.Proof.KernelIdeal

end
-- ==== Proof.KI.Pro.lean ====
module

public import proofs.«01_k».proof.Proof.KI.Base
public import proofs.«01_k».proof.Proof.KI.Model
public import proofs.«01_k».proof.Proof.KI.Step
public import proofs.«01_k».proof.Proof.KI.Route
public import proofs.«01_k».proof.Proof.KI.Checks
public import proofs.«01_k».proof.Proof.KI.Offs
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The start of the kernel, to the first loads of the rows. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

/-- The three first copies start when there is a non-empty group. -/
theorem cond1_iff : ∀ n : Fin 17, (k0_cond1 (wd n) = 1#1 ↔ 0 < n.1) := by decide +kernel
theorem cond2_iff : ∀ n : Fin 17, (k0_cond2 (wd n) = 1#1 ↔ 0 < n.1) := by decide +kernel
theorem cond3_iff : ∀ n : Fin 17, (k0_cond3 (wd n) = 1#1 ↔ 0 < n.1) := by decide +kernel
/-- The addresses of the first copies, by numbers. -/
theorem off4_eq : k0_off4 = ![0] := by decide +kernel
theorem off5_eq : k0_off5 = ![0] := by decide +kernel
theorem off6_eq : k0_off6 = ![0, 0, 0] := by decide +kernel
theorem off7_col : k0_off7 0#32 2 = 0 := by decide +kernel
theorem off7_eq (w : BitVec 32) : k0_off7 w = ![w.toNat, 0, 0] :=
  (show k0_off7 w = ![w.toNat, 0, k0_off7 0#32 2] from rfl).trans (by rw [off7_col])
theorem off11_eq : k0_off11 = ![0] := by decide +kernel
theorem off12_eq : k0_off12 = ![1] := by decide +kernel
theorem off13_eq : k0_off13 = ![1, 0, 0] := by decide +kernel
theorem off14_col : k0_off14 0#32 2 = 2048 := by decide +kernel
theorem off14_eq (w : BitVec 32) : k0_off14 w = ![w.toNat, 0, 2048] :=
  (show k0_off14 w = ![w.toNat, 0, k0_off14 0#32 2] from rfl).trans (by rw [off14_col])
theorem off18_eq : k0_off18 = ![0] := by decide +kernel
theorem off19_eq : k0_off19 = ![2] := by decide +kernel
theorem off20_eq : k0_off20 = ![2, 0, 0] := by decide +kernel
theorem off21_col : k0_off21 0#32 2 = 4096 := by decide +kernel
theorem off21_eq (w : BitVec 32) : k0_off21 w = ![w.toNat, 0, 4096] :=
  (show k0_off21 w = ![w.toNat, 0, k0_off21 0#32 2] from rfl).trans (by rw [off21_col])

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)

/-- The first 128 columns of the rows. -/
abbrev xld (c : Dev nD) (f1 : Buf (Elt F) (arg1.view.loc (c : Thread nD τ))) : Vec F S64x128 .bf16 :=
  View.readAt (Elt F) arg1.view (Rect.unit (s := S64x1536) ![0, 0] S64x128.size inb_S64x1536_S64x128_0_0).toLoadRect f1

/-- Up to the quantisation: the lists are built and the first expert's three blocks, if there is one, sent for. -/
theorem pro_run (c : Dev nD) (W2 : Cts F B2 c) (W3 : Cts F B3 c) (f0 : Buf (Elt F) (arg0.view.loc (c : Thread nD τ)))
    (f1 : Buf (Elt F) (arg1.view.loc (c : Thread nD τ))) (X12 : Cts F B12 c) (X13 : Cts F B13 c) (W : Waits sig Unit)
    (Q : (Σ' (v1_0 : BitVec 32) (k0_hw2 : k0_chk2 v1_0) (v4 : BitVec 32) (v15 : FVec F S64x128 .f32) (v20 : FVec F S64x1 .f32), IVec S64x256 32) → sProp 𝕄) :
    iprop(FreeM c W2 W3 0 ∗ FreeM c W2 W3 1 ∗ FreeM c W2 W3 2
        ∗ (arg0.view.loc (c : Thread nD τ) ↦[arg0.view.set]{fullShare} f0)
        ∗ (arg1.view.loc (c : Thread nD τ) ↦[arg1.view.set]{fullShare} f1)
        ∗ (B12.view.loc (c : Thread nD τ) ↦[B12.view.set]{fullShare} X12)
        ∗ (B13.view.loc (c : Thread nD τ) ↦[B13.view.set]{fullShare} X13)
        ∗ owes (c : Thread nD τ) 0 W
        ∗ (iprop(Slot c W2 W3 (nG (gw arg0 c f0)) (exL (gw arg0 c f0)) 0 ∗ Slot c W2 W3 (nG (gw arg0 c f0)) (exL (gw arg0 c f0)) 1
              ∗ Slot c W2 W3 (nG (gw arg0 c f0)) (exL (gw arg0 c f0)) 2
              ∗ (arg0.view.loc (c : Thread nD τ) ↦[arg0.view.set]{fullShare} f0)
              ∗ (arg1.view.loc (c : Thread nD τ) ↦[arg1.view.set]{fullShare} f1)
              ∗ (∃ X12 X13, ⌜Lists c X12 X13 (nG (gw arg0 c f0)) (exL (gw arg0 c f0)) (stL (gw arg0 c f0))⌝
                ∗ (B12.view.loc (c : Thread nD τ) ↦[B12.view.set]{fullShare} X12)
                ∗ (B13.view.loc (c : Thread nD τ) ↦[B13.view.set]{fullShare} X13))
              ∗ (∃ W', owes (c : Thread nD τ) 0 W')) -∗
            Q ⟨wd (nG (gw arg0 c f0)), chk2_of (nG (gw arg0 c f0)), Scalar.muli (wd (nG (gw arg0 c f0))) 3#32,
              k0_pay249 (xld arg1 c f1), k0_pay250 (xld arg1 c f1), k0_pay251 (xld arg1 c f1)⟩))
      ⊢ wp frame (wpE (defs₀ (F := F)) Variants.none c none) Set.univ
          (k0_part87 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _)) Q := by
  rw [k0_part87_eq_skeleton]
  unfold k0_part87_skel
  iintro ⟨F0, F1, F2, H0, H1, H12, H13, HO, Hk⟩
  iapply (exec_loop _ _ _ _ _ _ _ _ _ (loopInv_k0_t1 (F := F) arg0 harg0 arg1 harg1 arg4 harg4 c f0 (0#32, 0#32))) $$ [H0 H12 H13]
  · have h0 : inv1 arg0 c f0 0 (0#32, 0#32) ⊢ (loopInv_k0_t1 (F := F) arg0 harg0 arg1 harg1 arg4 harg4 c f0 (0#32, 0#32)).inv 0 (0#32, 0#32) := .rfl
    iapply h0
    unfold inv1
    isplitr
    · ipureintro; rfl
    isplitl [H0]
    · iexact H0
    iexists X12, X13
    isplitr
    · ipureintro
      intro j hj
      exact absurd hj (Nat.not_lt_zero _)
    isplitl [H12]
    · iexact H12
    iexact H13
  iintro %acc Hinv
  have hinv : (loopInv_k0_t1 (F := F) arg0 harg0 arg1 harg1 arg4 harg4 c f0 (0#32, 0#32)).inv (Scf.trips k0_t1_loop.lb k0_t1_loop.ub k0_t1_loop.st) acc
      ⊢ inv1 arg0 c f0 16 acc := by
    have e : Scf.trips k0_t1_loop.lb k0_t1_loop.ub k0_t1_loop.st = 16 := trips1
    rw [e]; exact .rfl
  ihave Hinv := hinv $$ Hinv
  unfold inv1
  icases Hinv with ⟨%ha, H0, ⟨%Y12, %Y13, %hX, H12, H13⟩⟩
  have hl : ∀ h, Lists c Y12 (B13.view.writes (Elt F) Y13 [⟨Rect.unit (s := S17) (k0_off3 (wd (nG (gw arg0 c f0)))) S1.size h, fun _ => rowG (gw arg0 c f0) 16⟩])
      (nG (gw arg0 c f0)) (exL (gw arg0 c f0)) (stL (gw arg0 c f0)) := lists_done arg0 c f0 Y12 Y13 hX
  have ha' : acc = (wd (nG (gw arg0 c f0)), rowG (gw arg0 c f0) 16) := ha
  clear ha hX hinv
  generalize nG (gw arg0 c f0) = n at *
  generalize exL (gw arg0 c f0) = ex at *
  generalize stL (gw arg0 c f0) = st at *
  generalize rowG (gw arg0 c f0) 16 = R at *
  subst ha'
  have h2 := chk2_of n
  by_cases hn : 0 < n.1
  · have c1 : k0_cond1 (wd n) = 1#1 := (cond1_iff n).mpr hn
    have c2 : k0_cond2 (wd n) = 1#1 := (cond2_iff n).mpr hn
    have c3 : k0_cond3 (wd n) = 1#1 := (cond3_iff n).mpr hn
    have e0 : ldw12 c Y12 ![0] (word_inb 0) = ex 0 := ((hl (k0_off3_inb (wd n) h2)).1 0 hn).1
    have r0 : (ex 0).toNat < 16 := ((hl (k0_off3_inb (wd n) h2)).1 0 hn).2
    have w0 : ldw12 c Y12 k0_off4 k0_off4_inb = ex 0 := (ldw12_congr off4_eq).trans e0
    have k0 : k0_chk3 (wd n) (ldw12 c Y12 k0_off4 k0_off4_inb) := by
      rw [w0]; exact chk3_of _ _ (toInt_small n) (small_toInt _ r0)
    have q0 : FreeM c W2 W3 0 = FreeO c (tok 0) W2 W3 k0_off5 k0_off5_inb k0_off6 k0_off6_inb k0_off9_inb :=
      freeO_congr off5_eq.symm off6_eq.symm
    have p0 : PendO c (tok 0) W2 W3 k0_off5 k0_off5_inb k0_off6 k0_off6_inb k0_off9_inb
        (k0_off7 (ldw12 c Y12 k0_off4 k0_off4_inb)) (k0_off7_inb (wd n) _ k0 c1) (k0_off10_inb (wd n) _ k0 c1)
        = Slot c W2 W3 n ex 0 :=
      (pendO_congr off5_eq off6_eq (by
        rw [w0, off7_eq]
        show ![(ex 0).toNat, 0, 0] = ![(ex 0).toNat % 16, 0, 0]
        rw [Nat.mod_eq_of_lt r0])).trans (if_pos (show 0 < 3 * n.1 by omega)).symm
    have w1 : ldw12 c Y12 k0_off11 k0_off11_inb = ex 0 := (ldw12_congr off11_eq).trans e0
    have k1 : k0_chk4 (wd n) (ldw12 c Y12 k0_off11 k0_off11_inb) := by
      rw [w1]; exact chk4_of _ _ (toInt_small n) (small_toInt _ r0)
    have q1 : FreeM c W2 W3 1 = FreeO c (tok 1) W2 W3 k0_off12 k0_off12_inb k0_off13 k0_off13_inb k0_off16_inb :=
      freeO_congr off12_eq.symm off13_eq.symm
    have p1 : PendO c (tok 1) W2 W3 k0_off12 k0_off12_inb k0_off13 k0_off13_inb k0_off16_inb
        (k0_off14 (ldw12 c Y12 k0_off11 k0_off11_inb)) (k0_off14_inb (wd n) _ k1 c2) (k0_off17_inb (wd n) _ k1 c2)
        = Slot c W2 W3 n ex 1 :=
      (pendO_congr off12_eq off13_eq (by
        rw [w1, off14_eq]
        show ![(ex 0).toNat, 0, 2048] = ![(ex 0).toNat % 16, 0, 2048]
        rw [Nat.mod_eq_of_lt r0])).trans (if_pos (show 1 < 3 * n.1 by omega)).symm
    have w2 : ldw12 c Y12 k0_off18 k0_off18_inb = ex 0 := (ldw12_congr off18_eq).trans e0
    have k2 : k0_chk5 (wd n) (ldw12 c Y12 k0_off18 k0_off18_inb) := by
      rw [w2]; exact chk5_of _ _ (toInt_small n) (small_toInt _ r0)
    have q2 : FreeM c W2 W3 2 = FreeO c (tok 2) W2 W3 k0_off19 k0_off19_inb k0_off20 k0_off20_inb k0_off23_inb :=
      freeO_congr off19_eq.symm off20_eq.symm
    have p2 : PendO c (tok 2) W2 W3 k0_off19 k0_off19_inb k0_off20 k0_off20_inb k0_off23_inb
        (k0_off21 (ldw12 c Y12 k0_off18 k0_off18_inb)) (k0_off21_inb (wd n) _ k2 c3) (k0_off24_inb (wd n) _ k2 c3)
        = Slot c W2 W3 n ex 2 :=
      (pendO_congr off19_eq off20_eq (by
        rw [w2, off21_eq]
        show ![(ex 0).toNat, 0, 4096] = ![(ex 0).toNat % 16, 0, 4096]
        rw [Nat.mod_eq_of_lt r0])).trans (if_pos (show 2 < 3 * n.1 by omega)).symm
    ihave F0 := (BIBase.Entails.of_eq q0) $$ F0
    ihave F1 := (BIBase.Entails.of_eq q1) $$ F1
    ihave F2 := (BIBase.Entails.of_eq q2) $$ F2
    unfold FreeO
    icases F0 with ⟨C80, C90, ⟨%g80, S80⟩, ⟨%g90, S90⟩, T80, T90⟩
    icases F1 with ⟨C81, C91, ⟨%g81, S81⟩, ⟨%g91, S91⟩, T81, T91⟩
    icases F2 with ⟨C82, C92, ⟨%g82, S82⟩, ⟨%g92, S92⟩, T82, T92⟩
    sl_exec (disch := first | exact h2 | exact k0 | exact k1 | exact k2)
    sl_step
    delta pro_run.sl.v4 pro_run.sl.r_1 pro_run.sl.r_2 pro_run.sl.r_3
    iapply Hk
    isplitl [C80 T80 C90 T90]
    · iapply (BIBase.Entails.of_eq p0)
      unfold PendO
      isplitl [C80 T80]
      · isplitl [C80]
        · iexists g80; iexact C80
        · iexact T80
      · isplitl [C90]
        · iexists g90; iexact C90
        · iexact T90
    isplitl [C81 T81 C91 T91]
    · iapply (BIBase.Entails.of_eq p1)
      unfold PendO
      isplitl [C81 T81]
      · isplitl [C81]
        · iexists g81; iexact C81
        · iexact T81
      · isplitl [C91]
        · iexists g91; iexact C91
        · iexact T91
    isplitl [C82 T82 C92 T92]
    · iapply (BIBase.Entails.of_eq p2)
      unfold PendO
      isplitl [C82 T82]
      · isplitl [C82]
        · iexists g82; iexact C82
        · iexact T82
      · isplitl [C92]
        · iexists g92; iexact C92
        · iexact T92
    isplitl [H0]
    · iexact H0
    isplitl [H1]
    · iexact H1
    isplitl [H12 H13]
    · iexists Y12, _
      isplitr
      · ipureintro
        exact hl (k0_off3_inb (wd n) h2)
      isplitl [H12]
      · iexact H12
      iexact H13
    iexists _; iexact HO
  · have c1 : ¬ k0_cond1 (wd n) = 1#1 := fun h => hn ((cond1_iff n).mp h)
    have c2 : ¬ k0_cond2 (wd n) = 1#1 := fun h => hn ((cond2_iff n).mp h)
    have c3 : ¬ k0_cond3 (wd n) = 1#1 := fun h => hn ((cond3_iff n).mp h)
    sl_exec (disch := exact h2)
    sl_step
    delta pro_run.sl.v4_1
    iapply Hk
    isplitl [F0]
    · iapply (BIBase.Entails.of_eq (show FreeM c W2 W3 0 = Slot c W2 W3 n ex 0 from (if_neg (show ¬ 0 < 3 * n.1 by omega)).symm)) $$ F0
    isplitl [F1]
    · iapply (BIBase.Entails.of_eq (show FreeM c W2 W3 1 = Slot c W2 W3 n ex 1 from (if_neg (show ¬ 1 < 3 * n.1 by omega)).symm)) $$ F1
    isplitl [F2]
    · iapply (BIBase.Entails.of_eq (show FreeM c W2 W3 2 = Slot c W2 W3 n ex 2 from (if_neg (show ¬ 2 < 3 * n.1 by omega)).symm)) $$ F2
    isplitl [H0]
    · iexact H0
    isplitl [H1]
    · iexact H1
    isplitl [H12 H13]
    · iexists Y12, _
      isplitr
      · ipureintro
        exact hl (k0_off3_inb (wd n) h2)
      isplitl [H12]
      · iexact H12
      iexact H13
    iexists _; iexact HO

end Cert.Proof.KernelIdeal

end
-- ==== Proof.KI.Quant.lean ====
module

public import proofs.«01_k».proof.Proof.KI.Base
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
public import Idealize.ShloMosaic.Lib.WritesUnit

@[expose] public section

/-! The quantisation of the rows. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

/-- The quantisation of the rows, and what follows it. -/
def quantK (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)
    (k : F .f32 → Prog (TpuEff nD τ sig (Elt F) Λ₀ .tc) PUnit) (v15 : FVec F S64x128 .f32) (v20 : FVec F S64x1 .f32) (v30 : IVec S64x256 32) :
    Prog (TpuEff nD τ sig (Elt F) Λ₀ .tc) PUnit := do
  let ⟨v66, v71, v72, c23_i32_29⟩ : Σ' (v66 : FVec F S64x128 .f32) (v71 : FVec F S64x1 .f32) (v72 : IVec S1x256 32), BitVec 32 ← k0_part88 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v15 v20 v30
  k0_part89 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v66 v71 v72 c23_i32_29
  let ⟨v147, v158⟩ : Σ' (v147 : FVec F S64x1 .f32), FVec F S64x128 .f32 ← k0_part90 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _)
  let ⟨v168, v198, v200⟩ : Σ' (v168 : FVec F S64x128 .f32) (v198 : FVec F S64x1 .f32), IVec S64x1 32 ← k0_part91 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v147 v158
  let ⟨v219, v240, v242, c0_i32_93⟩ : Σ' (v219 : FVec F S64x128 .f32) (v240 : IVec S64x1 32) (v242 : IVec S64x1 1), BitVec 32 ← k0_part92 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v168 v198 v200
  let ⟨v270, v275, v285⟩ : Σ' (v270 : FVec F S64x128 .f32) (v275 : FVec F S64x1 .f32), IVec S64x256 32 ← k0_part93 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v219 v240 v242 c0_i32_93
  let ⟨v321, v326, v327, c23_i32_124⟩ : Σ' (v321 : FVec F S64x128 .f32) (v326 : FVec F S64x1 .f32) (v327 : IVec S1x256 32), BitVec 32 ← k0_part94 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v270 v275 v285
  k0_part95 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v321 v326 v327 c23_i32_124
  let ⟨v402, v413⟩ : Σ' (v402 : FVec F S64x1 .f32), FVec F S64x128 .f32 ← k0_part96 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _)
  let ⟨v423, v453, v455⟩ : Σ' (v423 : FVec F S64x128 .f32) (v453 : FVec F S64x1 .f32), IVec S64x1 32 ← k0_part97 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v402 v413
  let ⟨v474, v495, v497, c0_i32_188⟩ : Σ' (v474 : FVec F S64x128 .f32) (v495 : IVec S64x1 32) (v497 : IVec S64x1 1), BitVec 32 ← k0_part98 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v423 v453 v455
  let ⟨v525, v530, v540⟩ : Σ' (v525 : FVec F S64x128 .f32) (v530 : FVec F S64x1 .f32), IVec S64x256 32 ← k0_part99 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v474 v495 v497 c0_i32_188
  let ⟨v576, v581, v582, c23_i32_219⟩ : Σ' (v576 : FVec F S64x128 .f32) (v581 : FVec F S64x1 .f32) (v582 : IVec S1x256 32), BitVec 32 ← k0_part100 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v525 v530 v540
  let cst_235 : F .f32 ← k0_part101 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v576 v581 v582 c23_i32_219
  k cst_235

/-- The main loop and the last store. -/
def tailQ (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)
    (v1_0 : BitVec 32) (k0_hw2 : k0_chk2 v1_0) (v4 : BitVec 32) :
    Prog (TpuEff nD τ sig (Elt F) Λ₀ .tc) PUnit := do
  let v630 : BitVec 32 := Scalar.subi v4 0#32
  let v632 : BitVec 32 := Scalar.divsi v630 1#32
  let v633 : BitVec 32 := Scalar.muli v632 1#32
  let v634 : BitVec 32 := Scalar.addi 0#32 v633
  let v635 : BitVec 32 ← Scf.Loop.for (k0_t2_loop v1_0) (k0_t2_ok v1_0 k0_hw2) 0#32 (k0_t2_body arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 v4)
  let v636 : BitVec 32 ← Scf.Loop.for (k0_t3_loop v1_0) (k0_t3_ok v1_0 k0_hw2) v635 (k0_t3_body arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) v1_0 k0_hw2 v4 v634)
  let v637 : Vec F S64x6144 .f32 ← Prog.lift (.load B7 (Rect.unit (s := S64x6144) ![0, 0] S64x6144.size inb_S64x6144_S64x6144_0_0).toLoadRect (View.loadsAt_vmem h_S64x6144))
  let v639 : Vec F S64x6144 .bf16 ← Prog.lift (.load arg4 (Rect.unit (s := S64x6144) ![0, 0] S64x6144.size inb_S64x6144_S64x6144_0_0).toLoadRect (View.loadsAt_vmem h_S64x6144))
  Prog.lift (.store arg4 (Rect.unit (s := S64x6144) ![0, 0] S64x6144.size inb_S64x6144_S64x6144_0_0) (k0_pay4 v637) Finset.univ (View.stores_vmem h_S64x6144 (harg4.storeExact_slice rfl _ packedbf16_S64x6144_S64x6144_0_0) (fun _ => rfl)) (.inl rfl))
  pure ⟨⟩

/-- The accumulator's zeros, and what follows them. -/
def tailH (k : Prog (TpuEff nD τ sig (Elt F) Λ₀ .tc) PUnit) (cst_235 : F .f32) :
    Prog (TpuEff nD τ sig (Elt F) Λ₀ .tc) PUnit := do
  let v627 : Vec F S64x6144 .f32 ← Prog.lift (.load B7 (Rect.unit (s := S64x6144) ![0, 0] S64x6144.size inb_S64x6144_S64x6144_0_0).toLoadRect (View.loadsAt_vmem h_S64x6144))
  Prog.lift (.store B7 (Rect.unit (s := S64x6144) ![0, 0] S64x6144.size inb_S64x6144_S64x6144_0_0) (k0_pay1 cst_235) Finset.univ (View.stores_vmem_bits_univ h_S64x6144 rfl) (.inl rfl))
  k

/-- What follows the quantisation. -/
def tailP (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)
    (v1_0 : BitVec 32) (k0_hw2 : k0_chk2 v1_0) (v4 : BitVec 32) (cst_235 : F .f32) :
    Prog (TpuEff nD τ sig (Elt F) Λ₀ .tc) PUnit :=
  tailH (tailQ arg0 harg0 arg1 harg1 arg4 harg4 v1_0 k0_hw2 v4) cst_235

theorem main_split (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) :
    cc0__body (F := F) arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _)
      = (k0_part87 arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _) >>= fun r =>
          quantK arg0 harg0 arg1 harg1 arg4 harg4 (tailP arg0 harg0 arg1 harg1 arg4 harg4 r.1 r.2.1 r.2.2.1) r.2.2.2.1 r.2.2.2.2.1 r.2.2.2.2.2) := by
  rw [cc0__body_eq_skeleton]
  rfl

/-- What the quantisation leaves in the buffer of rounded rows, as pieces; and the run that finds them. -/
def quant_run (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (c : Dev nD)
    (f1 : Buf (Elt F) (arg1.view.loc (c : Thread nD τ))) (v15 : FVec F S64x128 .f32) (v20 : FVec F S64x1 .f32) (v30 : IVec S64x256 32) :
    { L : List (View.Piece (Elt F) S64x1536 .bf16) //
      ∀ (f5 : Cts F B5 c) (k : F .f32 → Prog (TpuEff nD τ sig (Elt F) Λ₀ .tc) PUnit) (Q : PUnit → sProp 𝕄),
        iprop((arg1.view.loc (c : Thread nD τ) ↦[arg1.view.set]{fullShare} f1)
            ∗ (B5.view.loc (c : Thread nD τ) ↦[B5.view.set]{fullShare} f5)
            ∗ (iprop((arg1.view.loc (c : Thread nD τ) ↦[arg1.view.set]{fullShare} f1)
              ∗ (B5.view.loc (c : Thread nD τ) ↦[B5.view.set]{fullShare} B5.view.writes (Elt F) f5 L)) -∗
                wp frame (wpE (defs₀ (F := F)) Variants.none c none) Set.univ (k (Scalar.ofBits .f32 0x00000000#32)) Q))
          ⊢ wp frame (wpE (defs₀ (F := F)) Variants.none c none) Set.univ
              (quantK arg0 harg0 arg1 harg1 arg4 harg4 k v15 v20 v30) Q } := by
  refine ⟨?_, fun f5 k Q => ?run⟩
  case run =>
    iintro ⟨H1, H5, Hk⟩
    unfold quantK
    sl_exec_parts
    delta quant_run.sl.cst_235
    iapply Hk
    iframe H1
    iexact H5

/-- A store over a whole buffer leaves what it stores. -/
theorem unit_whole {κ : Kind} {sp : Space} {s : Shape} {e : EltTy} {m : Memref sig κ sp s e} (h : m.IsWhole)
    (f : m.view.ty.Contents (Elt F)) (off : Fin s.rank → ℕ) (hoff : ∀ a, off a = 0) (inb : ∀ a, off a + s.size a ≤ s.size a) (w : s.Idx → Elt F e) :
    m.view.writes (Elt F) f [⟨Rect.unit off s.size inb, w⟩] = h.unread w :=
  h.eq_unread (funext fun y =>
    View.read_writes_cons_unit_of_mem _ _ inb w [] y y rfl (fun a => by rw [hoff a, Nat.zero_add]))

/-- The accumulator is zeros when the main loop begins. -/
theorem tailH_run (c : Dev nD) (f7 : Cts F B7 c) (z : F .f32) (k : Prog (TpuEff nD τ sig (Elt F) Λ₀ .tc) PUnit) (Q : PUnit → sProp 𝕄) :
    iprop((B7.view.loc (c : Thread nD τ) ↦[B7.view.set]{fullShare} f7)
        ∗ ((B7.view.loc (c : Thread nD τ) ↦[B7.view.set]{fullShare} (Memref.isWhole_whole cc0_scratch2).unread (k0_pay1 z)) -∗
          wp frame (wpE (defs₀ (F := F)) Variants.none c none) Set.univ k Q))
      ⊢ wp frame (wpE (defs₀ (F := F)) Variants.none c none) Set.univ (tailH k z) Q := by
  have e7 := unit_whole (F := F) (Memref.isWhole_whole cc0_scratch2) f7 ![0, 0] (by decide) inb_S64x6144_S64x6144_0_0 (k0_pay1 z)
  iintro ⟨H7, Hk⟩
  unfold tailH
  sl_exec
  iapply Hk
  iapply (BIBase.Entails.of_eq (congrArg (fun A : Cts F B7 c => (B7.view.loc (c : Thread nD τ) ↦[B7.view.set]{fullShare} A : sProp 𝕄)) e7)) $$ H7

end Cert.Proof.KernelIdeal

end
-- ==== Proof.KI.Tail.lean ====
module

public import proofs.«01_k».proof.Proof.KI.Base
public import proofs.«01_k».proof.Proof.KI.Ring
public import proofs.«01_k».proof.Proof.KI.Offs
public import proofs.«01_k».proof.Proof.KI.Checks
public import proofs.«01_k».proof.Proof.KI.Step
public import proofs.«01_k».proof.Proof.KI.Model
public import proofs.«01_k».proof.Proof.KI.Quant
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The main loop and the last store, run. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

theorem trips3 : ∀ n : Fin 17, (k0_t3_loop (wd n)).trips = 0 := by decide +kernel

/-- Four slots running from any block number are the four slots. -/
theorem four_rot (c : Dev nD) (W2 : Cts F B2 c) (W3 : Cts F B3 c) (k : ℕ) :
    iprop(FreeM c W2 W3 (ix4' k) ∗ FreeM c W2 W3 (ix4' (k + 1)) ∗ FreeM c W2 W3 (ix4' (k + 2)) ∗ FreeM c W2 W3 (ix4' (k + 3)))
      ⊢ iprop(FreeM c W2 W3 0 ∗ FreeM c W2 W3 1 ∗ FreeM c W2 W3 2 ∗ FreeM c W2 W3 3) := by
  have h : k % 4 = 0 ∨ k % 4 = 1 ∨ k % 4 = 2 ∨ k % 4 = 3 := by omega
  rcases h with h | h | h | h
  · rw [show ix4' k = 0 from Fin.ext (by show k % 4 = 0; omega)]
    rw [show ix4' (k + 1) = 1 from Fin.ext (by show (k + 1) % 4 = 1; omega)]
    rw [show ix4' (k + 2) = 2 from Fin.ext (by show (k + 2) % 4 = 2; omega)]
    rw [show ix4' (k + 3) = 3 from Fin.ext (by show (k + 3) % 4 = 3; omega)]
  · rw [show ix4' k = 1 from Fin.ext (by show k % 4 = 1; omega)]
    rw [show ix4' (k + 1) = 2 from Fin.ext (by show (k + 1) % 4 = 2; omega)]
    rw [show ix4' (k + 2) = 3 from Fin.ext (by show (k + 2) % 4 = 3; omega)]
    rw [show ix4' (k + 3) = 0 from Fin.ext (by show (k + 3) % 4 = 0; omega)]
    iintro ⟨G1, G2, G3, G0⟩
    isplitl [G0]
    · iexact G0
    isplitl [G1]
    · iexact G1
    isplitl [G2]
    · iexact G2
    iexact G3
  · rw [show ix4' k = 2 from Fin.ext (by show k % 4 = 2; omega)]
    rw [show ix4' (k + 1) = 3 from Fin.ext (by show (k + 1) % 4 = 3; omega)]
    rw [show ix4' (k + 2) = 0 from Fin.ext (by show (k + 2) % 4 = 0; omega)]
    rw [show ix4' (k + 3) = 1 from Fin.ext (by show (k + 3) % 4 = 1; omega)]
    iintro ⟨G2, G3, G0, G1⟩
    isplitl [G0]
    · iexact G0
    isplitl [G1]
    · iexact G1
    isplitl [G2]
    · iexact G2
    iexact G3
  · rw [show ix4' k = 3 from Fin.ext (by show k % 4 = 3; omega)]
    rw [show ix4' (k + 1) = 0 from Fin.ext (by show (k + 1) % 4 = 0; omega)]
    rw [show ix4' (k + 2) = 1 from Fin.ext (by show (k + 2) % 4 = 1; omega)]
    rw [show ix4' (k + 3) = 2 from Fin.ext (by show (k + 3) % 4 = 2; omega)]
    iintro ⟨G3, G0, G1, G2⟩
    isplitl [G0]
    · iexact G0
    isplitl [G1]
    · iexact G1
    isplitl [G2]
    · iexact G2
    iexact G3

/-- The last store, of an accumulator. -/
abbrev lastL (c : Dev nD) (a : Cts F B7 c) : List (View.Piece (Elt F) S64x6144 .bf16) :=
  [⟨Rect.unit (s := S64x6144) ![0, 0] S64x6144.size inb_S64x6144_S64x6144_0_0,
    k0_pay4 (View.readAt (Elt F) B7.view (Rect.unit (s := S64x6144) ![0, 0] S64x6144.size inb_S64x6144_S64x6144_0_0).toLoadRect a)⟩]

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)

/-- The main loop and the last store, from rounded rows `xs` and an accumulator `a0`. -/
theorem tailQ_run (n : Fin 17) (hw : k0_chk2 (wd n)) (v4 : BitVec 32) (c : Dev nD) (W2 : Cts F B2 c) (W3 : Cts F B3 c) (ex st : ℕ → BitVec 32)
    (X12 : Cts F B12 c) (X13 : Cts F B13 c) (hL : Lists c X12 X13 n ex st) (xs : Cts F B5 c) (a0 : Cts F B7 c)
    (f4 : Buf (Elt F) (arg4.view.loc (c : Thread nD τ))) (W : Waits sig Unit) (Q : PUnit → sProp 𝕄) :
    iprop(Slot c W2 W3 n ex 0 ∗ Slot c W2 W3 n ex 1 ∗ Slot c W2 W3 n ex 2 ∗ FreeM c W2 W3 3
        ∗ (B5.view.loc (c : Thread nD τ) ↦[B5.view.set]{fullShare} xs) ∗ (B7.view.loc (c : Thread nD τ) ↦[B7.view.set]{fullShare} a0) ∗ (arg4.view.loc (c : Thread nD τ) ↦[arg4.view.set]{fullShare} f4) ∗ (B12.view.loc (c : Thread nD τ) ↦[B12.view.set]{fullShare} X12) ∗ (B13.view.loc (c : Thread nD τ) ↦[B13.view.set]{fullShare} X13)
        ∗ owes (c : Thread nD τ) 0 W
        ∗ (iprop((FreeM c W2 W3 0 ∗ FreeM c W2 W3 1 ∗ FreeM c W2 W3 2 ∗ FreeM c W2 W3 3)
            ∗ (B5.view.loc (c : Thread nD τ) ↦[B5.view.set]{fullShare} xs) ∗ (B7.view.loc (c : Thread nD τ) ↦[B7.view.set]{fullShare} accAt arg0 harg0 arg1 harg1 arg4 harg4 n hw c W2 W3 ex st xs a0 (3 * n.1))
            ∗ (arg4.view.loc (c : Thread nD τ) ↦[arg4.view.set]{fullShare} arg4.view.writes (Elt F) f4 (lastL c (accAt arg0 harg0 arg1 harg1 arg4 harg4 n hw c W2 W3 ex st xs a0 (3 * n.1))))
            ∗ (B12.view.loc (c : Thread nD τ) ↦[B12.view.set]{fullShare} X12) ∗ (B13.view.loc (c : Thread nD τ) ↦[B13.view.set]{fullShare} X13) ∗ (∃ W', owes (c : Thread nD τ) 0 W')) -∗ Q ⟨⟩))
      ⊢ wp frame (wpE (defs₀ (F := F)) Variants.none c none) Set.univ (tailQ arg0 harg0 arg1 harg1 arg4 harg4 (wd n) hw v4) Q := by
  have htr : (k0_t3_loop (wd n)).trips = 0 := trips3 n
  unfold tailQ
  iintro ⟨S0, S1, S2, F3, H5, H7, H4, H12, H13, HO, Hk⟩
  iapply (exec_loop _ _ _ _ _ _ _ _ _ (loopInv_k0_t2 (F := F) arg0 harg0 arg1 harg1 arg4 harg4 n hw v4 c W2 W3 ex st X12 X13 hL xs a0 0#32)) $$ [S0 S1 S2 F3 H5 H7 H12 H13 HO]
  · have h0 : inv2 arg0 harg0 arg1 harg1 arg4 harg4 n hw c W2 W3 ex st X12 X13 xs a0 0 0#32
        ⊢ (loopInv_k0_t2 (F := F) arg0 harg0 arg1 harg1 arg4 harg4 n hw v4 c W2 W3 ex st X12 X13 hL xs a0 0#32).inv 0 0#32 := .rfl
    iapply h0
    unfold inv2
    isplitl [S0]
    · iexact S0
    isplitl [S1]
    · iexact S1
    isplitl [S2]
    · iexact S2
    isplitl [F3]
    · iexact F3
    isplitl [H5]
    · iexact H5
    isplitl [H7]
    · iexact H7
    isplitl [H12]
    · iexact H12
    isplitl [H13]
    · iexact H13
    iexists W; iexact HO
  iintro %acc Hinv
  have hinv : (loopInv_k0_t2 (F := F) arg0 harg0 arg1 harg1 arg4 harg4 n hw v4 c W2 W3 ex st X12 X13 hL xs a0 0#32).inv
        (Scf.trips (k0_t2_loop (wd n)).lb (k0_t2_loop (wd n)).ub (k0_t2_loop (wd n)).st) acc
      ⊢ inv2 arg0 harg0 arg1 harg1 arg4 harg4 n hw c W2 W3 ex st X12 X13 xs a0 (3 * n.1) acc := by
    have e : Scf.trips (k0_t2_loop (wd n)).lb (k0_t2_loop (wd n)).ub (k0_t2_loop (wd n)).st = 3 * n.1 := trips2 n
    rw [e]; exact .rfl
  ihave Hinv := hinv $$ Hinv
  unfold inv2
  icases Hinv with ⟨S0, S1, S2, F3, H5, H7, H12, H13, ⟨%W1, HO⟩⟩
  generalize accAt arg0 harg0 arg1 harg1 arg4 harg4 n hw c W2 W3 ex st xs a0 (3 * n.1) = a
  have e0 : Slot c W2 W3 n ex (3 * n.1) = FreeM c W2 W3 (ix4' (3 * n.1)) := if_neg (by omega)
  have e1 : Slot c W2 W3 n ex (3 * n.1 + 1) = FreeM c W2 W3 (ix4' (3 * n.1 + 1)) := if_neg (by omega)
  have e2 : Slot c W2 W3 n ex (3 * n.1 + 2) = FreeM c W2 W3 (ix4' (3 * n.1 + 2)) := if_neg (by omega)
  ihave S0 := (BIBase.Entails.of_eq e0) $$ S0
  ihave S1 := (BIBase.Entails.of_eq e1) $$ S1
  ihave S2 := (BIBase.Entails.of_eq e2) $$ S2
  sl_exec
  sl_step
  iapply Hk
  isplitl [S0 S1 S2 F3]
  · iapply (four_rot c W2 W3 (3 * n.1))
    isplitl [S0]
    · iexact S0
    isplitl [S1]
    · iexact S1
    isplitl [S2]
    · iexact S2
    iexact F3
  isplitl [H5]
  · iexact H5
  isplitl [H7]
  · iexact H7
  isplitl [H4]
  · iexact H4
  isplitl [H12]
  · iexact H12
  isplitl [H13]
  · iexact H13
  iexists _; iexact HO

end Cert.Proof.KernelIdeal

end
-- ==== Proof.KI.Body.lean ====
module

public import proofs.«01_k».proof.Proof.KI.Base
public import proofs.«01_k».proof.Proof.KI.Ring
public import proofs.«01_k».proof.Proof.KI.Offs
public import proofs.«01_k».proof.Proof.KI.Checks
public import proofs.«01_k».proof.Proof.KI.Step
public import proofs.«01_k».proof.Proof.KI.Model
public import proofs.«01_k».proof.Proof.KI.Route
public import proofs.«01_k».proof.Proof.KI.Pro
public import proofs.«01_k».proof.Proof.KI.Quant
public import proofs.«01_k».proof.Proof.KI.Tail
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec

@[expose] public section

/-! The whole body: the lists and the first copies, the quantisation, the main loop, the last store. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000
set_option maxRecDepth 65536

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)

/-- The rows the quantisation leaves. -/
def xsV (c : Dev nD) (f1 : Buf (Elt F) (arg1.view.loc (c : Thread nD τ))) : Vec F S64x1536 .bf16 :=
  B5.view.read (Elt F) (B5.view.writes (Elt F) B5.view.junk
    (quant_run arg0 harg0 arg1 harg1 arg4 harg4 c f1 (k0_pay249 (xld arg1 c f1)) (k0_pay250 (xld arg1 c f1)) (k0_pay251 (xld arg1 c f1))).1)

/-- The twelve stores of rounded rows cover the buffer. -/
theorem xs_cover (c : Dev nD) (f1 : Buf (Elt F) (arg1.view.loc (c : Thread nD τ))) (y : S64x1536.Idx) :
    ∃ pc ∈ (quant_run arg0 harg0 arg1 harg1 arg4 harg4 c f1 (k0_pay249 (xld arg1 c f1)) (k0_pay250 (xld arg1 c f1)) (k0_pay251 (xld arg1 c f1))).1, y ∈ pc.1.set :=
  View.cover_of_tiledL (quant_run arg0 harg0 arg1 harg1 arg4 harg4 c f1 (k0_pay249 (xld arg1 c f1)) (k0_pay250 (xld arg1 c f1)) (k0_pay251 (xld arg1 c f1))).1 S64x128.size (by sl_kernel_rfl) y

/-- What is written where an all-covering list has been written does not depend on what was there. -/
theorem writes_unread {κ : Kind} {sp : Space} {s : Shape} {e : EltTy} {m : Memref sig κ sp s e} (h : m.IsWhole)
    (f : m.view.ty.Contents (Elt F)) (L : List (View.Piece (Elt F) s e)) (hL : ∀ y, ∃ pc ∈ L, y ∈ pc.1.set) :
    m.view.writes (Elt F) f L = h.unread (m.view.read (Elt F) (m.view.writes (Elt F) m.view.junk L)) :=
  h.eq_unread (View.read_writes_of_cover _ _ _ _ L hL)

/-- What the run leaves in the accumulator. -/
def accEnd (c : Dev nD) (W2 : Cts F B2 c) (W3 : Cts F B3 c) (f0 : Buf (Elt F) (arg0.view.loc (c : Thread nD τ)))
    (f1 : Buf (Elt F) (arg1.view.loc (c : Thread nD τ))) : Cts F B7 c :=
  accAt arg0 harg0 arg1 harg1 arg4 harg4 (nG (gw arg0 c f0)) (chk2_of _) c W2 W3 (exL (gw arg0 c f0)) (stL (gw arg0 c f0))
    ((Memref.isWhole_whole cc0_scratch0).unread (xsV arg0 harg0 arg1 harg1 arg4 harg4 c f1))
    ((Memref.isWhole_whole cc0_scratch2).unread (k0_pay1 (Scalar.ofBits .f32 0x00000000#32))) (3 * (nG (gw arg0 c f0)).1)

/-- The whole body. -/
theorem body_run (c : Dev nD) (W2 : Cts F B2 c) (W3 : Cts F B3 c) (f0 : Buf (Elt F) (arg0.view.loc (c : Thread nD τ)))
    (f1 : Buf (Elt F) (arg1.view.loc (c : Thread nD τ))) (f4 : Buf (Elt F) (arg4.view.loc (c : Thread nD τ)))
    (f5 : Cts F B5 c) (f7 : Cts F B7 c) (X12 : Cts F B12 c) (X13 : Cts F B13 c) (W : Waits sig Unit) (Q : PUnit → sProp 𝕄) :
    iprop((FreeM c W2 W3 0 ∗ FreeM c W2 W3 1 ∗ FreeM c W2 W3 2 ∗ FreeM c W2 W3 3)
        ∗ (arg0.view.loc (c : Thread nD τ) ↦[arg0.view.set]{fullShare} f0) ∗ (arg1.view.loc (c : Thread nD τ) ↦[arg1.view.set]{fullShare} f1) ∗ (arg4.view.loc (c : Thread nD τ) ↦[arg4.view.set]{fullShare} f4)
        ∗ (B5.view.loc (c : Thread nD τ) ↦[B5.view.set]{fullShare} f5) ∗ (B7.view.loc (c : Thread nD τ) ↦[B7.view.set]{fullShare} f7) ∗ (B12.view.loc (c : Thread nD τ) ↦[B12.view.set]{fullShare} X12) ∗ (B13.view.loc (c : Thread nD τ) ↦[B13.view.set]{fullShare} X13)
        ∗ owes (c : Thread nD τ) 0 W
        ∗ (iprop((FreeM c W2 W3 0 ∗ FreeM c W2 W3 1 ∗ FreeM c W2 W3 2 ∗ FreeM c W2 W3 3)
            ∗ (arg0.view.loc (c : Thread nD τ) ↦[arg0.view.set]{fullShare} f0) ∗ (arg1.view.loc (c : Thread nD τ) ↦[arg1.view.set]{fullShare} f1)
            ∗ (arg4.view.loc (c : Thread nD τ) ↦[arg4.view.set]{fullShare} arg4.view.writes (Elt F) f4 (lastL c (accEnd arg0 harg0 arg1 harg1 arg4 harg4 c W2 W3 f0 f1)))
            ∗ (∃ f, (B5.view.loc (c : Thread nD τ) ↦[B5.view.set]{fullShare} f)) ∗ (∃ f, (B7.view.loc (c : Thread nD τ) ↦[B7.view.set]{fullShare} f)) ∗ (∃ f, (B12.view.loc (c : Thread nD τ) ↦[B12.view.set]{fullShare} f)) ∗ (∃ f, (B13.view.loc (c : Thread nD τ) ↦[B13.view.set]{fullShare} f))
            ∗ (∃ W', owes (c : Thread nD τ) 0 W')) -∗ Q ⟨⟩))
      ⊢ wp frame (wpE (defs₀ (F := F)) Variants.none c none) Set.univ (cc0__body arg0 harg0 arg1 harg1 B2 (Memref.isWhole_whole _) B3 (Memref.isWhole_whole _) arg4 harg4 B5 (Memref.isWhole_whole _) B6 (Memref.isWhole_whole _) B7 (Memref.isWhole_whole _) B8 (Memref.isWhole_whole _) B9 (Memref.isWhole_whole _) cc0_scratch5 cc0_scratch6 B12 (Memref.isWhole_whole _) B13 (Memref.isWhole_whole _)) Q := by
  rw [main_split, wp_bind]
  iintro ⟨⟨F0, F1, F2, F3⟩, H0, H1, H4, H5, H7, H12, H13, HO, Hk⟩
  iapply (pro_run arg0 harg0 arg1 harg1 arg4 harg4 c W2 W3 f0 f1 X12 X13 W)
  isplitl [F0]
  · iexact F0
  isplitl [F1]
  · iexact F1
  isplitl [F2]
  · iexact F2
  isplitl [H0]
  · iexact H0
  isplitl [H1]
  · iexact H1
  isplitl [H12]
  · iexact H12
  isplitl [H13]
  · iexact H13
  isplitl [HO]
  · iexact HO
  iintro ⟨S0, S1, S2, H0, H1, ⟨%Y12, %Y13, %hL, H12, H13⟩, ⟨%W1, HO⟩⟩
  iapply ((quant_run arg0 harg0 arg1 harg1 arg4 harg4 c f1 (k0_pay249 (xld arg1 c f1)) (k0_pay250 (xld arg1 c f1)) (k0_pay251 (xld arg1 c f1))).2 f5)
  isplitl [H1]
  · iexact H1
  isplitl [H5]
  · iexact H5
  iintro ⟨H1, H5⟩
  have e5 := writes_unread (F := F) (Memref.isWhole_whole cc0_scratch0) f5 _ (xs_cover arg0 harg0 arg1 harg1 arg4 harg4 c f1)
  ihave H5 := (BIBase.Entails.of_eq (congrArg (fun A => (B5.view.loc (c : Thread nD τ) ↦[B5.view.set]{fullShare} A : sProp 𝕄)) e5)) $$ H5
  unfold tailP
  iapply (tailH_run c f7)
  isplitl [H7]
  · iexact H7
  iintro H7
  iapply (tailQ_run arg0 harg0 arg1 harg1 arg4 harg4 (nG (gw arg0 c f0)) (chk2_of _) _ c W2 W3 (exL (gw arg0 c f0)) (stL (gw arg0 c f0)) Y12 Y13 hL _ _ f4 W1)
  isplitl [S0]
  · iexact S0
  isplitl [S1]
  · iexact S1
  isplitl [S2]
  · iexact S2
  isplitl [F3]
  · iexact F3
  isplitl [H5]
  · iexact H5
  isplitl [H7]
  · iexact H7
  isplitl [H4]
  · iexact H4
  isplitl [H12]
  · iexact H12
  isplitl [H13]
  · iexact H13
  isplitl [HO]
  · iexact HO
  iintro ⟨HF, H5, H7, H4, H12, H13, HO⟩
  iapply Hk
  isplitl [HF]
  · iexact HF
  isplitl [H0]
  · iexact H0
  isplitl [H1]
  · iexact H1
  isplitl [H4]
  · iexact H4
  isplitl [H5]
  · iexists _; iexact H5
  isplitl [H7]
  · iexists _; iexact H7
  isplitl [H12]
  · iexists _; iexact H12
  isplitl [H13]
  · iexists _; iexact H13
  iexact HO

end Cert.Proof.KernelIdeal

end
-- ==== Proof.KI.Frame.lean ====
module

public import proofs.«01_k».proof.Proof.KI.Slots
public import proofs.«01_k».proof.Proof.KI.Body
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.LoopRemainder
public import Idealize.ShloMosaic.Lib.Exec
public import Idealize.ShloMosaic.Lib.Transfers

@[expose] public section

/-! The run of the whole program: the arguments end unchanged and every counter at zero. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)
open Idealize.ShloMosaic.Rounds

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
/-- The program is its one call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- A window's block at a point. -/
def blkV (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = blkV m c 0 t) (t : Fin cfg0.N) (d) : dat.before 0 t d = blkV m c 0 t :=
  (dat.before_in_eq_fetched 0 rfl (fun _ => rfl) (fun _ _ _ => rfl) (fun t => by rw [hafter]; unfold Dat.blockOf blkV; rw [hA]; try rfl) t d).trans
    (by unfold Dat.fetched Dat.blockOf blkV; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = blkV m c 1 t) (t : Fin cfg0.N) (d) : dat.before 1 t d = blkV m c 1 t :=
  (dat.before_in_eq_fetched 1 rfl (fun _ => rfl) (fun _ _ _ => rfl) (fun t => by rw [hafter]; unfold Dat.blockOf blkV; rw [hA]; try rfl) t d).trans
    (by unfold Dat.fetched Dat.blockOf blkV; rw [hA]; try rfl)

/-- The argument arrays end unchanged and the counters at zero, from a run of the pipeline. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 1).trans (((dats 0 c).arrAt_in 1 rfl _).trans (hA c 1)),
      ((h.1 c).1 0).trans (((dats 0 c).arrAt_in 0 rfl _).trans (hA c 0)),
      (h.1 c).2 main_arg2 (Pipeline.mem_restRefs_of main_arg2 (by decide) (by decide)),
      (h.1 c).2 main_arg3 (Pipeline.mem_restRefs_of main_arg3 (by decide) (by decide))⟩, h.2⟩) h

/-- The staging buffers, at a point. -/
abbrev ms0_0 (t : Fin cfg0.N) : Memref sig .tc .smem S16 .i32 := win0_0.stage (cfg0.slots t 0)
abbrev hs0_0 (t : Fin cfg0.N) : (ms0_0 t).IsWhole := hstage0_0 0
abbrev ms0_1 (t : Fin cfg0.N) : Memref sig .tc .vmem S64x1536 .bf16 := win0_1.stage (cfg0.slots t 1)
abbrev hs0_1 (t : Fin cfg0.N) : (ms0_1 t).IsWhole := hstage0_1 0
abbrev ms0_2 (t : Fin cfg0.N) : Memref sig .tc .vmem S64x6144 .bf16 := win0_2.stage (cfg0.slots t 2)
abbrev hs0_2 (t : Fin cfg0.N) : (ms0_2 t).IsWhole := hstage0_2 0

/-- The eight cells of the two rings. -/
abbrev osem0 : Fin 8 → SemLoc sig := fun j => (![SemLoc.dma 3, SemLoc.dma 4, SemLoc.dma 5, SemLoc.dma 6, SemLoc.dma 7, SemLoc.dma 8, SemLoc.dma 9, SemLoc.dma 10] : Fin 8 → SemLoc sig) j
theorem ownSemFacts0 : Pipeline.OwnSemFacts spec0 osem0 := by decide
/-- The eight cells, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = Cells (F := F) c := by
  rw [Pipeline.ownSems0_eq_of_list c osem0 [0, 1, 2, 3, 4, 5, 6, 7] (by decide) (by decide)]
  unfold Cells
  rw [show cell8 ![0] (semO_inb 0) = _ from cell8_eq 0, show cell8 ![1] (semO_inb 1) = _ from cell8_eq 1, show cell8 ![2] (semO_inb 2) = _ from cell8_eq 2, show cell8 ![3] (semO_inb 3) = _ from cell8_eq 3,
    show cell9 ![0] (semO_inb 0) = _ from cell9_eq 0, show cell9 ![1] (semO_inb 1) = _ from cell9_eq 1, show cell9 ![2] (semO_inb 2) = _ from cell9_eq 2, show cell9 ![3] (semO_inb 3) = _ from cell9_eq 3]
  rfl
/-- The two arrays the copies read. -/
def H0 : Finset (Ref sig .tc) := {main_arg2, main_arg3}
theorem H0_sub : H0 ⊆ Pipeline.restRefs sig spec0 := by decide
/-- The two arrays, one by one. -/
theorem hbmPts0_eq (c : Dev nD) :
    (bigSep H0 (fun b => ((c : Thread nD τ).loc b) ↦{fullShare} V m c b) : sProp 𝕄)
      = iprop((B2.view.loc (c : Thread nD τ) ↦{fullShare} V m c main_arg2) ∗ (B3.view.loc (c : Thread nD τ) ↦{fullShare} V m c main_arg3)) := by
  rw [BI.bigSep_eq_bigSepL_of_eq [main_arg2, main_arg3] (by decide) (by decide)]; rfl

/-- What the body may use, one by one. -/
theorem PhiD0_eq (c : Dev nD) :
    (Pipeline.ΦD osem0 spec0 H0 (V m) c : sProp 𝕄)
      = iprop(((∃ f, B5.view.loc (c : Thread nD τ) ↦{fullShare} f) ∗ (∃ f, B6.view.loc (c : Thread nD τ) ↦{fullShare} f)
          ∗ (∃ f, B7.view.loc (c : Thread nD τ) ↦{fullShare} f) ∗ (∃ f, B8.view.loc (c : Thread nD τ) ↦{fullShare} f)
          ∗ (∃ f, B9.view.loc (c : Thread nD τ) ↦{fullShare} f) ∗ (∃ f, B12.view.loc (c : Thread nD τ) ↦{fullShare} f)
          ∗ (∃ f, B13.view.loc (c : Thread nD τ) ↦{fullShare} f))
        ∗ (∃ r, prngReg c r) ∗ Cells (F := F) c
        ∗ (B2.view.loc (c : Thread nD τ) ↦{fullShare} V m c main_arg2) ∗ (B3.view.loc (c : Thread nD τ) ↦{fullShare} V m c main_arg3)) := by
  rw [Pipeline.ΦD_eq, scopedRest0_eq, ownSems00_eq, hbmPts0_eq]

/-- The buffers' contents the two staged inputs stand for. -/
abbrev gs0 (c : Dev nD) (t : Fin cfg0.N) : Buf (Elt F) ((ms0_0 t).view.loc (c : Thread nD τ)) := (hs0_0 t).unread (blkV m c 0 t)
abbrev x0 (c : Dev nD) (t : Fin cfg0.N) : Buf (Elt F) ((ms0_1 t).view.loc (c : Thread nD τ)) := (hs0_1 t).unread (blkV m c 1 t)

/-- What the body leaves in the result's staging buffer: the accumulator, rounded. -/
def outsAt0 (c : Dev nD) (t : Fin cfg0.N) : Vec F S64x6144 .bf16 :=
  k0_pay4 (View.readAt (Elt F) B7.view (Rect.unit (s := S64x6144) ![0, 0] S64x6144.size inb_S64x6144_S64x6144_0_0).toLoadRect
    (accEnd (ms0_0 t) (hs0_0 t) (ms0_1 t) (hs0_1 t) (ms0_2 t) (hs0_2 t) c (V m c main_arg2) (V m c main_arg3) (gs0 m c t) (x0 m c t)))

/-- The proof data of the one call. -/
def dats (_ : Fin 1) (c : Dev nD) : Dat τ (Elt F) Unit ℕ (Pipeline.UD sig nD τ) ℕ cfg0 c where
  A w := V m c (Pipeline.arrRef spec0 w)
  after w t := match w with
    | ⟨0, _⟩ => blkV m c 0 t
    | ⟨1, _⟩ => blkV m c 1 t
    | ⟨2, _⟩ => outsAt0 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = blkV m c 0 t := by dsimp only [dats]
theorem after0_1 (c : Dev nD) (t : Fin cfg0.N) : (dats m 0 c).after 1 t = blkV m c 1 t := by dsimp only [dats]
theorem after0_2 (c : Dev nD) (t : Fin cfg0.N) : (dats m 0 c).after 2 t = outsAt0 m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- A buffer held whole, as the points-to of its view. -/
theorem whole_pt {sp : Space} {s : Shape} {e : EltTy} {M : Memref sig .tc sp s e} (h : M.IsWhole) (c : Dev nD) (f : Buf (Elt F) (M.view.loc (c : Thread nD τ))) :
    ((M.view.loc (c : Thread nD τ) ↦{fullShare} f) : sProp 𝕄) = (M.view.loc (c : Thread nD τ) ↦[M.view.set]{fullShare} f) := by
  rw [h.set_eq_univ]

/-- A buffer that holds `X`, as a points-to. -/
theorem owns_unread {sp : Space} {s : Shape} {e : EltTy} {M : Memref sig .tc sp s e} (h : M.IsWhole) (c : Dev nD) (X : Vec F s e) :
    (owns (c : Thread nD τ) M fullShare X : sProp 𝕄) ⊣⊢ (M.view.loc (c : Thread nD τ) ↦[M.view.set]{fullShare} h.unread X) := by
  constructor
  · unfold owns
    iintro ⟨%f, %hf, H⟩
    rw [← h.eq_unread hf]
    iexact H
  · unfold owns
    iintro H
    iexists h.unread X
    isplitr
    · ipureintro; exact h.read_unread X
    iexact H

set_option maxHeartbeats 4000000 in
/-- The body runs and leaves what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2]
  simp only [before0_0_of m (dats m 0 c) (A_eq m c 0) (after0_0 m c) t, before0_1_of m (dats m 0 c) (A_eq m c 1) (after0_1 m c) t]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨⟨%f5, H5⟩, H6, ⟨%f7, H7⟩, H8, H9, ⟨%X12, H12⟩, ⟨%X13, H13⟩⟩, Hg, HC, HA2, HA3⟩, ⟨%W, -, HW⟩, ⟨%d0, H0⟩, ⟨%d1, H1⟩, ⟨%d2, H2⟩⟩
  ihave HR := (ring_split c (V m c main_arg2) (V m c main_arg3)) $$ [H8 H9 HC HA2 HA3]
  · isplitl [H8]; · iexact H8
    isplitl [H9]; · iexact H9
    isplitl [HC]; · iexact HC
    isplitl [HA2]; · iexact HA2
    iexact HA3
  icases HR with ⟨HF, R2, R3⟩
  ihave H0 := (owns_unread (F := F) (hs0_0 t) c _).1 $$ H0
  ihave H1 := (owns_unread (F := F) (hs0_1 t) c _).1 $$ H1
  ihave H2 := (owns_unread (F := F) (hs0_2 t) c _).1 $$ H2
  ihave H5 := (BIBase.Entails.of_eq (whole_pt (F := F) (Memref.isWhole_whole cc0_scratch0) c _)) $$ H5
  ihave H7 := (BIBase.Entails.of_eq (whole_pt (F := F) (Memref.isWhole_whole cc0_scratch2) c _)) $$ H7
  ihave H12 := (BIBase.Entails.of_eq (whole_pt (F := F) (Memref.isWhole_whole cc0_scratch7) c _)) $$ H12
  ihave H13 := (BIBase.Entails.of_eq (whole_pt (F := F) (Memref.isWhole_whole cc0_scratch8) c _)) $$ H13
  iapply (body_run (ms0_0 t) (hs0_0 t) (ms0_1 t) (hs0_1 t) (ms0_2 t) (hs0_2 t) c (V m c main_arg2) (V m c main_arg3) (gs0 m c t) (x0 m c t) _ f5 f7 X12 X13 W)
  isplitl [HF]; · iexact HF
  isplitl [H0]; · iexact H0
  isplitl [H1]; · iexact H1
  isplitl [H2]; · iexact H2
  isplitl [H5]; · iexact H5
  isplitl [H7]; · iexact H7
  isplitl [H12]; · iexact H12
  isplitl [H13]; · iexact H13
  isplitl [HW]; · iexact HW
  iintro ⟨HF, H0, H1, H2, ⟨%g5, H5⟩, ⟨%g7, H7⟩, ⟨%g12, H12⟩, ⟨%g13, H13⟩, ⟨%W', HW⟩⟩
  ihave H5 := (BIBase.Entails.of_eq (whole_pt (F := F) (Memref.isWhole_whole cc0_scratch0) c _).symm) $$ H5
  ihave H7 := (BIBase.Entails.of_eq (whole_pt (F := F) (Memref.isWhole_whole cc0_scratch2) c _).symm) $$ H7
  ihave H12 := (BIBase.Entails.of_eq (whole_pt (F := F) (Memref.isWhole_whole cc0_scratch7) c _).symm) $$ H12
  ihave H13 := (BIBase.Entails.of_eq (whole_pt (F := F) (Memref.isWhole_whole cc0_scratch8) c _).symm) $$ H13
  ihave HR := (ring_join c (V m c main_arg2) (V m c main_arg3)) $$ [HF R2 R3]
  · isplitl [HF]; · iexact HF
    isplitl [R2]; · iexact R2
    iexact R3
  icases HR with ⟨H8, H9, HC, HA2, HA3⟩
  isplitl [H5 H6 H7 H8 H9 H12 H13 Hg HC HA2 HA3]
  · isplitl [H5 H6 H7 H8 H9 H12 H13]
    · isplitl [H5]; · iexists _; iexact H5
      isplitl [H6]; · iexact H6
      isplitl [H7]; · iexists _; iexact H7
      isplitl [H8]; · iexact H8
      isplitl [H9]; · iexact H9
      isplitl [H12]; · iexists _; iexact H12
      iexists _; iexact H13
    isplitl [Hg]; · iexact Hg
    isplitl [HC]; · iexact HC
    isplitl [HA2]; · iexact HA2
    iexact HA3
  isplitl [HW]
  · iexists W'; isplitr; · ipureintro; exact fun _ _ => Or.inl trivial
    iexact HW
  isplitl [H0]; · iapply (owns_unread (F := F) (hs0_0 t) c _).2; iexact H0
  isplitl [H1]; · iapply (owns_unread (F := F) (hs0_1 t) c _).2; iexact H1
  iapply (owns_unread (F := F) (hs0_2 t) c _).2
  have e : (ms0_2 t).view.writes (Elt F) ((hs0_2 t).unread ((dats m 0 c).before 2 t d2)) (lastL c (accEnd (ms0_0 t) (hs0_0 t) (ms0_1 t) (hs0_1 t) (ms0_2 t) (hs0_2 t) c (V m c main_arg2) (V m c main_arg3) (gs0 m c t) (x0 m c t)))
      = (hs0_2 t).unread (outsAt0 m c t) := unit_whole (hs0_2 t) _ _ (by decide) _ _
  ihave H2 := (BIBase.Entails.of_eq (congrArg (fun A => ((ms0_2 t).view.loc (c : Thread nD τ) ↦[(ms0_2 t).view.set]{fullShare} A : sProp 𝕄)) e)) $$ H2
  iexact H2

theorem defs₀_row (t : Fin cfg0.N) :
    defs₀ (F := F) .tc cfg0.body (cfg0.bodyArgs t (cfg0.slots t)) = bodyAt0 t := by
  unfold defs₀; rw [Defs.onTc_tc]

/-- The same, in the form the run of the pipeline asks for. -/
theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs, and ends with every array as the proof data say and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  frame_of m ρ (dats m) (A_eq m) (run_main m ρ)

end Cert.Proof.KernelIdeal

end
-- ==== Proof.Val.Tile.lean ====
module

public import proofs.«01_k».proof.Proof.KI.Trip

@[expose] public section

/-! The eight stores of a trip, each as the same function of what the trip has loaded: the sum of six products of a
256-column part of the rows with a block of dequantised weights, kept in the rows of the mask. -/

noncomputable section

namespace Cert.Proof.KernelIdeal

open Cert.KernelIdeal Cert.KernelIdeal.Gen
open Idealize.ShloMosaic Idealize.ShloMosaic.TcCoe

variable {F : FTy → Type} [FloatOps F]

set_option maxRecDepth 65536

/-- Rows of the mask take the sum, the others keep what they held. -/
def tile (mask : IVec S64x1 1) (S old : Vec F S64x256 .f32) : FVec F S64x256 .f32 :=
  shapeCast S64x256 (select (broadcastTo S64x256 (shapeCast S64x1 mask shapeCasts_S64x1_S64x1) broadcasts_S64x1_S64x256) S old) shapeCasts_S64x256_S64x256

/-- The sum of the six products of one store. -/
def six (w0 w1 w2 w3 w4 w5 : Vec F S1x128x256 .i8) (s0 s1 s2 s3 s4 s5 s6 s7 s8 s9 s10 s11 : Vec F S1x1x256 .f32) (x0 x1 x2 x3 x4 x5 : Vec F S64x256 .bf16) : FVec F S64x256 .f32 :=
  addf (addf (addf (addf (addf (k0_pay7 w0 s0 s1 x0) (k0_pay7 w1 s2 s3 x1)) (k0_pay7 w2 s4 s5 x2)) (k0_pay7 w3 s6 s7 x3)) (k0_pay7 w4 s8 s9 x4)) (k0_pay7 w5 s10 s11 x5)

/-- The first tile a trip stores is `tile` of the sums of its six products; likewise the seven that follow. -/
theorem store1 (mask : IVec S64x1 1) (w0 w1 w2 w3 w4 w5 : Vec F S1x128x256 .i8) (s0 s1 s2 s3 s4 s5 s6 s7 s8 s9 s10 s11 : Vec F S1x1x256 .f32) (x0 x1 x2 x3 x4 x5 : Vec F S64x256 .bf16) (old : Vec F S64x256 .f32) :
    k0_pay23 mask (k0_pay21 (k0_pay17 (k0_pay14 (k0_pay10 (k0_pay7 w0 s0 s1 x0) (k0_pay8 w1) k0_pay9 s2 s3 x1) (k0_pay12 w2) (k0_pay13 w2) s4 s5 x2) (k0_pay15 w3) (k0_pay16 s6) s7 x3) (k0_pay18 w4) (k0_pay19 w4 s8) (k0_pay20 s9) x4) (k0_pay22 w5 s10 s11) x5 (constant S64x256 FTy.f32 0#32) old
      = tile mask (six w0 w1 w2 w3 w4 w5 s0 s1 s2 s3 s4 s5 s6 s7 s8 s9 s10 s11 x0 x1 x2 x3 x4 x5) old := rfl

theorem store2 (mask : IVec S64x1 1) (w6 w7 w8 w9 w10 w11 : Vec F S1x128x256 .i8) (s12 s13 s14 s15 s16 s17 s18 s19 s20 s21 s22 s23 : Vec F S1x1x256 .f32) (x0 x1 x2 x3 x4 x5 : Vec F S64x256 .bf16) (old : Vec F S64x256 .f32) :
    k0_pay36 mask (k0_pay33 (k0_pay31 (k0_pay27 (k0_pay25 (k0_pay24 w6 s12 s13) x0 w7 s14 s15 x1) (k0_pay26 w8) s16 s17 x2) (k0_pay29 w9) (k0_pay30 w9) s18 s19 x3) (k0_pay32 w10) s20 s21 x4) (k0_pay34 w11) (k0_pay35 w11 s22) s23 x5 old
      = tile mask (six w6 w7 w8 w9 w10 w11 s12 s13 s14 s15 s16 s17 s18 s19 s20 s21 s22 s23 x0 x1 x2 x3 x4 x5) old := rfl

theorem store3 (mask : IVec S64x1 1) (w12 w13 w14 w15 w16 w17 : Vec F S1x128x256 .i8) (s24 s25 s26 s27 s28 s29 s30 s31 s32 s33 s34 s35 : Vec F S1x1x256 .f32) (x0 x1 x2 x3 x4 x5 : Vec F S64x256 .bf16) (old : Vec F S64x256 .f32) :
    k0_pay51 mask (k0_pay49 (k0_pay46 (k0_pay45 (k0_pay40 (k0_pay37 w12) (k0_pay38 s24) (k0_pay39 w12) s25 x0) (k0_pay42 w13 s26) (k0_pay43 w13) (k0_pay44 s27) x1 w14 s28 s29 x2) w15 s30 s31 x3) (k0_pay47 w16) (k0_pay48 w16) s32 s33 x4) (k0_pay50 w17) s34 s35 x5 old
      = tile mask (six w12 w13 w14 w15 w16 w17 s24 s25 s26 s27 s28 s29 s30 s31 s32 s33 s34 s35 x0 x1 x2 x3 x4 x5) old := rfl

theorem store4 (mask : IVec S64x1 1) (w18 w19 w20 w21 w22 w23 : Vec F S1x128x256 .i8) (s36 s37 s38 s39 s40 s41 s42 s43 s44 s45 s46 s47 : Vec F S1x1x256 .f32) (x0 x1 x2 x3 x4 x5 : Vec F S64x256 .bf16) (old : Vec F S64x256 .f32) :
    k0_pay67 mask (k0_pay64 (k0_pay62 (k0_pay58 (k0_pay55 (k0_pay53 w18) (k0_pay54 w18) s36 s37 x0) (k0_pay56 w19) (k0_pay57 s38) s39 x1) (k0_pay59 w20) (k0_pay60 w20 s40) (k0_pay61 s41) x2) (k0_pay63 w21 s42 s43 x3) w22 s44 s45 x4) (k0_pay65 w23) (k0_pay66 w23) s46 s47 x5 old
      = tile mask (six w18 w19 w20 w21 w22 w23 s36 s37 s38 s39 s40 s41 s42 s43 s44 s45 s46 s47 x0 x1 x2 x3 x4 x5) old := rfl

theorem store5 (mask : IVec S64x1 1) (w24 w25 w26 w27 w28 w29 : Vec F S1x128x256 .i8) (s48 s49 s50 s51 s52 s53 s54 s55 s56 s57 s58 s59 : Vec F S1x1x256 .f32) (x0 x1 x2 x3 x4 x5 : Vec F S64x256 .bf16) (old : Vec F S64x256 .f32) :
    k0_pay82 (k0_pay80 (k0_pay78 (k0_pay75 (k0_pay73 (k0_pay69 (k0_pay68 w24) s48 s49 x0) (k0_pay71 w25) (k0_pay72 w25) (28#32) s50 s51 x1) (k0_pay74 w26) s52 s53 x2) (k0_pay76 w27) (k0_pay77 w27 s54) s55 x3) (k0_pay79 w28 s56 s57) x4 w29 s58 s59 x5) old (k0_pay81 mask)
      = tile mask (six w24 w25 w26 w27 w28 w29 s48 s49 s50 s51 s52 s53 s54 s55 s56 s57 s58 s59 x0 x1 x2 x3 x4 x5) old := rfl

theorem store6 (mask : IVec S64x1 1) (w30 w31 w32 w33 w34 w35 : Vec F S1x128x256 .i8) (s60 s61 s62 s63 s64 s65 s66 s67 s68 s69 s70 s71 : Vec F S1x1x256 .f32) (x0 x1 x2 x3 x4 x5 : Vec F S64x256 .bf16) (old : Vec F S64x256 .f32) :
    k0_pay96 mask (k0_pay92 (k0_pay89 (k0_pay87 (k0_pay84 (k0_pay83 w30 s60 s61 x0) w31 s62 s63 x1) (k0_pay85 w32) (k0_pay86 w32) (24#32) s64 s65 x2) (k0_pay88 w33) s66 s67 x3) (k0_pay90 w34) (k0_pay91 w34 s68) s69 x4) (k0_pay94 w35 s70) (k0_pay95 w35 s71) x5 old
      = tile mask (six w30 w31 w32 w33 w34 w35 s60 s61 s62 s63 s64 s65 s66 s67 s68 s69 s70 s71 x0 x1 x2 x3 x4 x5) old := rfl

theorem store7 (mask : IVec S64x1 1) (w36 w37 w38 w39 w40 w41 : Vec F S1x128x256 .i8) (s72 s73 s74 s75 s76 s77 s78 s79 s80 s81 s82 s83 : Vec F S1x1x256 .f32) (x0 x1 x2 x3 x4 x5 : Vec F S64x256 .bf16) (old : Vec F S64x256 .f32) :
    k0_pay111 mask (k0_pay108 (k0_pay104 (k0_pay101 (k0_pay100 (k0_pay97 w36) (k0_pay98 w36 s72) (k0_pay99 s73) x0 w37 s74 s75 x1) w38 s76 s77 x2) (k0_pay102 w39) (k0_pay103 w39) (28#32) s78 s79 x3) (k0_pay106 w40) (k0_pay107 w40) s80 s81 x4) (k0_pay109 w41) (k0_pay110 s82) s83 x5 old
      = tile mask (six w36 w37 w38 w39 w40 w41 s72 s73 s74 s75 s76 s77 s78 s79 s80 s81 s82 s83 x0 x1 x2 x3 x4 x5) old := rfl

theorem store8 (mask : IVec S64x1 1) (w42 w43 w44 w45 w46 w47 : Vec F S1x128x256 .i8) (s84 s85 s86 s87 s88 s89 s90 s91 s92 s93 s94 s95 : Vec F S1x1x256 .f32) (x0 x1 x2 x3 x4 x5 : Vec F S64x256 .bf16) (old : Vec F S64x256 .f32) :
    k0_pay2 mask (k0_pay120 (k0_pay118 (k0_pay116 (k0_pay113 (k0_pay112 w42) s84 s85 x0) (k0_pay114 w43) (k0_pay115 w43 s86) s87 x1) (k0_pay117 w44 s88 s89) x2 w45 s90 s91 x3) (k0_pay119 w46) (28#32) s92 s93 x4) (k0_pay125 (k0_pay122 w47) (k0_pay123 w47) k0_pay124) (k0_pay126 (k0_pay122 w47) (k0_pay123 w47) k0_pay124 s94) s95 x5 old
      = tile mask (six w42 w43 w44 w45 w46 w47 s84 s85 s86 s87 s88 s89 s90 s91 s92 s93 s94 s95 x0 x1 x2 x3 x4 x5) old := rfl

end Cert.Proof.KernelIdeal

end
-- ==== Proof.Val.TripL.lean ====
module

public import proofs.«01_k».proof.Proof.Val.Tile
public import Idealize.ShloMosaic.Lib.WritesUnit

@[expose] public section

/-! What a trip leaves in the accumulator, as eight stores of the same form. -/

noncomputable section

namespace Cert.Proof.KernelIdeal

open Cert.KernelIdeal Cert.KernelIdeal.Gen
open Idealize.ShloMosaic Idealize.ShloMosaic.TcCoe

variable {F : FTy → Type} [FloatOps F]

set_option maxRecDepth 65536
set_option maxHeartbeats 1000000

variable (v : BitVec 32) (hw : k0_chk2 v) (t : Fin (k0_t2_loop v).trips) (c : Dev nD)

/-- One more store of a trip: the columns `b`, read after the stores before it. -/
def put (b : Fin 8) (mask : IVec S64x1 1) (S : Vec F S64x256 .f32) (a : Cts F B7 c) (L : List (View.Piece (Elt F) S64x6144 .f32)) :
    List (View.Piece (Elt F) S64x6144 .f32) :=
  ⟨Rect.unit (s := S64x6144) (k0_off59 v t (BitVec.ofNat 32 (256 * b.val))) S64x256.size (k0_off59_inb v hw t b), tile mask S
      (View.readAt (Elt F) B7.view (Rect.unit (s := S64x6144) (k0_off59 v t (BitVec.ofNat 32 (256 * b.val))) S64x256.size (k0_off59_inb v hw t b)).toLoadRect
        (B7.view.writes (Elt F) a L))⟩ :: L

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (v640 v644 : BitVec 32) (v669 : IVec S64x1 32) (v673 : IVec S64x1 1) (v676 : Elt F .i32)
    (w : Cts F B8 c) (s : Cts F B9 c) (xs : Cts F B5 c) (a : Cts F B7 c)

/-- The sum stored in columns 0. -/
def sum0 : Vec F S64x256 .f32 :=
  six (View.readAt (Elt F) B8.view (Rect.unit (s := S4x768x2048) (k0_off41 v t) S1x128x256.size (k0_off41_inb v hw t)).toLoadRect w)
    (View.readAt (Elt F) B8.view (Rect.unit (s := S4x768x2048) (k0_off44 v t) S1x128x256.size (k0_off44_inb v hw t)).toLoadRect w)
    (View.readAt (Elt F) B8.view (Rect.unit (s := S4x768x2048) (k0_off47 v t) S1x128x256.size (k0_off47_inb v hw t)).toLoadRect w)
    (View.readAt (Elt F) B8.view (Rect.unit (s := S4x768x2048) (k0_off50 v t) S1x128x256.size (k0_off50_inb v hw t)).toLoadRect w)
    (View.readAt (Elt F) B8.view (Rect.unit (s := S4x768x2048) (k0_off53 v t) S1x128x256.size (k0_off53_inb v hw t)).toLoadRect w)
    (View.readAt (Elt F) B8.view (Rect.unit (s := S4x768x2048) (k0_off56 v t) S1x128x256.size (k0_off56_inb v hw t)).toLoadRect w)
    (View.readAt (Elt F) B9.view (Rect.unit (s := S4x12x2048) (k0_off42 v t) S1x1x256.size (k0_off42_inb v hw t)).toLoadRect s)
    (View.readAt (Elt F) B9.view (Rect.unit (s := S4x12x2048) (k0_off43 v t) S1x1x256.size (k0_off43_inb v hw t)).toLoadRect s)
    (View.readAt (Elt F) B9.view (Rect.unit (s := S4x12x2048) (k0_off45 v t) S1x1x256.size (k0_off45_inb v hw t)).toLoadRect s)
    (View.readAt (Elt F) B9.view (Rect.unit (s := S4x12x2048) (k0_off46 v t) S1x1x256.size (k0_off46_inb v hw t)).toLoadRect s)
    (View.readAt (Elt F) B9.view (Rect.unit (s := S4x12x2048) (k0_off48 v t) S1x1x256.size (k0_off48_inb v hw t)).toLoadRect s)
    (View.readAt (Elt F) B9.view (Rect.unit (s := S4x12x2048) (k0_off49 v t) S1x1x256.size (k0_off49_inb v hw t)).toLoadRect s)
    (View.readAt (Elt F) B9.view (Rect.unit (s := S4x12x2048) (k0_off51 v t) S1x1x256.size (k0_off51_inb v hw t)).toLoadRect s)
    (View.readAt (Elt F) B9.view (Rect.unit (s := S4x12x2048) (k0_off52 v t) S1x1x256.size (k0_off52_inb v hw t)).toLoadRect s)
    (View.readAt (Elt F) B9.view (Rect.unit (s := S4x12x2048) (k0_off54 v t) S1x1x256.size (k0_off54_inb v hw t)).toLoadRect s)
    (View.readAt (Elt F) B9.view (Rect.unit (s := S4x12x2048) (k0_off55 v t) S1x1x256.size (k0_off55_inb v hw t)).toLoadRect s)
    (View.readAt (Elt F) B9.view (Rect.unit (s := S4x12x2048) (k0_off57 v t) S1x1x256.size (k0_off57_inb v hw t)).toLoadRect s)
    (View.readAt (Elt F) B9.view (Rect.unit (s := S4x12x2048) (k0_off58 v t) S1x1x256.size (k0_off58_inb v hw t)).toLoadRect s)
    (View.readAt (Elt F) B5.view (Rect.unit (s := S64x1536) ![0, 0] S64x256.size inb_S64x1536_S64x256_0_0).toLoadRect xs)
    (View.readAt (Elt F) B5.view (Rect.unit (s := S64x1536) ![0, 256] S64x256.size inb_S64x1536_S64x256_0_256).toLoadRect xs)
    (View.readAt (Elt F) B5.view (Rect.unit (s := S64x1536) ![0, 512] S64x256.size inb_S64x1536_S64x256_0_512).toLoadRect xs)
    (View.readAt (Elt F) B5.view (Rect.unit (s := S64x1536) ![0, 768] S64x256.size inb_S64x1536_S64x256_0_768).toLoadRect xs)
    (View.readAt (Elt F) B5.view (Rect.unit (s := S64x1536) ![0, 1024] S64x256.size inb_S64x1536_S64x256_0_1024).toLoadRect xs)
    (View.readAt (Elt F) B5.view (Rect.unit (s := S64x1536) ![0, 1280] S64x256.size inb_S64x1536_S64x256_0_1280).toLoadRect xs)

/-- The sum stored in columns 1. -/
def sum1 : Vec F S64x256 .f32 :=
  six (View.readAt (Elt F) B8.view (Rect.unit (s := S4x768x2048) (k0_off60 v t) S1x128x256.size (k0_off60_inb v hw t)).toLoadRect w)
    (View.readAt (Elt F) B8.view (Rect.unit (s := S4x768x2048) (k0_off63 v t) S1x128x256.size (k0_off63_inb v hw t)).toLoadRect w)
    (View.readAt (Elt F) B8.view (Rect.unit (s := S4x768x2048) (k0_off66 v t) S1x128x256.size (k0_off66_inb v hw t)).toLoadRect w)
    (View.readAt (Elt F) B8.view (Rect.unit (s := S4x768x2048) (k0_off69 v t) S1x128x256.size (k0_off69_inb v hw t)).toLoadRect w)
    (View.readAt (Elt F) B8.view (Rect.unit (s := S4x768x2048) (k0_off72 v t) S1x128x256.size (k0_off72_inb v hw t)).toLoadRect w)
    (View.readAt (Elt F) B8.view (Rect.unit (s := S4x768x2048) (k0_off75 v t) S1x128x256.size (k0_off75_inb v hw t)).toLoadRect w)
    (View.readAt (Elt F) B9.view (Rect.unit (s := S4x12x2048) (k0_off61 v t) S1x1x256.size (k0_off61_inb v hw t)).toLoadRect s)
    (View.readAt (Elt F) B9.view (Rect.unit (s := S4x12x2048) (k0_off62 v t) S1x1x256.size (k0_off62_inb v hw t)).toLoadRect s)
    (View.readAt (Elt F) B9.view (Rect.unit (s := S4x12x2048) (k0_off64 v t) S1x1x256.size (k0_off64_inb v hw t)).toLoadRect s)
    (View.readAt (Elt F) B9.view (Rect.unit (s := S4x12x2048) (k0_off65 v t) S1x1x256.size (k0_off65_inb v hw t)).toLoadRect s)
    (View.readAt (Elt F) B9.view (Rect.unit (s := S4x12x2048) (k0_off67 v t) S1x1x256.size (k0_off67_inb v hw t)).toLoadRect s)
    (View.readAt (Elt F) B9.view (Rect.unit (s := S4x12x2048) (k0_off68 v t) S1x1x256.size (k0_off68_inb v hw t)).toLoadRect s)
    (View.readAt (Elt F) B9.view (Rect.unit (s := S4x12x2048) (k0_off70 v t) S1x1x256.size (k0_off70_inb v hw t)).toLoadRect s)
    (View.readAt (Elt F) B9.view (Rect.unit (s := S4x12x2048) (k0_off71 v t) S1x1x256.size (k0_off71_inb v hw t)).toLoadRect s)
    (View.readAt (Elt F) B9.view (Rect.unit (s := S4x12x2048) (k0_off73 v t) S1x1x256.size (k0_off73_inb v hw t)).toLoadRect s)
    (View.readAt (Elt F) B9.view (Rect.unit (s := S4x12x2048) (k0_off74 v t) S1x1x256.size (k0_off74_inb v hw t)).toLoadRect s)
    (View.readAt (Elt F) B9.view (Rect.unit (s := S4x12x2048) (k0_off76 v t) S1x1x256.size (k0_off76_inb v hw t)).toLoadRect s)
    (View.readAt (Elt F) B9.view (Rect.unit (s := S4x12x2048) (k0_off77 v t) S1x1x256.size (k0_off77_inb v hw t)).toLoadRect s)
    (View.readAt (Elt F) B5.view (Rect.unit (s := S64x1536) ![0, 0] S64x256.size inb_S64x1536_S64x256_0_0).toLoadRect xs)
    (View.readAt (Elt F) B5.view (Rect.unit (s := S64x1536) ![0, 256] S64x256.size inb_S64x1536_S64x256_0_256).toLoadRect xs)
    (View.readAt (Elt F) B5.view (Rect.unit (s := S64x1536) ![0, 512] S64x256.size inb_S64x1536_S64x256_0_512).toLoadRect xs)
    (View.readAt (Elt F) B5.view (Rect.unit (s := S64x1536) ![0, 768] S64x256.size inb_S64x1536_S64x256_0_768).toLoadRect xs)
    (View.readAt (Elt F) B5.view (Rect.unit (s := S64x1536) ![0, 1024] S64x256.size inb_S64x1536_S64x256_0_1024).toLoadRect xs)
    (View.readAt (Elt F) B5.view (Rect.unit (s := S64x1536) ![0, 1280] S64x256.size inb_S64x1536_S64x256_0_1280).toLoadRect xs)

/-- The sum stored in columns 2. -/
def sum2 : Vec F S64x256 .f32 :=
  six (View.readAt (Elt F) B8.view (Rect.unit (s := S4x768x2048) (k0_off78 v t) S1x128x256.size (k0_off78_inb v hw t)).toLoadRect w)
    (View.readAt (Elt F) B8.view (Rect.unit (s := S4x768x2048) (k0_off81 v t) S1x128x256.size (k0_off81_inb v hw t)).toLoadRect w)
    (View.readAt (Elt F) B8.view (Rect.unit (s := S4x768x2048) (k0_off84 v t) S1x128x256.size (k0_off84_inb v hw t)).toLoadRect w)
    (View.readAt (Elt F) B8.view (Rect.unit (s := S4x768x2048) (k0_off87 v t) S1x128x256.size (k0_off87_inb v hw t)).toLoadRect w)
    (View.readAt (Elt F) B8.view (Rect.unit (s := S4x768x2048) (k0_off90 v t) S1x128x256.size (k0_off90_inb v hw t)).toLoadRect w)
    (View.readAt (Elt F) B8.view (Rect.unit (s := S4x768x2048) (k0_off93 v t) S1x128x256.size (k0_off93_inb v hw t)).toLoadRect w)
    (View.readAt (Elt F) B9.view (Rect.unit (s := S4x12x2048) (k0_off79 v t) S1x1x256.size (k0_off79_inb v hw t)).toLoadRect s)
    (View.readAt (Elt F) B9.view (Rect.unit (s := S4x12x2048) (k0_off80 v t) S1x1x256.size (k0_off80_inb v hw t)).toLoadRect s)
    (View.readAt (Elt F) B9.view (Rect.unit (s := S4x12x2048) (k0_off82 v t) S1x1x256.size (k0_off82_inb v hw t)).toLoadRect s)
    (View.readAt (Elt F) B9.view (Rect.unit (s := S4x12x2048) (k0_off83 v t) S1x1x256.size (k0_off83_inb v hw t)).toLoadRect s)
    (View.readAt (Elt F) B9.view (Rect.unit (s := S4x12x2048) (k0_off85 v t) S1x1x256.size (k0_off85_inb v hw t)).toLoadRect s)
    (View.readAt (Elt F) B9.view (Rect.unit (s := S4x12x2048) (k0_off86 v t) S1x1x256.size (k0_off86_inb v hw t)).toLoadRect s)
    (View.readAt (Elt F) B9.view (Rect.unit (s := S4x12x2048) (k0_off88 v t) S1x1x256.size (k0_off88_inb v hw t)).toLoadRect s)
    (View.readAt (Elt F) B9.view (Rect.unit (s := S4x12x2048) (k0_off89 v t) S1x1x256.size (k0_off89_inb v hw t)).toLoadRect s)
    (View.readAt (Elt F) B9.view (Rect.unit (s := S4x12x2048) (k0_off91 v t) S1x1x256.size (k0_off91_inb v hw t)).toLoadRect s)
    (View.readAt (Elt F) B9.view (Rect.unit (s := S4x12x2048) (k0_off92 v t) S1x1x256.size (k0_off92_inb v hw t)).toLoadRect s)
    (View.readAt (Elt F) B9.view (Rect.unit (s := S4x12x2048) (k0_off94 v t) S1x1x256.size (k0_off94_inb v hw t)).toLoadRect s)
    (View.readAt (Elt F) B9.view (Rect.unit (s := S4x12x2048) (k0_off95 v t) S1x1x256.size (k0_off95_inb v hw t)).toLoadRect s)
    (View.readAt (Elt F) B5.view (Rect.unit (s := S64x1536) ![0, 0] S64x256.size inb_S64x1536_S64x256_0_0).toLoadRect xs)
    (View.readAt (Elt F) B5.view (Rect.unit (s := S64x1536) ![0, 256] S64x256.size inb_S64x1536_S64x256_0_256).toLoadRect xs)
    (View.readAt (Elt F) B5.view (Rect.unit (s := S64x1536) ![0, 512] S64x256.size inb_S64x1536_S64x256_0_512).toLoadRect xs)
    (View.readAt (Elt F) B5.view (Rect.unit (s := S64x1536) ![0, 768] S64x256.size inb_S64x1536_S64x256_0_768).toLoadRect xs)
    (View.readAt (Elt F) B5.view (Rect.unit (s := S64x1536) ![0, 1024] S64x256.size inb_S64x1536_S64x256_0_1024).toLoadRect xs)
    (View.readAt (Elt F) B5.view (Rect.unit (s := S64x1536) ![0, 1280] S64x256.size inb_S64x1536_S64x256_0_1280).toLoadRect xs)

/-- The sum stored in columns 3. -/
def sum3 : Vec F S64x256 .f32 :=
  six (View.readAt (Elt F) B8.view (Rect.unit (s := S4x768x2048) (k0_off96 v t) S1x128x256.size (k0_off96_inb v hw t)).toLoadRect w)
    (View.readAt (Elt F) B8.view (Rect.unit (s := S4x768x2048) (k0_off99 v t) S1x128x256.size (k0_off99_inb v hw t)).toLoadRect w)
    (View.readAt (Elt F) B8.view (Rect.unit (s := S4x768x2048) (k0_off102 v t) S1x128x256.size (k0_off102_inb v hw t)).toLoadRect w)
    (View.readAt (Elt F) B8.view (Rect.unit (s := S4x768x2048) (k0_off105 v t) S1x128x256.size (k0_off105_inb v hw t)).toLoadRect w)
    (View.readAt (Elt F) B8.view (Rect.unit (s := S4x768x2048) (k0_off108 v t) S1x128x256.size (k0_off108_inb v hw t)).toLoadRect w)
    (View.readAt (Elt F) B8.view (Rect.unit (s := S4x768x2048) (k0_off111 v t) S1x128x256.size (k0_off111_inb v hw t)).toLoadRect w)
    (View.readAt (Elt F) B9.view (Rect.unit (s := S4x12x2048) (k0_off97 v t) S1x1x256.size (k0_off97_inb v hw t)).toLoadRect s)
    (View.readAt (Elt F) B9.view (Rect.unit (s := S4x12x2048) (k0_off98 v t) S1x1x256.size (k0_off98_inb v hw t)).toLoadRect s)
    (View.readAt (Elt F) B9.view (Rect.unit (s := S4x12x2048) (k0_off100 v t) S1x1x256.size (k0_off100_inb v hw t)).toLoadRect s)
    (View.readAt (Elt F) B9.view (Rect.unit (s := S4x12x2048) (k0_off101 v t) S1x1x256.size (k0_off101_inb v hw t)).toLoadRect s)
    (View.readAt (Elt F) B9.view (Rect.unit (s := S4x12x2048) (k0_off103 v t) S1x1x256.size (k0_off103_inb v hw t)).toLoadRect s)
    (View.readAt (Elt F) B9.view (Rect.unit (s := S4x12x2048) (k0_off104 v t) S1x1x256.size (k0_off104_inb v hw t)).toLoadRect s)
    (View.readAt (Elt F) B9.view (Rect.unit (s := S4x12x2048) (k0_off106 v t) S1x1x256.size (k0_off106_inb v hw t)).toLoadRect s)
    (View.readAt (Elt F) B9.view (Rect.unit (s := S4x12x2048) (k0_off107 v t) S1x1x256.size (k0_off107_inb v hw t)).toLoadRect s)
    (View.readAt (Elt F) B9.view (Rect.unit (s := S4x12x2048) (k0_off109 v t) S1x1x256.size (k0_off109_inb v hw t)).toLoadRect s)
    (View.readAt (Elt F) B9.view (Rect.unit (s := S4x12x2048) (k0_off110 v t) S1x1x256.size (k0_off110_inb v hw t)).toLoadRect s)
    (View.readAt (Elt F) B9.view (Rect.unit (s := S4x12x2048) (k0_off112 v t) S1x1x256.size (k0_off112_inb v hw t)).toLoadRect s)
    (View.readAt (Elt F) B9.view (Rect.unit (s := S4x12x2048) (k0_off113 v t) S1x1x256.size (k0_off113_inb v hw t)).toLoadRect s)
    (View.readAt (Elt F) B5.view (Rect.unit (s := S64x1536) ![0, 0] S64x256.size inb_S64x1536_S64x256_0_0).toLoadRect xs)
    (View.readAt (Elt F) B5.view (Rect.unit (s := S64x1536) ![0, 256] S64x256.size inb_S64x1536_S64x256_0_256).toLoadRect xs)
    (View.readAt (Elt F) B5.view (Rect.unit (s := S64x1536) ![0, 512] S64x256.size inb_S64x1536_S64x256_0_512).toLoadRect xs)
    (View.readAt (Elt F) B5.view (Rect.unit (s := S64x1536) ![0, 768] S64x256.size inb_S64x1536_S64x256_0_768).toLoadRect xs)
    (View.readAt (Elt F) B5.view (Rect.unit (s := S64x1536) ![0, 1024] S64x256.size inb_S64x1536_S64x256_0_1024).toLoadRect xs)
    (View.readAt (Elt F) B5.view (Rect.unit (s := S64x1536) ![0, 1280] S64x256.size inb_S64x1536_S64x256_0_1280).toLoadRect xs)

/-- The sum stored in columns 4. -/
def sum4 : Vec F S64x256 .f32 :=
  six (View.readAt (Elt F) B8.view (Rect.unit (s := S4x768x2048) (k0_off114 v t) S1x128x256.size (k0_off114_inb v hw t)).toLoadRect w)
    (View.readAt (Elt F) B8.view (Rect.unit (s := S4x768x2048) (k0_off117 v t) S1x128x256.size (k0_off117_inb v hw t)).toLoadRect w)
    (View.readAt (Elt F) B8.view (Rect.unit (s := S4x768x2048) (k0_off120 v t) S1x128x256.size (k0_off120_inb v hw t)).toLoadRect w)
    (View.readAt (Elt F) B8.view (Rect.unit (s := S4x768x2048) (k0_off123 v t) S1x128x256.size (k0_off123_inb v hw t)).toLoadRect w)
    (View.readAt (Elt F) B8.view (Rect.unit (s := S4x768x2048) (k0_off126 v t) S1x128x256.size (k0_off126_inb v hw t)).toLoadRect w)
    (View.readAt (Elt F) B8.view (Rect.unit (s := S4x768x2048) (k0_off129 v t) S1x128x256.size (k0_off129_inb v hw t)).toLoadRect w)
    (View.readAt (Elt F) B9.view (Rect.unit (s := S4x12x2048) (k0_off115 v t) S1x1x256.size (k0_off115_inb v hw t)).toLoadRect s)
    (View.readAt (Elt F) B9.view (Rect.unit (s := S4x12x2048) (k0_off116 v t) S1x1x256.size (k0_off116_inb v hw t)).toLoadRect s)
    (View.readAt (Elt F) B9.view (Rect.unit (s := S4x12x2048) (k0_off118 v t) S1x1x256.size (k0_off118_inb v hw t)).toLoadRect s)
    (View.readAt (Elt F) B9.view (Rect.unit (s := S4x12x2048) (k0_off119 v t) S1x1x256.size (k0_off119_inb v hw t)).toLoadRect s)
    (View.readAt (Elt F) B9.view (Rect.unit (s := S4x12x2048) (k0_off121 v t) S1x1x256.size (k0_off121_inb v hw t)).toLoadRect s)
    (View.readAt (Elt F) B9.view (Rect.unit (s := S4x12x2048) (k0_off122 v t) S1x1x256.size (k0_off122_inb v hw t)).toLoadRect s)
    (View.readAt (Elt F) B9.view (Rect.unit (s := S4x12x2048) (k0_off124 v t) S1x1x256.size (k0_off124_inb v hw t)).toLoadRect s)
    (View.readAt (Elt F) B9.view (Rect.unit (s := S4x12x2048) (k0_off125 v t) S1x1x256.size (k0_off125_inb v hw t)).toLoadRect s)
    (View.readAt (Elt F) B9.view (Rect.unit (s := S4x12x2048) (k0_off127 v t) S1x1x256.size (k0_off127_inb v hw t)).toLoadRect s)
    (View.readAt (Elt F) B9.view (Rect.unit (s := S4x12x2048) (k0_off128 v t) S1x1x256.size (k0_off128_inb v hw t)).toLoadRect s)
    (View.readAt (Elt F) B9.view (Rect.unit (s := S4x12x2048) (k0_off130 v t) S1x1x256.size (k0_off130_inb v hw t)).toLoadRect s)
    (View.readAt (Elt F) B9.view (Rect.unit (s := S4x12x2048) (k0_off131 v t) S1x1x256.size (k0_off131_inb v hw t)).toLoadRect s)
    (View.readAt (Elt F) B5.view (Rect.unit (s := S64x1536) ![0, 0] S64x256.size inb_S64x1536_S64x256_0_0).toLoadRect xs)
    (View.readAt (Elt F) B5.view (Rect.unit (s := S64x1536) ![0, 256] S64x256.size inb_S64x1536_S64x256_0_256).toLoadRect xs)
    (View.readAt (Elt F) B5.view (Rect.unit (s := S64x1536) ![0, 512] S64x256.size inb_S64x1536_S64x256_0_512).toLoadRect xs)
    (View.readAt (Elt F) B5.view (Rect.unit (s := S64x1536) ![0, 768] S64x256.size inb_S64x1536_S64x256_0_768).toLoadRect xs)
    (View.readAt (Elt F) B5.view (Rect.unit (s := S64x1536) ![0, 1024] S64x256.size inb_S64x1536_S64x256_0_1024).toLoadRect xs)
    (View.readAt (Elt F) B5.view (Rect.unit (s := S64x1536) ![0, 1280] S64x256.size inb_S64x1536_S64x256_0_1280).toLoadRect xs)

/-- The sum stored in columns 5. -/
def sum5 : Vec F S64x256 .f32 :=
  six (View.readAt (Elt F) B8.view (Rect.unit (s := S4x768x2048) (k0_off132 v t) S1x128x256.size (k0_off132_inb v hw t)).toLoadRect w)
    (View.readAt (Elt F) B8.view (Rect.unit (s := S4x768x2048) (k0_off135 v t) S1x128x256.size (k0_off135_inb v hw t)).toLoadRect w)
    (View.readAt (Elt F) B8.view (Rect.unit (s := S4x768x2048) (k0_off138 v t) S1x128x256.size (k0_off138_inb v hw t)).toLoadRect w)
    (View.readAt (Elt F) B8.view (Rect.unit (s := S4x768x2048) (k0_off141 v t) S1x128x256.size (k0_off141_inb v hw t)).toLoadRect w)
    (View.readAt (Elt F) B8.view (Rect.unit (s := S4x768x2048) (k0_off144 v t) S1x128x256.size (k0_off144_inb v hw t)).toLoadRect w)
    (View.readAt (Elt F) B8.view (Rect.unit (s := S4x768x2048) (k0_off147 v t) S1x128x256.size (k0_off147_inb v hw t)).toLoadRect w)
    (View.readAt (Elt F) B9.view (Rect.unit (s := S4x12x2048) (k0_off133 v t) S1x1x256.size (k0_off133_inb v hw t)).toLoadRect s)
    (View.readAt (Elt F) B9.view (Rect.unit (s := S4x12x2048) (k0_off134 v t) S1x1x256.size (k0_off134_inb v hw t)).toLoadRect s)
    (View.readAt (Elt F) B9.view (Rect.unit (s := S4x12x2048) (k0_off136 v t) S1x1x256.size (k0_off136_inb v hw t)).toLoadRect s)
    (View.readAt (Elt F) B9.view (Rect.unit (s := S4x12x2048) (k0_off137 v t) S1x1x256.size (k0_off137_inb v hw t)).toLoadRect s)
    (View.readAt (Elt F) B9.view (Rect.unit (s := S4x12x2048) (k0_off139 v t) S1x1x256.size (k0_off139_inb v hw t)).toLoadRect s)
    (View.readAt (Elt F) B9.view (Rect.unit (s := S4x12x2048) (k0_off140 v t) S1x1x256.size (k0_off140_inb v hw t)).toLoadRect s)
    (View.readAt (Elt F) B9.view (Rect.unit (s := S4x12x2048) (k0_off142 v t) S1x1x256.size (k0_off142_inb v hw t)).toLoadRect s)
    (View.readAt (Elt F) B9.view (Rect.unit (s := S4x12x2048) (k0_off143 v t) S1x1x256.size (k0_off143_inb v hw t)).toLoadRect s)
    (View.readAt (Elt F) B9.view (Rect.unit (s := S4x12x2048) (k0_off145 v t) S1x1x256.size (k0_off145_inb v hw t)).toLoadRect s)
    (View.readAt (Elt F) B9.view (Rect.unit (s := S4x12x2048) (k0_off146 v t) S1x1x256.size (k0_off146_inb v hw t)).toLoadRect s)
    (View.readAt (Elt F) B9.view (Rect.unit (s := S4x12x2048) (k0_off148 v t) S1x1x256.size (k0_off148_inb v hw t)).toLoadRect s)
    (View.readAt (Elt F) B9.view (Rect.unit (s := S4x12x2048) (k0_off149 v t) S1x1x256.size (k0_off149_inb v hw t)).toLoadRect s)
    (View.readAt (Elt F) B5.view (Rect.unit (s := S64x1536) ![0, 0] S64x256.size inb_S64x1536_S64x256_0_0).toLoadRect xs)
    (View.readAt (Elt F) B5.view (Rect.unit (s := S64x1536) ![0, 256] S64x256.size inb_S64x1536_S64x256_0_256).toLoadRect xs)
    (View.readAt (Elt F) B5.view (Rect.unit (s := S64x1536) ![0, 512] S64x256.size inb_S64x1536_S64x256_0_512).toLoadRect xs)
    (View.readAt (Elt F) B5.view (Rect.unit (s := S64x1536) ![0, 768] S64x256.size inb_S64x1536_S64x256_0_768).toLoadRect xs)
    (View.readAt (Elt F) B5.view (Rect.unit (s := S64x1536) ![0, 1024] S64x256.size inb_S64x1536_S64x256_0_1024).toLoadRect xs)
    (View.readAt (Elt F) B5.view (Rect.unit (s := S64x1536) ![0, 1280] S64x256.size inb_S64x1536_S64x256_0_1280).toLoadRect xs)

/-- The sum stored in columns 6. -/
def sum6 : Vec F S64x256 .f32 :=
  six (View.readAt (Elt F) B8.view (Rect.unit (s := S4x768x2048) (k0_off150 v t) S1x128x256.size (k0_off150_inb v hw t)).toLoadRect w)
    (View.readAt (Elt F) B8.view (Rect.unit (s := S4x768x2048) (k0_off153 v t) S1x128x256.size (k0_off153_inb v hw t)).toLoadRect w)
    (View.readAt (Elt F) B8.view (Rect.unit (s := S4x768x2048) (k0_off156 v t) S1x128x256.size (k0_off156_inb v hw t)).toLoadRect w)
    (View.readAt (Elt F) B8.view (Rect.unit (s := S4x768x2048) (k0_off159 v t) S1x128x256.size (k0_off159_inb v hw t)).toLoadRect w)
    (View.readAt (Elt F) B8.view (Rect.unit (s := S4x768x2048) (k0_off162 v t) S1x128x256.size (k0_off162_inb v hw t)).toLoadRect w)
    (View.readAt (Elt F) B8.view (Rect.unit (s := S4x768x2048) (k0_off165 v t) S1x128x256.size (k0_off165_inb v hw t)).toLoadRect w)
    (View.readAt (Elt F) B9.view (Rect.unit (s := S4x12x2048) (k0_off151 v t) S1x1x256.size (k0_off151_inb v hw t)).toLoadRect s)
    (View.readAt (Elt F) B9.view (Rect.unit (s := S4x12x2048) (k0_off152 v t) S1x1x256.size (k0_off152_inb v hw t)).toLoadRect s)
    (View.readAt (Elt F) B9.view (Rect.unit (s := S4x12x2048) (k0_off154 v t) S1x1x256.size (k0_off154_inb v hw t)).toLoadRect s)
    (View.readAt (Elt F) B9.view (Rect.unit (s := S4x12x2048) (k0_off155 v t) S1x1x256.size (k0_off155_inb v hw t)).toLoadRect s)
    (View.readAt (Elt F) B9.view (Rect.unit (s := S4x12x2048) (k0_off157 v t) S1x1x256.size (k0_off157_inb v hw t)).toLoadRect s)
    (View.readAt (Elt F) B9.view (Rect.unit (s := S4x12x2048) (k0_off158 v t) S1x1x256.size (k0_off158_inb v hw t)).toLoadRect s)
    (View.readAt (Elt F) B9.view (Rect.unit (s := S4x12x2048) (k0_off160 v t) S1x1x256.size (k0_off160_inb v hw t)).toLoadRect s)
    (View.readAt (Elt F) B9.view (Rect.unit (s := S4x12x2048) (k0_off161 v t) S1x1x256.size (k0_off161_inb v hw t)).toLoadRect s)
    (View.readAt (Elt F) B9.view (Rect.unit (s := S4x12x2048) (k0_off163 v t) S1x1x256.size (k0_off163_inb v hw t)).toLoadRect s)
    (View.readAt (Elt F) B9.view (Rect.unit (s := S4x12x2048) (k0_off164 v t) S1x1x256.size (k0_off164_inb v hw t)).toLoadRect s)
    (View.readAt (Elt F) B9.view (Rect.unit (s := S4x12x2048) (k0_off166 v t) S1x1x256.size (k0_off166_inb v hw t)).toLoadRect s)
    (View.readAt (Elt F) B9.view (Rect.unit (s := S4x12x2048) (k0_off167 v t) S1x1x256.size (k0_off167_inb v hw t)).toLoadRect s)
    (View.readAt (Elt F) B5.view (Rect.unit (s := S64x1536) ![0, 0] S64x256.size inb_S64x1536_S64x256_0_0).toLoadRect xs)
    (View.readAt (Elt F) B5.view (Rect.unit (s := S64x1536) ![0, 256] S64x256.size inb_S64x1536_S64x256_0_256).toLoadRect xs)
    (View.readAt (Elt F) B5.view (Rect.unit (s := S64x1536) ![0, 512] S64x256.size inb_S64x1536_S64x256_0_512).toLoadRect xs)
    (View.readAt (Elt F) B5.view (Rect.unit (s := S64x1536) ![0, 768] S64x256.size inb_S64x1536_S64x256_0_768).toLoadRect xs)
    (View.readAt (Elt F) B5.view (Rect.unit (s := S64x1536) ![0, 1024] S64x256.size inb_S64x1536_S64x256_0_1024).toLoadRect xs)
    (View.readAt (Elt F) B5.view (Rect.unit (s := S64x1536) ![0, 1280] S64x256.size inb_S64x1536_S64x256_0_1280).toLoadRect xs)

/-- The sum stored in columns 7. -/
def sum7 : Vec F S64x256 .f32 :=
  six (View.readAt (Elt F) B8.view (Rect.unit (s := S4x768x2048) (k0_off168 v t) S1x128x256.size (k0_off168_inb v hw t)).toLoadRect w)
    (View.readAt (Elt F) B8.view (Rect.unit (s := S4x768x2048) (k0_off171 v t) S1x128x256.size (k0_off171_inb v hw t)).toLoadRect w)
    (View.readAt (Elt F) B8.view (Rect.unit (s := S4x768x2048) (k0_off174 v t) S1x128x256.size (k0_off174_inb v hw t)).toLoadRect w)
    (View.readAt (Elt F) B8.view (Rect.unit (s := S4x768x2048) (k0_off177 v t) S1x128x256.size (k0_off177_inb v hw t)).toLoadRect w)
    (View.readAt (Elt F) B8.view (Rect.unit (s := S4x768x2048) (k0_off180 v t) S1x128x256.size (k0_off180_inb v hw t)).toLoadRect w)
    (View.readAt (Elt F) B8.view (Rect.unit (s := S4x768x2048) (k0_off183 v t) S1x128x256.size (k0_off183_inb v hw t)).toLoadRect w)
    (View.readAt (Elt F) B9.view (Rect.unit (s := S4x12x2048) (k0_off169 v t) S1x1x256.size (k0_off169_inb v hw t)).toLoadRect s)
    (View.readAt (Elt F) B9.view (Rect.unit (s := S4x12x2048) (k0_off170 v t) S1x1x256.size (k0_off170_inb v hw t)).toLoadRect s)
    (View.readAt (Elt F) B9.view (Rect.unit (s := S4x12x2048) (k0_off172 v t) S1x1x256.size (k0_off172_inb v hw t)).toLoadRect s)
    (View.readAt (Elt F) B9.view (Rect.unit (s := S4x12x2048) (k0_off173 v t) S1x1x256.size (k0_off173_inb v hw t)).toLoadRect s)
    (View.readAt (Elt F) B9.view (Rect.unit (s := S4x12x2048) (k0_off175 v t) S1x1x256.size (k0_off175_inb v hw t)).toLoadRect s)
    (View.readAt (Elt F) B9.view (Rect.unit (s := S4x12x2048) (k0_off176 v t) S1x1x256.size (k0_off176_inb v hw t)).toLoadRect s)
    (View.readAt (Elt F) B9.view (Rect.unit (s := S4x12x2048) (k0_off178 v t) S1x1x256.size (k0_off178_inb v hw t)).toLoadRect s)
    (View.readAt (Elt F) B9.view (Rect.unit (s := S4x12x2048) (k0_off179 v t) S1x1x256.size (k0_off179_inb v hw t)).toLoadRect s)
    (View.readAt (Elt F) B9.view (Rect.unit (s := S4x12x2048) (k0_off181 v t) S1x1x256.size (k0_off181_inb v hw t)).toLoadRect s)
    (View.readAt (Elt F) B9.view (Rect.unit (s := S4x12x2048) (k0_off182 v t) S1x1x256.size (k0_off182_inb v hw t)).toLoadRect s)
    (View.readAt (Elt F) B9.view (Rect.unit (s := S4x12x2048) (k0_off184 v t) S1x1x256.size (k0_off184_inb v hw t)).toLoadRect s)
    (View.readAt (Elt F) B9.view (Rect.unit (s := S4x12x2048) (k0_off185 v t) S1x1x256.size (k0_off185_inb v hw t)).toLoadRect s)
    (View.readAt (Elt F) B5.view (Rect.unit (s := S64x1536) ![0, 0] S64x256.size inb_S64x1536_S64x256_0_0).toLoadRect xs)
    (View.readAt (Elt F) B5.view (Rect.unit (s := S64x1536) ![0, 256] S64x256.size inb_S64x1536_S64x256_0_256).toLoadRect xs)
    (View.readAt (Elt F) B5.view (Rect.unit (s := S64x1536) ![0, 512] S64x256.size inb_S64x1536_S64x256_0_512).toLoadRect xs)
    (View.readAt (Elt F) B5.view (Rect.unit (s := S64x1536) ![0, 768] S64x256.size inb_S64x1536_S64x256_0_768).toLoadRect xs)
    (View.readAt (Elt F) B5.view (Rect.unit (s := S64x1536) ![0, 1024] S64x256.size inb_S64x1536_S64x256_0_1024).toLoadRect xs)
    (View.readAt (Elt F) B5.view (Rect.unit (s := S64x1536) ![0, 1280] S64x256.size inb_S64x1536_S64x256_0_1280).toLoadRect xs)

/-- The stores of a trip up to its first tile, written with `tile`; each of the next seven adds one more. -/
theorem list1 : rest_run.sl.H7_1 v hw t c v669 v673 v676 w s xs a
    = put v hw t c 0 (k0_pay6 v669 v673 v676) (sum0 v hw t c w s xs) a [] := by
  unfold rest_run.sl.H7_1
  delta rest_run.sl.r_12 rest_run.sl.r_8 rest_run.sl.r_5 rest_run.sl.r_2 rest_run.sl.r rest_run.sl.v681 rest_run.sl.v698 rest_run.sl.v706 rest_run.sl.r_1 rest_run.sl.v717 rest_run.sl.v734 rest_run.sl.v742 rest_run.sl.r_3 rest_run.sl.v754 rest_run.sl.r_4 rest_run.sl.v771 rest_run.sl.v779 rest_run.sl.r_6 rest_run.sl.v791 rest_run.sl.r_7 rest_run.sl.v808 rest_run.sl.v816 rest_run.sl.r_9 rest_run.sl.v828 rest_run.sl.r_10 rest_run.sl.v845 rest_run.sl.r_11 rest_run.sl.v853 rest_run.sl.r_13 rest_run.sl.v865 rest_run.sl.v882 rest_run.sl.v890 rest_run.sl.r_14 rest_run.sl.cst_327 sum0 put
  rw [store1]
  rfl

theorem list2 : rest_run.sl.H7_2 v hw t c v669 v673 v676 w s xs a
    = put v hw t c 1 (k0_pay6 v669 v673 v676) (sum1 v hw t c w s xs) a (rest_run.sl.H7_1 v hw t c v669 v673 v676 w s xs a) := by
  unfold rest_run.sl.H7_2
  delta rest_run.sl.r_23 rest_run.sl.r_21 rest_run.sl.r_18 rest_run.sl.r_16 rest_run.sl.r_15 rest_run.sl.v912 rest_run.sl.v929 rest_run.sl.v937 rest_run.sl.v948 rest_run.sl.v965 rest_run.sl.v973 rest_run.sl.r_17 rest_run.sl.v985 rest_run.sl.v1002 rest_run.sl.v1010 rest_run.sl.r_19 rest_run.sl.v1022 rest_run.sl.r_20 rest_run.sl.v1039 rest_run.sl.v1047 rest_run.sl.r_22 rest_run.sl.v1059 rest_run.sl.v1076 rest_run.sl.v1084 rest_run.sl.r_24 rest_run.sl.v1096 rest_run.sl.r_25 rest_run.sl.v1113 rest_run.sl.v1121 sum1 put
  rw [store2]
  rfl

theorem list3 : rest_run.sl.H7_3 v hw t c v669 v673 v676 w s xs a
    = put v hw t c 2 (k0_pay6 v669 v673 v676) (sum2 v hw t c w s xs) a (rest_run.sl.H7_2 v hw t c v669 v673 v676 w s xs a) := by
  unfold rest_run.sl.H7_3
  delta rest_run.sl.r_37 rest_run.sl.r_34 rest_run.sl.r_33 rest_run.sl.r_29 rest_run.sl.r_26 rest_run.sl.v1143 rest_run.sl.r_27 rest_run.sl.v1160 rest_run.sl.r_28 rest_run.sl.v1168 rest_run.sl.r_30 rest_run.sl.v1179 rest_run.sl.v1196 rest_run.sl.r_31 rest_run.sl.r_32 rest_run.sl.v1204 rest_run.sl.v1216 rest_run.sl.v1233 rest_run.sl.v1241 rest_run.sl.v1253 rest_run.sl.v1270 rest_run.sl.v1278 rest_run.sl.r_35 rest_run.sl.v1290 rest_run.sl.r_36 rest_run.sl.v1307 rest_run.sl.v1315 rest_run.sl.r_38 rest_run.sl.v1327 rest_run.sl.v1344 rest_run.sl.v1352 sum2 put
  rw [store3]
  rfl

theorem list4 : rest_run.sl.H7_4 v hw t c v669 v673 v676 w s xs a
    = put v hw t c 3 (k0_pay6 v669 v673 v676) (sum3 v hw t c w s xs) a (rest_run.sl.H7_3 v hw t c v669 v673 v676 w s xs a) := by
  unfold rest_run.sl.H7_4
  delta rest_run.sl.r_50 rest_run.sl.r_48 rest_run.sl.r_44 rest_run.sl.r_41 rest_run.sl.r_39 rest_run.sl.v1374 rest_run.sl.r_40 rest_run.sl.v1391 rest_run.sl.v1399 rest_run.sl.r_42 rest_run.sl.v1410 rest_run.sl.r_43 rest_run.sl.v1427 rest_run.sl.v1435 rest_run.sl.r_45 rest_run.sl.v1447 rest_run.sl.r_46 rest_run.sl.v1464 rest_run.sl.r_47 rest_run.sl.v1472 rest_run.sl.r_49 rest_run.sl.v1484 rest_run.sl.v1501 rest_run.sl.v1509 rest_run.sl.v1521 rest_run.sl.v1538 rest_run.sl.v1546 rest_run.sl.r_51 rest_run.sl.v1558 rest_run.sl.r_52 rest_run.sl.v1575 rest_run.sl.v1583 sum3 put
  rw [store4]
  rfl

theorem list5 : rest_run.sl.H7_5 v hw t c v669 v673 v676 w s xs a
    = put v hw t c 4 (k0_pay6 v669 v673 v676) (sum4 v hw t c w s xs) a (rest_run.sl.H7_4 v hw t c v669 v673 v676 w s xs a) := by
  unfold rest_run.sl.H7_5
  delta rest_run.sl.r_64 rest_run.sl.r_62 rest_run.sl.r_59 rest_run.sl.r_57 rest_run.sl.r_54 rest_run.sl.r_53 rest_run.sl.v1605 rest_run.sl.v1622 rest_run.sl.v1630 rest_run.sl.r_55 rest_run.sl.v1641 rest_run.sl.r_56 rest_run.sl.v1658 rest_run.sl.v1666 rest_run.sl.r_58 rest_run.sl.v1678 rest_run.sl.v1695 rest_run.sl.v1703 rest_run.sl.r_60 rest_run.sl.v1715 rest_run.sl.r_61 rest_run.sl.v1732 rest_run.sl.v1740 rest_run.sl.r_63 rest_run.sl.v1752 rest_run.sl.v1769 rest_run.sl.v1777 rest_run.sl.v1789 rest_run.sl.v1806 rest_run.sl.v1814 rest_run.sl.r_65 rest_run.sl.r_66 sum4 put
  rw [store5]
  rfl

theorem list6 : rest_run.sl.H7_6 v hw t c v669 v673 v676 w s xs a
    = put v hw t c 5 (k0_pay6 v669 v673 v676) (sum5 v hw t c w s xs) a (rest_run.sl.H7_5 v hw t c v669 v673 v676 w s xs a) := by
  unfold rest_run.sl.H7_6
  delta rest_run.sl.r_76 rest_run.sl.r_73 rest_run.sl.r_71 rest_run.sl.r_68 rest_run.sl.r_67 rest_run.sl.v1836 rest_run.sl.v1853 rest_run.sl.v1861 rest_run.sl.v1872 rest_run.sl.v1889 rest_run.sl.v1897 rest_run.sl.r_69 rest_run.sl.v1909 rest_run.sl.r_70 rest_run.sl.v1926 rest_run.sl.v1934 rest_run.sl.r_72 rest_run.sl.v1946 rest_run.sl.v1963 rest_run.sl.v1971 rest_run.sl.r_74 rest_run.sl.v1983 rest_run.sl.r_75 rest_run.sl.v2000 rest_run.sl.v2008 rest_run.sl.r_77 rest_run.sl.v2020 rest_run.sl.v2037 rest_run.sl.r_78 rest_run.sl.v2045 sum5 put
  rw [store6]
  rfl

theorem list7 : rest_run.sl.H7_7 v hw t c v669 v673 v676 w s xs a
    = put v hw t c 6 (k0_pay6 v669 v673 v676) (sum6 v hw t c w s xs) a (rest_run.sl.H7_6 v hw t c v669 v673 v676 w s xs a) := by
  unfold rest_run.sl.H7_7
  delta rest_run.sl.r_89 rest_run.sl.r_86 rest_run.sl.r_83 rest_run.sl.r_82 rest_run.sl.r_79 rest_run.sl.v2067 rest_run.sl.r_80 rest_run.sl.v2084 rest_run.sl.r_81 rest_run.sl.v2092 rest_run.sl.v2103 rest_run.sl.v2120 rest_run.sl.v2128 rest_run.sl.v2140 rest_run.sl.v2157 rest_run.sl.v2165 rest_run.sl.r_84 rest_run.sl.v2177 rest_run.sl.r_85 rest_run.sl.v2194 rest_run.sl.v2202 rest_run.sl.r_87 rest_run.sl.v2214 rest_run.sl.r_88 rest_run.sl.v2231 rest_run.sl.v2239 rest_run.sl.r_90 rest_run.sl.v2251 rest_run.sl.r_91 rest_run.sl.v2268 rest_run.sl.v2276 sum6 put
  rw [store7]
  rfl

/-- All the stores of a trip. -/
theorem list8 : (rest_run arg0 harg0 arg1 harg1 arg4 harg4 v hw t c v640 v644 v669 v673 v676 w s xs a).1
    = put v hw t c 7 (k0_pay6 v669 v673 v676) (sum7 v hw t c w s xs) a (rest_run.sl.H7_7 v hw t c v669 v673 v676 w s xs a) := by
  unfold rest_run
  dsimp only
  delta rest_run.sl.r_101 rest_run.sl.r_99 rest_run.sl.r_96 rest_run.sl.r_93 rest_run.sl.r_92 rest_run.sl.v2298 rest_run.sl.v2315 rest_run.sl.v2323 rest_run.sl.r_94 rest_run.sl.v2334 rest_run.sl.r_95 rest_run.sl.v2351 rest_run.sl.v2359 rest_run.sl.r_97 rest_run.sl.v2371 rest_run.sl.v2388 rest_run.sl.v2396 rest_run.sl.r_98 rest_run.sl.v2408 rest_run.sl.v2425 rest_run.sl.v2433 rest_run.sl.r_100 rest_run.sl.v2445 rest_run.sl.v2462 rest_run.sl.v2470 rest_run.sl.r_104 rest_run.sl.r_102 rest_run.sl.v2482 rest_run.sl.r_103 rest_run.sl.r_105 rest_run.sl.v2499 rest_run.sl.v2507 sum7 put
  rw [store8]
  rfl

end Cert.Proof.KernelIdeal

end
-- ==== Proof.Val.Prod.lean ====
module

public import proofs.«01_k».proof.Proof.Val.TripL
public import proofs.«01_k».proof.Proof.KI.Offs
public import proofs.«01_k».proof.Proof.KI.Ring
public import Idealize.ShloMosaic.Lib.Pointwise

@[expose] public section

/-! The product a trip computes, element by element over the extended reals: twelve groups of 128 terms, a term being an
element of the rows times a signed half-byte times the group's scale. -/

noncomputable section

namespace Cert.Proof.KernelIdeal

open Cert.KernelIdeal Cert.KernelIdeal.Gen
open Idealize.ShloMosaic Idealize.ShloMosaic.TcCoe

set_option maxRecDepth 65536
set_option maxHeartbeats 1000000

/-- The signed half-byte `q % 2` of a byte. -/
def nib (b : BitVec 8) (q : ℕ) : Ideal .bf16 :=
  FloatOps.sitofp FTy.bf16 (if q % 2 < 1 then IntOp.shrsi ArithUnit.vector (IntOp.shli ArithUnit.vector (BitVec.setWidth 32 b) 28#32) 28#32
    else IntOp.shrsi ArithUnit.vector (IntOp.shli ArithUnit.vector (BitVec.setWidth 32 b) 24#32) 28#32)

/-- An even row of the weights is the low half-byte. -/
theorem nib_even {b : BitVec 8} {q : ℕ} (h : q % 2 = 0) : nib b q = nib b 0 := by unfold nib; rw [h]
/-- Only the parity of the row matters. -/
theorem nib_mod {b : BitVec 8} {q q' : ℕ} (h : q % 2 = q' % 2) : nib b q = nib b q' := by unfold nib; rw [h]

variable (W : S16x768x6144.Idx → BitVec 8) (S : S16x12x6144.Idx → EReal) (X : S64x1536.Idx → EReal)

/-- The terms of group `g`, for expert `e`, row `r` and column `N`. -/
def grp (e : Fin 16) (r : Fin 64) (N : Fin 6144) (g : Fin 12) : EReal :=
  ∑ x : Fin 128, X (ix2 r (⟨128 * g.1 + x.1, by omega⟩ : Fin 1536))
    * (nib (W (ix3 e (⟨(128 * g.1 + x.1) / 2, by omega⟩ : Fin 768) N)) (128 * g.1 + x.1) * S (ix3 e g N))

/-- Row `r` of the product with expert `e`'s weights, at column `N`. -/
def prod (e : Fin 16) (r : Fin 64) (N : Fin 6144) : EReal := ∑ g : Fin 12, grp W S X e r N g

/-- One product of 256 terms, as two sums of 128. -/
theorem blk_raw (w0 : Vec Ideal S1x128x256 .i8) (s0 s1 : Vec Ideal S1x1x256 .f32) (x0 : Vec Ideal S64x256 .bf16) (r : Fin 64) (l : Fin 256) :
    k0_pay7 w0 s0 s1 x0 (ix2 r l)
      = (∑ x : Fin 128, x0 (ix2 r (⟨x.1, by omega⟩ : Fin 256)) * (nib (w0 (ix3 (0 : Fin 1) (⟨x.1 / 2, by omega⟩ : Fin 128) l)) x.1 * s0 (ix3 (0 : Fin 1) (0 : Fin 1) l)))
        + ∑ x : Fin 128, x0 (ix2 r (⟨128 + x.1, by omega⟩ : Fin 256)) * (nib (w0 (ix3 (0 : Fin 1) (⟨(128 + x.1) / 2, by omega⟩ : Fin 128) l)) (128 + x.1) * s1 (ix3 (0 : Fin 1) (0 : Fin 1) l)) := by
  pointwise [k0_pay7]
  rfl

/-- One product of 256 terms, of buffers that hold expert `e`, is two groups of the terms of that expert. -/
theorem blk_at (e : Fin 16) (r : Fin 64) (N : Fin 6144) (l : Fin 256) (j : Fin 6) (w0 : Vec Ideal S1x128x256 .i8) (s0 s1 : Vec Ideal S1x1x256 .f32)
    (x0 : Vec Ideal S64x256 .bf16) (hw : ∀ p : Fin 128, w0 (ix3 (0 : Fin 1) p l) = W (ix3 e (⟨128 * j.1 + p.1, by omega⟩ : Fin 768) N))
    (h0 : s0 (ix3 (0 : Fin 1) (0 : Fin 1) l) = S (ix3 e (⟨2 * j.1, by omega⟩ : Fin 12) N)) (h1 : s1 (ix3 (0 : Fin 1) (0 : Fin 1) l) = S (ix3 e (⟨2 * j.1 + 1, by omega⟩ : Fin 12) N))
    (hx : ∀ k : Fin 256, x0 (ix2 r k) = X (ix2 r (⟨256 * j.1 + k.1, by omega⟩ : Fin 1536))) :
    k0_pay7 w0 s0 s1 x0 (ix2 r l) = grp W S X e r N ⟨2 * j.1, by omega⟩ + grp W S X e r N ⟨2 * j.1 + 1, by omega⟩ := by
  rw [blk_raw]
  unfold grp
  rw [h0, h1]
  refine congrArg₂ (fun a b : EReal => a + b) (Finset.sum_congr rfl fun x _ => ?_) (Finset.sum_congr rfl fun x _ => ?_)
  · rw [hx, hw, nib_mod (q := x.1) (q' := 128 * (2 * j.1) + x.1) (by omega)]
    have e1 : (⟨128 * j.1 + x.1 / 2, by omega⟩ : Fin 768) = ⟨(128 * (2 * j.1) + x.1) / 2, by omega⟩ := Fin.ext (by show 128 * j.1 + x.1 / 2 = (128 * (2 * j.1) + x.1) / 2; omega)
    have e2 : (⟨256 * j.1 + x.1, by omega⟩ : Fin 1536) = ⟨128 * (2 * j.1) + x.1, by omega⟩ := Fin.ext (by show 256 * j.1 + x.1 = 128 * (2 * j.1) + x.1; omega)
    rw [e1, e2]
  · rw [hx, hw, nib_mod (q := 128 + x.1) (q' := 128 * (2 * j.1 + 1) + x.1) (by omega)]
    have e1 : (⟨128 * j.1 + (128 + x.1) / 2, by omega⟩ : Fin 768) = ⟨(128 * (2 * j.1 + 1) + x.1) / 2, by omega⟩ := Fin.ext (by show 128 * j.1 + (128 + x.1) / 2 = (128 * (2 * j.1 + 1) + x.1) / 2; omega)
    have e2 : (⟨256 * j.1 + (128 + x.1), by omega⟩ : Fin 1536) = ⟨128 * (2 * j.1 + 1) + x.1, by omega⟩ := Fin.ext (by show 256 * j.1 + (128 + x.1) = 128 * (2 * j.1 + 1) + x.1; omega)
    rw [e1, e2]

/-- The six products of 256 terms add up to the whole row of the product. -/
theorem prod_eq (e : Fin 16) (r : Fin 64) (N : Fin 6144) (d0 d1 d2 d3 d4 d5 : EReal) (h : ∀ j : Fin 6, ![d0, d1, d2, d3, d4, d5] j = grp W S X e r N ⟨2 * j.1, by omega⟩ + grp W S X e r N ⟨2 * j.1 + 1, by omega⟩) :
    ((((d0 + d1) + d2) + d3) + d4) + d5 = prod W S X e r N := by
  have h0 := h 0; have h1 := h 1; have h2 := h 2; have h3 := h 3; have h4 := h 4; have h5 := h 5
  unfold prod
  rw [Fin.sum_univ_succ, Fin.sum_univ_succ, Fin.sum_univ_succ, Fin.sum_univ_succ, Fin.sum_univ_succ, Fin.sum_univ_succ, Fin.sum_univ_succ, Fin.sum_univ_succ,
    Fin.sum_univ_succ, Fin.sum_univ_succ, Fin.sum_univ_succ, Fin.sum_univ_succ, Fin.sum_univ_zero, add_zero]
  have e0 : d0 = _ := h0; have e1 : d1 = _ := h1; have e2 : d2 = _ := h2; have e3 : d3 = _ := h3; have e4 : d4 = _ := h4; have e5 : d5 = _ := h5
  rw [e0, e1, e2, e3, e4, e5]
  simp only [add_assoc]
  rfl

variable {c : Dev nD}

/-- A block of weights read from a slot is the block of the expert it was copied from. -/
theorem rdW (W2 : Cts Ideal B2 c) (e : Fin 16) (p : Fin 3) (A B : ℕ) {off : Fin 3 → ℕ} (inb : ∀ a, off a + S1x128x256.size a ≤ S4x768x2048.size a)
    (h1 : off 1 = A) (h2 : off 2 = B) (N : Fin 6144) (l : Fin 256) (hN : N.1 = p.1 * 2048 + (B + l.1)) (q : Fin 128) (hA : A + q.1 < 768) :
    View.readAt (Elt Ideal) B8.view (Rect.unit (s := S4x768x2048) off S1x128x256.size inb).toLoadRect (wBlk c W2 e p) (ix3 0 q l)
      = (W2 : S16x768x6144.Idx → BitVec 8) (ix3 e ⟨A + q.1, hA⟩ N) := by
  subst h1 h2
  show (W2 : S16x768x6144.Idx → BitVec 8) _ = _
  refine congrArg (W2 : S16x768x6144.Idx → BitVec 8) ?_
  refine congrArg₂ (ix3 e) (Fin.ext ?_) (Fin.ext ?_)
  · show off 1 + 1 * q.1 = off 1 + q.1
    omega
  · show p.1 * 2048 + (off 2 + 1 * l.1) = N.1
    omega

/-- The same of a row of scales. -/
theorem rdS (W3 : Cts Ideal B3 c) (e : Fin 16) (p : Fin 3) (A B : ℕ) {off : Fin 3 → ℕ} (inb : ∀ a, off a + S1x1x256.size a ≤ S4x12x2048.size a)
    (h1 : off 1 = A) (h2 : off 2 = B) (N : Fin 6144) (l : Fin 256) (hN : N.1 = p.1 * 2048 + (B + l.1)) (hA : A < 12) :
    View.readAt (Elt Ideal) B9.view (Rect.unit (s := S4x12x2048) off S1x1x256.size inb).toLoadRect (sBlk c W3 e p) (ix3 0 0 l)
      = (W3 : S16x12x6144.Idx → EReal) (ix3 e ⟨A, hA⟩ N) := by
  subst h1 h2
  show (W3 : S16x12x6144.Idx → EReal) _ = _
  refine congrArg (W3 : S16x12x6144.Idx → EReal) ?_
  refine congrArg₂ (ix3 e) (Fin.ext ?_) (Fin.ext ?_)
  · show off 1 + 1 * 0 = off 1
    omega
  · show p.1 * 2048 + (off 2 + 1 * l.1) = N.1
    omega

/-- A block of the rounded rows. -/
theorem rdX (xs : Cts Ideal B5 c) (X : S64x1536.Idx → EReal) (hX : ∀ i, B5.view.read (Elt Ideal) xs i = X i) (B : ℕ) {off : Fin 2 → ℕ} (inb : ∀ a, off a + S64x256.size a ≤ S64x1536.size a)
    (h0 : off 0 = 0) (h1 : off 1 = B) (r : Fin 64) (l : Fin 256) (hB : B + l.1 < 1536) :
    View.readAt (Elt Ideal) B5.view (Rect.unit (s := S64x1536) off S64x256.size inb).toLoadRect xs (ix2 r l) = X (ix2 r ⟨B + l.1, hB⟩) := by
  subst h1
  rw [← hX]
  show (xs : S64x1536.Idx → EReal) _ = (xs : S64x1536.Idx → EReal) _
  refine congrArg (xs : S64x1536.Idx → EReal) ?_
  funext a
  refine Fin.ext ?_
  fin_cases a
  · show off 0 + 1 * r.1 = r.1
    omega
  · show off 1 + 1 * l.1 = off 1 + l.1
    omega

/-- The first tile of a trip holds the product with its expert, at the columns of the tile; the next seven likewise. -/
theorem sum0_at (v : BitVec 32) (hw : k0_chk2 v) (t : Fin (k0_t2_loop v).trips) (W2 : Cts Ideal B2 c) (W3 : Cts Ideal B3 c) (e : Fin 16) (p : Fin 3)
    (xs : Cts Ideal B5 c) (X : S64x1536.Idx → EReal) (hX : ∀ i, B5.view.read (Elt Ideal) xs i = X i) (r : Fin 64) (l : Fin 256) (N : Fin 6144)
    (hN : N.1 = p.1 * 2048 + (0 + l.1)) :
    sum0 v hw t c (wBlk c W2 e p) (sBlk c W3 e p) xs (ix2 r l) = prod W2 W3 X e r N := by
  unfold sum0 six
  refine prod_eq W2 W3 X e r N _ _ _ _ _ _ fun j => ?_
  fin_cases j
  · exact blk_at W2 W3 X e r N l 0 _ _ _ _ (fun q => rdW W2 e p 0 0 _ rfl rfl N l hN q (by omega)) (rdS W3 e p 0 0 _ rfl rfl N l hN (by omega))
      (rdS W3 e p 1 0 _ rfl rfl N l hN (by omega)) (fun k => rdX xs X hX 0 _ rfl rfl r k (by omega))
  · exact blk_at W2 W3 X e r N l 1 _ _ _ _ (fun q => rdW W2 e p 128 0 _ rfl rfl N l hN q (by omega)) (rdS W3 e p 2 0 _ rfl rfl N l hN (by omega))
      (rdS W3 e p 3 0 _ rfl rfl N l hN (by omega)) (fun k => rdX xs X hX 256 _ rfl rfl r k (by omega))
  · exact blk_at W2 W3 X e r N l 2 _ _ _ _ (fun q => rdW W2 e p 256 0 _ rfl rfl N l hN q (by omega)) (rdS W3 e p 4 0 _ rfl rfl N l hN (by omega))
      (rdS W3 e p 5 0 _ rfl rfl N l hN (by omega)) (fun k => rdX xs X hX 512 _ rfl rfl r k (by omega))
  · exact blk_at W2 W3 X e r N l 3 _ _ _ _ (fun q => rdW W2 e p 384 0 _ rfl rfl N l hN q (by omega)) (rdS W3 e p 6 0 _ rfl rfl N l hN (by omega))
      (rdS W3 e p 7 0 _ rfl rfl N l hN (by omega)) (fun k => rdX xs X hX 768 _ rfl rfl r k (by omega))
  · exact blk_at W2 W3 X e r N l 4 _ _ _ _ (fun q => rdW W2 e p 512 0 _ rfl rfl N l hN q (by omega)) (rdS W3 e p 8 0 _ rfl rfl N l hN (by omega))
      (rdS W3 e p 9 0 _ rfl rfl N l hN (by omega)) (fun k => rdX xs X hX 1024 _ rfl rfl r k (by omega))
  · exact blk_at W2 W3 X e r N l 5 _ _ _ _ (fun q => rdW W2 e p 640 0 _ rfl rfl N l hN q (by omega)) (rdS W3 e p 10 0 _ rfl rfl N l hN (by omega))
      (rdS W3 e p 11 0 _ rfl rfl N l hN (by omega)) (fun k => rdX xs X hX 1280 _ rfl rfl r k (by omega))

theorem sum1_at (v : BitVec 32) (hw : k0_chk2 v) (t : Fin (k0_t2_loop v).trips) (W2 : Cts Ideal B2 c) (W3 : Cts Ideal B3 c) (e : Fin 16) (p : Fin 3)
    (xs : Cts Ideal B5 c) (X : S64x1536.Idx → EReal) (hX : ∀ i, B5.view.read (Elt Ideal) xs i = X i) (r : Fin 64) (l : Fin 256) (N : Fin 6144)
    (hN : N.1 = p.1 * 2048 + (256 + l.1)) :
    sum1 v hw t c (wBlk c W2 e p) (sBlk c W3 e p) xs (ix2 r l) = prod W2 W3 X e r N := by
  unfold sum1 six
  refine prod_eq W2 W3 X e r N _ _ _ _ _ _ fun j => ?_
  fin_cases j
  · exact blk_at W2 W3 X e r N l 0 _ _ _ _ (fun q => rdW W2 e p 0 256 _ rfl rfl N l hN q (by omega)) (rdS W3 e p 0 256 _ rfl rfl N l hN (by omega))
      (rdS W3 e p 1 256 _ rfl rfl N l hN (by omega)) (fun k => rdX xs X hX 0 _ rfl rfl r k (by omega))
  · exact blk_at W2 W3 X e r N l 1 _ _ _ _ (fun q => rdW W2 e p 128 256 _ rfl rfl N l hN q (by omega)) (rdS W3 e p 2 256 _ rfl rfl N l hN (by omega))
      (rdS W3 e p 3 256 _ rfl rfl N l hN (by omega)) (fun k => rdX xs X hX 256 _ rfl rfl r k (by omega))
  · exact blk_at W2 W3 X e r N l 2 _ _ _ _ (fun q => rdW W2 e p 256 256 _ rfl rfl N l hN q (by omega)) (rdS W3 e p 4 256 _ rfl rfl N l hN (by omega))
      (rdS W3 e p 5 256 _ rfl rfl N l hN (by omega)) (fun k => rdX xs X hX 512 _ rfl rfl r k (by omega))
  · exact blk_at W2 W3 X e r N l 3 _ _ _ _ (fun q => rdW W2 e p 384 256 _ rfl rfl N l hN q (by omega)) (rdS W3 e p 6 256 _ rfl rfl N l hN (by omega))
      (rdS W3 e p 7 256 _ rfl rfl N l hN (by omega)) (fun k => rdX xs X hX 768 _ rfl rfl r k (by omega))
  · exact blk_at W2 W3 X e r N l 4 _ _ _ _ (fun q => rdW W2 e p 512 256 _ rfl rfl N l hN q (by omega)) (rdS W3 e p 8 256 _ rfl rfl N l hN (by omega))
      (rdS W3 e p 9 256 _ rfl rfl N l hN (by omega)) (fun k => rdX xs X hX 1024 _ rfl rfl r k (by omega))
  · exact blk_at W2 W3 X e r N l 5 _ _ _ _ (fun q => rdW W2 e p 640 256 _ rfl rfl N l hN q (by omega)) (rdS W3 e p 10 256 _ rfl rfl N l hN (by omega))
      (rdS W3 e p 11 256 _ rfl rfl N l hN (by omega)) (fun k => rdX xs X hX 1280 _ rfl rfl r k (by omega))

theorem sum2_at (v : BitVec 32) (hw : k0_chk2 v) (t : Fin (k0_t2_loop v).trips) (W2 : Cts Ideal B2 c) (W3 : Cts Ideal B3 c) (e : Fin 16) (p : Fin 3)
    (xs : Cts Ideal B5 c) (X : S64x1536.Idx → EReal) (hX : ∀ i, B5.view.read (Elt Ideal) xs i = X i) (r : Fin 64) (l : Fin 256) (N : Fin 6144)
    (hN : N.1 = p.1 * 2048 + (512 + l.1)) :
    sum2 v hw t c (wBlk c W2 e p) (sBlk c W3 e p) xs (ix2 r l) = prod W2 W3 X e r N := by
  unfold sum2 six
  refine prod_eq W2 W3 X e r N _ _ _ _ _ _ fun j => ?_
  fin_cases j
  · exact blk_at W2 W3 X e r N l 0 _ _ _ _ (fun q => rdW W2 e p 0 512 _ rfl rfl N l hN q (by omega)) (rdS W3 e p 0 512 _ rfl rfl N l hN (by omega))
      (rdS W3 e p 1 512 _ rfl rfl N l hN (by omega)) (fun k => rdX xs X hX 0 _ rfl rfl r k (by omega))
  · exact blk_at W2 W3 X e r N l 1 _ _ _ _ (fun q => rdW W2 e p 128 512 _ rfl rfl N l hN q (by omega)) (rdS W3 e p 2 512 _ rfl rfl N l hN (by omega))
      (rdS W3 e p 3 512 _ rfl rfl N l hN (by omega)) (fun k => rdX xs X hX 256 _ rfl rfl r k (by omega))
  · exact blk_at W2 W3 X e r N l 2 _ _ _ _ (fun q => rdW W2 e p 256 512 _ rfl rfl N l hN q (by omega)) (rdS W3 e p 4 512 _ rfl rfl N l hN (by omega))
      (rdS W3 e p 5 512 _ rfl rfl N l hN (by omega)) (fun k => rdX xs X hX 512 _ rfl rfl r k (by omega))
  · exact blk_at W2 W3 X e r N l 3 _ _ _ _ (fun q => rdW W2 e p 384 512 _ rfl rfl N l hN q (by omega)) (rdS W3 e p 6 512 _ rfl rfl N l hN (by omega))
      (rdS W3 e p 7 512 _ rfl rfl N l hN (by omega)) (fun k => rdX xs X hX 768 _ rfl rfl r k (by omega))
  · exact blk_at W2 W3 X e r N l 4 _ _ _ _ (fun q => rdW W2 e p 512 512 _ rfl rfl N l hN q (by omega)) (rdS W3 e p 8 512 _ rfl rfl N l hN (by omega))
      (rdS W3 e p 9 512 _ rfl rfl N l hN (by omega)) (fun k => rdX xs X hX 1024 _ rfl rfl r k (by omega))
  · exact blk_at W2 W3 X e r N l 5 _ _ _ _ (fun q => rdW W2 e p 640 512 _ rfl rfl N l hN q (by omega)) (rdS W3 e p 10 512 _ rfl rfl N l hN (by omega))
      (rdS W3 e p 11 512 _ rfl rfl N l hN (by omega)) (fun k => rdX xs X hX 1280 _ rfl rfl r k (by omega))

theorem sum3_at (v : BitVec 32) (hw : k0_chk2 v) (t : Fin (k0_t2_loop v).trips) (W2 : Cts Ideal B2 c) (W3 : Cts Ideal B3 c) (e : Fin 16) (p : Fin 3)
    (xs : Cts Ideal B5 c) (X : S64x1536.Idx → EReal) (hX : ∀ i, B5.view.read (Elt Ideal) xs i = X i) (r : Fin 64) (l : Fin 256) (N : Fin 6144)
    (hN : N.1 = p.1 * 2048 + (768 + l.1)) :
    sum3 v hw t c (wBlk c W2 e p) (sBlk c W3 e p) xs (ix2 r l) = prod W2 W3 X e r N := by
  unfold sum3 six
  refine prod_eq W2 W3 X e r N _ _ _ _ _ _ fun j => ?_
  fin_cases j
  · exact blk_at W2 W3 X e r N l 0 _ _ _ _ (fun q => rdW W2 e p 0 768 _ rfl rfl N l hN q (by omega)) (rdS W3 e p 0 768 _ rfl rfl N l hN (by omega))
      (rdS W3 e p 1 768 _ rfl rfl N l hN (by omega)) (fun k => rdX xs X hX 0 _ rfl rfl r k (by omega))
  · exact blk_at W2 W3 X e r N l 1 _ _ _ _ (fun q => rdW W2 e p 128 768 _ rfl rfl N l hN q (by omega)) (rdS W3 e p 2 768 _ rfl rfl N l hN (by omega))
      (rdS W3 e p 3 768 _ rfl rfl N l hN (by omega)) (fun k => rdX xs X hX 256 _ rfl rfl r k (by omega))
  · exact blk_at W2 W3 X e r N l 2 _ _ _ _ (fun q => rdW W2 e p 256 768 _ rfl rfl N l hN q (by omega)) (rdS W3 e p 4 768 _ rfl rfl N l hN (by omega))
      (rdS W3 e p 5 768 _ rfl rfl N l hN (by omega)) (fun k => rdX xs X hX 512 _ rfl rfl r k (by omega))
  · exact blk_at W2 W3 X e r N l 3 _ _ _ _ (fun q => rdW W2 e p 384 768 _ rfl rfl N l hN q (by omega)) (rdS W3 e p 6 768 _ rfl rfl N l hN (by omega))
      (rdS W3 e p 7 768 _ rfl rfl N l hN (by omega)) (fun k => rdX xs X hX 768 _ rfl rfl r k (by omega))
  · exact blk_at W2 W3 X e r N l 4 _ _ _ _ (fun q => rdW W2 e p 512 768 _ rfl rfl N l hN q (by omega)) (rdS W3 e p 8 768 _ rfl rfl N l hN (by omega))
      (rdS W3 e p 9 768 _ rfl rfl N l hN (by omega)) (fun k => rdX xs X hX 1024 _ rfl rfl r k (by omega))
  · exact blk_at W2 W3 X e r N l 5 _ _ _ _ (fun q => rdW W2 e p 640 768 _ rfl rfl N l hN q (by omega)) (rdS W3 e p 10 768 _ rfl rfl N l hN (by omega))
      (rdS W3 e p 11 768 _ rfl rfl N l hN (by omega)) (fun k => rdX xs X hX 1280 _ rfl rfl r k (by omega))

theorem sum4_at (v : BitVec 32) (hw : k0_chk2 v) (t : Fin (k0_t2_loop v).trips) (W2 : Cts Ideal B2 c) (W3 : Cts Ideal B3 c) (e : Fin 16) (p : Fin 3)
    (xs : Cts Ideal B5 c) (X : S64x1536.Idx → EReal) (hX : ∀ i, B5.view.read (Elt Ideal) xs i = X i) (r : Fin 64) (l : Fin 256) (N : Fin 6144)
    (hN : N.1 = p.1 * 2048 + (1024 + l.1)) :
    sum4 v hw t c (wBlk c W2 e p) (sBlk c W3 e p) xs (ix2 r l) = prod W2 W3 X e r N := by
  unfold sum4 six
  refine prod_eq W2 W3 X e r N _ _ _ _ _ _ fun j => ?_
  fin_cases j
  · exact blk_at W2 W3 X e r N l 0 _ _ _ _ (fun q => rdW W2 e p 0 1024 _ rfl rfl N l hN q (by omega)) (rdS W3 e p 0 1024 _ rfl rfl N l hN (by omega))
      (rdS W3 e p 1 1024 _ rfl rfl N l hN (by omega)) (fun k => rdX xs X hX 0 _ rfl rfl r k (by omega))
  · exact blk_at W2 W3 X e r N l 1 _ _ _ _ (fun q => rdW W2 e p 128 1024 _ rfl rfl N l hN q (by omega)) (rdS W3 e p 2 1024 _ rfl rfl N l hN (by omega))
      (rdS W3 e p 3 1024 _ rfl rfl N l hN (by omega)) (fun k => rdX xs X hX 256 _ rfl rfl r k (by omega))
  · exact blk_at W2 W3 X e r N l 2 _ _ _ _ (fun q => rdW W2 e p 256 1024 _ rfl rfl N l hN q (by omega)) (rdS W3 e p 4 1024 _ rfl rfl N l hN (by omega))
      (rdS W3 e p 5 1024 _ rfl rfl N l hN (by omega)) (fun k => rdX xs X hX 512 _ rfl rfl r k (by omega))
  · exact blk_at W2 W3 X e r N l 3 _ _ _ _ (fun q => rdW W2 e p 384 1024 _ rfl rfl N l hN q (by omega)) (rdS W3 e p 6 1024 _ rfl rfl N l hN (by omega))
      (rdS W3 e p 7 1024 _ rfl rfl N l hN (by omega)) (fun k => rdX xs X hX 768 _ rfl rfl r k (by omega))
  · exact blk_at W2 W3 X e r N l 4 _ _ _ _ (fun q => rdW W2 e p 512 1024 _ rfl rfl N l hN q (by omega)) (rdS W3 e p 8 1024 _ rfl rfl N l hN (by omega))
      (rdS W3 e p 9 1024 _ rfl rfl N l hN (by omega)) (fun k => rdX xs X hX 1024 _ rfl rfl r k (by omega))
  · exact blk_at W2 W3 X e r N l 5 _ _ _ _ (fun q => rdW W2 e p 640 1024 _ rfl rfl N l hN q (by omega)) (rdS W3 e p 10 1024 _ rfl rfl N l hN (by omega))
      (rdS W3 e p 11 1024 _ rfl rfl N l hN (by omega)) (fun k => rdX xs X hX 1280 _ rfl rfl r k (by omega))

theorem sum5_at (v : BitVec 32) (hw : k0_chk2 v) (t : Fin (k0_t2_loop v).trips) (W2 : Cts Ideal B2 c) (W3 : Cts Ideal B3 c) (e : Fin 16) (p : Fin 3)
    (xs : Cts Ideal B5 c) (X : S64x1536.Idx → EReal) (hX : ∀ i, B5.view.read (Elt Ideal) xs i = X i) (r : Fin 64) (l : Fin 256) (N : Fin 6144)
    (hN : N.1 = p.1 * 2048 + (1280 + l.1)) :
    sum5 v hw t c (wBlk c W2 e p) (sBlk c W3 e p) xs (ix2 r l) = prod W2 W3 X e r N := by
  unfold sum5 six
  refine prod_eq W2 W3 X e r N _ _ _ _ _ _ fun j => ?_
  fin_cases j
  · exact blk_at W2 W3 X e r N l 0 _ _ _ _ (fun q => rdW W2 e p 0 1280 _ rfl rfl N l hN q (by omega)) (rdS W3 e p 0 1280 _ rfl rfl N l hN (by omega))
      (rdS W3 e p 1 1280 _ rfl rfl N l hN (by omega)) (fun k => rdX xs X hX 0 _ rfl rfl r k (by omega))
  · exact blk_at W2 W3 X e r N l 1 _ _ _ _ (fun q => rdW W2 e p 128 1280 _ rfl rfl N l hN q (by omega)) (rdS W3 e p 2 1280 _ rfl rfl N l hN (by omega))
      (rdS W3 e p 3 1280 _ rfl rfl N l hN (by omega)) (fun k => rdX xs X hX 256 _ rfl rfl r k (by omega))
  · exact blk_at W2 W3 X e r N l 2 _ _ _ _ (fun q => rdW W2 e p 256 1280 _ rfl rfl N l hN q (by omega)) (rdS W3 e p 4 1280 _ rfl rfl N l hN (by omega))
      (rdS W3 e p 5 1280 _ rfl rfl N l hN (by omega)) (fun k => rdX xs X hX 512 _ rfl rfl r k (by omega))
  · exact blk_at W2 W3 X e r N l 3 _ _ _ _ (fun q => rdW W2 e p 384 1280 _ rfl rfl N l hN q (by omega)) (rdS W3 e p 6 1280 _ rfl rfl N l hN (by omega))
      (rdS W3 e p 7 1280 _ rfl rfl N l hN (by omega)) (fun k => rdX xs X hX 768 _ rfl rfl r k (by omega))
  · exact blk_at W2 W3 X e r N l 4 _ _ _ _ (fun q => rdW W2 e p 512 1280 _ rfl rfl N l hN q (by omega)) (rdS W3 e p 8 1280 _ rfl rfl N l hN (by omega))
      (rdS W3 e p 9 1280 _ rfl rfl N l hN (by omega)) (fun k => rdX xs X hX 1024 _ rfl rfl r k (by omega))
  · exact blk_at W2 W3 X e r N l 5 _ _ _ _ (fun q => rdW W2 e p 640 1280 _ rfl rfl N l hN q (by omega)) (rdS W3 e p 10 1280 _ rfl rfl N l hN (by omega))
      (rdS W3 e p 11 1280 _ rfl rfl N l hN (by omega)) (fun k => rdX xs X hX 1280 _ rfl rfl r k (by omega))

theorem sum6_at (v : BitVec 32) (hw : k0_chk2 v) (t : Fin (k0_t2_loop v).trips) (W2 : Cts Ideal B2 c) (W3 : Cts Ideal B3 c) (e : Fin 16) (p : Fin 3)
    (xs : Cts Ideal B5 c) (X : S64x1536.Idx → EReal) (hX : ∀ i, B5.view.read (Elt Ideal) xs i = X i) (r : Fin 64) (l : Fin 256) (N : Fin 6144)
    (hN : N.1 = p.1 * 2048 + (1536 + l.1)) :
    sum6 v hw t c (wBlk c W2 e p) (sBlk c W3 e p) xs (ix2 r l) = prod W2 W3 X e r N := by
  unfold sum6 six
  refine prod_eq W2 W3 X e r N _ _ _ _ _ _ fun j => ?_
  fin_cases j
  · exact blk_at W2 W3 X e r N l 0 _ _ _ _ (fun q => rdW W2 e p 0 1536 _ rfl rfl N l hN q (by omega)) (rdS W3 e p 0 1536 _ rfl rfl N l hN (by omega))
      (rdS W3 e p 1 1536 _ rfl rfl N l hN (by omega)) (fun k => rdX xs X hX 0 _ rfl rfl r k (by omega))
  · exact blk_at W2 W3 X e r N l 1 _ _ _ _ (fun q => rdW W2 e p 128 1536 _ rfl rfl N l hN q (by omega)) (rdS W3 e p 2 1536 _ rfl rfl N l hN (by omega))
      (rdS W3 e p 3 1536 _ rfl rfl N l hN (by omega)) (fun k => rdX xs X hX 256 _ rfl rfl r k (by omega))
  · exact blk_at W2 W3 X e r N l 2 _ _ _ _ (fun q => rdW W2 e p 256 1536 _ rfl rfl N l hN q (by omega)) (rdS W3 e p 4 1536 _ rfl rfl N l hN (by omega))
      (rdS W3 e p 5 1536 _ rfl rfl N l hN (by omega)) (fun k => rdX xs X hX 512 _ rfl rfl r k (by omega))
  · exact blk_at W2 W3 X e r N l 3 _ _ _ _ (fun q => rdW W2 e p 384 1536 _ rfl rfl N l hN q (by omega)) (rdS W3 e p 6 1536 _ rfl rfl N l hN (by omega))
      (rdS W3 e p 7 1536 _ rfl rfl N l hN (by omega)) (fun k => rdX xs X hX 768 _ rfl rfl r k (by omega))
  · exact blk_at W2 W3 X e r N l 4 _ _ _ _ (fun q => rdW W2 e p 512 1536 _ rfl rfl N l hN q (by omega)) (rdS W3 e p 8 1536 _ rfl rfl N l hN (by omega))
      (rdS W3 e p 9 1536 _ rfl rfl N l hN (by omega)) (fun k => rdX xs X hX 1024 _ rfl rfl r k (by omega))
  · exact blk_at W2 W3 X e r N l 5 _ _ _ _ (fun q => rdW W2 e p 640 1536 _ rfl rfl N l hN q (by omega)) (rdS W3 e p 10 1536 _ rfl rfl N l hN (by omega))
      (rdS W3 e p 11 1536 _ rfl rfl N l hN (by omega)) (fun k => rdX xs X hX 1280 _ rfl rfl r k (by omega))

theorem sum7_at (v : BitVec 32) (hw : k0_chk2 v) (t : Fin (k0_t2_loop v).trips) (W2 : Cts Ideal B2 c) (W3 : Cts Ideal B3 c) (e : Fin 16) (p : Fin 3)
    (xs : Cts Ideal B5 c) (X : S64x1536.Idx → EReal) (hX : ∀ i, B5.view.read (Elt Ideal) xs i = X i) (r : Fin 64) (l : Fin 256) (N : Fin 6144)
    (hN : N.1 = p.1 * 2048 + (1792 + l.1)) :
    sum7 v hw t c (wBlk c W2 e p) (sBlk c W3 e p) xs (ix2 r l) = prod W2 W3 X e r N := by
  unfold sum7 six
  refine prod_eq W2 W3 X e r N _ _ _ _ _ _ fun j => ?_
  fin_cases j
  · exact blk_at W2 W3 X e r N l 0 _ _ _ _ (fun q => rdW W2 e p 0 1792 _ rfl rfl N l hN q (by omega)) (rdS W3 e p 0 1792 _ rfl rfl N l hN (by omega))
      (rdS W3 e p 1 1792 _ rfl rfl N l hN (by omega)) (fun k => rdX xs X hX 0 _ rfl rfl r k (by omega))
  · exact blk_at W2 W3 X e r N l 1 _ _ _ _ (fun q => rdW W2 e p 128 1792 _ rfl rfl N l hN q (by omega)) (rdS W3 e p 2 1792 _ rfl rfl N l hN (by omega))
      (rdS W3 e p 3 1792 _ rfl rfl N l hN (by omega)) (fun k => rdX xs X hX 256 _ rfl rfl r k (by omega))
  · exact blk_at W2 W3 X e r N l 2 _ _ _ _ (fun q => rdW W2 e p 256 1792 _ rfl rfl N l hN q (by omega)) (rdS W3 e p 4 1792 _ rfl rfl N l hN (by omega))
      (rdS W3 e p 5 1792 _ rfl rfl N l hN (by omega)) (fun k => rdX xs X hX 512 _ rfl rfl r k (by omega))
  · exact blk_at W2 W3 X e r N l 3 _ _ _ _ (fun q => rdW W2 e p 384 1792 _ rfl rfl N l hN q (by omega)) (rdS W3 e p 6 1792 _ rfl rfl N l hN (by omega))
      (rdS W3 e p 7 1792 _ rfl rfl N l hN (by omega)) (fun k => rdX xs X hX 768 _ rfl rfl r k (by omega))
  · exact blk_at W2 W3 X e r N l 4 _ _ _ _ (fun q => rdW W2 e p 512 1792 _ rfl rfl N l hN q (by omega)) (rdS W3 e p 8 1792 _ rfl rfl N l hN (by omega))
      (rdS W3 e p 9 1792 _ rfl rfl N l hN (by omega)) (fun k => rdX xs X hX 1024 _ rfl rfl r k (by omega))
  · exact blk_at W2 W3 X e r N l 5 _ _ _ _ (fun q => rdW W2 e p 640 1792 _ rfl rfl N l hN q (by omega)) (rdS W3 e p 10 1792 _ rfl rfl N l hN (by omega))
      (rdS W3 e p 11 1792 _ rfl rfl N l hN (by omega)) (fun k => rdX xs X hX 1280 _ rfl rfl r k (by omega))

end Cert.Proof.KernelIdeal

end
-- ==== Proof.Val.TripV.lean ====
module

public import proofs.«01_k».proof.Proof.Val.Prod
public import proofs.«01_k».proof.Proof.KI.Step

@[expose] public section

/-! The accumulator after some trips, element by element over the extended reals. -/

noncomputable section

namespace Cert.Proof.KernelIdeal

open Cert.KernelIdeal Cert.KernelIdeal.Gen
open Idealize.ShloMosaic Idealize.ShloMosaic.TcCoe

set_option maxRecDepth 65536
set_option maxHeartbeats 1000000

/-- Where trip `t` stores its tile `b`. -/
theorem off59_eq : ∀ n : Fin 17, ∀ t : Fin (k0_t2_loop (wd n)).trips, ∀ b : Fin 8,
    k0_off59 (wd n) t (BitVec.ofNat 32 (256 * b.val)) = ![0, t.1 % 3 * 2048 + 256 * b.val] := by decide +kernel

variable {c : Dev nD}

/-- The row's mask. -/
def msk (st en : BitVec 32) (r : Fin 64) : BitVec 1 :=
  IntOp.andi (IntOp.cmpi .sge (BitVec.ofNat 32 r.1) st) (IntOp.cmpi .slt (BitVec.ofNat 32 r.1) en)

/-- The mask the kernel computes, at a row. -/
theorem msk_eq (st en : BitVec 32) (r : Fin 64) :
    k0_pay6 (F := Ideal) (iota .tc S64x1 32 [0] (by decide)) (k0_pay5 (F := Ideal) st) en (ix2 r 0) = msk st en r := by
  pointwise [k0_pay6, k0_pay5]
  rfl

/-- A tile, at an element: the new sum in the rows of the group, the old value elsewhere. -/
theorem tile_at (mask : IVec S64x1 1) (S old : Vec Ideal S64x256 .f32) (r : Fin 64) (l : Fin 256) :
    tile mask S old (ix2 r l) = Scalar.select (mask (ix2 r 0)) (S (ix2 r l)) (old (ix2 r l)) := by
  pointwise [tile]

/-- A list of stores has put `T` in the masked rows of the `p`-th 2048 columns' first `256 k`. -/
def Done (a : Cts Ideal B7 c) (mask : IVec S64x1 1) (p : ℕ) (T : Fin 64 → Fin 6144 → EReal) (k : ℕ) (L : List (View.Piece (Elt Ideal) S64x6144 .f32)) : Prop :=
  ∀ (r : Fin 64) (n : Fin 6144), B7.view.read (Elt Ideal) (B7.view.writes (Elt Ideal) a L) (ix2 r n)
    = if p * 2048 ≤ n.1 ∧ n.1 < p * 2048 + 256 * k then Scalar.select (mask (ix2 r 0)) (T r n) (B7.view.read (Elt Ideal) a (ix2 r n))
      else B7.view.read (Elt Ideal) a (ix2 r n)

/-- Before its first store a trip has written nothing. -/
theorem done_nil (a : Cts Ideal B7 c) (mask : IVec S64x1 1) (p : ℕ) (T : Fin 64 → Fin 6144 → EReal) : Done a mask p T 0 [] := by
  intro r n
  rw [if_neg (by omega)]
  rfl

/-- One more tile stored. -/
theorem done_put (n : Fin 17) (hw : k0_chk2 (wd n)) (t : Fin (k0_t2_loop (wd n)).trips) (b : Fin 8) (mask : IVec S64x1 1) (S : Vec Ideal S64x256 .f32)
    (a : Cts Ideal B7 c) (T : Fin 64 → Fin 6144 → EReal)
    (hS : ∀ (r : Fin 64) (l : Fin 256) (N : Fin 6144), N.1 = t.1 % 3 * 2048 + (256 * b.1 + l.1) → S (ix2 r l) = T r N)
    (L : List (View.Piece (Elt Ideal) S64x6144 .f32)) (h : Done a mask (t.1 % 3) T b.1 L) :
    Done a mask (t.1 % 3) T (b.1 + 1) (put (wd n) hw t c b mask S a L) := by
  intro r N
  have ho := off59_eq n t b
  have hp : t.1 % 3 < 3 := Nat.mod_lt _ (by omega)
  have h0 : k0_off59 (wd n) t (BitVec.ofNat 32 (256 * b.val)) 0 = 0 := by rw [ho]; rfl
  have h1 : k0_off59 (wd n) t (BitVec.ofNat 32 (256 * b.val)) 1 = t.1 % 3 * 2048 + 256 * b.val := by rw [ho]; rfl
  unfold put
  by_cases hm : t.1 % 3 * 2048 + 256 * b.1 ≤ N.1 ∧ N.1 < t.1 % 3 * 2048 + 256 * b.1 + 256
  · have hl : N.1 - (t.1 % 3 * 2048 + 256 * b.1) < 256 := by omega
    have hx : ∀ i, ((ix2 r N : S64x6144.Idx) i : ℕ)
        = k0_off59 (wd n) t (BitVec.ofNat 32 (256 * b.val)) i + (ix2 r (⟨N.1 - (t.1 % 3 * 2048 + 256 * b.1), hl⟩ : Fin 256) : S64x256.Idx) i := by
      intro i
      fin_cases i
      · show r.1 = k0_off59 (wd n) t (BitVec.ofNat 32 (256 * b.val)) 0 + r.1
        omega
      · show N.1 = k0_off59 (wd n) t (BitVec.ofNat 32 (256 * b.val)) 1 + (N.1 - (t.1 % 3 * 2048 + 256 * b.1))
        omega
    rw [View.read_writes_cons_unit_of_mem B7.view a (k0_off59_inb (wd n) hw t b) _ L (ix2 r N) (ix2 r (⟨N.1 - (t.1 % 3 * 2048 + 256 * b.1), hl⟩ : Fin 256)) rfl hx]
    rw [tile_at, hS r _ N (by show N.1 = t.1 % 3 * 2048 + (256 * b.1 + (N.1 - (t.1 % 3 * 2048 + 256 * b.1))); omega)]
    have hr : View.readAt (Elt Ideal) B7.view (Rect.unit (s := S64x6144) (k0_off59 (wd n) t (BitVec.ofNat 32 (256 * b.val))) S64x256.size (k0_off59_inb (wd n) hw t b)).toLoadRect
        (B7.view.writes (Elt Ideal) a L) (ix2 r (⟨N.1 - (t.1 % 3 * 2048 + 256 * b.1), hl⟩ : Fin 256)) = B7.view.read (Elt Ideal) (B7.view.writes (Elt Ideal) a L) (ix2 r N) := by
      show B7.view.read (Elt Ideal) (B7.view.writes (Elt Ideal) a L) _ = _
      refine congrArg (B7.view.read (Elt Ideal) (B7.view.writes (Elt Ideal) a L)) ?_
      funext i
      refine Fin.ext ?_
      rw [hx i]
      show k0_off59 (wd n) t (BitVec.ofNat 32 (256 * b.val)) i + 1 * _ = _
      rw [one_mul]
    rw [hr, h r N, if_neg (by omega), if_pos (by omega)]
  · have hd : ∃ i, ((ix2 r N : S64x6144.Idx) i : ℕ) < k0_off59 (wd n) t (BitVec.ofNat 32 (256 * b.val)) i
        ∨ k0_off59 (wd n) t (BitVec.ofNat 32 (256 * b.val)) i + S64x256.size i ≤ ((ix2 r N : S64x6144.Idx) i : ℕ) := by
      refine ⟨1, ?_⟩
      show N.1 < k0_off59 (wd n) t (BitVec.ofNat 32 (256 * b.val)) 1 ∨ k0_off59 (wd n) t (BitVec.ofNat 32 (256 * b.val)) 1 + 256 ≤ N.1
      omega
    obtain ⟨i, hi⟩ := hd
    rw [View.read_writes_cons_unit_of_not_mem B7.view a (k0_off59_inb (wd n) hw t b) _ L (ix2 r N) rfl i hi, h r N]
    by_cases hb : t.1 % 3 * 2048 ≤ N.1 ∧ N.1 < t.1 % 3 * 2048 + 256 * b.1
    · rw [if_pos hb, if_pos (by omega)]
    · rw [if_neg hb, if_neg (by omega)]

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole)

/-- After its eight stores a trip has written its 2048 columns. -/
theorem trip_done (n : Fin 17) (hw : k0_chk2 (wd n)) (t : Fin (k0_t2_loop (wd n)).trips) (v640 v644 : BitVec 32) (v669 : IVec S64x1 32) (v673 : IVec S64x1 1)
    (v676 : Elt Ideal .i32) (W2 : Cts Ideal B2 c) (W3 : Cts Ideal B3 c) (e : Fin 16) (p : Fin 3) (hp : p.1 = t.1 % 3)
    (xs : Cts Ideal B5 c) (X : S64x1536.Idx → EReal) (hX : ∀ i, B5.view.read (Elt Ideal) xs i = X i) (a : Cts Ideal B7 c) :
    Done a (k0_pay6 (F := Ideal) v669 v673 v676) (t.1 % 3) (prod W2 W3 X e) 8
      (rest_run arg0 harg0 arg1 harg1 arg4 harg4 (wd n) hw t c v640 v644 v669 v673 v676 (wBlk c W2 e p) (sBlk c W3 e p) xs a).1 := by
  rw [list8]
  refine done_put n hw t 7 _ _ a _ (fun r l N hN => sum7_at (wd n) hw t W2 W3 e p xs X hX r l N (by rw [hN, hp]; rfl)) _ ?_
  rw [list7]
  refine done_put n hw t 6 _ _ a _ (fun r l N hN => sum6_at (wd n) hw t W2 W3 e p xs X hX r l N (by rw [hN, hp]; rfl)) _ ?_
  rw [list6]
  refine done_put n hw t 5 _ _ a _ (fun r l N hN => sum5_at (wd n) hw t W2 W3 e p xs X hX r l N (by rw [hN, hp]; rfl)) _ ?_
  rw [list5]
  refine done_put n hw t 4 _ _ a _ (fun r l N hN => sum4_at (wd n) hw t W2 W3 e p xs X hX r l N (by rw [hN, hp]; rfl)) _ ?_
  rw [list4]
  refine done_put n hw t 3 _ _ a _ (fun r l N hN => sum3_at (wd n) hw t W2 W3 e p xs X hX r l N (by rw [hN, hp]; rfl)) _ ?_
  rw [list3]
  refine done_put n hw t 2 _ _ a _ (fun r l N hN => sum2_at (wd n) hw t W2 W3 e p xs X hX r l N (by rw [hN, hp]; rfl)) _ ?_
  rw [list2]
  refine done_put n hw t 1 _ _ a _ (fun r l N hN => sum1_at (wd n) hw t W2 W3 e p xs X hX r l N (by rw [hN, hp]; rfl)) _ ?_
  rw [list1]
  refine done_put n hw t 0 _ _ a _ (fun r l N hN => sum0_at (wd n) hw t W2 W3 e p xs X hX r l N (by rw [hN, hp]; rfl)) _ ?_
  exact done_nil a _ _ _

/-- The accumulator's element after one more trip. -/
theorem acc_step (n : Fin 17) (hw : k0_chk2 (wd n)) (W2 : Cts Ideal B2 c) (W3 : Cts Ideal B3 c) (ex st : ℕ → BitVec 32)
    (xs : Cts Ideal B5 c) (X : S64x1536.Idx → EReal) (hX : ∀ i, B5.view.read (Elt Ideal) xs i = X i) (a0 : Cts Ideal B7 c) (k : ℕ)
    (h : k < (k0_t2_loop (wd n)).trips) (r : Fin 64) (N : Fin 6144) :
    B7.view.read (Elt Ideal) (accAt arg0 harg0 arg1 harg1 arg4 harg4 n hw c W2 W3 ex st xs a0 (k + 1)) (ix2 r N)
      = if k % 3 * 2048 ≤ N.1 ∧ N.1 < k % 3 * 2048 + 2048 then
          Scalar.select (msk (st (k / 3)) (st (k / 3 + 1)) r) (prod W2 W3 X (exF (ex (k / 3))) r N)
            (B7.view.read (Elt Ideal) (accAt arg0 harg0 arg1 harg1 arg4 harg4 n hw c W2 W3 ex st xs a0 k) (ix2 r N))
        else B7.view.read (Elt Ideal) (accAt arg0 harg0 arg1 harg1 arg4 harg4 n hw c W2 W3 ex st xs a0 k) (ix2 r N) := by
  rw [accAt, dif_pos h]
  rw [trip_done arg0 harg0 arg1 harg1 arg4 harg4 n hw ⟨k, h⟩ _ _ _ _ _ W2 W3 _ (ix3' k) rfl xs X hX _ r N, msk_eq]

/-- The accumulator's element after `a` experts. -/
def accE (W2 : S16x768x6144.Idx → BitVec 8) (W3 : S16x12x6144.Idx → EReal) (X : S64x1536.Idx → EReal) (ex st : ℕ → BitVec 32) (z : EReal) (r : Fin 64) (N : Fin 6144) : ℕ → EReal
  | 0 => z
  | a + 1 => Scalar.select (msk (st a) (st (a + 1)) r) (prod W2 W3 X (exF (ex a)) r N) (accE W2 W3 X ex st z r N a)

/-- The accumulator after `a` groups of three trips. -/
theorem acc_at (n : Fin 17) (hw : k0_chk2 (wd n)) (W2 : Cts Ideal B2 c) (W3 : Cts Ideal B3 c) (ex st : ℕ → BitVec 32)
    (xs : Cts Ideal B5 c) (X : S64x1536.Idx → EReal) (hX : ∀ i, B5.view.read (Elt Ideal) xs i = X i) (a0 : Cts Ideal B7 c) (r : Fin 64) (N : Fin 6144) :
    ∀ a : ℕ, a ≤ n.1 → B7.view.read (Elt Ideal) (accAt arg0 harg0 arg1 harg1 arg4 harg4 n hw c W2 W3 ex st xs a0 (3 * a)) (ix2 r N)
      = accE W2 W3 X ex st (B7.view.read (Elt Ideal) a0 (ix2 r N)) r N a
  | 0, _ => rfl
  | a + 1, h => by
    have ht := trips2 n
    have h1 : 3 * a < (k0_t2_loop (wd n)).trips := by omega
    have h2 : 3 * a + 1 < (k0_t2_loop (wd n)).trips := by omega
    have h3 : 3 * a + 2 < (k0_t2_loop (wd n)).trips := by omega
    rw [show 3 * (a + 1) = 3 * a + 2 + 1 by omega, acc_step arg0 harg0 arg1 harg1 arg4 harg4 n hw W2 W3 ex st xs X hX a0 _ h3,
      acc_step arg0 harg0 arg1 harg1 arg4 harg4 n hw W2 W3 ex st xs X hX a0 _ h2,
      acc_step arg0 harg0 arg1 harg1 arg4 harg4 n hw W2 W3 ex st xs X hX a0 _ h1, acc_at n hw W2 W3 ex st xs X hX a0 r N a (by omega), accE,
      show 3 * a / 3 = a by omega, show (3 * a + 1) / 3 = a by omega, show (3 * a + 2) / 3 = a by omega,
      show 3 * a % 3 = 0 by omega, show (3 * a + 1) % 3 = 1 by omega, show (3 * a + 2) % 3 = 2 by omega]
    have hN := N.isLt
    by_cases c0 : N.1 < 2048
    · rw [if_neg (by omega), if_neg (by omega), if_pos (by omega)]
    by_cases c1 : N.1 < 4096
    · rw [if_neg (by omega), if_pos (by omega), if_neg (by omega)]
    · rw [if_pos (by omega), if_neg (by omega), if_neg (by omega)]

end Cert.Proof.KernelIdeal

end
-- ==== Proof.Val.QuantMath.lean ====
module

public import proofs.«01_k».proof.Proof.KI.Body
public import Idealize.ShloMosaic.Lib.Pointwise

@[expose] public section

/-! Over the extended reals the two roundings of the rows, the kernel's by a table of powers of two and the reference's by a
logarithm, both give a group of finite elements back: the scale is a power of two that keeps the group inside the format's range.
A group with an infinite element both make zero. -/

noncomputable section

namespace Cert.Proof.Quant

open Idealize.ShloMosaic Idealize.ShloMosaic.TcCoe

set_option maxRecDepth 65536
set_option maxHeartbeats 1000000

/-- The constants of the two programs as extended reals. -/
theorem bits_bot : Ideal.ofBits .f32 4286578688#32 = ⊥ := by simp [Ideal.ofBits, Ideal.ieee]
theorem bits_c : Ideal.ofBits .f32 991054117#32 = ((9586981 * (2 : ℝ) ^ (-32 : ℤ) : ℝ) : EReal) := by
  simp [Ideal.ofBits, Ideal.ieee, -EReal.coe_mul] <;> norm_num
theorem bits_448 : Ideal.ofBits .f32 1138753536#32 = ((448 : ℝ) : EReal) := by
  simp [Ideal.ofBits, Ideal.ieee, -EReal.coe_mul] <;> norm_num
theorem bits_m448 : Ideal.ofBits .f32 3286237184#32 = ((-448 : ℝ) : EReal) := by
  simp [Ideal.ofBits, Ideal.ieee, -EReal.coe_mul, -EReal.coe_neg] <;> norm_num
theorem bits_two : Ideal.ofBits .f32 1073741824#32 = ((2 : ℝ) : EReal) := by
  simp [Ideal.ofBits, Ideal.ieee, -EReal.coe_mul] <;> norm_num
theorem bits_max : Ideal.ofBits .f32 2139029504#32 = ((255 * (2 : ℝ) ^ (120 : ℤ) : ℝ) : EReal) := by
  simp [Ideal.ofBits, Ideal.ieee, -EReal.coe_mul] <;> norm_num

/-- The pattern of a power of two. -/
def pw (k : BitVec 32) : BitVec 32 := IntOp.shli ArithUnit.vector k 23#32

/-- The fields of the pattern of a power of two. -/
theorem pw_fields : ∀ k : Fin 256, ((pw (BitVec.ofNat 32 k.1)).extractLsb' 31 1 == 1#1) = false
    ∧ ((pw (BitVec.ofNat 32 k.1)).extractLsb' 23 8).toNat = k.1 ∧ ((pw (BitVec.ofNat 32 k.1)).extractLsb' 0 23).toNat = 0 := by decide +kernel

theorem pw_zero : Ideal.ofBits .f32 (pw (BitVec.ofNat 32 0)) = 0 := by simp [pw, IntOp.shli, Ideal.ofBits, Ideal.ieee]

theorem pw_top : Ideal.ofBits .f32 (pw (BitVec.ofNat 32 255)) = ⊤ := by
  obtain ⟨h1, h2, h3⟩ := pw_fields 255
  show Ideal.ieee 8 23 (pw (BitVec.ofNat 32 (255 : Fin 256).1)) = ⊤
  unfold Ideal.ieee
  simp only [show (8 + 23 : ℕ) = 31 from rfl]
  rw [h1, h2, h3]
  simp

/-- The value of the pattern of a power of two. -/
theorem pw_at (k : Fin 256) (h0 : 1 ≤ k.1) (h1 : k.1 ≤ 254) : Ideal.ofBits .f32 (pw (BitVec.ofNat 32 k.1)) = (((2 : ℝ) ^ ((k.1 : ℤ) - 127) : ℝ) : EReal) := by
  obtain ⟨g1, g2, g3⟩ := pw_fields k
  show Ideal.ieee 8 23 _ = _
  unfold Ideal.ieee
  simp only [show (8 + 23 : ℕ) = 31 from rfl]
  rw [g1, g2, g3, if_neg (by omega), if_neg (by omega)]
  refine congrArg _ ?_
  rw [if_neg (by decide), show ((k.1 : ℤ) - 127) = 23 + ((k.1 : ℤ) - (2 ^ (8 - 1) - 1) - (23 : ℕ)) by push_cast; ring, zpow_add₀ (by norm_num)]
  norm_num

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

/-- The greatest magnitude of a group of reals is a real one. -/
theorem fold_real (f : Fin 128 → ℝ) : ∃ a : ℝ, 0 ≤ a ∧ Finset.fold max (Ideal.ofBits .f32 4286578688#32) (fun x => FloatOps.absf (F := Ideal) (φ := .f32) ((f x : ℝ) : EReal)) Finset.univ = (a : EReal)
    ∧ (∀ x, |f x| ≤ a) ∧ ∃ x, a = |f x| := by
  obtain ⟨y, -, hy⟩ := Finset.exists_max_image Finset.univ (fun x => |f x|) ⟨0, Finset.mem_univ _⟩
  have hab : ∀ x, FloatOps.absf (F := Ideal) (φ := .f32) ((f x : ℝ) : EReal) = ((|f x| : ℝ) : EReal) := by
    intro x
    show max ((f x : ℝ) : EReal) (-((f x : ℝ) : EReal)) = _
    rw [← EReal.coe_neg, ← coe_max]
    rfl
  refine ⟨|f y|, abs_nonneg _, ?_, fun x => hy x (Finset.mem_univ _), y, rfl⟩
  simp only [hab]
  rw [bits_bot]
  refine le_antisymm ?_ ?_
  · rw [Finset.fold_max_le]
    exact ⟨bot_le, fun x _ => by exact_mod_cast hy x (Finset.mem_univ _)⟩
  · rw [Finset.le_fold_max]
    exact Or.inr ⟨y, Finset.mem_univ _, le_rfl⟩

/-- Scaling into the range, clamping there and scaling back changes nothing. -/
theorem clamp_id (x p q : ℝ) (hp : 0 < p) (hpq : p * q = 1) (h : |x| * p ≤ 448) :
    min (Ideal.ofBits .f32 1138753536#32) (max (Ideal.ofBits .f32 3286237184#32) ((x : EReal) * (p : EReal))) * (q : EReal) = (x : EReal) := by
  rw [bits_448, bits_m448, ← EReal.coe_mul, ← coe_max, ← coe_min, ← EReal.coe_mul]
  refine congrArg _ ?_
  have h1 : |x * p| ≤ 448 := by rw [abs_mul, abs_of_pos hp]; exact h
  obtain ⟨h2, h3⟩ := abs_le.mp h1
  rw [max_eq_right h2, min_eq_right h3, mul_assoc, hpq, mul_one]

/-- A group whose greatest magnitude times the constant is below a power of two fits the range when divided by it. -/
theorem fits (x a p q : ℝ) (hx : |x| ≤ a) (hp : 0 < p) (hpq : p * q = 1) (h : a * (9586981 * (2 : ℝ) ^ (-32 : ℤ)) ≤ q) : |x| * p ≤ 448 := by
  have h1 : |x| * p ≤ a * p := mul_le_mul_of_nonneg_right hx hp.le
  have h2 : a * p * (9586981 * (2 : ℝ) ^ (-32 : ℤ)) ≤ 1 := by
    calc a * p * (9586981 * (2 : ℝ) ^ (-32 : ℤ)) = p * (a * (9586981 * (2 : ℝ) ^ (-32 : ℤ))) := by ring
      _ ≤ p * q := mul_le_mul_of_nonneg_left h hp.le
      _ = 1 := hpq
  refine h1.trans ?_
  norm_num at h2
  linarith

/-! ### The reference's scale -/

/-- The exponent of the reference. -/
def refE (A : EReal) : EReal :=
  if A = 0 then 0 else Ideal.liftRound Int.floor (Ideal.div (Ideal.log (A * Ideal.ofBits .f32 991054117#32)) (Ideal.log (Ideal.ofBits .f32 1073741824#32))) + 1

/-- The reference gives an element of a finite group back. -/
theorem ref_id (x a : ℝ) (h0 : 0 ≤ a) (hx : |x| ≤ a) :
    min (Ideal.ofBits .f32 1138753536#32) (max (Ideal.ofBits .f32 3286237184#32) ((x : EReal) * Ideal.exp2 (0 - refE (a : EReal)))) * Ideal.exp2 (refE (a : EReal)) = (x : EReal) := by
  by_cases ha : a = 0
  · have hE : refE (a : EReal) = ((0 : ℝ) : EReal) := by unfold refE; rw [if_pos (by rw [ha]; rfl)]; rfl
    have hE' : (0 : EReal) - refE (a : EReal) = ((0 : ℝ) : EReal) := by rw [hE]; simp
    rw [hE', hE, Ideal.exp2_coe, show Real.rpow 2 0 = 1 from Real.rpow_zero 2]
    refine clamp_id x 1 1 one_pos (one_mul 1) ?_
    rw [ha] at hx
    linarith
  · have hpos : 0 < a := lt_of_le_of_ne h0 (Ne.symm ha)
    set C : ℝ := 9586981 * (2 : ℝ) ^ (-32 : ℤ) with hC
    have hCpos : 0 < C := by rw [hC]; positivity
    have hr : 0 < a * C := mul_pos hpos hCpos
    have hl2 : 0 < Real.log 2 := Real.log_pos (by norm_num)
    obtain ⟨e, he, hlt⟩ : ∃ e : ℝ, refE (a : EReal) = (e : EReal) ∧ Real.log (a * C) / Real.log 2 < e := by
      refine ⟨(⌊Real.log (a * C) / Real.log 2⌋ : ℝ) + 1, ?_, Int.lt_floor_add_one _⟩
      unfold refE
      rw [if_neg (by exact_mod_cast ha), bits_c, bits_two, ← EReal.coe_mul, Ideal.log_coe, Ideal.log_coe, if_neg (not_le.mpr hr), if_neg (by norm_num),
        Ideal.div_coe hl2.ne', ← EReal.coe_mul, Ideal.liftRound_coe, mul_one_div]
      rfl
    have hE' : (0 : EReal) - refE (a : EReal) = ((-e : ℝ) : EReal) := by
      rw [he, ← EReal.coe_zero, ← EReal.coe_sub, zero_sub]
    rw [hE', he, Ideal.exp2_coe, Ideal.exp2_coe]
    have hpq : Real.rpow 2 (-e) * Real.rpow 2 e = 1 := by
      show (2 : ℝ) ^ (-e) * (2 : ℝ) ^ e = 1
      rw [← Real.rpow_add (by norm_num)]
      simp
    have hp : 0 < Real.rpow 2 (-e) := Real.rpow_pos_of_pos (by norm_num) _
    refine clamp_id x _ _ hp hpq (fits x a _ _ hx hp hpq ?_)
    show a * C ≤ (2 : ℝ) ^ e
    have h1 : a * C = (2 : ℝ) ^ (Real.log (a * C) / Real.log 2) := by
      rw [Real.rpow_def_of_pos (by norm_num), mul_div_cancel₀ _ hl2.ne', Real.exp_log hr]
    rw [h1]
    exact (Real.rpow_lt_rpow_of_exponent_lt (by norm_num) hlt).le

/-! ### The kernel's scale -/

/-- How many powers of two of the table are not above `r`. -/
def cnt (r : EReal) : BitVec 32 :=
  Finset.fold IntOp.addi (0#32) (fun k : Fin 256 => if r < Ideal.ofBits .f32 (pw (BitVec.ofNat 32 k.1)) then 0#32 else 1#32) Finset.univ

/-- The exponent of the kernel. -/
def kerE (r : EReal) : BitVec 32 :=
  if r < Ideal.ofBits .f32 8388608#32 then 0#32 else IntOp.subi (IntOp.subi (cnt r) 1#32) 126#32

/-- Counting the entries of the table up to `j`. -/
theorem cnt_table : ∀ j : Fin 247, Finset.fold IntOp.addi (0#32) (fun k : Fin 256 => if j.1 < k.1 then 0#32 else 1#32) Finset.univ = BitVec.ofNat 32 (j.1 + 1) := by decide +kernel

/-- The exponent field of the scale, from the count. -/
theorem up_table : ∀ j : Fin 247, IntOp.addi 127#32 (IntOp.subi (IntOp.subi (BitVec.ofNat 32 (j.1 + 1)) 1#32) 126#32) = BitVec.ofNat 32 (j.1 + 1) := by decide +kernel
/-- The exponent field of the inverse scale, from the count. -/
theorem down_table : ∀ j : Fin 247, IntOp.subi 127#32 (IntOp.subi (IntOp.subi (BitVec.ofNat 32 (j.1 + 1)) 1#32) 126#32) = BitVec.ofNat 32 (253 - j.1) := by decide +kernel

theorem bits_min : Ideal.ofBits .f32 8388608#32 = (((2 : ℝ) ^ (-126 : ℤ) : ℝ) : EReal) := by
  rw [show (8388608#32) = pw (BitVec.ofNat 32 1) by decide]
  exact pw_at 1 (by decide) (by decide)

/-- The kernel's scale and inverse scale are inverse to each other, and the scale is not below `r`. -/
theorem scales (r : ℝ) (hr : r < (2 : ℝ) ^ (120 : ℤ)) : ∃ p q : ℝ, 0 < p ∧ p * q = 1 ∧ r ≤ q
    ∧ Ideal.ofBits .f32 (pw (IntOp.subi 127#32 (kerE (r : EReal)))) = (p : EReal) ∧ Ideal.ofBits .f32 (pw (IntOp.addi 127#32 (kerE (r : EReal)))) = (q : EReal) := by
  by_cases h : r < (2 : ℝ) ^ (-126 : ℤ)
  · have hE : kerE (r : EReal) = 0#32 := by
      unfold kerE; rw [bits_min, if_pos (by exact_mod_cast h)]
    have h1 : Ideal.ofBits .f32 (pw (BitVec.ofNat 32 127)) = ((1 : ℝ) : EReal) := by
      have := pw_at 127 (by decide) (by decide)
      rw [show (((127 : Fin 256).1 : ℕ) : ℤ) - 127 = 0 by decide, zpow_zero] at this
      exact this
    refine ⟨1, 1, one_pos, one_mul 1, h.le.trans (by norm_num), ?_, ?_⟩
    · rw [hE]; exact h1
    · rw [hE]; exact h1
  · have hlo : (2 : ℝ) ^ (-126 : ℤ) ≤ r := not_lt.mp h
    have hpos : 0 < r := lt_of_lt_of_le (by positivity) hlo
    obtain ⟨z, hz1, hz2⟩ := exists_mem_Ico_zpow hpos (one_lt_two (α := ℝ))
    have hz3 : -126 < z + 1 := (zpow_lt_zpow_iff_right₀ (one_lt_two (α := ℝ))).mp (lt_of_le_of_lt hlo hz2)
    have hz4 : z < 120 := (zpow_lt_zpow_iff_right₀ (one_lt_two (α := ℝ))).mp (lt_of_le_of_lt hz1 hr)
    obtain ⟨j, hj⟩ : ∃ j : Fin 247, (j.1 : ℤ) = z + 127 := ⟨⟨(z + 127).toNat, by omega⟩, by show ((z + 127).toNat : ℤ) = _; omega⟩
    have hcnt : cnt (r : EReal) = BitVec.ofNat 32 (j.1 + 1) := by
      rw [← cnt_table j]
      unfold cnt
      refine Finset.fold_congr fun k _ => ?_
      refine if_congr ?_ rfl rfl
      by_cases k0 : k.1 = 0
      · rw [k0, pw_zero]
        refine iff_of_false (not_lt.mpr (by exact_mod_cast hpos.le)) (by omega)
      by_cases k1 : k.1 = 255
      · rw [k1, pw_top]
        exact iff_of_true (EReal.coe_lt_top r) (by omega)
      · rw [pw_at k (by omega) (by omega), EReal.coe_lt_coe_iff]
        constructor
        · intro hlt
          have := (zpow_lt_zpow_iff_right₀ (one_lt_two (α := ℝ))).mp (lt_of_le_of_lt hz1 hlt)
          omega
        · intro hlt
          exact lt_of_lt_of_le hz2 (zpow_le_zpow_right₀ (one_lt_two (α := ℝ)).le (by omega))
    have hE : kerE (r : EReal) = IntOp.subi (IntOp.subi (BitVec.ofNat 32 (j.1 + 1)) 1#32) 126#32 := by
      unfold kerE; rw [bits_min, if_neg (by rw [EReal.coe_lt_coe_iff]; exact h), hcnt]
    have hjlo : 1 ≤ j.1 := by omega
    refine ⟨(2 : ℝ) ^ (-(z + 1)), (2 : ℝ) ^ (z + 1), by positivity, ?_, hz2.le, ?_, ?_⟩
    · rw [← zpow_add₀ (by norm_num)]; simp
    · rw [hE, down_table j]
      have := pw_at ⟨253 - j.1, by omega⟩ (by show 1 ≤ 253 - j.1; omega) (by show 253 - j.1 ≤ 254; omega)
      rw [show (((⟨253 - j.1, by omega⟩ : Fin 256).1 : ℕ) : ℤ) - 127 = -(z + 1) by show ((253 - j.1 : ℕ) : ℤ) - 127 = _; omega] at this
      exact this
    · rw [hE, up_table j]
      have := pw_at ⟨j.1 + 1, by omega⟩ (by show 1 ≤ j.1 + 1; omega) (by show j.1 + 1 ≤ 254; omega)
      rw [show (((⟨j.1 + 1, by omega⟩ : Fin 256).1 : ℕ) : ℤ) - 127 = z + 1 by show ((j.1 + 1 : ℕ) : ℤ) - 127 = _; omega] at this
      exact this

/-- The kernel gives an element of a finite group back. -/
theorem ker_id (x a : ℝ) (hx : |x| ≤ a) (ha : a ≤ 255 * (2 : ℝ) ^ (120 : ℤ)) :
    min (Ideal.ofBits .f32 1138753536#32) (max (Ideal.ofBits .f32 3286237184#32)
        ((x : EReal) * Ideal.ofBits .f32 (pw (IntOp.subi 127#32 (kerE ((a : EReal) * Ideal.ofBits .f32 991054117#32))))))
      * Ideal.ofBits .f32 (pw (IntOp.addi 127#32 (kerE ((a : EReal) * Ideal.ofBits .f32 991054117#32)))) = (x : EReal) := by
  rw [bits_c, ← EReal.coe_mul]
  obtain ⟨p, q, hp, hpq, hq, e1, e2⟩ := scales (a * (9586981 * (2 : ℝ) ^ (-32 : ℤ))) (by
    refine lt_of_le_of_lt (mul_le_mul_of_nonneg_right ha (by positivity)) ?_
    norm_num)
  rw [e1, e2]
  exact clamp_id x p q hp hpq (fits x a p q hx hp hpq hq)

/-! ### Groups with an infinite element -/

/-- The greatest magnitude of a group. -/
def top128 (f : Fin 128 → EReal) : EReal :=
  Finset.fold max (Ideal.ofBits .f32 4286578688#32) (fun k => FloatOps.absf (F := Ideal) (φ := .f32) (f k)) Finset.univ

/-- An element that is infinite, or no larger than the format's greatest number. -/
def Ok (x : EReal) : Prop := max x (-x) = ⊤ ∨ ∃ y : ℝ, x = ((y : ℝ) : EReal) ∧ |y| ≤ 255 * (2 : ℝ) ^ (120 : ℤ)

/-- A group has an infinite greatest magnitude, or is made of bounded reals. -/
theorem group_cases (f : Fin 128 → EReal) (h : ∀ k, Ok (f k)) :
    top128 f = ⊤ ∨ ∃ g : Fin 128 → ℝ, (∀ k, f k = ((g k : ℝ) : EReal)) ∧ ∀ k, |g k| ≤ 255 * (2 : ℝ) ^ (120 : ℤ) := by
  by_cases ht : ∃ k, max (f k) (-(f k)) = ⊤
  · obtain ⟨k, hk⟩ := ht
    refine Or.inl (top_le_iff.1 ?_)
    unfold top128
    rw [Finset.le_fold_max]
    exact Or.inr ⟨k, Finset.mem_univ _, hk.ge⟩
  · have h' : ∀ k, ∃ y : ℝ, f k = ((y : ℝ) : EReal) ∧ |y| ≤ 255 * (2 : ℝ) ^ (120 : ℤ) := fun k =>
      (h k).resolve_left fun e => ht ⟨k, e⟩
    choose g h1 h2 using h'
    exact Or.inr ⟨g, h1, h2⟩

theorem top_mul_c : (⊤ : EReal) * Ideal.ofBits .f32 991054117#32 = ⊤ := by
  rw [bits_c]
  exact EReal.top_mul_coe_of_pos (by positivity)

/-- The reference's exponent of an infinite group is infinite. -/
theorem refE_top : refE ⊤ = ⊤ := by
  have hl2 : 0 < Real.log 2 := Real.log_pos (by norm_num)
  unfold refE
  rw [if_neg EReal.top_ne_zero, top_mul_c, bits_two, Ideal.log_top, Ideal.log_coe, if_neg (by norm_num), Ideal.div_coe hl2.ne',
    EReal.top_mul_coe_of_pos (by positivity)]
  rfl

/-- Clamping keeps zero. -/
theorem clamp_zero : min (Ideal.ofBits .f32 1138753536#32) (max (Ideal.ofBits .f32 3286237184#32) 0) = 0 := by
  rw [bits_448, bits_m448, ← EReal.coe_zero, ← coe_max, ← coe_min]
  norm_num

/-- What the reference makes of an element of a group: zero if the group has an infinite one, else the element. -/
theorem ref_round (f : Fin 128 → EReal) (h : ∀ k, Ok (f k)) (l : Fin 128) :
    min (Ideal.ofBits .f32 1138753536#32) (max (Ideal.ofBits .f32 3286237184#32) (f l * Ideal.exp2 (0 - refE (top128 f)))) * Ideal.exp2 (refE (top128 f))
      = if top128 f = ⊤ then 0 else f l := by
  rcases group_cases f h with e | ⟨g, hg, hb⟩
  · rw [if_pos e, e, refE_top, show (0 : EReal) - ⊤ = ⊥ from rfl, Ideal.exp2_bot, mul_zero, clamp_zero, zero_mul]
  · obtain ⟨a, h0, hA, hle, -⟩ := fold_real g
    have e : top128 f = (a : EReal) := by
      rw [← hA]
      unfold top128
      simp only [hg]
    rw [if_neg (by rw [e]; exact EReal.coe_ne_top a), e, hg l]
    exact ref_id (g l) a h0 (hle l)

theorem cnt_256 : Finset.fold IntOp.addi (0#32) (fun _ : Fin 256 => 1#32) Finset.univ = 256#32 := by decide +kernel

/-- The kernel's exponent of an infinite group is one past the format's greatest. -/
theorem kerE_top : kerE ⊤ = 129#32 := by
  have hc : cnt ⊤ = 256#32 := by
    rw [← cnt_256]
    unfold cnt
    exact Finset.fold_congr fun k _ => if_neg not_top_lt
  unfold kerE
  rw [if_neg not_top_lt, hc]
  decide

theorem pw_neg : Ideal.ofBits .f32 (pw (IntOp.addi 127#32 129#32)) = 0 := by simp [pw, IntOp.shli, IntOp.addi, Ideal.ofBits, Ideal.ieee]

/-- What the kernel makes of an element of a group: the same. -/
theorem ker_round (f : Fin 128 → EReal) (h : ∀ k, Ok (f k)) (l : Fin 128) :
    min (Ideal.ofBits .f32 1138753536#32) (max (Ideal.ofBits .f32 3286237184#32)
        (f l * Ideal.ofBits .f32 (pw (IntOp.subi 127#32 (kerE (top128 f * Ideal.ofBits .f32 991054117#32))))))
      * Ideal.ofBits .f32 (pw (IntOp.addi 127#32 (kerE (top128 f * Ideal.ofBits .f32 991054117#32))))
      = if top128 f = ⊤ then 0 else f l := by
  rcases group_cases f h with e | ⟨g, hg, hb⟩
  · rw [if_pos e, e, top_mul_c, kerE_top, pw_neg, mul_zero]
  · obtain ⟨a, h0, hA, hle, y, hy⟩ := fold_real g
    have e : top128 f = (a : EReal) := by
      rw [← hA]
      unfold top128
      simp only [hg]
    rw [if_neg (by rw [e]; exact EReal.coe_ne_top a), e, hg l]
    exact ker_id (g l) a (hle l) (by rw [hy]; exact hb y)

/-- The group `b` of row `r`. -/
def groupOf (X : Cert.KernelIdeal.S64x1536.Idx → EReal) (r : Fin 64) (b : Fin 12) (k : Fin 128) : EReal :=
  X (ix2 r (⟨128 * b.1 + k.1, by omega⟩ : Fin 1536))

/-- A row's element, rounded. -/
def rounded (X : Cert.KernelIdeal.S64x1536.Idx → EReal) (r : Fin 64) (q : Fin 1536) : EReal :=
  if top128 (groupOf X r ⟨q.1 / 128, by omega⟩) = ⊤ then 0 else X (ix2 r q)

/-- All the rows, rounded: zero in a group with an infinite element, unchanged elsewhere. -/
def rows (X : Cert.KernelIdeal.S64x1536.Idx → EReal) (i : Cert.KernelIdeal.S64x1536.Idx) : EReal := rounded X (i 0) (i 1)

/-- An element is in its group. -/
theorem groupOf_at (X : Cert.KernelIdeal.S64x1536.Idx → EReal) (r : Fin 64) (q : Fin 1536) :
    groupOf X r ⟨q.1 / 128, by omega⟩ ⟨q.1 % 128, Nat.mod_lt _ (by omega)⟩ = X (ix2 r q) :=
  congrArg (fun j => X (ix2 r j)) (Fin.ext (Nat.div_add_mod q.1 128))

end Cert.Proof.Quant

end
-- ==== Proof.Val.QuantV.lean ====
module

public import proofs.«01_k».proof.Proof.KI.Body
public import proofs.«01_k».proof.Proof.Val.QuantMath
public import Idealize.ShloMosaic.Lib.WritesUnit

@[expose] public section

/-! The kernel's rounded rows, twelve stores of the same form. -/

noncomputable section

namespace Cert.Proof.KernelIdeal

open Cert.KernelIdeal Cert.KernelIdeal.Gen Cert.Proof.Quant
open Idealize.ShloMosaic Idealize.ShloMosaic.TcCoe

set_option maxRecDepth 65536
set_option maxHeartbeats 1000000

/-- One group of 128 columns, rounded. -/
def quantG {F : FTy → Type} [FloatOps F] (v : Vec F S64x128 .bf16) : FVec F S64x128 .bf16 := k0_pay252 (k0_pay249 v) (k0_pay250 v) (k0_pay251 v)

/-- The rounding of a group, at an element, by the magnitude of its row. -/
theorem quant_raw (x : Vec Ideal S64x128 .bf16) (r : Fin 64) (l : Fin 128) (A : EReal)
    (hA : Finset.fold max (Ideal.ofBits .f32 4286578688#32) (fun k => FloatOps.absf (F := Ideal) (φ := .f32) (x (ix2 r k))) Finset.univ = A) :
    quantG x (ix2 r l) = min (Ideal.ofBits .f32 1138753536#32) (max (Ideal.ofBits .f32 3286237184#32)
        (x (ix2 r l) * Ideal.ofBits .f32 (pw (IntOp.subi 127#32 (kerE (A * Ideal.ofBits .f32 991054117#32))))))
      * Ideal.ofBits .f32 (pw (IntOp.addi 127#32 (kerE (A * Ideal.ofBits .f32 991054117#32)))) := by
  subst hA
  pointwise [quantG, k0_pay252, k0_pay249, k0_pay250, k0_pay251]
  rfl

/-- A group, rounded: zero if it has an infinite element, else itself. -/
theorem quant_at (x : Vec Ideal S64x128 .bf16) (r : Fin 64) (f : Fin 128 → EReal) (hf : ∀ k, x (ix2 r k) = f k) (h : ∀ k, Ok (f k)) (l : Fin 128) :
    quantG x (ix2 r l) = if top128 f = ⊤ then 0 else f l := by
  rw [quant_raw x r l (top128 f) (by unfold top128; simp only [hf]), hf l]
  exact ker_round f h l

variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (c : Dev nD)
    (f1 : Buf (Elt Ideal) (arg1.view.loc (c : Thread nD τ))) (X : S64x1536.Idx → EReal)

/-- The stores so far hold the first `k` groups of `X`. -/
def Held (k : ℕ) (L : List (View.Piece (Elt Ideal) S64x1536 .bf16)) : Prop :=
  ∀ (r : Fin 64) (n : Fin 1536), n.1 < 128 * k → B5.view.read (Elt Ideal) (B5.view.writes (Elt Ideal) B5.view.junk L) (ix2 r n) = X (ix2 r n)

/-- The group `b` of the rows, as the run reads it. -/
def xg (b : Fin 12) : Vec Ideal S64x128 .bf16 :=
  View.readAt (Elt Ideal) arg1.view (Rect.unit (s := S64x1536) ![0, 128 * b.1] S64x128.size (by intro a; fin_cases a; · show 0 + 64 ≤ 64; omega
                                                                                                · show 128 * b.1 + 128 ≤ 1536; omega)).toLoadRect f1

/-- The group `b` of the rows, at an element. -/
theorem xg_at (hX : ∀ i, arg1.view.read (Elt Ideal) f1 i = X i) (b : Fin 12) (r : Fin 64) (l : Fin 128) :
    xg arg1 c f1 b (ix2 r l) = X (ix2 r (⟨128 * b.1 + l.1, by omega⟩ : Fin 1536)) := by
  rw [← hX]
  show arg1.view.read (Elt Ideal) f1 _ = _
  refine congrArg (arg1.view.read (Elt Ideal) f1) ?_
  funext a
  refine Fin.ext ?_
  fin_cases a
  · show 0 + 1 * r.1 = r.1
    omega
  · show 128 * b.1 + 1 * l.1 = 128 * b.1 + l.1
    omega

/-- One more store holds one more group. -/
theorem held_put (hX : ∀ i, arg1.view.read (Elt Ideal) f1 i = X i) (hr : ∀ i, Ok (X i)) (b : Fin 12) {off : Fin 2 → ℕ} (inb : ∀ a, off a + S64x128.size a ≤ S64x1536.size a)
    (h0 : off 0 = 0) (h1 : off 1 = 128 * b.1) (L : List (View.Piece (Elt Ideal) S64x1536 .bf16)) (h : Held (rows X) b.1 L) :
    Held (rows X) (b.1 + 1) (⟨Rect.unit (s := S64x1536) off S64x128.size inb, quantG (xg arg1 c f1 b)⟩ :: L) := by
  intro r N hN
  by_cases hm : 128 * b.1 ≤ N.1
  · have hl : N.1 - 128 * b.1 < 128 := by omega
    have hx : ∀ i, ((ix2 r N : S64x1536.Idx) i : ℕ) = off i + (ix2 r (⟨N.1 - 128 * b.1, hl⟩ : Fin 128) : S64x128.Idx) i := by
      intro i
      fin_cases i
      · show r.1 = off 0 + r.1
        omega
      · show N.1 = off 1 + (N.1 - 128 * b.1)
        omega
    rw [View.read_writes_cons_unit_of_mem B5.view B5.view.junk inb _ L (ix2 r N) (ix2 r (⟨N.1 - 128 * b.1, hl⟩ : Fin 128)) rfl hx]
    have hg := xg_at arg1 c f1 X hX b r
    rw [quant_at (xg arg1 c f1 b) r (groupOf X r b) hg (fun k => hr _)]
    show _ = rounded X r N
    unfold rounded
    have eb : (⟨N.1 / 128, by omega⟩ : Fin 12) = b := Fin.ext (by show N.1 / 128 = b.1; omega)
    rw [eb]
    refine congrArg (fun y : EReal => if top128 (groupOf X r b) = ⊤ then 0 else y) ?_
    refine congrArg (fun j => X (ix2 r j)) (Fin.ext ?_)
    show 128 * b.1 + (N.1 - 128 * b.1) = N.1
    omega
  · rw [View.read_writes_cons_unit_of_not_mem B5.view B5.view.junk inb _ L (ix2 r N) rfl 1 (Or.inl (by show N.1 < off 1; omega))]
    exact h r N (by omega)

/-- What the kernel keeps of the rows, element by element. -/
theorem xsV_at (hX : ∀ i, arg1.view.read (Elt Ideal) f1 i = X i) (hr : ∀ i, Ok (X i)) (r : Fin 64) (q : Fin 1536) :
    xsV arg0 harg0 arg1 harg1 arg4 harg4 c f1 (ix2 r q) = rounded X r q := by
  have H : Held (rows X) 12 (quant_run arg0 harg0 arg1 harg1 arg4 harg4 c f1 (k0_pay249 (xld arg1 c f1)) (k0_pay250 (xld arg1 c f1)) (k0_pay251 (xld arg1 c f1))).1 := by
    refine held_put arg1 c f1 X hX hr 11 (off := ![0, 1408]) inb_S64x1536_S64x128_0_1408 rfl rfl (quant_run.sl.H5_11 arg1 c f1 _ _ _) ?_
    refine held_put arg1 c f1 X hX hr 10 (off := ![0, 1280]) inb_S64x1536_S64x128_0_1280 rfl rfl (quant_run.sl.H5_10 arg1 c f1 _ _ _) ?_
    refine held_put arg1 c f1 X hX hr 9 (off := ![0, 1152]) inb_S64x1536_S64x128_0_1152 rfl rfl (quant_run.sl.H5_9 arg1 c f1 _ _ _) ?_
    refine held_put arg1 c f1 X hX hr 8 (off := ![0, 1024]) inb_S64x1536_S64x128_0_1024 rfl rfl (quant_run.sl.H5_8 arg1 c f1 _ _ _) ?_
    refine held_put arg1 c f1 X hX hr 7 (off := ![0, 896]) inb_S64x1536_S64x128_0_896 rfl rfl (quant_run.sl.H5_7 arg1 c f1 _ _ _) ?_
    refine held_put arg1 c f1 X hX hr 6 (off := ![0, 768]) inb_S64x1536_S64x128_0_768 rfl rfl (quant_run.sl.H5_6 arg1 c f1 _ _ _) ?_
    refine held_put arg1 c f1 X hX hr 5 (off := ![0, 640]) inb_S64x1536_S64x128_0_640 rfl rfl (quant_run.sl.H5_5 arg1 c f1 _ _ _) ?_
    refine held_put arg1 c f1 X hX hr 4 (off := ![0, 512]) inb_S64x1536_S64x128_0_512 rfl rfl (quant_run.sl.H5_4 arg1 c f1 _ _ _) ?_
    refine held_put arg1 c f1 X hX hr 3 (off := ![0, 384]) inb_S64x1536_S64x128_0_384 rfl rfl (quant_run.sl.H5_3 arg1 c f1 _ _ _) ?_
    refine held_put arg1 c f1 X hX hr 2 (off := ![0, 256]) inb_S64x1536_S64x128_0_256 rfl rfl (quant_run.sl.H5_2 arg1 c f1 _ _ _) ?_
    refine held_put arg1 c f1 X hX hr 1 (off := ![0, 128]) inb_S64x1536_S64x128_0_128 rfl rfl (quant_run.sl.H5_1 _ _ _) ?_
    refine held_put arg1 c f1 X hX hr 0 (off := ![0, 0]) inb_S64x1536_S64x128_0_0 rfl rfl [] ?_
    intro r n hn
    exact absurd hn (by show ¬ n.1 < 128 * 0; omega)
  exact H r q (by omega)

end Cert.Proof.KernelIdeal

end
-- ==== Proof.Val.Routing.lean ====
module

public import proofs.«01_k».proof.Proof.Val.TripV
public import proofs.«01_k».proof.Proof.KI.Model

@[expose] public section

/-! The list of the experts with rows, against the running sum over all sixteen: a row belongs to one expert at most, so storing
its product over what was there and adding it to a zero agree. -/

noncomputable section

namespace Cert.Proof.KernelIdeal

open Cert.KernelIdeal Cert.KernelIdeal.Gen
open Idealize.ShloMosaic Idealize.ShloMosaic.TcCoe

set_option maxRecDepth 65536
set_option maxHeartbeats 1000000

/-- The mask holds at a row exactly when the row lies between the two words. -/
theorem msk_iff (st en : BitVec 32) (r : Fin 64) (hs : st.toNat < 2 ^ 31) (he : en.toNat < 2 ^ 31) :
    msk st en r = if st.toNat ≤ r.1 ∧ r.1 < en.toNat then 1#1 else 0#1 := by
  have hr : (BitVec.ofNat 32 r.1).toNat = r.1 := by rw [BitVec.toNat_ofNat]; omega
  have h1 : (BitVec.ofNat 32 r.1).toInt = (r.1 : ℤ) := by rw [BitVec.toInt_eq_toNat_of_lt (by omega), hr]
  have h2 : st.toInt = (st.toNat : ℤ) := BitVec.toInt_eq_toNat_of_lt (by omega)
  have h3 : en.toInt = (en.toNat : ℤ) := BitVec.toInt_eq_toNat_of_lt (by omega)
  have a : IntOp.cmpi .sge (BitVec.ofNat 32 r.1) st = BitVec.ofBool (decide (st.toNat ≤ r.1)) := by
    show BitVec.ofBool (st.sle (BitVec.ofNat 32 r.1)) = _
    unfold BitVec.sle
    rw [h1, h2]
    refine congrArg BitVec.ofBool (decide_eq_decide.mpr ?_)
    omega
  have b : IntOp.cmpi .slt (BitVec.ofNat 32 r.1) en = BitVec.ofBool (decide (r.1 < en.toNat)) := by
    show BitVec.ofBool ((BitVec.ofNat 32 r.1).slt en) = _
    unfold BitVec.slt
    rw [h1, h3]
    refine congrArg BitVec.ofBool (decide_eq_decide.mpr ?_)
    omega
  unfold msk
  rw [a, b]
  by_cases p : st.toNat ≤ r.1 <;> by_cases q : r.1 < en.toNat <;> simp [p, q, IntOp.andi]

variable (g : ℕ → BitVec 32)

/-- The count of non-empty groups only grows. -/
theorem cntG_mono (k d : ℕ) : cntG g k ≤ cntG g (k + d) := by
  induction d with
  | zero => exact le_rfl
  | succ d ih =>
    refine ih.trans ?_
    show cntG g (k + d) ≤ cntG g (k + d + 1)
    rw [cntG]
    split <;> omega

/-- An entry of the list of experts stays. -/
theorem ex_stable (j k d : ℕ) (h : j < cntG g k) : exG g (k + d) j = exG g k j := by
  induction d with
  | zero => rfl
  | succ d ih =>
    have := cntG_mono g k d
    rw [← ih]
    show exG g (k + d + 1) j = _
    rw [exG, Function.update_of_ne (by omega)]

/-- An entry of the list of first rows stays. -/
theorem st_stable (j k d : ℕ) (h : j < cntG g k) : stG g (k + d) j = stG g k j := by
  induction d with
  | zero => rfl
  | succ d ih =>
    have := cntG_mono g k d
    rw [← ih]
    show stG g (k + d + 1) j = _
    rw [stG, Function.update_of_ne (by omega)]

/-- A non-empty group is counted. -/
theorem cntG_pos (k : ℕ) (h : (0#32).slt (g k) = true) : cntG g (k + 1) = cntG g k + 1 := by rw [cntG, if_pos h]
/-- An empty group is not. -/
theorem cntG_neg (k : ℕ) (h : ¬ (0#32).slt (g k) = true) : cntG g (k + 1) = cntG g k := by rw [cntG, if_neg h]

/-- The list of experts, at the place of a non-empty group. -/
theorem exL_at (k : ℕ) (hk : k < 16) (h : (0#32).slt (g k) = true) : exL g (cntG g k) = BitVec.ofNat 32 k := by
  obtain ⟨d, hd⟩ : ∃ d, 16 = k + 1 + d := ⟨16 - (k + 1), by omega⟩
  unfold exL
  rw [hd, ex_stable g _ (k + 1) d (by rw [cntG_pos g k h]; omega), exG, Function.update_self]

/-- The list of first rows, at the place of a non-empty group. -/
theorem stL_at_pos (k : ℕ) (hk : k < 16) (h : (0#32).slt (g k) = true) : stL g (cntG g k) = rowG g k := by
  obtain ⟨d, hd⟩ : ∃ d, 16 = k + 1 + d := ⟨16 - (k + 1), by omega⟩
  have hc : cntG g k < cntG g 16 := by
    have := cntG_mono g (k + 1) d
    rw [cntG_pos g k h, ← hd] at this
    omega
  unfold stL
  rw [Function.update_of_ne (by omega), hd, st_stable g _ (k + 1) d (by rw [cntG_pos g k h]; omega), stG, Function.update_self]

variable (hg : ∀ k, (g k).toNat < 2 ^ 27)

include hg in
/-- A group that is not counted is empty. -/
theorem zero_of_not_pos (k : ℕ) (h : ¬ (0#32).slt (g k) = true) : g k = 0#32 := by
  have h1 := hg k
  have h2 : (g k).toInt = ((g k).toNat : ℤ) := BitVec.toInt_eq_toNat_of_lt (by omega)
  unfold BitVec.slt at h
  rw [h2] at h
  have h3 : ¬ ((0 : ℤ) < ((g k).toNat : ℤ)) := fun hh => h (by simpa using hh)
  exact BitVec.eq_of_toNat_eq (by show (g k).toNat = 0; omega)

include hg in
/-- The list of first rows, at the place the next non-empty group takes. -/
theorem stL_at (d : ℕ) : ∀ k, k + d = 16 → stL g (cntG g k) = rowG g k := by
  induction d with
  | zero =>
    intro k hk
    obtain rfl : k = 16 := hk
    unfold stL
    rw [Function.update_self]
  | succ d ih =>
    intro k hk
    by_cases h : (0#32).slt (g k) = true
    · exact stL_at_pos g k (by omega) h
    · have h1 := ih (k + 1) (by omega)
      rw [cntG_neg g k h, rowG, zero_of_not_pos g hg k h, BitVec.add_zero] at h1
      exact h1

include hg in
/-- The running sum stays a word. -/
theorem rowG_le (k : ℕ) (hk : k ≤ 16) : (rowG g k).toNat ≤ k * (2 ^ 27 - 1) := by
  induction k with
  | zero => exact le_rfl
  | succ k ih =>
    have h1 := ih (by omega)
    have h2 := hg k
    rw [rowG, BitVec.toNat_add]
    refine (Nat.mod_le _ _).trans ?_
    omega

include hg in
/-- The running sum, one group further, as a number. -/
theorem rowG_succ (k : ℕ) (hk : k < 16) : (rowG g (k + 1)).toNat = (rowG g k).toNat + (g k).toNat := by
  have h1 := rowG_le g hg k (by omega)
  have h2 := hg k
  rw [rowG, BitVec.toNat_add, Nat.mod_eq_of_lt (by omega)]

/-- The sum over the first `k` experts, each in its own rows. -/
def total (W : S16x768x6144.Idx → BitVec 8) (S : S16x12x6144.Idx → EReal) (X : S64x1536.Idx → EReal) (r : Fin 64) (N : Fin 6144) : ℕ → EReal
  | 0 => 0
  | k + 1 => total W S X r N k + Scalar.select (msk (rowG g k) (rowG g (k + 1)) r) (prod W S X ⟨k % 16, Nat.mod_lt _ (by omega)⟩ r N) 0

variable (W : S16x768x6144.Idx → BitVec 8) (S : S16x12x6144.Idx → EReal) (X : S64x1536.Idx → EReal) (r : Fin 64) (N : Fin 6144)

include hg in
/-- The mask of a group, by numbers. -/
theorem msk_g (k : ℕ) (hk : k < 16) : msk (rowG g k) (rowG g (k + 1)) r = if (rowG g k).toNat ≤ r.1 ∧ r.1 < (rowG g (k + 1)).toNat then 1#1 else 0#1 := by
  have h1 := rowG_le g hg k (by omega)
  have h2 := rowG_le g hg (k + 1) (by omega)
  exact msk_iff _ _ r (by omega) (by omega)

theorem select_one {α : Type} (a b : α) : Scalar.select (1#1) a b = a := rfl
theorem select_zero {α : Type} (a b : α) : Scalar.select (0#1) a b = b := rfl

include hg in
/-- A row at or past the running sum has got nothing yet. -/
theorem total_zero (k : ℕ) (hk : k ≤ 16) (h : (rowG g k).toNat ≤ r.1) : total g W S X r N k = 0 := by
  induction k with
  | zero => rfl
  | succ k ih =>
    have h1 := rowG_succ g hg k (by omega)
    rw [total, ih (by omega) (by omega), msk_g g hg r k (by omega), if_neg (by omega), select_zero, add_zero]

include hg in
/-- The accumulator after all the experts with rows is the sum over all the experts. -/
theorem acc_total (k : ℕ) (hk : k ≤ 16) : accE W S X (exL g) (stL g) 0 r N (cntG g k) = total g W S X r N k := by
  induction k with
  | zero => rfl
  | succ k ih =>
    have h1 := ih (by omega)
    have hs := rowG_succ g hg k (by omega)
    by_cases h : (0#32).slt (g k) = true
    · have e1 := stL_at g hg (16 - (k + 1)) (k + 1) (by omega)
      rw [cntG_pos g k h] at e1
      have e2 : exF (BitVec.ofNat 32 k) = ⟨k % 16, Nat.mod_lt _ (by omega)⟩ := by
        refine Fin.ext ?_
        show (BitVec.ofNat 32 k).toNat % 16 = k % 16
        rw [BitVec.toNat_ofNat]
        omega
      rw [cntG_pos g k h, accE, stL_at_pos g k (by omega) h, e1, exL_at g k (by omega) h, e2, total, h1, msk_g g hg r k (by omega)]
      by_cases hm : (rowG g k).toNat ≤ r.1 ∧ r.1 < (rowG g (k + 1)).toNat
      · rw [if_pos hm, select_one, select_one, total_zero g hg W S X r N k (by omega) hm.1, zero_add]
      · rw [if_neg hm, select_zero, select_zero, add_zero]
    · have hz := zero_of_not_pos g hg k h
      rw [hz] at hs
      have hs' : (rowG g (k + 1)).toNat = (rowG g k).toNat := hs
      rw [cntG_neg g k h, total, h1, msk_g g hg r k (by omega), if_neg (by omega), select_zero, add_zero]

end Cert.Proof.KernelIdeal

end
-- ==== Proof.Val.OutV.lean ====
module

public import proofs.«01_k».proof.Proof.Val.Routing
public import proofs.«01_k».proof.Proof.Val.QuantMath

@[expose] public section

/-! The result both programs leave, as a function of the four arguments. -/

noncomputable section

namespace Cert.Proof.KernelIdeal

open Cert.KernelIdeal Cert.KernelIdeal.Gen
open Idealize.ShloMosaic Idealize.ShloMosaic.TcCoe

/-- The group sizes as a sequence. -/
def gseq (gs : S16.Idx → BitVec 32) (k : ℕ) : BitVec 32 := if h : k < 16 then gs (ix1 (⟨k, h⟩ : Fin 16)) else 0#32

/-- Every element of the result: the sum over the experts, each in its own rows. -/
def outV (gs : S16.Idx → BitVec 32) (x : S64x1536.Idx → EReal) (w : S16x768x6144.Idx → BitVec 8) (s : S16x12x6144.Idx → EReal) (i : S64x6144.Idx) : EReal :=
  total (gseq gs) w s (Cert.Proof.Quant.rows x) (i 0) (i 1) 16

end Cert.Proof.KernelIdeal

end
-- ==== Proof.Val.FinalK.lean ====
module

public import proofs.«01_k».proof.Proof.KI.Frame
public import proofs.«01_k».proof.Proof.Val.TripV
public import proofs.«01_k».proof.Proof.Val.QuantV
public import proofs.«01_k».proof.Proof.Val.OutV
public import Idealize.ShloMosaic.Lib.Pipeline.Value
public import Idealize.ShloMosaic.Lib.Tactic
public import Idealize.ShloMosaic.Lib.Quiescent

@[expose] public section

/-! The kernel's result. -/

noncomputable section

namespace Cert.Proof.KernelIdeal

open Cert.KernelIdeal Cert.KernelIdeal.Gen Cert.Proof.Quant
open Idealize.ShloMosaic Idealize.ShloMosaic.TcCoe Idealize.SL.Sem
open Idealize.ShloMosaic.Pipeline (Dat)

set_option maxRecDepth 65536
set_option maxHeartbeats 1000000

section
variable (arg0 : Memref sig .tc .smem S16 .i32) (harg0 : arg0.IsWhole) (arg1 : Memref sig .tc .vmem S64x1536 .bf16) (harg1 : arg1.IsWhole)
    (arg4 : Memref sig .tc .vmem S64x6144 .bf16) (harg4 : arg4.IsWhole) (c : Dev nD)

/-- The words the kernel reads are the group sizes. -/
theorem gw_seq (g0 : Vec Ideal S16 .i32) : gw (F := Ideal) arg0 c (harg0.unread g0) = gseq g0 := by
  funext k
  unfold gw gseq
  by_cases h : k < 16
  · rw [dif_pos h, dif_pos h]
    show arg0.view.read (Elt Ideal) (harg0.unread g0) _ = _
    rw [harg0.read_unread]
    refine congrArg g0 ?_
    funext a
    refine Fin.ext ?_
    fin_cases a
    show k + 1 * 0 = k
    omega
  · rw [dif_neg h, dif_neg h]

/-- The last rounding is the identity. -/
theorem last_at (v : Vec Ideal S64x6144 .f32) (r : Fin 64) (N : Fin 6144) : k0_pay4 (F := Ideal) v (ix2 r N) = v (ix2 r N) := by
  pointwise [k0_pay4]

/-- The accumulator starts at zero. -/
theorem zero_at (i : S64x6144.Idx) : k0_pay1 (F := Ideal) (Scalar.ofBits .f32 0x00000000#32) i = (0 : EReal) := by
  have e : i = ix2 (i 0) (i 1) := by funext a; fin_cases a <;> rfl
  rw [e]
  pointwise [k0_pay1]

/-- The accumulator, at the end. -/
theorem accEnd_at (W2 : Cts Ideal B2 c) (W3 : Cts Ideal B3 c) (g0 : Vec Ideal S16 .i32) (x1 : Vec Ideal S64x1536 .bf16)
    (hg : ∀ k, (gseq g0 k).toNat < 2 ^ 27) (hr : ∀ i, Ok (x1 i)) (r : Fin 64) (N : Fin 6144) :
    B7.view.read (Elt Ideal) (accEnd arg0 harg0 arg1 harg1 arg4 harg4 c W2 W3 (harg0.unread g0) (harg1.unread x1)) (ix2 r N)
      = total (gseq g0) W2 W3 (rows x1) r N 16 := by
  unfold accEnd
  rw [acc_at arg0 harg0 arg1 harg1 arg4 harg4 _ _ W2 W3 _ _ _ (rows x1) ?_ _ r N _ le_rfl, gw_seq]
  · rw [(Memref.isWhole_whole cc0_scratch2).read_unread, zero_at]
    exact acc_total (gseq g0) hg W2 W3 (rows x1) r N 16 le_rfl
  · intro i
    rw [(Memref.isWhole_whole cc0_scratch0).read_unread]
    have e : i = ix2 (i 0) (i 1) := by funext a; fin_cases a <;> rfl
    rw [e]
    exact xsV_at arg0 harg0 arg1 harg1 arg4 harg4 c _ x1 (fun i => by rw [harg1.read_unread]) hr (i 0) (i 1)

/-- The last load reads the accumulator. -/
theorem last_read (f : Cts Ideal B7 c) (r : Fin 64) (N : Fin 6144) :
    k0_pay4 (F := Ideal) (View.readAt (Elt Ideal) B7.view (Rect.unit (s := S64x6144) ![0, 0] S64x6144.size inb_S64x6144_S64x6144_0_0).toLoadRect f) (ix2 r N)
      = B7.view.read (Elt Ideal) f (ix2 r N) := by
  rw [last_at]
  show B7.view.read (Elt Ideal) f _ = _
  refine congrArg (B7.view.read (Elt Ideal) f) ?_
  funext a
  refine Fin.ext ?_
  fin_cases a
  · show 0 + 1 * r.1 = r.1
    omega
  · show 0 + 1 * N.1 = N.1
    omega
end

variable (m : (ℓ : Loc nD τ sig) → Buf (Elt Ideal) ℓ) (ρ : Dev nD → PrngReg)

/-- The result, as contents of the result array. -/
def result (c : Dev nD) : Buf (Elt Ideal) ((c : Thread nD τ).loc main_v0) :=
  outV (m ((c : Thread nD τ).loc main_arg1)) (m ((c : Thread nD τ).loc main_arg0)) (m ((c : Thread nD τ).loc main_arg2)) (m ((c : Thread nD τ).loc main_arg3))

/-- The block of group sizes is the whole array. -/
theorem blk0 (c : Dev nD) (t : Fin cfg0.N) : blkV m c 0 t = m ((c : Thread nD τ).loc main_arg1) := by
  have hz' : (fun a => win0_0.index t a * main_arg1.ty.shape.size a) = fun _ => 0 := funext fun a => by
    obtain rfl : t = t0_0 := Fin.ext (by have := t.isLt; have h : cfg0.N = 1 := N_0; show t.1 = 0; omega)
    fin_cases a <;> decide
  exact Memref.read_access_unit_zero (Elt Ideal) main_arg1 hz' (fun a => by rw [congrFun hz' a]; simp) _

/-- The block of rows is the whole array. -/
theorem blk1 (c : Dev nD) (t : Fin cfg0.N) : blkV m c 1 t = m ((c : Thread nD τ).loc main_arg0) := by
  have hz' : (fun a => win0_1.index t a * main_arg0.ty.shape.size a) = fun _ => 0 := funext fun a => by
    obtain rfl : t = t0_0 := Fin.ext (by have := t.isLt; have h : cfg0.N = 1 := N_0; show t.1 = 0; omega)
    fin_cases a <;> decide
  exact Memref.read_access_unit_zero (Elt Ideal) main_arg0 hz' (fun a => by rw [congrFun hz' a]; simp) _

/-- What the result needs of the arguments: group sizes whose running sum stays a word, and rows of the format's values. -/
def Sane : Prop := ∀ c : Dev nD, (∀ k, (gseq (m ((c : Thread nD τ).loc main_arg1)) k).toNat < 2 ^ 27)
  ∧ ∀ i : S64x1536.Idx, Ok ((m ((c : Thread nD τ).loc main_arg0) : S64x1536.Idx → EReal) i)

variable (hx : Sane m)

include hx in
/-- The body leaves the result in its staging buffer. -/
theorem outs_eq (c : Dev nD) (t : Fin cfg0.N) : outsAt0 m c t = result m c := by
  obtain ⟨hg, hr⟩ := hx c
  funext i
  have e : i = ix2 (i 0) (i 1) := by funext a; fin_cases a <;> rfl
  rw [e]
  unfold outsAt0 gs0 x0
  rw [blk0, blk1]
  refine (last_read c _ (i 0) (i 1)).trans ?_
  exact accEnd_at _ _ _ _ _ _ c _ _ _ _ hg hr (i 0) (i 1)

include hx in
/-- What is written back is the result. -/
theorem flushed_eq (c : Dev nD) (t : Fin cfg0.N) (hf : (cfg0.win 2).flush t = true) :
    (dats m 0 c).flushed 2 t = ((cfg0.win 2).blk t).view.read (Elt Ideal) (result m c) := by
  obtain rfl : t = t0_0 := Fin.ext (by have := t.isLt; have h : cfg0.N = 1 := N_0; show t.1 = 0; omega)
  show (cfg0.win 2).cut (grid0.coords t0_0) ((dats m 0 c).after 2 t0_0) = _
  rw [after0_2, outs_eq m hx]
  have hz' : (fun a => win0_2.index t0_0 a * main_v0.ty.shape.size a) = fun _ => 0 := funext fun a => by fin_cases a <;> decide
  exact (Memref.read_access_unit_zero (Elt Ideal) main_v0 hz' (fun a => by rw [congrFun hz' a]; simp) (result m c)).symm

include hx in
/-- The result array ends holding the result. -/
theorem final_o (c : Dev nD) : (dats m 0 c).arrAt 2 cfg0.N = result m c :=
  (dats m 0 c).arrAt_eq_of_cover 2 (result m c) (flushed_eq m hx c) fun i =>
    ⟨t0_0, flush0_2 t0_0, by
      show i ∈ ((View.whole main_v0).slice (win0_2.rect t0_0)).set
      rw [View.set_slice_whole, Rect.mem_set_unit]
      intro a
      have h0 : (i 0 : Nat) < 64 := (i 0).isLt
      have h1 : (i 1 : Nat) < 6144 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 64 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 6144 from by decide +kernel]; omega⟩

include hx in
/-- The kernel ends with its result array at the sum over the experts. -/
theorem run_v0 : θ_run defs (onTc (τ := τ) (main (F := Ideal))) ⟨m, fun _ => 0, ρ⟩ fun r => ∀ c : Dev nD,
      r.2.mem ((c : Thread nD τ).loc main_v0) = result m c :=
  (θ_run defs _ _).mono (fun _ h c => ((h.1 c).1 2).trans (final_o m hx c)) (run_main m ρ)

end Cert.Proof.KernelIdeal

end
-- ==== Proof.Val.RefChain.lean ====
module

public import proofs.«01_k».proof.Proof.Gen.ReferenceIdeal.Frame
public import proofs.«01_k».proof.Proof.Val.Prod

@[expose] public section

/-! The reference's run as a chain of sixteen experts, each adding its product in its own rows. -/

noncomputable section

namespace Cert.Proof.ReferenceIdeal

open Cert.ReferenceIdeal Cert.ReferenceIdeal.Gen
open Idealize.ShloMosaic Idealize.ShloMosaic.TcCoe

variable {F : FTy → Type} [FloatOps F]

set_option maxRecDepth 65536
set_option maxHeartbeats 1000000

/-- One expert's addition: its product in the rows from `lo` up to `hi`. -/
def expert (xs : FVec F S64x1536 .bf16) (rows : IVec S64x1 32) (lo : BitVec 32) (acc : FVec F S64x6144 .f32) (hi : BitVec 32)
    (w : Vec F S1x768x6144 .i8) (s : Vec F S1x12x6144 .f32) : FVec F S64x6144 .f32 :=
  k0_pay8 xs rows lo acc hi (k0_pay6 w) (k0_pay7 w) s

variable (c : Dev nD) (arg0 : Memref sig .tc .smem S16 .i32) (harg0 : arg0.IsWhole) (arg1 : Memref sig .tc .vmem S64x1536 .bf16) (harg1 : arg1.IsWhole)
    (arg2 : Memref sig .tc .vmem S16x768x6144 .i8) (harg2 : arg2.IsWhole) (arg3 : Memref sig .tc .vmem S16x12x6144 .f32) (harg3 : arg3.IsWhole)
    (arg4 : Memref sig .tc .vmem S64x6144 .bf16) (harg4 : arg4.IsWhole)
    (x0 : Vec F S16 .i32) (x1 : Vec F S64x1536 .bf16) (x2 : Vec F S16x768x6144 .i8) (x3 : Vec F S16x12x6144 .f32)

/-- The reads of the sizes, weights and scales of expert `e` stay inside the arrays. -/
theorem gInb (e : Fin 16) : ∀ a, (![e.1] : Fin 1 → ℕ) a + S1.size a ≤ S16.size a := by
  intro a; fin_cases a; show e.1 + 1 ≤ 16; omega
theorem wInb (e : Fin 16) : ∀ a, (![e.1, 0, 0] : Fin 3 → ℕ) a + S1x768x6144.size a ≤ S16x768x6144.size a := by
  intro a; fin_cases a
  · show e.1 + 1 ≤ 16; omega
  · show 0 + 768 ≤ 768; omega
  · show 0 + 6144 ≤ 6144; omega
theorem sInb (e : Fin 16) : ∀ a, (![e.1, 0, 0] : Fin 3 → ℕ) a + S1x12x6144.size a ≤ S16x12x6144.size a := by
  intro a; fin_cases a
  · show e.1 + 1 ≤ 16; omega
  · show 0 + 12 ≤ 12; omega
  · show 0 + 6144 ≤ 6144; omega

/-- The size of expert `e`'s group, as the run reads it. -/
def gv (e : Fin 16) : BitVec 32 :=
  View.readAt (Elt F) arg0.view (Rect.unit (s := S16) ![e.1] S1.size (gInb e)).toLoadRect (harg0.unread x0) (Shape.Idx.first (by show 0 < S1.numel; decide))
/-- Expert `e`'s weights, as the run reads them. -/
def wv (e : Fin 16) : Vec F S1x768x6144 .i8 :=
  View.readAt (Elt F) arg2.view (Rect.unit (s := S16x768x6144) ![e.1, 0, 0] S1x768x6144.size (wInb e)).toLoadRect (harg2.unread x2)
/-- Expert `e`'s scales, as the run reads them. -/
def sv (e : Fin 16) : Vec F S1x12x6144 .f32 :=
  View.readAt (Elt F) arg3.view (Rect.unit (s := S16x12x6144) ![e.1, 0, 0] S1x12x6144.size (sInb e)).toLoadRect (harg3.unread x3)

/-- The running sum of the first `k` group sizes. -/
def pre : ℕ → BitVec 32
  | 0 => 0#32
  | k + 1 => Scalar.addi (pre k) (if h : k < 16 then gv arg0 harg0 x0 ⟨k, h⟩ else 0)

/-- The sum after the first `k` experts. -/
def chain : ℕ → FVec F S64x6144 .f32
  | 0 => k0_pay3
  | k + 1 => if h : k < 16 then
      expert (kernelRun0_A.sl.r_1 c arg1 harg1 x1) kernelRun0_A.sl.v35 (pre arg0 harg0 x0 k) (chain k) (pre arg0 harg0 x0 (k + 1))
        (wv arg2 harg2 x2 ⟨k, h⟩) (sv arg3 harg3 x3 ⟨k, h⟩)
    else chain k

/-- The reference's running sum of group sizes after one group; the next fourteen likewise. -/
theorem pre1 : kernelRun0_A.sl.v38 c arg0 harg0 x0 = pre arg0 harg0 x0 1 := by
  delta kernelRun0_A.sl.v38 kernelRun0_A.sl.r
  rfl
theorem pre2 : kernelRun0_A.sl.v80 c arg0 harg0 x0 = pre arg0 harg0 x0 2 := by
  delta kernelRun0_A.sl.v80 kernelRun0_A.sl.r_3
  rw [pre1 c arg0 harg0]
  rfl
theorem pre3 : kernelRun0_A.sl.v122 c arg0 harg0 x0 = pre arg0 harg0 x0 3 := by
  delta kernelRun0_A.sl.v122 kernelRun0_A.sl.r_7
  rw [pre2 c arg0 harg0]
  rfl
theorem pre4 : kernelRun0_A.sl.v164 c arg0 harg0 x0 = pre arg0 harg0 x0 4 := by
  delta kernelRun0_A.sl.v164 kernelRun0_A.sl.r_11
  rw [pre3 c arg0 harg0]
  rfl
theorem pre5 : kernelRun0_A.sl.v206 c arg0 harg0 x0 = pre arg0 harg0 x0 5 := by
  delta kernelRun0_A.sl.v206 kernelRun0_A.sl.r_16
  rw [pre4 c arg0 harg0]
  rfl
theorem pre6 : kernelRun0_A.sl.v248 c arg0 harg0 x0 = pre arg0 harg0 x0 6 := by
  delta kernelRun0_A.sl.v248 kernelRun0_A.sl.r_22
  rw [pre5 c arg0 harg0]
  rfl
theorem pre7 : kernelRun0_A.sl.v290 c arg0 harg0 x0 = pre arg0 harg0 x0 7 := by
  delta kernelRun0_A.sl.v290 kernelRun0_A.sl.r_26
  rw [pre6 c arg0 harg0]
  rfl
theorem pre8 : kernelRun0_A.sl.v332 c arg0 harg0 x0 = pre arg0 harg0 x0 8 := by
  delta kernelRun0_A.sl.v332 kernelRun0_A.sl.r_31
  rw [pre7 c arg0 harg0]
  rfl
theorem pre9 : kernelRun0_A.sl.v374 c arg0 harg0 x0 = pre arg0 harg0 x0 9 := by
  delta kernelRun0_A.sl.v374 kernelRun0_A.sl.r_35
  rw [pre8 c arg0 harg0]
  rfl
theorem pre10 : kernelRun0_A.sl.v416 c arg0 harg0 x0 = pre arg0 harg0 x0 10 := by
  delta kernelRun0_A.sl.v416 kernelRun0_A.sl.r_38
  rw [pre9 c arg0 harg0]
  rfl
theorem pre11 : kernelRun0_A.sl.v458 c arg0 harg0 x0 = pre arg0 harg0 x0 11 := by
  delta kernelRun0_A.sl.v458 kernelRun0_A.sl.r_41
  rw [pre10 c arg0 harg0]
  rfl
theorem pre12 : kernelRun0_A.sl.v500 c arg0 harg0 x0 = pre arg0 harg0 x0 12 := by
  delta kernelRun0_A.sl.v500 kernelRun0_A.sl.r_45
  rw [pre11 c arg0 harg0]
  rfl
theorem pre13 : kernelRun0_A.sl.v542 c arg0 harg0 x0 = pre arg0 harg0 x0 13 := by
  delta kernelRun0_A.sl.v542 kernelRun0_A.sl.r_49
  rw [pre12 c arg0 harg0]
  rfl
theorem pre14 : kernelRun0_A.sl.v584 c arg0 harg0 x0 = pre arg0 harg0 x0 14 := by
  delta kernelRun0_A.sl.v584 kernelRun0_A.sl.r_52
  rw [pre13 c arg0 harg0]
  rfl
theorem pre15 : kernelRun0_A.sl.v626 c arg0 harg0 x0 = pre arg0 harg0 x0 15 := by
  delta kernelRun0_A.sl.v626 kernelRun0_A.sl.r_56
  rw [pre14 c arg0 harg0]
  rfl

/-- The reference's result after one expert; the next fourteen likewise. -/
theorem chain1 : kernelRun0_A.sl.r_4 c arg0 harg0 arg1 harg1 arg2 harg2 arg3 harg3 x0 x1 x2 x3 = chain c arg0 harg0 arg1 harg1 arg2 harg2 arg3 harg3 x0 x1 x2 x3 1 := by
  delta kernelRun0_A.sl.r_4 kernelRun0_A.sl.r_2
  simp only [pre1]
  rfl

theorem chain2 : kernelRun0_A.sl.r_8 c arg0 harg0 arg1 harg1 arg2 harg2 arg3 harg3 x0 x1 x2 x3 = chain c arg0 harg0 arg1 harg1 arg2 harg2 arg3 harg3 x0 x1 x2 x3 2 := by
  delta kernelRun0_A.sl.r_8 kernelRun0_A.sl.r_5 kernelRun0_A.sl.r_6
  rw [chain1]
  simp only [pre2, pre1]
  rfl

theorem chain3 : kernelRun0_A.sl.r_12 c arg0 harg0 arg1 harg1 arg2 harg2 arg3 harg3 x0 x1 x2 x3 = chain c arg0 harg0 arg1 harg1 arg2 harg2 arg3 harg3 x0 x1 x2 x3 3 := by
  delta kernelRun0_A.sl.r_12 kernelRun0_A.sl.r_9 kernelRun0_A.sl.r_10
  rw [chain2]
  simp only [pre3, pre2]
  rfl

theorem chain4 : kernelRun0_A.sl.r_17 c arg0 harg0 arg1 harg1 arg2 harg2 arg3 harg3 x0 x1 x2 x3 = chain c arg0 harg0 arg1 harg1 arg2 harg2 arg3 harg3 x0 x1 x2 x3 4 := by
  delta kernelRun0_A.sl.r_17 kernelRun0_A.sl.r_13 kernelRun0_A.sl.r_14 kernelRun0_A.sl.r_15
  rw [chain3]
  simp only [pre4, pre3]
  rfl

theorem chain5 : kernelRun0_A.sl.r_23 c arg0 harg0 arg1 harg1 arg2 harg2 arg3 harg3 x0 x1 x2 x3 = chain c arg0 harg0 arg1 harg1 arg2 harg2 arg3 harg3 x0 x1 x2 x3 5 := by
  delta kernelRun0_A.sl.r_23 kernelRun0_A.sl.r_18 kernelRun0_A.sl.r_19 kernelRun0_A.sl.r_20 kernelRun0_A.sl.r_21
  rw [chain4]
  simp only [pre5, pre4]
  rfl

theorem chain6 : kernelRun0_A.sl.r_27 c arg0 harg0 arg1 harg1 arg2 harg2 arg3 harg3 x0 x1 x2 x3 = chain c arg0 harg0 arg1 harg1 arg2 harg2 arg3 harg3 x0 x1 x2 x3 6 := by
  delta kernelRun0_A.sl.r_27 kernelRun0_A.sl.r_24 kernelRun0_A.sl.r_25
  rw [chain5]
  simp only [pre6, pre5]
  rfl

theorem chain7 : kernelRun0_A.sl.r_32 c arg0 harg0 arg1 harg1 arg2 harg2 arg3 harg3 x0 x1 x2 x3 = chain c arg0 harg0 arg1 harg1 arg2 harg2 arg3 harg3 x0 x1 x2 x3 7 := by
  delta kernelRun0_A.sl.r_32 kernelRun0_A.sl.r_28 kernelRun0_A.sl.r_29 kernelRun0_A.sl.r_30
  rw [chain6]
  simp only [pre7, pre6]
  rfl

theorem chain8 : kernelRun0_A.sl.r_36 c arg0 harg0 arg1 harg1 arg2 harg2 arg3 harg3 x0 x1 x2 x3 = chain c arg0 harg0 arg1 harg1 arg2 harg2 arg3 harg3 x0 x1 x2 x3 8 := by
  delta kernelRun0_A.sl.r_36 kernelRun0_A.sl.r_33 kernelRun0_A.sl.r_34
  rw [chain7]
  simp only [pre8, pre7]
  rfl

theorem chain9 : kernelRun0_A.sl.r_39 c arg0 harg0 arg1 harg1 arg2 harg2 arg3 harg3 x0 x1 x2 x3 = chain c arg0 harg0 arg1 harg1 arg2 harg2 arg3 harg3 x0 x1 x2 x3 9 := by
  delta kernelRun0_A.sl.r_39 kernelRun0_A.sl.r_37
  rw [chain8]
  simp only [pre9, pre8]
  rfl

theorem chain10 : kernelRun0_A.sl.r_42 c arg0 harg0 arg1 harg1 arg2 harg2 arg3 harg3 x0 x1 x2 x3 = chain c arg0 harg0 arg1 harg1 arg2 harg2 arg3 harg3 x0 x1 x2 x3 10 := by
  delta kernelRun0_A.sl.r_42 kernelRun0_A.sl.r_40
  rw [chain9]
  simp only [pre10, pre9]
  rfl

theorem chain11 : kernelRun0_A.sl.r_46 c arg0 harg0 arg1 harg1 arg2 harg2 arg3 harg3 x0 x1 x2 x3 = chain c arg0 harg0 arg1 harg1 arg2 harg2 arg3 harg3 x0 x1 x2 x3 11 := by
  delta kernelRun0_A.sl.r_46 kernelRun0_A.sl.r_43 kernelRun0_A.sl.r_44
  rw [chain10]
  simp only [pre11, pre10]
  rfl

theorem chain12 : kernelRun0_A.sl.r_50 c arg0 harg0 arg1 harg1 arg2 harg2 arg3 harg3 x0 x1 x2 x3 = chain c arg0 harg0 arg1 harg1 arg2 harg2 arg3 harg3 x0 x1 x2 x3 12 := by
  delta kernelRun0_A.sl.r_50 kernelRun0_A.sl.r_47 kernelRun0_A.sl.r_48
  rw [chain11]
  simp only [pre12, pre11]
  rfl

theorem chain13 : kernelRun0_A.sl.r_53 c arg0 harg0 arg1 harg1 arg2 harg2 arg3 harg3 x0 x1 x2 x3 = chain c arg0 harg0 arg1 harg1 arg2 harg2 arg3 harg3 x0 x1 x2 x3 13 := by
  delta kernelRun0_A.sl.r_53 kernelRun0_A.sl.r_51 kernelRun0_A.sl.cst_188
  rw [chain12]
  simp only [pre13, pre12]
  rfl

theorem chain14 : kernelRun0_A.sl.r_57 c arg0 harg0 arg1 harg1 arg2 harg2 arg3 harg3 x0 x1 x2 x3 = chain c arg0 harg0 arg1 harg1 arg2 harg2 arg3 harg3 x0 x1 x2 x3 14 := by
  delta kernelRun0_A.sl.r_57 kernelRun0_A.sl.r_54 kernelRun0_A.sl.r_55
  rw [chain13]
  simp only [pre14, pre13]
  rfl

theorem chain15 : kernelRun0_A.sl.r_61 c arg0 harg0 arg1 harg1 arg2 harg2 arg3 harg3 x0 x1 x2 x3 = chain c arg0 harg0 arg1 harg1 arg2 harg2 arg3 harg3 x0 x1 x2 x3 15 := by
  delta kernelRun0_A.sl.r_61 kernelRun0_A.sl.r_58 kernelRun0_A.sl.r_59 kernelRun0_A.sl.r_56
  rw [chain14]
  simp only [pre15, pre14]
  rfl

/-- The reference's one store: the result after sixteen experts, rounded. -/
theorem run_eq : (kernelRun0_A c arg0 harg0 arg1 harg1 arg2 harg2 arg3 harg3 arg4 harg4 x0 x1 x2 x3).1
    = [⟨Rect.unit (s := S64x6144) ![0, 0] S64x6144.size inb_S64x6144_S64x6144_0_0, truncf .bf16 (chain c arg0 harg0 arg1 harg1 arg2 harg2 arg3 harg3 x0 x1 x2 x3 16) bitsLt_bf16_f32⟩] := by
  rw [show (kernelRun0_A c arg0 harg0 arg1 harg1 arg2 harg2 arg3 harg3 arg4 harg4 x0 x1 x2 x3).1 = [⟨Rect.unit (s := S64x6144) ![0, 0] S64x6144.size inb_S64x6144_S64x6144_0_0, k0_pay1 (kernelRun0_A.sl.r_61 c arg0 harg0 arg1 harg1 arg2 harg2 arg3 harg3 x0 x1 x2 x3) (kernelRun0_A.sl.r_62 c arg1 harg1 arg2 harg2 arg3 harg3 x1 x2 x3) kernelRun0_A.sl.cst_231 (kernelRun0_A.sl.r_63 c arg0 harg0 x0)⟩] from rfl]
  delta kernelRun0_A.sl.r_62 kernelRun0_A.sl.cst_231 kernelRun0_A.sl.r_63 kernelRun0_A.sl.r_60
  rw [chain15]
  simp only [pre15]
  rfl

end Cert.Proof.ReferenceIdeal

end
-- ==== Proof.Val.RefAt.lean ====
module

public import proofs.«01_k».proof.Proof.Val.RefChain
public import proofs.«01_k».proof.Proof.Val.TripV
public import Idealize.ShloMosaic.Lib.Pointwise

@[expose] public section

/-! One expert of the reference, element by element over the extended reals. -/

noncomputable section

namespace Cert.Proof.ReferenceIdeal

open Cert.ReferenceIdeal Cert.ReferenceIdeal.Gen
open Idealize.ShloMosaic Idealize.ShloMosaic.TcCoe

set_option maxRecDepth 65536
set_option maxHeartbeats 1000000

/-- The reference's low half-byte is the kernel's. -/
theorem nib_lo : ∀ b : BitVec 8, Scalar.select (IntOp.cmpi CmpIPredicate.sge (IntOp.andi (BitVec.setWidth 32 b) 15#32) 8#32)
      (IntOp.subi (IntOp.andi (BitVec.setWidth 32 b) 15#32) 16#32) (IntOp.andi (BitVec.setWidth 32 b) 15#32)
    = IntOp.shrsi ArithUnit.vector (IntOp.shli ArithUnit.vector (BitVec.setWidth 32 b) 28#32) 28#32 := by decide +kernel

/-- The reference's high half-byte is the kernel's. -/
theorem nib_hi : ∀ b : BitVec 8, Scalar.select (IntOp.cmpi CmpIPredicate.sge (IntOp.shrsi ArithUnit.vector (BitVec.setWidth 32 b) 4#32) 8#32)
      (IntOp.subi (IntOp.shrsi ArithUnit.vector (BitVec.setWidth 32 b) 4#32) 16#32) (IntOp.shrsi ArithUnit.vector (BitVec.setWidth 32 b) 4#32)
    = IntOp.shrsi ArithUnit.vector (IntOp.shli ArithUnit.vector (BitVec.setWidth 32 b) 24#32) 28#32 := by decide +kernel

open Cert.Proof.KernelIdeal in
/-- One expert, at an element: the sum so far plus, in the rows the expert owns, the product. -/
theorem expert_raw (xs : FVec Ideal S64x1536 .bf16) (lo hi : BitVec 32) (acc : FVec Ideal S64x6144 .f32) (w : Vec Ideal S1x768x6144 .i8) (s : Vec Ideal S1x12x6144 .f32) (r : Fin 64) (n : Fin 6144) :
    expert xs kernelRun0_A.sl.v35 lo acc hi w s (ix2 r n) = acc (ix2 r n) + Scalar.select (msk lo hi r)
      (∑ x : Fin 1536, xs (ix2 r x) * (nib (w (ix3 (0 : Fin 1) (⟨x.1 / 2, by omega⟩ : Fin 768) n)) x.1 * s (ix3 (0 : Fin 1) (⟨x.1 / 128, by omega⟩ : Fin 12) n))) 0 := by
  pointwise [expert, k0_pay8, k0_pay6, k0_pay7, kernelRun0_A.sl.v35]
  refine congrArg (fun z : EReal => acc (ix2 r n) + Scalar.select (msk lo hi r) z 0) (Finset.sum_congr rfl fun x _ => ?_)
  refine congrArg (fun z : EReal => xs (ix2 r x) * (z * s (ix3 (0 : Fin 1) (⟨x.1 / 128, by omega⟩ : Fin 12) n))) ?_
  unfold nib
  refine congrArg (FloatOps.sitofp (F := Ideal) FTy.bf16) ?_
  by_cases h : x.1 % 2 < 1
  · rw [dif_pos h, if_pos h]; exact nib_lo _
  · rw [dif_neg h, if_neg h]; exact nib_hi _

/-- A sum of 1536 terms as twelve of 128. -/
theorem sum_groups (f : Fin 1536 → EReal) : ∑ x : Fin 1536, f x = ∑ g : Fin 12, ∑ x : Fin 128, f ⟨128 * g.1 + x.1, by omega⟩ := by
  have h := Equiv.sum_comp (finProdFinEquiv : Fin 12 × Fin 128 ≃ Fin (12 * 128)) (fun q => f (q : Fin 1536))
  rw [Fintype.sum_prod_type] at h
  refine h.symm.trans ?_
  refine Finset.sum_congr rfl fun g _ => Finset.sum_congr rfl fun x _ => congrArg f (Fin.ext ?_)
  show x.1 + 128 * g.1 = 128 * g.1 + x.1
  omega

open Cert.Proof.KernelIdeal in
/-- One expert of the reference at an element. -/
theorem expert_at (W : Cert.KernelIdeal.S16x768x6144.Idx → BitVec 8) (S : Cert.KernelIdeal.S16x12x6144.Idx → EReal) (e : Fin 16)
    (xs : FVec Ideal S64x1536 .bf16) (X : Cert.KernelIdeal.S64x1536.Idx → EReal) (lo hi : BitVec 32) (acc : FVec Ideal S64x6144 .f32) (w : Vec Ideal S1x768x6144 .i8) (s : Vec Ideal S1x12x6144 .f32) (r : Fin 64) (n : Fin 6144)
    (hx : ∀ q : Fin 1536, xs (ix2 r q) = X (ix2 r q))
    (hw : ∀ p : Fin 768, w (ix3 (0 : Fin 1) p n) = W (ix3 e p n)) (hs : ∀ g : Fin 12, s (ix3 (0 : Fin 1) g n) = S (ix3 e g n)) :
    expert xs kernelRun0_A.sl.v35 lo acc hi w s (ix2 r n) = acc (ix2 r n) + Scalar.select (msk lo hi r) (prod W S X e r n) 0 := by
  rw [expert_raw, sum_groups]
  refine congrArg (fun z : EReal => acc (ix2 r n) + Scalar.select (msk lo hi r) z 0) ?_
  unfold prod grp
  refine Finset.sum_congr rfl fun g _ => Finset.sum_congr rfl fun x _ => ?_
  have e1 : (⟨(128 * g.1 + x.1) / 128, by omega⟩ : Fin 12) = g := Fin.ext (by show (128 * g.1 + x.1) / 128 = g.1; omega)
  rw [hx, hw, ← hs]
  show _ * (_ * s (ix3 (0 : Fin 1) (⟨(128 * g.1 + x.1) / 128, _⟩ : Fin 12) n)) = _
  rw [e1]

end Cert.Proof.ReferenceIdeal

end
-- ==== Proof.Val.QuantR.lean ====
module

public import proofs.«01_k».proof.Proof.Gen.ReferenceIdeal.Frame
public import proofs.«01_k».proof.Proof.Val.QuantMath

@[expose] public section

/-! The reference's rounded rows. -/

noncomputable section

namespace Cert.Proof.ReferenceIdeal

open Cert.ReferenceIdeal Cert.ReferenceIdeal.Gen Cert.Proof.Quant
open Idealize.ShloMosaic Idealize.ShloMosaic.TcCoe

set_option maxRecDepth 65536
set_option maxHeartbeats 1000000

/-- The rounding of the rows, at an element, by the magnitude of its group. -/
theorem round_raw (x : Vec Ideal S64x1536 .bf16) (r : Fin 64) (q : Fin 1536) (A : EReal)
    (hA : Finset.fold max (Ideal.ofBits .f32 4286578688#32)
      (fun k : Fin 128 => FloatOps.absf (F := Ideal) (φ := .f32) (x (ix2 r (⟨q.1 / 128 * 128 + k.1, by omega⟩ : Fin 1536)))) Finset.univ = A) :
    k0_pay2 x (ix2 r q) = min (Ideal.ofBits .f32 1138753536#32) (max (Ideal.ofBits .f32 3286237184#32) (x (ix2 r q) * Ideal.exp2 (0 - refE A))) * Ideal.exp2 (refE A) := by
  subst hA
  pointwise [k0_pay2]
  rfl

/-- What the reference keeps of the rows, element by element. -/
theorem round_at (x : Vec Ideal S64x1536 .bf16) (h : ∀ i, Ok (x i)) (r : Fin 64) (q : Fin 1536) :
    k0_pay2 x (ix2 r q) = rounded x r q := by
  have e : ∀ k : Fin 128, (⟨q.1 / 128 * 128 + k.1, by omega⟩ : Fin 1536) = ⟨128 * (q.1 / 128) + k.1, by omega⟩ := fun k =>
    Fin.ext (by show q.1 / 128 * 128 + k.1 = 128 * (q.1 / 128) + k.1; omega)
  rw [round_raw x r q (top128 (groupOf x r ⟨q.1 / 128, by omega⟩)) (by unfold top128 groupOf; simp only [e]), ← groupOf_at x r q,
    ref_round (groupOf x r ⟨q.1 / 128, by omega⟩) (fun k => h _)]
  unfold rounded
  rw [groupOf_at x r q]

end Cert.Proof.ReferenceIdeal

end
-- ==== Proof.Val.FinalR.lean ====
module

public import proofs.«01_k».proof.Proof.Val.RefAt
public import proofs.«01_k».proof.Proof.Val.QuantR
public import proofs.«01_k».proof.Proof.Val.OutV
public import Idealize.ShloMosaic.Lib.Pipeline.Value
public import Idealize.ShloMosaic.Lib.Tactic
public import Idealize.ShloMosaic.Lib.Quiescent

@[expose] public section

/-! The reference's result. -/

noncomputable section

namespace Cert.Proof.ReferenceIdeal

open Cert.ReferenceIdeal Cert.ReferenceIdeal.Gen Cert.Proof.Quant
open Cert.Proof.KernelIdeal (gseq outV total rowG prod msk)
open Idealize.ShloMosaic Idealize.ShloMosaic.TcCoe Idealize.SL.Sem
open Idealize.ShloMosaic.Pipeline (Dat)

set_option maxRecDepth 65536
set_option maxHeartbeats 1000000

theorem hz : (![0, 0] : Fin 2 → Nat) = fun _ => 0 := funext fun a => by fin_cases a <;> rfl

section
variable (c : Dev nD) (arg0 : Memref sig .tc .smem S16 .i32) (harg0 : arg0.IsWhole) (arg1 : Memref sig .tc .vmem S64x1536 .bf16) (harg1 : arg1.IsWhole)
    (arg2 : Memref sig .tc .vmem S16x768x6144 .i8) (harg2 : arg2.IsWhole) (arg3 : Memref sig .tc .vmem S16x12x6144 .f32) (harg3 : arg3.IsWhole)
    (arg4 : Memref sig .tc .vmem S64x6144 .bf16) (harg4 : arg4.IsWhole)
    (x0 : Vec Ideal S16 .i32) (x1 : Vec Ideal S64x1536 .bf16) (x2 : Vec Ideal S16x768x6144 .i8) (x3 : Vec Ideal S16x12x6144 .f32)

/-- The size of group `e`. -/
theorem gv_at (e : Fin 16) : gv arg0 harg0 x0 e = x0 (ix1 e) := by
  unfold gv
  show arg0.view.read (Elt Ideal) (harg0.unread x0) _ = _
  rw [harg0.read_unread]
  refine congrArg x0 ?_
  funext a
  refine Fin.ext ?_
  fin_cases a
  show e.1 + 1 * 0 = e.1
  omega

/-- The weights of expert `e`. -/
theorem wv_at (e : Fin 16) (p : Fin 768) (n : Fin 6144) : wv arg2 harg2 x2 e (ix3 (0 : Fin 1) p n) = x2 (ix3 e p n) := by
  unfold wv
  show arg2.view.read (Elt Ideal) (harg2.unread x2) _ = _
  rw [harg2.read_unread]
  refine congrArg x2 ?_
  funext a
  refine Fin.ext ?_
  fin_cases a
  · show e.1 + 1 * 0 = e.1
    omega
  · show 0 + 1 * p.1 = p.1
    omega
  · show 0 + 1 * n.1 = n.1
    omega

/-- The scales of expert `e`. -/
theorem sv_at (e : Fin 16) (p : Fin 12) (n : Fin 6144) : sv arg3 harg3 x3 e (ix3 (0 : Fin 1) p n) = x3 (ix3 e p n) := by
  unfold sv
  show arg3.view.read (Elt Ideal) (harg3.unread x3) _ = _
  rw [harg3.read_unread]
  refine congrArg x3 ?_
  funext a
  refine Fin.ext ?_
  fin_cases a
  · show e.1 + 1 * 0 = e.1
    omega
  · show 0 + 1 * p.1 = p.1
    omega
  · show 0 + 1 * n.1 = n.1
    omega

/-- The reference's running sum is the sum of the sizes. -/
theorem pre_eq (k : ℕ) (hk : k ≤ 16) : pre arg0 harg0 x0 k = rowG (gseq x0) k := by
  induction k with
  | zero => rfl
  | succ k ih =>
    rw [pre, rowG, ih (by omega), dif_pos (show k < 16 by omega), gv_at, gseq, dif_pos (show k < 16 by omega)]
    rfl

/-- The reference's rounded rows. -/
theorem xs_at (hx : ∀ i, Ok (x1 i)) (r : Fin 64) (q : Fin 1536) :
    kernelRun0_A.sl.r_1 c arg1 harg1 x1 (ix2 r q) = rows x1 (ix2 r q) := by
  delta kernelRun0_A.sl.r_1
  rw [View.readAt_eq_ld, harg1.read_unread, View.ld_unit_zero (S := S64x1536) hz]
  exact round_at x1 hx r q

/-- The result after `k` experts is the sum over them. -/
theorem chain_at (hx : ∀ i, Ok (x1 i)) (r : Fin 64) (n : Fin 6144) (k : ℕ) (hk : k ≤ 16) :
    chain c arg0 harg0 arg1 harg1 arg2 harg2 arg3 harg3 x0 x1 x2 x3 k (ix2 r n) = total (gseq x0) x2 x3 (rows x1) r n k := by
  induction k with
  | zero =>
    rw [chain, total]
    pointwise [k0_pay3]
  | succ k ih =>
    have h : k < 16 := by omega
    rw [chain, dif_pos h]
    refine (expert_at x2 x3 ⟨k, h⟩ _ (rows x1) _ _ _ _ _ r n (xs_at c arg1 harg1 x1 hx r) (fun p => wv_at arg2 harg2 x2 _ p n) (fun p => sv_at arg3 harg3 x3 _ p n)).trans ?_
    rw [ih (by omega), total, pre_eq _ _ _ k (by omega), pre_eq _ _ _ (k + 1) hk]
    have e : (⟨k % 16, Nat.mod_lt _ (by omega)⟩ : Fin 16) = ⟨k, h⟩ := Fin.ext (Nat.mod_eq_of_lt h)
    rw [e]

/-- The body leaves the sum over all experts. -/
theorem out_at (hx : ∀ i, Ok (x1 i)) :
    out0_A_4 c arg0 harg0 arg1 harg1 arg2 harg2 arg3 harg3 arg4 harg4 x0 x1 x2 x3 = outV x0 x1 x2 x3 := by
  unfold out0_A_4
  rw [View.read_writes_eq_canon _ _ _ (cover0_A_4 c arg0 harg0 arg1 harg1 arg2 harg2 arg3 harg3 arg4 harg4 x0 x1 x2 x3), run_eq, View.canon_unit_zero hz]
  funext i
  have e : i = ix2 (i 0) (i 1) := by funext a; fin_cases a <;> rfl
  rw [e]
  exact chain_at c arg0 harg0 arg1 harg1 arg2 harg2 arg3 harg3 x0 x1 x2 x3 hx (i 0) (i 1) 16 le_rfl
end

variable (m : (ℓ : Loc nD τ sig) → Buf (Elt Ideal) ℓ) (ρ : Dev nD → PrngReg)

/-- The result, as contents of the result array. -/
def result (c : Dev nD) : Buf (Elt Ideal) ((c : Thread nD τ).loc main_v0) :=
  outV (m ((c : Thread nD τ).loc main_arg1)) (m ((c : Thread nD τ).loc main_arg0)) (m ((c : Thread nD τ).loc main_arg2)) (m ((c : Thread nD τ).loc main_arg3))

/-- Each block is the whole of its array. -/
theorem blk0 (c : Dev nD) (t : Fin cfg0.N) : iblk m c 0 t = m ((c : Thread nD τ).loc main_arg1) := by
  have hz' : (fun a => win0_0.index t a * main_arg1.ty.shape.size a) = fun _ => 0 := funext fun a => by
    obtain rfl : t = t0_0 := Fin.ext (by have := t.isLt; have h : cfg0.N = 1 := N_0; show t.1 = 0; omega)
    fin_cases a <;> decide
  exact Memref.read_access_unit_zero (Elt Ideal) main_arg1 hz' (fun a => by rw [congrFun hz' a]; simp) _

theorem blk1 (c : Dev nD) (t : Fin cfg0.N) : iblk m c 1 t = m ((c : Thread nD τ).loc main_arg0) := by
  have hz' : (fun a => win0_1.index t a * main_arg0.ty.shape.size a) = fun _ => 0 := funext fun a => by
    obtain rfl : t = t0_0 := Fin.ext (by have := t.isLt; have h : cfg0.N = 1 := N_0; show t.1 = 0; omega)
    fin_cases a <;> decide
  exact Memref.read_access_unit_zero (Elt Ideal) main_arg0 hz' (fun a => by rw [congrFun hz' a]; simp) _

theorem blk2 (c : Dev nD) (t : Fin cfg0.N) : iblk m c 2 t = m ((c : Thread nD τ).loc main_arg2) := by
  have hz' : (fun a => win0_2.index t a * main_arg2.ty.shape.size a) = fun _ => 0 := funext fun a => by
    obtain rfl : t = t0_0 := Fin.ext (by have := t.isLt; have h : cfg0.N = 1 := N_0; show t.1 = 0; omega)
    fin_cases a <;> decide
  exact Memref.read_access_unit_zero (Elt Ideal) main_arg2 hz' (fun a => by rw [congrFun hz' a]; simp) _

theorem blk3 (c : Dev nD) (t : Fin cfg0.N) : iblk m c 3 t = m ((c : Thread nD τ).loc main_arg3) := by
  have hz' : (fun a => win0_3.index t a * main_arg3.ty.shape.size a) = fun _ => 0 := funext fun a => by
    obtain rfl : t = t0_0 := Fin.ext (by have := t.isLt; have h : cfg0.N = 1 := N_0; show t.1 = 0; omega)
    fin_cases a <;> decide
  exact Memref.read_access_unit_zero (Elt Ideal) main_arg3 hz' (fun a => by rw [congrFun hz' a]; simp) _

variable (hx : ∀ (c : Dev nD) (i : S64x1536.Idx), Ok ((m ((c : Thread nD τ).loc main_arg0) : S64x1536.Idx → EReal) i))

include hx in
/-- The body leaves the result in its staging buffer. -/
theorem outs_eq (c : Dev nD) (t : Fin cfg0.N) : outsAt0 m c t = result m c := by
  unfold outsAt0
  rw [blk0, blk1, blk2, blk3]
  exact out_at c _ _ _ _ _ _ _ _ _ _ _ _ _ _ (hx c)

include hx in
/-- What is written back is the result. -/
theorem flushed_eq (c : Dev nD) (t : Fin cfg0.N) (hf : (cfg0.win 4).flush t = true) :
    (dats m 0 c).flushed 4 t = ((cfg0.win 4).blk t).view.read (Elt Ideal) (result m c) := by
  obtain rfl : t = t0_0 := Fin.ext (by have := t.isLt; have h : cfg0.N = 1 := N_0; show t.1 = 0; omega)
  show (cfg0.win 4).cut (grid0.coords t0_0) ((dats m 0 c).after 4 t0_0) = _
  rw [after0_4, outs_eq m hx]
  have hz' : (fun a => win0_4.index t0_0 a * main_v0.ty.shape.size a) = fun _ => 0 := funext fun a => by fin_cases a <;> decide
  exact (Memref.read_access_unit_zero (Elt Ideal) main_v0 hz' (fun a => by rw [congrFun hz' a]; simp) (result m c)).symm

include hx in
/-- The result array ends holding the result. -/
theorem final_o (c : Dev nD) : (dats m 0 c).arrAt 4 cfg0.N = result m c :=
  (dats m 0 c).arrAt_eq_of_cover 4 (result m c) (flushed_eq m hx c) fun i =>
    ⟨t0_0, flush0_4 t0_0, by
      show i ∈ ((View.whole main_v0).slice (win0_4.rect t0_0)).set
      rw [View.set_slice_whole, Rect.mem_set_unit]
      intro a
      have h0 : (i 0 : Nat) < 64 := (i 0).isLt
      have h1 : (i 1 : Nat) < 6144 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 64 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 6144 from by decide +kernel]; omega⟩

include hx in
/-- The reference ends with its result array at the sum over the experts. -/
theorem run_v0 : θ_run defs (onTc (τ := τ) (main (F := Ideal))) ⟨m, fun _ => 0, ρ⟩ fun r => ∀ c : Dev nD,
      r.2.mem ((c : Thread nD τ).loc main_v0) = result m c :=
  (θ_run defs _ _).mono (fun _ h c => ((h c).1 4).trans (final_o m hx c)) (run_main m ρ)

end Cert.Proof.ReferenceIdeal

end
-- ==== Proof.Val.Facts.lean ====
module

public import proofs.«01_k».proof.Defs
public import proofs.«01_k».proof.Proof.Val.QuantMath
public import proofs.«01_k».proof.Proof.Val.OutV

@[expose] public section

/-! The precondition, read: the activations are values of their format and the group sizes are counts. -/

noncomputable section

namespace Cert.Proof.Sane

open Idealize.ShloMosaic Idealize.ShloMosaic.TcCoe
open Cert.Proof.KernelIdeal (gseq)

/-- The side conditions of the precondition's own operations. -/
theorem facts : Cert.Pre_sane.Facts := ⟨by decide, by decide, by decide⟩

attribute [local instance] facts

/-- A bounded magnitude is a real one. -/
theorem abs_le (x : EReal) (h : max x (-x) ≤ ((255 * (2 : ℝ) ^ (120 : ℤ) : ℝ) : EReal)) :
    ∃ y : ℝ, x = ((y : ℝ) : EReal) ∧ |y| ≤ 255 * (2 : ℝ) ^ (120 : ℤ) := by
  have h1 := (max_le_iff.1 h).1
  have h2 := (max_le_iff.1 h).2
  induction x with
  | bot => exact absurd h2 (by rw [EReal.neg_bot]; exact not_le.2 (EReal.coe_lt_top _))
  | top => exact absurd h1 (not_le.2 (EReal.coe_lt_top _))
  | coe y =>
    refine ⟨y, rfl, ?_⟩
    rw [← EReal.coe_neg] at h2
    exact abs_le'.2 ⟨EReal.coe_le_coe_iff.1 h1, EReal.coe_le_coe_iff.1 h2⟩

variable (a0 : FVec Ideal Cert.Pre_sane.S64x1536 .bf16) (a1 : IVec Cert.Pre_sane.S16 32) (a2 : IVec Cert.Pre_sane.S16x768x6144 8)
    (a3 : FVec Ideal Cert.Pre_sane.S16x12x6144 .f32)

theorem fst_at (i : Cert.Pre_sane.S64x1536.Idx) :
    (Cert.Pre_sane.fn (F := Ideal) a0 a1 a2 a3).1 i
      = IntOp.ori (FloatOps.cmpf (F := Ideal) (φ := .f32) .ole (max (a0 i) (-(a0 i))) (Ideal.ofBits .f32 2139029504#32))
        (FloatOps.cmpf (F := Ideal) (φ := .f32) .oeq (max (a0 i) (-(a0 i))) (Ideal.ofBits .f32 2139095040#32)) := rfl

theorem snd_at (i : Cert.Pre_sane.S16.Idx) :
    (Cert.Pre_sane.fn (F := Ideal) a0 a1 a2 a3).2 i = IntOp.andi (IntOp.cmpi .sge (a1 i) 0#32) (IntOp.cmpi .slt (a1 i) 134217728#32) := rfl

/-- A word that is at least zero and below `2 ^ 27` as a signed number is below it as a count. -/
theorem word (g : BitVec 32) (h : IntOp.andi (IntOp.cmpi .sge g 0#32) (IntOp.cmpi .slt g 134217728#32) = 1#1) : g.toNat < 2 ^ 27 := by
  have h1 : (0#32).sle g = true ∧ g.slt 134217728#32 = true := by
    have e : IntOp.andi (IntOp.cmpi .sge g 0#32) (IntOp.cmpi .slt g 134217728#32) = BitVec.ofBool ((0#32).sle g) &&& BitVec.ofBool (g.slt 134217728#32) := rfl
    rw [e] at h
    generalize (0#32).sle g = p at *
    generalize g.slt 134217728#32 = q at *
    revert h
    cases p <;> cases q <;> decide
  obtain ⟨h1, h2⟩ := h1
  rw [BitVec.sle_iff_toInt_le] at h1
  rw [BitVec.slt_iff_toInt_lt] at h2
  have e0 : (0#32).toInt = 0 := by decide
  have e1 : (134217728#32).toInt = 134217728 := by decide
  rw [e0] at h1
  rw [e1] at h2
  rw [BitVec.toInt_eq_toNat_cond] at h1 h2
  have := g.isLt
  split at h1 <;> omega

theorem bits_inf : Ideal.ofBits .f32 2139095040#32 = ⊤ := by simp [Ideal.ofBits, Ideal.ieee]

theorem or_one (p q : Bool) (h : IntOp.ori (BitVec.ofBool p) (BitVec.ofBool q) = 1#1) : p = true ∨ q = true := by
  revert h
  cases p <;> cases q <;> decide

/-- Every activation is infinite, or real and no larger than the format's greatest number. -/
theorem ok_of (h : (Cert.Pre_sane.fn (F := Ideal) a0 a1 a2 a3).1 = fun _ => 1#1) (i : Cert.Pre_sane.S64x1536.Idx) : Cert.Proof.Quant.Ok (a0 i) := by
  have e := congrFun h i
  rw [fst_at, Cert.Proof.Quant.bits_max, bits_inf] at e
  have e' := or_one (decide (max (a0 i) (-(a0 i)) ≤ ((255 * (2 : ℝ) ^ (120 : ℤ) : ℝ) : EReal))) (decide (max (a0 i) (-(a0 i)) = (⊤ : EReal))) e
  rcases e' with h1 | h1
  · exact Or.inr (abs_le (a0 i) (of_decide_eq_true h1))
  · exact Or.inl (of_decide_eq_true h1)

/-- Every group size is at least zero and below `2 ^ 27`. -/
theorem counts (h : (Cert.Pre_sane.fn (F := Ideal) a0 a1 a2 a3).2 = fun _ => 1#1) (k : ℕ) : (gseq a1 k).toNat < 2 ^ 27 := by
  unfold gseq
  by_cases hk : k < 16
  · rw [dif_pos hk]
    exact word _ ((snd_at a0 a1 a2 a3 _).symm.trans (congrFun h _))
  · rw [dif_neg hk]
    decide

end Cert.Proof.Sane

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.K.Frame
public import proofs.«01_k».proof.Proof.KI.Frame
public import proofs.«01_k».proof.Proof.Val.FinalK
public import proofs.«01_k».proof.Proof.Val.FinalR
public import proofs.«01_k».proof.Proof.Val.Facts
public import Idealize.ShloMosaic.Adequacy
public import Idealize.ShloMosaic.Init

@[expose] public section

/-! The claims, put together. -/

noncomputable section

namespace Cert.Proof

open Idealize.ShloMosaic Idealize.ShloMosaic.TcCoe Idealize.SL.Sem

attribute [local instance] Cert.Proof.Sane.facts

/-- The precondition, as the two facts the kernel's result needs. -/
theorem sane_of (m : (ℓ : Loc Cert.KernelIdeal.nD Cert.KernelIdeal.τ Cert.KernelIdeal.sig) → Buf (Elt Ideal) ℓ)
    (h : Cert.Pre_KernelIdeal_sane m) : Cert.Proof.KernelIdeal.Sane m :=
  fun c => ⟨Cert.Proof.Sane.counts _ _ _ _ (h c).2, Cert.Proof.Sane.ok_of _ _ _ _ (h c).1⟩

/-- Kernel and reference leave the same result. -/
theorem algebraic : Cert.algebraic_KernelIdeal_ReferenceIdeal_pre_sane
    (hKernelIdeal := Cert.KernelIdeal.Gen.facts) (hReferenceIdeal := Cert.ReferenceIdeal.Gen.facts) (hPre_sane := Cert.Proof.Sane.facts) := by
  intro m g m' g' hm e
  have hs := sane_of m hm
  refine ⟨Cert.Proof.KernelIdeal.result m, ?_, ?_⟩
  · refine (θ_run _ _ _).mono (fun r h c => ⟨h.1 c, h.2.1 c⟩)
      (θ_run_and (Cert.Proof.KernelIdeal.run_v0 m g hs) (Cert.Proof.KernelIdeal.frame m g))
  · have hx : ∀ (c : Dev Cert.ReferenceIdeal.nD) (i : Cert.ReferenceIdeal.S64x1536.Idx),
        Cert.Proof.Quant.Ok ((m' ((c.tc : Thread Cert.ReferenceIdeal.nD Cert.ReferenceIdeal.τ).loc Cert.ReferenceIdeal.main_arg0) : Cert.ReferenceIdeal.S64x1536.Idx → EReal) i) := fun c i => by
      have e' := congrFun (e c).1 i
      exact (congrArg Cert.Proof.Quant.Ok e').mpr ((hs c).2 i)
    have er : ∀ c : Dev Cert.ReferenceIdeal.nD, Cert.Proof.ReferenceIdeal.result m' c = Cert.Proof.KernelIdeal.result m c := fun c => by
      obtain ⟨e0, e1, e2, e3⟩ := e c
      unfold Cert.Proof.ReferenceIdeal.result Cert.Proof.KernelIdeal.result
      rw [e0, e1, e2, e3]
    refine (θ_run _ _ _).mono (fun r h c => ⟨(h.1 c).trans (er c), h.2 c⟩)
      (θ_run_and (Cert.Proof.ReferenceIdeal.run_v0 m' g' hx) (Cert.ReferenceIdeal.Gen.unchanged m' g'))

theorem claim : Cert.Claim :=
  ⟨Cert.Kernel.Gen.facts, Cert.KernelIdeal.Gen.facts, Cert.ReferenceIdeal.Gen.facts, Cert.Proof.Sane.facts,
    fun m ρ _ => Cert.Proof.Kernel.frame m ρ,
    fun m ρ _ => Cert.Proof.KernelIdeal.frame m ρ,
    fun m ρ _ => Cert.Proof.KernelIdeal.frame m ρ,
    fun m ρ _ => Cert.ReferenceIdeal.Gen.frame m ρ,
    fun m ρ _ => Cert.ReferenceIdeal.Gen.frame m ρ,
    trivial, algebraic⟩

end Cert.Proof

end
